-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def preserves_Kernel_KernelIdeal : Prop :=
  True

def algebraic_KernelIdeal_ReferenceIdeal_on_positions [hKernelIdeal : Cert.KernelIdeal.Facts] [hReferenceIdeal : Cert.ReferenceIdeal.Facts] [hOn_positions : Cert.On_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 64, 1024]⟩ : Shape).Idx, (Cert.On_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v18_0) i = v0 c i)
          ∧ (∀ i : (⟨3, ![16, 3, 2048]⟩ : Shape).Idx, (Cert.On_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v18_1) i = v1 c i)
          ∧ (∀ i : (⟨3, ![16, 128, 1024]⟩ : Shape).Idx, (Cert.On_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.KernelIdeal.nD Cert.KernelIdeal.τ).loc Cert.KernelIdeal.main_v18_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 64, 1024]⟩ : Shape).Idx, (Cert.On_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v143) i = v0 c i)
          ∧ (∀ i : (⟨3, ![16, 3, 2048]⟩ : Shape).Idx, (Cert.On_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v38) i = v1 c i)
          ∧ (∀ i : (⟨3, ![16, 128, 1024]⟩ : Shape).Idx, (Cert.On_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.ReferenceIdeal.nD Cert.ReferenceIdeal.τ).loc Cert.ReferenceIdeal.main_v145) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v43) = v2 c
          ∧ r.2.mem ((c.tc : Thread Cert.Reference6Ideal.nD Cert.Reference6Ideal.τ).loc Cert.Reference6Ideal.main_v44) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v50_1)) (v1 : (c : Dev Cert.Kernel7Ideal.nD) → Buf (Elt Ideal) ((c.tc : Thread Cert.Kernel7Ideal.nD Cert.Kernel7Ideal.τ).loc Cert.Kernel7Ideal.main_v50_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v50_1) = v0 c
          ∧ r.2.mem ((c.tc : Thread Cert.Kernel7Ideal.nD Cert.Kernel7Ideal.τ).loc Cert.Kernel7Ideal.main_v50_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v327) = v0 c
          ∧ r.2.mem ((c.tc : Thread Cert.Reference7Ideal.nD Cert.Reference7Ideal.τ).loc Cert.Reference7Ideal.main_v328) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hOn_positions : Cert.On_positions.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_on_positions (hKernelIdeal := hKernelIdeal) (hReferenceIdeal := hReferenceIdeal) (hOn_positions := hOn_positions)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== On_positions.lean ====
abbrev S16x16x4112 : Shape := ⟨3, ![16, 16, 4112]⟩
abbrev S1x16x3x2048 : Shape := ⟨4, ![1, 16, 3, 2048]⟩
abbrev S1x16x16x64x128 : Shape := ⟨5, ![1, 16, 16, 64, 128]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S16x64x1024 : Shape := ⟨3, ![16, 64, 1024]⟩
abbrev S_ : Shape := ⟨0, ![]⟩
abbrev S16x3x2048 : Shape := ⟨3, ![16, 3, 2048]⟩
abbrev S16x128x1024 : Shape := ⟨3, ![16, 128, 1024]⟩

class Facts : Prop where
  bcast_S_S16x64x1024 : S_.BroadcastsInDim S16x64x1024 (![] : Fin 0 → Fin S16x64x1024.rank)
  bcast_S_S16x3x2048 : S_.BroadcastsInDim S16x3x2048 (![] : Fin 0 → Fin S16x3x2048.rank)
  bcast_S_S16x128x1024 : S_.BroadcastsInDim S16x128x1024 (![] : Fin 0 → Fin S16x128x1024.rank)

variable [Facts]

def fn {F : FTy → Type} [FloatOps F] (main_arg0 : FVec F S16x16x4112 .f32) (main_arg1 : FVec F S1x16x3x2048 .f32) (main_arg2 : FVec F S1x16x16x64x128 .f32) (main_arg3 : FVec F S1x4x2048 .f32) (main_arg4 : FVec F S1x2048 .f32) (main_arg5 : FVec F S1x16 .f32) (main_arg6 : FVec F S1x16 .f32) (main_arg7 : FVec F S1x16 .f32) (main_arg8 : FVec F S1x1024 .f32) : IVec S16x64x1024 1 × IVec S16x3x2048 1 × IVec S16x128x1024 1 :=
  let main_v0 : IVec S16x64x1024 32 := iotaInDim S16x64x1024 32 1
  let main_c : IVec S_ 32 := constantI S_ 32 16#32
  let main_v1 : IVec S16x64x1024 32 := broadcastInDim S16x64x1024 ![] bcast_S_S16x64x1024 main_c
  let main_v2 : IVec S16x64x1024 1 := cmpi .slt main_v0 main_v1
  let main_v3 : IVec S16x3x2048 32 := iotaInDim S16x3x2048 32 1
  let main_c_0 : IVec S_ 32 := constantI S_ 32 3#32
  let main_v4 : IVec S16x3x2048 32 := broadcastInDim S16x3x2048 ![] bcast_S_S16x3x2048 main_c_0
  let main_v5 : IVec S16x3x2048 1 := cmpi .slt main_v3 main_v4
  let main_v6 : IVec S16x128x1024 32 := iotaInDim S16x128x1024 32 1
  let main_c_1 : IVec S_ 32 := constantI S_ 32 128#32
  let main_v7 : IVec S16x128x1024 32 := broadcastInDim S16x128x1024 ![] bcast_S_S16x128x1024 main_c_1
  let main_v8 : IVec S16x128x1024 1 := cmpi .slt main_v6 main_v7
  (main_v2, main_v5, main_v8)
-- ==== Kernel.lean ====
abbrev S16x16x4112 : Shape := ⟨3, ![16, 16, 4112]⟩
abbrev S1x16x3x2048 : Shape := ⟨4, ![1, 16, 3, 2048]⟩
abbrev S1x16x16x64x128 : Shape := ⟨5, ![1, 16, 16, 64, 128]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S16x16x2048 : Shape := ⟨3, ![16, 16, 2048]⟩
abbrev S16x16x1024 : Shape := ⟨3, ![16, 16, 1024]⟩
abbrev S16x16x16 : Shape := ⟨3, ![16, 16, 16]⟩
abbrev S_ : Shape := ⟨0, ![]⟩
abbrev S16x16x128 : Shape := ⟨3, ![16, 16, 128]⟩
abbrev S16x16x4224 : Shape := ⟨3, ![16, 16, 4224]⟩
abbrev S16x64x4224 : Shape := ⟨3, ![16, 64, 4224]⟩
abbrev S1x128 : Shape := ⟨2, ![1, 128]⟩
abbrev S16 : Shape := ⟨1, ![16]⟩
abbrev S16x64 : Shape := ⟨2, ![16, 64]⟩
abbrev S1024 : Shape := ⟨1, ![1024]⟩
abbrev S16x16x64x128 : Shape := ⟨4, ![16, 16, 64, 128]⟩
abbrev S16x1024x128 : Shape := ⟨3, ![16, 1024, 128]⟩
abbrev S16x128x1024 : Shape := ⟨3, ![16, 128, 1024]⟩
abbrev S4x2048 : Shape := ⟨2, ![4, 2048]⟩
abbrev S16x3x2048 : Shape := ⟨3, ![16, 3, 2048]⟩
abbrev S16x64x1024 : Shape := ⟨3, ![16, 64, 1024]⟩
abbrev S1x64x2048 : Shape := ⟨3, ![1, 64, 2048]⟩
abbrev S1x64x1024 : Shape := ⟨3, ![1, 64, 1024]⟩
abbrev S1x64x128 : Shape := ⟨3, ![1, 64, 128]⟩
abbrev S1x3x2048 : Shape := ⟨3, ![1, 3, 2048]⟩
abbrev S1x128x1024 : Shape := ⟨3, ![1, 128, 1024]⟩
abbrev S16x72x128 : Shape := ⟨3, ![16, 72, 128]⟩
abbrev S8x64x128 : Shape := ⟨3, ![8, 64, 128]⟩
abbrev S1x3x128 : Shape := ⟨3, ![1, 3, 128]⟩
abbrev S3x128 : Shape := ⟨2, ![3, 128]⟩
abbrev S128x1024 : Shape := ⟨2, ![128, 1024]⟩
abbrev S64x128 : Shape := ⟨2, ![64, 128]⟩
abbrev S1x32x128 : Shape := ⟨3, ![1, 32, 128]⟩
abbrev S32x128 : Shape := ⟨2, ![32, 128]⟩
abbrev S64x2048 : Shape := ⟨2, ![64, 2048]⟩
abbrev S64x1024 : Shape := ⟨2, ![64, 1024]⟩
abbrev S64x512 : Shape := ⟨2, ![64, 512]⟩
abbrev S256x128 : Shape := ⟨2, ![256, 128]⟩
abbrev S64x256 : Shape := ⟨2, ![64, 256]⟩
abbrev S64x1 : Shape := ⟨2, ![64, 1]⟩
abbrev S256x256 : Shape := ⟨2, ![256, 256]⟩
abbrev S128x256 : Shape := ⟨2, ![128, 256]⟩
abbrev S1x128x256 : Shape := ⟨3, ![1, 128, 256]⟩
abbrev S1x256 : Shape := ⟨2, ![1, 256]⟩
abbrev S64 : Shape := ⟨1, ![64]⟩
abbrev S64x64 : Shape := ⟨2, ![64, 64]⟩

abbrev nBuf : Space → Nat
  | .hbm => 38
  | .vmem => 24
  | .smem => 0
  | _ => 0

abbrev bufTy : (tb : Table) → Fin (tcTables nBuf tb) → BufTy
  | .hbm, ⟨0, _⟩ => ⟨S16x16x4112, .f32⟩
  | .hbm, ⟨1, _⟩ => ⟨S1x16x3x2048, .f32⟩
  | .hbm, ⟨2, _⟩ => ⟨S1x16x16x64x128, .f32⟩
  | .hbm, ⟨3, _⟩ => ⟨S1x4x2048, .f32⟩
  | .hbm, ⟨4, _⟩ => ⟨S1x2048, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S16x16x2048, .f32⟩
  | .hbm, ⟨10, _⟩ => ⟨S16x16x1024, .f32⟩
  | .hbm, ⟨11, _⟩ => ⟨S16x16x1024, .f32⟩
  | .hbm, ⟨12, _⟩ => ⟨S16x16x16, .f32⟩
  | .hbm, ⟨13, _⟩ => ⟨S_, .i32⟩
  | .hbm, ⟨14, _⟩ => ⟨S_, .f32⟩
  | .hbm, ⟨15, _⟩ => ⟨S16x16x128, .f32⟩
  | .hbm, ⟨16, _⟩ => ⟨S16x16x4224, .f32⟩
  | .hbm, ⟨17, _⟩ => ⟨S_, .i32⟩
  | .hbm, ⟨18, _⟩ => ⟨S_, .f32⟩
  | .hbm, ⟨19, _⟩ => ⟨S16x64x4224, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S16, .f32⟩
  | .hbm, ⟨27, _⟩ => ⟨S16x64, .f32⟩
  | .hbm, ⟨28, _⟩ => ⟨S1024, .f32⟩
  | .hbm, ⟨29, _⟩ => ⟨S1x1024, .f32⟩
  | .hbm, ⟨30, _⟩ => ⟨S16x16x64x128, .f32⟩
  | .hbm, ⟨31, _⟩ => ⟨S16x1024x128, .f32⟩
  | .hbm, ⟨32, _⟩ => ⟨S16x128x1024, .f32⟩
  | .hbm, ⟨33, _⟩ => ⟨S4x2048, .f32⟩
  | .hbm, ⟨34, _⟩ => ⟨S16x3x2048, .f32⟩
  | .hbm, ⟨35, _⟩ => ⟨S16x64x1024, .bf16⟩
  | .hbm, ⟨36, _⟩ => ⟨S16x3x2048, .f32⟩
  | .hbm, ⟨37, _⟩ => ⟨S16x128x1024, .f32⟩
  | .local _ .vmem, ⟨0, _⟩ => ⟨S1x64x2048, .f32⟩
  | .local _ .vmem, ⟨1, _⟩ => ⟨S1x64x2048, .f32⟩
  | .local _ .vmem, ⟨2, _⟩ => ⟨S1x64x1024, .f32⟩
  | .local _ .vmem, ⟨3, _⟩ => ⟨S1x64x1024, .f32⟩
  | .local _ .vmem, ⟨4, _⟩ => ⟨S1x64x128, .f32⟩
  | .local _ .vmem, ⟨5, _⟩ => ⟨S1x64x128, .f32⟩
  | .local _ .vmem, ⟨6, _⟩ => ⟨S4x2048, .f32⟩
  | .local _ .vmem, ⟨7, _⟩ => ⟨S1x2048, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S1x3x2048, .f32⟩
  | .local _ .vmem, ⟨13, _⟩ => ⟨S1x3x2048, .f32⟩
  | .local _ .vmem, ⟨14, _⟩ => ⟨S1x128x1024, .f32⟩
  | .local _ .vmem, ⟨15, _⟩ => ⟨S1x128x1024, .f32⟩
  | .local _ .vmem, ⟨16, _⟩ => ⟨S1x64x1024, .bf16⟩
  | .local _ .vmem, ⟨17, _⟩ => ⟨S1x64x1024, .bf16⟩
  | .local _ .vmem, ⟨18, _⟩ => ⟨S1x3x2048, .f32⟩
  | .local _ .vmem, ⟨19, _⟩ => ⟨S1x3x2048, .f32⟩
  | .local _ .vmem, ⟨20, _⟩ => ⟨S1x128x1024, .f32⟩
  | .local _ .vmem, ⟨21, _⟩ => ⟨S1x128x1024, .f32⟩
  | .local _ .vmem, ⟨22, _⟩ => ⟨S16x72x128, .f32⟩
  | .local _ .vmem, ⟨23, _⟩ => ⟨S8x64x128, .f32⟩
  | _, _ => ⟨S16x16x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_c_1 : Ref sig .tc := ⟨.hbm, 20, rfl⟩
abbrev main_call2_v0 : Ref sig .tc := ⟨.hbm, 21, rfl⟩
abbrev main_v7 : Ref sig .tc := ⟨.hbm, 22, rfl⟩
abbrev main_c_2 : Ref sig .tc := ⟨.hbm, 23, rfl⟩
abbrev main_call3_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_v18_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_804 : BitVec 32 := 0#32
  let v1655 : BitVec 1 := Scalar.cmpi .eq arg1 c0_i32_804
  let v1656 : BitVec 32 := Scalar.extui v1655
  let c0_i32_805 : BitVec 32 := 0#32
  let v1657 : BitVec 1 := Scalar.cmpi .ne v1656 c0_i32_805
  v1657

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  ![arg0.toNat, arg1.toNat, c32_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x3x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S16x16x4112 : Shape := ⟨3, ![16, 16, 4112]⟩
abbrev S1x16x3x2048 : Shape := ⟨4, ![1, 16, 3, 2048]⟩
abbrev S1x16x16x64x128 : Shape := ⟨5, ![1, 16, 16, 64, 128]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S16x16x1024 : Shape := ⟨3, ![16, 16, 1024]⟩
abbrev S16x16x2048 : Shape := ⟨3, ![16, 16, 2048]⟩
abbrev S16x16x16 : Shape := ⟨3, ![16, 16, 16]⟩
abbrev S4x2048 : Shape := ⟨2, ![4, 2048]⟩
abbrev S16x3x2048 : Shape := ⟨3, ![16, 3, 2048]⟩
abbrev S16x19x2048 : Shape := ⟨3, ![16, 19, 2048]⟩
abbrev S2048 : Shape := ⟨1, ![2048]⟩
abbrev S1x1x2048 : Shape := ⟨3, ![1, 1, 2048]⟩
abbrev S_ : Shape := ⟨0, ![]⟩
abbrev S16x16x512 : Shape := ⟨3, ![16, 16, 512]⟩
abbrev S16x16x4x4x64 : Shape := ⟨5, ![16, 16, 4, 4, 64]⟩
abbrev S16x16x4x128 : Shape := ⟨4, ![16, 16, 4, 128]⟩
abbrev S16 : Shape := ⟨1, ![16]⟩
abbrev S1x1x16 : Shape := ⟨3, ![1, 1, 16]⟩
abbrev S16x16x4x4 : Shape := ⟨4, ![16, 16, 4, 4]⟩
abbrev S4x4 : Shape := ⟨2, ![4, 4]⟩
abbrev S1x1x4x4 : Shape := ⟨4, ![1, 1, 4, 4]⟩
abbrev S16x16x1x4x4 : Shape := ⟨5, ![16, 16, 1, 4, 4]⟩
abbrev S16x1x16x4x4 : Shape := ⟨5, ![16, 1, 16, 4, 4]⟩
abbrev S16x16x16x4x4 : Shape := ⟨5, ![16, 16, 16, 4, 4]⟩
abbrev S16x16 : Shape := ⟨2, ![16, 16]⟩
abbrev S16x16x1x1 : Shape := ⟨4, ![16, 16, 1, 1]⟩
abbrev S16x16x4x4x1 : Shape := ⟨5, ![16, 16, 4, 4, 1]⟩
abbrev S16x4x16x16 : Shape := ⟨4, ![16, 4, 16, 16]⟩
abbrev S16x16x16x4 : Shape := ⟨4, ![16, 16, 16, 4]⟩
abbrev S16x16x16x4x1 : Shape := ⟨5, ![16, 16, 16, 4, 1]⟩
abbrev S16x4x4x64x16 : Shape := ⟨5, ![16, 4, 4, 64, 16]⟩
abbrev S16x1x4x4 : Shape := ⟨4, ![16, 1, 4, 4]⟩
abbrev S16x4x4x64x128 : Shape := ⟨5, ![16, 4, 4, 64, 128]⟩
abbrev S16x16x64x128 : Shape := ⟨4, ![16, 16, 64, 128]⟩
abbrev S16x4x4 : Shape := ⟨3, ![16, 4, 4]⟩
abbrev S16x4x4x1x1 : Shape := ⟨5, ![16, 4, 4, 1, 1]⟩
abbrev S16x16x16x64 : Shape := ⟨4, ![16, 16, 16, 64]⟩
abbrev S16x1 : Shape := ⟨2, ![16, 1]⟩
abbrev S1x1x16x1 : Shape := ⟨4, ![1, 1, 16, 1]⟩
abbrev S1024 : Shape := ⟨1, ![1024]⟩
abbrev S16x16x1 : Shape := ⟨3, ![16, 16, 1]⟩
abbrev S1x1x1024 : Shape := ⟨3, ![1, 1, 1024]⟩
abbrev S16x64x1024 : Shape := ⟨3, ![16, 64, 1024]⟩
abbrev S16x1024x128 : Shape := ⟨3, ![16, 1024, 128]⟩
abbrev S16x128x1024 : Shape := ⟨3, ![16, 128, 1024]⟩

abbrev nBuf : Space → Nat
  | .hbm => 183
  | .vmem => 0
  | .smem => 0
  | _ => 0

abbrev hbmTy0_0 (i : Nat) : BufTy := match i % 128 with
  | 0 => ⟨S16x16x4112, .f32⟩
  | 1 => ⟨S1x16x3x2048, .f32⟩
  | 2 => ⟨S1x16x16x64x128, .f32⟩
  | 3 => ⟨S1x4x2048, .f32⟩
  | 4 => ⟨S1x2048, .f32⟩
  | 5 => ⟨S1x16, .f32⟩
  | 6 => ⟨S1x16, .f32⟩
  | 7 => ⟨S1x16, .f32⟩
  | 8 => ⟨S1x1024, .f32⟩
  | 9 => ⟨S16x16x1024, .f32⟩
  | 10 => ⟨S16x16x2048, .f32⟩
  | 11 => ⟨S16x16x16, .f32⟩
  | 12 => ⟨S16x16x1024, .f32⟩
  | 13 => ⟨S4x2048, .f32⟩
  | 14 => ⟨S16x3x2048, .f32⟩
  | 15 => ⟨S16x19x2048, .f32⟩
  | 16 => ⟨S2048, .f32⟩
  | 17 => ⟨S16x16x2048, .f32⟩
  | 18 => ⟨S1x2048, .f32⟩
  | 19 => ⟨S2048, .f32⟩
  | 20 => ⟨S1x1x2048, .f32⟩
  | 21 => ⟨S16x16x2048, .f32⟩
  | 22 => ⟨S16x16x2048, .f32⟩
  | 23 => ⟨S1x1x2048, .f32⟩
  | 24 => ⟨S16x16x2048, .f32⟩
  | 25 => ⟨S16x16x2048, .f32⟩
  | 26 => ⟨S16x16x2048, .f32⟩
  | 27 => ⟨S1x2048, .f32⟩
  | 28 => ⟨S2048, .f32⟩
  | 29 => ⟨S1x1x2048, .f32⟩
  | 30 => ⟨S16x16x2048, .f32⟩
  | 31 => ⟨S16x16x2048, .f32⟩
  | 32 => ⟨S16x16x2048, .f32⟩
  | 33 => ⟨S16x16x2048, .f32⟩
  | 34 => ⟨S1x2048, .f32⟩
  | 35 => ⟨S2048, .f32⟩
  | 36 => ⟨S1x1x2048, .f32⟩
  | 37 => ⟨S16x16x2048, .f32⟩
  | 38 => ⟨S16x16x2048, .f32⟩
  | 39 => ⟨S16x16x2048, .f32⟩
  | 40 => ⟨S16x16x2048, .f32⟩
  | 41 => ⟨S1x2048, .f32⟩
  | 42 => ⟨S2048, .f32⟩
  | 43 => ⟨S1x1x2048, .f32⟩
  | 44 => ⟨S16x16x2048, .f32⟩
  | 45 => ⟨S16x16x2048, .f32⟩
  | 46 => ⟨S16x16x2048, .f32⟩
  | 47 => ⟨S16x3x2048, .f32⟩
  | 48 => ⟨S16x16x2048, .f32⟩
  | 49 => ⟨S16x16x2048, .f32⟩
  | 50 => ⟨S_, .f32⟩
  | 51 => ⟨S16x16x2048, .f32⟩
  | 52 => ⟨S16x16x2048, .f32⟩
  | 53 => ⟨S_, .f32⟩
  | 54 => ⟨S16x16x2048, .f32⟩
  | 55 => ⟨S16x16x2048, .f32⟩
  | 56 => ⟨S16x16x2048, .f32⟩
  | 57 => ⟨S16x16x1024, .f32⟩
  | 58 => ⟨S16x16x512, .f32⟩
  | 59 => ⟨S16x16x512, .f32⟩
  | 60 => ⟨S16x16x4x4x64, .f32⟩
  | 61 => ⟨S16x16x4x128, .f32⟩
  | 62 => ⟨S16x16x4x128, .f32⟩
  | 63 => ⟨S16, .f32⟩
  | 64 => ⟨S1x1x16, .f32⟩
  | 65 => ⟨S16x16x16, .f32⟩
  | 66 => ⟨S16x16x16, .f32⟩
  | 67 => ⟨S_, .f32⟩
  | 68 => ⟨S16x16x16, .f32⟩
  | 69 => ⟨S16x16x16, .f32⟩
  | 70 => ⟨S16x16x16, .f32⟩
  | 71 => ⟨S16x16x16, .f32⟩
  | 72 => ⟨S16x16x16, .i1⟩
  | 73 => ⟨S16x16x16, .f32⟩
  | 74 => ⟨S16x16x16, .f32⟩
  | 75 => ⟨S16x16x16, .f32⟩
  | 76 => ⟨S16x16x16, .f32⟩
  | 77 => ⟨S16x16x16, .f32⟩
  | 78 => ⟨S16x16x16, .f32⟩
  | 79 => ⟨S16x16x16, .f32⟩
  | 80 => ⟨S16x16x16, .f32⟩
  | 81 => ⟨S16x16x4x4, .f32⟩
  | 82 => ⟨S16, .f32⟩
  | 83 => ⟨S16, .f32⟩
  | 84 => ⟨S16, .f32⟩
  | 85 => ⟨S4x4, .f32⟩
  | 86 => ⟨S1x1x4x4, .f32⟩
  | 87 => ⟨S16x16x4x4, .f32⟩
  | 88 => ⟨S16x16x4x4, .f32⟩
  | 89 => ⟨S_, .f32⟩
  | 90 => ⟨S_, .f32⟩
  | 91 => ⟨S16x16x4x4, .f32⟩
  | 92 => ⟨S16x16x1x4x4, .f32⟩
  | 93 => ⟨S16x1x16x4x4, .f32⟩
  | 94 => ⟨S16x16x16x4x4, .f32⟩
  | 95 => ⟨S16x16x16x4x4, .f32⟩
  | 96 => ⟨S16x16x16x4x4, .f32⟩
  | 97 => ⟨S16x16, .i32⟩
  | 98 => ⟨S16x16, .i32⟩
  | 99 => ⟨S16x16, .i1⟩
  | 100 => ⟨S16x16x1x1, .i1⟩
  | 101 => ⟨S_, .f32⟩
  | 102 => ⟨S_, .f32⟩
  | 103 => ⟨S16x16x16x4x4, .i1⟩
  | 104 => ⟨S16x16x16x4x4, .f32⟩
  | 105 => ⟨S16x16x16x4x4, .f32⟩
  | 106 => ⟨S16x16x16x4x4, .f32⟩
  | 107 => ⟨S16x16x4x4x1, .f32⟩
  | 108 => ⟨S16x16x4x4x64, .f32⟩
  | 109 => ⟨S16x16x4x4x64, .f32⟩
  | 110 => ⟨S16x4x16x16, .f32⟩
  | 111 => ⟨S16x16x16x4, .f32⟩
  | 112 => ⟨S16x16x16x4x1, .f32⟩
  | 113 => ⟨S16x16x16x4x4, .f32⟩
  | 114 => ⟨S16x16x16x4x4, .f32⟩
  | 115 => ⟨S16x4x4x64x16, .f32⟩
  | 116 => ⟨S16x16x4x4x64, .f32⟩
  | 117 => ⟨S16x1x4x4, .f32⟩
  | 118 => ⟨S16x16x4x4, .f32⟩
  | 119 => ⟨S16x16x4x4, .f32⟩
  | 120 => ⟨S16x16x4x4, .f32⟩
  | 121 => ⟨S16x16x4x4x1, .f32⟩
  | 122 => ⟨S16x16x4x4x64, .f32⟩
  | 123 => ⟨S16x16x4x4x64, .f32⟩
  | 124 => ⟨S16x4x4x64x128, .f32⟩
  | 125 => ⟨S16x16x64x128, .f32⟩
  | 126 => ⟨S16x4x4x64x128, .f32⟩
  | 127 => ⟨S16x4x4x64x16, .f32⟩
  | _ => ⟨S16x16x4112, .f32⟩

abbrev hbmTy0_1 (i : Nat) : BufTy := match i % 128 with
  | 0 => ⟨S16x16x4x4x64, .f32⟩
  | 1 => ⟨S16x16x4x4, .f32⟩
  | 2 => ⟨S16x16x4x4x1, .f32⟩
  | 3 => ⟨S16x16x4x4x64, .f32⟩
  | 4 => ⟨S16x16x4x4x64, .f32⟩
  | 5 => ⟨S16x1x4x4, .f32⟩
  | 6 => ⟨S16x4x4, .f32⟩
  | 7 => ⟨S16x4x4, .f32⟩
  | 8 => ⟨S16x4x4x1x1, .f32⟩
  | 9 => ⟨S16x4x4x64x128, .f32⟩
  | 10 => ⟨S16x4x4x64x128, .f32⟩
  | 11 => ⟨S16x4x4x64x128, .f32⟩
  | 12 => ⟨S16x16x4x4x64, .f32⟩
  | 13 => ⟨S16x16x16x64, .f32⟩
  | 14 => ⟨S16, .f32⟩
  | 15 => ⟨S16x1, .f32⟩
  | 16 => ⟨S16x16x16x64, .f32⟩
  | 17 => ⟨S1x1x16x1, .f32⟩
  | 18 => ⟨S16x16x16x64, .f32⟩
  | 19 => ⟨S16x16x16x64, .f32⟩
  | 20 => ⟨S16x16x16x64, .f32⟩
  | 21 => ⟨S16x16x1024, .f32⟩
  | 22 => ⟨S16x16x1024, .f32⟩
  | 23 => ⟨S16x16x1024, .f32⟩
  | 24 => ⟨S_, .f32⟩
  | 25 => ⟨S16x16x1024, .f32⟩
  | 26 => ⟨S16x16x1024, .f32⟩
  | 27 => ⟨S_, .f32⟩
  | 28 => ⟨S16x16x1024, .f32⟩
  | 29 => ⟨S16x16x1024, .f32⟩
  | 30 => ⟨S16x16x1024, .f32⟩
  | 31 => ⟨S16x16x1024, .f32⟩
  | 32 => ⟨S1024, .f32⟩
  | 33 => ⟨S16x16x1024, .f32⟩
  | 34 => ⟨S_, .f32⟩
  | 35 => ⟨S16x16, .f32⟩
  | 36 => ⟨S16x16x1, .f32⟩
  | 37 => ⟨S_, .f32⟩
  | 38 => ⟨S16x16x1, .f32⟩
  | 39 => ⟨S16x16x1, .f32⟩
  | 40 => ⟨S_, .f32⟩
  | 41 => ⟨S16x16x1, .f32⟩
  | 42 => ⟨S16x16x1, .f32⟩
  | 43 => ⟨S16x16x1, .f32⟩
  | 44 => ⟨S16x16x1024, .f32⟩
  | 45 => ⟨S16x16x1024, .f32⟩
  | 46 => ⟨S1x1x1024, .f32⟩
  | 47 => ⟨S16x16x1024, .f32⟩
  | 48 => ⟨S16x16x1024, .f32⟩
  | 49 => ⟨S_, .i32⟩
  | 50 => ⟨S_, .f32⟩
  | 51 => ⟨S16x64x1024, .f32⟩
  | 52 => ⟨S16x64x1024, .bf16⟩
  | 53 => ⟨S16x1024x128, .f32⟩
  | 54 => ⟨S16x128x1024, .f32⟩
  | _ => ⟨S16x16x4112, .f32⟩

abbrev hbmTy (i : Nat) : BufTy := match i / 128 with
  | 0 => hbmTy0_0 i
  | 1 => hbmTy0_1 i
  | _ => ⟨S16x16x4112, .f32⟩

abbrev bufTy : (tb : Table) → Fin (tcTables nBuf tb) → BufTy
  | .hbm, ⟨i, _⟩ => hbmTy i
  | _, _ => ⟨S16x16x4112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst : Ref sig .tc := ⟨.hbm, 50, rfl⟩
abbrev main_v41 : Ref sig .tc := ⟨.hbm, 51, rfl⟩
abbrev main_v42 : Ref sig .tc := ⟨.hbm, 52, rfl⟩
abbrev main_cst_0 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_call0_cst : Ref sig .tc := ⟨.hbm, 89, rfl⟩
abbrev main_call1_call0_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_1 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_2 : Ref sig .tc := ⟨.hbm, 152, rfl⟩
abbrev main_v122 : Ref sig .tc := ⟨.hbm, 153, rfl⟩
abbrev main_v123 : Ref sig .tc := ⟨.hbm, 154, rfl⟩
abbrev main_cst_3 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_4 : Ref sig .tc := ⟨.hbm, 162, rfl⟩
abbrev main_v130 : Ref sig .tc := ⟨.hbm, 163, rfl⟩
abbrev main_v131 : Ref sig .tc := ⟨.hbm, 164, rfl⟩
abbrev main_cst_5 : Ref sig .tc := ⟨.hbm, 165, rfl⟩
abbrev main_v132 : Ref sig .tc := ⟨.hbm, 166, rfl⟩
abbrev main_v133 : Ref sig .tc := ⟨.hbm, 167, rfl⟩
abbrev main_cst_6 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_c : Ref sig .tc := ⟨.hbm, 177, rfl⟩
abbrev main_call3_v0 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩

abbrev nD : Nat := 1
abbrev τ : Topo := Topo.v7x

variable {F : FTy → Type} [FloatOps F]
-- ==== Kernel2.lean ====
abbrev S16x2048x2048 : Shape := ⟨3, ![16, 2048, 2048]⟩
abbrev S1x2048 : Shape := ⟨2, ![1, 2048]⟩
abbrev S1x2048x5504 : Shape := ⟨3, ![1, 2048, 5504]⟩
abbrev S1x5504x2048 : Shape := ⟨3, ![1, 5504, 2048]⟩
abbrev S2048 : Shape := ⟨1, ![2048]⟩
abbrev S2048x5504 : Shape := ⟨2, ![2048, 5504]⟩
abbrev S_ : Shape := ⟨0, ![]⟩
abbrev S2048x5632 : Shape := ⟨2, ![2048, 5632]⟩
abbrev S5504x2048 : Shape := ⟨2, ![5504, 2048]⟩
abbrev S5632x2048 : Shape := ⟨2, ![5632, 2048]⟩
abbrev S32768x2048 : Shape := ⟨2, ![32768, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 24
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S2048, .f32⟩
  | .hbm, ⟨6, _⟩ => ⟨S2048x5504, .f32⟩
  | .hbm, ⟨7, _⟩ => ⟨S2048x5504, .bf16⟩
  | .hbm, ⟨8, _⟩ => ⟨S_, .i32⟩
  | .hbm, ⟨9, _⟩ => ⟨S_, .bf16⟩
  | .hbm, ⟨10, _⟩ => ⟨S2048x5632, .bf16⟩
  | .hbm, ⟨11, _⟩ => ⟨S2048x5504, .f32⟩
  | .hbm, ⟨12, _⟩ => ⟨S2048x5504, .bf16⟩
  | .hbm, ⟨13, _⟩ => ⟨S_, .i32⟩
  | .hbm, ⟨14, _⟩ => ⟨S_, .bf16⟩
  | .hbm, ⟨15, _⟩ => ⟨S2048x5632, .bf16⟩
  | .hbm, ⟨16, _⟩ => ⟨S5504x2048, .f32⟩
  | .hbm, ⟨17, _⟩ => ⟨S5504x2048, .bf16⟩
  | .hbm, ⟨18, _⟩ => ⟨S_, .i32⟩
  | .hbm, ⟨19, _⟩ => ⟨S_, .bf16⟩
  | .hbm, ⟨20, _⟩ => ⟨S5632x2048, .bf16⟩
  | .hbm, ⟨21, _⟩ => ⟨S32768x2048, .f32⟩
  | .hbm, ⟨22, _⟩ => ⟨S1x2048, .f32⟩
  | .hbm, ⟨23, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16x2048x2048 : Shape := ⟨3, ![16, 2048, 2048]⟩
abbrev S1x2048 : Shape := ⟨2, ![1, 2048]⟩
abbrev S1x2048x5504 : Shape := ⟨3, ![1, 2048, 5504]⟩
abbrev S1x5504x2048 : Shape := ⟨3, ![1, 5504, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x5504 : Shape := ⟨2, ![2048, 5504]⟩
abbrev S16x2048x5504 : Shape := ⟨3, ![16, 2048, 5504]⟩
abbrev S5504x2048 : Shape := ⟨2, ![5504, 2048]⟩
abbrev S32768x2048 : Shape := ⟨2, ![32768, 2048]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S2048, .f32⟩
  | .hbm, ⟨6, _⟩ => ⟨S2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S1x1x2048, .f32⟩
  | .hbm, ⟨21, _⟩ => ⟨S16x2048x2048, .f32⟩
  | .hbm, ⟨22, _⟩ => ⟨S16x2048x2048, .f32⟩
  | .hbm, ⟨23, _⟩ => ⟨S2048x5504, .f32⟩
  | .hbm, ⟨24, _⟩ => ⟨S16x2048x5504, .f32⟩
  | .hbm, ⟨25, _⟩ => ⟨S16x2048x5504, .f32⟩
  | .hbm, ⟨26, _⟩ => ⟨S16x2048x5504, .f32⟩
  | .hbm, ⟨27, _⟩ => ⟨S_, .f32⟩
  | .hbm, ⟨28, _⟩ => ⟨S16x2048x5504, .f32⟩
  | .hbm, ⟨29, _⟩ => ⟨S16x2048x5504, .f32⟩
  | .hbm, ⟨30, _⟩ => ⟨S_, .f32⟩
  | .hbm, ⟨31, _⟩ => ⟨S16x2048x5504, .f32⟩
  | .hbm, ⟨32, _⟩ => ⟨S16x2048x5504, .f32⟩
  | .hbm, ⟨33, _⟩ => ⟨S16x2048x5504, .f32⟩
  | .hbm, ⟨34, _⟩ => ⟨S2048x5504, .f32⟩
  | .hbm, ⟨35, _⟩ => ⟨S16x2048x5504, .f32⟩
  | .hbm, ⟨36, _⟩ => ⟨S16x2048x5504, .f32⟩
  | .hbm, ⟨37, _⟩ => ⟨S5504x2048, .f32⟩
  | .hbm, ⟨38, _⟩ => ⟨S16x2048x2048, .f32⟩
  | .hbm, ⟨39, _⟩ => ⟨S_, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1, .f32⟩
  | .hbm, ⟨54, _⟩ => ⟨S16x2048x2048, .f32⟩
  | .hbm, ⟨55, _⟩ => ⟨S16x2048x2048, .f32⟩
  | .hbm, ⟨56, _⟩ => ⟨S1x1x2048, .f32⟩
  | .hbm, ⟨57, _⟩ => ⟨S16x2048x2048, .f32⟩
  | .hbm, ⟨58, _⟩ => ⟨S16x2048x2048, .f32⟩
  | .hbm, ⟨59, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S32768x2048 : Shape := ⟨2, ![32768, 2048]⟩
abbrev S32768x1024 : Shape := ⟨2, ![32768, 1024]⟩
abbrev S16x2048x1024 : Shape := ⟨3, ![16, 2048, 1024]⟩
abbrev S1x1024x1024 : Shape := ⟨3, ![1, 1024, 1024]⟩
abbrev S1x1024 : Shape := ⟨2, ![1, 1024]⟩
abbrev S1x2048x2048 : Shape := ⟨3, ![1, 2048, 2048]⟩
abbrev S1024x1024 : Shape := ⟨2, ![1024, 1024]⟩
abbrev S2048x2048 : Shape := ⟨2, ![2048, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x2048 : Shape := ⟨2, ![1024, 2048]⟩

abbrev nBuf : Space → Nat
  | .hbm => 13
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S16x2048x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S32768x1024, .f32⟩
  | .hbm, ⟨8, _⟩ => ⟨S1024x1024, .f32⟩
  | .hbm, ⟨9, _⟩ => ⟨S1024x1024, .bf16⟩
  | .hbm, ⟨10, _⟩ => ⟨S2048x2048, .f32⟩
  | .hbm, ⟨11, _⟩ => ⟨S2048x2048, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x2048 : Shape := ⟨2, ![32768, 2048]⟩
abbrev S32768x1024 : Shape := ⟨2, ![32768, 1024]⟩
abbrev S16x2048x1024 : Shape := ⟨3, ![16, 2048, 1024]⟩
abbrev S1x1024x1024 : Shape := ⟨3, ![1, 1024, 1024]⟩
abbrev S1x1024 : Shape := ⟨2, ![1, 1024]⟩
abbrev S1x2048x2048 : Shape := ⟨3, ![1, 2048, 2048]⟩
abbrev S_ : Shape := ⟨0, ![]⟩
abbrev S1024x1024 : Shape := ⟨2, ![1024, 1024]⟩
abbrev S1024 : Shape := ⟨1, ![1024]⟩
abbrev S1x1x1024 : Shape := ⟨3, ![1, 1, 1024]⟩
abbrev S16x2048 : Shape := ⟨2, ![16, 2048]⟩
abbrev S16x2048x1 : Shape := ⟨3, ![16, 2048, 1]⟩
abbrev S2048x2048 : Shape := ⟨2, ![2048, 2048]⟩

abbrev nBuf : Space → Nat
  | .hbm => 56
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S16x2048x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S_, .f32⟩
  | .hbm, ⟨8, _⟩ => ⟨S16x2048x1024, .f32⟩
  | .hbm, ⟨9, _⟩ => ⟨S16x2048x1024, .f32⟩
  | .hbm, ⟨10, _⟩ => ⟨S_, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S_, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S1024x1024, .f32⟩
  | .hbm, ⟨19, _⟩ => ⟨S16x2048x1024, .f32⟩
  | .hbm, ⟨20, _⟩ => ⟨S1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S1024, .f32⟩
  | .hbm, ⟨34, _⟩ => ⟨S16x2048x1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S32768x1024, .f32⟩
  | .hbm, ⟨51, _⟩ => ⟨S32768x1024, .f32⟩
  | .hbm, ⟨52, _⟩ => ⟨S32768x2048, .f32⟩
  | .hbm, ⟨53, _⟩ => ⟨S2048x2048, .f32⟩
  | .hbm, ⟨54, _⟩ => ⟨S32768x2048, .f32⟩
  | .hbm, ⟨55, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel4.lean ====
abbrev S256x2048 : Shape := ⟨2, ![256, 2048]⟩
abbrev S1x2048 : Shape := ⟨2, ![1, 2048]⟩
abbrev S1x2048x4112 : Shape := ⟨3, ![1, 2048, 4112]⟩
abbrev S2048x4112 : Shape := ⟨2, ![2048, 4112]⟩
abbrev S2048x16 : Shape := ⟨2, ![2048, 16]⟩
abbrev S_ : Shape := ⟨0, ![]⟩
abbrev S2048x128 : Shape := ⟨2, ![2048, 128]⟩
abbrev S2048x2048 : Shape := ⟨2, ![2048, 2048]⟩
abbrev S2048x1024 : Shape := ⟨2, ![2048, 1024]⟩
abbrev S2048x4224 : Shape := ⟨2, ![2048, 4224]⟩
abbrev S256x4224 : Shape := ⟨2, ![256, 4224]⟩
abbrev S256 : Shape := ⟨1, ![256]⟩
abbrev S256x1 : Shape := ⟨2, ![256, 1]⟩

abbrev nBuf : Space → Nat
  | .hbm => 14
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048x4112, .f32⟩
  | .hbm, ⟨3, _⟩ => ⟨S2048x4112, .f32⟩
  | .hbm, ⟨4, _⟩ => ⟨S2048x16, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x2048, .f32⟩
  | .hbm, ⟨9, _⟩ => ⟨S2048x1024, .f32⟩
  | .hbm, ⟨10, _⟩ => ⟨S2048x1024, .f32⟩
  | .hbm, ⟨11, _⟩ => ⟨S2048x4224, .f32⟩
  | .hbm, ⟨12, _⟩ => ⟨S2048x4224, .bf16⟩
  | .hbm, ⟨13, _⟩ => ⟨S256x4224, .f32⟩
  | .local _ .vmem, ⟨0, _⟩ => ⟨S256x2048, .f32⟩
  | .local _ .vmem, ⟨1, _⟩ => ⟨S1x2048, .f32⟩
  | .local _ .vmem, ⟨2, _⟩ => ⟨S2048x4224, .bf16⟩
  | .local _ .vmem, ⟨3, _⟩ => ⟨S256x4224, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference4Ideal.lean ====
abbrev S256x2048 : Shape := ⟨2, ![256, 2048]⟩
abbrev S1x2048 : Shape := ⟨2, ![1, 2048]⟩
abbrev S1x2048x4112 : Shape := ⟨3, ![1, 2048, 4112]⟩
abbrev S2048 : Shape := ⟨1, ![2048]⟩
abbrev S_ : Shape := ⟨0, ![]⟩
abbrev S256 : Shape := ⟨1, ![256]⟩
abbrev S256x1 : Shape := ⟨2, ![256, 1]⟩
abbrev S2048x4112 : Shape := ⟨2, ![2048, 4112]⟩
abbrev S256x4112 : Shape := ⟨2, ![256, 4112]⟩
abbrev S256x1024 : Shape := ⟨2, ![256, 1024]⟩
abbrev S256x16 : Shape := ⟨2, ![256, 16]⟩
abbrev S256x128 : Shape := ⟨2, ![256, 128]⟩
abbrev S256x4224 : Shape := ⟨2, ![256, 4224]⟩

abbrev nBuf : Space → Nat
  | .hbm => 30
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048x4112, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S2048x4112, .f32⟩
  | .hbm, ⟨21, _⟩ => ⟨S256x4112, .f32⟩
  | .hbm, ⟨22, _⟩ => ⟨S256x1024, .f32⟩
  | .hbm, ⟨23, _⟩ => ⟨S256x2048, .f32⟩
  | .hbm, ⟨24, _⟩ => ⟨S256x16, .f32⟩
  | .hbm, ⟨25, _⟩ => ⟨S256x1024, .f32⟩
  | .hbm, ⟨26, _⟩ => ⟨S_, .i32⟩
  | .hbm, ⟨27, _⟩ => ⟨S_, .f32⟩
  | .hbm, ⟨28, _⟩ => ⟨S256x128, .f32⟩
  | .hbm, ⟨29, _⟩ => ⟨S256x4224, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel5.lean ====
abbrev S16x2048x2048 : Shape := ⟨3, ![16, 2048, 2048]⟩
abbrev S1x2048 : Shape := ⟨2, ![1, 2048]⟩
abbrev S1x2048x5504 : Shape := ⟨3, ![1, 2048, 5504]⟩
abbrev S1x5504x2048 : Shape := ⟨3, ![1, 5504, 2048]⟩
abbrev S2048x5504 : Shape := ⟨2, ![2048, 5504]⟩
abbrev S_ : Shape := ⟨0, ![]⟩
abbrev S2048x5632 : Shape := ⟨2, ![2048, 5632]⟩
abbrev S5504x2048 : Shape := ⟨2, ![5504, 2048]⟩
abbrev S5632x2048 : Shape := ⟨2, ![5632, 2048]⟩
abbrev S32768x2048 : Shape := ⟨2, ![32768, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 22
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S2048x5504, .f32⟩
  | .hbm, ⟨6, _⟩ => ⟨S2048x5504, .bf16⟩
  | .hbm, ⟨7, _⟩ => ⟨S_, .i32⟩
  | .hbm, ⟨8, _⟩ => ⟨S_, .bf16⟩
  | .hbm, ⟨9, _⟩ => ⟨S2048x5632, .bf16⟩
  | .hbm, ⟨10, _⟩ => ⟨S2048x5504, .f32⟩
  | .hbm, ⟨11, _⟩ => ⟨S2048x5504, .bf16⟩
  | .hbm, ⟨12, _⟩ => ⟨S_, .i32⟩
  | .hbm, ⟨13, _⟩ => ⟨S_, .bf16⟩
  | .hbm, ⟨14, _⟩ => ⟨S2048x5632, .bf16⟩
  | .hbm, ⟨15, _⟩ => ⟨S5504x2048, .f32⟩
  | .hbm, ⟨16, _⟩ => ⟨S5504x2048, .bf16⟩
  | .hbm, ⟨17, _⟩ => ⟨S_, .i32⟩
  | .hbm, ⟨18, _⟩ => ⟨S_, .bf16⟩
  | .hbm, ⟨19, _⟩ => ⟨S5632x2048, .bf16⟩
  | .hbm, ⟨20, _⟩ => ⟨S32768x2048, .f32⟩
  | .hbm, ⟨21, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S16x2048x2048 : Shape := ⟨3, ![16, 2048, 2048]⟩
abbrev S1x2048 : Shape := ⟨2, ![1, 2048]⟩
abbrev S1x2048x5504 : Shape := ⟨3, ![1, 2048, 5504]⟩
abbrev S1x5504x2048 : Shape := ⟨3, ![1, 5504, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x5504 : Shape := ⟨2, ![2048, 5504]⟩
abbrev S16x2048x5504 : Shape := ⟨3, ![16, 2048, 5504]⟩
abbrev S5504x2048 : Shape := ⟨2, ![5504, 2048]⟩
abbrev S32768x2048 : Shape := ⟨2, ![32768, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S2048x5504, .f32⟩
  | .hbm, ⟨23, _⟩ => ⟨S16x2048x5504, .f32⟩
  | .hbm, ⟨24, _⟩ => ⟨S16x2048x5504, .f32⟩
  | .hbm, ⟨25, _⟩ => ⟨S16x2048x5504, .f32⟩
  | .hbm, ⟨26, _⟩ => ⟨S_, .f32⟩
  | .hbm, ⟨27, _⟩ => ⟨S16x2048x5504, .f32⟩
  | .hbm, ⟨28, _⟩ => ⟨S16x2048x5504, .f32⟩
  | .hbm, ⟨29, _⟩ => ⟨S_, .f32⟩
  | .hbm, ⟨30, _⟩ => ⟨S16x2048x5504, .f32⟩
  | .hbm, ⟨31, _⟩ => ⟨S16x2048x5504, .f32⟩
  | .hbm, ⟨32, _⟩ => ⟨S16x2048x5504, .f32⟩
  | .hbm, ⟨33, _⟩ => ⟨S2048x5504, .f32⟩
  | .hbm, ⟨34, _⟩ => ⟨S16x2048x5504, .f32⟩
  | .hbm, ⟨35, _⟩ => ⟨S16x2048x5504, .f32⟩
  | .hbm, ⟨36, _⟩ => ⟨S5504x2048, .f32⟩
  | .hbm, ⟨37, _⟩ => ⟨S16x2048x2048, .f32⟩
  | .hbm, ⟨38, _⟩ => ⟨S_, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel6.lean ====
abbrev S1x64x64 : Shape := ⟨3, ![1, 64, 64]⟩
abbrev S1x64 : Shape := ⟨2, ![1, 64]⟩
abbrev S1x64x64x16 : Shape := ⟨4, ![1, 64, 64, 16]⟩
abbrev S64x64 : Shape := ⟨2, ![64, 64]⟩
abbrev S64 : Shape := ⟨1, ![64]⟩
abbrev S64x1 : Shape := ⟨2, ![64, 1]⟩
abbrev S64x64x16 : Shape := ⟨3, ![64, 64, 16]⟩
abbrev S16x64x64 : Shape := ⟨3, ![16, 64, 64]⟩

abbrev nBuf : Space → Nat
  | .hbm => 18
  | .vmem => 9
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S1x64x64x16, .f32⟩
  | .hbm, ⟨4, _⟩ => ⟨S1x64x64x16, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x64, .f32⟩
  | .hbm, ⟨10, _⟩ => ⟨S64x64x16, .f32⟩
  | .hbm, ⟨11, _⟩ => ⟨S16x64x64, .f32⟩
  | .hbm, ⟨12, _⟩ => ⟨S64x64x16, .f32⟩
  | .hbm, ⟨13, _⟩ => ⟨S16x64x64, .f32⟩
  | .hbm, ⟨14, _⟩ => ⟨S64x64, .f32⟩
  | .hbm, ⟨15, _⟩ => ⟨S64x64, .f32⟩
  | .hbm, ⟨16, _⟩ => ⟨S16x64x64, .f32⟩
  | .hbm, ⟨17, _⟩ => ⟨S16x64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S16x64x64, .f32⟩
  | .local _ .vmem, ⟨4, _⟩ => ⟨S16x64x64, .f32⟩
  | .local _ .vmem, ⟨5, _⟩ => ⟨S64x64, .f32⟩
  | .local _ .vmem, ⟨6, _⟩ => ⟨S64x64, .f32⟩
  | .local _ .vmem, ⟨7, _⟩ => ⟨S16x64x64, .f32⟩
  | .local _ .vmem, ⟨8, _⟩ => ⟨S16x64x64, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference6Ideal.lean ====
abbrev S1x64x64 : Shape := ⟨3, ![1, 64, 64]⟩
abbrev S1x64 : Shape := ⟨2, ![1, 64]⟩
abbrev S1x64x64x16 : Shape := ⟨4, ![1, 64, 64, 16]⟩
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S16x64x64 : Shape := ⟨3, ![16, 64, 64]⟩

abbrev nBuf : Space → Nat
  | .hbm => 51
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S1x64x64x16, .f32⟩
  | .hbm, ⟨4, _⟩ => ⟨S1x64x64x16, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64x16, .f32⟩
  | .hbm, ⟨9, _⟩ => ⟨S64x64x16, .f32⟩
  | .hbm, ⟨10, _⟩ => ⟨S64, .f32⟩
  | .hbm, ⟨11, _⟩ => ⟨S64x1, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x1, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x1, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S16x64x64, .f32⟩
  | .hbm, ⟨50, _⟩ => ⟨S16x64x64, .f32⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== Kernel7.lean ====
abbrev S16x16x1024 : Shape := ⟨3, ![16, 16, 1024]⟩
abbrev S1x16x64x64 : Shape := ⟨4, ![1, 16, 64, 64]⟩
abbrev S64x64 : Shape := ⟨2, ![64, 64]⟩
abbrev S64x64x16 : Shape := ⟨3, ![64, 64, 16]⟩
abbrev S1x64x16x64 : Shape := ⟨4, ![1, 64, 16, 64]⟩
abbrev S1x64x16 : Shape := ⟨3, ![1, 64, 16]⟩
abbrev S8x8 : Shape := ⟨2, ![8, 8]⟩
abbrev S_ : Shape := ⟨0, ![]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S64x16x64 : Shape := ⟨3, ![64, 16, 64]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S1x4096 : Shape := ⟨2, ![1, 4096]⟩
abbrev S64x16 : Shape := ⟨2, ![64, 16]⟩
abbrev S1x1024 : Shape := ⟨2, ![1, 1024]⟩
abbrev S16x4096 : Shape := ⟨2, ![16, 4096]⟩
abbrev S8x16x1024 : Shape := ⟨3, ![8, 16, 1024]⟩
abbrev S8x4096 : Shape := ⟨2, ![8, 4096]⟩
abbrev S160x1024 : Shape := ⟨2, ![160, 1024]⟩
abbrev S4x160x128 : Shape := ⟨3, ![4, 160, 128]⟩
abbrev S1x16x1024 : Shape := ⟨3, ![1, 16, 1024]⟩
abbrev S16x1024 : Shape := ⟨2, ![16, 1024]⟩
abbrev S160x128 : Shape := ⟨2, ![160, 128]⟩
abbrev S1x128x512 : Shape := ⟨3, ![1, 128, 512]⟩
abbrev S128x512 : Shape := ⟨2, ![128, 512]⟩
abbrev S160x512 : Shape := ⟨2, ![160, 512]⟩
abbrev S1x160x128 : Shape := ⟨3, ![1, 160, 128]⟩
abbrev S1x128 : Shape := ⟨2, ![1, 128]⟩
abbrev S8x128 : Shape := ⟨2, ![8, 128]⟩
abbrev S1x8x128 : Shape := ⟨3, ![1, 8, 128]⟩
abbrev S1x512x128 : Shape := ⟨3, ![1, 512, 128]⟩
abbrev S512x128 : Shape := ⟨2, ![512, 128]⟩

abbrev nBuf : Space → Nat
  | .hbm => 64
  | .vmem => 37
  | .smem => 0
  | _ => 0

abbrev bufTy : (tb : Table) → Fin (tcTables nBuf tb) → BufTy
  | .hbm, ⟨0, _⟩ => ⟨S16x16x1024, .f32⟩
  | .hbm, ⟨1, _⟩ => ⟨S1x16x64x64, .f32⟩
  | .hbm, ⟨2, _⟩ => ⟨S1x16x64x64, .f32⟩
  | .hbm, ⟨3, _⟩ => ⟨S64x64, .f32⟩
  | .hbm, ⟨4, _⟩ => ⟨S64x64, .f32⟩
  | .hbm, ⟨5, _⟩ => ⟨S64x64x16, .f32⟩
  | .hbm, ⟨6, _⟩ => ⟨S64x64x16, .f32⟩
  | .hbm, ⟨7, _⟩ => ⟨S1x64x16x64, .f32⟩
  | .hbm, ⟨8, _⟩ => ⟨S1x64x16x64, .f32⟩
  | .hbm, ⟨9, _⟩ => ⟨S1x64x16, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x8x64x16, .f32⟩
  | .hbm, ⟨18, _⟩ => ⟨S8x8x16x64, .f32⟩
  | .hbm, ⟨19, _⟩ => ⟨S8x8x16x1x64, .f32⟩
  | .hbm, ⟨20, _⟩ => ⟨S1x8x1x8x1, .f32⟩
  | .hbm, ⟨21, _⟩ => ⟨S8x8x16x8x64, .f32⟩
  | .hbm, ⟨22, _⟩ => ⟨S8x8x16x8x64, .f32⟩
  | .hbm, ⟨23, _⟩ => ⟨S8x8x16x8x64, .f32⟩
  | .hbm, ⟨24, _⟩ => ⟨S8x128x512, .f32⟩
  | .hbm, ⟨25, _⟩ => ⟨S8x128x512, .bf16⟩
  | .hbm, ⟨26, _⟩ => ⟨S8x8x64x16, .f32⟩
  | .hbm, ⟨27, _⟩ => ⟨S8x8x16x64, .f32⟩
  | .hbm, ⟨28, _⟩ => ⟨S8x8x16x1x64, .f32⟩
  | .hbm, ⟨29, _⟩ => ⟨S1x8x1x8x1, .f32⟩
  | .hbm, ⟨30, _⟩ => ⟨S8x8x16x8x64, .f32⟩
  | .hbm, ⟨31, _⟩ => ⟨S8x8x16x8x64, .f32⟩
  | .hbm, ⟨32, _⟩ => ⟨S8x8x16x8x64, .f32⟩
  | .hbm, ⟨33, _⟩ => ⟨S8x128x512, .f32⟩
  | .hbm, ⟨34, _⟩ => ⟨S8x128x512, .bf16⟩
  | .hbm, ⟨35, _⟩ => ⟨S64x16x64, .f32⟩
  | .hbm, ⟨36, _⟩ => ⟨S8x8x16x64, .f32⟩
  | .hbm, ⟨37, _⟩ => ⟨S8x8x64x16, .f32⟩
  | .hbm, ⟨38, _⟩ => ⟨S8x8x64x1x16, .f32⟩
  | .hbm, ⟨39, _⟩ => ⟨S1x8x1x8x1, .f32⟩
  | .hbm, ⟨40, _⟩ => ⟨S8x8x64x8x16, .f32⟩
  | .hbm, ⟨41, _⟩ => ⟨S8x8x64x8x16, .f32⟩
  | .hbm, ⟨42, _⟩ => ⟨S8x8x64x8x16, .f32⟩
  | .hbm, ⟨43, _⟩ => ⟨S8x512x128, .f32⟩
  | .hbm, ⟨44, _⟩ => ⟨S8x512x128, .bf16⟩
  | .hbm, ⟨45, _⟩ => ⟨S64x16x64, .f32⟩
  | .hbm, ⟨46, _⟩ => ⟨S8x8x16x64, .f32⟩
  | .hbm, ⟨47, _⟩ => ⟨S8x8x64x16, .f32⟩
  | .hbm, ⟨48, _⟩ => ⟨S8x8x64x1x16, .f32⟩
  | .hbm, ⟨49, _⟩ => ⟨S1x8x1x8x1, .f32⟩
  | .hbm, ⟨50, _⟩ => ⟨S8x8x64x8x16, .f32⟩
  | .hbm, ⟨51, _⟩ => ⟨S8x8x64x8x16, .f32⟩
  | .hbm, ⟨52, _⟩ => ⟨S8x8x64x8x16, .f32⟩
  | .hbm, ⟨53, _⟩ => ⟨S8x512x128, .f32⟩
  | .hbm, ⟨54, _⟩ => ⟨S8x512x128, .bf16⟩
  | .hbm, ⟨55, _⟩ => ⟨S1x4096, .f32⟩
  | .hbm, ⟨56, _⟩ => ⟨S1x4096, .f32⟩
  | .hbm, ⟨57, _⟩ => ⟨S64x16, .f32⟩
  | .hbm, ⟨58, _⟩ => ⟨S1x1024, .f32⟩
  | .hbm, ⟨59, _⟩ => ⟨S16x4096, .f32⟩
  | .hbm, ⟨60, _⟩ => ⟨S16x4096, .f32⟩
  | .hbm, ⟨61, _⟩ => ⟨S16x16x1024, .f32⟩
  | .hbm, ⟨62, _⟩ => ⟨S16x4096, .f32⟩
  | .hbm, ⟨63, _⟩ => ⟨S16x4096, .f32⟩
  | .local _ .vmem, ⟨0, _⟩ => ⟨S8x16x1024, .f32⟩
  | .local _ .vmem, ⟨1, _⟩ => ⟨S8x16x1024, .f32⟩
  | .local _ .vmem, ⟨2, _⟩ => ⟨S8x128x512, .bf16⟩
  | .local _ .vmem, ⟨3, _⟩ => ⟨S8x128x512, .bf16⟩
  | .local _ .vmem, ⟨4, _⟩ => ⟨S8x512x128, .bf16⟩
  | .local _ .vmem, ⟨5, _⟩ => ⟨S8x512x128, .bf16⟩
  | .local _ .vmem, ⟨6, _⟩ => ⟨S1x4096, .f32⟩
  | .local _ .vmem, ⟨7, _⟩ => ⟨S1x4096, .f32⟩
  | .local _ .vmem, ⟨8, _⟩ => ⟨S1x1024, .f32⟩
  | .local _ .vmem, ⟨9, _⟩ => ⟨S8x4096, .f32⟩
  | .local _ .vmem, ⟨10, _⟩ => ⟨S8x4096, .f32⟩
  | .local _ .vmem, ⟨11, _⟩ => ⟨S8x4096, .f32⟩
  | .local _ .vmem, ⟨12, _⟩ => ⟨S8x4096, .f32⟩
  | .local _ .vmem, ⟨13, _⟩ => ⟨S8x16x1024, .f32⟩
  | .local _ .vmem, ⟨14, _⟩ => ⟨S8x16x1024, .f32⟩
  | .local _ .vmem, ⟨15, _⟩ => ⟨S8x4096, .f32⟩
  | .local _ .vmem, ⟨16, _⟩ => ⟨S8x4096, .f32⟩
  | .local _ .vmem, ⟨17, _⟩ => ⟨S8x4096, .f32⟩
  | .local _ .vmem, ⟨18, _⟩ => ⟨S8x4096, .f32⟩
  | .local _ .vmem, ⟨19, _⟩ => ⟨S160x1024, .f32⟩
  | .local _ .vmem, ⟨20, _⟩ => ⟨S160x1024, .f32⟩
  | .local _ .vmem, ⟨21, _⟩ => ⟨S4x160x128, .f32⟩
  | .local _ .vmem, ⟨22, _⟩ => ⟨S4x160x128, .f32⟩
  | .local _ .vmem, ⟨23, _⟩ => ⟨S4x160x128, .f32⟩
  | .local _ .vmem, ⟨24, _⟩ => ⟨S4x160x128, .f32⟩
  | .local _ .vmem, ⟨25, _⟩ => ⟨S4x160x128, .f32⟩
  | .local _ .vmem, ⟨26, _⟩ => ⟨S4x160x128, .f32⟩
  | .local _ .vmem, ⟨27, _⟩ => ⟨S4x160x128, .f32⟩
  | .local _ .vmem, ⟨28, _⟩ => ⟨S4x160x128, .f32⟩
  | .local _ .vmem, ⟨29, _⟩ => ⟨S4x160x128, .f32⟩
  | .local _ .vmem, ⟨30, _⟩ => ⟨S4x160x128, .f32⟩
  | .local _ .vmem, ⟨31, _⟩ => ⟨S4x160x128, .f32⟩
  | .local _ .vmem, ⟨32, _⟩ => ⟨S4x160x128, .f32⟩
  | .local _ .vmem, ⟨33, _⟩ => ⟨S4x160x128, .f32⟩
  | .local _ .vmem, ⟨34, _⟩ => ⟨S4x160x128, .f32⟩
  | .local _ .vmem, ⟨35, _⟩ => ⟨S4x160x128, .f32⟩
  | .local _ .vmem, ⟨36, _⟩ => ⟨S4x160x128, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50_0 : Ref sig .tc := ⟨.hbm, 61, rfl⟩
abbrev main_v50_1 : Ref sig .tc := ⟨.hbm, 62, rfl⟩
abbrev main_v50_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_scratch11 : Ref sig .tc := ⟨.vmem, 30, rfl⟩
abbrev cc0_scratch12 : Ref sig .tc := ⟨.vmem, 31, rfl⟩
abbrev cc0_scratch13 : Ref sig .tc := ⟨.vmem, 32, rfl⟩
abbrev cc0_scratch14 : Ref sig .tc := ⟨.vmem, 33, rfl⟩
abbrev cc0_scratch15 : Ref sig .tc := ⟨.vmem, 34, rfl⟩
abbrev cc0_scratch16 : Ref sig .tc := ⟨.vmem, 35, rfl⟩
abbrev cc0_scratch17 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference7Ideal.lean ====
abbrev S16x16x1024 : Shape := ⟨3, ![16, 16, 1024]⟩
abbrev S1x16x64x64 : Shape := ⟨4, ![1, 16, 64, 64]⟩
abbrev S64x64 : Shape := ⟨2, ![64, 64]⟩
abbrev S64x64x16 : Shape := ⟨3, ![64, 64, 16]⟩
abbrev S1x64x16x64 : Shape := ⟨4, ![1, 64, 16, 64]⟩
abbrev S1x64x16 : Shape := ⟨3, ![1, 64, 16]⟩
abbrev S16x16x64x16 : Shape := ⟨4, ![16, 16, 64, 16]⟩
abbrev S64x64x16x16 : Shape := ⟨4, ![64, 64, 16, 16]⟩
abbrev S16x16x64x64 : Shape := ⟨4, ![16, 16, 64, 64]⟩
abbrev S16x64x64 : Shape := ⟨3, ![16, 64, 64]⟩
abbrev S1x64x64 : Shape := ⟨3, ![1, 64, 64]⟩
abbrev S16x1x64x64 : Shape := ⟨4, ![16, 1, 64, 64]⟩
abbrev S16x4096 : Shape := ⟨2, ![16, 4096]⟩

abbrev nBuf : Space → Nat
  | .hbm => 339
  | .vmem => 0
  | .smem => 0
  | _ => 0

abbrev hbmTy0_0 (i : Nat) : BufTy := match i % 128 with
  | 0 => ⟨S16x16x1024, .f32⟩
  | 1 => ⟨S1x16x64x64, .f32⟩
  | 2 => ⟨S1x16x64x64, .f32⟩
  | 3 => ⟨S64x64, .f32⟩
  | 4 => ⟨S64x64, .f32⟩
  | 5 => ⟨S64x64x16, .f32⟩
  | 6 => ⟨S64x64x16, .f32⟩
  | 7 => ⟨S1x64x16x64, .f32⟩
  | 8 => ⟨S1x64x16x64, .f32⟩
  | 9 => ⟨S1x64x16, .f32⟩
  | 10 => ⟨S16x16x64x16, .f32⟩
  | 11 => ⟨S64x64x16x16, .f32⟩
  | 12 => ⟨S16x16x64x64, .f32⟩
  | 13 => ⟨S64x64x16x16, .f32⟩
  | 14 => ⟨S16x16x64x64, .f32⟩
  | 15 => ⟨S16x64x64, .f32⟩
  | 16 => ⟨S16x64x64, .f32⟩
  | 17 => ⟨S1x64x64, .f32⟩
  | 18 => ⟨S16x64x64, .f32⟩
  | 19 => ⟨S16x64x64, .f32⟩
  | 20 => ⟨S1x64x64, .f32⟩
  | 21 => ⟨S16x64x64, .f32⟩
  | 22 => ⟨S16x64x64, .f32⟩
  | 23 => ⟨S16x64x64, .f32⟩
  | 24 => ⟨S16x1x64x64, .f32⟩
  | 25 => ⟨S16x64x64, .f32⟩
  | 26 => ⟨S16x64x64, .f32⟩
  | 27 => ⟨S1x64x64, .f32⟩
  | 28 => ⟨S16x64x64, .f32⟩
  | 29 => ⟨S16x64x64, .f32⟩
  | 30 => ⟨S1x64x64, .f32⟩
  | 31 => ⟨S16x64x64, .f32⟩
  | 32 => ⟨S16x64x64, .f32⟩
  | 33 => ⟨S16x64x64, .f32⟩
  | 34 => ⟨S16x1x64x64, .f32⟩
  | 35 => ⟨S16x64x64, .f32⟩
  | 36 => ⟨S16x64x64, .f32⟩
  | 37 => ⟨S1x64x64, .f32⟩
  | 38 => ⟨S16x64x64, .f32⟩
  | 39 => ⟨S16x64x64, .f32⟩
  | 40 => ⟨S1x64x64, .f32⟩
  | 41 => ⟨S16x64x64, .f32⟩
  | 42 => ⟨S16x64x64, .f32⟩
  | 43 => ⟨S16x64x64, .f32⟩
  | 44 => ⟨S16x1x64x64, .f32⟩
  | 45 => ⟨S16x64x64, .f32⟩
  | 46 => ⟨S16x64x64, .f32⟩
  | 47 => ⟨S1x64x64, .f32⟩
  | 48 => ⟨S16x64x64, .f32⟩
  | 49 => ⟨S16x64x64, .f32⟩
  | 50 => ⟨S1x64x64, .f32⟩
  | 51 => ⟨S16x64x64, .f32⟩
  | 52 => ⟨S16x64x64, .f32⟩
  | 53 => ⟨S16x64x64, .f32⟩
  | 54 => ⟨S16x1x64x64, .f32⟩
  | 55 => ⟨S16x64x64, .f32⟩
  | 56 => ⟨S16x64x64, .f32⟩
  | 57 => ⟨S1x64x64, .f32⟩
  | 58 => ⟨S16x64x64, .f32⟩
  | 59 => ⟨S16x64x64, .f32⟩
  | 60 => ⟨S1x64x64, .f32⟩
  | 61 => ⟨S16x64x64, .f32⟩
  | 62 => ⟨S16x64x64, .f32⟩
  | 63 => ⟨S16x64x64, .f32⟩
  | 64 => ⟨S16x1x64x64, .f32⟩
  | 65 => ⟨S16x64x64, .f32⟩
  | 66 => ⟨S16x64x64, .f32⟩
  | 67 => ⟨S1x64x64, .f32⟩
  | 68 => ⟨S16x64x64, .f32⟩
  | 69 => ⟨S16x64x64, .f32⟩
  | 70 => ⟨S1x64x64, .f32⟩
  | 71 => ⟨S16x64x64, .f32⟩
  | 72 => ⟨S16x64x64, .f32⟩
  | 73 => ⟨S16x64x64, .f32⟩
  | 74 => ⟨S16x1x64x64, .f32⟩
  | 75 => ⟨S16x64x64, .f32⟩
  | 76 => ⟨S16x64x64, .f32⟩
  | 77 => ⟨S1x64x64, .f32⟩
  | 78 => ⟨S16x64x64, .f32⟩
  | 79 => ⟨S16x64x64, .f32⟩
  | 80 => ⟨S1x64x64, .f32⟩
  | 81 => ⟨S16x64x64, .f32⟩
  | 82 => ⟨S16x64x64, .f32⟩
  | 83 => ⟨S16x64x64, .f32⟩
  | 84 => ⟨S16x1x64x64, .f32⟩
  | 85 => ⟨S16x64x64, .f32⟩
  | 86 => ⟨S16x64x64, .f32⟩
  | 87 => ⟨S1x64x64, .f32⟩
  | 88 => ⟨S16x64x64, .f32⟩
  | 89 => ⟨S16x64x64, .f32⟩
  | 90 => ⟨S1x64x64, .f32⟩
  | 91 => ⟨S16x64x64, .f32⟩
  | 92 => ⟨S16x64x64, .f32⟩
  | 93 => ⟨S16x64x64, .f32⟩
  | 94 => ⟨S16x1x64x64, .f32⟩
  | 95 => ⟨S16x64x64, .f32⟩
  | 96 => ⟨S16x64x64, .f32⟩
  | 97 => ⟨S1x64x64, .f32⟩
  | 98 => ⟨S16x64x64, .f32⟩
  | 99 => ⟨S16x64x64, .f32⟩
  | 100 => ⟨S1x64x64, .f32⟩
  | 101 => ⟨S16x64x64, .f32⟩
  | 102 => ⟨S16x64x64, .f32⟩
  | 103 => ⟨S16x64x64, .f32⟩
  | 104 => ⟨S16x1x64x64, .f32⟩
  | 105 => ⟨S16x64x64, .f32⟩
  | 106 => ⟨S16x64x64, .f32⟩
  | 107 => ⟨S1x64x64, .f32⟩
  | 108 => ⟨S16x64x64, .f32⟩
  | 109 => ⟨S16x64x64, .f32⟩
  | 110 => ⟨S1x64x64, .f32⟩
  | 111 => ⟨S16x64x64, .f32⟩
  | 112 => ⟨S16x64x64, .f32⟩
  | 113 => ⟨S16x64x64, .f32⟩
  | 114 => ⟨S16x1x64x64, .f32⟩
  | 115 => ⟨S16x64x64, .f32⟩
  | 116 => ⟨S16x64x64, .f32⟩
  | 117 => ⟨S1x64x64, .f32⟩
  | 118 => ⟨S16x64x64, .f32⟩
  | 119 => ⟨S16x64x64, .f32⟩
  | 120 => ⟨S1x64x64, .f32⟩
  | 121 => ⟨S16x64x64, .f32⟩
  | 122 => ⟨S16x64x64, .f32⟩
  | 123 => ⟨S16x64x64, .f32⟩
  | 124 => ⟨S16x1x64x64, .f32⟩
  | 125 => ⟨S16x64x64, .f32⟩
  | 126 => ⟨S16x64x64, .f32⟩
  | 127 => ⟨S1x64x64, .f32⟩
  | _ => ⟨S16x16x1024, .f32⟩

abbrev hbmTy0_1 (i : Nat) : BufTy := match i % 128 with
  | 0 => ⟨S16x64x64, .f32⟩
  | 1 => ⟨S16x64x64, .f32⟩
  | 2 => ⟨S1x64x64, .f32⟩
  | 3 => ⟨S16x64x64, .f32⟩
  | 4 => ⟨S16x64x64, .f32⟩
  | 5 => ⟨S16x64x64, .f32⟩
  | 6 => ⟨S16x1x64x64, .f32⟩
  | 7 => ⟨S16x64x64, .f32⟩
  | 8 => ⟨S16x64x64, .f32⟩
  | 9 => ⟨S1x64x64, .f32⟩
  | 10 => ⟨S16x64x64, .f32⟩
  | 11 => ⟨S16x64x64, .f32⟩
  | 12 => ⟨S1x64x64, .f32⟩
  | 13 => ⟨S16x64x64, .f32⟩
  | 14 => ⟨S16x64x64, .f32⟩
  | 15 => ⟨S16x64x64, .f32⟩
  | 16 => ⟨S16x1x64x64, .f32⟩
  | 17 => ⟨S16x64x64, .f32⟩
  | 18 => ⟨S16x64x64, .f32⟩
  | 19 => ⟨S1x64x64, .f32⟩
  | 20 => ⟨S16x64x64, .f32⟩
  | 21 => ⟨S16x64x64, .f32⟩
  | 22 => ⟨S1x64x64, .f32⟩
  | 23 => ⟨S16x64x64, .f32⟩
  | 24 => ⟨S16x64x64, .f32⟩
  | 25 => ⟨S16x64x64, .f32⟩
  | 26 => ⟨S16x1x64x64, .f32⟩
  | 27 => ⟨S16x64x64, .f32⟩
  | 28 => ⟨S16x64x64, .f32⟩
  | 29 => ⟨S1x64x64, .f32⟩
  | 30 => ⟨S16x64x64, .f32⟩
  | 31 => ⟨S16x64x64, .f32⟩
  | 32 => ⟨S1x64x64, .f32⟩
  | 33 => ⟨S16x64x64, .f32⟩
  | 34 => ⟨S16x64x64, .f32⟩
  | 35 => ⟨S16x64x64, .f32⟩
  | 36 => ⟨S16x1x64x64, .f32⟩
  | 37 => ⟨S16x64x64, .f32⟩
  | 38 => ⟨S16x64x64, .f32⟩
  | 39 => ⟨S1x64x64, .f32⟩
  | 40 => ⟨S16x64x64, .f32⟩
  | 41 => ⟨S16x64x64, .f32⟩
  | 42 => ⟨S1x64x64, .f32⟩
  | 43 => ⟨S16x64x64, .f32⟩
  | 44 => ⟨S16x64x64, .f32⟩
  | 45 => ⟨S16x64x64, .f32⟩
  | 46 => ⟨S16x1x64x64, .f32⟩
  | 47 => ⟨S16x64x64, .f32⟩
  | 48 => ⟨S16x64x64, .f32⟩
  | 49 => ⟨S1x64x64, .f32⟩
  | 50 => ⟨S16x64x64, .f32⟩
  | 51 => ⟨S16x64x64, .f32⟩
  | 52 => ⟨S1x64x64, .f32⟩
  | 53 => ⟨S16x64x64, .f32⟩
  | 54 => ⟨S16x64x64, .f32⟩
  | 55 => ⟨S16x64x64, .f32⟩
  | 56 => ⟨S16x1x64x64, .f32⟩
  | 57 => ⟨S16x64x64, .f32⟩
  | 58 => ⟨S16x64x64, .f32⟩
  | 59 => ⟨S1x64x64, .f32⟩
  | 60 => ⟨S16x64x64, .f32⟩
  | 61 => ⟨S16x64x64, .f32⟩
  | 62 => ⟨S1x64x64, .f32⟩
  | 63 => ⟨S16x64x64, .f32⟩
  | 64 => ⟨S16x64x64, .f32⟩
  | 65 => ⟨S16x64x64, .f32⟩
  | 66 => ⟨S16x1x64x64, .f32⟩
  | 67 => ⟨S16x64x64, .f32⟩
  | 68 => ⟨S16x64x64, .f32⟩
  | 69 => ⟨S1x64x64, .f32⟩
  | 70 => ⟨S16x64x64, .f32⟩
  | 71 => ⟨S16x64x64, .f32⟩
  | 72 => ⟨S1x64x64, .f32⟩
  | 73 => ⟨S16x64x64, .f32⟩
  | 74 => ⟨S16x64x64, .f32⟩
  | 75 => ⟨S16x64x64, .f32⟩
  | 76 => ⟨S16x1x64x64, .f32⟩
  | 77 => ⟨S16x64x64, .f32⟩
  | 78 => ⟨S16x64x64, .f32⟩
  | 79 => ⟨S1x64x64, .f32⟩
  | 80 => ⟨S16x64x64, .f32⟩
  | 81 => ⟨S16x64x64, .f32⟩
  | 82 => ⟨S1x64x64, .f32⟩
  | 83 => ⟨S16x64x64, .f32⟩
  | 84 => ⟨S16x64x64, .f32⟩
  | 85 => ⟨S16x64x64, .f32⟩
  | 86 => ⟨S16x1x64x64, .f32⟩
  | 87 => ⟨S16x64x64, .f32⟩
  | 88 => ⟨S16x64x64, .f32⟩
  | 89 => ⟨S1x64x64, .f32⟩
  | 90 => ⟨S16x64x64, .f32⟩
  | 91 => ⟨S16x64x64, .f32⟩
  | 92 => ⟨S1x64x64, .f32⟩
  | 93 => ⟨S16x64x64, .f32⟩
  | 94 => ⟨S16x64x64, .f32⟩
  | 95 => ⟨S16x64x64, .f32⟩
  | 96 => ⟨S16x1x64x64, .f32⟩
  | 97 => ⟨S16x64x64, .f32⟩
  | 98 => ⟨S16x64x64, .f32⟩
  | 99 => ⟨S1x64x64, .f32⟩
  | 100 => ⟨S16x64x64, .f32⟩
  | 101 => ⟨S16x64x64, .f32⟩
  | 102 => ⟨S1x64x64, .f32⟩
  | 103 => ⟨S16x64x64, .f32⟩
  | 104 => ⟨S16x64x64, .f32⟩
  | 105 => ⟨S16x64x64, .f32⟩
  | 106 => ⟨S16x1x64x64, .f32⟩
  | 107 => ⟨S16x64x64, .f32⟩
  | 108 => ⟨S16x64x64, .f32⟩
  | 109 => ⟨S1x64x64, .f32⟩
  | 110 => ⟨S16x64x64, .f32⟩
  | 111 => ⟨S16x64x64, .f32⟩
  | 112 => ⟨S1x64x64, .f32⟩
  | 113 => ⟨S16x64x64, .f32⟩
  | 114 => ⟨S16x64x64, .f32⟩
  | 115 => ⟨S16x64x64, .f32⟩
  | 116 => ⟨S16x1x64x64, .f32⟩
  | 117 => ⟨S16x64x64, .f32⟩
  | 118 => ⟨S16x64x64, .f32⟩
  | 119 => ⟨S1x64x64, .f32⟩
  | 120 => ⟨S16x64x64, .f32⟩
  | 121 => ⟨S16x64x64, .f32⟩
  | 122 => ⟨S1x64x64, .f32⟩
  | 123 => ⟨S16x64x64, .f32⟩
  | 124 => ⟨S16x64x64, .f32⟩
  | 125 => ⟨S16x64x64, .f32⟩
  | 126 => ⟨S16x1x64x64, .f32⟩
  | 127 => ⟨S16x64x64, .f32⟩
  | _ => ⟨S16x16x1024, .f32⟩

abbrev hbmTy0_2 (i : Nat) : BufTy := match i % 128 with
  | 0 => ⟨S16x64x64, .f32⟩
  | 1 => ⟨S1x64x64, .f32⟩
  | 2 => ⟨S16x64x64, .f32⟩
  | 3 => ⟨S16x64x64, .f32⟩
  | 4 => ⟨S1x64x64, .f32⟩
  | 5 => ⟨S16x64x64, .f32⟩
  | 6 => ⟨S16x64x64, .f32⟩
  | 7 => ⟨S16x64x64, .f32⟩
  | 8 => ⟨S16x1x64x64, .f32⟩
  | 9 => ⟨S16x64x64, .f32⟩
  | 10 => ⟨S16x64x64, .f32⟩
  | 11 => ⟨S1x64x64, .f32⟩
  | 12 => ⟨S16x64x64, .f32⟩
  | 13 => ⟨S16x64x64, .f32⟩
  | 14 => ⟨S1x64x64, .f32⟩
  | 15 => ⟨S16x64x64, .f32⟩
  | 16 => ⟨S16x64x64, .f32⟩
  | 17 => ⟨S16x64x64, .f32⟩
  | 18 => ⟨S16x1x64x64, .f32⟩
  | 19 => ⟨S16x64x64, .f32⟩
  | 20 => ⟨S16x64x64, .f32⟩
  | 21 => ⟨S1x64x64, .f32⟩
  | 22 => ⟨S16x64x64, .f32⟩
  | 23 => ⟨S16x64x64, .f32⟩
  | 24 => ⟨S1x64x64, .f32⟩
  | 25 => ⟨S16x64x64, .f32⟩
  | 26 => ⟨S16x64x64, .f32⟩
  | 27 => ⟨S16x64x64, .f32⟩
  | 28 => ⟨S16x1x64x64, .f32⟩
  | 29 => ⟨S16x64x64, .f32⟩
  | 30 => ⟨S16x64x64, .f32⟩
  | 31 => ⟨S1x64x64, .f32⟩
  | 32 => ⟨S16x64x64, .f32⟩
  | 33 => ⟨S16x64x64, .f32⟩
  | 34 => ⟨S1x64x64, .f32⟩
  | 35 => ⟨S16x64x64, .f32⟩
  | 36 => ⟨S16x64x64, .f32⟩
  | 37 => ⟨S16x64x64, .f32⟩
  | 38 => ⟨S16x1x64x64, .f32⟩
  | 39 => ⟨S16x64x64, .f32⟩
  | 40 => ⟨S16x64x64, .f32⟩
  | 41 => ⟨S1x64x64, .f32⟩
  | 42 => ⟨S16x64x64, .f32⟩
  | 43 => ⟨S16x64x64, .f32⟩
  | 44 => ⟨S1x64x64, .f32⟩
  | 45 => ⟨S16x64x64, .f32⟩
  | 46 => ⟨S16x64x64, .f32⟩
  | 47 => ⟨S16x64x64, .f32⟩
  | 48 => ⟨S16x1x64x64, .f32⟩
  | 49 => ⟨S16x64x64, .f32⟩
  | 50 => ⟨S16x64x64, .f32⟩
  | 51 => ⟨S1x64x64, .f32⟩
  | 52 => ⟨S16x64x64, .f32⟩
  | 53 => ⟨S16x64x64, .f32⟩
  | 54 => ⟨S1x64x64, .f32⟩
  | 55 => ⟨S16x64x64, .f32⟩
  | 56 => ⟨S16x64x64, .f32⟩
  | 57 => ⟨S16x64x64, .f32⟩
  | 58 => ⟨S16x1x64x64, .f32⟩
  | 59 => ⟨S16x64x64, .f32⟩
  | 60 => ⟨S16x64x64, .f32⟩
  | 61 => ⟨S1x64x64, .f32⟩
  | 62 => ⟨S16x64x64, .f32⟩
  | 63 => ⟨S16x64x64, .f32⟩
  | 64 => ⟨S1x64x64, .f32⟩
  | 65 => ⟨S16x64x64, .f32⟩
  | 66 => ⟨S16x64x64, .f32⟩
  | 67 => ⟨S16x64x64, .f32⟩
  | 68 => ⟨S16x1x64x64, .f32⟩
  | 69 => ⟨S16x64x64, .f32⟩
  | 70 => ⟨S16x64x64, .f32⟩
  | 71 => ⟨S1x64x64, .f32⟩
  | 72 => ⟨S16x64x64, .f32⟩
  | 73 => ⟨S16x64x64, .f32⟩
  | 74 => ⟨S1x64x64, .f32⟩
  | 75 => ⟨S16x64x64, .f32⟩
  | 76 => ⟨S16x64x64, .f32⟩
  | 77 => ⟨S16x64x64, .f32⟩
  | 78 => ⟨S16x1x64x64, .f32⟩
  | 79 => ⟨S16x64x64, .f32⟩
  | 80 => ⟨S16x64x64, .f32⟩
  | 81 => ⟨S16x4096, .f32⟩
  | 82 => ⟨S16x4096, .f32⟩
  | _ => ⟨S16x16x1024, .f32⟩

abbrev hbmTy (i : Nat) : BufTy := match i / 128 with
  | 0 => hbmTy0_0 i
  | 1 => hbmTy0_1 i
  | 2 => hbmTy0_2 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩
abbrev main_v267 : Ref sig .tc := ⟨.hbm, 277, rfl⟩
abbrev main_v268 : Ref sig .tc := ⟨.hbm, 278, rfl⟩
abbrev main_v269 : Ref sig .tc := ⟨.hbm, 279, rfl⟩
abbrev main_v270 : Ref sig .tc := ⟨.hbm, 280, rfl⟩
abbrev main_v271 : Ref sig .tc := ⟨.hbm, 281, rfl⟩
abbrev main_v272 : Ref sig .tc := ⟨.hbm, 282, rfl⟩
abbrev main_v273 : Ref sig .tc := ⟨.hbm, 283, rfl⟩
abbrev main_v274 : Ref sig .tc := ⟨.hbm, 284, rfl⟩
abbrev main_v275 : Ref sig .tc := ⟨.hbm, 285, rfl⟩
abbrev main_v276 : Ref sig .tc := ⟨.hbm, 286, rfl⟩
abbrev main_v277 : Ref sig .tc := ⟨.hbm, 287, rfl⟩
abbrev main_v278 : Ref sig .tc := ⟨.hbm, 288, rfl⟩
abbrev main_v279 : Ref sig .tc := ⟨.hbm, 289, rfl⟩
abbrev main_v280 : Ref sig .tc := ⟨.hbm, 290, rfl⟩
abbrev main_v281 : Ref sig .tc := ⟨.hbm, 291, rfl⟩
abbrev main_v282 : Ref sig .tc := ⟨.hbm, 292, rfl⟩
abbrev main_v283 : Ref sig .tc := ⟨.hbm, 293, rfl⟩
abbrev main_v284 : Ref sig .tc := ⟨.hbm, 294, rfl⟩
abbrev main_v285 : Ref sig .tc := ⟨.hbm, 295, rfl⟩
abbrev main_v286 : Ref sig .tc := ⟨.hbm, 296, rfl⟩
abbrev main_v287 : Ref sig .tc := ⟨.hbm, 297, rfl⟩
abbrev main_v288 : Ref sig .tc := ⟨.hbm, 298, rfl⟩
abbrev main_v289 : Ref sig .tc := ⟨.hbm, 299, rfl⟩
abbrev main_v290 : Ref sig .tc := ⟨.hbm, 300, rfl⟩
abbrev main_v291 : Ref sig .tc := ⟨.hbm, 301, rfl⟩
abbrev main_v292 : Ref sig .tc := ⟨.hbm, 302, rfl⟩
abbrev main_v293 : Ref sig .tc := ⟨.hbm, 303, rfl⟩
abbrev main_v294 : Ref sig .tc := ⟨.hbm, 304, rfl⟩
abbrev main_v295 : Ref sig .tc := ⟨.hbm, 305, rfl⟩
abbrev main_v296 : Ref sig .tc := ⟨.hbm, 306, rfl⟩
abbrev main_v297 : Ref sig .tc := ⟨.hbm, 307, rfl⟩
abbrev main_v298 : Ref sig .tc := ⟨.hbm, 308, rfl⟩
abbrev main_v299 : Ref sig .tc := ⟨.hbm, 309, rfl⟩
abbrev main_v300 : Ref sig .tc := ⟨.hbm, 310, rfl⟩
abbrev main_v301 : Ref sig .tc := ⟨.hbm, 311, rfl⟩
abbrev main_v302 : Ref sig .tc := ⟨.hbm, 312, rfl⟩
abbrev main_v303 : Ref sig .tc := ⟨.hbm, 313, rfl⟩
abbrev main_v304 : Ref sig .tc := ⟨.hbm, 314, rfl⟩
abbrev main_v305 : Ref sig .tc := ⟨.hbm, 315, rfl⟩
abbrev main_v306 : Ref sig .tc := ⟨.hbm, 316, rfl⟩
abbrev main_v307 : Ref sig .tc := ⟨.hbm, 317, rfl⟩
abbrev main_v308 : Ref sig .tc := ⟨.hbm, 318, rfl⟩
abbrev main_v309 : Ref sig .tc := ⟨.hbm, 319, rfl⟩
abbrev main_v310 : Ref sig .tc := ⟨.hbm, 320, rfl⟩
abbrev main_v311 : Ref sig .tc := ⟨.hbm, 321, rfl⟩
abbrev main_v312 : Ref sig .tc := ⟨.hbm, 322, rfl⟩
abbrev main_v313 : Ref sig .tc := ⟨.hbm, 323, rfl⟩
abbrev main_v314 : Ref sig .tc := ⟨.hbm, 324, rfl⟩
abbrev main_v315 : Ref sig .tc := ⟨.hbm, 325, rfl⟩
abbrev main_v316 : Ref sig .tc := ⟨.hbm, 326, rfl⟩
abbrev main_v317 : Ref sig .tc := ⟨.hbm, 327, rfl⟩
abbrev main_v318 : Ref sig .tc := ⟨.hbm, 328, rfl⟩
abbrev main_v319 : Ref sig .tc := ⟨.hbm, 329, rfl⟩
abbrev main_v320 : Ref sig .tc := ⟨.hbm, 330, rfl⟩
abbrev main_v321 : Ref sig .tc := ⟨.hbm, 331, rfl⟩
abbrev main_v322 : Ref sig .tc := ⟨.hbm, 332, rfl⟩
abbrev main_v323 : Ref sig .tc := ⟨.hbm, 333, rfl⟩
abbrev main_v324 : Ref sig .tc := ⟨.hbm, 334, rfl⟩
abbrev main_v325 : Ref sig .tc := ⟨.hbm, 335, rfl⟩
abbrev main_v326 : Ref sig .tc := ⟨.hbm, 336, rfl⟩
abbrev main_v327 : Ref sig .tc := ⟨.hbm, 337, rfl⟩
abbrev main_v328 : Ref sig .tc := ⟨.hbm, 338, rfl⟩

abbrev nD : Nat := 1
abbrev τ : Topo := Topo.v7x

variable {F : FTy → Type} [FloatOps F]
-- ==== Kernel8.lean ====
abbrev S1x2048x5504 : Shape := ⟨3, ![1, 2048, 5504]⟩
abbrev S2048x5504 : Shape := ⟨2, ![2048, 5504]⟩
abbrev S2048x5632 : Shape := ⟨2, ![2048, 5632]⟩
abbrev S256x5504 : Shape := ⟨2, ![256, 5504]⟩
abbrev S256x5632 : Shape := ⟨2, ![256, 5632]⟩
abbrev S256x128 : Shape := ⟨2, ![256, 128]⟩

abbrev nBuf : Space → Nat
  | .hbm => 3
  | .vmem => 4
  | .smem => 0
  | _ => 0

abbrev bufTy : (tb : Table) → Fin (tcTables nBuf tb) → BufTy
  | .hbm, ⟨0, _⟩ => ⟨S1x2048x5504, .f32⟩
  | .hbm, ⟨1, _⟩ => ⟨S2048x5504, .f32⟩
  | .hbm, ⟨2, _⟩ => ⟨S2048x5632, .bf16⟩
  | .local _ .vmem, ⟨0, _⟩ => ⟨S256x5504, .f32⟩
  | .local _ .vmem, ⟨1, _⟩ => ⟨S256x5504, .f32⟩
  | .local _ .vmem, ⟨2, _⟩ => ⟨S256x5632, .bf16⟩
  | .local _ .vmem, ⟨3, _⟩ => ⟨S256x5632, .bf16⟩
  | _, _ => ⟨S1x2048x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5504 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S1x2048x5504 : Shape := ⟨3, ![1, 2048, 5504]⟩
abbrev S2048x5504 : Shape := ⟨2, ![2048, 5504]⟩
abbrev S_ : Shape := ⟨0, ![]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S1x2048x5504, .f32⟩
  | .hbm, ⟨1, _⟩ => ⟨S2048x5504, .f32⟩
  | .hbm, ⟨2, _⟩ => ⟨S_, .i32⟩
  | .hbm, ⟨3, _⟩ => ⟨S_, .f32⟩
  | .hbm, ⟨4, _⟩ => ⟨S2048x5632, .f32⟩
  | .hbm, ⟨5, _⟩ => ⟨S2048x5632, .bf16⟩
  | _, _ => ⟨S1x2048x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S1x5504x2048 : Shape := ⟨3, ![1, 5504, 2048]⟩
abbrev S5504x2048 : Shape := ⟨2, ![5504, 2048]⟩
abbrev S5632x2048 : Shape := ⟨2, ![5632, 2048]⟩
abbrev S5504x256 : Shape := ⟨2, ![5504, 256]⟩
abbrev S5632x256 : Shape := ⟨2, ![5632, 256]⟩
abbrev S128x256 : Shape := ⟨2, ![128, 256]⟩

abbrev nBuf : Space → Nat
  | .hbm => 3
  | .vmem => 4
  | .smem => 0
  | _ => 0

abbrev bufTy : (tb : Table) → Fin (tcTables nBuf tb) → BufTy
  | .hbm, ⟨0, _⟩ => ⟨S1x5504x2048, .f32⟩
  | .hbm, ⟨1, _⟩ => ⟨S5504x2048, .f32⟩
  | .hbm, ⟨2, _⟩ => ⟨S5632x2048, .bf16⟩
  | .local _ .vmem, ⟨0, _⟩ => ⟨S5504x256, .f32⟩
  | .local _ .vmem, ⟨1, _⟩ => ⟨S5504x256, .f32⟩
  | .local _ .vmem, ⟨2, _⟩ => ⟨S5632x256, .bf16⟩
  | .local _ .vmem, ⟨3, _⟩ => ⟨S5632x256, .bf16⟩
  | _, _ => ⟨S1x5504x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5504x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9Ideal.lean ====
abbrev S1x5504x2048 : Shape := ⟨3, ![1, 5504, 2048]⟩
abbrev S5504x2048 : Shape := ⟨2, ![5504, 2048]⟩
abbrev S_ : Shape := ⟨0, ![]⟩
abbrev S5632x2048 : Shape := ⟨2, ![5632, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x5504x2048, .f32⟩
  | .hbm, ⟨1, _⟩ => ⟨S5504x2048, .f32⟩
  | .hbm, ⟨2, _⟩ => ⟨S_, .i32⟩
  | .hbm, ⟨3, _⟩ => ⟨S_, .f32⟩
  | .hbm, ⟨4, _⟩ => ⟨S5632x2048, .f32⟩
  | .hbm, ⟨5, _⟩ => ⟨S5632x2048, .bf16⟩
  | _, _ => ⟨S1x5504x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S1x2048x4112 : Shape := ⟨3, ![1, 2048, 4112]⟩
abbrev S2048x4112 : Shape := ⟨2, ![2048, 4112]⟩
abbrev S2048x4224 : Shape := ⟨2, ![2048, 4224]⟩
abbrev S256x4112 : Shape := ⟨2, ![256, 4112]⟩
abbrev S256x4224 : Shape := ⟨2, ![256, 4224]⟩
abbrev S256x2048 : Shape := ⟨2, ![256, 2048]⟩
abbrev S256x1024 : Shape := ⟨2, ![256, 1024]⟩
abbrev S256x16 : Shape := ⟨2, ![256, 16]⟩
abbrev S256x112 : Shape := ⟨2, ![256, 112]⟩
abbrev S256x128 : Shape := ⟨2, ![256, 128]⟩

abbrev nBuf : Space → Nat
  | .hbm => 3
  | .vmem => 4
  | .smem => 0
  | _ => 0

abbrev bufTy : (tb : Table) → Fin (tcTables nBuf tb) → BufTy
  | .hbm, ⟨0, _⟩ => ⟨S1x2048x4112, .f32⟩
  | .hbm, ⟨1, _⟩ => ⟨S2048x4112, .f32⟩
  | .hbm, ⟨2, _⟩ => ⟨S2048x4224, .bf16⟩
  | .local _ .vmem, ⟨0, _⟩ => ⟨S256x4112, .f32⟩
  | .local _ .vmem, ⟨1, _⟩ => ⟨S256x4112, .f32⟩
  | .local _ .vmem, ⟨2, _⟩ => ⟨S256x4224, .bf16⟩
  | .local _ .vmem, ⟨3, _⟩ => ⟨S256x4224, .bf16⟩
  | _, _ => ⟨S1x2048x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference10Ideal.lean ====
abbrev S1x2048x4112 : Shape := ⟨3, ![1, 2048, 4112]⟩
abbrev S2048x4112 : Shape := ⟨2, ![2048, 4112]⟩
abbrev S2048x1024 : Shape := ⟨2, ![2048, 1024]⟩
abbrev S2048x2048 : Shape := ⟨2, ![2048, 2048]⟩
abbrev S2048x16 : Shape := ⟨2, ![2048, 16]⟩
abbrev S_ : Shape := ⟨0, ![]⟩
abbrev S2048x128 : Shape := ⟨2, ![2048, 128]⟩
abbrev S2048x4224 : Shape := ⟨2, ![2048, 4224]⟩

abbrev nBuf : Space → Nat
  | .hbm => 11
  | .vmem => 0
  | .smem => 0
  | _ => 0

abbrev bufTy : (tb : Table) → Fin (tcTables nBuf tb) → BufTy
  | .hbm, ⟨0, _⟩ => ⟨S1x2048x4112, .f32⟩
  | .hbm, ⟨1, _⟩ => ⟨S2048x4112, .f32⟩
  | .hbm, ⟨2, _⟩ => ⟨S2048x1024, .f32⟩
  | .hbm, ⟨3, _⟩ => ⟨S2048x2048, .f32⟩
  | .hbm, ⟨4, _⟩ => ⟨S2048x16, .f32⟩
  | .hbm, ⟨5, _⟩ => ⟨S2048x1024, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x4224, .f32⟩
  | .hbm, ⟨10, _⟩ => ⟨S2048x4224, .bf16⟩
  | _, _ => ⟨S1x2048x4112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.FfnStep.lean ====
module

public import proofs.«01_k».proof.Proof.Gen.Kernel2Ideal.Frame
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Ffn

open Cert.Kernel2Ideal Cert.Kernel2Ideal.Gen

/-- One half of a tile of hidden units: from the normalised rows `h`, the gate, up and down blocks of 256 units. -/
def half (h : FVec Ideal S1024x2048 .bf16) (g u : FVec Ideal S2048x256 .bf16) (d : FVec Ideal S256x2048 .bf16)
    (r : Fin 1024) (o : Fin 2048) : EReal :=
  ∑ k : Fin 256, (Ideal.ofBits .f32 0x3F000000#32
    * ((∑ i : Fin 2048, h (ix2 r i) * g (ix2 i k)) * Ideal.logistic (∑ i : Fin 2048, h (ix2 r i) * g (ix2 i k))
      * ∑ i : Fin 2048, h (ix2 r i) * u (ix2 i k))) * d (ix2 k o)

/-- What a grid point adds to the output block: the two halves of its tile. -/
theorem pay_at (h : FVec Ideal S1024x2048 .bf16) (g0 u0 g1 u1 : FVec Ideal S2048x256 .bf16) (d0 d1 : FVec Ideal S256x2048 .bf16)
    (acc : FVec Ideal S1024x2048 .f32) (r : Fin 1024) (o : Fin 2048) :
    k0_pay1 (F := Ideal) (k0_pay5 h g1 u1) (k0_pay6 h g0 u0 d0) (k0_pay7 d1) (constant S1024x2048 .f32 0x00000000#32) acc (ix2 r o)
      = acc (ix2 r o) + (half h g0 u0 d0 r o + half h g1 u1 d1 r o) := by
  pointwise [k0_pay1, k0_pay5, k0_pay6, k0_pay7, half]

/-- The last grid point of a row block normalises the rows it has accumulated. -/
theorem fin_at (x : FVec Ideal S1024x2048 .f32) (gf : FVec Ideal S1x2048 .f32) (r : Fin 1024) (o : Fin 2048) :
    k0_pay2 (F := Ideal) x gf (ix2 r o)
      = x (ix2 r o) * Ideal.rsqrt (Ideal.div (∑ i : Fin 2048, x (ix2 r i) * x (ix2 r i)) (Ideal.ofBits .f32 0x45000000#32)
          + Ideal.ofBits .f32 0x358637BD#32) * gf (ix2 0 o) := by
  pointwise [k0_pay2]

/-- The same from the row's entries. -/
theorem fin_of (x : FVec Ideal S1024x2048 .f32) (gf : FVec Ideal S1x2048 .f32) (r : Fin 1024) (o : Fin 2048) (f : Fin 2048 → EReal)
    (hx : ∀ i : Fin 2048, x (ix2 r i) = f i) :
    k0_pay2 (F := Ideal) x gf (ix2 r o)
      = f o * Ideal.rsqrt (Ideal.div (∑ i : Fin 2048, f i * f i) (Ideal.ofBits .f32 0x45000000#32)
          + Ideal.ofBits .f32 0x358637BD#32) * gf (ix2 0 o) := by
  rw [fin_at]
  simp only [hx]

/-- The first grid point of a row block normalises the rows of the input. -/
theorem norm_at (x : FVec Ideal S1024x2048 .f32) (g : FVec Ideal S1x2048 .f32) (r : Fin 1024) (o : Fin 2048) :
    k0_pay4 (F := Ideal) x g (ix2 r o)
      = x (ix2 r o) * Ideal.rsqrt (Ideal.div (∑ i : Fin 2048, x (ix2 r i) * x (ix2 r i)) (Ideal.ofBits .f32 0x45000000#32)
          + Ideal.ofBits .f32 0x358637BD#32) * g (ix2 0 o) := by
  pointwise [k0_pay4, k0_pay3]

variable (m : (ℓ : Loc nD τ sig) → Buf (Elt Ideal) ℓ)

/-- The first grid point of a row block fills the scratch. -/
theorem stepA (c : Dev nD) (t : Fin cfg0.N) (h0 : t.val % 11 = 0) (h1 : ¬t.val % 11 = 10) :
    (outsAt0 m c t.val t.isLt).2 = k0_pay4 (iblk m c 0 t) (iblk m c 1 t) := by
  rw [outsAt0_A m c t h0 h1]; frame_out

/-- The block index of every window at grid point `t`. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0]
    ∧ win0_6.index t = ![t.val / 11, 0] ∧ t.val / 11 < 32 :=
  (by decide +kernel : ∀ t : Fin grid0.N, _)

/-- The rows of the input, all of them in one array. -/
abbrev X (c : Dev nD) : FVec Ideal S32768x2048 .f32 := V m c main_v9
/-- The gain of the first normalisation. -/
abbrev G (c : Dev nD) : FVec Ideal S1x2048 .f32 := V m c main_arg1
/-- The padded gate weights. -/
abbrev WG (c : Dev nD) : FVec Ideal S2048x5632 .bf16 := V m c main_v2
/-- The padded up weights. -/
abbrev WU (c : Dev nD) : FVec Ideal S2048x5632 .bf16 := V m c main_v5
/-- The padded down weights. -/
abbrev WD (c : Dev nD) : FVec Ideal S5632x2048 .bf16 := V m c main_v8
/-- The gain of the last normalisation. -/
abbrev GF (c : Dev nD) : FVec Ideal S1x2048 .f32 := V m c main_v10

/-- A normalised row of the input. -/
def hrow (c : Dev nD) (R : Fin 32768) (i : Fin 2048) : EReal :=
  X m c (ix2 R i) * Ideal.rsqrt (Ideal.div (∑ i : Fin 2048, X m c (ix2 R i) * X m c (ix2 R i)) (Ideal.ofBits .f32 0x45000000#32)
          + Ideal.ofBits .f32 0x358637BD#32) * G m c (ix2 0 i)

/-- The term of hidden unit `k` in entry `(R, o)` of the layer's sum. -/
def term (c : Dev nD) (R : Fin 32768) (o : Fin 2048) (k : Fin 5632) : EReal :=
  (Ideal.ofBits .f32 0x3F000000#32
    * ((∑ i : Fin 2048, hrow m c R i * WG m c (ix2 i k)) * Ideal.logistic (∑ i : Fin 2048, hrow m c R i * WG m c (ix2 i k))
      * ∑ i : Fin 2048, hrow m c R i * WU m c (ix2 i k))) * WD m c (ix2 k o)

/-- The terms of tile `s` of the hidden units, half by half. -/
def part (c : Dev nD) (R : Fin 32768) (o : Fin 2048) (s : ℕ) : EReal :=
  if hs : s < 11 then (∑ k : Fin 256, term m c R o ⟨s * 512 + k, by omega⟩) + ∑ k : Fin 256, term m c R o ⟨s * 512 + (256 + k), by omega⟩ else 0

/-- The first grid point of a row block keeps the normalised rows. -/
theorem normA (c : Dev nD) (t : Fin cfg0.N) (h0 : t.val % 11 = 0) (h1 : ¬t.val % 11 = 10) (r : Fin 1024) (i : Fin 2048) (R : Fin 32768)
    (hR : (R : ℕ) = t.val / 11 * 1024 + r) :
    (outsAt0 m c t.val t.isLt).2 (ix2 r i) = hrow m c R i := by
  rw [stepA m c t h0 h1]
  refine (norm_at _ _ r i).trans ?_
  unfold hrow
  blk_point [iblk, idx t]

/-- A tile's halves, read at the point that computes them. -/
theorem part_at (c : Dev nD) (t : Fin cfg0.N) (H : FVec Ideal S1024x2048 .bf16) (r : Fin 1024) (o : Fin 2048) (R : Fin 32768)
    (hH : ∀ i : Fin 2048, H (ix2 r i) = hrow m c R i) (acc : FVec Ideal S1024x2048 .f32) :
    k0_pay1 (F := Ideal)
      (k0_pay5 H
        (View.ld (iblk m c 2 t) (Rect.unit ![0, 256] ![2048, 256] inb_S2048x512_S2048x256_0_256))
        (View.ld (iblk m c 3 t) (Rect.unit ![0, 256] ![2048, 256] inb_S2048x512_S2048x256_0_256)))
      (k0_pay6 H
        (View.ld (iblk m c 2 t) (Rect.unit ![0, 0] ![2048, 256] inb_S2048x512_S2048x256_0_0))
        (View.ld (iblk m c 3 t) (Rect.unit ![0, 0] ![2048, 256] inb_S2048x512_S2048x256_0_0))
        (View.ld (iblk m c 4 t) (Rect.unit ![0, 0] ![256, 2048] inb_S512x2048_S256x2048_0_0)))
      (k0_pay7 (View.ld (iblk m c 4 t) (Rect.unit ![256, 0] ![256, 2048] inb_S512x2048_S256x2048_256_0)))
      (constant S1024x2048 .f32 0#32) acc (ix2 r o) = acc (ix2 r o) + part m c R o (t.val % 11) := by
  rw [pay_at]
  unfold part
  rw [dif_pos (by omega)]
  pointwise [half, hH, term]
  blk_point [iblk, idx t]

/-- The first grid point of a row block: the input and the first tile. -/
theorem outA (c : Dev nD) (t : Fin cfg0.N) (h0 : t.val % 11 = 0) (h1 : ¬t.val % 11 = 10) (r : Fin 1024) (o : Fin 2048) (R : Fin 32768)
    (hR : (R : ℕ) = t.val / 11 * 1024 + r) :
    (outsAt0 m c t.val t.isLt).1 (ix2 r o) = X m c (ix2 R o) + part m c R o (t.val % 11) := by
  rw [outsAt0_A m c t h0 h1]; frame_out
  refine (part_at m c t _ r o R (fun i => ?_) _).trans ?_
  · rw [← stepA m c t h0 h1]; exact normA m c t h0 h1 r i R hR
  · refine congrArg (· + part m c R o (t.val % 11)) ?_
    pointwise [k0_pay3]
    blk_point [iblk, idx t]

/-- A later grid point keeps the scratch. -/
theorem keepB (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]
  rfl

/-- A middle grid point of a row block adds its tile. -/
theorem outB (c : Dev nD) (t : Fin cfg0.N) (h0 : ¬t.val % 11 = 0) (h1 : ¬t.val % 11 = 10) (r : Fin 1024) (o : Fin 2048) (R : Fin 32768)
    (hH : ∀ i : Fin 2048, (outsAt0 m c (t.val - 1) (Nat.lt_of_le_of_lt (Nat.sub_le _ _) t.isLt)).2 (ix2 r i) = hrow m c R i) :
    (outsAt0 m c t.val t.isLt).1 (ix2 r o)
      = (show EReal from (outsAt0 m c (t.val - 1) (Nat.lt_of_le_of_lt (Nat.sub_le _ _) t.isLt)).1 (ix2 r o)) + part m c R o (t.val % 11) := by
  rw [outsAt0_B m c t h0 h1]; frame_out
  refine (part_at m c t _ r o R (fun i => ?_) _)
  rw [read_unread_whole]
  exact hH i

/-- The last grid point of a row block adds its tile and normalises. -/
theorem outC (c : Dev nD) (t : Fin cfg0.N) (h0 : ¬t.val % 11 = 0) (h1 : t.val % 11 = 10) (r : Fin 1024) (o : Fin 2048) (R : Fin 32768)
    (hH : ∀ i : Fin 2048, (outsAt0 m c (t.val - 1) (Nat.lt_of_le_of_lt (Nat.sub_le _ _) t.isLt)).2 (ix2 r i) = hrow m c R i)
    (f : Fin 2048 → EReal)
    (hf : ∀ i : Fin 2048, (show EReal from (outsAt0 m c (t.val - 1) (Nat.lt_of_le_of_lt (Nat.sub_le _ _) t.isLt)).1 (ix2 r i))
      + part m c R i (t.val % 11) = f i) :
    (outsAt0 m c t.val t.isLt).1 (ix2 r o)
      = f o * Ideal.rsqrt (Ideal.div (∑ i : Fin 2048, f i * f i) (Ideal.ofBits .f32 0x45000000#32)
          + Ideal.ofBits .f32 0x358637BD#32) * GF m c (ix2 0 o) := by
  rw [outsAt0_C m c t h0 h1]; frame_out
  refine (fin_of _ _ r o f (fun i => (part_at m c t _ r i R (fun i => ?_) _).trans (hf i))).trans ?_
  · rw [read_unread_whole]
    exact hH i
  refine congrArg _ ?_
  blk_point [iblk, idx t]

/-- What the output block and the scratch hold after point `n`: the normalised rows, and the input plus the tiles so far. -/
theorem inv (c : Dev nD) (n : ℕ) : ∀ (h : n < cfg0.N) (h1 : ¬n % 11 = 10) (r : Fin 1024) (R : Fin 32768) (hR : (R : ℕ) = n / 11 * 1024 + r),
    (∀ i : Fin 2048, (outsAt0 m c n h).2 (ix2 r i) = hrow m c R i)
    ∧ ∀ o : Fin 2048, (outsAt0 m c n h).1 (ix2 r o) = X m c (ix2 R o) + ∑ s ∈ Finset.range (n % 11 + 1), part m c R o s := by
  induction n using Nat.strong_induction_on with
  | _ n ih =>
    intro h h1 r R hR
    by_cases h0 : n % 11 = 0
    · refine ⟨fun i => normA m c ⟨n, h⟩ h0 h1 r i R hR, fun o => (outA m c ⟨n, h⟩ h0 h1 r o R hR).trans ?_⟩
      rw [show (⟨n, h⟩ : Fin cfg0.N).val % 11 = 0 from h0, Nat.zero_add, Finset.sum_range_one]
    · have hlt : n - 1 < cfg0.N := Nat.lt_of_le_of_lt (Nat.sub_le _ _) h
      obtain ⟨p1, p2⟩ := ih (n - 1) (by omega) hlt (by omega) r R (by omega)
      refine ⟨fun i => (congrFun (keepB m c ⟨n, h⟩ h0 h1) (ix2 r i)).trans (p1 i), fun o => (outB m c ⟨n, h⟩ h0 h1 r o R p1).trans ?_⟩
      refine (congrArg (· + part m c R o (n % 11)) (p2 o)).trans ?_
      rw [show (n - 1) % 11 + 1 = n % 11 by omega, Finset.sum_range_succ, add_assoc]

/-- The block written back: the normalised sum of the input and all its tiles. -/
theorem outs (c : Dev nD) (t : Fin cfg0.N) (h1 : t.val % 11 = 10) (r : Fin 1024) (o : Fin 2048) (R : Fin 32768) (hR : (R : ℕ) = t.val / 11 * 1024 + r)
    (f : Fin 2048 → EReal) (hf : ∀ i : Fin 2048, X m c (ix2 R i) + ∑ s ∈ Finset.range 11, part m c R i s = f i) :
    (outsAt0 m c t.val t.isLt).1 (ix2 r o)
      = f o * Ideal.rsqrt (Ideal.div (∑ i : Fin 2048, f i * f i) (Ideal.ofBits .f32 0x45000000#32)
          + Ideal.ofBits .f32 0x358637BD#32) * GF m c (ix2 0 o) := by
  obtain ⟨p1, p2⟩ := inv m c (t.val - 1) (Nat.lt_of_le_of_lt (Nat.sub_le _ _) t.isLt) (by omega) r R (by omega)
  refine outC m c t (by omega) h1 r o R p1 f fun i => ?_
  refine (congrArg (· + part m c R i (t.val % 11)) (p2 i)).trans (Eq.trans ?_ (hf i))
  rw [show (t.val - 1) % 11 + 1 = 10 by omega, h1, Finset.sum_range_succ _ 10, add_assoc]

end Cert.Ffn

end
-- ==== Proof.FfnRef.lean ====
module

public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem

namespace Cert.Ffn

open Cert.Reference2Ideal Cert.Reference2Ideal.Gen

/-- The reference's result as a term of its six arguments. -/
def REF (x : FVec Ideal S16x2048x2048 .f32) (gn : FVec Ideal S1x2048 .f32) (wg wu : FVec Ideal S1x2048x5504 .f32)
    (wd : FVec Ideal S1x5504x2048 .f32) (gf : FVec Ideal S2048 .f32) : FVec Ideal S32768x2048 .f32 :=
  shapeCast S32768x2048 (mulf (mulf (addf x (mulf (broadcastInDim S16x2048x2048 ![] bcast_S_S16x2048x2048 (constant S_ .f32 0x3F000000#32)) (Host.dotGeneral dot_S16x2048x5504_S5504x2048_S16x2048x2048_2_0_01_1_n_n none (mulf (mulf (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wg shapeCasts_S1x2048x5504_S2048x5504)) (Host.divf (broadcastInDim S16x2048x5504 ![] bcast_S_S16x2048x5504 (constant S_ .f32 0x3F800000#32)) (addf (broadcastInDim S16x2048x5504 ![] bcast_S_S16x2048x5504 (constant S_ .f32 0x3F800000#32)) (Host.exp (Host.negf (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wg shapeCasts_S1x2048x5504_S2048x5504))))))) (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wu shapeCasts_S1x2048x5504_S2048x5504))) (shapeCast _ wd shapeCasts_S1x5504x2048_S5504x2048)))) (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf (addf x (mulf (broadcastInDim S16x2048x2048 ![] bcast_S_S16x2048x2048 (constant S_ .f32 0x3F000000#32)) (Host.dotGeneral dot_S16x2048x5504_S5504x2048_S16x2048x2048_2_0_01_1_n_n none (mulf (mulf (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wg shapeCasts_S1x2048x5504_S2048x5504)) (Host.divf (broadcastInDim S16x2048x5504 ![] bcast_S_S16x2048x5504 (constant S_ .f32 0x3F800000#32)) (addf (broadcastInDim S16x2048x5504 ![] bcast_S_S16x2048x5504 (constant S_ .f32 0x3F800000#32)) (Host.exp (Host.negf (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wg shapeCasts_S1x2048x5504_S2048x5504))))))) (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wu shapeCasts_S1x2048x5504_S2048x5504))) (shapeCast _ wd shapeCasts_S1x5504x2048_S5504x2048)))) (addf x (mulf (broadcastInDim S16x2048x2048 ![] bcast_S_S16x2048x2048 (constant S_ .f32 0x3F000000#32)) (Host.dotGeneral dot_S16x2048x5504_S5504x2048_S16x2048x2048_2_0_01_1_n_n none (mulf (mulf (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wg shapeCasts_S1x2048x5504_S2048x5504)) (Host.divf (broadcastInDim S16x2048x5504 ![] bcast_S_S16x2048x5504 (constant S_ .f32 0x3F800000#32)) (addf (broadcastInDim S16x2048x5504 ![] bcast_S_S16x2048x5504 (constant S_ .f32 0x3F800000#32)) (Host.exp (Host.negf (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wg shapeCasts_S1x2048x5504_S2048x5504))))))) (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wu shapeCasts_S1x2048x5504_S2048x5504))) (shapeCast _ wd shapeCasts_S1x5504x2048_S5504x2048))))) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 gf))) shapeCasts_S16x2048x2048_S32768x2048

/-- The reference's run ends with this term. -/
theorem ref_eq (m : (ℓ : Loc nD τ sig) → Buf (Elt Ideal) ℓ) (c : Dev nD) :
    Cert.Reference2Ideal.Value.res_main_v44 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Cert.Reference2Ideal.Value.res_main_v44 REF
  rfl

/-- Entry `o` of the row `f`, normalised by its root mean square, with gain `g`. -/
def nrm (f g : Fin 2048 → EReal) (o : Fin 2048) : EReal :=
  f o * Ideal.rsqrt (Ideal.div (∑ i : Fin 2048, f i * f i) (Ideal.ofBits .f32 0x45000000#32) + Ideal.ofBits .f32 0x358637BD#32) * g o

/-- The reference's result, entry by entry. -/
theorem ref_at (x : FVec Ideal S16x2048x2048 .f32) (gn : FVec Ideal S1x2048 .f32) (wg wu : FVec Ideal S1x2048x5504 .f32)
    (wd : FVec Ideal S1x5504x2048 .f32) (gf : FVec Ideal S2048 .f32) (R : Fin 32768) (o : Fin 2048) :
    REF x gn wg wu wd gf (ix2 R o) = nrm (fun o => x (ix3 ⟨R / 2048, by omega⟩ ⟨R % 2048, by omega⟩ o)
      + Ideal.ofBits .f32 0x3F000000#32 * ∑ k : Fin 5504,
        ((∑ i : Fin 2048, nrm (fun i => x (ix3 ⟨R / 2048, by omega⟩ ⟨R % 2048, by omega⟩ i)) (fun i => gn (ix2 0 i)) i * wg (ix3 0 i k))
          * Ideal.logistic (∑ i : Fin 2048, nrm (fun i => x (ix3 ⟨R / 2048, by omega⟩ ⟨R % 2048, by omega⟩ i)) (fun i => gn (ix2 0 i)) i * wg (ix3 0 i k))
          * ∑ i : Fin 2048, nrm (fun i => x (ix3 ⟨R / 2048, by omega⟩ ⟨R % 2048, by omega⟩ i)) (fun i => gn (ix2 0 i)) i * wu (ix3 0 i k))
        * wd (ix3 0 k o)) (fun o => gf (ix1 o)) o := by
  pointwise [REF, nrm]
  rfl

/-- The pattern of one half denotes one half. -/
theorem half_eq : Ideal.ofBits .f32 0x3F000000#32 = ((1 / 2 : ℝ) : EReal) := by
  simp [Ideal.ofBits, Ideal.ieee]
  rw [← EReal.coe_mul]
  norm_num

/-- One half may be taken out of a sum. -/
theorem half_mul_sum {n : ℕ} (f : Fin n → EReal) :
    ∑ k, Ideal.ofBits .f32 0x3F000000#32 * f k = Ideal.ofBits .f32 0x3F000000#32 * ∑ k, f k := by
  rw [half_eq]
  have key : ∀ s : Finset (Fin n), ∑ k ∈ s, ((1 / 2 : ℝ) : EReal) * f k = ((1 / 2 : ℝ) : EReal) * ∑ k ∈ s, f k := by
    intro s
    induction s using Finset.cons_induction with
    | empty => simp
    | cons a s ha ih =>
      rw [Finset.sum_cons, Finset.sum_cons, ih, EReal.left_distrib_of_nonneg_of_ne_top (by exact_mod_cast (by norm_num : (0 : ℝ) ≤ 1 / 2)) (EReal.coe_ne_top _)]
  exact key _

/-- Eleven tiles of two halves are all 5632 units. -/
theorem sum_parts (f : Fin 5632 → EReal) :
    (∑ s ∈ Finset.range 11, if hs : s < 11 then (∑ k : Fin 256, f ⟨s * 512 + k, by omega⟩) + ∑ k : Fin 256, f ⟨s * 512 + (256 + k), by omega⟩ else 0)
      = ∑ k, f k := by
  rw [Finset.sum_range, Fin.sum_univ_tiles 11 512 rfl f]
  refine Finset.sum_congr rfl fun s _ => ?_
  rw [dif_pos s.isLt, Fin.sum_univ_two_halves 256 256 rfl]

/-- The 128 units of padding contribute nothing. -/
theorem sum_cut (f : Fin 5632 → EReal) (h : ∀ k : Fin 128, f ⟨5504 + k, by omega⟩ = 0) :
    ∑ k, f k = ∑ k : Fin 5504, f ⟨k, by omega⟩ := by
  rw [Fin.sum_univ_two_halves 5504 128 rfl f, Finset.sum_eq_zero (fun k _ => h k), add_zero]

end Cert.Ffn

end
-- ==== Proof.FfnHost.lean ====
module

public import proofs.«01_k».proof.Proof.FfnStep
public import proofs.«01_k».proof.Proof.FfnRef

@[expose] public section

set_option maxRecDepth 16384

noncomputable section

open Idealize.ShloMosaic Idealize.ShloMosaic.TcCoe Idealize.SL.Sem

namespace Cert.Ffn

open Cert.Kernel2Ideal Cert.Kernel2Ideal.Gen

variable (m : (ℓ : Loc nD τ sig) → Buf (Elt Ideal) ℓ)

/-- The rows are the first argument, reshaped. -/
theorem X_eq (c : Dev nD) : X m c = shapeCast S32768x2048 (show FVec Ideal S16x2048x2048 .f32 from m ((c : Thread nD τ).loc main_arg0)) shapeCasts_S16x2048x2048_S32768x2048 := by
  unfold X V
  simp only [List.flatten_cons, List.flatten_nil, List.append_nil, List.cons_append, List.nil_append]
  after_results
  rfl

/-- The gate weights are padded by 128 units of zeros. -/
theorem WG_eq (c : Dev nD) : WG m c = pad S2048x5632 ![0, 0] ![0, 128] ![0, 0]
    (truncf (F := Ideal) .bf16 (shapeCast S2048x5504 (show FVec Ideal S1x2048x5504 .f32 from m ((c : Thread nD τ).loc main_arg2)) shapeCasts_S1x2048x5504_S2048x5504) bitsLt_bf16_f32)
    (sitofp (F := Ideal) .bf16 (constantI S_ 32 0#32)) pads_S2048x5504_S2048x5632_000_01280 h_S_ := by
  unfold WG V
  simp only [List.flatten_cons, List.flatten_nil, List.append_nil, List.cons_append, List.nil_append]
  after_results
  rfl

/-- The up weights are padded by 128 units of zeros. -/
theorem WU_eq (c : Dev nD) : WU m c = pad S2048x5632 ![0, 0] ![0, 128] ![0, 0]
    (truncf (F := Ideal) .bf16 (shapeCast S2048x5504 (show FVec Ideal S1x2048x5504 .f32 from m ((c : Thread nD τ).loc main_arg3)) shapeCasts_S1x2048x5504_S2048x5504) bitsLt_bf16_f32)
    (sitofp (F := Ideal) .bf16 (constantI S_ 32 0#32)) pads_S2048x5504_S2048x5632_000_01280 h_S_ := by
  unfold WU V
  simp only [List.flatten_cons, List.flatten_nil, List.append_nil, List.cons_append, List.nil_append]
  after_results
  rfl

/-- The down weights are padded by 128 units of zeros. -/
theorem WD_eq (c : Dev nD) : WD m c = pad S5632x2048 ![0, 0] ![128, 0] ![0, 0]
    (truncf (F := Ideal) .bf16 (shapeCast S5504x2048 (show FVec Ideal S1x5504x2048 .f32 from m ((c : Thread nD τ).loc main_arg4)) shapeCasts_S1x5504x2048_S5504x2048) bitsLt_bf16_f32)
    (sitofp (F := Ideal) .bf16 (constantI S_ 32 0#32)) pads_S5504x2048_S5632x2048_01280_000 h_S_ := by
  unfold WD V
  simp only [List.flatten_cons, List.flatten_nil, List.append_nil, List.cons_append, List.nil_append]
  after_results
  rfl

/-- The last gain is the last argument, one row. -/
theorem GF_eq (c : Dev nD) : GF m c = broadcastInDim S1x2048 ![1] bcast_S2048_S1x2048_1 (show FVec Ideal S2048 .f32 from m ((c : Thread nD τ).loc main_arg5)) := by
  unfold GF V
  simp only [List.flatten_cons, List.flatten_nil, List.append_nil, List.cons_append, List.nil_append]
  after_results

/-- The padding value is zero. -/
theorem fill : FloatOps.sitofp (F := Ideal) .bf16 (0#32 : BitVec 32) = 0 := by
  show ((((0#32 : BitVec 32).toInt : ℤ) : ℝ) : EReal) = 0
  simp

/-- The rows, read in the argument. -/
theorem X_at (c : Dev nD) (R : Fin 32768) (i : Fin 2048) :
    X m c (ix2 R i) = (show FVec Ideal S16x2048x2048 .f32 from m ((c : Thread nD τ).loc main_arg0)) (ix3 ⟨R / 2048, by omega⟩ ⟨R % 2048, by omega⟩ i) := by
  rw [X_eq]
  pointwise

/-- The first gain is the argument. -/
theorem G_at (c : Dev nD) (i : Fin 2048) : G m c (ix2 0 i) = (show FVec Ideal S1x2048 .f32 from m ((c : Thread nD τ).loc main_arg1)) (ix2 0 i) := by
  unfold G
  rw [V_main_arg1]

/-- The padded gate weights on the units of the layer. -/
theorem WG_at (c : Dev nD) (i : Fin 2048) (k : Fin 5504) :
    WG m c (ix2 i ⟨k, by omega⟩) = (show FVec Ideal S1x2048x5504 .f32 from m ((c : Thread nD τ).loc main_arg2)) (ix3 0 i k) := by
  rw [WG_eq]
  pointwise

/-- The padded up weights on the units of the layer. -/
theorem WU_at (c : Dev nD) (i : Fin 2048) (k : Fin 5504) :
    WU m c (ix2 i ⟨k, by omega⟩) = (show FVec Ideal S1x2048x5504 .f32 from m ((c : Thread nD τ).loc main_arg3)) (ix3 0 i k) := by
  rw [WU_eq]
  pointwise

/-- The padded down weights on the units of the layer. -/
theorem WD_at (c : Dev nD) (k : Fin 5504) (o : Fin 2048) :
    WD m c (ix2 ⟨k, by omega⟩ o) = (show FVec Ideal S1x5504x2048 .f32 from m ((c : Thread nD τ).loc main_arg4)) (ix3 0 k o) := by
  rw [WD_eq]
  pointwise

/-- The padding of the down weights is zero. -/
theorem WD_pad (c : Dev nD) (k : Fin 128) (o : Fin 2048) :
    WD m c (ix2 ⟨5504 + k, by omega⟩ o) = 0 := by
  rw [WD_eq]
  pointwise
  exact fill

/-- The last gain is the argument. -/
theorem GF_at (c : Dev nD) (i : Fin 2048) : GF m c (ix2 0 i) = (show FVec Ideal S2048 .f32 from m ((c : Thread nD τ).loc main_arg5)) (ix1 i) := by
  rw [GF_eq]
  pointwise

end Cert.Ffn

end
-- ==== Proof.Ffn.lean ====
module

public import proofs.«01_k».proof.Proof.FfnHost

@[expose] public section

set_option maxRecDepth 16384

noncomputable section

open Idealize.ShloMosaic Idealize.ShloMosaic.TcCoe Idealize.SL.Sem

namespace Cert.Ffn

open Cert.Kernel2Ideal Cert.Kernel2Ideal.Gen

variable (m : (ℓ : Loc nD τ sig) → Buf (Elt Ideal) ℓ)

/-- The row `R` of the first argument. -/
def xrow (c : Dev nD) (R : Fin 32768) (i : Fin 2048) : EReal :=
  (show FVec Ideal S16x2048x2048 .f32 from m ((c : Thread nD τ).loc main_arg0)) (ix3 ⟨R / 2048, by omega⟩ ⟨R % 2048, by omega⟩ i)

/-- The first gain. -/
def gain (c : Dev nD) (i : Fin 2048) : EReal := (show FVec Ideal S1x2048 .f32 from m ((c : Thread nD τ).loc main_arg1)) (ix2 0 i)
/-- The last gain. -/
def gainF (c : Dev nD) (i : Fin 2048) : EReal := (show FVec Ideal S2048 .f32 from m ((c : Thread nD τ).loc main_arg5)) (ix1 i)
/-- The gate weights of a hidden unit. -/
def wgate (c : Dev nD) (k : Fin 5504) (i : Fin 2048) : EReal := (show FVec Ideal S1x2048x5504 .f32 from m ((c : Thread nD τ).loc main_arg2)) (ix3 0 i k)
/-- The up weights of a hidden unit. -/
def wup (c : Dev nD) (k : Fin 5504) (i : Fin 2048) : EReal := (show FVec Ideal S1x2048x5504 .f32 from m ((c : Thread nD τ).loc main_arg3)) (ix3 0 i k)
/-- The down weight of a hidden unit. -/
def wdown (c : Dev nD) (k : Fin 5504) (o : Fin 2048) : EReal := (show FVec Ideal S1x5504x2048 .f32 from m ((c : Thread nD τ).loc main_arg4)) (ix3 0 k o)

/-- What a hidden unit with gate weights `a`, up weights `b` and down weight `d` makes of the row `h`. -/
def unit (h a b : Fin 2048 → EReal) (d : EReal) : EReal :=
  (∑ i : Fin 2048, h i * a i) * Ideal.logistic (∑ i : Fin 2048, h i * a i) * (∑ i : Fin 2048, h i * b i) * d

/-- The normalised row, in terms of the arguments. -/
theorem hrow_eq (c : Dev nD) (R : Fin 32768) : hrow m c R = nrm (xrow m c R) (gain m c) :=
  funext fun i => (show hrow m c R i = nrm (fun i => X m c (ix2 R i)) (fun i => G m c (ix2 0 i)) i from rfl).trans
    (congrArg₂ (fun f g => nrm f g i) (funext fun i => X_at m c R i) (funext fun i => G_at m c i))

/-- A hidden unit's term, in terms of the arguments. -/
theorem term_eq (c : Dev nD) (R : Fin 32768) (o : Fin 2048) (k : Fin 5504) :
    term m c R o ⟨k, by omega⟩ = Ideal.ofBits .f32 0x3F000000#32 * unit (nrm (xrow m c R) (gain m c)) (wgate m c k) (wup m c k) (wdown m c k o) := by
  refine Eq.trans (b := Ideal.ofBits .f32 0x3F000000#32 * unit (hrow m c R) (fun i => WG m c (ix2 i ⟨k, by omega⟩))
    (fun i => WU m c (ix2 i ⟨k, by omega⟩)) (WD m c (ix2 ⟨k, by omega⟩ o))) ?_ ?_
  · unfold term unit
    rw [mul_assoc]
  · rw [hrow_eq, show (fun i => WG m c (ix2 i ⟨k, by omega⟩)) = wgate m c k from funext fun i => WG_at m c i k,
      show (fun i => WU m c (ix2 i ⟨k, by omega⟩)) = wup m c k from funext fun i => WU_at m c i k,
      show WD m c (ix2 ⟨k, by omega⟩ o) = wdown m c k o from WD_at m c k o]

/-- The sum of all tiles is the layer's sum over its 5504 hidden units. -/
theorem sum_eq (c : Dev nD) (R : Fin 32768) (o : Fin 2048) :
    ∑ s ∈ Finset.range 11, part m c R o s = Ideal.ofBits .f32 0x3F000000#32
      * ∑ k : Fin 5504, unit (nrm (xrow m c R) (gain m c)) (wgate m c k) (wup m c k) (wdown m c k o) := by
  unfold part
  refine (sum_parts (term m c R o)).trans ?_
  rw [sum_cut _ (fun k => by unfold term; rw [WD_pad, mul_zero]), ← half_mul_sum]
  exact Finset.sum_congr rfl fun k _ => term_eq m c R o k

/-- The result array after the run is the reference's term of the arguments. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  obtain ⟨r, o, rfl⟩ : ∃ (r : Fin 1024) (o : Fin 2048), y = ix2 r o := ⟨y 0, y 1, eq_ix2 y⟩
  have h1 : t.val % 11 = 10 := (flush0_6 t).mp hf
  have h2 : t.val / 11 < 32 := (idx t).2.2.2.2.2.2.2
  have e : ((cfg0.win 6).blk t).view.emb (ix2 r o) = ix2 (⟨t.val / 11 * 1024 + r, by omega⟩ : Fin 32768) o := by
    blk_ext [idx t]
  rw [e]
  refine (outs m c t h1 r o ⟨t.val / 11 * 1024 + r, by omega⟩ rfl
    (fun o => xrow m c ⟨t.val / 11 * 1024 + r, by omega⟩ o + Ideal.ofBits .f32 0x3F000000#32
      * ∑ k : Fin 5504, unit (nrm (xrow m c ⟨t.val / 11 * 1024 + r, by omega⟩) (gain m c)) (wgate m c k) (wup m c k) (wdown m c k o))
    (fun i => congrArg₂ (· + ·) (X_at m c _ i) (sum_eq m c _ i))).trans ?_
  refine Eq.trans ?_ (ref_at _ _ _ _ _ _ ⟨t.val / 11 * 1024 + r, by omega⟩ o).symm
  rw [GF_at]
  rfl
end Cert.Ffn

end
-- ==== Proof.Disc.lean ====
module

public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.DiscRef

open Cert.Reference6Ideal Cert.Reference6Ideal.Gen Cert.Reference6Ideal.Value

/-- The step size of each channel: the exponential of its logarithm. -/
def STEP (s : FVec Ideal S1x64 .f32) : FVec Ideal S64x64 .f32 :=
  broadcastInDim S64x64 ![0, 1] bcast_S64x1_S64x64_0_1 (broadcastInDim S64x1 ![0] bcast_S64_S64x1_0 (Host.exp (shapeCast S64 s shapeCasts_S1x64_S64)))
/-- A 64 by 64 argument without its unit axis. -/
def SQ (l : FVec Ideal S1x64x64 .f32) : FVec Ideal S64x64 .f32 := shapeCast S64x64 l shapeCasts_S1x64x64_S64x64
/-- A 64 by 64 by 16 argument without its unit axis. -/
def CU (b : FVec Ideal S1x64x64x16 .f32) : FVec Ideal S64x64x16 .f32 := shapeCast S64x64x16 b shapeCasts_S1x64x64x16_S64x64x16
/-- The real part of the discrete transition: the exponential of the step times the pole. -/
def LRE (lr li : FVec Ideal S1x64x64 .f32) (s : FVec Ideal S1x64 .f32) : FVec Ideal S64x64 .f32 :=
  mulf (Host.exp (mulf (SQ lr) (STEP s))) (Host.cos (mulf (SQ li) (STEP s)))
/-- Its imaginary part. -/
def LIM (lr li : FVec Ideal S1x64x64 .f32) (s : FVec Ideal S1x64 .f32) : FVec Ideal S64x64 .f32 :=
  mulf (Host.exp (mulf (SQ lr) (STEP s))) (Host.sin (mulf (SQ li) (STEP s)))
/-- The real part of the transition, less one. -/
def LM1 (lr li : FVec Ideal S1x64x64 .f32) (s : FVec Ideal S1x64 .f32) : FVec Ideal S64x64 .f32 :=
  subf (LRE lr li s) (broadcastInDim S64x64 ![] bcast_S_S64x64 (constant S_ .f32 0x3F800000#32))
/-- The squared modulus of the pole. -/
def DEN (lr li : FVec Ideal S1x64x64 .f32) : FVec Ideal S64x64 .f32 := addf (mulf (SQ lr) (SQ lr)) (mulf (SQ li) (SQ li))
/-- The real part of the factor of the input matrix: the transition less one, divided by the pole. -/
def QRE (lr li : FVec Ideal S1x64x64 .f32) (s : FVec Ideal S1x64 .f32) : FVec Ideal S64x64 .f32 :=
  Host.divf (addf (mulf (LM1 lr li s) (SQ lr)) (mulf (LIM lr li s) (SQ li))) (DEN lr li)
/-- Its imaginary part. -/
def QIM (lr li : FVec Ideal S1x64x64 .f32) (s : FVec Ideal S1x64 .f32) : FVec Ideal S64x64 .f32 :=
  Host.divf (subf (mulf (LIM lr li s) (SQ lr)) (mulf (LM1 lr li s) (SQ li))) (DEN lr li)
/-- A factor per channel and state, for every input. -/
def UP (q : FVec Ideal S64x64 .f32) : FVec Ideal S64x64x16 .f32 :=
  broadcastInDim S64x64x16 ![0, 1, 2] bcast_S64x64x1_S64x64x16_0_1_2 (broadcastInDim S64x64x1 ![0, 1] bcast_S64x64_S64x64x1_0_1 q)
/-- The real part of the discrete input matrix, the inputs leading. -/
def BRE (lr li : FVec Ideal S1x64x64 .f32) (s : FVec Ideal S1x64 .f32) (br bi : FVec Ideal S1x64x64x16 .f32) : FVec Ideal S16x64x64 .f32 :=
  transpose S16x64x64 [2, 0, 1] (subf (mulf (UP (QRE lr li s)) (CU br)) (mulf (UP (QIM lr li s)) (CU bi))) transposes_S64x64x16_S16x64x64_2_0_1
/-- Its imaginary part. -/
def BIM (lr li : FVec Ideal S1x64x64 .f32) (s : FVec Ideal S1x64 .f32) (br bi : FVec Ideal S1x64x64x16 .f32) : FVec Ideal S16x64x64 .f32 :=
  transpose S16x64x64 [2, 0, 1] (addf (mulf (UP (QRE lr li s)) (CU bi)) (mulf (UP (QIM lr li s)) (CU br))) transposes_S64x64x16_S16x64x64_2_0_1

variable (m : (ℓ : Loc nD τ sig) → Buf (Elt Ideal) ℓ)

/-- The reference's third result is the real part of the input matrix. -/
theorem res2_eq (c : Dev nD) : Value.res_out2 m c
    = BRE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The reference's fourth result is its imaginary part. -/
theorem res3_eq (c : Dev nD) : Value.res_out3 m c
    = BIM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.DiscRef

namespace Cert.Disc

open Cert.Kernel6Ideal Cert.Kernel6Ideal.Gen

variable (m : (ℓ : Loc nD τ sig) → Buf (Elt Ideal) ℓ)

/-- The block index of every window at the grid's only point. -/
theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0, 0] :=
  (by decide +kernel : ∀ t : Fin grid0.N, _)

/-- The poles' real parts. -/
abbrev A (c : Dev nD) : FVec Ideal S1x64x64 .f32 := m ((c : Thread nD τ).loc main_arg0)
/-- The poles' imaginary parts. -/
abbrev B (c : Dev nD) : FVec Ideal S1x64x64 .f32 := m ((c : Thread nD τ).loc main_arg1)
/-- The logarithms of the steps. -/
abbrev S (c : Dev nD) : FVec Ideal S1x64 .f32 := m ((c : Thread nD τ).loc main_arg2)
/-- The input matrix's real part. -/
abbrev P (c : Dev nD) : FVec Ideal S1x64x64x16 .f32 := m ((c : Thread nD τ).loc main_arg3)
/-- The input matrix's imaginary part. -/
abbrev Q (c : Dev nD) : FVec Ideal S1x64x64x16 .f32 := m ((c : Thread nD τ).loc main_arg4)

/-- What the call is given: the poles' real parts. -/
abbrev X0 (c : Dev nD) : FVec Ideal S64x64 .f32 := V m c main_v0
/-- It is that of the arguments. -/
theorem X0_eq (c : Dev nD) : X0 m c = shapeCast S64x64 (A m c) shapeCasts_S1x64x64_S64x64 := by
  unfold X0 V
  after_results
  rfl

/-- What the call is given: the poles' imaginary parts. -/
abbrev X1 (c : Dev nD) : FVec Ideal S64x64 .f32 := V m c main_v1
/-- It is that of the arguments. -/
theorem X1_eq (c : Dev nD) : X1 m c = shapeCast S64x64 (B m c) shapeCasts_S1x64x64_S64x64 := by
  unfold X1 V
  after_results
  rfl

/-- What the call is given: the logarithms of the steps, for every state. -/
abbrev X2 (c : Dev nD) : FVec Ideal S64x64 .f32 := V m c main_v4
/-- It is that of the arguments. -/
theorem X2_eq (c : Dev nD) : X2 m c = broadcastInDim S64x64 ![0, 1] bcast_S64x1_S64x64_0_1 (broadcastInDim S64x1 ![0] bcast_S64_S64x1_0 (shapeCast S64 (S m c) shapeCasts_S1x64_S64)) := by
  unfold X2 V
  simp only [List.flatten_cons, List.flatten_nil, List.append_nil, List.cons_append, List.nil_append]
  after_results
  rfl

/-- What the call is given: the input matrix's real part, the inputs leading. -/
abbrev X3 (c : Dev nD) : FVec Ideal S16x64x64 .f32 := V m c main_v6
/-- It is that of the arguments. -/
theorem X3_eq (c : Dev nD) : X3 m c = transpose S16x64x64 [2, 0, 1] (shapeCast S64x64x16 (P m c) shapeCasts_S1x64x64x16_S64x64x16) transposes_S64x64x16_S16x64x64_2_0_1 := by
  unfold X3 V
  simp only [List.flatten_cons, List.flatten_nil, List.append_nil, List.cons_append, List.nil_append]
  after_results
  rfl

/-- What the call is given: the input matrix's imaginary part, the inputs leading. -/
abbrev X4 (c : Dev nD) : FVec Ideal S16x64x64 .f32 := V m c main_v8
/-- It is that of the arguments. -/
theorem X4_eq (c : Dev nD) : X4 m c = transpose S16x64x64 [2, 0, 1] (shapeCast S64x64x16 (Q m c) shapeCasts_S1x64x64x16_S64x64x16) transposes_S64x64x16_S16x64x64_2_0_1 := by
  unfold X4 V
  simp only [List.flatten_cons, List.flatten_nil, List.append_nil, List.cons_append, List.nil_append]
  after_results
  rfl

/-- A block's entry is the array's. -/
theorem blk0 (c : Dev nD) (t : Fin cfg0.N) : iblk m c 0 t = X0 m c := by
  funext y
  show X0 m c (((cfg0.win 0).blk t).view.emb y) = X0 m c y
  congr 1
  blk_ext [idx t]

/-- A block's entry is the array's. -/
theorem blk1 (c : Dev nD) (t : Fin cfg0.N) : iblk m c 1 t = X1 m c := by
  funext y
  show X1 m c (((cfg0.win 1).blk t).view.emb y) = X1 m c y
  congr 1
  blk_ext [idx t]

/-- A block's entry is the array's. -/
theorem blk2 (c : Dev nD) (t : Fin cfg0.N) : iblk m c 2 t = X2 m c := by
  funext y
  show X2 m c (((cfg0.win 2).blk t).view.emb y) = X2 m c y
  congr 1
  blk_ext [idx t]

/-- A block's entry is the array's. -/
theorem blk3 (c : Dev nD) (t : Fin cfg0.N) : iblk m c 3 t = X3 m c := by
  funext y
  show X3 m c (((cfg0.win 3).blk t).view.emb y) = X3 m c y
  congr 1
  blk_ext [idx t]

/-- A block's entry is the array's. -/
theorem blk4 (c : Dev nD) (t : Fin cfg0.N) : iblk m c 4 t = X4 m c := by
  funext y
  show X4 m c (((cfg0.win 4).blk t).view.emb y) = X4 m c y
  congr 1
  blk_ext [idx t]

/-- The real part of the transition: a cell of what the call writes is the reference's. -/
theorem out5_at (c : Dev nD) (g n : Fin 64) : out0_5 (F := Ideal) (X0 m c) (X1 m c) (X2 m c) (X3 m c) (X4 m c) (ix2 g n) = Cert.DiscRef.LRE (A m c) (B m c) (S m c) (ix2 g n) := by
  unfold out0_5
  frame_out
  rw [X0_eq, X1_eq, X2_eq]
  pointwise [k0_pay1, k0_pay2, k0_pay3, k0_pay4, k0_pay5, k0_pay6, k0_pay7, k0_pay8, k0_pay9, k0_pay10, k0_pay11, k0_pay12, k0_pay13, k0_pay14, k0_pay15, Cert.DiscRef.STEP, Cert.DiscRef.SQ, Cert.DiscRef.CU, Cert.DiscRef.LRE, Cert.DiscRef.LIM, Cert.DiscRef.LM1, Cert.DiscRef.DEN, Cert.DiscRef.QRE, Cert.DiscRef.QIM, Cert.DiscRef.UP, Cert.DiscRef.BRE, Cert.DiscRef.BIM]

/-- The real part of the transition: the array after the run is the reference's. -/
theorem final5 (c : Dev nD) : (dats m 0 c).arrAt 5 (cfgs 0).N = Cert.DiscRef.LRE (A m c) (B m c) (S m c) := by
  refine (dats m 0 c).arrAt_eq_of_covers 5 _ (by decide +kernel) fun t hf y => ?_
  blk_simp
  rw [after0_5]
  obtain ⟨g, n, rfl⟩ : ∃ (g n : Fin 64), y = ix2 g n := ⟨y 0, y 1, eq_ix2 y⟩
  have e : ((cfg0.win 5).blk t).view.emb (ix2 g n) = ix2 g n := by
    blk_ext [idx t]
  rw [e, blk0, blk1, blk2, blk3, blk4]
  exact out5_at m c g n

/-- The imaginary part of the transition: a cell of what the call writes is the reference's. -/
theorem out6_at (c : Dev nD) (g n : Fin 64) : out0_6 (F := Ideal) (X0 m c) (X1 m c) (X2 m c) (X3 m c) (X4 m c) (ix2 g n) = Cert.DiscRef.LIM (A m c) (B m c) (S m c) (ix2 g n) := by
  unfold out0_6
  frame_out
  rw [X0_eq, X1_eq, X2_eq]
  pointwise [k0_pay1, k0_pay2, k0_pay3, k0_pay4, k0_pay5, k0_pay6, k0_pay7, k0_pay8, k0_pay9, k0_pay10, k0_pay11, k0_pay12, k0_pay13, k0_pay14, k0_pay15, Cert.DiscRef.STEP, Cert.DiscRef.SQ, Cert.DiscRef.CU, Cert.DiscRef.LRE, Cert.DiscRef.LIM, Cert.DiscRef.LM1, Cert.DiscRef.DEN, Cert.DiscRef.QRE, Cert.DiscRef.QIM, Cert.DiscRef.UP, Cert.DiscRef.BRE, Cert.DiscRef.BIM]

/-- The imaginary part of the transition: the array after the run is the reference's. -/
theorem final6 (c : Dev nD) : (dats m 0 c).arrAt 6 (cfgs 0).N = Cert.DiscRef.LIM (A m c) (B m c) (S m c) := by
  refine (dats m 0 c).arrAt_eq_of_covers 6 _ (by decide +kernel) fun t hf y => ?_
  blk_simp
  rw [after0_6]
  obtain ⟨g, n, rfl⟩ : ∃ (g n : Fin 64), y = ix2 g n := ⟨y 0, y 1, eq_ix2 y⟩
  have e : ((cfg0.win 6).blk t).view.emb (ix2 g n) = ix2 g n := by
    blk_ext [idx t]
  rw [e, blk0, blk1, blk2, blk3, blk4]
  exact out6_at m c g n

/-- The real part of the input matrix: a cell of what the call writes is the reference's. -/
theorem out7_at (c : Dev nD) (k : Fin 16) (g n : Fin 64) : out0_7 (F := Ideal) (X0 m c) (X1 m c) (X2 m c) (X3 m c) (X4 m c) (ix3 k g n) = Cert.DiscRef.BRE (A m c) (B m c) (S m c) (P m c) (Q m c) (ix3 k g n) := by
  unfold out0_7
  frame_out
  rw [X0_eq, X1_eq, X2_eq, X3_eq, X4_eq]
  pointwise [k0_pay1, k0_pay2, k0_pay3, k0_pay4, k0_pay5, k0_pay6, k0_pay7, k0_pay8, k0_pay9, k0_pay10, k0_pay11, k0_pay12, k0_pay13, k0_pay14, k0_pay15, Cert.DiscRef.STEP, Cert.DiscRef.SQ, Cert.DiscRef.CU, Cert.DiscRef.LRE, Cert.DiscRef.LIM, Cert.DiscRef.LM1, Cert.DiscRef.DEN, Cert.DiscRef.QRE, Cert.DiscRef.QIM, Cert.DiscRef.UP, Cert.DiscRef.BRE, Cert.DiscRef.BIM]

/-- The real part of the input matrix: the array after the run is the reference's. -/
theorem final7 (c : Dev nD) : (dats m 0 c).arrAt 7 (cfgs 0).N = Cert.DiscRef.BRE (A m c) (B m c) (S m c) (P m c) (Q m c) := by
  refine (dats m 0 c).arrAt_eq_of_covers 7 _ (by decide +kernel) fun t hf y => ?_
  blk_simp
  rw [after0_7]
  obtain ⟨k, g, n, rfl⟩ : ∃ (k : Fin 16) (g n : Fin 64), y = ix3 k g n := ⟨y 0, y 1, y 2, eq_ix3 y⟩
  have e : ((cfg0.win 7).blk t).view.emb (ix3 k g n) = ix3 k g n := by
    blk_ext [idx t]
  rw [e, blk0, blk1, blk2, blk3, blk4]
  exact out7_at m c k g n

/-- The imaginary part of the input matrix: a cell of what the call writes is the reference's. -/
theorem out8_at (c : Dev nD) (k : Fin 16) (g n : Fin 64) : out0_8 (F := Ideal) (X0 m c) (X1 m c) (X2 m c) (X3 m c) (X4 m c) (ix3 k g n) = Cert.DiscRef.BIM (A m c) (B m c) (S m c) (P m c) (Q m c) (ix3 k g n) := by
  unfold out0_8
  frame_out
  rw [X0_eq, X1_eq, X2_eq, X3_eq, X4_eq]
  pointwise [k0_pay1, k0_pay2, k0_pay3, k0_pay4, k0_pay5, k0_pay6, k0_pay7, k0_pay8, k0_pay9, k0_pay10, k0_pay11, k0_pay12, k0_pay13, k0_pay14, k0_pay15, Cert.DiscRef.STEP, Cert.DiscRef.SQ, Cert.DiscRef.CU, Cert.DiscRef.LRE, Cert.DiscRef.LIM, Cert.DiscRef.LM1, Cert.DiscRef.DEN, Cert.DiscRef.QRE, Cert.DiscRef.QIM, Cert.DiscRef.UP, Cert.DiscRef.BRE, Cert.DiscRef.BIM]

/-- The imaginary part of the input matrix: the array after the run is the reference's. -/
theorem final8 (c : Dev nD) : (dats m 0 c).arrAt 8 (cfgs 0).N = Cert.DiscRef.BIM (A m c) (B m c) (S m c) (P m c) (Q m c) := by
  refine (dats m 0 c).arrAt_eq_of_covers 8 _ (by decide +kernel) fun t hf y => ?_
  blk_simp
  rw [after0_8]
  obtain ⟨k, g, n, rfl⟩ : ∃ (k : Fin 16) (g n : Fin 64), y = ix3 k g n := ⟨y 0, y 1, y 2, eq_ix3 y⟩
  have e : ((cfg0.win 8).blk t).view.emb (ix3 k g n) = ix3 k g n := by
    blk_ext [idx t]
  rw [e, blk0, blk1, blk2, blk3, blk4]
  exact out8_at m c k g n

end Cert.Disc

end
-- ==== Proof.ProjRef.lean ====
module

public import proofs.«01_k».proof.Proof.Gen.Reference4Ideal.Run
public import Idealize.ShloMosaic.Lib.Pointwise

@[expose] public section

set_option maxRecDepth 16384

noncomputable section

open Idealize.ShloMosaic Idealize.ShloMosaic.TcCoe Idealize.SL.Sem

namespace Cert.Proj

/-- Entry `o` of the row `f`, normalised by its root mean square, with gain `g`. -/
def nrm (f g : Fin 2048 → EReal) (o : Fin 2048) : EReal :=
  f o * Ideal.rsqrt (Ideal.div (∑ i : Fin 2048, f i * f i) (Ideal.ofBits .f32 0x45000000#32) + Ideal.ofBits .f32 0x358637BD#32) * g o

/-- Column `j` of the regrouped weights: the convolution's columns, the gate's, the second half's, the step sizes' and zeros. -/
def col (w : Fin 4112 → EReal) (j : Fin 4224) : EReal :=
  if h1 : (j : ℕ) < 2048 then w ⟨1024 + j, by omega⟩ else if h2 : (j : ℕ) - 2048 < 1024 then w ⟨j - 2048, by omega⟩
  else if h3 : (j : ℕ) - 2048 - 1024 < 1024 then w ⟨3088 + (j - 2048 - 1024), by omega⟩
  else if h4 : (j : ℕ) - 2048 - 1024 - 1024 < 16 then w ⟨3072 + (j - 2048 - 1024 - 1024), by omega⟩ else 0

/-- The padding value is zero. -/
theorem fill : FloatOps.sitofp (F := Ideal) .f32 (0#32 : BitVec 32) = 0 := by
  show ((((0#32 : BitVec 32).toInt : ℤ) : ℝ) : EReal) = 0
  simp

open Cert.Reference4Ideal Cert.Reference4Ideal.Gen

/-- The reference's result as a term of its three arguments. -/
def REF (x : FVec Ideal S256x2048 .f32) (g : FVec Ideal S1x2048 .f32) (w : FVec Ideal S1x2048x4112 .f32) : FVec Ideal S256x4224 .f32 :=
  (concatenate S256x4224 1 [⟨S256x2048, ((extractStridedSlice S256x2048 ![0, 1024] (Host.dotGeneral dot_S256x2048_S2048x4112_S256x4112_1_0_0_1_n_n none (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ g shapeCasts_S1x2048_S2048)))) (shapeCast _ w shapeCasts_S1x2048x4112_S2048x4112)) slices_S256x4112_S256x2048_0_1024) : FVec Ideal S256x2048 .f32)⟩, ⟨S256x1024, ((extractStridedSlice S256x1024 ![0, 0] (Host.dotGeneral dot_S256x2048_S2048x4112_S256x4112_1_0_0_1_n_n none (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ g shapeCasts_S1x2048_S2048)))) (shapeCast _ w shapeCasts_S1x2048x4112_S2048x4112)) slices_S256x4112_S256x1024_0_0) : FVec Ideal S256x1024 .f32)⟩, ⟨S256x1024, ((extractStridedSlice S256x1024 ![0, 3088] (Host.dotGeneral dot_S256x2048_S2048x4112_S256x4112_1_0_0_1_n_n none (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ g shapeCasts_S1x2048_S2048)))) (shapeCast _ w shapeCasts_S1x2048x4112_S2048x4112)) slices_S256x4112_S256x1024_0_3088) : FVec Ideal S256x1024 .f32)⟩, ⟨S256x128, ((pad S256x128 ![0, 0] ![0, 112] ![0, 0] (extractStridedSlice S256x16 ![0, 3072] (Host.dotGeneral dot_S256x2048_S2048x4112_S256x4112_1_0_0_1_n_n none (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ g shapeCasts_S1x2048_S2048)))) (shapeCast _ w shapeCasts_S1x2048x4112_S2048x4112)) slices_S256x4112_S256x16_0_3072) (sitofp .f32 (constantI S_ 32 0#32)) pads_S256x16_S256x128_000_01120 h_S_) : FVec Ideal S256x128 .f32)⟩] concatenates_S256x2048_S256x1024_S256x1024_S256x128_S256x4224_d1 : FVec Ideal S256x4224 .f32)

/-- The reference's run leaves that term of its arguments. -/
theorem ref_eq (m : (ℓ : Loc nD τ sig) → Buf (Elt Ideal) ℓ) (c : Dev nD) : Cert.Reference4Ideal.Value.res_main_v21 m c
    = REF (m ((c : Thread nD τ).loc main_arg0)) (m ((c : Thread nD τ).loc main_arg1)) (m ((c : Thread nD τ).loc main_arg2)) := by
  unfold Cert.Reference4Ideal.Value.res_main_v21 REF
  rfl

/-- The reference's result, entry by entry. -/
theorem ref_at (x : FVec Ideal S256x2048 .f32) (g : FVec Ideal S1x2048 .f32) (w : FVec Ideal S1x2048x4112 .f32) (r : Fin 256) (j : Fin 4224) :
    REF x g w (ix2 r j) = ∑ i : Fin 2048, nrm (fun i => x (ix2 r i)) (fun i => g (ix2 0 i)) i * col (fun k => w (ix3 0 i k)) j := by
  pointwise [REF, nrm, col]
  by_cases h1 : (j : ℕ) < 2048
  · simp only [dif_pos h1]
  by_cases h2 : (j : ℕ) - 2048 < 1024
  · simp only [dif_neg h1, dif_pos h2]
  by_cases h3 : (j : ℕ) - 2048 - 1024 < 1024
  · simp only [dif_neg h1, dif_neg h2, dif_pos h3]
  by_cases h4 : (j : ℕ) - 2048 - 1024 - 1024 < 16
  · simp only [dif_neg h1, dif_neg h2, dif_neg h3, dif_pos h4]
  · simp only [dif_neg h1, dif_neg h2, dif_neg h3, dif_neg h4, mul_zero, Finset.sum_const_zero]
    exact fill

end Cert.Proj

end
-- ==== Proof.Cast.lean ====
module

public import proofs.«01_k».proof.Proof.Gen.Kernel8Ideal.Frame
public import proofs.«01_k».proof.Proof.Gen.Kernel9Ideal.Frame
public import proofs.«01_k».proof.Proof.Gen.Kernel10Ideal.Frame
public import proofs.«01_k».proof.Proof.Gen.Reference8Ideal.Run
public import proofs.«01_k».proof.Proof.Gen.Reference9Ideal.Run
public import proofs.«01_k».proof.Proof.Gen.Reference10Ideal.Run
public import proofs.«01_k».proof.Proof.ProjRef
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem

namespace Cert.CastREF8

open Cert.Reference8Ideal Cert.Reference8Ideal.Gen

/-- The reference's result as a term of its argument. -/
def REF (w : FVec Ideal S1x2048x5504 .f32) : FVec Ideal S2048x5632 .bf16 :=
  truncf .bf16 (pad S2048x5632 ![0, 0] ![0, 128] ![0, 0] (shapeCast S2048x5504 w shapeCasts_S1x2048x5504_S2048x5504) (sitofp .f32 (constantI S_ 32 0#32)) pads_S2048x5504_S2048x5632_000_01280 h_S_) bitsLt_bf16_f32

/-- The reference's result, entry by entry. -/
theorem ref_at (w : FVec Ideal S1x2048x5504 .f32) (r : Fin 2048) (j : Fin 5632) : REF w (ix2 r j) = if h : (j : ℕ) < 5504 then w (ix3 0 r ⟨j, h⟩) else 0 := by
  pointwise [REF]
  by_cases h : (j : ℕ) < 5504
  · simp only [dif_pos h]
  · simp only [dif_neg h]
    exact Cert.Proj.fill

end Cert.CastREF8

namespace Cert.Cast8

open Cert.Kernel8Ideal Cert.Kernel8Ideal.Gen

variable (m : (ℓ : Loc nD τ sig) → Buf (Elt Ideal) ℓ)

/-- The block index of both windows at grid point `t`. -/
theorem idx : ∀ t : Fin cfg0.N, win0_0.index t = ![t.val, 0] ∧ win0_1.index t = ![t.val, 0] ∧ t.val < 8 :=
  (by decide +kernel : ∀ t : Fin grid0.N, _)

/-- The argument. -/
abbrev A (c : Dev nD) : FVec Ideal S1x2048x5504 .f32 := m ((c : Thread nD τ).loc main_arg0)
/-- What the call is given: the argument without its unit axis. -/
abbrev X (c : Dev nD) : FVec Ideal S2048x5504 .f32 := V m c main_v0
/-- It is that of the argument. -/
theorem X_eq (c : Dev nD) : X m c = shapeCast S2048x5504 (A m c) shapeCasts_S1x2048x5504_S2048x5504 := by
  unfold X V
  after_results
  rfl

/-- What a grid point writes, entry by entry. -/
theorem out_at (c : Dev nD) (t : Fin cfg0.N) (r : Fin 256) (j : Fin 5632) : outsAt0 m c t (ix2 r j) = if h : (j : ℕ) < 5504 then X m c (ix2 ⟨t.val * 256 + r, by have := (idx t).2.2; omega⟩ ⟨j, h⟩) else 0 := by
  unfold outsAt0
  frame_out
  canon_tiles x h using (View.cover_of_tiledBy _ ![256, 128] (by sl_kernel_rfl) _)
  · obtain ⟨a, b, rfl⟩ : ∃ (a : Fin 256) (b : Fin 128), x = ix2 a b := ⟨x 0, x 1, eq_ix2 x⟩
    replace h0 : (r : ℕ) =  a := h0
    replace h1 : (j : ℕ) = 5504 + b := h1
    have hj : ¬ (j : ℕ) < 5504 := by omega
    rw [dif_neg hj]
    pointwise [k0_pay2]
  · obtain ⟨a, b, rfl⟩ : ∃ (a : Fin 256) (b : Fin 5504), x = ix2 a b := ⟨x 0, x 1, eq_ix2 x⟩
    replace h0 : (r : ℕ) = a := h0
    replace h1 : (j : ℕ) = b := h1
    have hj : (j : ℕ) < 5504 := by omega
    rw [dif_pos hj]
    pointwise [k0_pay1]
    blk_point [iblk, idx t]
    all_goals omega

/-- The array after the run is the reference's. -/
theorem final (c : Dev nD) : (dats m 0 c).arrAt 1 (cfgs 0).N = Cert.CastREF8.REF (A m c) := by
  refine (dats m 0 c).arrAt_eq_of_covers 1 _ (by decide +kernel) fun t hf y => ?_
  blk_simp
  rw [after0_1]
  obtain ⟨r, j, rfl⟩ : ∃ (r : Fin 256) (j : Fin 5632), y = ix2 r j := ⟨y 0, y 1, eq_ix2 y⟩
  have ht : t.val < 8 := (idx t).2.2
  have e : ((cfg0.win 1).blk t).view.emb (ix2 r j) = ix2 (⟨t.val * 256 + r, by omega⟩ : Fin 2048) (j : Fin 5632) := by
    blk_ext [idx t]
  rw [e, Cert.CastREF8.ref_at]
  refine (out_at m c t r j).trans ?_
  rw [X_eq]
  split
  · pointwise
  · rfl

end Cert.Cast8

namespace Cert.CastREF9

open Cert.Reference9Ideal Cert.Reference9Ideal.Gen

/-- The reference's result as a term of its argument. -/
def REF (w : FVec Ideal S1x5504x2048 .f32) : FVec Ideal S5632x2048 .bf16 :=
  truncf .bf16 (pad S5632x2048 ![0, 0] ![128, 0] ![0, 0] (shapeCast S5504x2048 w shapeCasts_S1x5504x2048_S5504x2048) (sitofp .f32 (constantI S_ 32 0#32)) pads_S5504x2048_S5632x2048_01280_000 h_S_) bitsLt_bf16_f32

/-- The reference's result, entry by entry. -/
theorem ref_at (w : FVec Ideal S1x5504x2048 .f32) (r : Fin 5632) (j : Fin 2048) : REF w (ix2 r j) = if h : (r : ℕ) < 5504 then w (ix3 0 ⟨r, h⟩ j) else 0 := by
  pointwise [REF]
  by_cases h : (r : ℕ) < 5504
  · simp only [dif_pos h]
  · simp only [dif_neg h]
    exact Cert.Proj.fill

end Cert.CastREF9

namespace Cert.Cast9

open Cert.Kernel9Ideal Cert.Kernel9Ideal.Gen

variable (m : (ℓ : Loc nD τ sig) → Buf (Elt Ideal) ℓ)

/-- The block index of both windows at grid point `t`. -/
theorem idx : ∀ t : Fin cfg0.N, win0_0.index t = ![0, t.val] ∧ win0_1.index t = ![0, t.val] ∧ t.val < 8 :=
  (by decide +kernel : ∀ t : Fin grid0.N, _)

/-- The argument. -/
abbrev A (c : Dev nD) : FVec Ideal S1x5504x2048 .f32 := m ((c : Thread nD τ).loc main_arg0)
/-- What the call is given: the argument without its unit axis. -/
abbrev X (c : Dev nD) : FVec Ideal S5504x2048 .f32 := V m c main_v0
/-- It is that of the argument. -/
theorem X_eq (c : Dev nD) : X m c = shapeCast S5504x2048 (A m c) shapeCasts_S1x5504x2048_S5504x2048 := by
  unfold X V
  after_results
  rfl

/-- What a grid point writes, entry by entry. -/
theorem out_at (c : Dev nD) (t : Fin cfg0.N) (r : Fin 5632) (j : Fin 256) : outsAt0 m c t (ix2 r j) = if h : (r : ℕ) < 5504 then X m c (ix2 ⟨r, h⟩ ⟨t.val * 256 + j, by have := (idx t).2.2; omega⟩) else 0 := by
  unfold outsAt0
  frame_out
  canon_tiles x h using (View.cover_of_tiledBy _ ![128, 256] (by sl_kernel_rfl) _)
  · obtain ⟨a, b, rfl⟩ : ∃ (a : Fin 128) (b : Fin 256), x = ix2 a b := ⟨x 0, x 1, eq_ix2 x⟩
    replace h0 : (r : ℕ) = 5504 + a := h0
    replace h1 : (j : ℕ) =  b := h1
    have hj : ¬ (r : ℕ) < 5504 := by omega
    rw [dif_neg hj]
    pointwise [k0_pay2]
  · obtain ⟨a, b, rfl⟩ : ∃ (a : Fin 5504) (b : Fin 256), x = ix2 a b := ⟨x 0, x 1, eq_ix2 x⟩
    replace h0 : (r : ℕ) = a := h0
    replace h1 : (j : ℕ) = b := h1
    have hj : (r : ℕ) < 5504 := by omega
    rw [dif_pos hj]
    pointwise [k0_pay1]
    blk_point [iblk, idx t]
    all_goals omega

/-- The array after the run is the reference's. -/
theorem final (c : Dev nD) : (dats m 0 c).arrAt 1 (cfgs 0).N = Cert.CastREF9.REF (A m c) := by
  refine (dats m 0 c).arrAt_eq_of_covers 1 _ (by decide +kernel) fun t hf y => ?_
  blk_simp
  rw [after0_1]
  obtain ⟨r, j, rfl⟩ : ∃ (r : Fin 5632) (j : Fin 256), y = ix2 r j := ⟨y 0, y 1, eq_ix2 y⟩
  have ht : t.val < 8 := (idx t).2.2
  have e : ((cfg0.win 1).blk t).view.emb (ix2 r j) = ix2 (r : Fin 5632) (⟨t.val * 256 + j, by omega⟩ : Fin 2048) := by
    blk_ext [idx t]
  rw [e, Cert.CastREF9.ref_at]
  refine (out_at m c t r j).trans ?_
  rw [X_eq]
  split
  · pointwise
  · rfl

end Cert.Cast9

namespace Cert.CastREF10

open Cert.Reference10Ideal Cert.Reference10Ideal.Gen

/-- The reference's result as a term of its argument. -/
def REF (w : FVec Ideal S1x2048x4112 .f32) : FVec Ideal S2048x4224 .bf16 :=
  truncf .bf16 (concatenate S2048x4224 1 [⟨S2048x2048, ((extractStridedSlice S2048x2048 ![0, 1024] (shapeCast S2048x4112 w shapeCasts_S1x2048x4112_S2048x4112) slices_S2048x4112_S2048x2048_0_1024) : FVec Ideal S2048x2048 .f32)⟩, ⟨S2048x1024, ((extractStridedSlice S2048x1024 ![0, 0] (shapeCast S2048x4112 w shapeCasts_S1x2048x4112_S2048x4112) slices_S2048x4112_S2048x1024_0_0) : FVec Ideal S2048x1024 .f32)⟩, ⟨S2048x1024, ((extractStridedSlice S2048x1024 ![0, 3088] (shapeCast S2048x4112 w shapeCasts_S1x2048x4112_S2048x4112) slices_S2048x4112_S2048x1024_0_3088) : FVec Ideal S2048x1024 .f32)⟩, ⟨S2048x128, ((pad S2048x128 ![0, 0] ![0, 112] ![0, 0] (extractStridedSlice S2048x16 ![0, 3072] (shapeCast S2048x4112 w shapeCasts_S1x2048x4112_S2048x4112) slices_S2048x4112_S2048x16_0_3072) (sitofp .f32 (constantI S_ 32 0#32)) pads_S2048x16_S2048x128_000_01120 h_S_) : FVec Ideal S2048x128 .f32)⟩] concatenates_S2048x2048_S2048x1024_S2048x1024_S2048x128_S2048x4224_d1 : FVec Ideal S2048x4224 .f32) bitsLt_bf16_f32

/-- The reference's result, entry by entry. -/
theorem ref_at (w : FVec Ideal S1x2048x4112 .f32) (r : Fin 2048) (j : Fin 4224) : REF w (ix2 r j) = Cert.Proj.col (fun k => w (ix3 0 r k)) j := by
  pointwise [REF, Cert.Proj.col]
  by_cases h1 : (j : ℕ) < 2048
  · simp only [dif_pos h1]
  by_cases h2 : (j : ℕ) - 2048 < 1024
  · simp only [dif_neg h1, dif_pos h2]
  by_cases h3 : (j : ℕ) - 2048 - 1024 < 1024
  · simp only [dif_neg h1, dif_neg h2, dif_pos h3]
  by_cases h4 : (j : ℕ) - 2048 - 1024 - 1024 < 16
  · simp only [dif_neg h1, dif_neg h2, dif_neg h3, dif_pos h4]
  · simp only [dif_neg h1, dif_neg h2, dif_neg h3, dif_neg h4]
    exact Cert.Proj.fill

end Cert.CastREF10

namespace Cert.Cast10

open Cert.Kernel10Ideal Cert.Kernel10Ideal.Gen

variable (m : (ℓ : Loc nD τ sig) → Buf (Elt Ideal) ℓ)

/-- The block index of both windows at grid point `t`. -/
theorem idx : ∀ t : Fin cfg0.N, win0_0.index t = ![t.val, 0] ∧ win0_1.index t = ![t.val, 0] ∧ t.val < 8 :=
  (by decide +kernel : ∀ t : Fin grid0.N, _)

/-- The argument. -/
abbrev A (c : Dev nD) : FVec Ideal S1x2048x4112 .f32 := m ((c : Thread nD τ).loc main_arg0)
/-- What the call is given: the argument without its unit axis. -/
abbrev X (c : Dev nD) : FVec Ideal S2048x4112 .f32 := V m c main_v0
/-- It is that of the argument. -/
theorem X_eq (c : Dev nD) : X m c = shapeCast S2048x4112 (A m c) shapeCasts_S1x2048x4112_S2048x4112 := by
  unfold X V
  after_results
  rfl

/-- What a grid point writes, entry by entry. -/
theorem out_at (c : Dev nD) (t : Fin cfg0.N) (r : Fin 256) (j : Fin 4224) : outsAt0 m c t (ix2 r j) = Cert.Proj.col (fun k => X m c (ix2 ⟨t.val * 256 + r, by have := (idx t).2.2; omega⟩ k)) j := by
  unfold outsAt0
  frame_out
  canon_tiles x h using (View.cover_of_tiledBy _ ![256, 128] (by sl_kernel_rfl) _)
  · obtain ⟨a, b, rfl⟩ : ∃ (a : Fin 256) (b : Fin 128), x = ix2 a b := ⟨x 0, x 1, eq_ix2 x⟩
    replace h0 : (r : ℕ) = a := h0
    replace h1 : (j : ℕ) = 4096 + b := h1
    unfold Cert.Proj.col
    rw [dif_neg (show ¬ (j : ℕ) < 2048 by omega), dif_neg (show ¬ (j : ℕ) - 2048 < 1024 by omega), dif_neg (show ¬ (j : ℕ) - 2048 - 1024 < 1024 by omega)]
    pointwise [k0_pay4]
    by_cases hb : (b : ℕ) < 16
    · rw [dif_pos hb, dif_pos (show (j : ℕ) - 2048 - 1024 - 1024 < 16 by omega)]
      blk_point [iblk, idx t]
      all_goals omega
    · rw [dif_neg hb, dif_neg (show ¬ (j : ℕ) - 2048 - 1024 - 1024 < 16 by omega)]
  · obtain ⟨a, b, rfl⟩ : ∃ (a : Fin 256) (b : Fin 1024), x = ix2 a b := ⟨x 0, x 1, eq_ix2 x⟩
    replace h0 : (r : ℕ) = a := h0
    replace h1 : (j : ℕ) = 3072 + b := h1
    unfold Cert.Proj.col
    rw [dif_neg (show ¬ (j : ℕ) < 2048 by omega), dif_neg (show ¬ (j : ℕ) - 2048 < 1024 by omega), dif_pos (show (j : ℕ) - 2048 - 1024 < 1024 by omega)]
    pointwise [k0_pay1, k0_pay2, k0_pay3]
    blk_point [iblk, idx t]
    all_goals omega
  · obtain ⟨a, b, rfl⟩ : ∃ (a : Fin 256) (b : Fin 1024), x = ix2 a b := ⟨x 0, x 1, eq_ix2 x⟩
    replace h0 : (r : ℕ) = a := h0
    replace h1 : (j : ℕ) = 2048 + b := h1
    unfold Cert.Proj.col
    rw [dif_neg (show ¬ (j : ℕ) < 2048 by omega), dif_pos (show (j : ℕ) - 2048 < 1024 by omega)]
    pointwise [k0_pay1, k0_pay2, k0_pay3]
    blk_point [iblk, idx t]
    all_goals omega
  · obtain ⟨a, b, rfl⟩ : ∃ (a : Fin 256) (b : Fin 2048), x = ix2 a b := ⟨x 0, x 1, eq_ix2 x⟩
    replace h0 : (r : ℕ) = a := h0
    replace h1 : (j : ℕ) =  b := h1
    unfold Cert.Proj.col
    rw [dif_pos (show (j : ℕ) < 2048 by omega)]
    pointwise [k0_pay1, k0_pay2, k0_pay3]
    blk_point [iblk, idx t]
    all_goals omega

/-- The array after the run is the reference's. -/
theorem final (c : Dev nD) : (dats m 0 c).arrAt 1 (cfgs 0).N = Cert.CastREF10.REF (A m c) := by
  refine (dats m 0 c).arrAt_eq_of_covers 1 _ (by decide +kernel) fun t hf y => ?_
  blk_simp
  rw [after0_1]
  obtain ⟨r, j, rfl⟩ : ∃ (r : Fin 256) (j : Fin 4224), y = ix2 r j := ⟨y 0, y 1, eq_ix2 y⟩
  have ht : t.val < 8 := (idx t).2.2
  have e : ((cfg0.win 1).blk t).view.emb (ix2 r j) = ix2 (⟨t.val * 256 + r, by omega⟩ : Fin 2048) (j : Fin 4224) := by
    blk_ext [idx t]
  rw [e, Cert.CastREF10.ref_at]
  refine (out_at m c t r j).trans ?_
  congr 1
  funext k
  rw [X_eq]
  pointwise

end Cert.Cast10

end
-- ==== Proof.FirstStep.lean ====
module

public import proofs.«01_k».proof.Proof.Gen.Kernel5Ideal.Frame
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.FfnFirst

open Cert.Kernel5Ideal Cert.Kernel5Ideal.Gen

/-- One half of a tile of hidden units: from the normalised rows `h`, the gate, up and down blocks of 256 units. -/
def half (h : FVec Ideal S1024x2048 .bf16) (g u : FVec Ideal S2048x256 .bf16) (d : FVec Ideal S256x2048 .bf16)
    (r : Fin 1024) (o : Fin 2048) : EReal :=
  ∑ k : Fin 256, (Ideal.ofBits .f32 0x3F000000#32
    * ((∑ i : Fin 2048, h (ix2 r i) * g (ix2 i k)) * Ideal.logistic (∑ i : Fin 2048, h (ix2 r i) * g (ix2 i k))
      * ∑ i : Fin 2048, h (ix2 r i) * u (ix2 i k))) * d (ix2 k o)

/-- What a grid point adds to the output block: the two halves of its tile. -/
theorem pay_at (h : FVec Ideal S1024x2048 .bf16) (g0 u0 g1 u1 : FVec Ideal S2048x256 .bf16) (d0 d1 : FVec Ideal S256x2048 .bf16)
    (acc : FVec Ideal S1024x2048 .f32) (r : Fin 1024) (o : Fin 2048) :
    k0_pay1 (F := Ideal) (k0_pay4 h g1 u1) (k0_pay5 h g0 u0 d0) (k0_pay6 d1) (constant S1024x2048 .f32 0x00000000#32) acc (ix2 r o)
      = acc (ix2 r o) + (half h g0 u0 d0 r o + half h g1 u1 d1 r o) := by
  pointwise [k0_pay1, k0_pay4, k0_pay5, k0_pay6, half]

/-- The first grid point of a row block normalises the rows of the input. -/
theorem norm_at (x : FVec Ideal S1024x2048 .f32) (g : FVec Ideal S1x2048 .f32) (r : Fin 1024) (o : Fin 2048) :
    k0_pay3 (F := Ideal) x g (ix2 r o)
      = x (ix2 r o) * Ideal.rsqrt (Ideal.div (∑ i : Fin 2048, x (ix2 r i) * x (ix2 r i)) (Ideal.ofBits .f32 0x45000000#32)
          + Ideal.ofBits .f32 0x358637BD#32) * g (ix2 0 o) := by
  pointwise [k0_pay3, k0_pay2]

variable (m : (ℓ : Loc nD τ sig) → Buf (Elt Ideal) ℓ)

/-- The first grid point of a row block fills the scratch. -/
theorem stepA (c : Dev nD) (t : Fin cfg0.N) (h0 : t.val % 11 = 0) :
    (outsAt0 m c t.val t.isLt).2 = k0_pay3 (iblk m c 0 t) (iblk m c 1 t) := by
  rw [outsAt0_A m c t h0]; frame_out

/-- The block index of every window at grid point `t`. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0]
    ∧ win0_6.index t = ![t.val / 11, 0] ∧ t.val / 11 < 32 :=
  (by decide +kernel : ∀ t : Fin grid0.N, _)

/-- The rows of the input, all of them in one array. -/
abbrev X (c : Dev nD) : FVec Ideal S32768x2048 .f32 := V m c main_v9
/-- The gain of the first normalisation. -/
abbrev G (c : Dev nD) : FVec Ideal S1x2048 .f32 := V m c main_arg1
/-- The padded gate weights. -/
abbrev WG (c : Dev nD) : FVec Ideal S2048x5632 .bf16 := V m c main_v2
/-- The padded up weights. -/
abbrev WU (c : Dev nD) : FVec Ideal S2048x5632 .bf16 := V m c main_v5
/-- The padded down weights. -/
abbrev WD (c : Dev nD) : FVec Ideal S5632x2048 .bf16 := V m c main_v8
/-- A normalised row of the input. -/
def hrow (c : Dev nD) (R : Fin 32768) (i : Fin 2048) : EReal :=
  X m c (ix2 R i) * Ideal.rsqrt (Ideal.div (∑ i : Fin 2048, X m c (ix2 R i) * X m c (ix2 R i)) (Ideal.ofBits .f32 0x45000000#32)
          + Ideal.ofBits .f32 0x358637BD#32) * G m c (ix2 0 i)

/-- The term of hidden unit `k` in entry `(R, o)` of the layer's sum. -/
def term (c : Dev nD) (R : Fin 32768) (o : Fin 2048) (k : Fin 5632) : EReal :=
  (Ideal.ofBits .f32 0x3F000000#32
    * ((∑ i : Fin 2048, hrow m c R i * WG m c (ix2 i k)) * Ideal.logistic (∑ i : Fin 2048, hrow m c R i * WG m c (ix2 i k))
      * ∑ i : Fin 2048, hrow m c R i * WU m c (ix2 i k))) * WD m c (ix2 k o)

/-- The terms of tile `s` of the hidden units, half by half. -/
def part (c : Dev nD) (R : Fin 32768) (o : Fin 2048) (s : ℕ) : EReal :=
  if hs : s < 11 then (∑ k : Fin 256, term m c R o ⟨s * 512 + k, by omega⟩) + ∑ k : Fin 256, term m c R o ⟨s * 512 + (256 + k), by omega⟩ else 0

/-- The first grid point of a row block keeps the normalised rows. -/
theorem normA (c : Dev nD) (t : Fin cfg0.N) (h0 : t.val % 11 = 0) (r : Fin 1024) (i : Fin 2048) (R : Fin 32768)
    (hR : (R : ℕ) = t.val / 11 * 1024 + r) :
    (outsAt0 m c t.val t.isLt).2 (ix2 r i) = hrow m c R i := by
  rw [stepA m c t h0]
  refine (norm_at _ _ r i).trans ?_
  unfold hrow
  blk_point [iblk, idx t]

/-- A tile's halves, read at the point that computes them. -/
theorem part_at (c : Dev nD) (t : Fin cfg0.N) (H : FVec Ideal S1024x2048 .bf16) (r : Fin 1024) (o : Fin 2048) (R : Fin 32768)
    (hH : ∀ i : Fin 2048, H (ix2 r i) = hrow m c R i) (acc : FVec Ideal S1024x2048 .f32) :
    k0_pay1 (F := Ideal)
      (k0_pay4 H
        (View.ld (iblk m c 2 t) (Rect.unit ![0, 256] ![2048, 256] inb_S2048x512_S2048x256_0_256))
        (View.ld (iblk m c 3 t) (Rect.unit ![0, 256] ![2048, 256] inb_S2048x512_S2048x256_0_256)))
      (k0_pay5 H
        (View.ld (iblk m c 2 t) (Rect.unit ![0, 0] ![2048, 256] inb_S2048x512_S2048x256_0_0))
        (View.ld (iblk m c 3 t) (Rect.unit ![0, 0] ![2048, 256] inb_S2048x512_S2048x256_0_0))
        (View.ld (iblk m c 4 t) (Rect.unit ![0, 0] ![256, 2048] inb_S512x2048_S256x2048_0_0)))
      (k0_pay6 (View.ld (iblk m c 4 t) (Rect.unit ![256, 0] ![256, 2048] inb_S512x2048_S256x2048_256_0)))
      (constant S1024x2048 .f32 0#32) acc (ix2 r o) = acc (ix2 r o) + part m c R o (t.val % 11) := by
  rw [pay_at]
  unfold part
  rw [dif_pos (by omega)]
  pointwise [half, hH, term]
  blk_point [iblk, idx t]

/-- The first grid point of a row block: the input and the first tile. -/
theorem outA (c : Dev nD) (t : Fin cfg0.N) (h0 : t.val % 11 = 0) (r : Fin 1024) (o : Fin 2048) (R : Fin 32768)
    (hR : (R : ℕ) = t.val / 11 * 1024 + r) :
    (outsAt0 m c t.val t.isLt).1 (ix2 r o) = X m c (ix2 R o) + part m c R o (t.val % 11) := by
  rw [outsAt0_A m c t h0]; frame_out
  refine (part_at m c t _ r o R (fun i => ?_) _).trans ?_
  · rw [← stepA m c t h0]; exact normA m c t h0 r i R hR
  · refine congrArg (· + part m c R o (t.val % 11)) ?_
    pointwise [k0_pay2]
    blk_point [iblk, idx t]

/-- A later grid point keeps the scratch. -/
theorem keepB (c : Dev nD) (t : Fin cfg0.N) (h0 : ¬t.val % 11 = 0) :
    (outsAt0 m c t.val t.isLt).2 = (outsAt0 m c (t.val - 1) (Nat.lt_of_le_of_lt (Nat.sub_le _ _) t.isLt)).2 := by
  rw [outsAt0_B m c t h0]
  rfl

/-- A middle grid point of a row block adds its tile. -/
theorem outB (c : Dev nD) (t : Fin cfg0.N) (h0 : ¬t.val % 11 = 0) (r : Fin 1024) (o : Fin 2048) (R : Fin 32768)
    (hH : ∀ i : Fin 2048, (outsAt0 m c (t.val - 1) (Nat.lt_of_le_of_lt (Nat.sub_le _ _) t.isLt)).2 (ix2 r i) = hrow m c R i) :
    (outsAt0 m c t.val t.isLt).1 (ix2 r o)
      = (show EReal from (outsAt0 m c (t.val - 1) (Nat.lt_of_le_of_lt (Nat.sub_le _ _) t.isLt)).1 (ix2 r o)) + part m c R o (t.val % 11) := by
  rw [outsAt0_B m c t h0]; frame_out
  refine (part_at m c t _ r o R (fun i => ?_) _)
  rw [read_unread_whole]
  exact hH i

/-- What the output block and the scratch hold after point `n`: the normalised rows, and the input plus the tiles so far. -/
theorem inv (c : Dev nD) (n : ℕ) : ∀ (h : n < cfg0.N) (r : Fin 1024) (R : Fin 32768) (hR : (R : ℕ) = n / 11 * 1024 + r),
    (∀ i : Fin 2048, (outsAt0 m c n h).2 (ix2 r i) = hrow m c R i)
    ∧ ∀ o : Fin 2048, (outsAt0 m c n h).1 (ix2 r o) = X m c (ix2 R o) + ∑ s ∈ Finset.range (n % 11 + 1), part m c R o s := by
  induction n using Nat.strong_induction_on with
  | _ n ih =>
    intro h r R hR
    by_cases h0 : n % 11 = 0
    · refine ⟨fun i => normA m c ⟨n, h⟩ h0 r i R hR, fun o => (outA m c ⟨n, h⟩ h0 r o R hR).trans ?_⟩
      rw [show (⟨n, h⟩ : Fin cfg0.N).val % 11 = 0 from h0, Nat.zero_add, Finset.sum_range_one]
    · have hlt : n - 1 < cfg0.N := Nat.lt_of_le_of_lt (Nat.sub_le _ _) h
      obtain ⟨p1, p2⟩ := ih (n - 1) (by omega) hlt r R (by omega)
      refine ⟨fun i => (congrFun (keepB m c ⟨n, h⟩ h0) (ix2 r i)).trans (p1 i), fun o => (outB m c ⟨n, h⟩ h0 r o R p1).trans ?_⟩
      refine (congrArg (· + part m c R o (n % 11)) (p2 o)).trans ?_
      rw [show (n - 1) % 11 + 1 = n % 11 by omega, Finset.sum_range_succ, add_assoc]

end Cert.FfnFirst

end
-- ==== Proof.FirstRef.lean ====
module

public import proofs.«01_k».proof.Proof.Gen.Reference5Ideal.Run
public import proofs.«01_k».proof.Proof.FfnRef
public import Idealize.ShloMosaic.Lib.Pointwise

@[expose] public section

set_option maxRecDepth 16384

noncomputable section

open Idealize.ShloMosaic Idealize.ShloMosaic.TcCoe Idealize.SL.Sem

namespace Cert.FfnFirst

open Cert.Reference5Ideal Cert.Reference5Ideal.Gen
open Cert.Ffn (nrm)

/-- The reference's result as a term of its five arguments. -/
def REF (x : FVec Ideal S16x2048x2048 .f32) (gn : FVec Ideal S1x2048 .f32) (wg wu : FVec Ideal S1x2048x5504 .f32)
    (wd : FVec Ideal S1x5504x2048 .f32) : FVec Ideal S32768x2048 .f32 :=
  shapeCast S32768x2048 (addf x (mulf (broadcastInDim S16x2048x2048 ![] bcast_S_S16x2048x2048 (constant S_ .f32 0x3F000000#32)) (Host.dotGeneral dot_S16x2048x5504_S5504x2048_S16x2048x2048_2_0_01_1_n_n none (mulf (mulf (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wg shapeCasts_S1x2048x5504_S2048x5504)) (Host.divf (broadcastInDim S16x2048x5504 ![] bcast_S_S16x2048x5504 (constant S_ .f32 0x3F800000#32)) (addf (broadcastInDim S16x2048x5504 ![] bcast_S_S16x2048x5504 (constant S_ .f32 0x3F800000#32)) (Host.exp (Host.negf (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wg shapeCasts_S1x2048x5504_S2048x5504))))))) (Host.dotGeneral dot_S16x2048x2048_S2048x5504_S16x2048x5504_2_0_01_1_n_n none (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ gn shapeCasts_S1x2048_S2048)))) (shapeCast _ wu shapeCasts_S1x2048x5504_S2048x5504))) (shapeCast _ wd shapeCasts_S1x5504x2048_S5504x2048)))) shapeCasts_S16x2048x2048_S32768x2048

/-- The reference's result, entry by entry. -/
theorem ref_at (x : FVec Ideal S16x2048x2048 .f32) (gn : FVec Ideal S1x2048 .f32) (wg wu : FVec Ideal S1x2048x5504 .f32)
    (wd : FVec Ideal S1x5504x2048 .f32) (R : Fin 32768) (o : Fin 2048) :
    REF x gn wg wu wd (ix2 R o) = x (ix3 ⟨R / 2048, by omega⟩ ⟨R % 2048, by omega⟩ o)
      + Ideal.ofBits .f32 0x3F000000#32 * ∑ k : Fin 5504,
        ((∑ i : Fin 2048, nrm (fun i => x (ix3 ⟨R / 2048, by omega⟩ ⟨R % 2048, by omega⟩ i)) (fun i => gn (ix2 0 i)) i * wg (ix3 0 i k))
          * Ideal.logistic (∑ i : Fin 2048, nrm (fun i => x (ix3 ⟨R / 2048, by omega⟩ ⟨R % 2048, by omega⟩ i)) (fun i => gn (ix2 0 i)) i * wg (ix3 0 i k))
          * ∑ i : Fin 2048, nrm (fun i => x (ix3 ⟨R / 2048, by omega⟩ ⟨R % 2048, by omega⟩ i)) (fun i => gn (ix2 0 i)) i * wu (ix3 0 i k))
        * wd (ix3 0 k o) := by
  pointwise [REF, nrm]
  rfl

end Cert.FfnFirst

end
-- ==== Proof.FirstHost.lean ====
module

public import proofs.«01_k».proof.Proof.FirstStep
public import proofs.«01_k».proof.Proof.FirstRef
public import proofs.«01_k».proof.Proof.FfnHost

@[expose] public section

set_option maxRecDepth 16384

noncomputable section

open Idealize.ShloMosaic Idealize.ShloMosaic.TcCoe Idealize.SL.Sem

namespace Cert.FfnFirst

open Cert.Kernel5Ideal Cert.Kernel5Ideal.Gen

variable (m : (ℓ : Loc nD τ sig) → Buf (Elt Ideal) ℓ)

/-- The rows are the first argument, reshaped. -/
theorem X_eq (c : Dev nD) : X m c = shapeCast S32768x2048 (show FVec Ideal S16x2048x2048 .f32 from m ((c : Thread nD τ).loc main_arg0)) shapeCasts_S16x2048x2048_S32768x2048 := by
  unfold X V
  simp only [List.flatten_cons, List.flatten_nil, List.append_nil, List.cons_append, List.nil_append]
  after_results
  rfl

/-- The gate weights are padded by 128 units of zeros. -/
theorem WG_eq (c : Dev nD) : WG m c = pad S2048x5632 ![0, 0] ![0, 128] ![0, 0]
    (truncf (F := Ideal) .bf16 (shapeCast S2048x5504 (show FVec Ideal S1x2048x5504 .f32 from m ((c : Thread nD τ).loc main_arg2)) shapeCasts_S1x2048x5504_S2048x5504) bitsLt_bf16_f32)
    (sitofp (F := Ideal) .bf16 (constantI S_ 32 0#32)) pads_S2048x5504_S2048x5632_000_01280 h_S_ := by
  unfold WG V
  simp only [List.flatten_cons, List.flatten_nil, List.append_nil, List.cons_append, List.nil_append]
  after_results
  rfl

/-- The up weights are padded by 128 units of zeros. -/
theorem WU_eq (c : Dev nD) : WU m c = pad S2048x5632 ![0, 0] ![0, 128] ![0, 0]
    (truncf (F := Ideal) .bf16 (shapeCast S2048x5504 (show FVec Ideal S1x2048x5504 .f32 from m ((c : Thread nD τ).loc main_arg3)) shapeCasts_S1x2048x5504_S2048x5504) bitsLt_bf16_f32)
    (sitofp (F := Ideal) .bf16 (constantI S_ 32 0#32)) pads_S2048x5504_S2048x5632_000_01280 h_S_ := by
  unfold WU V
  simp only [List.flatten_cons, List.flatten_nil, List.append_nil, List.cons_append, List.nil_append]
  after_results
  rfl

/-- The down weights are padded by 128 units of zeros. -/
theorem WD_eq (c : Dev nD) : WD m c = pad S5632x2048 ![0, 0] ![128, 0] ![0, 0]
    (truncf (F := Ideal) .bf16 (shapeCast S5504x2048 (show FVec Ideal S1x5504x2048 .f32 from m ((c : Thread nD τ).loc main_arg4)) shapeCasts_S1x5504x2048_S5504x2048) bitsLt_bf16_f32)
    (sitofp (F := Ideal) .bf16 (constantI S_ 32 0#32)) pads_S5504x2048_S5632x2048_01280_000 h_S_ := by
  unfold WD V
  simp only [List.flatten_cons, List.flatten_nil, List.append_nil, List.cons_append, List.nil_append]
  after_results
  rfl

/-- The rows, read in the argument. -/
theorem X_at (c : Dev nD) (R : Fin 32768) (i : Fin 2048) :
    X m c (ix2 R i) = (show FVec Ideal S16x2048x2048 .f32 from m ((c : Thread nD τ).loc main_arg0)) (ix3 ⟨R / 2048, by omega⟩ ⟨R % 2048, by omega⟩ i) := by
  rw [X_eq]
  pointwise

/-- The first gain is the argument. -/
theorem G_at (c : Dev nD) (i : Fin 2048) : G m c (ix2 0 i) = (show FVec Ideal S1x2048 .f32 from m ((c : Thread nD τ).loc main_arg1)) (ix2 0 i) := by
  unfold G
  rw [V_main_arg1]

/-- The padded gate weights on the units of the layer. -/
theorem WG_at (c : Dev nD) (i : Fin 2048) (k : Fin 5504) :
    WG m c (ix2 i ⟨k, by omega⟩) = (show FVec Ideal S1x2048x5504 .f32 from m ((c : Thread nD τ).loc main_arg2)) (ix3 0 i k) := by
  rw [WG_eq]
  pointwise

/-- The padded up weights on the units of the layer. -/
theorem WU_at (c : Dev nD) (i : Fin 2048) (k : Fin 5504) :
    WU m c (ix2 i ⟨k, by omega⟩) = (show FVec Ideal S1x2048x5504 .f32 from m ((c : Thread nD τ).loc main_arg3)) (ix3 0 i k) := by
  rw [WU_eq]
  pointwise

/-- The padded down weights on the units of the layer. -/
theorem WD_at (c : Dev nD) (k : Fin 5504) (o : Fin 2048) :
    WD m c (ix2 ⟨k, by omega⟩ o) = (show FVec Ideal S1x5504x2048 .f32 from m ((c : Thread nD τ).loc main_arg4)) (ix3 0 k o) := by
  rw [WD_eq]
  pointwise

/-- The padding of the down weights is zero. -/
theorem WD_pad (c : Dev nD) (k : Fin 128) (o : Fin 2048) :
    WD m c (ix2 ⟨5504 + k, by omega⟩ o) = 0 := by
  rw [WD_eq]
  pointwise
  exact Cert.Ffn.fill

end Cert.FfnFirst

end
-- ==== Proof.First.lean ====
module

public import proofs.«01_k».proof.Proof.FirstHost
public import proofs.«01_k».proof.Proof.Ffn

@[expose] public section

set_option maxRecDepth 16384

noncomputable section

open Idealize.ShloMosaic Idealize.ShloMosaic.TcCoe Idealize.SL.Sem

namespace Cert.FfnFirst

open Cert.Kernel5Ideal Cert.Kernel5Ideal.Gen
open Cert.Ffn (nrm unit sum_parts sum_cut half_mul_sum)

variable (m : (ℓ : Loc nD τ sig) → Buf (Elt Ideal) ℓ)

/-- The row `R` of the first argument. -/
def xrow (c : Dev nD) (R : Fin 32768) (i : Fin 2048) : EReal :=
  (show FVec Ideal S16x2048x2048 .f32 from m ((c : Thread nD τ).loc main_arg0)) (ix3 ⟨R / 2048, by omega⟩ ⟨R % 2048, by omega⟩ i)

/-- The first gain. -/
def gain (c : Dev nD) (i : Fin 2048) : EReal := (show FVec Ideal S1x2048 .f32 from m ((c : Thread nD τ).loc main_arg1)) (ix2 0 i)
/-- The gate weights of a hidden unit. -/
def wgate (c : Dev nD) (k : Fin 5504) (i : Fin 2048) : EReal := (show FVec Ideal S1x2048x5504 .f32 from m ((c : Thread nD τ).loc main_arg2)) (ix3 0 i k)
/-- The up weights of a hidden unit. -/
def wup (c : Dev nD) (k : Fin 5504) (i : Fin 2048) : EReal := (show FVec Ideal S1x2048x5504 .f32 from m ((c : Thread nD τ).loc main_arg3)) (ix3 0 i k)
/-- The down weight of a hidden unit. -/
def wdown (c : Dev nD) (k : Fin 5504) (o : Fin 2048) : EReal := (show FVec Ideal S1x5504x2048 .f32 from m ((c : Thread nD τ).loc main_arg4)) (ix3 0 k o)

/-- The normalised row, in terms of the arguments. -/
theorem hrow_eq (c : Dev nD) (R : Fin 32768) : hrow m c R = nrm (xrow m c R) (gain m c) :=
  funext fun i => (show hrow m c R i = nrm (fun i => X m c (ix2 R i)) (fun i => G m c (ix2 0 i)) i from rfl).trans
    (congrArg₂ (fun f g => nrm f g i) (funext fun i => X_at m c R i) (funext fun i => G_at m c i))

/-- A hidden unit's term, in terms of the arguments. -/
theorem term_eq (c : Dev nD) (R : Fin 32768) (o : Fin 2048) (k : Fin 5504) :
    term m c R o ⟨k, by omega⟩ = Ideal.ofBits .f32 0x3F000000#32 * unit (nrm (xrow m c R) (gain m c)) (wgate m c k) (wup m c k) (wdown m c k o) := by
  refine Eq.trans (b := Ideal.ofBits .f32 0x3F000000#32 * unit (hrow m c R) (fun i => WG m c (ix2 i ⟨k, by omega⟩))
    (fun i => WU m c (ix2 i ⟨k, by omega⟩)) (WD m c (ix2 ⟨k, by omega⟩ o))) ?_ ?_
  · unfold term unit
    rw [mul_assoc]
  · rw [hrow_eq, show (fun i => WG m c (ix2 i ⟨k, by omega⟩)) = wgate m c k from funext fun i => WG_at m c i k,
      show (fun i => WU m c (ix2 i ⟨k, by omega⟩)) = wup m c k from funext fun i => WU_at m c i k,
      show WD m c (ix2 ⟨k, by omega⟩ o) = wdown m c k o from WD_at m c k o]

/-- The sum of all tiles is the layer's sum over its 5504 hidden units. -/
theorem sum_eq (c : Dev nD) (R : Fin 32768) (o : Fin 2048) :
    ∑ s ∈ Finset.range 11, part m c R o s = Ideal.ofBits .f32 0x3F000000#32
      * ∑ k : Fin 5504, unit (nrm (xrow m c R) (gain m c)) (wgate m c k) (wup m c k) (wdown m c k o) := by
  unfold part
  refine (sum_parts (term m c R o)).trans ?_
  rw [sum_cut _ (fun k => by unfold term; rw [WD_pad, mul_zero]), ← half_mul_sum]
  exact Finset.sum_congr rfl fun k _ => term_eq m c R o k

/-- The result array after the run is the reference's term of the arguments. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  obtain ⟨r, o, rfl⟩ : ∃ (r : Fin 1024) (o : Fin 2048), y = ix2 r o := ⟨y 0, y 1, eq_ix2 y⟩
  have h1 : t.val % 11 = 10 := (flush0_6 t).mp hf
  have h2 : t.val / 11 < 32 := (idx t).2.2.2.2.2.2.2
  have e : ((cfg0.win 6).blk t).view.emb (ix2 r o) = ix2 (⟨t.val / 11 * 1024 + r, by omega⟩ : Fin 32768) o := by
    blk_ext [idx t]
  rw [e]
  refine ((inv m c t.val t.isLt r ⟨t.val / 11 * 1024 + r, by omega⟩ rfl).2 o).trans ?_
  rw [h1]
  refine (congrArg₂ (· + ·) (X_at m c _ o) (sum_eq m c _ o)).trans ?_
  exact (ref_at _ _ _ _ _ ⟨t.val / 11 * 1024 + r, by omega⟩ o).symm

end Cert.FfnFirst

end
-- ==== Proof.SsdTerm.lean ====
module
public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

/-- The eleven blocks of one batch: the columns of the convolution, the gate and the step width of the projection
    (padded to 64 rows), the weights, and the two states. -/
structure Inp where
  w0 : Vec Ideal S1x64x2048 .f32
  w1 : Vec Ideal S1x64x1024 .f32
  w2 : Vec Ideal S1x64x128 .f32
  w3 : Vec Ideal S4x2048 .f32
  w4 : Vec Ideal S1x2048 .f32
  w5 : Vec Ideal S1x128 .f32
  w6 : Vec Ideal S1x128 .f32
  w7 : Vec Ideal S1x1024 .f32
  w8 : Vec Ideal S1x1024 .f32
  w9 : Vec Ideal S1x3x2048 .f32
  w10 : Vec Ideal S1x128x1024 .f32

/-- The stores into the padded columns of the convolution, latest first. -/
def Inp.L16 (I : Inp) : List (View.Piece (Elt Ideal) S16x72x128 .f32) :=
  [⟨(Rect.unit (s := S16x72x128) ![15, 8, 0] S1x64x128.size inb_S16x72x128_S1x64x128_15_8_0), (k0_pay50 (fun j => I.w0 ((Rect.unit (s := S1x64x2048) ![0, 0, 1920] S1x64x128.size inb_S1x64x2048_S1x64x128_0_0_1920).idx j)))⟩,
   ⟨(Rect.unit (s := S16x72x128) ![14, 8, 0] S1x64x128.size inb_S16x72x128_S1x64x128_14_8_0), (k0_pay49 (fun j => I.w0 ((Rect.unit (s := S1x64x2048) ![0, 0, 1792] S1x64x128.size inb_S1x64x2048_S1x64x128_0_0_1792).idx j)))⟩,
   ⟨(Rect.unit (s := S16x72x128) ![13, 8, 0] S1x64x128.size inb_S16x72x128_S1x64x128_13_8_0), (k0_pay48 (fun j => I.w0 ((Rect.unit (s := S1x64x2048) ![0, 0, 1664] S1x64x128.size inb_S1x64x2048_S1x64x128_0_0_1664).idx j)))⟩,
   ⟨(Rect.unit (s := S16x72x128) ![12, 8, 0] S1x64x128.size inb_S16x72x128_S1x64x128_12_8_0), (k0_pay47 (fun j => I.w0 ((Rect.unit (s := S1x64x2048) ![0, 0, 1536] S1x64x128.size inb_S1x64x2048_S1x64x128_0_0_1536).idx j)))⟩,
   ⟨(Rect.unit (s := S16x72x128) ![11, 8, 0] S1x64x128.size inb_S16x72x128_S1x64x128_11_8_0), (k0_pay46 (fun j => I.w0 ((Rect.unit (s := S1x64x2048) ![0, 0, 1408] S1x64x128.size inb_S1x64x2048_S1x64x128_0_0_1408).idx j)))⟩,
   ⟨(Rect.unit (s := S16x72x128) ![10, 8, 0] S1x64x128.size inb_S16x72x128_S1x64x128_10_8_0), (k0_pay45 (fun j => I.w0 ((Rect.unit (s := S1x64x2048) ![0, 0, 1280] S1x64x128.size inb_S1x64x2048_S1x64x128_0_0_1280).idx j)))⟩,
   ⟨(Rect.unit (s := S16x72x128) ![9, 8, 0] S1x64x128.size inb_S16x72x128_S1x64x128_9_8_0), (k0_pay44 (fun j => I.w0 ((Rect.unit (s := S1x64x2048) ![0, 0, 1152] S1x64x128.size inb_S1x64x2048_S1x64x128_0_0_1152).idx j)))⟩,
   ⟨(Rect.unit (s := S16x72x128) ![8, 8, 0] S1x64x128.size inb_S16x72x128_S1x64x128_8_8_0), (k0_pay43 (fun j => I.w0 ((Rect.unit (s := S1x64x2048) ![0, 0, 1024] S1x64x128.size inb_S1x64x2048_S1x64x128_0_0_1024).idx j)))⟩,
   ⟨(Rect.unit (s := S16x72x128) ![7, 8, 0] S1x64x128.size inb_S16x72x128_S1x64x128_7_8_0), (k0_pay42 (fun j => I.w0 ((Rect.unit (s := S1x64x2048) ![0, 0, 896] S1x64x128.size inb_S1x64x2048_S1x64x128_0_0_896).idx j)))⟩,
   ⟨(Rect.unit (s := S16x72x128) ![6, 8, 0] S1x64x128.size inb_S16x72x128_S1x64x128_6_8_0), (k0_pay41 (fun j => I.w0 ((Rect.unit (s := S1x64x2048) ![0, 0, 768] S1x64x128.size inb_S1x64x2048_S1x64x128_0_0_768).idx j)))⟩,
   ⟨(Rect.unit (s := S16x72x128) ![5, 8, 0] S1x64x128.size inb_S16x72x128_S1x64x128_5_8_0), (k0_pay40 (fun j => I.w0 ((Rect.unit (s := S1x64x2048) ![0, 0, 640] S1x64x128.size inb_S1x64x2048_S1x64x128_0_0_640).idx j)))⟩,
   ⟨(Rect.unit (s := S16x72x128) ![4, 8, 0] S1x64x128.size inb_S16x72x128_S1x64x128_4_8_0), (k0_pay39 (fun j => I.w0 ((Rect.unit (s := S1x64x2048) ![0, 0, 512] S1x64x128.size inb_S1x64x2048_S1x64x128_0_0_512).idx j)))⟩,
   ⟨(Rect.unit (s := S16x72x128) ![3, 8, 0] S1x64x128.size inb_S16x72x128_S1x64x128_3_8_0), (k0_pay38 (fun j => I.w0 ((Rect.unit (s := S1x64x2048) ![0, 0, 384] S1x64x128.size inb_S1x64x2048_S1x64x128_0_0_384).idx j)))⟩,
   ⟨(Rect.unit (s := S16x72x128) ![2, 8, 0] S1x64x128.size inb_S16x72x128_S1x64x128_2_8_0), (k0_pay37 (fun j => I.w0 ((Rect.unit (s := S1x64x2048) ![0, 0, 256] S1x64x128.size inb_S1x64x2048_S1x64x128_0_0_256).idx j)))⟩,
   ⟨(Rect.unit (s := S16x72x128) ![1, 8, 0] S1x64x128.size inb_S16x72x128_S1x64x128_1_8_0), (k0_pay36 (fun j => I.w0 ((Rect.unit (s := S1x64x2048) ![0, 0, 128] S1x64x128.size inb_S1x64x2048_S1x64x128_0_0_128).idx j)))⟩,
   ⟨(Rect.unit (s := S16x72x128) ![0, 8, 0] S1x64x128.size inb_S16x72x128_S1x64x128_0_8_0), (k0_pay35 (fun j => I.w0 ((Rect.unit (s := S1x64x2048) ![0, 0, 0] S1x64x128.size inb_S1x64x2048_S1x64x128_0_0_0).idx j)))⟩,
   ⟨(Rect.unit (s := S16x72x128) ![15, 5, 0] S1x3x128.size inb_S16x72x128_S1x3x128_15_5_0), (k0_pay33 (fun j => I.w9 ((Rect.unit (s := S1x3x2048) ![0, 0, 1920] S1x3x128.size inb_S1x3x2048_S1x3x128_0_0_1920).idx j)))⟩,
   ⟨(Rect.unit (s := S16x72x128) ![14, 5, 0] S1x3x128.size inb_S16x72x128_S1x3x128_14_5_0), (k0_pay17 (fun j => I.w9 ((Rect.unit (s := S1x3x2048) ![0, 0, 1792] S1x3x128.size inb_S1x3x2048_S1x3x128_0_0_1792).idx j)))⟩,
   ⟨(Rect.unit (s := S16x72x128) ![13, 5, 0] S1x3x128.size inb_S16x72x128_S1x3x128_13_5_0), (k0_pay16 (fun j => I.w9 ((Rect.unit (s := S1x3x2048) ![0, 0, 1664] S1x3x128.size inb_S1x3x2048_S1x3x128_0_0_1664).idx j)))⟩,
   ⟨(Rect.unit (s := S16x72x128) ![12, 5, 0] S1x3x128.size inb_S16x72x128_S1x3x128_12_5_0), (k0_pay15 (fun j => I.w9 ((Rect.unit (s := S1x3x2048) ![0, 0, 1536] S1x3x128.size inb_S1x3x2048_S1x3x128_0_0_1536).idx j)))⟩,
   ⟨(Rect.unit (s := S16x72x128) ![11, 5, 0] S1x3x128.size inb_S16x72x128_S1x3x128_11_5_0), (k0_pay14 (fun j => I.w9 ((Rect.unit (s := S1x3x2048) ![0, 0, 1408] S1x3x128.size inb_S1x3x2048_S1x3x128_0_0_1408).idx j)))⟩,
   ⟨(Rect.unit (s := S16x72x128) ![10, 5, 0] S1x3x128.size inb_S16x72x128_S1x3x128_10_5_0), (k0_pay13 (fun j => I.w9 ((Rect.unit (s := S1x3x2048) ![0, 0, 1280] S1x3x128.size inb_S1x3x2048_S1x3x128_0_0_1280).idx j)))⟩,
   ⟨(Rect.unit (s := S16x72x128) ![9, 5, 0] S1x3x128.size inb_S16x72x128_S1x3x128_9_5_0), (k0_pay12 (fun j => I.w9 ((Rect.unit (s := S1x3x2048) ![0, 0, 1152] S1x3x128.size inb_S1x3x2048_S1x3x128_0_0_1152).idx j)))⟩,
   ⟨(Rect.unit (s := S16x72x128) ![8, 5, 0] S1x3x128.size inb_S16x72x128_S1x3x128_8_5_0), (k0_pay11 (fun j => I.w9 ((Rect.unit (s := S1x3x2048) ![0, 0, 1024] S1x3x128.size inb_S1x3x2048_S1x3x128_0_0_1024).idx j)))⟩,
   ⟨(Rect.unit (s := S16x72x128) ![7, 5, 0] S1x3x128.size inb_S16x72x128_S1x3x128_7_5_0), (k0_pay10 (fun j => I.w9 ((Rect.unit (s := S1x3x2048) ![0, 0, 896] S1x3x128.size inb_S1x3x2048_S1x3x128_0_0_896).idx j)))⟩,
   ⟨(Rect.unit (s := S16x72x128) ![6, 5, 0] S1x3x128.size inb_S16x72x128_S1x3x128_6_5_0), (k0_pay9 (fun j => I.w9 ((Rect.unit (s := S1x3x2048) ![0, 0, 768] S1x3x128.size inb_S1x3x2048_S1x3x128_0_0_768).idx j)))⟩,
   ⟨(Rect.unit (s := S16x72x128) ![5, 5, 0] S1x3x128.size inb_S16x72x128_S1x3x128_5_5_0), (k0_pay8 (fun j => I.w9 ((Rect.unit (s := S1x3x2048) ![0, 0, 640] S1x3x128.size inb_S1x3x2048_S1x3x128_0_0_640).idx j)))⟩,
   ⟨(Rect.unit (s := S16x72x128) ![4, 5, 0] S1x3x128.size inb_S16x72x128_S1x3x128_4_5_0), (k0_pay7 (fun j => I.w9 ((Rect.unit (s := S1x3x2048) ![0, 0, 512] S1x3x128.size inb_S1x3x2048_S1x3x128_0_0_512).idx j)))⟩,
   ⟨(Rect.unit (s := S16x72x128) ![3, 5, 0] S1x3x128.size inb_S16x72x128_S1x3x128_3_5_0), (k0_pay6 (fun j => I.w9 ((Rect.unit (s := S1x3x2048) ![0, 0, 384] S1x3x128.size inb_S1x3x2048_S1x3x128_0_0_384).idx j)))⟩,
   ⟨(Rect.unit (s := S16x72x128) ![2, 5, 0] S1x3x128.size inb_S16x72x128_S1x3x128_2_5_0), (k0_pay5 (fun j => I.w9 ((Rect.unit (s := S1x3x2048) ![0, 0, 256] S1x3x128.size inb_S1x3x2048_S1x3x128_0_0_256).idx j)))⟩,
   ⟨(Rect.unit (s := S16x72x128) ![1, 5, 0] S1x3x128.size inb_S16x72x128_S1x3x128_1_5_0), (k0_pay4 (fun j => I.w9 ((Rect.unit (s := S1x3x2048) ![0, 0, 128] S1x3x128.size inb_S1x3x2048_S1x3x128_0_0_128).idx j)))⟩,
   ⟨(Rect.unit (s := S16x72x128) ![0, 5, 0] S1x3x128.size inb_S16x72x128_S1x3x128_0_5_0), (k0_pay3 (fun j => I.w9 ((Rect.unit (s := S1x3x2048) ![0, 0, 0] S1x3x128.size inb_S1x3x2048_S1x3x128_0_0_0).idx j)))⟩]

/-- The stores into the columns of the gate, latest first. -/
def Inp.L17 (I : Inp) : List (View.Piece (Elt Ideal) S8x64x128 .f32) :=
  [⟨(Rect.unit (s := S8x64x128) ![7, 0, 0] S1x64x128.size inb_S8x64x128_S1x64x128_7_0_0), (k0_pay58 (fun j => I.w1 ((Rect.unit (s := S1x64x1024) ![0, 0, 896] S1x64x128.size inb_S1x64x1024_S1x64x128_0_0_896).idx j)))⟩,
   ⟨(Rect.unit (s := S8x64x128) ![6, 0, 0] S1x64x128.size inb_S8x64x128_S1x64x128_6_0_0), (k0_pay57 (fun j => I.w1 ((Rect.unit (s := S1x64x1024) ![0, 0, 768] S1x64x128.size inb_S1x64x1024_S1x64x128_0_0_768).idx j)))⟩,
   ⟨(Rect.unit (s := S8x64x128) ![5, 0, 0] S1x64x128.size inb_S8x64x128_S1x64x128_5_0_0), (k0_pay56 (fun j => I.w1 ((Rect.unit (s := S1x64x1024) ![0, 0, 640] S1x64x128.size inb_S1x64x1024_S1x64x128_0_0_640).idx j)))⟩,
   ⟨(Rect.unit (s := S8x64x128) ![4, 0, 0] S1x64x128.size inb_S8x64x128_S1x64x128_4_0_0), (k0_pay55 (fun j => I.w1 ((Rect.unit (s := S1x64x1024) ![0, 0, 512] S1x64x128.size inb_S1x64x1024_S1x64x128_0_0_512).idx j)))⟩,
   ⟨(Rect.unit (s := S8x64x128) ![3, 0, 0] S1x64x128.size inb_S8x64x128_S1x64x128_3_0_0), (k0_pay54 (fun j => I.w1 ((Rect.unit (s := S1x64x1024) ![0, 0, 384] S1x64x128.size inb_S1x64x1024_S1x64x128_0_0_384).idx j)))⟩,
   ⟨(Rect.unit (s := S8x64x128) ![2, 0, 0] S1x64x128.size inb_S8x64x128_S1x64x128_2_0_0), (k0_pay53 (fun j => I.w1 ((Rect.unit (s := S1x64x1024) ![0, 0, 256] S1x64x128.size inb_S1x64x1024_S1x64x128_0_0_256).idx j)))⟩,
   ⟨(Rect.unit (s := S8x64x128) ![1, 0, 0] S1x64x128.size inb_S8x64x128_S1x64x128_1_0_0), (k0_pay52 (fun j => I.w1 ((Rect.unit (s := S1x64x1024) ![0, 0, 128] S1x64x128.size inb_S1x64x1024_S1x64x128_0_0_128).idx j)))⟩,
   ⟨(Rect.unit (s := S8x64x128) ![0, 0, 0] S1x64x128.size inb_S8x64x128_S1x64x128_0_0_0), (k0_pay51 (fun j => I.w1 ((Rect.unit (s := S1x64x1024) ![0, 0, 0] S1x64x128.size inb_S1x64x1024_S1x64x128_0_0_0).idx j)))⟩]

/-- The first store into the state. -/
def Inp.L15 (I : Inp) : List (View.Piece (Elt Ideal) S1x128x1024 .f32) :=
  [⟨(Rect.unit (s := S1x128x1024) ![0, 0, 0] S1x128x1024.size inb_S1x128x1024_S1x128x1024_0_0_0), (k0_pay34 I.w10)⟩]

/-- A value of the straight line. -/
def v124 (I : Inp) : FVec Ideal S4x2048 .f32 := k0_pay59 I.w3

/-- A value loaded. -/
def v125 (I : Inp) : Vec Ideal S1x2048 .f32 := I.w4

/-- A value loaded. -/
def v126 (I : Inp) : Vec Ideal S1x32x128 .f32 := fun j => View.canon I.L16 ((⟨![0, 5, 0], S1x32x128.size, ![1, 2, 1], inb_S16x72x128_S1x32x128_0_5_0_s_1_2_1⟩ : LoadRect S16x72x128).idx j)

/-- A value loaded. -/
def v128 (I : Inp) : Vec Ideal S1x32x128 .f32 := fun j => View.canon I.L16 ((⟨![0, 6, 0], S1x32x128.size, ![1, 2, 1], inb_S16x72x128_S1x32x128_0_6_0_s_1_2_1⟩ : LoadRect S16x72x128).idx j)

/-- A value loaded. -/
def v130 (I : Inp) : Vec Ideal S1x32x128 .f32 := fun j => View.canon I.L16 ((⟨![0, 6, 0], S1x32x128.size, ![1, 2, 1], inb_S16x72x128_S1x32x128_0_6_0_s_1_2_1⟩ : LoadRect S16x72x128).idx j)

/-- A value loaded. -/
def v132 (I : Inp) : Vec Ideal S1x32x128 .f32 := fun j => View.canon I.L16 ((⟨![0, 7, 0], S1x32x128.size, ![1, 2, 1], inb_S16x72x128_S1x32x128_0_7_0_s_1_2_1⟩ : LoadRect S16x72x128).idx j)

/-- A value loaded. -/
def v134 (I : Inp) : Vec Ideal S1x32x128 .f32 := fun j => View.canon I.L16 ((⟨![0, 7, 0], S1x32x128.size, ![1, 2, 1], inb_S16x72x128_S1x32x128_0_7_0_s_1_2_1⟩ : LoadRect S16x72x128).idx j)

/-- A value loaded. -/
def v136 (I : Inp) : Vec Ideal S1x32x128 .f32 := fun j => View.canon I.L16 ((⟨![0, 8, 0], S1x32x128.size, ![1, 2, 1], inb_S16x72x128_S1x32x128_0_8_0_s_1_2_1⟩ : LoadRect S16x72x128).idx j)

/-- A value loaded. -/
def v138 (I : Inp) : Vec Ideal S1x32x128 .f32 := fun j => View.canon I.L16 ((⟨![0, 8, 0], S1x32x128.size, ![1, 2, 1], inb_S16x72x128_S1x32x128_0_8_0_s_1_2_1⟩ : LoadRect S16x72x128).idx j)

/-- A value loaded. -/
def v140 (I : Inp) : Vec Ideal S1x32x128 .f32 := fun j => View.canon I.L16 ((⟨![0, 9, 0], S1x32x128.size, ![1, 2, 1], inb_S16x72x128_S1x32x128_0_9_0_s_1_2_1⟩ : LoadRect S16x72x128).idx j)

/-- A value of the straight line. -/
def v129 (I : Inp) : FVec Ideal S32x128 .f32 := k0_pay60 (v128 I)

/-- A value of the straight line. -/
def v133 (I : Inp) : FVec Ideal S32x128 .f32 := k0_pay61 (v132 I)

/-- A value of the straight line. -/
def v137 (I : Inp) : FVec Ideal S32x128 .f32 := k0_pay62 (v136 I)

/-- A value of the straight line. -/
def v141 (I : Inp) : FVec Ideal S32x128 .f32 := k0_pay63 (v140 I)

/-- A value of the straight line. -/
def v155 (I : Inp) : FVec Ideal S32x128 .f32 := k0_pay64 (v124 I) (v125 I) (v126 I) (v130 I) (v134 I)

/-- A value of the straight line. -/
def v158 (I : Inp) : FVec Ideal S32x128 .f32 := k0_pay65 (v124 I) (v138 I)

/-- A value loaded. -/
def v179 (I : Inp) : Vec Ideal S1x32x128 .f32 := fun j => View.canon I.L16 ((⟨![1, 5, 0], S1x32x128.size, ![1, 2, 1], inb_S16x72x128_S1x32x128_1_5_0_s_1_2_1⟩ : LoadRect S16x72x128).idx j)

/-- A value loaded. -/
def v181 (I : Inp) : Vec Ideal S1x32x128 .f32 := fun j => View.canon I.L16 ((⟨![1, 6, 0], S1x32x128.size, ![1, 2, 1], inb_S16x72x128_S1x32x128_1_6_0_s_1_2_1⟩ : LoadRect S16x72x128).idx j)

/-- A value loaded. -/
def v183 (I : Inp) : Vec Ideal S1x32x128 .f32 := fun j => View.canon I.L16 ((⟨![1, 6, 0], S1x32x128.size, ![1, 2, 1], inb_S16x72x128_S1x32x128_1_6_0_s_1_2_1⟩ : LoadRect S16x72x128).idx j)

/-- A value loaded. -/
def v185 (I : Inp) : Vec Ideal S1x32x128 .f32 := fun j => View.canon I.L16 ((⟨![1, 7, 0], S1x32x128.size, ![1, 2, 1], inb_S16x72x128_S1x32x128_1_7_0_s_1_2_1⟩ : LoadRect S16x72x128).idx j)

/-- A value loaded. -/
def v187 (I : Inp) : Vec Ideal S1x32x128 .f32 := fun j => View.canon I.L16 ((⟨![1, 7, 0], S1x32x128.size, ![1, 2, 1], inb_S16x72x128_S1x32x128_1_7_0_s_1_2_1⟩ : LoadRect S16x72x128).idx j)

/-- A value loaded. -/
def v189 (I : Inp) : Vec Ideal S1x32x128 .f32 := fun j => View.canon I.L16 ((⟨![1, 8, 0], S1x32x128.size, ![1, 2, 1], inb_S16x72x128_S1x32x128_1_8_0_s_1_2_1⟩ : LoadRect S16x72x128).idx j)

/-- A value loaded. -/
def v191 (I : Inp) : Vec Ideal S1x32x128 .f32 := fun j => View.canon I.L16 ((⟨![1, 8, 0], S1x32x128.size, ![1, 2, 1], inb_S16x72x128_S1x32x128_1_8_0_s_1_2_1⟩ : LoadRect S16x72x128).idx j)

/-- A value loaded. -/
def v193 (I : Inp) : Vec Ideal S1x32x128 .f32 := fun j => View.canon I.L16 ((⟨![1, 9, 0], S1x32x128.size, ![1, 2, 1], inb_S16x72x128_S1x32x128_1_9_0_s_1_2_1⟩ : LoadRect S16x72x128).idx j)

/-- A value of the straight line. -/
def v178 (I : Inp) : FVec Ideal S64x128 .f32 := k0_pay66 (v124 I) (v125 I) (v129 I) (v133 I) (v137 I) (v141 I) (v155 I) (v158 I)

/-- A value of the straight line. -/
def v180 (I : Inp) : FVec Ideal S32x128 .f32 := k0_pay67 (v179 I)

/-- A value of the straight line. -/
def v182 (I : Inp) : FVec Ideal S32x128 .f32 := k0_pay68 (v181 I)

/-- A value of the straight line. -/
def v184 (I : Inp) : FVec Ideal S32x128 .f32 := k0_pay69 (v183 I)

/-- A value of the straight line. -/
def v186 (I : Inp) : FVec Ideal S32x128 .f32 := k0_pay70 (v185 I)

/-- A value of the straight line. -/
def v188 (I : Inp) : FVec Ideal S32x128 .f32 := k0_pay71 (v187 I)

/-- A value of the straight line. -/
def v190 (I : Inp) : FVec Ideal S32x128 .f32 := k0_pay72 (v189 I)

/-- A value of the straight line. -/
def v192 (I : Inp) : FVec Ideal S32x128 .f32 := k0_pay73 (v191 I)

/-- A value of the straight line. -/
def v194 (I : Inp) : FVec Ideal S32x128 .f32 := k0_pay74 (v193 I)

/-- A value loaded. -/
def v232 (I : Inp) : Vec Ideal S1x32x128 .f32 := fun j => View.canon I.L16 ((⟨![2, 5, 0], S1x32x128.size, ![1, 2, 1], inb_S16x72x128_S1x32x128_2_5_0_s_1_2_1⟩ : LoadRect S16x72x128).idx j)

/-- A value loaded. -/
def v234 (I : Inp) : Vec Ideal S1x32x128 .f32 := fun j => View.canon I.L16 ((⟨![2, 6, 0], S1x32x128.size, ![1, 2, 1], inb_S16x72x128_S1x32x128_2_6_0_s_1_2_1⟩ : LoadRect S16x72x128).idx j)

/-- A value loaded. -/
def v236 (I : Inp) : Vec Ideal S1x32x128 .f32 := fun j => View.canon I.L16 ((⟨![2, 6, 0], S1x32x128.size, ![1, 2, 1], inb_S16x72x128_S1x32x128_2_6_0_s_1_2_1⟩ : LoadRect S16x72x128).idx j)

/-- A value loaded. -/
def v238 (I : Inp) : Vec Ideal S1x32x128 .f32 := fun j => View.canon I.L16 ((⟨![2, 7, 0], S1x32x128.size, ![1, 2, 1], inb_S16x72x128_S1x32x128_2_7_0_s_1_2_1⟩ : LoadRect S16x72x128).idx j)

/-- A value of the straight line. -/
def v231 (I : Inp) : FVec Ideal S64x128 .f32 := k0_pay75 (v124 I) (v125 I) (v180 I) (v182 I) (v184 I) (v186 I) (v188 I) (v190 I) (v192 I) (v194 I)

/-- A value of the straight line. -/
def v233 (I : Inp) : FVec Ideal S32x128 .f32 := k0_pay76 (v232 I)

/-- A value of the straight line. -/
def v235 (I : Inp) : FVec Ideal S32x128 .f32 := k0_pay77 (v234 I)

/-- A value of the straight line. -/
def v237 (I : Inp) : FVec Ideal S32x128 .f32 := k0_pay78 (v236 I)

/-- A value of the straight line. -/
def v239 (I : Inp) : FVec Ideal S32x128 .f32 := k0_pay79 (v238 I)

/-- A value loaded. -/
def v240 (I : Inp) : Vec Ideal S1x32x128 .f32 := fun j => View.canon I.L16 ((⟨![2, 7, 0], S1x32x128.size, ![1, 2, 1], inb_S16x72x128_S1x32x128_2_7_0_s_1_2_1⟩ : LoadRect S16x72x128).idx j)

/-- A value loaded. -/
def v242 (I : Inp) : Vec Ideal S1x32x128 .f32 := fun j => View.canon I.L16 ((⟨![2, 8, 0], S1x32x128.size, ![1, 2, 1], inb_S16x72x128_S1x32x128_2_8_0_s_1_2_1⟩ : LoadRect S16x72x128).idx j)

/-- A value loaded. -/
def v244 (I : Inp) : Vec Ideal S1x32x128 .f32 := fun j => View.canon I.L16 ((⟨![2, 8, 0], S1x32x128.size, ![1, 2, 1], inb_S16x72x128_S1x32x128_2_8_0_s_1_2_1⟩ : LoadRect S16x72x128).idx j)

/-- A value loaded. -/
def v246 (I : Inp) : Vec Ideal S1x32x128 .f32 := fun j => View.canon I.L16 ((⟨![2, 9, 0], S1x32x128.size, ![1, 2, 1], inb_S16x72x128_S1x32x128_2_9_0_s_1_2_1⟩ : LoadRect S16x72x128).idx j)

/-- A value loaded. -/
def v285 (I : Inp) : Vec Ideal S1x32x128 .f32 := fun j => View.canon I.L16 ((⟨![3, 5, 0], S1x32x128.size, ![1, 2, 1], inb_S16x72x128_S1x32x128_3_5_0_s_1_2_1⟩ : LoadRect S16x72x128).idx j)

/-- A value of the straight line. -/
def v284 (I : Inp) : FVec Ideal S64x128 .f32 := k0_pay80 (v124 I) (v125 I) (v233 I) (v235 I) (v237 I) (v239 I) (v240 I) (v242 I) (v244 I) (v246 I)

/-- A value of the straight line. -/
def v286 (I : Inp) : FVec Ideal S32x128 .f32 := k0_pay81 (v285 I)

/-- A value loaded. -/
def v287 (I : Inp) : Vec Ideal S1x32x128 .f32 := fun j => View.canon I.L16 ((⟨![3, 6, 0], S1x32x128.size, ![1, 2, 1], inb_S16x72x128_S1x32x128_3_6_0_s_1_2_1⟩ : LoadRect S16x72x128).idx j)

/-- A value loaded. -/
def v289 (I : Inp) : Vec Ideal S1x32x128 .f32 := fun j => View.canon I.L16 ((⟨![3, 6, 0], S1x32x128.size, ![1, 2, 1], inb_S16x72x128_S1x32x128_3_6_0_s_1_2_1⟩ : LoadRect S16x72x128).idx j)

/-- A value loaded. -/
def v291 (I : Inp) : Vec Ideal S1x32x128 .f32 := fun j => View.canon I.L16 ((⟨![3, 7, 0], S1x32x128.size, ![1, 2, 1], inb_S16x72x128_S1x32x128_3_7_0_s_1_2_1⟩ : LoadRect S16x72x128).idx j)

/-- A value loaded. -/
def v293 (I : Inp) : Vec Ideal S1x32x128 .f32 := fun j => View.canon I.L16 ((⟨![3, 7, 0], S1x32x128.size, ![1, 2, 1], inb_S16x72x128_S1x32x128_3_7_0_s_1_2_1⟩ : LoadRect S16x72x128).idx j)

/-- A value loaded. -/
def v295 (I : Inp) : Vec Ideal S1x32x128 .f32 := fun j => View.canon I.L16 ((⟨![3, 8, 0], S1x32x128.size, ![1, 2, 1], inb_S16x72x128_S1x32x128_3_8_0_s_1_2_1⟩ : LoadRect S16x72x128).idx j)

/-- A value loaded. -/
def v297 (I : Inp) : Vec Ideal S1x32x128 .f32 := fun j => View.canon I.L16 ((⟨![3, 8, 0], S1x32x128.size, ![1, 2, 1], inb_S16x72x128_S1x32x128_3_8_0_s_1_2_1⟩ : LoadRect S16x72x128).idx j)

/-- A value loaded. -/
def v299 (I : Inp) : Vec Ideal S1x32x128 .f32 := fun j => View.canon I.L16 ((⟨![3, 9, 0], S1x32x128.size, ![1, 2, 1], inb_S16x72x128_S1x32x128_3_9_0_s_1_2_1⟩ : LoadRect S16x72x128).idx j)

/-- A value of the straight line. -/
def v292 (I : Inp) : FVec Ideal S32x128 .f32 := k0_pay82 (v291 I)

/-- A value of the straight line. -/
def v296 (I : Inp) : FVec Ideal S32x128 .f32 := k0_pay83 (v295 I)

/-- A value of the straight line. -/
def v300 (I : Inp) : FVec Ideal S32x128 .f32 := k0_pay84 (v299 I)

/-- A value of the straight line. -/
def v318 (I : Inp) : FVec Ideal S32x128 .f32 := k0_pay85 (v124 I) (v125 I) (v286 I) (v289 I) (v293 I) (v297 I)

/-- A value of the straight line. -/
def v324 (I : Inp) : FVec Ideal S32x128 .f32 := k0_pay86 (v124 I) (v125 I) (v287 I)

/-- A value of the straight line. -/
def v326 (I : Inp) : FVec Ideal S32x128 .f32 := k0_pay87 (v124 I)

/-- A value loaded. -/
def v338 (I : Inp) : Vec Ideal S1x32x128 .f32 := fun j => View.canon I.L16 ((⟨![4, 5, 0], S1x32x128.size, ![1, 2, 1], inb_S16x72x128_S1x32x128_4_5_0_s_1_2_1⟩ : LoadRect S16x72x128).idx j)

/-- A value loaded. -/
def v340 (I : Inp) : Vec Ideal S1x32x128 .f32 := fun j => View.canon I.L16 ((⟨![4, 6, 0], S1x32x128.size, ![1, 2, 1], inb_S16x72x128_S1x32x128_4_6_0_s_1_2_1⟩ : LoadRect S16x72x128).idx j)

/-- A value loaded. -/
def v342 (I : Inp) : Vec Ideal S1x32x128 .f32 := fun j => View.canon I.L16 ((⟨![4, 6, 0], S1x32x128.size, ![1, 2, 1], inb_S16x72x128_S1x32x128_4_6_0_s_1_2_1⟩ : LoadRect S16x72x128).idx j)

/-- A value loaded. -/
def v344 (I : Inp) : Vec Ideal S1x32x128 .f32 := fun j => View.canon I.L16 ((⟨![4, 7, 0], S1x32x128.size, ![1, 2, 1], inb_S16x72x128_S1x32x128_4_7_0_s_1_2_1⟩ : LoadRect S16x72x128).idx j)

/-- A value loaded. -/
def v346 (I : Inp) : Vec Ideal S1x32x128 .f32 := fun j => View.canon I.L16 ((⟨![4, 7, 0], S1x32x128.size, ![1, 2, 1], inb_S16x72x128_S1x32x128_4_7_0_s_1_2_1⟩ : LoadRect S16x72x128).idx j)

/-- A value loaded. -/
def v348 (I : Inp) : Vec Ideal S1x32x128 .f32 := fun j => View.canon I.L16 ((⟨![4, 8, 0], S1x32x128.size, ![1, 2, 1], inb_S16x72x128_S1x32x128_4_8_0_s_1_2_1⟩ : LoadRect S16x72x128).idx j)

/-- A value loaded. -/
def v350 (I : Inp) : Vec Ideal S1x32x128 .f32 := fun j => View.canon I.L16 ((⟨![4, 8, 0], S1x32x128.size, ![1, 2, 1], inb_S16x72x128_S1x32x128_4_8_0_s_1_2_1⟩ : LoadRect S16x72x128).idx j)

/-- A value loaded. -/
def v352 (I : Inp) : Vec Ideal S1x32x128 .f32 := fun j => View.canon I.L16 ((⟨![4, 9, 0], S1x32x128.size, ![1, 2, 1], inb_S16x72x128_S1x32x128_4_9_0_s_1_2_1⟩ : LoadRect S16x72x128).idx j)

/-- A value of the straight line. -/
def v337 (I : Inp) : FVec Ideal S64x128 .f32 := k0_pay88 (v124 I) (v292 I) (v296 I) (v300 I) (v318 I) (v324 I) (v326 I)

/-- A value of the straight line. -/
def v341 (I : Inp) : FVec Ideal S32x128 .f32 := k0_pay89 (v340 I)

/-- A value of the straight line. -/
def v345 (I : Inp) : FVec Ideal S32x128 .f32 := k0_pay90 (v344 I)

/-- A value of the straight line. -/
def v347 (I : Inp) : FVec Ideal S32x128 .f32 := k0_pay91 (v346 I)

/-- A value of the straight line. -/
def v349 (I : Inp) : FVec Ideal S32x128 .f32 := k0_pay92 (v348 I)

/-- A value of the straight line. -/
def v351 (I : Inp) : FVec Ideal S32x128 .f32 := k0_pay93 (v350 I)

/-- A value of the straight line. -/
def v353 (I : Inp) : FVec Ideal S32x128 .f32 := k0_pay94 (v352 I)

/-- A value of the straight line. -/
def v359 (I : Inp) : FVec Ideal S32x128 .f32 := k0_pay95 (v124 I) (v125 I) (v338 I)

/-- A value of the straight line. -/
def v362 (I : Inp) : FVec Ideal S32x128 .f32 := k0_pay96 (v124 I) (v342 I)

/-- A value loaded. -/
def v391 (I : Inp) : Vec Ideal S1x32x128 .f32 := fun j => View.canon I.L16 ((⟨![5, 5, 0], S1x32x128.size, ![1, 2, 1], inb_S16x72x128_S1x32x128_5_5_0_s_1_2_1⟩ : LoadRect S16x72x128).idx j)

/-- A value loaded. -/
def v393 (I : Inp) : Vec Ideal S1x32x128 .f32 := fun j => View.canon I.L16 ((⟨![5, 6, 0], S1x32x128.size, ![1, 2, 1], inb_S16x72x128_S1x32x128_5_6_0_s_1_2_1⟩ : LoadRect S16x72x128).idx j)

/-- A value loaded. -/
def v395 (I : Inp) : Vec Ideal S1x32x128 .f32 := fun j => View.canon I.L16 ((⟨![5, 6, 0], S1x32x128.size, ![1, 2, 1], inb_S16x72x128_S1x32x128_5_6_0_s_1_2_1⟩ : LoadRect S16x72x128).idx j)

/-- A value loaded. -/
def v397 (I : Inp) : Vec Ideal S1x32x128 .f32 := fun j => View.canon I.L16 ((⟨![5, 7, 0], S1x32x128.size, ![1, 2, 1], inb_S16x72x128_S1x32x128_5_7_0_s_1_2_1⟩ : LoadRect S16x72x128).idx j)

/-- A value loaded. -/
def v399 (I : Inp) : Vec Ideal S1x32x128 .f32 := fun j => View.canon I.L16 ((⟨![5, 7, 0], S1x32x128.size, ![1, 2, 1], inb_S16x72x128_S1x32x128_5_7_0_s_1_2_1⟩ : LoadRect S16x72x128).idx j)

/-- A value loaded. -/
def v401 (I : Inp) : Vec Ideal S1x32x128 .f32 := fun j => View.canon I.L16 ((⟨![5, 8, 0], S1x32x128.size, ![1, 2, 1], inb_S16x72x128_S1x32x128_5_8_0_s_1_2_1⟩ : LoadRect S16x72x128).idx j)

/-- A value of the straight line. -/
def v390 (I : Inp) : FVec Ideal S64x128 .f32 := k0_pay97 (v124 I) (v125 I) (v341 I) (v345 I) (v347 I) (v349 I) (v351 I) (v353 I) (v359 I) (v362 I)

/-- A value of the straight line. -/
def v392 (I : Inp) : FVec Ideal S32x128 .f32 := k0_pay98 (v391 I)

/-- A value of the straight line. -/
def v394 (I : Inp) : FVec Ideal S32x128 .f32 := k0_pay99 (v393 I)

/-- A value of the straight line. -/
def v396 (I : Inp) : FVec Ideal S32x128 .f32 := k0_pay100 (v395 I)

/-- A value of the straight line. -/
def v398 (I : Inp) : FVec Ideal S32x128 .f32 := k0_pay101 (v397 I)

/-- A value of the straight line. -/
def v400 (I : Inp) : FVec Ideal S32x128 .f32 := k0_pay102 (v399 I)

/-- A value of the straight line. -/
def v402 (I : Inp) : FVec Ideal S32x128 .f32 := k0_pay103 (v401 I)

/-- A value loaded. -/
def v403 (I : Inp) : Vec Ideal S1x32x128 .f32 := fun j => View.canon I.L16 ((⟨![5, 8, 0], S1x32x128.size, ![1, 2, 1], inb_S16x72x128_S1x32x128_5_8_0_s_1_2_1⟩ : LoadRect S16x72x128).idx j)

/-- A value loaded. -/
def v405 (I : Inp) : Vec Ideal S1x32x128 .f32 := fun j => View.canon I.L16 ((⟨![5, 9, 0], S1x32x128.size, ![1, 2, 1], inb_S16x72x128_S1x32x128_5_9_0_s_1_2_1⟩ : LoadRect S16x72x128).idx j)

/-- A value loaded. -/
def v444 (I : Inp) : Vec Ideal S1x32x128 .f32 := fun j => View.canon I.L16 ((⟨![6, 5, 0], S1x32x128.size, ![1, 2, 1], inb_S16x72x128_S1x32x128_6_5_0_s_1_2_1⟩ : LoadRect S16x72x128).idx j)

/-- A value loaded. -/
def v446 (I : Inp) : Vec Ideal S1x32x128 .f32 := fun j => View.canon I.L16 ((⟨![6, 6, 0], S1x32x128.size, ![1, 2, 1], inb_S16x72x128_S1x32x128_6_6_0_s_1_2_1⟩ : LoadRect S16x72x128).idx j)

/-- A value loaded. -/
def v448 (I : Inp) : Vec Ideal S1x32x128 .f32 := fun j => View.canon I.L16 ((⟨![6, 6, 0], S1x32x128.size, ![1, 2, 1], inb_S16x72x128_S1x32x128_6_6_0_s_1_2_1⟩ : LoadRect S16x72x128).idx j)

/-- A value of the straight line. -/
def v443 (I : Inp) : FVec Ideal S64x128 .f32 := k0_pay104 (v124 I) (v125 I) (v392 I) (v394 I) (v396 I) (v398 I) (v400 I) (v402 I) (v403 I) (v405 I)

/-- A value of the straight line. -/
def v445 (I : Inp) : FVec Ideal S32x128 .f32 := k0_pay105 (v444 I)

/-- A value of the straight line. -/
def v447 (I : Inp) : FVec Ideal S32x128 .f32 := k0_pay106 (v446 I)

/-- A value of the straight line. -/
def v449 (I : Inp) : FVec Ideal S32x128 .f32 := k0_pay107 (v448 I)

/-- A value loaded. -/
def v450 (I : Inp) : Vec Ideal S1x32x128 .f32 := fun j => View.canon I.L16 ((⟨![6, 7, 0], S1x32x128.size, ![1, 2, 1], inb_S16x72x128_S1x32x128_6_7_0_s_1_2_1⟩ : LoadRect S16x72x128).idx j)

/-- A value loaded. -/
def v452 (I : Inp) : Vec Ideal S1x32x128 .f32 := fun j => View.canon I.L16 ((⟨![6, 7, 0], S1x32x128.size, ![1, 2, 1], inb_S16x72x128_S1x32x128_6_7_0_s_1_2_1⟩ : LoadRect S16x72x128).idx j)

/-- A value loaded. -/
def v454 (I : Inp) : Vec Ideal S1x32x128 .f32 := fun j => View.canon I.L16 ((⟨![6, 8, 0], S1x32x128.size, ![1, 2, 1], inb_S16x72x128_S1x32x128_6_8_0_s_1_2_1⟩ : LoadRect S16x72x128).idx j)

/-- A value loaded. -/
def v456 (I : Inp) : Vec Ideal S1x32x128 .f32 := fun j => View.canon I.L16 ((⟨![6, 8, 0], S1x32x128.size, ![1, 2, 1], inb_S16x72x128_S1x32x128_6_8_0_s_1_2_1⟩ : LoadRect S16x72x128).idx j)

/-- A value loaded. -/
def v458 (I : Inp) : Vec Ideal S1x32x128 .f32 := fun j => View.canon I.L16 ((⟨![6, 9, 0], S1x32x128.size, ![1, 2, 1], inb_S16x72x128_S1x32x128_6_9_0_s_1_2_1⟩ : LoadRect S16x72x128).idx j)

/-- A value of the straight line. -/
def v477 (I : Inp) : FVec Ideal S32x128 .f32 := k0_pay108 (v124 I) (v125 I) (v445 I) (v449 I) (v452 I) (v456 I)

/-- A value of the straight line. -/
def v491 (I : Inp) : FVec Ideal S32x128 .f32 := k0_pay109 (v124 I) (v125 I) (v447 I) (v450 I) (v454 I)

/-- A value of the straight line. -/
def v494 (I : Inp) : FVec Ideal S32x128 .f32 := k0_pay110 (v124 I) (v458 I)

/-- A value loaded. -/
def v497 (I : Inp) : Vec Ideal S1x32x128 .f32 := fun j => View.canon I.L16 ((⟨![7, 5, 0], S1x32x128.size, ![1, 2, 1], inb_S16x72x128_S1x32x128_7_5_0_s_1_2_1⟩ : LoadRect S16x72x128).idx j)

/-- A value loaded. -/
def v499 (I : Inp) : Vec Ideal S1x32x128 .f32 := fun j => View.canon I.L16 ((⟨![7, 6, 0], S1x32x128.size, ![1, 2, 1], inb_S16x72x128_S1x32x128_7_6_0_s_1_2_1⟩ : LoadRect S16x72x128).idx j)

/-- A value loaded. -/
def v501 (I : Inp) : Vec Ideal S1x32x128 .f32 := fun j => View.canon I.L16 ((⟨![7, 6, 0], S1x32x128.size, ![1, 2, 1], inb_S16x72x128_S1x32x128_7_6_0_s_1_2_1⟩ : LoadRect S16x72x128).idx j)

/-- A value loaded. -/
def v503 (I : Inp) : Vec Ideal S1x32x128 .f32 := fun j => View.canon I.L16 ((⟨![7, 7, 0], S1x32x128.size, ![1, 2, 1], inb_S16x72x128_S1x32x128_7_7_0_s_1_2_1⟩ : LoadRect S16x72x128).idx j)

/-- A value loaded. -/
def v505 (I : Inp) : Vec Ideal S1x32x128 .f32 := fun j => View.canon I.L16 ((⟨![7, 7, 0], S1x32x128.size, ![1, 2, 1], inb_S16x72x128_S1x32x128_7_7_0_s_1_2_1⟩ : LoadRect S16x72x128).idx j)

/-- A value loaded. -/
def v507 (I : Inp) : Vec Ideal S1x32x128 .f32 := fun j => View.canon I.L16 ((⟨![7, 8, 0], S1x32x128.size, ![1, 2, 1], inb_S16x72x128_S1x32x128_7_8_0_s_1_2_1⟩ : LoadRect S16x72x128).idx j)

/-- A value loaded. -/
def v509 (I : Inp) : Vec Ideal S1x32x128 .f32 := fun j => View.canon I.L16 ((⟨![7, 8, 0], S1x32x128.size, ![1, 2, 1], inb_S16x72x128_S1x32x128_7_8_0_s_1_2_1⟩ : LoadRect S16x72x128).idx j)

/-- A value loaded. -/
def v511 (I : Inp) : Vec Ideal S1x32x128 .f32 := fun j => View.canon I.L16 ((⟨![7, 9, 0], S1x32x128.size, ![1, 2, 1], inb_S16x72x128_S1x32x128_7_9_0_s_1_2_1⟩ : LoadRect S16x72x128).idx j)

/-- A value of the straight line. -/
def v496 (I : Inp) : FVec Ideal S64x128 .f32 := k0_pay111 (v477 I) (v491 I) (v494 I)

/-- A value of the straight line. -/
def v500 (I : Inp) : FVec Ideal S32x128 .f32 := k0_pay112 (v499 I)

/-- A value of the straight line. -/
def v504 (I : Inp) : FVec Ideal S32x128 .f32 := k0_pay113 (v503 I)

/-- A value of the straight line. -/
def v508 (I : Inp) : FVec Ideal S32x128 .f32 := k0_pay114 (v507 I)

/-- A value of the straight line. -/
def v512 (I : Inp) : FVec Ideal S32x128 .f32 := k0_pay115 (v511 I)

/-- A value of the straight line. -/
def v530 (I : Inp) : FVec Ideal S32x128 .f32 := k0_pay116 (v124 I) (v125 I) (v497 I) (v501 I) (v505 I) (v509 I)

/-- A value loaded. -/
def v550 (I : Inp) : Vec Ideal S1x32x128 .f32 := fun j => View.canon I.L16 ((⟨![8, 5, 0], S1x32x128.size, ![1, 2, 1], inb_S16x72x128_S1x32x128_8_5_0_s_1_2_1⟩ : LoadRect S16x72x128).idx j)

/-- A value loaded. -/
def v552 (I : Inp) : Vec Ideal S1x32x128 .f32 := fun j => View.canon I.L16 ((⟨![8, 6, 0], S1x32x128.size, ![1, 2, 1], inb_S16x72x128_S1x32x128_8_6_0_s_1_2_1⟩ : LoadRect S16x72x128).idx j)

/-- A value loaded. -/
def v554 (I : Inp) : Vec Ideal S1x32x128 .f32 := fun j => View.canon I.L16 ((⟨![8, 6, 0], S1x32x128.size, ![1, 2, 1], inb_S16x72x128_S1x32x128_8_6_0_s_1_2_1⟩ : LoadRect S16x72x128).idx j)

/-- A value loaded. -/
def v556 (I : Inp) : Vec Ideal S1x32x128 .f32 := fun j => View.canon I.L16 ((⟨![8, 7, 0], S1x32x128.size, ![1, 2, 1], inb_S16x72x128_S1x32x128_8_7_0_s_1_2_1⟩ : LoadRect S16x72x128).idx j)

/-- A value loaded. -/
def v558 (I : Inp) : Vec Ideal S1x32x128 .f32 := fun j => View.canon I.L16 ((⟨![8, 7, 0], S1x32x128.size, ![1, 2, 1], inb_S16x72x128_S1x32x128_8_7_0_s_1_2_1⟩ : LoadRect S16x72x128).idx j)

/-- A value loaded. -/
def v560 (I : Inp) : Vec Ideal S1x32x128 .f32 := fun j => View.canon I.L16 ((⟨![8, 8, 0], S1x32x128.size, ![1, 2, 1], inb_S16x72x128_S1x32x128_8_8_0_s_1_2_1⟩ : LoadRect S16x72x128).idx j)

/-- A value loaded. -/
def v562 (I : Inp) : Vec Ideal S1x32x128 .f32 := fun j => View.canon I.L16 ((⟨![8, 8, 0], S1x32x128.size, ![1, 2, 1], inb_S16x72x128_S1x32x128_8_8_0_s_1_2_1⟩ : LoadRect S16x72x128).idx j)

/-- A value loaded. -/
def v564 (I : Inp) : Vec Ideal S1x32x128 .f32 := fun j => View.canon I.L16 ((⟨![8, 9, 0], S1x32x128.size, ![1, 2, 1], inb_S16x72x128_S1x32x128_8_9_0_s_1_2_1⟩ : LoadRect S16x72x128).idx j)

/-- A value of the straight line. -/
def v549 (I : Inp) : FVec Ideal S64x128 .f32 := k0_pay117 (v124 I) (v125 I) (v500 I) (v504 I) (v508 I) (v512 I) (v530 I)

/-- A value of the straight line. -/
def v551 (I : Inp) : FVec Ideal S32x128 .f32 := k0_pay118 (v550 I)

/-- A value of the straight line. -/
def v553 (I : Inp) : FVec Ideal S32x128 .f32 := k0_pay119 (v552 I)

/-- A value of the straight line. -/
def v555 (I : Inp) : FVec Ideal S32x128 .f32 := k0_pay120 (v554 I)

/-- A value of the straight line. -/
def v557 (I : Inp) : FVec Ideal S32x128 .f32 := k0_pay121 (v556 I)

/-- A value of the straight line. -/
def v559 (I : Inp) : FVec Ideal S32x128 .f32 := k0_pay122 (v558 I)

/-- A value of the straight line. -/
def v561 (I : Inp) : FVec Ideal S32x128 .f32 := k0_pay123 (v560 I)

/-- A value of the straight line. -/
def v563 (I : Inp) : FVec Ideal S32x128 .f32 := k0_pay124 (v562 I)

/-- A value of the straight line. -/
def v565 (I : Inp) : FVec Ideal S32x128 .f32 := k0_pay125 (v564 I)

/-- A value of the straight line. -/
def v566 (I : Inp) : FVec Ideal S1x128 .f32 := k0_pay126 (v125 I)

/-- A value loaded. -/
def v603 (I : Inp) : Vec Ideal S1x32x128 .f32 := fun j => View.canon I.L16 ((⟨![9, 5, 0], S1x32x128.size, ![1, 2, 1], inb_S16x72x128_S1x32x128_9_5_0_s_1_2_1⟩ : LoadRect S16x72x128).idx j)

/-- A value loaded. -/
def v605 (I : Inp) : Vec Ideal S1x32x128 .f32 := fun j => View.canon I.L16 ((⟨![9, 6, 0], S1x32x128.size, ![1, 2, 1], inb_S16x72x128_S1x32x128_9_6_0_s_1_2_1⟩ : LoadRect S16x72x128).idx j)

/-- A value loaded. -/
def v607 (I : Inp) : Vec Ideal S1x32x128 .f32 := fun j => View.canon I.L16 ((⟨![9, 6, 0], S1x32x128.size, ![1, 2, 1], inb_S16x72x128_S1x32x128_9_6_0_s_1_2_1⟩ : LoadRect S16x72x128).idx j)

/-- A value loaded. -/
def v609 (I : Inp) : Vec Ideal S1x32x128 .f32 := fun j => View.canon I.L16 ((⟨![9, 7, 0], S1x32x128.size, ![1, 2, 1], inb_S16x72x128_S1x32x128_9_7_0_s_1_2_1⟩ : LoadRect S16x72x128).idx j)

/-- A value loaded. -/
def v611 (I : Inp) : Vec Ideal S1x32x128 .f32 := fun j => View.canon I.L16 ((⟨![9, 7, 0], S1x32x128.size, ![1, 2, 1], inb_S16x72x128_S1x32x128_9_7_0_s_1_2_1⟩ : LoadRect S16x72x128).idx j)

/-- A value of the straight line. -/
def v602 (I : Inp) : FVec Ideal S64x128 .f32 := k0_pay127 (v124 I) (v125 I) (v551 I) (v553 I) (v555 I) (v557 I) (v559 I) (v561 I) (v563 I) (v565 I) (v566 I)

/-- A value of the straight line. -/
def v604 (I : Inp) : FVec Ideal S32x128 .f32 := k0_pay128 (v603 I)

/-- A value of the straight line. -/
def v606 (I : Inp) : FVec Ideal S32x128 .f32 := k0_pay129 (v605 I)

/-- A value of the straight line. -/
def v608 (I : Inp) : FVec Ideal S32x128 .f32 := k0_pay130 (v607 I)

/-- A value of the straight line. -/
def v610 (I : Inp) : FVec Ideal S32x128 .f32 := k0_pay131 (v609 I)

/-- A value loaded. -/
def v613 (I : Inp) : Vec Ideal S1x32x128 .f32 := fun j => View.canon I.L16 ((⟨![9, 8, 0], S1x32x128.size, ![1, 2, 1], inb_S16x72x128_S1x32x128_9_8_0_s_1_2_1⟩ : LoadRect S16x72x128).idx j)

/-- A value loaded. -/
def v615 (I : Inp) : Vec Ideal S1x32x128 .f32 := fun j => View.canon I.L16 ((⟨![9, 8, 0], S1x32x128.size, ![1, 2, 1], inb_S16x72x128_S1x32x128_9_8_0_s_1_2_1⟩ : LoadRect S16x72x128).idx j)

/-- A value loaded. -/
def v617 (I : Inp) : Vec Ideal S1x32x128 .f32 := fun j => View.canon I.L16 ((⟨![9, 9, 0], S1x32x128.size, ![1, 2, 1], inb_S16x72x128_S1x32x128_9_9_0_s_1_2_1⟩ : LoadRect S16x72x128).idx j)

/-- A value loaded. -/
def v656 (I : Inp) : Vec Ideal S1x32x128 .f32 := fun j => View.canon I.L16 ((⟨![10, 5, 0], S1x32x128.size, ![1, 2, 1], inb_S16x72x128_S1x32x128_10_5_0_s_1_2_1⟩ : LoadRect S16x72x128).idx j)

/-- A value of the straight line. -/
def v655 (I : Inp) : FVec Ideal S64x128 .f32 := k0_pay132 (v124 I) (v125 I) (v604 I) (v606 I) (v608 I) (v610 I) (v611 I) (v613 I) (v615 I) (v617 I)

/-- A value of the straight line. -/
def v657 (I : Inp) : FVec Ideal S32x128 .f32 := k0_pay133 (v656 I)

/-- A value loaded. -/
def v658 (I : Inp) : Vec Ideal S1x32x128 .f32 := fun j => View.canon I.L16 ((⟨![10, 6, 0], S1x32x128.size, ![1, 2, 1], inb_S16x72x128_S1x32x128_10_6_0_s_1_2_1⟩ : LoadRect S16x72x128).idx j)

/-- A value loaded. -/
def v660 (I : Inp) : Vec Ideal S1x32x128 .f32 := fun j => View.canon I.L16 ((⟨![10, 6, 0], S1x32x128.size, ![1, 2, 1], inb_S16x72x128_S1x32x128_10_6_0_s_1_2_1⟩ : LoadRect S16x72x128).idx j)

/-- A value loaded. -/
def v662 (I : Inp) : Vec Ideal S1x32x128 .f32 := fun j => View.canon I.L16 ((⟨![10, 7, 0], S1x32x128.size, ![1, 2, 1], inb_S16x72x128_S1x32x128_10_7_0_s_1_2_1⟩ : LoadRect S16x72x128).idx j)

/-- A value loaded. -/
def v664 (I : Inp) : Vec Ideal S1x32x128 .f32 := fun j => View.canon I.L16 ((⟨![10, 7, 0], S1x32x128.size, ![1, 2, 1], inb_S16x72x128_S1x32x128_10_7_0_s_1_2_1⟩ : LoadRect S16x72x128).idx j)

/-- A value loaded. -/
def v666 (I : Inp) : Vec Ideal S1x32x128 .f32 := fun j => View.canon I.L16 ((⟨![10, 8, 0], S1x32x128.size, ![1, 2, 1], inb_S16x72x128_S1x32x128_10_8_0_s_1_2_1⟩ : LoadRect S16x72x128).idx j)

/-- A value loaded. -/
def v668 (I : Inp) : Vec Ideal S1x32x128 .f32 := fun j => View.canon I.L16 ((⟨![10, 8, 0], S1x32x128.size, ![1, 2, 1], inb_S16x72x128_S1x32x128_10_8_0_s_1_2_1⟩ : LoadRect S16x72x128).idx j)

/-- A value loaded. -/
def v670 (I : Inp) : Vec Ideal S1x32x128 .f32 := fun j => View.canon I.L16 ((⟨![10, 9, 0], S1x32x128.size, ![1, 2, 1], inb_S16x72x128_S1x32x128_10_9_0_s_1_2_1⟩ : LoadRect S16x72x128).idx j)

/-- A value of the straight line. -/
def v667 (I : Inp) : FVec Ideal S32x128 .f32 := k0_pay134 (v666 I)

/-- A value of the straight line. -/
def v671 (I : Inp) : FVec Ideal S32x128 .f32 := k0_pay135 (v670 I)

/-- A value of the straight line. -/
def v689 (I : Inp) : FVec Ideal S32x128 .f32 := k0_pay136 (v124 I) (v125 I) (v657 I) (v660 I) (v664 I) (v668 I)

/-- A value of the straight line. -/
def v695 (I : Inp) : FVec Ideal S32x128 .f32 := k0_pay137 (v124 I) (v125 I) (v658 I)

/-- A value of the straight line. -/
def v698 (I : Inp) : FVec Ideal S32x128 .f32 := k0_pay138 (v124 I) (v662 I)

/-- A value loaded. -/
def v709 (I : Inp) : Vec Ideal S1x32x128 .f32 := fun j => View.canon I.L16 ((⟨![11, 5, 0], S1x32x128.size, ![1, 2, 1], inb_S16x72x128_S1x32x128_11_5_0_s_1_2_1⟩ : LoadRect S16x72x128).idx j)

/-- A value loaded. -/
def v711 (I : Inp) : Vec Ideal S1x32x128 .f32 := fun j => View.canon I.L16 ((⟨![11, 6, 0], S1x32x128.size, ![1, 2, 1], inb_S16x72x128_S1x32x128_11_6_0_s_1_2_1⟩ : LoadRect S16x72x128).idx j)

/-- A value loaded. -/
def v713 (I : Inp) : Vec Ideal S1x32x128 .f32 := fun j => View.canon I.L16 ((⟨![11, 6, 0], S1x32x128.size, ![1, 2, 1], inb_S16x72x128_S1x32x128_11_6_0_s_1_2_1⟩ : LoadRect S16x72x128).idx j)

/-- A value loaded. -/
def v715 (I : Inp) : Vec Ideal S1x32x128 .f32 := fun j => View.canon I.L16 ((⟨![11, 7, 0], S1x32x128.size, ![1, 2, 1], inb_S16x72x128_S1x32x128_11_7_0_s_1_2_1⟩ : LoadRect S16x72x128).idx j)

/-- A value loaded. -/
def v717 (I : Inp) : Vec Ideal S1x32x128 .f32 := fun j => View.canon I.L16 ((⟨![11, 7, 0], S1x32x128.size, ![1, 2, 1], inb_S16x72x128_S1x32x128_11_7_0_s_1_2_1⟩ : LoadRect S16x72x128).idx j)

/-- A value loaded. -/
def v719 (I : Inp) : Vec Ideal S1x32x128 .f32 := fun j => View.canon I.L16 ((⟨![11, 8, 0], S1x32x128.size, ![1, 2, 1], inb_S16x72x128_S1x32x128_11_8_0_s_1_2_1⟩ : LoadRect S16x72x128).idx j)

/-- A value loaded. -/
def v721 (I : Inp) : Vec Ideal S1x32x128 .f32 := fun j => View.canon I.L16 ((⟨![11, 8, 0], S1x32x128.size, ![1, 2, 1], inb_S16x72x128_S1x32x128_11_8_0_s_1_2_1⟩ : LoadRect S16x72x128).idx j)

/-- A value loaded. -/
def v723 (I : Inp) : Vec Ideal S1x32x128 .f32 := fun j => View.canon I.L16 ((⟨![11, 9, 0], S1x32x128.size, ![1, 2, 1], inb_S16x72x128_S1x32x128_11_9_0_s_1_2_1⟩ : LoadRect S16x72x128).idx j)

/-- A value of the straight line. -/
def v708 (I : Inp) : FVec Ideal S64x128 .f32 := k0_pay139 (v124 I) (v667 I) (v671 I) (v689 I) (v695 I) (v698 I)

/-- A value of the straight line. -/
def v712 (I : Inp) : FVec Ideal S32x128 .f32 := k0_pay140 (v711 I)

/-- A value of the straight line. -/
def v716 (I : Inp) : FVec Ideal S32x128 .f32 := k0_pay141 (v715 I)

/-- A value of the straight line. -/
def v718 (I : Inp) : FVec Ideal S32x128 .f32 := k0_pay142 (v717 I)

/-- A value of the straight line. -/
def v720 (I : Inp) : FVec Ideal S32x128 .f32 := k0_pay143 (v719 I)

/-- A value of the straight line. -/
def v722 (I : Inp) : FVec Ideal S32x128 .f32 := k0_pay144 (v721 I)

/-- A value of the straight line. -/
def v724 (I : Inp) : FVec Ideal S32x128 .f32 := k0_pay145 (v723 I)

/-- A value of the straight line. -/
def v734 (I : Inp) : FVec Ideal S32x128 .f32 := k0_pay146 (v124 I) (v125 I) (v709 I) (v713 I)

/-- A value loaded. -/
def v762 (I : Inp) : Vec Ideal S1x32x128 .f32 := fun j => View.canon I.L16 ((⟨![12, 5, 0], S1x32x128.size, ![1, 2, 1], inb_S16x72x128_S1x32x128_12_5_0_s_1_2_1⟩ : LoadRect S16x72x128).idx j)

/-- A value loaded. -/
def v764 (I : Inp) : Vec Ideal S1x32x128 .f32 := fun j => View.canon I.L16 ((⟨![12, 6, 0], S1x32x128.size, ![1, 2, 1], inb_S16x72x128_S1x32x128_12_6_0_s_1_2_1⟩ : LoadRect S16x72x128).idx j)

/-- A value loaded. -/
def v766 (I : Inp) : Vec Ideal S1x32x128 .f32 := fun j => View.canon I.L16 ((⟨![12, 6, 0], S1x32x128.size, ![1, 2, 1], inb_S16x72x128_S1x32x128_12_6_0_s_1_2_1⟩ : LoadRect S16x72x128).idx j)

/-- A value loaded. -/
def v768 (I : Inp) : Vec Ideal S1x32x128 .f32 := fun j => View.canon I.L16 ((⟨![12, 7, 0], S1x32x128.size, ![1, 2, 1], inb_S16x72x128_S1x32x128_12_7_0_s_1_2_1⟩ : LoadRect S16x72x128).idx j)

/-- A value loaded. -/
def v770 (I : Inp) : Vec Ideal S1x32x128 .f32 := fun j => View.canon I.L16 ((⟨![12, 7, 0], S1x32x128.size, ![1, 2, 1], inb_S16x72x128_S1x32x128_12_7_0_s_1_2_1⟩ : LoadRect S16x72x128).idx j)

/-- A value loaded. -/
def v772 (I : Inp) : Vec Ideal S1x32x128 .f32 := fun j => View.canon I.L16 ((⟨![12, 8, 0], S1x32x128.size, ![1, 2, 1], inb_S16x72x128_S1x32x128_12_8_0_s_1_2_1⟩ : LoadRect S16x72x128).idx j)

/-- A value of the straight line. -/
def v761 (I : Inp) : FVec Ideal S64x128 .f32 := k0_pay147 (v124 I) (v125 I) (v712 I) (v716 I) (v718 I) (v720 I) (v722 I) (v724 I) (v734 I)

/-- A value of the straight line. -/
def v763 (I : Inp) : FVec Ideal S32x128 .f32 := k0_pay148 (v762 I)

/-- A value of the straight line. -/
def v765 (I : Inp) : FVec Ideal S32x128 .f32 := k0_pay149 (v764 I)

/-- A value of the straight line. -/
def v767 (I : Inp) : FVec Ideal S32x128 .f32 := k0_pay150 (v766 I)

/-- A value of the straight line. -/
def v769 (I : Inp) : FVec Ideal S32x128 .f32 := k0_pay151 (v768 I)

/-- A value of the straight line. -/
def v771 (I : Inp) : FVec Ideal S32x128 .f32 := k0_pay152 (v770 I)

/-- A value of the straight line. -/
def v773 (I : Inp) : FVec Ideal S32x128 .f32 := k0_pay153 (v772 I)

/-- A value loaded. -/
def v774 (I : Inp) : Vec Ideal S1x32x128 .f32 := fun j => View.canon I.L16 ((⟨![12, 8, 0], S1x32x128.size, ![1, 2, 1], inb_S16x72x128_S1x32x128_12_8_0_s_1_2_1⟩ : LoadRect S16x72x128).idx j)

/-- A value loaded. -/
def v776 (I : Inp) : Vec Ideal S1x32x128 .f32 := fun j => View.canon I.L16 ((⟨![12, 9, 0], S1x32x128.size, ![1, 2, 1], inb_S16x72x128_S1x32x128_12_9_0_s_1_2_1⟩ : LoadRect S16x72x128).idx j)

/-- A value loaded. -/
def v815 (I : Inp) : Vec Ideal S1x32x128 .f32 := fun j => View.canon I.L16 ((⟨![13, 5, 0], S1x32x128.size, ![1, 2, 1], inb_S16x72x128_S1x32x128_13_5_0_s_1_2_1⟩ : LoadRect S16x72x128).idx j)

/-- A value loaded. -/
def v817 (I : Inp) : Vec Ideal S1x32x128 .f32 := fun j => View.canon I.L16 ((⟨![13, 6, 0], S1x32x128.size, ![1, 2, 1], inb_S16x72x128_S1x32x128_13_6_0_s_1_2_1⟩ : LoadRect S16x72x128).idx j)

/-- A value loaded. -/
def v819 (I : Inp) : Vec Ideal S1x32x128 .f32 := fun j => View.canon I.L16 ((⟨![13, 6, 0], S1x32x128.size, ![1, 2, 1], inb_S16x72x128_S1x32x128_13_6_0_s_1_2_1⟩ : LoadRect S16x72x128).idx j)

/-- A value of the straight line. -/
def v814 (I : Inp) : FVec Ideal S64x128 .f32 := k0_pay154 (v124 I) (v125 I) (v763 I) (v765 I) (v767 I) (v769 I) (v771 I) (v773 I) (v774 I) (v776 I)

/-- A value of the straight line. -/
def v816 (I : Inp) : FVec Ideal S32x128 .f32 := k0_pay155 (v815 I)

/-- A value of the straight line. -/
def v818 (I : Inp) : FVec Ideal S32x128 .f32 := k0_pay156 (v817 I)

/-- A value of the straight line. -/
def v820 (I : Inp) : FVec Ideal S32x128 .f32 := k0_pay157 (v819 I)

/-- A value loaded. -/
def v821 (I : Inp) : Vec Ideal S1x32x128 .f32 := fun j => View.canon I.L16 ((⟨![13, 7, 0], S1x32x128.size, ![1, 2, 1], inb_S16x72x128_S1x32x128_13_7_0_s_1_2_1⟩ : LoadRect S16x72x128).idx j)

/-- A value loaded. -/
def v823 (I : Inp) : Vec Ideal S1x32x128 .f32 := fun j => View.canon I.L16 ((⟨![13, 7, 0], S1x32x128.size, ![1, 2, 1], inb_S16x72x128_S1x32x128_13_7_0_s_1_2_1⟩ : LoadRect S16x72x128).idx j)

/-- A value loaded. -/
def v825 (I : Inp) : Vec Ideal S1x32x128 .f32 := fun j => View.canon I.L16 ((⟨![13, 8, 0], S1x32x128.size, ![1, 2, 1], inb_S16x72x128_S1x32x128_13_8_0_s_1_2_1⟩ : LoadRect S16x72x128).idx j)

/-- A value loaded. -/
def v827 (I : Inp) : Vec Ideal S1x32x128 .f32 := fun j => View.canon I.L16 ((⟨![13, 8, 0], S1x32x128.size, ![1, 2, 1], inb_S16x72x128_S1x32x128_13_8_0_s_1_2_1⟩ : LoadRect S16x72x128).idx j)

/-- A value loaded. -/
def v829 (I : Inp) : Vec Ideal S1x32x128 .f32 := fun j => View.canon I.L16 ((⟨![13, 9, 0], S1x32x128.size, ![1, 2, 1], inb_S16x72x128_S1x32x128_13_9_0_s_1_2_1⟩ : LoadRect S16x72x128).idx j)

/-- A value of the straight line. -/
def v848 (I : Inp) : FVec Ideal S32x128 .f32 := k0_pay158 (v124 I) (v125 I) (v816 I) (v820 I) (v823 I) (v827 I)

/-- A value of the straight line. -/
def v866 (I : Inp) : FVec Ideal S32x128 .f32 := k0_pay159 (v124 I) (v125 I) (v818 I) (v821 I) (v825 I) (v829 I)

/-- A value loaded. -/
def v868 (I : Inp) : Vec Ideal S1x32x128 .f32 := fun j => View.canon I.L16 ((⟨![14, 5, 0], S1x32x128.size, ![1, 2, 1], inb_S16x72x128_S1x32x128_14_5_0_s_1_2_1⟩ : LoadRect S16x72x128).idx j)

/-- A value loaded. -/
def v870 (I : Inp) : Vec Ideal S1x32x128 .f32 := fun j => View.canon I.L16 ((⟨![14, 6, 0], S1x32x128.size, ![1, 2, 1], inb_S16x72x128_S1x32x128_14_6_0_s_1_2_1⟩ : LoadRect S16x72x128).idx j)

/-- A value loaded. -/
def v872 (I : Inp) : Vec Ideal S1x32x128 .f32 := fun j => View.canon I.L16 ((⟨![14, 6, 0], S1x32x128.size, ![1, 2, 1], inb_S16x72x128_S1x32x128_14_6_0_s_1_2_1⟩ : LoadRect S16x72x128).idx j)

/-- A value loaded. -/
def v874 (I : Inp) : Vec Ideal S1x32x128 .f32 := fun j => View.canon I.L16 ((⟨![14, 7, 0], S1x32x128.size, ![1, 2, 1], inb_S16x72x128_S1x32x128_14_7_0_s_1_2_1⟩ : LoadRect S16x72x128).idx j)

/-- A value loaded. -/
def v876 (I : Inp) : Vec Ideal S1x32x128 .f32 := fun j => View.canon I.L16 ((⟨![14, 7, 0], S1x32x128.size, ![1, 2, 1], inb_S16x72x128_S1x32x128_14_7_0_s_1_2_1⟩ : LoadRect S16x72x128).idx j)

/-- A value loaded. -/
def v878 (I : Inp) : Vec Ideal S1x32x128 .f32 := fun j => View.canon I.L16 ((⟨![14, 8, 0], S1x32x128.size, ![1, 2, 1], inb_S16x72x128_S1x32x128_14_8_0_s_1_2_1⟩ : LoadRect S16x72x128).idx j)

/-- A value loaded. -/
def v880 (I : Inp) : Vec Ideal S1x32x128 .f32 := fun j => View.canon I.L16 ((⟨![14, 8, 0], S1x32x128.size, ![1, 2, 1], inb_S16x72x128_S1x32x128_14_8_0_s_1_2_1⟩ : LoadRect S16x72x128).idx j)

/-- A value loaded. -/
def v882 (I : Inp) : Vec Ideal S1x32x128 .f32 := fun j => View.canon I.L16 ((⟨![14, 9, 0], S1x32x128.size, ![1, 2, 1], inb_S16x72x128_S1x32x128_14_9_0_s_1_2_1⟩ : LoadRect S16x72x128).idx j)

/-- A value of the straight line. -/
def v867 (I : Inp) : FVec Ideal S64x128 .f32 := k0_pay160 (v848 I) (v866 I)

/-- A value of the straight line. -/
def v871 (I : Inp) : FVec Ideal S32x128 .f32 := k0_pay161 (v870 I)

/-- A value of the straight line. -/
def v875 (I : Inp) : FVec Ideal S32x128 .f32 := k0_pay162 (v874 I)

/-- A value of the straight line. -/
def v879 (I : Inp) : FVec Ideal S32x128 .f32 := k0_pay163 (v878 I)

/-- A value of the straight line. -/
def v883 (I : Inp) : FVec Ideal S32x128 .f32 := k0_pay164 (v882 I)

/-- A value of the straight line. -/
def v901 (I : Inp) : FVec Ideal S32x128 .f32 := k0_pay165 (v124 I) (v125 I) (v868 I) (v872 I) (v876 I) (v880 I)

/-- A value of the straight line. -/
def v902 (I : Inp) : FVec Ideal S1x128 .f32 := k0_pay166 (v125 I)

/-- A value loaded. -/
def v921 (I : Inp) : Vec Ideal S1x32x128 .f32 := fun j => View.canon I.L16 ((⟨![15, 5, 0], S1x32x128.size, ![1, 2, 1], inb_S16x72x128_S1x32x128_15_5_0_s_1_2_1⟩ : LoadRect S16x72x128).idx j)

/-- A value loaded. -/
def v923 (I : Inp) : Vec Ideal S1x32x128 .f32 := fun j => View.canon I.L16 ((⟨![15, 6, 0], S1x32x128.size, ![1, 2, 1], inb_S16x72x128_S1x32x128_15_6_0_s_1_2_1⟩ : LoadRect S16x72x128).idx j)

/-- A value loaded. -/
def v925 (I : Inp) : Vec Ideal S1x32x128 .f32 := fun j => View.canon I.L16 ((⟨![15, 6, 0], S1x32x128.size, ![1, 2, 1], inb_S16x72x128_S1x32x128_15_6_0_s_1_2_1⟩ : LoadRect S16x72x128).idx j)

/-- A value loaded. -/
def v927 (I : Inp) : Vec Ideal S1x32x128 .f32 := fun j => View.canon I.L16 ((⟨![15, 7, 0], S1x32x128.size, ![1, 2, 1], inb_S16x72x128_S1x32x128_15_7_0_s_1_2_1⟩ : LoadRect S16x72x128).idx j)

/-- A value loaded. -/
def v929 (I : Inp) : Vec Ideal S1x32x128 .f32 := fun j => View.canon I.L16 ((⟨![15, 7, 0], S1x32x128.size, ![1, 2, 1], inb_S16x72x128_S1x32x128_15_7_0_s_1_2_1⟩ : LoadRect S16x72x128).idx j)

/-- A value loaded. -/
def v931 (I : Inp) : Vec Ideal S1x32x128 .f32 := fun j => View.canon I.L16 ((⟨![15, 8, 0], S1x32x128.size, ![1, 2, 1], inb_S16x72x128_S1x32x128_15_8_0_s_1_2_1⟩ : LoadRect S16x72x128).idx j)

/-- A value loaded. -/
def v933 (I : Inp) : Vec Ideal S1x32x128 .f32 := fun j => View.canon I.L16 ((⟨![15, 8, 0], S1x32x128.size, ![1, 2, 1], inb_S16x72x128_S1x32x128_15_8_0_s_1_2_1⟩ : LoadRect S16x72x128).idx j)

/-- A value loaded. -/
def v935 (I : Inp) : Vec Ideal S1x32x128 .f32 := fun j => View.canon I.L16 ((⟨![15, 9, 0], S1x32x128.size, ![1, 2, 1], inb_S16x72x128_S1x32x128_15_9_0_s_1_2_1⟩ : LoadRect S16x72x128).idx j)

/-- A value of the straight line. -/
def v920 (I : Inp) : FVec Ideal S64x128 .f32 := k0_pay167 (v124 I) (v871 I) (v875 I) (v879 I) (v883 I) (v901 I) (v902 I)

/-- A value of the straight line. -/
def v922 (I : Inp) : FVec Ideal S32x128 .f32 := k0_pay168 (v921 I)

/-- A value of the straight line. -/
def v924 (I : Inp) : FVec Ideal S32x128 .f32 := k0_pay169 (v923 I)

/-- A value of the straight line. -/
def v926 (I : Inp) : FVec Ideal S32x128 .f32 := k0_pay170 (v925 I)

/-- A value of the straight line. -/
def v928 (I : Inp) : FVec Ideal S32x128 .f32 := k0_pay171 (v927 I)

/-- A value of the straight line. -/
def v930 (I : Inp) : FVec Ideal S32x128 .f32 := k0_pay172 (v929 I)

/-- A value of the straight line. -/
def v932 (I : Inp) : FVec Ideal S32x128 .f32 := k0_pay173 (v931 I)

/-- A value of the straight line. -/
def v934 (I : Inp) : FVec Ideal S32x128 .f32 := k0_pay174 (v933 I)

/-- A value of the straight line. -/
def v936 (I : Inp) : FVec Ideal S32x128 .f32 := k0_pay175 (v935 I)

/-- A value of the straight line. -/
def v937 (I : Inp) : FVec Ideal S1x128 .f32 := k0_pay176 (v125 I)

/-- A value of the straight line. -/
def v938 (I : Inp) : FVec Ideal S1x128 .f32 := k0_pay177 (v124 I)

/-- A value loaded. -/
def v982 (I : Inp) : Vec Ideal S1x32x128 .f32 := fun j => I.w2 ((⟨![0, 0, 0], S1x32x128.size, ![1, 2, 1], inb_S1x64x128_S1x32x128_0_0_0_s_1_2_1⟩ : LoadRect S1x64x128).idx j)

/-- A value loaded. -/
def v984 (I : Inp) : Vec Ideal S1x32x128 .f32 := fun j => I.w2 ((⟨![0, 1, 0], S1x32x128.size, ![1, 2, 1], inb_S1x64x128_S1x32x128_0_1_0_s_1_2_1⟩ : LoadRect S1x64x128).idx j)

/-- A value loaded. -/
def v987 (I : Inp) : Vec Ideal S1x128 .f32 := I.w5

/-- A value of the straight line. -/
def v977 (I : Inp) : FVec Ideal S64x1024 .f32 := k0_pay179 (v124 I) (v125 I) (v178 I) (v231 I) (v284 I) (v337 I) (v390 I) (v443 I) (v496 I) (v549 I) (v602 I) (v655 I) (v708 I) (v761 I) (v814 I) (v867 I) (v920 I) (v922 I) (v924 I) (v926 I) (v928 I) (v930 I) (v932 I) (v934 I) (v936 I) (v937 I) (v938 I)

/-- A value of the straight line. -/
def v979 (I : Inp) : FVec Ideal S64x512 .bf16 := k0_pay180 (v124 I) (v125 I) (v178 I) (v231 I) (v284 I) (v337 I) (v390 I) (v443 I) (v496 I) (v549 I) (v602 I) (v655 I) (v708 I) (v761 I) (v814 I) (v867 I) (v920 I) (v922 I) (v924 I) (v926 I) (v928 I) (v930 I) (v932 I) (v934 I) (v936 I) (v937 I) (v938 I)

/-- A value of the straight line. -/
def v981 (I : Inp) : FVec Ideal S64x512 .bf16 := k0_pay181 (v124 I) (v125 I) (v178 I) (v231 I) (v284 I) (v337 I) (v390 I) (v443 I) (v496 I) (v549 I) (v602 I) (v655 I) (v708 I) (v761 I) (v814 I) (v867 I) (v920 I) (v922 I) (v924 I) (v926 I) (v928 I) (v930 I) (v932 I) (v934 I) (v936 I) (v937 I) (v938 I)

/-- A value of the straight line. -/
def v990 (I : Inp) : FVec Ideal S64x128 .f32 := k0_pay182 (v982 I) (v984 I) (v987 I)

/-- A value loaded. -/
def v1017 (I : Inp) : Vec Ideal S1x128 .f32 := I.w6

/-- A value of the straight line. -/
def v1016 (I : Inp) : FVec Ideal S64x128 .f32 := k0_pay183 (v990 I)

/-- A value of the straight line. -/
def v1023 (I : Inp) : FVec Ideal S64x128 .f32 := k0_pay184 (v990 I) (v1017 I)

/-- A value of the straight line. -/
def v1031 (I : Inp) : FVec Ideal S32x128 .f32 := k0_pay185 (v990 I) (v1017 I)

/-- A value of the straight line. -/
def v1034 (I : Inp) : IVec S32x128 1 := k0_pay186

/-- A value of the straight line. -/
def v1035 (I : Inp) : FVec Ideal S32x128 .f32 := k0_pay187 (v990 I) (v1017 I)

/-- A value of the straight line. -/
def v1059 (I : Inp) : FVec Ideal S32x128 .f32 := k0_pay188 (v1031 I) (v1034 I) (v1035 I)

/-- A value of the straight line. -/
def v1074 (I : Inp) : FVec Ideal S32x128 .f32 := k0_pay189 (v1023 I)

/-- A value of the straight line. -/
def v1077 (I : Inp) : IVec S32x128 1 := k0_pay190

/-- A constant. -/
def c4_i32_534 (I : Inp) : BitVec 32 := 4#32

/-- A value of the straight line. -/
def v1104 (I : Inp) : FVec Ideal S64x128 .f32 := k0_pay191 (v1059 I) (v1074 I) (v1077 I) (c4_i32_534 I)

/-- A value of the straight line. -/
def v1108 (I : Inp) : FVec Ideal S64x256 .f32 := k0_pay192 (v979 I) (v981 I)

/-- A value of the straight line. -/
def v1112 (I : Inp) : FVec Ideal S64x256 .f32 := k0_pay193 (v979 I) (v981 I)

/-- A value of the straight line. -/
def v1116 (I : Inp) : FVec Ideal S64x256 .f32 := k0_pay194 (v979 I) (v981 I)

/-- A value of the straight line. -/
def v1120 (I : Inp) : FVec Ideal S64x256 .f32 := k0_pay195 (v979 I) (v981 I)

/-- A value loaded. -/
def v1121 (I : Inp) : Vec Ideal S1x32x128 .f32 := fun j => View.canon I.L17 ((⟨![0, 0, 0], S1x32x128.size, ![1, 2, 1], inb_S8x64x128_S1x32x128_0_0_0_s_1_2_1⟩ : LoadRect S8x64x128).idx j)

/-- A value loaded. -/
def v1123 (I : Inp) : Vec Ideal S1x32x128 .f32 := fun j => View.canon I.L17 ((⟨![0, 1, 0], S1x32x128.size, ![1, 2, 1], inb_S8x64x128_S1x32x128_0_1_0_s_1_2_1⟩ : LoadRect S8x64x128).idx j)

/-- A value loaded. -/
def v1126 (I : Inp) : Vec Ideal S1x32x128 .f32 := fun j => View.canon I.L17 ((⟨![1, 0, 0], S1x32x128.size, ![1, 2, 1], inb_S8x64x128_S1x32x128_1_0_0_s_1_2_1⟩ : LoadRect S8x64x128).idx j)

/-- A value loaded. -/
def v1128 (I : Inp) : Vec Ideal S1x32x128 .f32 := fun j => View.canon I.L17 ((⟨![1, 1, 0], S1x32x128.size, ![1, 2, 1], inb_S8x64x128_S1x32x128_1_1_0_s_1_2_1⟩ : LoadRect S8x64x128).idx j)

/-- A value loaded. -/
def v1131 (I : Inp) : Vec Ideal S1x32x128 .f32 := fun j => View.canon I.L17 ((⟨![2, 0, 0], S1x32x128.size, ![1, 2, 1], inb_S8x64x128_S1x32x128_2_0_0_s_1_2_1⟩ : LoadRect S8x64x128).idx j)

/-- A value loaded. -/
def v1133 (I : Inp) : Vec Ideal S1x32x128 .f32 := fun j => View.canon I.L17 ((⟨![2, 1, 0], S1x32x128.size, ![1, 2, 1], inb_S8x64x128_S1x32x128_2_1_0_s_1_2_1⟩ : LoadRect S8x64x128).idx j)

/-- A value loaded. -/
def v1136 (I : Inp) : Vec Ideal S1x32x128 .f32 := fun j => View.canon I.L17 ((⟨![3, 0, 0], S1x32x128.size, ![1, 2, 1], inb_S8x64x128_S1x32x128_3_0_0_s_1_2_1⟩ : LoadRect S8x64x128).idx j)

/-- A value loaded. -/
def v1138 (I : Inp) : Vec Ideal S1x32x128 .f32 := fun j => View.canon I.L17 ((⟨![3, 1, 0], S1x32x128.size, ![1, 2, 1], inb_S8x64x128_S1x32x128_3_1_0_s_1_2_1⟩ : LoadRect S8x64x128).idx j)

/-- A value loaded. -/
def v1141 (I : Inp) : Vec Ideal S1x32x128 .f32 := fun j => View.canon I.L17 ((⟨![4, 0, 0], S1x32x128.size, ![1, 2, 1], inb_S8x64x128_S1x32x128_4_0_0_s_1_2_1⟩ : LoadRect S8x64x128).idx j)

/-- A value loaded. -/
def v1143 (I : Inp) : Vec Ideal S1x32x128 .f32 := fun j => View.canon I.L17 ((⟨![4, 1, 0], S1x32x128.size, ![1, 2, 1], inb_S8x64x128_S1x32x128_4_1_0_s_1_2_1⟩ : LoadRect S8x64x128).idx j)

/-- A value loaded. -/
def v1146 (I : Inp) : Vec Ideal S1x32x128 .f32 := fun j => View.canon I.L17 ((⟨![5, 0, 0], S1x32x128.size, ![1, 2, 1], inb_S8x64x128_S1x32x128_5_0_0_s_1_2_1⟩ : LoadRect S8x64x128).idx j)

/-- A value of the straight line. -/
def v1125 (I : Inp) : FVec Ideal S64x128 .f32 := k0_pay196 (v1121 I) (v1123 I)

/-- A value of the straight line. -/
def v1130 (I : Inp) : FVec Ideal S64x128 .f32 := k0_pay197 (v1126 I) (v1128 I)

/-- A value of the straight line. -/
def v1135 (I : Inp) : FVec Ideal S64x128 .f32 := k0_pay198 (v1131 I) (v1133 I)

/-- A value of the straight line. -/
def v1140 (I : Inp) : FVec Ideal S64x128 .f32 := k0_pay199 (v1136 I) (v1138 I)

/-- A value of the straight line. -/
def v1145 (I : Inp) : FVec Ideal S64x128 .f32 := k0_pay200 (v1141 I) (v1143 I)

/-- A value of the straight line. -/
def v1147 (I : Inp) : FVec Ideal S32x128 .f32 := k0_pay201 (v1146 I)

/-- A value loaded. -/
def v1148 (I : Inp) : Vec Ideal S1x32x128 .f32 := fun j => View.canon I.L17 ((⟨![5, 1, 0], S1x32x128.size, ![1, 2, 1], inb_S8x64x128_S1x32x128_5_1_0_s_1_2_1⟩ : LoadRect S8x64x128).idx j)

/-- A value loaded. -/
def v1151 (I : Inp) : Vec Ideal S1x32x128 .f32 := fun j => View.canon I.L17 ((⟨![6, 0, 0], S1x32x128.size, ![1, 2, 1], inb_S8x64x128_S1x32x128_6_0_0_s_1_2_1⟩ : LoadRect S8x64x128).idx j)

/-- A value loaded. -/
def v1153 (I : Inp) : Vec Ideal S1x32x128 .f32 := fun j => View.canon I.L17 ((⟨![6, 1, 0], S1x32x128.size, ![1, 2, 1], inb_S8x64x128_S1x32x128_6_1_0_s_1_2_1⟩ : LoadRect S8x64x128).idx j)

/-- A value loaded. -/
def v1156 (I : Inp) : Vec Ideal S1x32x128 .f32 := fun j => View.canon I.L17 ((⟨![7, 0, 0], S1x32x128.size, ![1, 2, 1], inb_S8x64x128_S1x32x128_7_0_0_s_1_2_1⟩ : LoadRect S8x64x128).idx j)

/-- A value loaded. -/
def v1158 (I : Inp) : Vec Ideal S1x32x128 .f32 := fun j => View.canon I.L17 ((⟨![7, 1, 0], S1x32x128.size, ![1, 2, 1], inb_S8x64x128_S1x32x128_7_1_0_s_1_2_1⟩ : LoadRect S8x64x128).idx j)

/-- A value loaded. -/
def v1164 (I : Inp) : Vec Ideal S1x1024 .f32 := I.w7

/-- A value of the straight line. -/
def v1168 (I : Inp) : IVec S64x128 32 := iota .tc S64x128 32 [1] iota_S64x128_d1_w32

/-- A value of the straight line. -/
def v1163 (I : Inp) : FVec Ideal S64x1024 .f32 := k0_pay202 (v1125 I) (v1130 I) (v1135 I) (v1140 I) (v1145 I) (v1147 I) (v1148 I) (v1151 I) (v1153 I) (v1156 I) (v1158 I)

/-- A value of the straight line. -/
def v1167 (I : Inp) : FVec Ideal S64x1024 .f32 := k0_pay203 (v977 I) (v1164 I)

/-- A value of the straight line. -/
def v1177 (I : Inp) : FVec Ideal S64x128 .f32 := k0_pay204 (v1016 I)

/-- A value of the straight line. -/
def v1186 (I : Inp) : FVec Ideal S64x128 .f32 := k0_pay205 (v1016 I)

/-- A value of the straight line. -/
def v1189 (I : Inp) : FVec Ideal S64x128 .f32 := k0_pay206 (v1016 I)

/-- A value of the straight line. -/
def v1191 (I : Inp) : FVec Ideal S64x1 .f32 := k0_pay207 (v1016 I)

/-- A value of the straight line. -/
def v1242 (I : Inp) : IVec S64x128 32 := iota .tc S64x128 32 [1] iota_S64x128_d1_w32

/-- A value of the straight line. -/
def v1241 (I : Inp) : FVec Ideal S64x1024 .f32 := k0_pay208 (v1016 I) (v1168 I) (v1177 I) (v1186 I) (v1189 I) (v1191 I)

/-- A value of the straight line. -/
def v1245 (I : Inp) : FVec Ideal S64x128 .f32 := k0_pay209 (v1104 I)

/-- A value of the straight line. -/
def v1251 (I : Inp) : FVec Ideal S64x128 .f32 := k0_pay210 (v1104 I) (v1242 I) (v1245 I)

/-- A value of the straight line. -/
def v1260 (I : Inp) : FVec Ideal S64x128 .f32 := k0_pay211 (v1104 I) (v1242 I)

/-- A value of the straight line. -/
def v1269 (I : Inp) : FVec Ideal S64x128 .f32 := k0_pay212 (v1104 I) (v1242 I)

/-- A value of the straight line. -/
def v1278 (I : Inp) : FVec Ideal S64x128 .f32 := k0_pay213 (v1104 I) (v1242 I)

/-- A value of the straight line. -/
def v1287 (I : Inp) : FVec Ideal S64x128 .f32 := k0_pay214 (v1104 I) (v1242 I)

/-- A value of the straight line. -/
def v1296 (I : Inp) : FVec Ideal S64x128 .f32 := k0_pay215 (v1104 I) (v1242 I)

/-- A value of the straight line. -/
def v1299 (I : Inp) : FVec Ideal S64x128 .f32 := k0_pay216 (v1104 I)

/-- A value of the straight line. -/
def v1315 (I : Inp) : FVec Ideal S64x1024 .f32 := k0_pay217 (v1104 I) (v1242 I) (v1251 I) (v1260 I) (v1269 I) (v1278 I) (v1287 I) (v1296 I) (v1299 I)

/-- A value of the straight line. -/
def v1344 (I : Inp) : FVec Ideal S64x1024 .f32 := k0_pay218 (v1104 I) (v1242 I) (v1251 I) (v1260 I) (v1269 I) (v1278 I) (v1287 I) (v1296 I) (v1299 I)

/-- A value of the straight line. -/
def v1345 (I : Inp) : FVec Ideal S1x1024 .f32 := k0_pay219 (v1104 I) (v1242 I) (v1251 I) (v1260 I) (v1269 I) (v1278 I) (v1287 I) (v1296 I) (v1299 I)

/-- A value of the straight line. -/
def v1346 (I : Inp) : FVec Ideal S64x1024 .f32 := k0_pay220 (v1104 I) (v1242 I) (v1251 I) (v1260 I) (v1269 I) (v1278 I) (v1287 I) (v1296 I) (v1299 I)

/-- A value of the straight line. -/
def v1347 (I : Inp) : FVec Ideal S64x1024 .f32 := k0_pay221 (v1104 I) (v1242 I) (v1251 I) (v1260 I) (v1269 I) (v1278 I) (v1287 I) (v1296 I) (v1299 I)

/-- A value of the straight line. -/
def v1350 (I : Inp) : FVec Ideal S1x1024 .f32 := k0_pay222 (v1345 I)

/-- A value of the straight line. -/
def v1352 (I : Inp) : FVec Ideal S64x1024 .bf16 := k0_pay224 (v977 I) (v1241 I)

/-- A value of the straight line. -/
def v1354 (I : Inp) : FVec Ideal S64x1024 .bf16 := k0_pay225 (v977 I) (v1241 I) (v1315 I) (v1347 I)

/-- A value of the straight line. -/
def v1379 (I : Inp) : IVec S64x256 32 := k0_pay226

/-- A value of the straight line. -/
def v1380 (I : Inp) : FVec Ideal S64x128 .bf16 := k0_pay227 (v979 I)

/-- A value of the straight line. -/
def v1381 (I : Inp) : FVec Ideal S64x128 .bf16 := k0_pay228 (v981 I)

/-- A value of the straight line. -/
def v1384 (I : Inp) : FVec Ideal S64x256 .bf16 := k0_pay229 (v1108 I) (v1344 I)

/-- A value of the straight line. -/
def v1385 (I : Inp) : FVec Ideal S64x256 .bf16 := k0_pay230 (v977 I) (v1241 I)

/-- A value of the straight line. -/
def v1389 (I : Inp) : FVec Ideal S64x256 .bf16 := k0_pay231 (v977 I) (v1241 I)

/-- A value of the straight line. -/
def v1393 (I : Inp) : FVec Ideal S64x256 .bf16 := k0_pay232 (v977 I) (v1241 I)

/-- A value of the straight line. -/
def v1395 (I : Inp) : IVec S64x256 1 := k0_pay233

/-- A value of the straight line. -/
def v1403 (I : Inp) : FVec Ideal S64x256 .f32 := k0_pay234 (v1379 I) (v1384 I) (v1385 I) (v1389 I) (v1393 I) (v1395 I)

/-- A value of the straight line. -/
def v1405 (I : Inp) : FVec Ideal S128x256 .f32 := k0_pay235 (v1354 I) (v1380 I)

/-- A value of the straight line. -/
def v1407 (I : Inp) : FVec Ideal S64x128 .bf16 := k0_pay236 (v981 I)

/-- A value of the straight line. -/
def v1429 (I : Inp) : FVec Ideal S64x256 .f32 := k0_pay237 (v1112 I) (v1344 I) (v1352 I) (v1379 I)

/-- A value of the straight line. -/
def v1431 (I : Inp) : FVec Ideal S128x256 .f32 := k0_pay238 (v979 I) (v1354 I)

/-- A value of the straight line. -/
def v1432 (I : Inp) : FVec Ideal S64x128 .bf16 := k0_pay239 (v979 I)

/-- A value of the straight line. -/
def v1433 (I : Inp) : FVec Ideal S64x128 .bf16 := k0_pay240 (v981 I)

/-- A value of the straight line. -/
def v1436 (I : Inp) : FVec Ideal S64x256 .bf16 := k0_pay241 (v1116 I) (v1344 I)

/-- A value of the straight line. -/
def v1437 (I : Inp) : FVec Ideal S64x256 .bf16 := k0_pay242 (v1352 I)

/-- A value of the straight line. -/
def v1439 (I : Inp) : IVec S64x256 1 := k0_pay243 (v1379 I)

/-- A value of the straight line. -/
def v1455 (I : Inp) : FVec Ideal S64x256 .f32 := k0_pay244 (v1379 I) (v1436 I) (v1437 I) (v1439 I)

/-- A value of the straight line. -/
def v1457 (I : Inp) : FVec Ideal S128x256 .f32 := k0_pay245 (v1354 I) (v1432 I)

/-- A value of the straight line. -/
def v1458 (I : Inp) : FVec Ideal S64x128 .bf16 := k0_pay246 (v979 I)

/-- A value of the straight line. -/
def v1459 (I : Inp) : FVec Ideal S64x128 .bf16 := k0_pay247 (v981 I)

/-- A value of the straight line. -/
def v1481 (I : Inp) : FVec Ideal S64x256 .f32 := k0_pay248 (v1120 I) (v1344 I) (v1352 I) (v1379 I)

/-- A value loaded. -/
def v1484 (I : Inp) : Vec Ideal S1x128x256 .f32 := fun j => View.canon I.L15 ((Rect.unit (s := S1x128x1024) ![0, 0, 0] S1x128x256.size inb_S1x128x1024_S1x128x256_0_0_0).idx j)

/-- A value loaded. -/
def v1495 (I : Inp) : Vec Ideal S1x128x256 .f32 := fun j => View.canon I.L15 ((Rect.unit (s := S1x128x1024) ![0, 0, 0] S1x128x256.size inb_S1x128x1024_S1x128x256_0_0_0).idx j)

/-- The stores into the state after 1 of its columns. -/
def L15_1 (I : Inp) : List (View.Piece (Elt Ideal) S1x128x1024 .f32) := ⟨(Rect.unit (s := S1x128x1024) ![0, 0, 0] S1x128x256.size inb_S1x128x1024_S1x128x256_0_0_0), (k0_pay252 (v1350 I) (v1405 I) (v1484 I))⟩ :: I.L15

/-- A value loaded. -/
def v1498 (I : Inp) : Vec Ideal S1x128x256 .f32 := fun j => View.canon (L15_1 I) ((Rect.unit (s := S1x128x1024) ![0, 0, 256] S1x128x256.size inb_S1x128x1024_S1x128x256_0_0_256).idx j)

/-- A value loaded. -/
def v1509 (I : Inp) : Vec Ideal S1x128x256 .f32 := fun j => View.canon (L15_1 I) ((Rect.unit (s := S1x128x1024) ![0, 0, 256] S1x128x256.size inb_S1x128x1024_S1x128x256_0_0_256).idx j)

/-- The stores into the state after 2 of its columns. -/
def L15_2 (I : Inp) : List (View.Piece (Elt Ideal) S1x128x1024 .f32) := ⟨(Rect.unit (s := S1x128x1024) ![0, 0, 256] S1x128x256.size inb_S1x128x1024_S1x128x256_0_0_256), (k0_pay255 (v1350 I) (v1431 I) (v1498 I))⟩ :: L15_1 I

/-- A value loaded. -/
def v1512 (I : Inp) : Vec Ideal S1x128x256 .f32 := fun j => View.canon (L15_2 I) ((Rect.unit (s := S1x128x1024) ![0, 0, 512] S1x128x256.size inb_S1x128x1024_S1x128x256_0_0_512).idx j)

/-- A value of the straight line. -/
def v1483 (I : Inp) : FVec Ideal S128x256 .f32 := k0_pay249 (v1354 I) (v1458 I)

/-- A value of the straight line. -/
def v1490 (I : Inp) : FVec Ideal S64x256 .f32 := k0_pay251 (v1346 I) (v1381 I) (v1403 I) (v1484 I)

/-- A value of the straight line. -/
def v1504 (I : Inp) : FVec Ideal S64x256 .f32 := k0_pay254 (v1346 I) (v1407 I) (v1429 I) (v1498 I)

/-- A value of the straight line. -/
def v1513 (I : Inp) : FVec Ideal S128x256 .f32 := k0_pay256 (v1512 I)

/-- A value of the straight line. -/
def v1518 (I : Inp) : FVec Ideal S64x256 .f32 := k0_pay257 (v1346 I) (v1433 I) (v1455 I) (v1512 I)

/-- A value of the straight line. -/
def v1520 (I : Inp) : FVec Ideal S128x256 .f32 := k0_pay258 (v1350 I)

/-- A value loaded. -/
def v1523 (I : Inp) : Vec Ideal S1x128x256 .f32 := fun j => View.canon (L15_2 I) ((Rect.unit (s := S1x128x1024) ![0, 0, 512] S1x128x256.size inb_S1x128x1024_S1x128x256_0_0_512).idx j)

/-- The stores into the state after 3 of its columns. -/
def L15_3 (I : Inp) : List (View.Piece (Elt Ideal) S1x128x1024 .f32) := ⟨(Rect.unit (s := S1x128x1024) ![0, 0, 512] S1x128x256.size inb_S1x128x1024_S1x128x256_0_0_512), (k0_pay259 (v1457 I) (v1513 I) (v1520 I))⟩ :: L15_2 I

/-- A value loaded. -/
def v1526 (I : Inp) : Vec Ideal S1x128x256 .f32 := fun j => View.canon (L15_3 I) ((Rect.unit (s := S1x128x1024) ![0, 0, 768] S1x128x256.size inb_S1x128x1024_S1x128x256_0_0_768).idx j)

/-- A value loaded. -/
def v1537 (I : Inp) : Vec Ideal S1x128x256 .f32 := fun j => View.canon (L15_3 I) ((Rect.unit (s := S1x128x1024) ![0, 0, 768] S1x128x256.size inb_S1x128x1024_S1x128x256_0_0_768).idx j)

/-- The stores into the state after 4 of its columns. -/
def L15_4 (I : Inp) : List (View.Piece (Elt Ideal) S1x128x1024 .f32) := ⟨(Rect.unit (s := S1x128x1024) ![0, 0, 768] S1x128x256.size inb_S1x128x1024_S1x128x256_0_0_768), (k0_pay261 (v1350 I) (v1483 I) (v1526 I))⟩ :: L15_3 I

/-- A value loaded. -/
def v1543 (I : Inp) : Vec Ideal S1x1024 .f32 := I.w8

/-- A value of the straight line. -/
def v1557 (I : Inp) : IVec S64x64 32 := iota .tc S64x64 32 [1] iota_S64x64_d1_w32

/-- A value of the straight line. -/
def v1556 (I : Inp) : FVec Ideal S64x1024 .bf16 := k0_pay262 (v1163 I) (v1167 I) (v1346 I) (v1459 I) (v1481 I) (v1490 I) (v1504 I) (v1518 I) (v1526 I) (v1543 I)

/-- A value of the straight line. -/
def v1561 (I : Inp) : IVec S64x64 32 := k0_pay263

/-- The gated and normalized rows stored. -/
def yOut (I : Inp) : FVec Ideal S1x64x1024 .bf16 := (k0_pay264 (v1556 I) (v1557 I) (v1561 I))

/-- A value loaded. -/
def v1575 (I : Inp) : Vec Ideal S1x3x128 .f32 := fun j => View.canon I.L16 ((Rect.unit (s := S16x72x128) ![0, 21, 0] S1x3x128.size inb_S16x72x128_S1x3x128_0_21_0).idx j)

/-- A value loaded. -/
def v1577 (I : Inp) : Vec Ideal S1x3x128 .f32 := fun j => View.canon I.L16 ((Rect.unit (s := S16x72x128) ![0, 5, 0] S1x3x128.size inb_S16x72x128_S1x3x128_0_5_0).idx j)

/-- The stores into the padded columns after 1 of the new tails. -/
def L16_1 (I : Inp) : List (View.Piece (Elt Ideal) S16x72x128 .f32) := ⟨(Rect.unit (s := S16x72x128) ![0, 5, 0] S1x3x128.size inb_S16x72x128_S1x3x128_0_5_0), (k0_pay265 (v1575 I))⟩ :: I.L16

/-- A value loaded. -/
def v1580 (I : Inp) : Vec Ideal S1x3x128 .f32 := fun j => View.canon (L16_1 I) ((Rect.unit (s := S16x72x128) ![1, 21, 0] S1x3x128.size inb_S16x72x128_S1x3x128_1_21_0).idx j)

/-- A value loaded. -/
def v1582 (I : Inp) : Vec Ideal S1x3x128 .f32 := fun j => View.canon (L16_1 I) ((Rect.unit (s := S16x72x128) ![1, 5, 0] S1x3x128.size inb_S16x72x128_S1x3x128_1_5_0).idx j)

/-- The stores into the padded columns after 2 of the new tails. -/
def L16_2 (I : Inp) : List (View.Piece (Elt Ideal) S16x72x128 .f32) := ⟨(Rect.unit (s := S16x72x128) ![1, 5, 0] S1x3x128.size inb_S16x72x128_S1x3x128_1_5_0), (k0_pay266 (v1580 I))⟩ :: (L16_1 I)

/-- A value loaded. -/
def v1585 (I : Inp) : Vec Ideal S1x3x128 .f32 := fun j => View.canon (L16_2 I) ((Rect.unit (s := S16x72x128) ![2, 21, 0] S1x3x128.size inb_S16x72x128_S1x3x128_2_21_0).idx j)

/-- A value loaded. -/
def v1587 (I : Inp) : Vec Ideal S1x3x128 .f32 := fun j => View.canon (L16_2 I) ((Rect.unit (s := S16x72x128) ![2, 5, 0] S1x3x128.size inb_S16x72x128_S1x3x128_2_5_0).idx j)

/-- The stores into the padded columns after 3 of the new tails. -/
def L16_3 (I : Inp) : List (View.Piece (Elt Ideal) S16x72x128 .f32) := ⟨(Rect.unit (s := S16x72x128) ![2, 5, 0] S1x3x128.size inb_S16x72x128_S1x3x128_2_5_0), (k0_pay267 (v1585 I))⟩ :: (L16_2 I)

/-- A value loaded. -/
def v1590 (I : Inp) : Vec Ideal S1x3x128 .f32 := fun j => View.canon (L16_3 I) ((Rect.unit (s := S16x72x128) ![3, 21, 0] S1x3x128.size inb_S16x72x128_S1x3x128_3_21_0).idx j)

/-- A value of the straight line. -/
def v1591 (I : Inp) : FVec Ideal S3x128 .f32 := k0_pay268 (v1590 I)

/-- A value loaded. -/
def v1592 (I : Inp) : Vec Ideal S1x3x128 .f32 := fun j => View.canon (L16_3 I) ((Rect.unit (s := S16x72x128) ![3, 5, 0] S1x3x128.size inb_S16x72x128_S1x3x128_3_5_0).idx j)

/-- The stores into the padded columns after 4 of the new tails. -/
def L16_4 (I : Inp) : List (View.Piece (Elt Ideal) S16x72x128 .f32) := ⟨(Rect.unit (s := S16x72x128) ![3, 5, 0] S1x3x128.size inb_S16x72x128_S1x3x128_3_5_0), (k0_pay269 (v1591 I))⟩ :: (L16_3 I)

/-- A value loaded. -/
def v1595 (I : Inp) : Vec Ideal S1x3x128 .f32 := fun j => View.canon (L16_4 I) ((Rect.unit (s := S16x72x128) ![4, 21, 0] S1x3x128.size inb_S16x72x128_S1x3x128_4_21_0).idx j)

/-- A value loaded. -/
def v1597 (I : Inp) : Vec Ideal S1x3x128 .f32 := fun j => View.canon (L16_4 I) ((Rect.unit (s := S16x72x128) ![4, 5, 0] S1x3x128.size inb_S16x72x128_S1x3x128_4_5_0).idx j)

/-- The stores into the padded columns after 5 of the new tails. -/
def L16_5 (I : Inp) : List (View.Piece (Elt Ideal) S16x72x128 .f32) := ⟨(Rect.unit (s := S16x72x128) ![4, 5, 0] S1x3x128.size inb_S16x72x128_S1x3x128_4_5_0), (k0_pay270 (v1595 I))⟩ :: (L16_4 I)

/-- A value loaded. -/
def v1600 (I : Inp) : Vec Ideal S1x3x128 .f32 := fun j => View.canon (L16_5 I) ((Rect.unit (s := S16x72x128) ![5, 21, 0] S1x3x128.size inb_S16x72x128_S1x3x128_5_21_0).idx j)

/-- A value loaded. -/
def v1602 (I : Inp) : Vec Ideal S1x3x128 .f32 := fun j => View.canon (L16_5 I) ((Rect.unit (s := S16x72x128) ![5, 5, 0] S1x3x128.size inb_S16x72x128_S1x3x128_5_5_0).idx j)

/-- The stores into the padded columns after 6 of the new tails. -/
def L16_6 (I : Inp) : List (View.Piece (Elt Ideal) S16x72x128 .f32) := ⟨(Rect.unit (s := S16x72x128) ![5, 5, 0] S1x3x128.size inb_S16x72x128_S1x3x128_5_5_0), (k0_pay271 (v1600 I))⟩ :: (L16_5 I)

/-- A value loaded. -/
def v1605 (I : Inp) : Vec Ideal S1x3x128 .f32 := fun j => View.canon (L16_6 I) ((Rect.unit (s := S16x72x128) ![6, 21, 0] S1x3x128.size inb_S16x72x128_S1x3x128_6_21_0).idx j)

/-- A value loaded. -/
def v1607 (I : Inp) : Vec Ideal S1x3x128 .f32 := fun j => View.canon (L16_6 I) ((Rect.unit (s := S16x72x128) ![6, 5, 0] S1x3x128.size inb_S16x72x128_S1x3x128_6_5_0).idx j)

/-- The stores into the padded columns after 7 of the new tails. -/
def L16_7 (I : Inp) : List (View.Piece (Elt Ideal) S16x72x128 .f32) := ⟨(Rect.unit (s := S16x72x128) ![6, 5, 0] S1x3x128.size inb_S16x72x128_S1x3x128_6_5_0), (k0_pay272 (v1605 I))⟩ :: (L16_6 I)

/-- A value loaded. -/
def v1610 (I : Inp) : Vec Ideal S1x3x128 .f32 := fun j => View.canon (L16_7 I) ((Rect.unit (s := S16x72x128) ![7, 21, 0] S1x3x128.size inb_S16x72x128_S1x3x128_7_21_0).idx j)

/-- A value loaded. -/
def v1612 (I : Inp) : Vec Ideal S1x3x128 .f32 := fun j => View.canon (L16_7 I) ((Rect.unit (s := S16x72x128) ![7, 5, 0] S1x3x128.size inb_S16x72x128_S1x3x128_7_5_0).idx j)

/-- The stores into the padded columns after 8 of the new tails. -/
def L16_8 (I : Inp) : List (View.Piece (Elt Ideal) S16x72x128 .f32) := ⟨(Rect.unit (s := S16x72x128) ![7, 5, 0] S1x3x128.size inb_S16x72x128_S1x3x128_7_5_0), (k0_pay273 (v1610 I))⟩ :: (L16_7 I)

/-- A value loaded. -/
def v1615 (I : Inp) : Vec Ideal S1x3x128 .f32 := fun j => View.canon (L16_8 I) ((Rect.unit (s := S16x72x128) ![8, 21, 0] S1x3x128.size inb_S16x72x128_S1x3x128_8_21_0).idx j)

/-- A value of the straight line. -/
def v1616 (I : Inp) : FVec Ideal S3x128 .f32 := k0_pay274 (v1615 I)

/-- A value loaded. -/
def v1617 (I : Inp) : Vec Ideal S1x3x128 .f32 := fun j => View.canon (L16_8 I) ((Rect.unit (s := S16x72x128) ![8, 5, 0] S1x3x128.size inb_S16x72x128_S1x3x128_8_5_0).idx j)

/-- The stores into the padded columns after 9 of the new tails. -/
def L16_9 (I : Inp) : List (View.Piece (Elt Ideal) S16x72x128 .f32) := ⟨(Rect.unit (s := S16x72x128) ![8, 5, 0] S1x3x128.size inb_S16x72x128_S1x3x128_8_5_0), (k0_pay275 (v1616 I))⟩ :: (L16_8 I)

/-- A value loaded. -/
def v1620 (I : Inp) : Vec Ideal S1x3x128 .f32 := fun j => View.canon (L16_9 I) ((Rect.unit (s := S16x72x128) ![9, 21, 0] S1x3x128.size inb_S16x72x128_S1x3x128_9_21_0).idx j)

/-- A value loaded. -/
def v1622 (I : Inp) : Vec Ideal S1x3x128 .f32 := fun j => View.canon (L16_9 I) ((Rect.unit (s := S16x72x128) ![9, 5, 0] S1x3x128.size inb_S16x72x128_S1x3x128_9_5_0).idx j)

/-- The stores into the padded columns after 10 of the new tails. -/
def L16_10 (I : Inp) : List (View.Piece (Elt Ideal) S16x72x128 .f32) := ⟨(Rect.unit (s := S16x72x128) ![9, 5, 0] S1x3x128.size inb_S16x72x128_S1x3x128_9_5_0), (k0_pay276 (v1620 I))⟩ :: (L16_9 I)

/-- A value loaded. -/
def v1625 (I : Inp) : Vec Ideal S1x3x128 .f32 := fun j => View.canon (L16_10 I) ((Rect.unit (s := S16x72x128) ![10, 21, 0] S1x3x128.size inb_S16x72x128_S1x3x128_10_21_0).idx j)

/-- A value loaded. -/
def v1627 (I : Inp) : Vec Ideal S1x3x128 .f32 := fun j => View.canon (L16_10 I) ((Rect.unit (s := S16x72x128) ![10, 5, 0] S1x3x128.size inb_S16x72x128_S1x3x128_10_5_0).idx j)

/-- The stores into the padded columns after 11 of the new tails. -/
def L16_11 (I : Inp) : List (View.Piece (Elt Ideal) S16x72x128 .f32) := ⟨(Rect.unit (s := S16x72x128) ![10, 5, 0] S1x3x128.size inb_S16x72x128_S1x3x128_10_5_0), (k0_pay277 (v1625 I))⟩ :: (L16_10 I)

/-- A value loaded. -/
def v1630 (I : Inp) : Vec Ideal S1x3x128 .f32 := fun j => View.canon (L16_11 I) ((Rect.unit (s := S16x72x128) ![11, 21, 0] S1x3x128.size inb_S16x72x128_S1x3x128_11_21_0).idx j)

/-- A value loaded. -/
def v1632 (I : Inp) : Vec Ideal S1x3x128 .f32 := fun j => View.canon (L16_11 I) ((Rect.unit (s := S16x72x128) ![11, 5, 0] S1x3x128.size inb_S16x72x128_S1x3x128_11_5_0).idx j)

/-- The stores into the padded columns after 12 of the new tails. -/
def L16_12 (I : Inp) : List (View.Piece (Elt Ideal) S16x72x128 .f32) := ⟨(Rect.unit (s := S16x72x128) ![11, 5, 0] S1x3x128.size inb_S16x72x128_S1x3x128_11_5_0), (k0_pay278 (v1630 I))⟩ :: (L16_11 I)

/-- A value loaded. -/
def v1635 (I : Inp) : Vec Ideal S1x3x128 .f32 := fun j => View.canon (L16_12 I) ((Rect.unit (s := S16x72x128) ![12, 21, 0] S1x3x128.size inb_S16x72x128_S1x3x128_12_21_0).idx j)

/-- A value loaded. -/
def v1637 (I : Inp) : Vec Ideal S1x3x128 .f32 := fun j => View.canon (L16_12 I) ((Rect.unit (s := S16x72x128) ![12, 5, 0] S1x3x128.size inb_S16x72x128_S1x3x128_12_5_0).idx j)

/-- The stores into the padded columns after 13 of the new tails. -/
def L16_13 (I : Inp) : List (View.Piece (Elt Ideal) S16x72x128 .f32) := ⟨(Rect.unit (s := S16x72x128) ![12, 5, 0] S1x3x128.size inb_S16x72x128_S1x3x128_12_5_0), (k0_pay279 (v1635 I))⟩ :: (L16_12 I)

/-- A value loaded. -/
def v1640 (I : Inp) : Vec Ideal S1x3x128 .f32 := fun j => View.canon (L16_13 I) ((Rect.unit (s := S16x72x128) ![13, 21, 0] S1x3x128.size inb_S16x72x128_S1x3x128_13_21_0).idx j)

/-- A value of the straight line. -/
def v1641 (I : Inp) : FVec Ideal S3x128 .f32 := k0_pay280 (v1640 I)

/-- A value loaded. -/
def v1642 (I : Inp) : Vec Ideal S1x3x128 .f32 := fun j => View.canon (L16_13 I) ((Rect.unit (s := S16x72x128) ![13, 5, 0] S1x3x128.size inb_S16x72x128_S1x3x128_13_5_0).idx j)

/-- The stores into the padded columns after 14 of the new tails. -/
def L16_14 (I : Inp) : List (View.Piece (Elt Ideal) S16x72x128 .f32) := ⟨(Rect.unit (s := S16x72x128) ![13, 5, 0] S1x3x128.size inb_S16x72x128_S1x3x128_13_5_0), (k0_pay281 (v1641 I))⟩ :: (L16_13 I)

/-- A value loaded. -/
def v1645 (I : Inp) : Vec Ideal S1x3x128 .f32 := fun j => View.canon (L16_14 I) ((Rect.unit (s := S16x72x128) ![14, 21, 0] S1x3x128.size inb_S16x72x128_S1x3x128_14_21_0).idx j)

/-- A value loaded. -/
def v1647 (I : Inp) : Vec Ideal S1x3x128 .f32 := fun j => View.canon (L16_14 I) ((Rect.unit (s := S16x72x128) ![14, 5, 0] S1x3x128.size inb_S16x72x128_S1x3x128_14_5_0).idx j)

/-- A value of the straight line. -/
def v1649 (I : Inp) : FVec Ideal S1x3x128 .f32 := k0_pay282 (v1645 I)

/-- The stores into the padded columns after 15 of the new tails. -/
def L16_15 (I : Inp) : List (View.Piece (Elt Ideal) S16x72x128 .f32) := ⟨(Rect.unit (s := S16x72x128) ![14, 5, 0] S1x3x128.size inb_S16x72x128_S1x3x128_14_5_0), (v1649 I)⟩ :: (L16_14 I)

/-- A value loaded. -/
def v1650 (I : Inp) : Vec Ideal S1x3x128 .f32 := fun j => View.canon (L16_15 I) ((Rect.unit (s := S16x72x128) ![15, 21, 0] S1x3x128.size inb_S16x72x128_S1x3x128_15_21_0).idx j)

/-- A value loaded. -/
def v1652 (I : Inp) : Vec Ideal S1x3x128 .f32 := fun j => View.canon (L16_15 I) ((Rect.unit (s := S16x72x128) ![15, 5, 0] S1x3x128.size inb_S16x72x128_S1x3x128_15_5_0).idx j)

/-- The stores into the padded columns after 16 of the new tails. -/
def L16_16 (I : Inp) : List (View.Piece (Elt Ideal) S16x72x128 .f32) := ⟨(Rect.unit (s := S16x72x128) ![15, 5, 0] S1x3x128.size inb_S16x72x128_S1x3x128_15_5_0), (k0_pay1 (v1650 I))⟩ :: (L16_15 I)

/-- A value loaded. -/
def v1658 (I : Inp) : Vec Ideal S1x3x128 .f32 := fun j => View.canon (L16_16 I) ((Rect.unit (s := S16x72x128) ![0, 5, 0] S1x3x128.size inb_S16x72x128_S1x3x128_0_5_0).idx j)

/-- A value loaded. -/
def v1663 (I : Inp) : Vec Ideal S1x3x128 .f32 := fun j => View.canon (L16_16 I) ((Rect.unit (s := S16x72x128) ![1, 5, 0] S1x3x128.size inb_S16x72x128_S1x3x128_1_5_0).idx j)

/-- A value loaded. -/
def v1668 (I : Inp) : Vec Ideal S1x3x128 .f32 := fun j => View.canon (L16_16 I) ((Rect.unit (s := S16x72x128) ![2, 5, 0] S1x3x128.size inb_S16x72x128_S1x3x128_2_5_0).idx j)

/-- A value loaded. -/
def v1673 (I : Inp) : Vec Ideal S1x3x128 .f32 := fun j => View.canon (L16_16 I) ((Rect.unit (s := S16x72x128) ![3, 5, 0] S1x3x128.size inb_S16x72x128_S1x3x128_3_5_0).idx j)

/-- A value loaded. -/
def v1678 (I : Inp) : Vec Ideal S1x3x128 .f32 := fun j => View.canon (L16_16 I) ((Rect.unit (s := S16x72x128) ![4, 5, 0] S1x3x128.size inb_S16x72x128_S1x3x128_4_5_0).idx j)

/-- A value loaded. -/
def v1683 (I : Inp) : Vec Ideal S1x3x128 .f32 := fun j => View.canon (L16_16 I) ((Rect.unit (s := S16x72x128) ![5, 5, 0] S1x3x128.size inb_S16x72x128_S1x3x128_5_5_0).idx j)

/-- A value loaded. -/
def v1688 (I : Inp) : Vec Ideal S1x3x128 .f32 := fun j => View.canon (L16_16 I) ((Rect.unit (s := S16x72x128) ![6, 5, 0] S1x3x128.size inb_S16x72x128_S1x3x128_6_5_0).idx j)

/-- A value loaded. -/
def v1693 (I : Inp) : Vec Ideal S1x3x128 .f32 := fun j => View.canon (L16_16 I) ((Rect.unit (s := S16x72x128) ![7, 5, 0] S1x3x128.size inb_S16x72x128_S1x3x128_7_5_0).idx j)

/-- A value loaded. -/
def v1698 (I : Inp) : Vec Ideal S1x3x128 .f32 := fun j => View.canon (L16_16 I) ((Rect.unit (s := S16x72x128) ![8, 5, 0] S1x3x128.size inb_S16x72x128_S1x3x128_8_5_0).idx j)

/-- A value loaded. -/
def v1703 (I : Inp) : Vec Ideal S1x3x128 .f32 := fun j => View.canon (L16_16 I) ((Rect.unit (s := S16x72x128) ![9, 5, 0] S1x3x128.size inb_S16x72x128_S1x3x128_9_5_0).idx j)

/-- A value loaded. -/
def v1708 (I : Inp) : Vec Ideal S1x3x128 .f32 := fun j => View.canon (L16_16 I) ((Rect.unit (s := S16x72x128) ![10, 5, 0] S1x3x128.size inb_S16x72x128_S1x3x128_10_5_0).idx j)

/-- A value loaded. -/
def v1713 (I : Inp) : Vec Ideal S1x3x128 .f32 := fun j => View.canon (L16_16 I) ((Rect.unit (s := S16x72x128) ![11, 5, 0] S1x3x128.size inb_S16x72x128_S1x3x128_11_5_0).idx j)

/-- A value loaded. -/
def v1718 (I : Inp) : Vec Ideal S1x3x128 .f32 := fun j => View.canon (L16_16 I) ((Rect.unit (s := S16x72x128) ![12, 5, 0] S1x3x128.size inb_S16x72x128_S1x3x128_12_5_0).idx j)

/-- A value loaded. -/
def v1723 (I : Inp) : Vec Ideal S1x3x128 .f32 := fun j => View.canon (L16_16 I) ((Rect.unit (s := S16x72x128) ![13, 5, 0] S1x3x128.size inb_S16x72x128_S1x3x128_13_5_0).idx j)

/-- A value loaded. -/
def v1728 (I : Inp) : Vec Ideal S1x3x128 .f32 := fun j => View.canon (L16_16 I) ((Rect.unit (s := S16x72x128) ![14, 5, 0] S1x3x128.size inb_S16x72x128_S1x3x128_14_5_0).idx j)

/-- A value loaded. -/
def v1733 (I : Inp) : Vec Ideal S1x3x128 .f32 := fun j => View.canon (L16_16 I) ((Rect.unit (s := S16x72x128) ![15, 5, 0] S1x3x128.size inb_S16x72x128_S1x3x128_15_5_0).idx j)

/-- The stores into the new state of the convolution, latest first. -/
def LC (I : Inp) : List (View.Piece (Elt Ideal) S1x3x2048 .f32) :=
  [⟨(Rect.unit (s := S1x3x2048) ![0, 0, 1920] S1x3x128.size inb_S1x3x2048_S1x3x128_0_0_1920), (k0_pay2 (v1733 I))⟩,
   ⟨(Rect.unit (s := S1x3x2048) ![0, 0, 1792] S1x3x128.size inb_S1x3x2048_S1x3x128_0_0_1792), (k0_pay32 (v1728 I))⟩,
   ⟨(Rect.unit (s := S1x3x2048) ![0, 0, 1664] S1x3x128.size inb_S1x3x2048_S1x3x128_0_0_1664), (k0_pay31 (v1723 I))⟩,
   ⟨(Rect.unit (s := S1x3x2048) ![0, 0, 1536] S1x3x128.size inb_S1x3x2048_S1x3x128_0_0_1536), (k0_pay30 (v1718 I))⟩,
   ⟨(Rect.unit (s := S1x3x2048) ![0, 0, 1408] S1x3x128.size inb_S1x3x2048_S1x3x128_0_0_1408), (k0_pay29 (v1713 I))⟩,
   ⟨(Rect.unit (s := S1x3x2048) ![0, 0, 1280] S1x3x128.size inb_S1x3x2048_S1x3x128_0_0_1280), (k0_pay28 (v1708 I))⟩,
   ⟨(Rect.unit (s := S1x3x2048) ![0, 0, 1152] S1x3x128.size inb_S1x3x2048_S1x3x128_0_0_1152), (k0_pay27 (v1703 I))⟩,
   ⟨(Rect.unit (s := S1x3x2048) ![0, 0, 1024] S1x3x128.size inb_S1x3x2048_S1x3x128_0_0_1024), (k0_pay26 (v1698 I))⟩,
   ⟨(Rect.unit (s := S1x3x2048) ![0, 0, 896] S1x3x128.size inb_S1x3x2048_S1x3x128_0_0_896), (k0_pay25 (v1693 I))⟩,
   ⟨(Rect.unit (s := S1x3x2048) ![0, 0, 768] S1x3x128.size inb_S1x3x2048_S1x3x128_0_0_768), (k0_pay24 (v1688 I))⟩,
   ⟨(Rect.unit (s := S1x3x2048) ![0, 0, 640] S1x3x128.size inb_S1x3x2048_S1x3x128_0_0_640), (k0_pay23 (v1683 I))⟩,
   ⟨(Rect.unit (s := S1x3x2048) ![0, 0, 512] S1x3x128.size inb_S1x3x2048_S1x3x128_0_0_512), (k0_pay22 (v1678 I))⟩,
   ⟨(Rect.unit (s := S1x3x2048) ![0, 0, 384] S1x3x128.size inb_S1x3x2048_S1x3x128_0_0_384), (k0_pay21 (v1673 I))⟩,
   ⟨(Rect.unit (s := S1x3x2048) ![0, 0, 256] S1x3x128.size inb_S1x3x2048_S1x3x128_0_0_256), (k0_pay20 (v1668 I))⟩,
   ⟨(Rect.unit (s := S1x3x2048) ![0, 0, 128] S1x3x128.size inb_S1x3x2048_S1x3x128_0_0_128), (k0_pay19 (v1663 I))⟩,
   ⟨(Rect.unit (s := S1x3x2048) ![0, 0, 0] S1x3x128.size inb_S1x3x2048_S1x3x128_0_0_0), (k0_pay18 (v1658 I))⟩]

end Cert.Ssd
end
-- ==== Proof.SsdRun.lean ====
module
public import proofs.«01_k».proof.Proof.SsdTerm
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WholeRead
@[expose] public section
set_option maxRecDepth 16384
noncomputable section
open Idealize.ShloMosaic Idealize.ShloMosaic.TcCoe Idealize.SL.Sem
namespace Cert.Ssd
open Cert.KernelIdeal Cert.KernelIdeal.Gen Cert.KernelIdeal.Gen.kernelRun0_A

/-- Reading a memory back after a list of writes, a part of it. -/
theorem rdu {κ : Kind} {sp : Space} {s : Shape} {e : EltTy} {m : Memref sig κ sp s e} (h : m.IsWhole)
    (X : s.Idx → Elt Ideal e) (B : LoadRect s) :
    View.readAt (Elt Ideal) m.view B (h.unread X) = fun x => X (B.idx x) :=
  funext fun x => Memref.IsWhole.readAt_unread h X B x

/-- Reading a whole memory that nothing wrote. -/
theorem rdw {κ : Kind} {sp : Space} {S : Shape} {e : EltTy} {m : Memref sig κ sp S e} (h : m.IsWhole)
    (X : S.Idx → Elt Ideal e) {off : Fin S.rank → Nat} (inb) (h0 : ∀ a, off a = 0) :
    View.readAt (Elt Ideal) m.view (Rect.unit off S.size inb).toLoadRect (h.unread X) = X :=
  (rdu h X _).trans (View.ld_unit_lit inb X h0)

/-- Reading a memory back after a list of writes, or a whole memory that nothing wrote. -/
theorem rds : (∀ {κ : Kind} {sp : Space} {s : Shape} {e : EltTy} (v : View sig κ sp s e) (L : List (View.Piece (Elt Ideal) s e)) (B : LoadRect s),
      v.readCov L B = fun j => View.canon L (B.idx j))
    ∧ (∀ {m : Memref sig .tc .vmem S4x2048 .f32} (h : m.IsWhole) (X : Vec Ideal S4x2048 .f32) (inb),
      View.readAt (Elt Ideal) m.view (Rect.unit (s := S4x2048) ![0, 0] ![4, 2048] inb).toLoadRect (h.unread X) = X)
    ∧ (∀ {m : Memref sig .tc .vmem S1x2048 .f32} (h : m.IsWhole) (X : Vec Ideal S1x2048 .f32) (inb),
      View.readAt (Elt Ideal) m.view (Rect.unit (s := S1x2048) ![0, 0] ![1, 2048] inb).toLoadRect (h.unread X) = X)
    ∧ (∀ {m : Memref sig .tc .vmem S1x128 .f32} (h : m.IsWhole) (X : Vec Ideal S1x128 .f32) (inb),
      View.readAt (Elt Ideal) m.view (Rect.unit (s := S1x128) ![0, 0] ![1, 128] inb).toLoadRect (h.unread X) = X)
    ∧ (∀ {m : Memref sig .tc .vmem S1x1024 .f32} (h : m.IsWhole) (X : Vec Ideal S1x1024 .f32) (inb),
      View.readAt (Elt Ideal) m.view (Rect.unit (s := S1x1024) ![0, 0] ![1, 1024] inb).toLoadRect (h.unread X) = X)
    ∧ (∀ {m : Memref sig .tc .vmem S1x128x1024 .f32} (h : m.IsWhole) (X : Vec Ideal S1x128x1024 .f32) (inb),
      View.readAt (Elt Ideal) m.view (Rect.unit (s := S1x128x1024) ![0, 0, 0] ![1, 128, 1024] inb).toLoadRect (h.unread X) = X) :=
  ⟨fun v L B => View.readCov_eq_canon' v L B, fun h X inb => rdw h X inb (by decide), fun h X inb => rdw h X inb (by decide), fun h X inb => rdw h X inb (by decide), fun h X inb => rdw h X inb (by decide), fun h X inb => rdw h X inb (by decide)⟩

variable (I : Inp) {c : Dev nD} {arg2 : Memref sig .tc .vmem S1x64x2048 .f32} {harg2 : arg2.IsWhole} {arg3 : Memref sig .tc .vmem S1x64x1024 .f32} {harg3 : arg3.IsWhole} {arg4 : Memref sig .tc .vmem S1x64x128 .f32} {harg4 : arg4.IsWhole} {arg5 : Memref sig .tc .vmem S4x2048 .f32} {harg5 : arg5.IsWhole} {arg6 : Memref sig .tc .vmem S1x2048 .f32} {harg6 : arg6.IsWhole} {arg7 : Memref sig .tc .vmem S1x128 .f32} {harg7 : arg7.IsWhole} {arg8 : Memref sig .tc .vmem S1x128 .f32} {harg8 : arg8.IsWhole} {arg9 : Memref sig .tc .vmem S1x1024 .f32} {harg9 : arg9.IsWhole} {arg10 : Memref sig .tc .vmem S1x1024 .f32} {harg10 : arg10.IsWhole} {arg11 : Memref sig .tc .vmem S1x3x2048 .f32} {harg11 : arg11.IsWhole} {arg12 : Memref sig .tc .vmem S1x128x1024 .f32} {harg12 : arg12.IsWhole} {arg13 : Memref sig .tc .vmem S1x64x1024 .bf16} {harg13 : arg13.IsWhole} {arg14 : Memref sig .tc .vmem S1x3x2048 .f32} {harg14 : arg14.IsWhole} {arg15 : Memref sig .tc .vmem S1x128x1024 .f32} {harg15 : arg15.IsWhole} {arg16 : Memref sig .tc .vmem S16x72x128 .f32} {harg16 : arg16.IsWhole} {arg17 : Memref sig .tc .vmem S8x64x128 .f32} {harg17 : arg17.IsWhole}

/-- The run's `HS0_32`, as a term of the blocks. -/
theorem e_HS0_32 : sl.HS0_32 (F := Ideal) c arg2 harg2 arg11 harg11 I.w0 I.w9 = I.L16 := by
  simp only [sl.HS0_32, sl.v82, sl.v79, sl.v77, sl.v74, sl.r_2, sl.v72, sl.v69, sl.v67, sl.v64, sl.v62, sl.v59, sl.v57, sl.v54, sl.v52, sl.v49, sl.r_1, sl.v47, sl.v44, sl.v42, sl.v39, sl.v37, sl.v34, sl.v32, sl.v29, sl.v27, sl.v24, sl.r, sl.v22, sl.v19, sl.v17, sl.v14, sl.v12, sl.v9, sl.v7, sl.v4, sl.v1737, sl.v1734, sl.v1732, sl.v1729, sl.v1727, sl.v1724, sl.v1722, sl.v1719, sl.v1717, sl.v1714, sl.v1712, sl.v1709, sl.v1707, sl.v1704, sl.v1702, sl.v1699, sl.v1697, sl.v1694, sl.v1692, sl.v1689, sl.v1687, sl.v1684, sl.v1682, sl.v1679, sl.v1677, sl.v1674, sl.v1672, sl.v1669, sl.v1667, sl.v1664, sl.v1662, sl.v1659, rds]
  try simp only [rdu]
  try unfold Inp.L16
  try dsimp only
  try rfl

/-- In the run, `v397` is `v397`. -/
theorem e_v397 : sl.v397 (F := Ideal) c arg2 harg2 arg11 harg11 arg16 I.w0 I.w9 = v397 I := by
  simp only [sl.v397, e_HS0_32 I, rds]
  try simp only [rdu]
  try unfold v397
  try dsimp only
  try rfl

/-- In the run, `r_47` is `v400`. -/
theorem e_r_47 : sl.r_47 (F := Ideal) c arg2 harg2 arg11 harg11 arg16 I.w0 I.w9 = v400 I := by
  simp only [sl.r_47, e_v397 I, rds]
  try simp only [rdu]
  try unfold v400
  try dsimp only
  try rfl

/-- In the run, `v124` is `v124`. -/
theorem e_v124 : sl.v124 (F := Ideal) c arg5 harg5 I.w3 = v124 I := by
  simp only [sl.v124, rds]
  try simp only [rdu]
  try unfold v124 k0_pay59
  try dsimp only
  try rfl

/-- In the run, `v128` is `v128`. -/
theorem e_v128 : sl.v128 (F := Ideal) c arg2 harg2 arg11 harg11 arg16 I.w0 I.w9 = v128 I := by
  simp only [sl.v128, e_HS0_32 I, rds]
  try simp only [rdu]
  try unfold v128
  try dsimp only
  try rfl

/-- In the run, `r_5` is `v129`. -/
theorem e_r_5 : sl.r_5 (F := Ideal) c arg2 harg2 arg11 harg11 arg16 I.w0 I.w9 = v129 I := by
  simp only [sl.r_5, e_v128 I, rds]
  try simp only [rdu]
  try unfold v129
  try dsimp only
  try rfl

/-- In the run, `v132` is `v132`. -/
theorem e_v132 : sl.v132 (F := Ideal) c arg2 harg2 arg11 harg11 arg16 I.w0 I.w9 = v132 I := by
  simp only [sl.v132, e_HS0_32 I, rds]
  try simp only [rdu]
  try unfold v132
  try dsimp only
  try rfl

/-- In the run, `r_6` is `v133`. -/
theorem e_r_6 : sl.r_6 (F := Ideal) c arg2 harg2 arg11 harg11 arg16 I.w0 I.w9 = v133 I := by
  simp only [sl.r_6, e_v132 I, rds]
  try simp only [rdu]
  try unfold v133
  try dsimp only
  try rfl

/-- In the run, `v136` is `v136`. -/
theorem e_v136 : sl.v136 (F := Ideal) c arg2 harg2 arg11 harg11 arg16 I.w0 I.w9 = v136 I := by
  simp only [sl.v136, e_HS0_32 I, rds]
  try simp only [rdu]
  try unfold v136
  try dsimp only
  try rfl

/-- In the run, `r_7` is `v137`. -/
theorem e_r_7 : sl.r_7 (F := Ideal) c arg2 harg2 arg11 harg11 arg16 I.w0 I.w9 = v137 I := by
  simp only [sl.r_7, e_v136 I, rds]
  try simp only [rdu]
  try unfold v137
  try dsimp only
  try rfl

/-- In the run, `v140` is `v140`. -/
theorem e_v140 : sl.v140 (F := Ideal) c arg2 harg2 arg11 harg11 arg16 I.w0 I.w9 = v140 I := by
  simp only [sl.v140, e_HS0_32 I, rds]
  try simp only [rdu]
  try unfold v140
  try dsimp only
  try rfl

/-- In the run, `r_8` is `v141`. -/
theorem e_r_8 : sl.r_8 (F := Ideal) c arg2 harg2 arg11 harg11 arg16 I.w0 I.w9 = v141 I := by
  simp only [sl.r_8, e_v140 I, rds]
  try simp only [rdu]
  try unfold v141
  try dsimp only
  try rfl

/-- In the run, `v126` is `v126`. -/
theorem e_v126 : sl.v126 (F := Ideal) c arg2 harg2 arg11 harg11 arg16 I.w0 I.w9 = v126 I := by
  simp only [sl.v126, e_HS0_32 I, rds]
  try simp only [rdu]
  try unfold v126
  try dsimp only
  try rfl

/-- In the run, `r_9` is `v155`. -/
theorem e_r_9 : sl.r_9 (F := Ideal) c arg2 harg2 arg5 harg5 arg6 harg6 arg11 harg11 arg16 I.w0 I.w3 I.w4 I.w9 = v155 I := by
  simp only [sl.r_9, e_v124 I, e_v126 I, e_v128 I, e_v132 I, rds]
  try simp only [rdu]
  try unfold v155
  try dsimp only
  try rfl

/-- In the run, `r_10` is `v158`. -/
theorem e_r_10 : sl.r_10 (F := Ideal) c arg2 harg2 arg5 harg5 arg11 harg11 arg16 I.w0 I.w3 I.w9 = v158 I := by
  simp only [sl.r_10, e_v124 I, e_v136 I, rds]
  try simp only [rdu]
  try unfold v158
  try dsimp only
  try rfl

/-- In the run, `r_11` is `v178`. -/
theorem e_r_11 : sl.r_11 (F := Ideal) c arg2 harg2 arg5 harg5 arg6 harg6 arg11 harg11 arg16 I.w0 I.w3 I.w4 I.w9 = v178 I := by
  simp only [sl.r_11, sl.r_4, e_v124 I, e_r_5 I, e_r_6 I, e_r_7 I, e_r_8 I, e_r_9 I, e_r_10 I, rds]
  try simp only [rdu]
  try unfold v178
  try dsimp only
  try rfl

/-- In the run, `v179` is `v179`. -/
theorem e_v179 : sl.v179 (F := Ideal) c arg2 harg2 arg11 harg11 arg16 I.w0 I.w9 = v179 I := by
  simp only [sl.v179, e_HS0_32 I, rds]
  try simp only [rdu]
  try unfold v179
  try dsimp only
  try rfl

/-- In the run, `r_12` is `v180`. -/
theorem e_r_12 : sl.r_12 (F := Ideal) c arg2 harg2 arg11 harg11 arg16 I.w0 I.w9 = v180 I := by
  simp only [sl.r_12, e_v179 I, rds]
  try simp only [rdu]
  try unfold v180
  try dsimp only
  try rfl

/-- In the run, `v181` is `v181`. -/
theorem e_v181 : sl.v181 (F := Ideal) c arg2 harg2 arg11 harg11 arg16 I.w0 I.w9 = v181 I := by
  simp only [sl.v181, e_HS0_32 I, rds]
  try simp only [rdu]
  try unfold v181
  try dsimp only
  try rfl

/-- In the run, `r_13` is `v182`. -/
theorem e_r_13 : sl.r_13 (F := Ideal) c arg2 harg2 arg11 harg11 arg16 I.w0 I.w9 = v182 I := by
  simp only [sl.r_13, e_v181 I, rds]
  try simp only [rdu]
  try unfold v182
  try dsimp only
  try rfl

/-- In the run, `r_14` is `v184`. -/
theorem e_r_14 : sl.r_14 (F := Ideal) c arg2 harg2 arg11 harg11 arg16 I.w0 I.w9 = v184 I := by
  simp only [sl.r_14, e_v181 I, rds]
  try simp only [rdu]
  try unfold v184
  try dsimp only
  try rfl

/-- In the run, `v185` is `v185`. -/
theorem e_v185 : sl.v185 (F := Ideal) c arg2 harg2 arg11 harg11 arg16 I.w0 I.w9 = v185 I := by
  simp only [sl.v185, e_HS0_32 I, rds]
  try simp only [rdu]
  try unfold v185
  try dsimp only
  try rfl

/-- In the run, `r_15` is `v186`. -/
theorem e_r_15 : sl.r_15 (F := Ideal) c arg2 harg2 arg11 harg11 arg16 I.w0 I.w9 = v186 I := by
  simp only [sl.r_15, e_v185 I, rds]
  try simp only [rdu]
  try unfold v186
  try dsimp only
  try rfl

/-- In the run, `r_16` is `v188`. -/
theorem e_r_16 : sl.r_16 (F := Ideal) c arg2 harg2 arg11 harg11 arg16 I.w0 I.w9 = v188 I := by
  simp only [sl.r_16, e_v185 I, rds]
  try simp only [rdu]
  try unfold v188
  try dsimp only
  try rfl

/-- In the run, `v189` is `v189`. -/
theorem e_v189 : sl.v189 (F := Ideal) c arg2 harg2 arg11 harg11 arg16 I.w0 I.w9 = v189 I := by
  simp only [sl.v189, e_HS0_32 I, rds]
  try simp only [rdu]
  try unfold v189
  try dsimp only
  try rfl

/-- In the run, `r_17` is `v190`. -/
theorem e_r_17 : sl.r_17 (F := Ideal) c arg2 harg2 arg11 harg11 arg16 I.w0 I.w9 = v190 I := by
  simp only [sl.r_17, e_v189 I, rds]
  try simp only [rdu]
  try unfold v190
  try dsimp only
  try rfl

/-- In the run, `r_18` is `v192`. -/
theorem e_r_18 : sl.r_18 (F := Ideal) c arg2 harg2 arg11 harg11 arg16 I.w0 I.w9 = v192 I := by
  simp only [sl.r_18, e_v189 I, rds]
  try simp only [rdu]
  try unfold v192
  try dsimp only
  try rfl

/-- In the run, `v193` is `v193`. -/
theorem e_v193 : sl.v193 (F := Ideal) c arg2 harg2 arg11 harg11 arg16 I.w0 I.w9 = v193 I := by
  simp only [sl.v193, e_HS0_32 I, rds]
  try simp only [rdu]
  try unfold v193
  try dsimp only
  try rfl

/-- In the run, `r_19` is `v194`. -/
theorem e_r_19 : sl.r_19 (F := Ideal) c arg2 harg2 arg11 harg11 arg16 I.w0 I.w9 = v194 I := by
  simp only [sl.r_19, e_v193 I, rds]
  try simp only [rdu]
  try unfold v194
  try dsimp only
  try rfl

/-- In the run, `r_20` is `v231`. -/
theorem e_r_20 : sl.r_20 (F := Ideal) c arg2 harg2 arg5 harg5 arg6 harg6 arg11 harg11 arg16 I.w0 I.w3 I.w4 I.w9 = v231 I := by
  simp only [sl.r_20, sl.r_4, e_v124 I, e_r_12 I, e_r_13 I, e_r_14 I, e_r_15 I, e_r_16 I, e_r_17 I, e_r_18 I, e_r_19 I, rds]
  try simp only [rdu]
  try unfold v231
  try dsimp only
  try rfl

/-- In the run, `v232` is `v232`. -/
theorem e_v232 : sl.v232 (F := Ideal) c arg2 harg2 arg11 harg11 arg16 I.w0 I.w9 = v232 I := by
  simp only [sl.v232, e_HS0_32 I, rds]
  try simp only [rdu]
  try unfold v232
  try dsimp only
  try rfl

/-- In the run, `r_21` is `v233`. -/
theorem e_r_21 : sl.r_21 (F := Ideal) c arg2 harg2 arg11 harg11 arg16 I.w0 I.w9 = v233 I := by
  simp only [sl.r_21, e_v232 I, rds]
  try simp only [rdu]
  try unfold v233
  try dsimp only
  try rfl

/-- In the run, `v234` is `v234`. -/
theorem e_v234 : sl.v234 (F := Ideal) c arg2 harg2 arg11 harg11 arg16 I.w0 I.w9 = v234 I := by
  simp only [sl.v234, e_HS0_32 I, rds]
  try simp only [rdu]
  try unfold v234
  try dsimp only
  try rfl

/-- In the run, `r_22` is `v235`. -/
theorem e_r_22 : sl.r_22 (F := Ideal) c arg2 harg2 arg11 harg11 arg16 I.w0 I.w9 = v235 I := by
  simp only [sl.r_22, e_v234 I, rds]
  try simp only [rdu]
  try unfold v235
  try dsimp only
  try rfl

/-- In the run, `r_23` is `v237`. -/
theorem e_r_23 : sl.r_23 (F := Ideal) c arg2 harg2 arg11 harg11 arg16 I.w0 I.w9 = v237 I := by
  simp only [sl.r_23, e_v234 I, rds]
  try simp only [rdu]
  try unfold v237
  try dsimp only
  try rfl

/-- In the run, `v238` is `v238`. -/
theorem e_v238 : sl.v238 (F := Ideal) c arg2 harg2 arg11 harg11 arg16 I.w0 I.w9 = v238 I := by
  simp only [sl.v238, e_HS0_32 I, rds]
  try simp only [rdu]
  try unfold v238
  try dsimp only
  try rfl

/-- In the run, `r_24` is `v239`. -/
theorem e_r_24 : sl.r_24 (F := Ideal) c arg2 harg2 arg11 harg11 arg16 I.w0 I.w9 = v239 I := by
  simp only [sl.r_24, e_v238 I, rds]
  try simp only [rdu]
  try unfold v239
  try dsimp only
  try rfl

/-- In the run, `v242` is `v242`. -/
theorem e_v242 : sl.v242 (F := Ideal) c arg2 harg2 arg11 harg11 arg16 I.w0 I.w9 = v242 I := by
  simp only [sl.v242, e_HS0_32 I, rds]
  try simp only [rdu]
  try unfold v242
  try dsimp only
  try rfl

/-- In the run, `v246` is `v246`. -/
theorem e_v246 : sl.v246 (F := Ideal) c arg2 harg2 arg11 harg11 arg16 I.w0 I.w9 = v246 I := by
  simp only [sl.v246, e_HS0_32 I, rds]
  try simp only [rdu]
  try unfold v246
  try dsimp only
  try rfl

/-- In the run, `r_25` is `v284`. -/
theorem e_r_25 : sl.r_25 (F := Ideal) c arg2 harg2 arg5 harg5 arg6 harg6 arg11 harg11 arg16 I.w0 I.w3 I.w4 I.w9 = v284 I := by
  simp only [sl.r_25, sl.r_4, e_v124 I, e_r_21 I, e_r_22 I, e_r_23 I, e_r_24 I, e_v238 I, e_v242 I, e_v246 I, rds]
  try simp only [rdu]
  try unfold v284
  try dsimp only
  try rfl

/-- In the run, `v291` is `v291`. -/
theorem e_v291 : sl.v291 (F := Ideal) c arg2 harg2 arg11 harg11 arg16 I.w0 I.w9 = v291 I := by
  simp only [sl.v291, e_HS0_32 I, rds]
  try simp only [rdu]
  try unfold v291
  try dsimp only
  try rfl

/-- In the run, `r_27` is `v292`. -/
theorem e_r_27 : sl.r_27 (F := Ideal) c arg2 harg2 arg11 harg11 arg16 I.w0 I.w9 = v292 I := by
  simp only [sl.r_27, e_v291 I, rds]
  try simp only [rdu]
  try unfold v292
  try dsimp only
  try rfl

/-- In the run, `v295` is `v295`. -/
theorem e_v295 : sl.v295 (F := Ideal) c arg2 harg2 arg11 harg11 arg16 I.w0 I.w9 = v295 I := by
  simp only [sl.v295, e_HS0_32 I, rds]
  try simp only [rdu]
  try unfold v295
  try dsimp only
  try rfl

/-- In the run, `r_28` is `v296`. -/
theorem e_r_28 : sl.r_28 (F := Ideal) c arg2 harg2 arg11 harg11 arg16 I.w0 I.w9 = v296 I := by
  simp only [sl.r_28, e_v295 I, rds]
  try simp only [rdu]
  try unfold v296
  try dsimp only
  try rfl

/-- In the run, `v299` is `v299`. -/
theorem e_v299 : sl.v299 (F := Ideal) c arg2 harg2 arg11 harg11 arg16 I.w0 I.w9 = v299 I := by
  simp only [sl.v299, e_HS0_32 I, rds]
  try simp only [rdu]
  try unfold v299
  try dsimp only
  try rfl

/-- In the run, `r_29` is `v300`. -/
theorem e_r_29 : sl.r_29 (F := Ideal) c arg2 harg2 arg11 harg11 arg16 I.w0 I.w9 = v300 I := by
  simp only [sl.r_29, e_v299 I, rds]
  try simp only [rdu]
  try unfold v300
  try dsimp only
  try rfl

/-- In the run, `v285` is `v285`. -/
theorem e_v285 : sl.v285 (F := Ideal) c arg2 harg2 arg11 harg11 arg16 I.w0 I.w9 = v285 I := by
  simp only [sl.v285, e_HS0_32 I, rds]
  try simp only [rdu]
  try unfold v285
  try dsimp only
  try rfl

/-- In the run, `r_26` is `v286`. -/
theorem e_r_26 : sl.r_26 (F := Ideal) c arg2 harg2 arg11 harg11 arg16 I.w0 I.w9 = v286 I := by
  simp only [sl.r_26, e_v285 I, rds]
  try simp only [rdu]
  try unfold v286
  try dsimp only
  try rfl

/-- In the run, `v287` is `v287`. -/
theorem e_v287 : sl.v287 (F := Ideal) c arg2 harg2 arg11 harg11 arg16 I.w0 I.w9 = v287 I := by
  simp only [sl.v287, e_HS0_32 I, rds]
  try simp only [rdu]
  try unfold v287
  try dsimp only
  try rfl

/-- In the run, `r_30` is `v318`. -/
theorem e_r_30 : sl.r_30 (F := Ideal) c arg2 harg2 arg5 harg5 arg6 harg6 arg11 harg11 arg16 I.w0 I.w3 I.w4 I.w9 = v318 I := by
  simp only [sl.r_30, sl.r_4, e_v124 I, e_r_26 I, e_v287 I, e_v291 I, e_v295 I, rds]
  try simp only [rdu]
  try unfold v318
  try dsimp only
  try rfl

/-- In the run, `r_31` is `v324`. -/
theorem e_r_31 : sl.r_31 (F := Ideal) c arg2 harg2 arg5 harg5 arg6 harg6 arg11 harg11 arg16 I.w0 I.w3 I.w4 I.w9 = v324 I := by
  simp only [sl.r_31, sl.r_4, e_v124 I, e_v287 I, rds]
  try simp only [rdu]
  try unfold v324
  try dsimp only
  try rfl

/-- In the run, `r_32` is `v326`. -/
theorem e_r_32 : sl.r_32 (F := Ideal) c arg5 harg5 I.w3 = v326 I := by
  simp only [sl.r_32, e_v124 I, rds]
  try simp only [rdu]
  try unfold v326
  try dsimp only
  try rfl

/-- In the run, `r_33` is `v337`. -/
theorem e_r_33 : sl.r_33 (F := Ideal) c arg2 harg2 arg5 harg5 arg6 harg6 arg11 harg11 arg16 I.w0 I.w3 I.w4 I.w9 = v337 I := by
  simp only [sl.r_33, e_v124 I, e_r_27 I, e_r_28 I, e_r_29 I, e_r_30 I, e_r_31 I, e_r_32 I, rds]
  try simp only [rdu]
  try unfold v337
  try dsimp only
  try rfl

/-- In the run, `v340` is `v340`. -/
theorem e_v340 : sl.v340 (F := Ideal) c arg2 harg2 arg11 harg11 arg16 I.w0 I.w9 = v340 I := by
  simp only [sl.v340, e_HS0_32 I, rds]
  try simp only [rdu]
  try unfold v340
  try dsimp only
  try rfl

/-- In the run, `r_34` is `v341`. -/
theorem e_r_34 : sl.r_34 (F := Ideal) c arg2 harg2 arg11 harg11 arg16 I.w0 I.w9 = v341 I := by
  simp only [sl.r_34, e_v340 I, rds]
  try simp only [rdu]
  try unfold v341
  try dsimp only
  try rfl

/-- In the run, `v344` is `v344`. -/
theorem e_v344 : sl.v344 (F := Ideal) c arg2 harg2 arg11 harg11 arg16 I.w0 I.w9 = v344 I := by
  simp only [sl.v344, e_HS0_32 I, rds]
  try simp only [rdu]
  try unfold v344
  try dsimp only
  try rfl

/-- In the run, `r_35` is `v345`. -/
theorem e_r_35 : sl.r_35 (F := Ideal) c arg2 harg2 arg11 harg11 arg16 I.w0 I.w9 = v345 I := by
  simp only [sl.r_35, e_v344 I, rds]
  try simp only [rdu]
  try unfold v345
  try dsimp only
  try rfl

/-- In the run, `r_36` is `v347`. -/
theorem e_r_36 : sl.r_36 (F := Ideal) c arg2 harg2 arg11 harg11 arg16 I.w0 I.w9 = v347 I := by
  simp only [sl.r_36, e_v344 I, rds]
  try simp only [rdu]
  try unfold v347
  try dsimp only
  try rfl

/-- In the run, `v348` is `v348`. -/
theorem e_v348 : sl.v348 (F := Ideal) c arg2 harg2 arg11 harg11 arg16 I.w0 I.w9 = v348 I := by
  simp only [sl.v348, e_HS0_32 I, rds]
  try simp only [rdu]
  try unfold v348
  try dsimp only
  try rfl

/-- In the run, `r_37` is `v349`. -/
theorem e_r_37 : sl.r_37 (F := Ideal) c arg2 harg2 arg11 harg11 arg16 I.w0 I.w9 = v349 I := by
  simp only [sl.r_37, e_v348 I, rds]
  try simp only [rdu]
  try unfold v349
  try dsimp only
  try rfl

/-- In the run, `r_38` is `v351`. -/
theorem e_r_38 : sl.r_38 (F := Ideal) c arg2 harg2 arg11 harg11 arg16 I.w0 I.w9 = v351 I := by
  simp only [sl.r_38, e_v348 I, rds]
  try simp only [rdu]
  try unfold v351
  try dsimp only
  try rfl

/-- In the run, `v352` is `v352`. -/
theorem e_v352 : sl.v352 (F := Ideal) c arg2 harg2 arg11 harg11 arg16 I.w0 I.w9 = v352 I := by
  simp only [sl.v352, e_HS0_32 I, rds]
  try simp only [rdu]
  try unfold v352
  try dsimp only
  try rfl

/-- In the run, `r_39` is `v353`. -/
theorem e_r_39 : sl.r_39 (F := Ideal) c arg2 harg2 arg11 harg11 arg16 I.w0 I.w9 = v353 I := by
  simp only [sl.r_39, e_v352 I, rds]
  try simp only [rdu]
  try unfold v353
  try dsimp only
  try rfl

/-- In the run, `v338` is `v338`. -/
theorem e_v338 : sl.v338 (F := Ideal) c arg2 harg2 arg11 harg11 arg16 I.w0 I.w9 = v338 I := by
  simp only [sl.v338, e_HS0_32 I, rds]
  try simp only [rdu]
  try unfold v338
  try dsimp only
  try rfl

/-- In the run, `r_40` is `v359`. -/
theorem e_r_40 : sl.r_40 (F := Ideal) c arg2 harg2 arg5 harg5 arg6 harg6 arg11 harg11 arg16 I.w0 I.w3 I.w4 I.w9 = v359 I := by
  simp only [sl.r_40, sl.r_4, e_v124 I, e_v338 I, rds]
  try simp only [rdu]
  try unfold v359
  try dsimp only
  try rfl

/-- In the run, `r_41` is `v362`. -/
theorem e_r_41 : sl.r_41 (F := Ideal) c arg2 harg2 arg5 harg5 arg11 harg11 arg16 I.w0 I.w3 I.w9 = v362 I := by
  simp only [sl.r_41, e_v124 I, e_v340 I, rds]
  try simp only [rdu]
  try unfold v362
  try dsimp only
  try rfl

/-- In the run, `r_42` is `v390`. -/
theorem e_r_42 : sl.r_42 (F := Ideal) c arg2 harg2 arg5 harg5 arg6 harg6 arg11 harg11 arg16 I.w0 I.w3 I.w4 I.w9 = v390 I := by
  simp only [sl.r_42, sl.r_4, e_v124 I, e_r_34 I, e_r_35 I, e_r_36 I, e_r_37 I, e_r_38 I, e_r_39 I, e_r_40 I, e_r_41 I, rds]
  try simp only [rdu]
  try unfold v390
  try dsimp only
  try rfl

/-- In the run, `v391` is `v391`. -/
theorem e_v391 : sl.v391 (F := Ideal) c arg2 harg2 arg11 harg11 arg16 I.w0 I.w9 = v391 I := by
  simp only [sl.v391, e_HS0_32 I, rds]
  try simp only [rdu]
  try unfold v391
  try dsimp only
  try rfl

/-- In the run, `r_43` is `v392`. -/
theorem e_r_43 : sl.r_43 (F := Ideal) c arg2 harg2 arg11 harg11 arg16 I.w0 I.w9 = v392 I := by
  simp only [sl.r_43, e_v391 I, rds]
  try simp only [rdu]
  try unfold v392
  try dsimp only
  try rfl

/-- In the run, `v393` is `v393`. -/
theorem e_v393 : sl.v393 (F := Ideal) c arg2 harg2 arg11 harg11 arg16 I.w0 I.w9 = v393 I := by
  simp only [sl.v393, e_HS0_32 I, rds]
  try simp only [rdu]
  try unfold v393
  try dsimp only
  try rfl

/-- In the run, `r_44` is `v394`. -/
theorem e_r_44 : sl.r_44 (F := Ideal) c arg2 harg2 arg11 harg11 arg16 I.w0 I.w9 = v394 I := by
  simp only [sl.r_44, e_v393 I, rds]
  try simp only [rdu]
  try unfold v394
  try dsimp only
  try rfl

/-- In the run, `r_45` is `v396`. -/
theorem e_r_45 : sl.r_45 (F := Ideal) c arg2 harg2 arg11 harg11 arg16 I.w0 I.w9 = v396 I := by
  simp only [sl.r_45, e_v393 I, rds]
  try simp only [rdu]
  try unfold v396
  try dsimp only
  try rfl

/-- In the run, `r_46` is `v398`. -/
theorem e_r_46 : sl.r_46 (F := Ideal) c arg2 harg2 arg11 harg11 arg16 I.w0 I.w9 = v398 I := by
  simp only [sl.r_46, e_v397 I, rds]
  try simp only [rdu]
  try unfold v398
  try dsimp only
  try rfl

/-- In the run, `v401` is `v401`. -/
theorem e_v401 : sl.v401 (F := Ideal) c arg2 harg2 arg11 harg11 arg16 I.w0 I.w9 = v401 I := by
  simp only [sl.v401, e_HS0_32 I, rds]
  try simp only [rdu]
  try unfold v401
  try dsimp only
  try rfl

/-- In the run, `r_48` is `v402`. -/
theorem e_r_48 : sl.r_48 (F := Ideal) c arg2 harg2 arg11 harg11 arg16 I.w0 I.w9 = v402 I := by
  simp only [sl.r_48, e_v401 I, rds]
  try simp only [rdu]
  try unfold v402
  try dsimp only
  try rfl

/-- In the run, `v405` is `v405`. -/
theorem e_v405 : sl.v405 (F := Ideal) c arg2 harg2 arg11 harg11 arg16 I.w0 I.w9 = v405 I := by
  simp only [sl.v405, e_HS0_32 I, rds]
  try simp only [rdu]
  try unfold v405
  try dsimp only
  try rfl

/-- In the run, `r_49` is `v443`. -/
theorem e_r_49 : sl.r_49 (F := Ideal) c arg2 harg2 arg5 harg5 arg6 harg6 arg11 harg11 arg16 I.w0 I.w3 I.w4 I.w9 = v443 I := by
  simp only [sl.r_49, sl.r_4, e_v124 I, e_r_43 I, e_r_44 I, e_r_45 I, e_r_46 I, e_r_47 I, e_r_48 I, e_v401 I, e_v405 I, rds]
  try simp only [rdu]
  try unfold v443
  try dsimp only
  try rfl

/-- In the run, `v444` is `v444`. -/
theorem e_v444 : sl.v444 (F := Ideal) c arg2 harg2 arg11 harg11 arg16 I.w0 I.w9 = v444 I := by
  simp only [sl.v444, e_HS0_32 I, rds]
  try simp only [rdu]
  try unfold v444
  try dsimp only
  try rfl

/-- In the run, `r_50` is `v445`. -/
theorem e_r_50 : sl.r_50 (F := Ideal) c arg2 harg2 arg11 harg11 arg16 I.w0 I.w9 = v445 I := by
  simp only [sl.r_50, e_v444 I, rds]
  try simp only [rdu]
  try unfold v445
  try dsimp only
  try rfl

/-- In the run, `v446` is `v446`. -/
theorem e_v446 : sl.v446 (F := Ideal) c arg2 harg2 arg11 harg11 arg16 I.w0 I.w9 = v446 I := by
  simp only [sl.v446, e_HS0_32 I, rds]
  try simp only [rdu]
  try unfold v446
  try dsimp only
  try rfl

/-- In the run, `r_52` is `v449`. -/
theorem e_r_52 : sl.r_52 (F := Ideal) c arg2 harg2 arg11 harg11 arg16 I.w0 I.w9 = v449 I := by
  simp only [sl.r_52, e_v446 I, rds]
  try simp only [rdu]
  try unfold v449
  try dsimp only
  try rfl

/-- In the run, `v450` is `v450`. -/
theorem e_v450 : sl.v450 (F := Ideal) c arg2 harg2 arg11 harg11 arg16 I.w0 I.w9 = v450 I := by
  simp only [sl.v450, e_HS0_32 I, rds]
  try simp only [rdu]
  try unfold v450
  try dsimp only
  try rfl

/-- In the run, `v454` is `v454`. -/
theorem e_v454 : sl.v454 (F := Ideal) c arg2 harg2 arg11 harg11 arg16 I.w0 I.w9 = v454 I := by
  simp only [sl.v454, e_HS0_32 I, rds]
  try simp only [rdu]
  try unfold v454
  try dsimp only
  try rfl

/-- In the run, `r_53` is `v477`. -/
theorem e_r_53 : sl.r_53 (F := Ideal) c arg2 harg2 arg5 harg5 arg6 harg6 arg11 harg11 arg16 I.w0 I.w3 I.w4 I.w9 = v477 I := by
  simp only [sl.r_53, sl.r_4, e_v124 I, e_r_50 I, e_r_52 I, e_v450 I, e_v454 I, rds]
  try simp only [rdu]
  try unfold v477
  try dsimp only
  try rfl

/-- In the run, `r_51` is `v447`. -/
theorem e_r_51 : sl.r_51 (F := Ideal) c arg2 harg2 arg11 harg11 arg16 I.w0 I.w9 = v447 I := by
  simp only [sl.r_51, e_v446 I, rds]
  try simp only [rdu]
  try unfold v447
  try dsimp only
  try rfl

/-- In the run, `r_54` is `v491`. -/
theorem e_r_54 : sl.r_54 (F := Ideal) c arg2 harg2 arg5 harg5 arg6 harg6 arg11 harg11 arg16 I.w0 I.w3 I.w4 I.w9 = v491 I := by
  simp only [sl.r_54, sl.r_4, e_v124 I, e_r_51 I, e_v450 I, e_v454 I, rds]
  try simp only [rdu]
  try unfold v491
  try dsimp only
  try rfl

/-- In the run, `v458` is `v458`. -/
theorem e_v458 : sl.v458 (F := Ideal) c arg2 harg2 arg11 harg11 arg16 I.w0 I.w9 = v458 I := by
  simp only [sl.v458, e_HS0_32 I, rds]
  try simp only [rdu]
  try unfold v458
  try dsimp only
  try rfl

/-- In the run, `r_55` is `v494`. -/
theorem e_r_55 : sl.r_55 (F := Ideal) c arg2 harg2 arg5 harg5 arg11 harg11 arg16 I.w0 I.w3 I.w9 = v494 I := by
  simp only [sl.r_55, e_v124 I, e_v458 I, rds]
  try simp only [rdu]
  try unfold v494
  try dsimp only
  try rfl

/-- In the run, `r_56` is `v496`. -/
theorem e_r_56 : sl.r_56 (F := Ideal) c arg2 harg2 arg5 harg5 arg6 harg6 arg11 harg11 arg16 I.w0 I.w3 I.w4 I.w9 = v496 I := by
  simp only [sl.r_56, e_r_53 I, e_r_54 I, e_r_55 I, rds]
  try simp only [rdu]
  try unfold v496
  try dsimp only
  try rfl

/-- In the run, `v499` is `v499`. -/
theorem e_v499 : sl.v499 (F := Ideal) c arg2 harg2 arg11 harg11 arg16 I.w0 I.w9 = v499 I := by
  simp only [sl.v499, e_HS0_32 I, rds]
  try simp only [rdu]
  try unfold v499
  try dsimp only
  try rfl

/-- In the run, `r_57` is `v500`. -/
theorem e_r_57 : sl.r_57 (F := Ideal) c arg2 harg2 arg11 harg11 arg16 I.w0 I.w9 = v500 I := by
  simp only [sl.r_57, e_v499 I, rds]
  try simp only [rdu]
  try unfold v500
  try dsimp only
  try rfl

/-- In the run, `v503` is `v503`. -/
theorem e_v503 : sl.v503 (F := Ideal) c arg2 harg2 arg11 harg11 arg16 I.w0 I.w9 = v503 I := by
  simp only [sl.v503, e_HS0_32 I, rds]
  try simp only [rdu]
  try unfold v503
  try dsimp only
  try rfl

/-- In the run, `r_58` is `v504`. -/
theorem e_r_58 : sl.r_58 (F := Ideal) c arg2 harg2 arg11 harg11 arg16 I.w0 I.w9 = v504 I := by
  simp only [sl.r_58, e_v503 I, rds]
  try simp only [rdu]
  try unfold v504
  try dsimp only
  try rfl

/-- In the run, `v507` is `v507`. -/
theorem e_v507 : sl.v507 (F := Ideal) c arg2 harg2 arg11 harg11 arg16 I.w0 I.w9 = v507 I := by
  simp only [sl.v507, e_HS0_32 I, rds]
  try simp only [rdu]
  try unfold v507
  try dsimp only
  try rfl

/-- In the run, `r_59` is `v508`. -/
theorem e_r_59 : sl.r_59 (F := Ideal) c arg2 harg2 arg11 harg11 arg16 I.w0 I.w9 = v508 I := by
  simp only [sl.r_59, e_v507 I, rds]
  try simp only [rdu]
  try unfold v508
  try dsimp only
  try rfl

/-- In the run, `v511` is `v511`. -/
theorem e_v511 : sl.v511 (F := Ideal) c arg2 harg2 arg11 harg11 arg16 I.w0 I.w9 = v511 I := by
  simp only [sl.v511, e_HS0_32 I, rds]
  try simp only [rdu]
  try unfold v511
  try dsimp only
  try rfl

/-- In the run, `r_60` is `v512`. -/
theorem e_r_60 : sl.r_60 (F := Ideal) c arg2 harg2 arg11 harg11 arg16 I.w0 I.w9 = v512 I := by
  simp only [sl.r_60, e_v511 I, rds]
  try simp only [rdu]
  try unfold v512
  try dsimp only
  try rfl

/-- In the run, `v497` is `v497`. -/
theorem e_v497 : sl.v497 (F := Ideal) c arg2 harg2 arg11 harg11 arg16 I.w0 I.w9 = v497 I := by
  simp only [sl.v497, e_HS0_32 I, rds]
  try simp only [rdu]
  try unfold v497
  try dsimp only
  try rfl

/-- In the run, `r_61` is `v530`. -/
theorem e_r_61 : sl.r_61 (F := Ideal) c arg2 harg2 arg5 harg5 arg6 harg6 arg11 harg11 arg16 I.w0 I.w3 I.w4 I.w9 = v530 I := by
  simp only [sl.r_61, sl.r_4, e_v124 I, e_v497 I, e_v499 I, e_v503 I, e_v507 I, rds]
  try simp only [rdu]
  try unfold v530
  try dsimp only
  try rfl

/-- In the run, `r_62` is `v549`. -/
theorem e_r_62 : sl.r_62 (F := Ideal) c arg2 harg2 arg5 harg5 arg6 harg6 arg11 harg11 arg16 I.w0 I.w3 I.w4 I.w9 = v549 I := by
  simp only [sl.r_62, sl.r_4, e_v124 I, e_r_57 I, e_r_58 I, e_r_59 I, e_r_60 I, e_r_61 I, rds]
  try simp only [rdu]
  try unfold v549
  try dsimp only
  try rfl

/-- In the run, `v550` is `v550`. -/
theorem e_v550 : sl.v550 (F := Ideal) c arg2 harg2 arg11 harg11 arg16 I.w0 I.w9 = v550 I := by
  simp only [sl.v550, e_HS0_32 I, rds]
  try simp only [rdu]
  try unfold v550
  try dsimp only
  try rfl

/-- In the run, `r_63` is `v551`. -/
theorem e_r_63 : sl.r_63 (F := Ideal) c arg2 harg2 arg11 harg11 arg16 I.w0 I.w9 = v551 I := by
  simp only [sl.r_63, e_v550 I, rds]
  try simp only [rdu]
  try unfold v551
  try dsimp only
  try rfl

/-- In the run, `v552` is `v552`. -/
theorem e_v552 : sl.v552 (F := Ideal) c arg2 harg2 arg11 harg11 arg16 I.w0 I.w9 = v552 I := by
  simp only [sl.v552, e_HS0_32 I, rds]
  try simp only [rdu]
  try unfold v552
  try dsimp only
  try rfl

/-- In the run, `r_64` is `v553`. -/
theorem e_r_64 : sl.r_64 (F := Ideal) c arg2 harg2 arg11 harg11 arg16 I.w0 I.w9 = v553 I := by
  simp only [sl.r_64, e_v552 I, rds]
  try simp only [rdu]
  try unfold v553
  try dsimp only
  try rfl

/-- In the run, `r_65` is `v555`. -/
theorem e_r_65 : sl.r_65 (F := Ideal) c arg2 harg2 arg11 harg11 arg16 I.w0 I.w9 = v555 I := by
  simp only [sl.r_65, e_v552 I, rds]
  try simp only [rdu]
  try unfold v555
  try dsimp only
  try rfl

/-- In the run, `v556` is `v556`. -/
theorem e_v556 : sl.v556 (F := Ideal) c arg2 harg2 arg11 harg11 arg16 I.w0 I.w9 = v556 I := by
  simp only [sl.v556, e_HS0_32 I, rds]
  try simp only [rdu]
  try unfold v556
  try dsimp only
  try rfl

/-- In the run, `r_66` is `v557`. -/
theorem e_r_66 : sl.r_66 (F := Ideal) c arg2 harg2 arg11 harg11 arg16 I.w0 I.w9 = v557 I := by
  simp only [sl.r_66, e_v556 I, rds]
  try simp only [rdu]
  try unfold v557
  try dsimp only
  try rfl

/-- In the run, `r_67` is `v559`. -/
theorem e_r_67 : sl.r_67 (F := Ideal) c arg2 harg2 arg11 harg11 arg16 I.w0 I.w9 = v559 I := by
  simp only [sl.r_67, e_v556 I, rds]
  try simp only [rdu]
  try unfold v559
  try dsimp only
  try rfl

/-- In the run, `v560` is `v560`. -/
theorem e_v560 : sl.v560 (F := Ideal) c arg2 harg2 arg11 harg11 arg16 I.w0 I.w9 = v560 I := by
  simp only [sl.v560, e_HS0_32 I, rds]
  try simp only [rdu]
  try unfold v560
  try dsimp only
  try rfl

/-- In the run, `r_68` is `v561`. -/
theorem e_r_68 : sl.r_68 (F := Ideal) c arg2 harg2 arg11 harg11 arg16 I.w0 I.w9 = v561 I := by
  simp only [sl.r_68, e_v560 I, rds]
  try simp only [rdu]
  try unfold v561
  try dsimp only
  try rfl

/-- In the run, `r_69` is `v563`. -/
theorem e_r_69 : sl.r_69 (F := Ideal) c arg2 harg2 arg11 harg11 arg16 I.w0 I.w9 = v563 I := by
  simp only [sl.r_69, e_v560 I, rds]
  try simp only [rdu]
  try unfold v563
  try dsimp only
  try rfl

/-- In the run, `v564` is `v564`. -/
theorem e_v564 : sl.v564 (F := Ideal) c arg2 harg2 arg11 harg11 arg16 I.w0 I.w9 = v564 I := by
  simp only [sl.v564, e_HS0_32 I, rds]
  try simp only [rdu]
  try unfold v564
  try dsimp only
  try rfl

/-- In the run, `r_70` is `v565`. -/
theorem e_r_70 : sl.r_70 (F := Ideal) c arg2 harg2 arg11 harg11 arg16 I.w0 I.w9 = v565 I := by
  simp only [sl.r_70, e_v564 I, rds]
  try simp only [rdu]
  try unfold v565
  try dsimp only
  try rfl

/-- In the run, `r_71` is `v566`. -/
theorem e_r_71 : sl.r_71 (F := Ideal) c arg6 harg6 I.w4 = v566 I := by
  simp only [sl.r_71, sl.r_4, rds]
  try simp only [rdu]
  try unfold v566
  try dsimp only
  try rfl

/-- In the run, `r_72` is `v602`. -/
theorem e_r_72 : sl.r_72 (F := Ideal) c arg2 harg2 arg5 harg5 arg6 harg6 arg11 harg11 arg16 I.w0 I.w3 I.w4 I.w9 = v602 I := by
  simp only [sl.r_72, sl.r_4, e_v124 I, e_r_63 I, e_r_64 I, e_r_65 I, e_r_66 I, e_r_67 I, e_r_68 I, e_r_69 I, e_r_70 I, e_r_71 I, rds]
  try simp only [rdu]
  try unfold v602
  try dsimp only
  try rfl

/-- In the run, `v603` is `v603`. -/
theorem e_v603 : sl.v603 (F := Ideal) c arg2 harg2 arg11 harg11 arg16 I.w0 I.w9 = v603 I := by
  simp only [sl.v603, e_HS0_32 I, rds]
  try simp only [rdu]
  try unfold v603
  try dsimp only
  try rfl

/-- In the run, `r_73` is `v604`. -/
theorem e_r_73 : sl.r_73 (F := Ideal) c arg2 harg2 arg11 harg11 arg16 I.w0 I.w9 = v604 I := by
  simp only [sl.r_73, e_v603 I, rds]
  try simp only [rdu]
  try unfold v604
  try dsimp only
  try rfl

/-- In the run, `v605` is `v605`. -/
theorem e_v605 : sl.v605 (F := Ideal) c arg2 harg2 arg11 harg11 arg16 I.w0 I.w9 = v605 I := by
  simp only [sl.v605, e_HS0_32 I, rds]
  try simp only [rdu]
  try unfold v605
  try dsimp only
  try rfl

/-- In the run, `r_74` is `v606`. -/
theorem e_r_74 : sl.r_74 (F := Ideal) c arg2 harg2 arg11 harg11 arg16 I.w0 I.w9 = v606 I := by
  simp only [sl.r_74, e_v605 I, rds]
  try simp only [rdu]
  try unfold v606
  try dsimp only
  try rfl

/-- In the run, `r_75` is `v608`. -/
theorem e_r_75 : sl.r_75 (F := Ideal) c arg2 harg2 arg11 harg11 arg16 I.w0 I.w9 = v608 I := by
  simp only [sl.r_75, e_v605 I, rds]
  try simp only [rdu]
  try unfold v608
  try dsimp only
  try rfl

/-- In the run, `v609` is `v609`. -/
theorem e_v609 : sl.v609 (F := Ideal) c arg2 harg2 arg11 harg11 arg16 I.w0 I.w9 = v609 I := by
  simp only [sl.v609, e_HS0_32 I, rds]
  try simp only [rdu]
  try unfold v609
  try dsimp only
  try rfl

/-- In the run, `r_76` is `v610`. -/
theorem e_r_76 : sl.r_76 (F := Ideal) c arg2 harg2 arg11 harg11 arg16 I.w0 I.w9 = v610 I := by
  simp only [sl.r_76, e_v609 I, rds]
  try simp only [rdu]
  try unfold v610
  try dsimp only
  try rfl

/-- In the run, `v613` is `v613`. -/
theorem e_v613 : sl.v613 (F := Ideal) c arg2 harg2 arg11 harg11 arg16 I.w0 I.w9 = v613 I := by
  simp only [sl.v613, e_HS0_32 I, rds]
  try simp only [rdu]
  try unfold v613
  try dsimp only
  try rfl

/-- In the run, `v617` is `v617`. -/
theorem e_v617 : sl.v617 (F := Ideal) c arg2 harg2 arg11 harg11 arg16 I.w0 I.w9 = v617 I := by
  simp only [sl.v617, e_HS0_32 I, rds]
  try simp only [rdu]
  try unfold v617
  try dsimp only
  try rfl

/-- In the run, `r_77` is `v655`. -/
theorem e_r_77 : sl.r_77 (F := Ideal) c arg2 harg2 arg5 harg5 arg6 harg6 arg11 harg11 arg16 I.w0 I.w3 I.w4 I.w9 = v655 I := by
  simp only [sl.r_77, sl.r_4, e_v124 I, e_r_73 I, e_r_74 I, e_r_75 I, e_r_76 I, e_v609 I, e_v613 I, e_v617 I, rds]
  try simp only [rdu]
  try unfold v655
  try dsimp only
  try rfl

/-- In the run, `v666` is `v666`. -/
theorem e_v666 : sl.v666 (F := Ideal) c arg2 harg2 arg11 harg11 arg16 I.w0 I.w9 = v666 I := by
  simp only [sl.v666, e_HS0_32 I, rds]
  try simp only [rdu]
  try unfold v666
  try dsimp only
  try rfl

/-- In the run, `r_79` is `v667`. -/
theorem e_r_79 : sl.r_79 (F := Ideal) c arg2 harg2 arg11 harg11 arg16 I.w0 I.w9 = v667 I := by
  simp only [sl.r_79, e_v666 I, rds]
  try simp only [rdu]
  try unfold v667
  try dsimp only
  try rfl

/-- In the run, `v670` is `v670`. -/
theorem e_v670 : sl.v670 (F := Ideal) c arg2 harg2 arg11 harg11 arg16 I.w0 I.w9 = v670 I := by
  simp only [sl.v670, e_HS0_32 I, rds]
  try simp only [rdu]
  try unfold v670
  try dsimp only
  try rfl

/-- In the run, `r_80` is `v671`. -/
theorem e_r_80 : sl.r_80 (F := Ideal) c arg2 harg2 arg11 harg11 arg16 I.w0 I.w9 = v671 I := by
  simp only [sl.r_80, e_v670 I, rds]
  try simp only [rdu]
  try unfold v671
  try dsimp only
  try rfl

/-- In the run, `v656` is `v656`. -/
theorem e_v656 : sl.v656 (F := Ideal) c arg2 harg2 arg11 harg11 arg16 I.w0 I.w9 = v656 I := by
  simp only [sl.v656, e_HS0_32 I, rds]
  try simp only [rdu]
  try unfold v656
  try dsimp only
  try rfl

/-- In the run, `r_78` is `v657`. -/
theorem e_r_78 : sl.r_78 (F := Ideal) c arg2 harg2 arg11 harg11 arg16 I.w0 I.w9 = v657 I := by
  simp only [sl.r_78, e_v656 I, rds]
  try simp only [rdu]
  try unfold v657
  try dsimp only
  try rfl

/-- In the run, `v658` is `v658`. -/
theorem e_v658 : sl.v658 (F := Ideal) c arg2 harg2 arg11 harg11 arg16 I.w0 I.w9 = v658 I := by
  simp only [sl.v658, e_HS0_32 I, rds]
  try simp only [rdu]
  try unfold v658
  try dsimp only
  try rfl

/-- In the run, `v662` is `v662`. -/
theorem e_v662 : sl.v662 (F := Ideal) c arg2 harg2 arg11 harg11 arg16 I.w0 I.w9 = v662 I := by
  simp only [sl.v662, e_HS0_32 I, rds]
  try simp only [rdu]
  try unfold v662
  try dsimp only
  try rfl

/-- In the run, `r_81` is `v689`. -/
theorem e_r_81 : sl.r_81 (F := Ideal) c arg2 harg2 arg5 harg5 arg6 harg6 arg11 harg11 arg16 I.w0 I.w3 I.w4 I.w9 = v689 I := by
  simp only [sl.r_81, sl.r_4, e_v124 I, e_r_78 I, e_v658 I, e_v662 I, e_v666 I, rds]
  try simp only [rdu]
  try unfold v689
  try dsimp only
  try rfl

/-- In the run, `r_82` is `v695`. -/
theorem e_r_82 : sl.r_82 (F := Ideal) c arg2 harg2 arg5 harg5 arg6 harg6 arg11 harg11 arg16 I.w0 I.w3 I.w4 I.w9 = v695 I := by
  simp only [sl.r_82, sl.r_4, e_v124 I, e_v658 I, rds]
  try simp only [rdu]
  try unfold v695
  try dsimp only
  try rfl

/-- In the run, `r_83` is `v698`. -/
theorem e_r_83 : sl.r_83 (F := Ideal) c arg2 harg2 arg5 harg5 arg11 harg11 arg16 I.w0 I.w3 I.w9 = v698 I := by
  simp only [sl.r_83, e_v124 I, e_v662 I, rds]
  try simp only [rdu]
  try unfold v698
  try dsimp only
  try rfl

/-- In the run, `r_84` is `v708`. -/
theorem e_r_84 : sl.r_84 (F := Ideal) c arg2 harg2 arg5 harg5 arg6 harg6 arg11 harg11 arg16 I.w0 I.w3 I.w4 I.w9 = v708 I := by
  simp only [sl.r_84, e_v124 I, e_r_79 I, e_r_80 I, e_r_81 I, e_r_82 I, e_r_83 I, rds]
  try simp only [rdu]
  try unfold v708
  try dsimp only
  try rfl

/-- In the run, `v711` is `v711`. -/
theorem e_v711 : sl.v711 (F := Ideal) c arg2 harg2 arg11 harg11 arg16 I.w0 I.w9 = v711 I := by
  simp only [sl.v711, e_HS0_32 I, rds]
  try simp only [rdu]
  try unfold v711
  try dsimp only
  try rfl

/-- In the run, `r_85` is `v712`. -/
theorem e_r_85 : sl.r_85 (F := Ideal) c arg2 harg2 arg11 harg11 arg16 I.w0 I.w9 = v712 I := by
  simp only [sl.r_85, e_v711 I, rds]
  try simp only [rdu]
  try unfold v712
  try dsimp only
  try rfl

/-- In the run, `v715` is `v715`. -/
theorem e_v715 : sl.v715 (F := Ideal) c arg2 harg2 arg11 harg11 arg16 I.w0 I.w9 = v715 I := by
  simp only [sl.v715, e_HS0_32 I, rds]
  try simp only [rdu]
  try unfold v715
  try dsimp only
  try rfl

/-- In the run, `r_86` is `v716`. -/
theorem e_r_86 : sl.r_86 (F := Ideal) c arg2 harg2 arg11 harg11 arg16 I.w0 I.w9 = v716 I := by
  simp only [sl.r_86, e_v715 I, rds]
  try simp only [rdu]
  try unfold v716
  try dsimp only
  try rfl

/-- In the run, `r_87` is `v718`. -/
theorem e_r_87 : sl.r_87 (F := Ideal) c arg2 harg2 arg11 harg11 arg16 I.w0 I.w9 = v718 I := by
  simp only [sl.r_87, e_v715 I, rds]
  try simp only [rdu]
  try unfold v718
  try dsimp only
  try rfl

/-- In the run, `v719` is `v719`. -/
theorem e_v719 : sl.v719 (F := Ideal) c arg2 harg2 arg11 harg11 arg16 I.w0 I.w9 = v719 I := by
  simp only [sl.v719, e_HS0_32 I, rds]
  try simp only [rdu]
  try unfold v719
  try dsimp only
  try rfl

/-- In the run, `r_88` is `v720`. -/
theorem e_r_88 : sl.r_88 (F := Ideal) c arg2 harg2 arg11 harg11 arg16 I.w0 I.w9 = v720 I := by
  simp only [sl.r_88, e_v719 I, rds]
  try simp only [rdu]
  try unfold v720
  try dsimp only
  try rfl

/-- In the run, `r_89` is `v722`. -/
theorem e_r_89 : sl.r_89 (F := Ideal) c arg2 harg2 arg11 harg11 arg16 I.w0 I.w9 = v722 I := by
  simp only [sl.r_89, e_v719 I, rds]
  try simp only [rdu]
  try unfold v722
  try dsimp only
  try rfl

/-- In the run, `v723` is `v723`. -/
theorem e_v723 : sl.v723 (F := Ideal) c arg2 harg2 arg11 harg11 arg16 I.w0 I.w9 = v723 I := by
  simp only [sl.v723, e_HS0_32 I, rds]
  try simp only [rdu]
  try unfold v723
  try dsimp only
  try rfl

/-- In the run, `r_90` is `v724`. -/
theorem e_r_90 : sl.r_90 (F := Ideal) c arg2 harg2 arg11 harg11 arg16 I.w0 I.w9 = v724 I := by
  simp only [sl.r_90, e_v723 I, rds]
  try simp only [rdu]
  try unfold v724
  try dsimp only
  try rfl

/-- In the run, `v709` is `v709`. -/
theorem e_v709 : sl.v709 (F := Ideal) c arg2 harg2 arg11 harg11 arg16 I.w0 I.w9 = v709 I := by
  simp only [sl.v709, e_HS0_32 I, rds]
  try simp only [rdu]
  try unfold v709
  try dsimp only
  try rfl

/-- In the run, `r_91` is `v734`. -/
theorem e_r_91 : sl.r_91 (F := Ideal) c arg2 harg2 arg5 harg5 arg6 harg6 arg11 harg11 arg16 I.w0 I.w3 I.w4 I.w9 = v734 I := by
  simp only [sl.r_91, sl.r_4, e_v124 I, e_v709 I, e_v711 I, rds]
  try simp only [rdu]
  try unfold v734
  try dsimp only
  try rfl

/-- In the run, `r_92` is `v761`. -/
theorem e_r_92 : sl.r_92 (F := Ideal) c arg2 harg2 arg5 harg5 arg6 harg6 arg11 harg11 arg16 I.w0 I.w3 I.w4 I.w9 = v761 I := by
  simp only [sl.r_92, sl.r_4, e_v124 I, e_r_85 I, e_r_86 I, e_r_87 I, e_r_88 I, e_r_89 I, e_r_90 I, e_r_91 I, rds]
  try simp only [rdu]
  try unfold v761
  try dsimp only
  try rfl

/-- In the run, `v762` is `v762`. -/
theorem e_v762 : sl.v762 (F := Ideal) c arg2 harg2 arg11 harg11 arg16 I.w0 I.w9 = v762 I := by
  simp only [sl.v762, e_HS0_32 I, rds]
  try simp only [rdu]
  try unfold v762
  try dsimp only
  try rfl

/-- In the run, `r_93` is `v763`. -/
theorem e_r_93 : sl.r_93 (F := Ideal) c arg2 harg2 arg11 harg11 arg16 I.w0 I.w9 = v763 I := by
  simp only [sl.r_93, e_v762 I, rds]
  try simp only [rdu]
  try unfold v763
  try dsimp only
  try rfl

/-- In the run, `v764` is `v764`. -/
theorem e_v764 : sl.v764 (F := Ideal) c arg2 harg2 arg11 harg11 arg16 I.w0 I.w9 = v764 I := by
  simp only [sl.v764, e_HS0_32 I, rds]
  try simp only [rdu]
  try unfold v764
  try dsimp only
  try rfl

/-- In the run, `r_94` is `v765`. -/
theorem e_r_94 : sl.r_94 (F := Ideal) c arg2 harg2 arg11 harg11 arg16 I.w0 I.w9 = v765 I := by
  simp only [sl.r_94, e_v764 I, rds]
  try simp only [rdu]
  try unfold v765
  try dsimp only
  try rfl

/-- In the run, `r_95` is `v767`. -/
theorem e_r_95 : sl.r_95 (F := Ideal) c arg2 harg2 arg11 harg11 arg16 I.w0 I.w9 = v767 I := by
  simp only [sl.r_95, e_v764 I, rds]
  try simp only [rdu]
  try unfold v767
  try dsimp only
  try rfl

/-- In the run, `v768` is `v768`. -/
theorem e_v768 : sl.v768 (F := Ideal) c arg2 harg2 arg11 harg11 arg16 I.w0 I.w9 = v768 I := by
  simp only [sl.v768, e_HS0_32 I, rds]
  try simp only [rdu]
  try unfold v768
  try dsimp only
  try rfl

/-- In the run, `r_96` is `v769`. -/
theorem e_r_96 : sl.r_96 (F := Ideal) c arg2 harg2 arg11 harg11 arg16 I.w0 I.w9 = v769 I := by
  simp only [sl.r_96, e_v768 I, rds]
  try simp only [rdu]
  try unfold v769
  try dsimp only
  try rfl

/-- In the run, `r_97` is `v771`. -/
theorem e_r_97 : sl.r_97 (F := Ideal) c arg2 harg2 arg11 harg11 arg16 I.w0 I.w9 = v771 I := by
  simp only [sl.r_97, e_v768 I, rds]
  try simp only [rdu]
  try unfold v771
  try dsimp only
  try rfl

/-- In the run, `v772` is `v772`. -/
theorem e_v772 : sl.v772 (F := Ideal) c arg2 harg2 arg11 harg11 arg16 I.w0 I.w9 = v772 I := by
  simp only [sl.v772, e_HS0_32 I, rds]
  try simp only [rdu]
  try unfold v772
  try dsimp only
  try rfl

/-- In the run, `r_98` is `v773`. -/
theorem e_r_98 : sl.r_98 (F := Ideal) c arg2 harg2 arg11 harg11 arg16 I.w0 I.w9 = v773 I := by
  simp only [sl.r_98, e_v772 I, rds]
  try simp only [rdu]
  try unfold v773
  try dsimp only
  try rfl

/-- In the run, `v776` is `v776`. -/
theorem e_v776 : sl.v776 (F := Ideal) c arg2 harg2 arg11 harg11 arg16 I.w0 I.w9 = v776 I := by
  simp only [sl.v776, e_HS0_32 I, rds]
  try simp only [rdu]
  try unfold v776
  try dsimp only
  try rfl

/-- In the run, `r_99` is `v814`. -/
theorem e_r_99 : sl.r_99 (F := Ideal) c arg2 harg2 arg5 harg5 arg6 harg6 arg11 harg11 arg16 I.w0 I.w3 I.w4 I.w9 = v814 I := by
  simp only [sl.r_99, sl.r_4, e_v124 I, e_r_93 I, e_r_94 I, e_r_95 I, e_r_96 I, e_r_97 I, e_r_98 I, e_v772 I, e_v776 I, rds]
  try simp only [rdu]
  try unfold v814
  try dsimp only
  try rfl

/-- In the run, `v815` is `v815`. -/
theorem e_v815 : sl.v815 (F := Ideal) c arg2 harg2 arg11 harg11 arg16 I.w0 I.w9 = v815 I := by
  simp only [sl.v815, e_HS0_32 I, rds]
  try simp only [rdu]
  try unfold v815
  try dsimp only
  try rfl

/-- In the run, `r_100` is `v816`. -/
theorem e_r_100 : sl.r_100 (F := Ideal) c arg2 harg2 arg11 harg11 arg16 I.w0 I.w9 = v816 I := by
  simp only [sl.r_100, e_v815 I, rds]
  try simp only [rdu]
  try unfold v816
  try dsimp only
  try rfl

/-- In the run, `v817` is `v817`. -/
theorem e_v817 : sl.v817 (F := Ideal) c arg2 harg2 arg11 harg11 arg16 I.w0 I.w9 = v817 I := by
  simp only [sl.v817, e_HS0_32 I, rds]
  try simp only [rdu]
  try unfold v817
  try dsimp only
  try rfl

/-- In the run, `r_102` is `v820`. -/
theorem e_r_102 : sl.r_102 (F := Ideal) c arg2 harg2 arg11 harg11 arg16 I.w0 I.w9 = v820 I := by
  simp only [sl.r_102, e_v817 I, rds]
  try simp only [rdu]
  try unfold v820
  try dsimp only
  try rfl

/-- In the run, `v821` is `v821`. -/
theorem e_v821 : sl.v821 (F := Ideal) c arg2 harg2 arg11 harg11 arg16 I.w0 I.w9 = v821 I := by
  simp only [sl.v821, e_HS0_32 I, rds]
  try simp only [rdu]
  try unfold v821
  try dsimp only
  try rfl

/-- In the run, `v825` is `v825`. -/
theorem e_v825 : sl.v825 (F := Ideal) c arg2 harg2 arg11 harg11 arg16 I.w0 I.w9 = v825 I := by
  simp only [sl.v825, e_HS0_32 I, rds]
  try simp only [rdu]
  try unfold v825
  try dsimp only
  try rfl

/-- In the run, `r_103` is `v848`. -/
theorem e_r_103 : sl.r_103 (F := Ideal) c arg2 harg2 arg5 harg5 arg6 harg6 arg11 harg11 arg16 I.w0 I.w3 I.w4 I.w9 = v848 I := by
  simp only [sl.r_103, sl.r_4, e_v124 I, e_r_100 I, e_r_102 I, e_v821 I, e_v825 I, rds]
  try simp only [rdu]
  try unfold v848
  try dsimp only
  try rfl

/-- In the run, `r_101` is `v818`. -/
theorem e_r_101 : sl.r_101 (F := Ideal) c arg2 harg2 arg11 harg11 arg16 I.w0 I.w9 = v818 I := by
  simp only [sl.r_101, e_v817 I, rds]
  try simp only [rdu]
  try unfold v818
  try dsimp only
  try rfl

/-- In the run, `v829` is `v829`. -/
theorem e_v829 : sl.v829 (F := Ideal) c arg2 harg2 arg11 harg11 arg16 I.w0 I.w9 = v829 I := by
  simp only [sl.v829, e_HS0_32 I, rds]
  try simp only [rdu]
  try unfold v829
  try dsimp only
  try rfl

/-- In the run, `r_104` is `v866`. -/
theorem e_r_104 : sl.r_104 (F := Ideal) c arg2 harg2 arg5 harg5 arg6 harg6 arg11 harg11 arg16 I.w0 I.w3 I.w4 I.w9 = v866 I := by
  simp only [sl.r_104, sl.r_4, e_v124 I, e_r_101 I, e_v821 I, e_v825 I, e_v829 I, rds]
  try simp only [rdu]
  try unfold v866
  try dsimp only
  try rfl

/-- In the run, `r_105` is `v867`. -/
theorem e_r_105 : sl.r_105 (F := Ideal) c arg2 harg2 arg5 harg5 arg6 harg6 arg11 harg11 arg16 I.w0 I.w3 I.w4 I.w9 = v867 I := by
  simp only [sl.r_105, e_r_103 I, e_r_104 I, rds]
  try simp only [rdu]
  try unfold v867
  try dsimp only
  try rfl

/-- In the run, `v870` is `v870`. -/
theorem e_v870 : sl.v870 (F := Ideal) c arg2 harg2 arg11 harg11 arg16 I.w0 I.w9 = v870 I := by
  simp only [sl.v870, e_HS0_32 I, rds]
  try simp only [rdu]
  try unfold v870
  try dsimp only
  try rfl

/-- In the run, `r_106` is `v871`. -/
theorem e_r_106 : sl.r_106 (F := Ideal) c arg2 harg2 arg11 harg11 arg16 I.w0 I.w9 = v871 I := by
  simp only [sl.r_106, e_v870 I, rds]
  try simp only [rdu]
  try unfold v871
  try dsimp only
  try rfl

/-- In the run, `v874` is `v874`. -/
theorem e_v874 : sl.v874 (F := Ideal) c arg2 harg2 arg11 harg11 arg16 I.w0 I.w9 = v874 I := by
  simp only [sl.v874, e_HS0_32 I, rds]
  try simp only [rdu]
  try unfold v874
  try dsimp only
  try rfl

/-- In the run, `r_107` is `v875`. -/
theorem e_r_107 : sl.r_107 (F := Ideal) c arg2 harg2 arg11 harg11 arg16 I.w0 I.w9 = v875 I := by
  simp only [sl.r_107, e_v874 I, rds]
  try simp only [rdu]
  try unfold v875
  try dsimp only
  try rfl

/-- In the run, `v878` is `v878`. -/
theorem e_v878 : sl.v878 (F := Ideal) c arg2 harg2 arg11 harg11 arg16 I.w0 I.w9 = v878 I := by
  simp only [sl.v878, e_HS0_32 I, rds]
  try simp only [rdu]
  try unfold v878
  try dsimp only
  try rfl

/-- In the run, `r_108` is `v879`. -/
theorem e_r_108 : sl.r_108 (F := Ideal) c arg2 harg2 arg11 harg11 arg16 I.w0 I.w9 = v879 I := by
  simp only [sl.r_108, e_v878 I, rds]
  try simp only [rdu]
  try unfold v879
  try dsimp only
  try rfl

/-- In the run, `v882` is `v882`. -/
theorem e_v882 : sl.v882 (F := Ideal) c arg2 harg2 arg11 harg11 arg16 I.w0 I.w9 = v882 I := by
  simp only [sl.v882, e_HS0_32 I, rds]
  try simp only [rdu]
  try unfold v882
  try dsimp only
  try rfl

/-- In the run, `r_109` is `v883`. -/
theorem e_r_109 : sl.r_109 (F := Ideal) c arg2 harg2 arg11 harg11 arg16 I.w0 I.w9 = v883 I := by
  simp only [sl.r_109, e_v882 I, rds]
  try simp only [rdu]
  try unfold v883
  try dsimp only
  try rfl

/-- In the run, `v868` is `v868`. -/
theorem e_v868 : sl.v868 (F := Ideal) c arg2 harg2 arg11 harg11 arg16 I.w0 I.w9 = v868 I := by
  simp only [sl.v868, e_HS0_32 I, rds]
  try simp only [rdu]
  try unfold v868
  try dsimp only
  try rfl

/-- In the run, `r_110` is `v901`. -/
theorem e_r_110 : sl.r_110 (F := Ideal) c arg2 harg2 arg5 harg5 arg6 harg6 arg11 harg11 arg16 I.w0 I.w3 I.w4 I.w9 = v901 I := by
  simp only [sl.r_110, sl.r_4, e_v124 I, e_v868 I, e_v870 I, e_v874 I, e_v878 I, rds]
  try simp only [rdu]
  try unfold v901
  try dsimp only
  try rfl

/-- In the run, `r_111` is `v902`. -/
theorem e_r_111 : sl.r_111 (F := Ideal) c arg6 harg6 I.w4 = v902 I := by
  simp only [sl.r_111, sl.r_4, rds]
  try simp only [rdu]
  try unfold v902
  try dsimp only
  try rfl

/-- In the run, `r_112` is `v920`. -/
theorem e_r_112 : sl.r_112 (F := Ideal) c arg2 harg2 arg5 harg5 arg6 harg6 arg11 harg11 arg16 I.w0 I.w3 I.w4 I.w9 = v920 I := by
  simp only [sl.r_112, e_v124 I, e_r_106 I, e_r_107 I, e_r_108 I, e_r_109 I, e_r_110 I, e_r_111 I, rds]
  try simp only [rdu]
  try unfold v920
  try dsimp only
  try rfl

/-- In the run, `v921` is `v921`. -/
theorem e_v921 : sl.v921 (F := Ideal) c arg2 harg2 arg11 harg11 arg16 I.w0 I.w9 = v921 I := by
  simp only [sl.v921, e_HS0_32 I, rds]
  try simp only [rdu]
  try unfold v921
  try dsimp only
  try rfl

/-- In the run, `r_113` is `v922`. -/
theorem e_r_113 : sl.r_113 (F := Ideal) c arg2 harg2 arg11 harg11 arg16 I.w0 I.w9 = v922 I := by
  simp only [sl.r_113, e_v921 I, rds]
  try simp only [rdu]
  try unfold v922
  try dsimp only
  try rfl

/-- In the run, `v923` is `v923`. -/
theorem e_v923 : sl.v923 (F := Ideal) c arg2 harg2 arg11 harg11 arg16 I.w0 I.w9 = v923 I := by
  simp only [sl.v923, e_HS0_32 I, rds]
  try simp only [rdu]
  try unfold v923
  try dsimp only
  try rfl

/-- In the run, `r_114` is `v924`. -/
theorem e_r_114 : sl.r_114 (F := Ideal) c arg2 harg2 arg11 harg11 arg16 I.w0 I.w9 = v924 I := by
  simp only [sl.r_114, e_v923 I, rds]
  try simp only [rdu]
  try unfold v924
  try dsimp only
  try rfl

/-- In the run, `r_115` is `v926`. -/
theorem e_r_115 : sl.r_115 (F := Ideal) c arg2 harg2 arg11 harg11 arg16 I.w0 I.w9 = v926 I := by
  simp only [sl.r_115, e_v923 I, rds]
  try simp only [rdu]
  try unfold v926
  try dsimp only
  try rfl

/-- In the run, `v927` is `v927`. -/
theorem e_v927 : sl.v927 (F := Ideal) c arg2 harg2 arg11 harg11 arg16 I.w0 I.w9 = v927 I := by
  simp only [sl.v927, e_HS0_32 I, rds]
  try simp only [rdu]
  try unfold v927
  try dsimp only
  try rfl

/-- In the run, `r_116` is `v928`. -/
theorem e_r_116 : sl.r_116 (F := Ideal) c arg2 harg2 arg11 harg11 arg16 I.w0 I.w9 = v928 I := by
  simp only [sl.r_116, e_v927 I, rds]
  try simp only [rdu]
  try unfold v928
  try dsimp only
  try rfl

/-- In the run, `r_117` is `v930`. -/
theorem e_r_117 : sl.r_117 (F := Ideal) c arg2 harg2 arg11 harg11 arg16 I.w0 I.w9 = v930 I := by
  simp only [sl.r_117, e_v927 I, rds]
  try simp only [rdu]
  try unfold v930
  try dsimp only
  try rfl

/-- In the run, `v931` is `v931`. -/
theorem e_v931 : sl.v931 (F := Ideal) c arg2 harg2 arg11 harg11 arg16 I.w0 I.w9 = v931 I := by
  simp only [sl.v931, e_HS0_32 I, rds]
  try simp only [rdu]
  try unfold v931
  try dsimp only
  try rfl

/-- In the run, `r_118` is `v932`. -/
theorem e_r_118 : sl.r_118 (F := Ideal) c arg2 harg2 arg11 harg11 arg16 I.w0 I.w9 = v932 I := by
  simp only [sl.r_118, e_v931 I, rds]
  try simp only [rdu]
  try unfold v932
  try dsimp only
  try rfl

/-- In the run, `r_119` is `v934`. -/
theorem e_r_119 : sl.r_119 (F := Ideal) c arg2 harg2 arg11 harg11 arg16 I.w0 I.w9 = v934 I := by
  simp only [sl.r_119, e_v931 I, rds]
  try simp only [rdu]
  try unfold v934
  try dsimp only
  try rfl

/-- In the run, `v935` is `v935`. -/
theorem e_v935 : sl.v935 (F := Ideal) c arg2 harg2 arg11 harg11 arg16 I.w0 I.w9 = v935 I := by
  simp only [sl.v935, e_HS0_32 I, rds]
  try simp only [rdu]
  try unfold v935
  try dsimp only
  try rfl

/-- In the run, `r_120` is `v936`. -/
theorem e_r_120 : sl.r_120 (F := Ideal) c arg2 harg2 arg11 harg11 arg16 I.w0 I.w9 = v936 I := by
  simp only [sl.r_120, e_v935 I, rds]
  try simp only [rdu]
  try unfold v936
  try dsimp only
  try rfl

/-- In the run, `r_121` is `v937`. -/
theorem e_r_121 : sl.r_121 (F := Ideal) c arg6 harg6 I.w4 = v937 I := by
  simp only [sl.r_121, sl.r_4, rds]
  try simp only [rdu]
  try unfold v937
  try dsimp only
  try rfl

/-- In the run, `r_122` is `v938`. -/
theorem e_r_122 : sl.r_122 (F := Ideal) c arg5 harg5 I.w3 = v938 I := by
  simp only [sl.r_122, e_v124 I, rds]
  try simp only [rdu]
  try unfold v938
  try dsimp only
  try rfl

/-- In the run, `r_124` is `v979`. -/
theorem e_r_124 : sl.r_124 (F := Ideal) c arg2 harg2 arg5 harg5 arg6 harg6 arg11 harg11 arg16 I.w0 I.w3 I.w4 I.w9 = v979 I := by
  simp only [sl.r_124, sl.r_4, e_v124 I, e_r_11 I, e_r_20 I, e_r_25 I, e_r_33 I, e_r_42 I, e_r_49 I, e_r_56 I, e_r_62 I, e_r_72 I, e_r_77 I, e_r_84 I, e_r_92 I, e_r_99 I, e_r_105 I, e_r_112 I, e_r_113 I, e_r_114 I, e_r_115 I, e_r_116 I, e_r_117 I, e_r_118 I, e_r_119 I, e_r_120 I, e_r_121 I, e_r_122 I, rds]
  try simp only [rdu]
  try unfold v979
  try dsimp only
  try rfl

/-- In the run, `v1575` is `v1575`. -/
theorem e_v1575 : sl.v1575 (F := Ideal) c arg2 harg2 arg11 harg11 arg16 I.w0 I.w9 = v1575 I := by
  simp only [sl.v1575, e_HS0_32 I, rds]
  try simp only [rdu]
  try unfold v1575
  try dsimp only
  try rfl

/-- In the run, `HS0_33` is `L16_1`. -/
theorem e_HS0_33 : sl.HS0_33 (F := Ideal) c arg2 harg2 arg11 harg11 arg16 I.w0 I.w9 = L16_1 I := by
  simp only [sl.HS0_33, e_v1575 I, e_HS0_32 I, rds]
  try simp only [rdu]
  try unfold L16_1
  try dsimp only
  try rfl

/-- In the run, `v1580` is `v1580`. -/
theorem e_v1580 : sl.v1580 (F := Ideal) c arg2 harg2 arg11 harg11 arg16 I.w0 I.w9 = v1580 I := by
  simp only [sl.v1580, e_HS0_33 I, rds]
  try simp only [rdu]
  try unfold v1580
  try dsimp only
  try rfl

/-- In the run, `HS0_34` is `L16_2`. -/
theorem e_HS0_34 : sl.HS0_34 (F := Ideal) c arg2 harg2 arg11 harg11 arg16 I.w0 I.w9 = L16_2 I := by
  simp only [sl.HS0_34, e_v1580 I, e_HS0_33 I, rds]
  try simp only [rdu]
  try unfold L16_2
  try dsimp only
  try rfl

/-- In the run, `v1585` is `v1585`. -/
theorem e_v1585 : sl.v1585 (F := Ideal) c arg2 harg2 arg11 harg11 arg16 I.w0 I.w9 = v1585 I := by
  simp only [sl.v1585, e_HS0_34 I, rds]
  try simp only [rdu]
  try unfold v1585
  try dsimp only
  try rfl

/-- In the run, `HS0_35` is `L16_3`. -/
theorem e_HS0_35 : sl.HS0_35 (F := Ideal) c arg2 harg2 arg11 harg11 arg16 I.w0 I.w9 = L16_3 I := by
  simp only [sl.HS0_35, e_v1585 I, e_HS0_34 I, rds]
  try simp only [rdu]
  try unfold L16_3
  try dsimp only
  try rfl

/-- In the run, `v1590` is `v1590`. -/
theorem e_v1590 : sl.v1590 (F := Ideal) c arg2 harg2 arg11 harg11 arg16 I.w0 I.w9 = v1590 I := by
  simp only [sl.v1590, e_HS0_35 I, rds]
  try simp only [rdu]
  try unfold v1590
  try dsimp only
  try rfl

/-- In the run, `r_179` is `v1591`. -/
theorem e_r_179 : sl.r_179 (F := Ideal) c arg2 harg2 arg11 harg11 arg16 I.w0 I.w9 = v1591 I := by
  simp only [sl.r_179, e_v1590 I, rds]
  try simp only [rdu]
  try unfold v1591
  try dsimp only
  try rfl

/-- In the run, `HS0_36` is `L16_4`. -/
theorem e_HS0_36 : sl.HS0_36 (F := Ideal) c arg2 harg2 arg11 harg11 arg16 I.w0 I.w9 = L16_4 I := by
  simp only [sl.HS0_36, sl.v1594, e_r_179 I, e_HS0_35 I, rds]
  try simp only [rdu]
  try unfold L16_4
  try dsimp only
  try rfl

/-- In the run, `v1595` is `v1595`. -/
theorem e_v1595 : sl.v1595 (F := Ideal) c arg2 harg2 arg11 harg11 arg16 I.w0 I.w9 = v1595 I := by
  simp only [sl.v1595, e_HS0_36 I, rds]
  try simp only [rdu]
  try unfold v1595
  try dsimp only
  try rfl

/-- In the run, `HS0_37` is `L16_5`. -/
theorem e_HS0_37 : sl.HS0_37 (F := Ideal) c arg2 harg2 arg11 harg11 arg16 I.w0 I.w9 = L16_5 I := by
  simp only [sl.HS0_37, sl.v1599, sl.v1596, e_v1595 I, e_HS0_36 I, rds]
  try simp only [rdu]
  try unfold L16_5
  try dsimp only
  try rfl

/-- In the run, `v1600` is `v1600`. -/
theorem e_v1600 : sl.v1600 (F := Ideal) c arg2 harg2 arg11 harg11 arg16 I.w0 I.w9 = v1600 I := by
  simp only [sl.v1600, e_HS0_37 I, rds]
  try simp only [rdu]
  try unfold v1600
  try dsimp only
  try rfl

/-- In the run, `HS0_38` is `L16_6`. -/
theorem e_HS0_38 : sl.HS0_38 (F := Ideal) c arg2 harg2 arg11 harg11 arg16 I.w0 I.w9 = L16_6 I := by
  simp only [sl.HS0_38, sl.v1604, sl.v1601, e_v1600 I, e_HS0_37 I, rds]
  try simp only [rdu]
  try unfold L16_6
  try dsimp only
  try rfl

/-- In the run, `v1605` is `v1605`. -/
theorem e_v1605 : sl.v1605 (F := Ideal) c arg2 harg2 arg11 harg11 arg16 I.w0 I.w9 = v1605 I := by
  simp only [sl.v1605, e_HS0_38 I, rds]
  try simp only [rdu]
  try unfold v1605
  try dsimp only
  try rfl

/-- In the run, `HS0_39` is `L16_7`. -/
theorem e_HS0_39 : sl.HS0_39 (F := Ideal) c arg2 harg2 arg11 harg11 arg16 I.w0 I.w9 = L16_7 I := by
  simp only [sl.HS0_39, sl.v1609, sl.v1606, e_v1605 I, e_HS0_38 I, rds]
  try simp only [rdu]
  try unfold L16_7
  try dsimp only
  try rfl

/-- In the run, `v1610` is `v1610`. -/
theorem e_v1610 : sl.v1610 (F := Ideal) c arg2 harg2 arg11 harg11 arg16 I.w0 I.w9 = v1610 I := by
  simp only [sl.v1610, e_HS0_39 I, rds]
  try simp only [rdu]
  try unfold v1610
  try dsimp only
  try rfl

/-- In the run, `HS0_40` is `L16_8`. -/
theorem e_HS0_40 : sl.HS0_40 (F := Ideal) c arg2 harg2 arg11 harg11 arg16 I.w0 I.w9 = L16_8 I := by
  simp only [sl.HS0_40, sl.v1614, sl.v1611, e_v1610 I, e_HS0_39 I, rds]
  try simp only [rdu]
  try unfold L16_8
  try dsimp only
  try rfl

/-- In the run, `v1615` is `v1615`. -/
theorem e_v1615 : sl.v1615 (F := Ideal) c arg2 harg2 arg11 harg11 arg16 I.w0 I.w9 = v1615 I := by
  simp only [sl.v1615, e_HS0_40 I, rds]
  try simp only [rdu]
  try unfold v1615
  try dsimp only
  try rfl

/-- In the run, `r_123` is `v977`. -/
theorem e_r_123 : sl.r_123 (F := Ideal) c arg2 harg2 arg5 harg5 arg6 harg6 arg11 harg11 arg16 I.w0 I.w3 I.w4 I.w9 = v977 I := by
  simp only [sl.r_123, sl.r_4, e_v124 I, e_r_11 I, e_r_20 I, e_r_25 I, e_r_33 I, e_r_42 I, e_r_49 I, e_r_56 I, e_r_62 I, e_r_72 I, e_r_77 I, e_r_84 I, e_r_92 I, e_r_99 I, e_r_105 I, e_r_112 I, e_r_113 I, e_r_114 I, e_r_115 I, e_r_116 I, e_r_117 I, e_r_118 I, e_r_119 I, e_r_120 I, e_r_121 I, e_r_122 I, rds]
  try simp only [rdu]
  try unfold v977
  try dsimp only
  try rfl

/-- In the run, `r_126` is `v990`. -/
theorem e_r_126 : sl.r_126 (F := Ideal) c arg4 harg4 arg7 harg7 I.w2 I.w5 = v990 I := by
  simp only [sl.r_126, rds]
  try simp only [rdu]
  try unfold v990
  try dsimp only
  try rfl

/-- In the run, `r_127` is `v1016`. -/
theorem e_r_127 : sl.r_127 (F := Ideal) c arg4 harg4 arg7 harg7 I.w2 I.w5 = v1016 I := by
  simp only [sl.r_127, e_r_126 I, rds]
  try simp only [rdu]
  try unfold v1016
  try dsimp only
  try rfl

/-- In the run, `r_140` is `v1177`. -/
theorem e_r_140 : sl.r_140 (F := Ideal) c arg4 harg4 arg7 harg7 I.w2 I.w5 = v1177 I := by
  simp only [sl.r_140, e_r_127 I, rds]
  try simp only [rdu]
  try unfold v1177
  try dsimp only
  try rfl

/-- In the run, `r_141` is `v1186`. -/
theorem e_r_141 : sl.r_141 (F := Ideal) c arg4 harg4 arg7 harg7 I.w2 I.w5 = v1186 I := by
  simp only [sl.r_141, e_r_127 I, rds]
  try simp only [rdu]
  try unfold v1186
  try dsimp only
  try rfl

/-- In the run, `v1168` is `v1168`. -/
theorem e_v1168 : sl.v1168  = v1168 I := by
  simp only [sl.v1168, rds]
  try simp only [rdu]
  try unfold v1168
  try dsimp only
  try rfl

/-- In the run, `r_142` is `v1189`. -/
theorem e_r_142 : sl.r_142 (F := Ideal) c arg4 harg4 arg7 harg7 I.w2 I.w5 = v1189 I := by
  simp only [sl.r_142, e_r_127 I, rds]
  try simp only [rdu]
  try unfold v1189
  try dsimp only
  try rfl

/-- In the run, `r_143` is `v1191`. -/
theorem e_r_143 : sl.r_143 (F := Ideal) c arg4 harg4 arg7 harg7 I.w2 I.w5 = v1191 I := by
  simp only [sl.r_143, e_r_127 I, rds]
  try simp only [rdu]
  try unfold v1191
  try dsimp only
  try rfl

/-- In the run, `v1241` is `v1241`. -/
theorem e_v1241 : sl.v1241 (F := Ideal) c arg4 harg4 arg7 harg7 I.w2 I.w5 = v1241 I := by
  simp only [sl.v1241, sl.v1195, sl.v1193, sl.v1192, sl.v1204, sl.v1198, sl.v1197, sl.v1196, sl.v1201, sl.v1200, sl.v1199, sl.v1213, sl.v1207, sl.v1206, sl.v1205, sl.v1210, sl.v1209, sl.v1208, sl.v1222, sl.v1216, sl.v1215, sl.v1214, sl.v1219, sl.v1218, sl.v1217, sl.v1231, sl.v1225, sl.v1224, sl.v1223, sl.v1228, sl.v1227, sl.v1226, sl.v1240, sl.v1234, sl.v1233, sl.v1232, sl.v1237, sl.v1236, sl.v1235, e_r_140 I, e_r_141 I, e_v1168 I, e_r_142 I, e_r_143 I, e_r_127 I, rds]
  try simp only [rdu]
  try unfold v1241 k0_pay208
  try rw [e_r_140 I]
  try rw [e_r_141 I]
  try rw [e_v1168 I]
  try rw [e_r_142 I]
  try rw [e_r_143 I]
  try rw [e_r_127 I]
  try dsimp only
  try rfl

/-- In the run, `r_156` is `v1389`. -/
theorem e_r_156 : sl.r_156 (F := Ideal) c arg2 harg2 arg4 harg4 arg5 harg5 arg6 harg6 arg7 harg7 arg11 harg11 arg16 I.w0 I.w2 I.w3 I.w4 I.w5 I.w9 = v1389 I := by
  simp only [sl.r_156, e_r_123 I, e_v1241 I, rds]
  try simp only [rdu]
  try unfold v1389
  try dsimp only
  try rfl

/-- In the run, `v1602` is `v1602`. -/
theorem e_v1602 : sl.v1602 (F := Ideal) c arg2 harg2 arg11 harg11 arg16 I.w0 I.w9 = v1602 I := by
  simp only [sl.v1602, e_HS0_37 I, rds]
  try simp only [rdu]
  try unfold v1602
  try dsimp only
  try rfl

/-- In the run, `v1616` is `v1616`. -/
theorem e_v1616 : sl.v1616 (F := Ideal) c arg2 harg2 arg11 harg11 arg16 I.w0 I.w9 = v1616 I := by
  simp only [sl.v1616, e_v1615 I, rds]
  try simp only [rdu]
  try unfold v1616 k0_pay274
  try dsimp only
  try rfl

/-- In the run, `HS0_41` is `L16_9`. -/
theorem e_HS0_41 : sl.HS0_41 (F := Ideal) c arg2 harg2 arg11 harg11 arg16 I.w0 I.w9 = L16_9 I := by
  simp only [sl.HS0_41, sl.v1619, e_v1616 I, e_HS0_40 I, rds]
  try simp only [rdu]
  try unfold L16_9
  try dsimp only
  try rfl

/-- In the run, `v1620` is `v1620`. -/
theorem e_v1620 : sl.v1620 (F := Ideal) c arg2 harg2 arg11 harg11 arg16 I.w0 I.w9 = v1620 I := by
  simp only [sl.v1620, e_HS0_41 I, rds]
  try simp only [rdu]
  try unfold v1620
  try dsimp only
  try rfl

/-- In the run, `HS0_42` is `L16_10`. -/
theorem e_HS0_42 : sl.HS0_42 (F := Ideal) c arg2 harg2 arg11 harg11 arg16 I.w0 I.w9 = L16_10 I := by
  simp only [sl.HS0_42, sl.v1624, sl.v1621, e_v1620 I, e_HS0_41 I, rds]
  try simp only [rdu]
  try unfold L16_10
  try dsimp only
  try rfl

/-- In the run, `v1625` is `v1625`. -/
theorem e_v1625 : sl.v1625 (F := Ideal) c arg2 harg2 arg11 harg11 arg16 I.w0 I.w9 = v1625 I := by
  simp only [sl.v1625, e_HS0_42 I, rds]
  try simp only [rdu]
  try unfold v1625
  try dsimp only
  try rfl

/-- In the run, `HS0_43` is `L16_11`. -/
theorem e_HS0_43 : sl.HS0_43 (F := Ideal) c arg2 harg2 arg11 harg11 arg16 I.w0 I.w9 = L16_11 I := by
  simp only [sl.HS0_43, sl.v1629, sl.v1626, e_v1625 I, e_HS0_42 I, rds]
  try simp only [rdu]
  try unfold L16_11
  try dsimp only
  try rfl

/-- In the run, `v1630` is `v1630`. -/
theorem e_v1630 : sl.v1630 (F := Ideal) c arg2 harg2 arg11 harg11 arg16 I.w0 I.w9 = v1630 I := by
  simp only [sl.v1630, e_HS0_43 I, rds]
  try simp only [rdu]
  try unfold v1630
  try dsimp only
  try rfl

/-- In the run, `HS0_44` is `L16_12`. -/
theorem e_HS0_44 : sl.HS0_44 (F := Ideal) c arg2 harg2 arg11 harg11 arg16 I.w0 I.w9 = L16_12 I := by
  simp only [sl.HS0_44, sl.v1634, sl.v1631, e_v1630 I, e_HS0_43 I, rds]
  try simp only [rdu]
  try unfold L16_12
  try dsimp only
  try rfl

/-- In the run, `v1635` is `v1635`. -/
theorem e_v1635 : sl.v1635 (F := Ideal) c arg2 harg2 arg11 harg11 arg16 I.w0 I.w9 = v1635 I := by
  simp only [sl.v1635, e_HS0_44 I, rds]
  try simp only [rdu]
  try unfold v1635
  try dsimp only
  try rfl

/-- In the run, `HS0_45` is `L16_13`. -/
theorem e_HS0_45 : sl.HS0_45 (F := Ideal) c arg2 harg2 arg11 harg11 arg16 I.w0 I.w9 = L16_13 I := by
  simp only [sl.HS0_45, sl.v1639, sl.v1636, e_v1635 I, e_HS0_44 I, rds]
  try simp only [rdu]
  try unfold L16_13
  try dsimp only
  try rfl

/-- In the run, `v1640` is `v1640`. -/
theorem e_v1640 : sl.v1640 (F := Ideal) c arg2 harg2 arg11 harg11 arg16 I.w0 I.w9 = v1640 I := by
  simp only [sl.v1640, e_HS0_45 I, rds]
  try simp only [rdu]
  try unfold v1640
  try dsimp only
  try rfl

/-- In the run, `v1641` is `v1641`. -/
theorem e_v1641 : sl.v1641 (F := Ideal) c arg2 harg2 arg11 harg11 arg16 I.w0 I.w9 = v1641 I := by
  simp only [sl.v1641, e_v1640 I, rds]
  try simp only [rdu]
  try unfold v1641 k0_pay280
  try dsimp only
  try rfl

/-- In the run, `HS0_46` is `L16_14`. -/
theorem e_HS0_46 : sl.HS0_46 (F := Ideal) c arg2 harg2 arg11 harg11 arg16 I.w0 I.w9 = L16_14 I := by
  simp only [sl.HS0_46, e_v1641 I, e_HS0_45 I, rds]
  try simp only [rdu]
  try unfold L16_14
  try dsimp only
  try rfl

/-- In the run, `v1645` is `v1645`. -/
theorem e_v1645 : sl.v1645 (F := Ideal) c arg2 harg2 arg11 harg11 arg16 I.w0 I.w9 = v1645 I := by
  simp only [sl.v1645, e_HS0_46 I, rds]
  try simp only [rdu]
  try unfold v1645
  try dsimp only
  try rfl

/-- In the run, `r_180` is `v1649`. -/
theorem e_r_180 : sl.r_180 (F := Ideal) c arg2 harg2 arg11 harg11 arg16 I.w0 I.w9 = v1649 I := by
  simp only [sl.r_180, e_v1645 I, rds]
  try simp only [rdu]
  try unfold v1649
  try dsimp only
  try rfl

/-- In the run, `HS0_47` is `L16_15`. -/
theorem e_HS0_47 : sl.HS0_47 (F := Ideal) c arg2 harg2 arg11 harg11 arg16 I.w0 I.w9 = L16_15 I := by
  simp only [sl.HS0_47, e_r_180 I, e_HS0_46 I, rds]
  try simp only [rdu]
  try unfold L16_15
  try dsimp only
  try rfl

/-- In the run, `v1650` is `v1650`. -/
theorem e_v1650 : sl.v1650 (F := Ideal) c arg2 harg2 arg11 harg11 arg16 I.w0 I.w9 = v1650 I := by
  simp only [sl.v1650, e_HS0_47 I, rds]
  try simp only [rdu]
  try unfold v1650
  try dsimp only
  try rfl

/-- In the run, `HS0_48` is `L16_16`. -/
theorem e_HS0_48 : sl.HS0_48 (F := Ideal) c arg2 harg2 arg11 harg11 arg16 I.w0 I.w9 = L16_16 I := by
  simp only [sl.HS0_48, e_v1650 I, e_HS0_47 I, rds]
  try simp only [rdu]
  try unfold L16_16
  try dsimp only
  try rfl

/-- In the run, `v1713` is `v1713`. -/
theorem e_v1713 : sl.v1713 (F := Ideal) c arg2 harg2 arg11 harg11 arg16 I.w0 I.w9 = v1713 I := by
  simp only [sl.v1713, e_HS0_48 I, rds]
  try simp only [rdu]
  try unfold v1713
  try dsimp only
  try rfl

/-- In the run, `r_125` is `v981`. -/
theorem e_r_125 : sl.r_125 (F := Ideal) c arg2 harg2 arg5 harg5 arg6 harg6 arg11 harg11 arg16 I.w0 I.w3 I.w4 I.w9 = v981 I := by
  simp only [sl.r_125, sl.r_4, e_v124 I, e_r_11 I, e_r_20 I, e_r_25 I, e_r_33 I, e_r_42 I, e_r_49 I, e_r_56 I, e_r_62 I, e_r_72 I, e_r_77 I, e_r_84 I, e_r_92 I, e_r_99 I, e_r_105 I, e_r_112 I, e_r_113 I, e_r_114 I, e_r_115 I, e_r_116 I, e_r_117 I, e_r_118 I, e_r_119 I, e_r_120 I, e_r_121 I, e_r_122 I, rds]
  try simp only [rdu]
  try unfold v981
  try dsimp only
  try rfl

/-- In the run, `r_136` is `v1116`. -/
theorem e_r_136 : sl.r_136 (F := Ideal) c arg2 harg2 arg5 harg5 arg6 harg6 arg11 harg11 arg16 I.w0 I.w3 I.w4 I.w9 = v1116 I := by
  simp only [sl.r_136, e_r_124 I, e_r_125 I, rds]
  try simp only [rdu]
  try unfold v1116
  try dsimp only
  try rfl

/-- In the run, `v1683` is `v1683`. -/
theorem e_v1683 : sl.v1683 (F := Ideal) c arg2 harg2 arg11 harg11 arg16 I.w0 I.w9 = v1683 I := by
  simp only [sl.v1683, e_HS0_48 I, rds]
  try simp only [rdu]
  try unfold v1683
  try dsimp only
  try rfl

/-- In the run, `r_164` is `v1433`. -/
theorem e_r_164 : sl.r_164 (F := Ideal) c arg2 harg2 arg5 harg5 arg6 harg6 arg11 harg11 arg16 I.w0 I.w3 I.w4 I.w9 = v1433 I := by
  simp only [sl.r_164, e_r_125 I, rds]
  try simp only [rdu]
  try unfold v1433
  try dsimp only
  try rfl

/-- In the run, `v1733` is `v1733`. -/
theorem e_v1733 : sl.v1733 (F := Ideal) c arg2 harg2 arg11 harg11 arg16 I.w0 I.w9 = v1733 I := by
  simp only [sl.v1733, e_HS0_48 I, rds]
  try simp only [rdu]
  try unfold v1733
  try dsimp only
  try rfl

/-- In the run, `r_129` is `v1031`. -/
theorem e_r_129 : sl.r_129 (F := Ideal) c arg4 harg4 arg7 harg7 arg8 harg8 I.w2 I.w5 I.w6 = v1031 I := by
  simp only [sl.r_129, e_r_126 I, rds]
  try simp only [rdu]
  try unfold v1031
  try dsimp only
  try rfl

/-- In the run, `r_130` is `v1035`. -/
theorem e_r_130 : sl.r_130 (F := Ideal) c arg4 harg4 arg7 harg7 arg8 harg8 I.w2 I.w5 I.w6 = v1035 I := by
  simp only [sl.r_130, e_r_126 I, rds]
  try simp only [rdu]
  try unfold v1035
  try dsimp only
  try rfl

/-- In the run, `r_131` is `v1059`. -/
theorem e_r_131 : sl.r_131 (F := Ideal) c arg4 harg4 arg7 harg7 arg8 harg8 I.w2 I.w5 I.w6 = v1059 I := by
  simp only [sl.r_131, e_r_129 I, e_r_130 I, rds]
  try simp only [rdu]
  try unfold v1059
  try dsimp only
  try rfl

/-- In the run, `r_150` is `v1352`. -/
theorem e_r_150 : sl.r_150 (F := Ideal) c arg2 harg2 arg4 harg4 arg5 harg5 arg6 harg6 arg7 harg7 arg11 harg11 arg16 I.w0 I.w2 I.w3 I.w4 I.w5 I.w9 = v1352 I := by
  simp only [sl.r_150, e_r_123 I, e_v1241 I, rds]
  try simp only [rdu]
  try unfold v1352
  try dsimp only
  try rfl

/-- In the run, `r_166` is `v1437`. -/
theorem e_r_166 : sl.r_166 (F := Ideal) c arg2 harg2 arg4 harg4 arg5 harg5 arg6 harg6 arg7 harg7 arg11 harg11 arg16 I.w0 I.w2 I.w3 I.w4 I.w5 I.w9 = v1437 I := by
  simp only [sl.r_166, e_r_150 I, rds]
  try simp only [rdu]
  try unfold v1437
  try dsimp only
  try rfl

/-- The run's `HS1_8`, as a term of the blocks. -/
theorem e_HS1_8 : sl.HS1_8 (F := Ideal) c arg3 harg3 I.w1 = I.L17 := by
  simp only [sl.HS1_8, sl.v122, sl.v119, sl.v117, sl.v114, sl.v112, sl.v109, sl.v107, sl.v104, sl.v102, sl.v99, sl.r_3, sl.v97, sl.v94, sl.v92, sl.v89, sl.v87, sl.v84, rds]
  try simp only [rdu]
  try unfold Inp.L17
  try dsimp only
  try rfl

/-- In the run, `v1123` is `v1123`. -/
theorem e_v1123 : sl.v1123 (F := Ideal) c arg3 harg3 arg17 I.w1 = v1123 I := by
  simp only [sl.v1123, e_HS1_8 I, rds]
  try simp only [rdu]
  try unfold v1123
  try dsimp only
  try rfl

/-- In the run, `r_163` is `v1432`. -/
theorem e_r_163 : sl.r_163 (F := Ideal) c arg2 harg2 arg5 harg5 arg6 harg6 arg11 harg11 arg16 I.w0 I.w3 I.w4 I.w9 = v1432 I := by
  simp only [sl.r_163, e_r_124 I, rds]
  try simp only [rdu]
  try unfold v1432
  try dsimp only
  try rfl

/-- In the run, `v1607` is `v1607`. -/
theorem e_v1607 : sl.v1607 (F := Ideal) c arg2 harg2 arg11 harg11 arg16 I.w0 I.w9 = v1607 I := by
  simp only [sl.v1607, e_HS0_38 I, rds]
  try simp only [rdu]
  try unfold v1607
  try dsimp only
  try rfl

/-- In the run, `v1242` is `v1242`. -/
theorem e_v1242 : sl.v1242  = v1242 I := by
  simp only [sl.v1242, rds]
  try simp only [rdu]
  try unfold v1242
  try dsimp only
  try rfl

/-- In the run, `v1121` is `v1121`. -/
theorem e_v1121 : sl.v1121 (F := Ideal) c arg3 harg3 arg17 I.w1 = v1121 I := by
  simp only [sl.v1121, e_HS1_8 I, rds]
  try simp only [rdu]
  try unfold v1121
  try dsimp only
  try rfl

/-- In the run, `v1125` is `v1125`. -/
theorem e_v1125 : sl.v1125 (F := Ideal) c arg3 harg3 arg17 I.w1 = v1125 I := by
  simp only [sl.v1125, sl.v1122, sl.v1124, e_v1121 I, e_v1123 I, rds]
  try simp only [rdu]
  try unfold v1125 k0_pay196
  try rw [e_v1121 I]
  try rw [e_v1123 I]
  try dsimp only
  try rfl

/-- In the run, `r_128` is `v1023`. -/
theorem e_r_128 : sl.r_128 (F := Ideal) c arg4 harg4 arg7 harg7 arg8 harg8 I.w2 I.w5 I.w6 = v1023 I := by
  simp only [sl.r_128, e_r_126 I, rds]
  try simp only [rdu]
  try unfold v1023
  try dsimp only
  try rfl

/-- In the run, `r_132` is `v1074`. -/
theorem e_r_132 : sl.r_132 (F := Ideal) c arg4 harg4 arg7 harg7 arg8 harg8 I.w2 I.w5 I.w6 = v1074 I := by
  simp only [sl.r_132, e_r_128 I, rds]
  try simp only [rdu]
  try unfold v1074
  try dsimp only
  try rfl

/-- In the run, `r_133` is `v1104`. -/
theorem e_r_133 : sl.r_133 (F := Ideal) c arg4 harg4 arg7 harg7 arg8 harg8 I.w2 I.w5 I.w6 = v1104 I := by
  simp only [sl.r_133, e_r_131 I, e_r_132 I, rds]
  try simp only [rdu]
  try unfold v1104
  try dsimp only
  try rfl

/-- In the run, `v1269` is `v1269`. -/
theorem e_v1269 : sl.v1269 (F := Ideal) c arg4 harg4 arg7 harg7 arg8 harg8 I.w2 I.w5 I.w6 = v1269 I := by
  simp only [sl.v1269, sl.v1193, sl.v1263, sl.v1262, sl.v1261, sl.v1266, sl.v1265, sl.v1264, e_v1242 I, e_r_133 I, rds]
  try simp only [rdu]
  try unfold v1269 k0_pay212
  try dsimp only
  try rfl

/-- In the run, `v1128` is `v1128`. -/
theorem e_v1128 : sl.v1128 (F := Ideal) c arg3 harg3 arg17 I.w1 = v1128 I := by
  simp only [sl.v1128, e_HS1_8 I, rds]
  try simp only [rdu]
  try unfold v1128
  try dsimp only
  try rfl

/-- In the run, `r_170` is `v1459`. -/
theorem e_r_170 : sl.r_170 (F := Ideal) c arg2 harg2 arg5 harg5 arg6 harg6 arg11 harg11 arg16 I.w0 I.w3 I.w4 I.w9 = v1459 I := by
  simp only [sl.r_170, e_r_125 I, rds]
  try simp only [rdu]
  try unfold v1459
  try dsimp only
  try rfl

/-- In the run, `v1126` is `v1126`. -/
theorem e_v1126 : sl.v1126 (F := Ideal) c arg3 harg3 arg17 I.w1 = v1126 I := by
  simp only [sl.v1126, e_HS1_8 I, rds]
  try simp only [rdu]
  try unfold v1126
  try dsimp only
  try rfl

/-- In the run, `v1130` is `v1130`. -/
theorem e_v1130 : sl.v1130 (F := Ideal) c arg3 harg3 arg17 I.w1 = v1130 I := by
  simp only [sl.v1130, sl.v1127, sl.v1129, e_v1126 I, e_v1128 I, rds]
  try simp only [rdu]
  try unfold v1130 k0_pay197
  try rw [e_v1126 I]
  try rw [e_v1128 I]
  try dsimp only
  try rfl

/-- In the run, `v1131` is `v1131`. -/
theorem e_v1131 : sl.v1131 (F := Ideal) c arg3 harg3 arg17 I.w1 = v1131 I := by
  simp only [sl.v1131, e_HS1_8 I, rds]
  try simp only [rdu]
  try unfold v1131
  try dsimp only
  try rfl

/-- In the run, `v1133` is `v1133`. -/
theorem e_v1133 : sl.v1133 (F := Ideal) c arg3 harg3 arg17 I.w1 = v1133 I := by
  simp only [sl.v1133, e_HS1_8 I, rds]
  try simp only [rdu]
  try unfold v1133
  try dsimp only
  try rfl

/-- In the run, `v1135` is `v1135`. -/
theorem e_v1135 : sl.v1135 (F := Ideal) c arg3 harg3 arg17 I.w1 = v1135 I := by
  simp only [sl.v1135, sl.v1132, sl.v1134, e_v1131 I, e_v1133 I, rds]
  try simp only [rdu]
  try unfold v1135 k0_pay198
  try rw [e_v1131 I]
  try rw [e_v1133 I]
  try dsimp only
  try rfl

/-- In the run, `v1136` is `v1136`. -/
theorem e_v1136 : sl.v1136 (F := Ideal) c arg3 harg3 arg17 I.w1 = v1136 I := by
  simp only [sl.v1136, e_HS1_8 I, rds]
  try simp only [rdu]
  try unfold v1136
  try dsimp only
  try rfl

/-- In the run, `v1138` is `v1138`. -/
theorem e_v1138 : sl.v1138 (F := Ideal) c arg3 harg3 arg17 I.w1 = v1138 I := by
  simp only [sl.v1138, e_HS1_8 I, rds]
  try simp only [rdu]
  try unfold v1138
  try dsimp only
  try rfl

/-- In the run, `v1140` is `v1140`. -/
theorem e_v1140 : sl.v1140 (F := Ideal) c arg3 harg3 arg17 I.w1 = v1140 I := by
  simp only [sl.v1140, sl.v1137, sl.v1139, e_v1136 I, e_v1138 I, rds]
  try simp only [rdu]
  try unfold v1140 k0_pay199
  try rw [e_v1136 I]
  try rw [e_v1138 I]
  try dsimp only
  try rfl

/-- In the run, `v1141` is `v1141`. -/
theorem e_v1141 : sl.v1141 (F := Ideal) c arg3 harg3 arg17 I.w1 = v1141 I := by
  simp only [sl.v1141, e_HS1_8 I, rds]
  try simp only [rdu]
  try unfold v1141
  try dsimp only
  try rfl

/-- In the run, `v1143` is `v1143`. -/
theorem e_v1143 : sl.v1143 (F := Ideal) c arg3 harg3 arg17 I.w1 = v1143 I := by
  simp only [sl.v1143, e_HS1_8 I, rds]
  try simp only [rdu]
  try unfold v1143
  try dsimp only
  try rfl

/-- In the run, `v1145` is `v1145`. -/
theorem e_v1145 : sl.v1145 (F := Ideal) c arg3 harg3 arg17 I.w1 = v1145 I := by
  simp only [sl.v1145, sl.v1142, sl.v1144, e_v1141 I, e_v1143 I, rds]
  try simp only [rdu]
  try unfold v1145 k0_pay200
  try rw [e_v1141 I]
  try rw [e_v1143 I]
  try dsimp only
  try rfl

/-- In the run, `v1146` is `v1146`. -/
theorem e_v1146 : sl.v1146 (F := Ideal) c arg3 harg3 arg17 I.w1 = v1146 I := by
  simp only [sl.v1146, e_HS1_8 I, rds]
  try simp only [rdu]
  try unfold v1146
  try dsimp only
  try rfl

/-- In the run, `v1147` is `v1147`. -/
theorem e_v1147 : sl.v1147 (F := Ideal) c arg3 harg3 arg17 I.w1 = v1147 I := by
  simp only [sl.v1147, e_v1146 I, rds]
  try simp only [rdu]
  try unfold v1147 k0_pay201
  try dsimp only
  try rfl

/-- In the run, `v1148` is `v1148`. -/
theorem e_v1148 : sl.v1148 (F := Ideal) c arg3 harg3 arg17 I.w1 = v1148 I := by
  simp only [sl.v1148, e_HS1_8 I, rds]
  try simp only [rdu]
  try unfold v1148
  try dsimp only
  try rfl

/-- In the run, `v1151` is `v1151`. -/
theorem e_v1151 : sl.v1151 (F := Ideal) c arg3 harg3 arg17 I.w1 = v1151 I := by
  simp only [sl.v1151, e_HS1_8 I, rds]
  try simp only [rdu]
  try unfold v1151
  try dsimp only
  try rfl

/-- In the run, `v1153` is `v1153`. -/
theorem e_v1153 : sl.v1153 (F := Ideal) c arg3 harg3 arg17 I.w1 = v1153 I := by
  simp only [sl.v1153, e_HS1_8 I, rds]
  try simp only [rdu]
  try unfold v1153
  try dsimp only
  try rfl

/-- In the run, `v1156` is `v1156`. -/
theorem e_v1156 : sl.v1156 (F := Ideal) c arg3 harg3 arg17 I.w1 = v1156 I := by
  simp only [sl.v1156, e_HS1_8 I, rds]
  try simp only [rdu]
  try unfold v1156
  try dsimp only
  try rfl

/-- In the run, `v1158` is `v1158`. -/
theorem e_v1158 : sl.v1158 (F := Ideal) c arg3 harg3 arg17 I.w1 = v1158 I := by
  simp only [sl.v1158, e_HS1_8 I, rds]
  try simp only [rdu]
  try unfold v1158
  try dsimp only
  try rfl

/-- In the run, `r_138` is `v1163`. -/
theorem e_r_138 : sl.r_138 (F := Ideal) c arg3 harg3 arg17 I.w1 = v1163 I := by
  simp only [sl.r_138, e_v1125 I, e_v1130 I, e_v1135 I, e_v1140 I, e_v1145 I, e_v1147 I, e_v1148 I, e_v1151 I, e_v1153 I, e_v1156 I, e_v1158 I, rds]
  try simp only [rdu]
  try unfold v1163
  try dsimp only
  try rfl

/-- In the run, `r_139` is `v1167`. -/
theorem e_r_139 : sl.r_139 (F := Ideal) c arg2 harg2 arg5 harg5 arg6 harg6 arg9 harg9 arg11 harg11 arg16 I.w0 I.w3 I.w4 I.w7 I.w9 = v1167 I := by
  simp only [sl.r_139, e_r_123 I, rds]
  try simp only [rdu]
  try unfold v1167
  try dsimp only
  try rfl

/-- In the run, `v1245` is `v1245`. -/
theorem e_v1245 : sl.v1245 (F := Ideal) c arg4 harg4 arg7 harg7 arg8 harg8 I.w2 I.w5 I.w6 = v1245 I := by
  simp only [sl.v1245, sl.v1244, sl.v1243, e_r_133 I, rds]
  try simp only [rdu]
  try unfold v1245 k0_pay209
  try dsimp only
  try rfl

/-- In the run, `v1251` is `v1251`. -/
theorem e_v1251 : sl.v1251 (F := Ideal) c arg4 harg4 arg7 harg7 arg8 harg8 I.w2 I.w5 I.w6 = v1251 I := by
  simp only [sl.v1251, sl.v1193, sl.v1248, sl.v1247, sl.v1246, e_v1242 I, e_v1245 I, e_r_133 I, rds]
  try simp only [rdu]
  try unfold v1251 k0_pay210
  try dsimp only
  try rfl

/-- In the run, `v1260` is `v1260`. -/
theorem e_v1260 : sl.v1260 (F := Ideal) c arg4 harg4 arg7 harg7 arg8 harg8 I.w2 I.w5 I.w6 = v1260 I := by
  simp only [sl.v1260, sl.v1193, sl.v1254, sl.v1253, sl.v1252, sl.v1257, sl.v1256, sl.v1255, e_v1242 I, e_r_133 I, rds]
  try simp only [rdu]
  try unfold v1260 k0_pay211
  try dsimp only
  try rfl

/-- In the run, `v1278` is `v1278`. -/
theorem e_v1278 : sl.v1278 (F := Ideal) c arg4 harg4 arg7 harg7 arg8 harg8 I.w2 I.w5 I.w6 = v1278 I := by
  simp only [sl.v1278, sl.v1193, sl.v1272, sl.v1271, sl.v1270, sl.v1275, sl.v1274, sl.v1273, e_v1242 I, e_r_133 I, rds]
  try simp only [rdu]
  try unfold v1278 k0_pay213
  try dsimp only
  try rfl

/-- In the run, `v1287` is `v1287`. -/
theorem e_v1287 : sl.v1287 (F := Ideal) c arg4 harg4 arg7 harg7 arg8 harg8 I.w2 I.w5 I.w6 = v1287 I := by
  simp only [sl.v1287, sl.v1193, sl.v1281, sl.v1280, sl.v1279, sl.v1284, sl.v1283, sl.v1282, e_v1242 I, e_r_133 I, rds]
  try simp only [rdu]
  try unfold v1287 k0_pay214
  try dsimp only
  try rfl

/-- In the run, `v1296` is `v1296`. -/
theorem e_v1296 : sl.v1296 (F := Ideal) c arg4 harg4 arg7 harg7 arg8 harg8 I.w2 I.w5 I.w6 = v1296 I := by
  simp only [sl.v1296, sl.v1193, sl.v1290, sl.v1289, sl.v1288, sl.v1293, sl.v1292, sl.v1291, e_v1242 I, e_r_133 I, rds]
  try simp only [rdu]
  try unfold v1296 k0_pay215
  try dsimp only
  try rfl

/-- In the run, `v1299` is `v1299`. -/
theorem e_v1299 : sl.v1299 (F := Ideal) c arg4 harg4 arg7 harg7 arg8 harg8 I.w2 I.w5 I.w6 = v1299 I := by
  simp only [sl.v1299, sl.v1298, sl.v1297, e_r_133 I, rds]
  try simp only [rdu]
  try unfold v1299 k0_pay216
  try dsimp only
  try rfl

/-- In the run, `r_147` is `v1346`. -/
theorem e_r_147 : sl.r_147 (F := Ideal) c arg4 harg4 arg7 harg7 arg8 harg8 I.w2 I.w5 I.w6 = v1346 I := by
  simp only [sl.r_147, e_r_133 I, e_v1242 I, e_v1251 I, e_v1260 I, e_v1269 I, e_v1278 I, e_v1287 I, e_v1296 I, e_v1299 I, rds]
  try simp only [rdu]
  try unfold v1346
  try dsimp only
  try rfl

/-- In the run, `r_137` is `v1120`. -/
theorem e_r_137 : sl.r_137 (F := Ideal) c arg2 harg2 arg5 harg5 arg6 harg6 arg11 harg11 arg16 I.w0 I.w3 I.w4 I.w9 = v1120 I := by
  simp only [sl.r_137, e_r_124 I, e_r_125 I, rds]
  try simp only [rdu]
  try unfold v1120
  try dsimp only
  try rfl

/-- In the run, `r_145` is `v1344`. -/
theorem e_r_145 : sl.r_145 (F := Ideal) c arg4 harg4 arg7 harg7 arg8 harg8 I.w2 I.w5 I.w6 = v1344 I := by
  simp only [sl.r_145, e_r_133 I, e_v1242 I, e_v1251 I, e_v1260 I, e_v1269 I, e_v1278 I, e_v1287 I, e_v1296 I, e_v1299 I, rds]
  try simp only [rdu]
  try unfold v1344
  try dsimp only
  try rfl

/-- In the run, `r_171` is `v1481`. -/
theorem e_r_171 : sl.r_171 (F := Ideal) c arg2 harg2 arg4 harg4 arg5 harg5 arg6 harg6 arg7 harg7 arg8 harg8 arg11 harg11 arg16 I.w0 I.w2 I.w3 I.w4 I.w5 I.w6 I.w9 = v1481 I := by
  simp only [sl.r_171, e_r_137 I, e_r_145 I, e_r_150 I, rds]
  try simp only [rdu]
  try unfold v1481
  try dsimp only
  try rfl

/-- In the run, `r_153` is `v1381`. -/
theorem e_r_153 : sl.r_153 (F := Ideal) c arg2 harg2 arg5 harg5 arg6 harg6 arg11 harg11 arg16 I.w0 I.w3 I.w4 I.w9 = v1381 I := by
  simp only [sl.r_153, e_r_125 I, rds]
  try simp only [rdu]
  try unfold v1381
  try dsimp only
  try rfl

/-- In the run, `r_134` is `v1108`. -/
theorem e_r_134 : sl.r_134 (F := Ideal) c arg2 harg2 arg5 harg5 arg6 harg6 arg11 harg11 arg16 I.w0 I.w3 I.w4 I.w9 = v1108 I := by
  simp only [sl.r_134, e_r_124 I, e_r_125 I, rds]
  try simp only [rdu]
  try unfold v1108
  try dsimp only
  try rfl

/-- In the run, `r_154` is `v1384`. -/
theorem e_r_154 : sl.r_154 (F := Ideal) c arg2 harg2 arg4 harg4 arg5 harg5 arg6 harg6 arg7 harg7 arg8 harg8 arg11 harg11 arg16 I.w0 I.w2 I.w3 I.w4 I.w5 I.w6 I.w9 = v1384 I := by
  simp only [sl.r_154, e_r_134 I, e_r_145 I, rds]
  try simp only [rdu]
  try unfold v1384
  try dsimp only
  try rfl

/-- In the run, `r_155` is `v1385`. -/
theorem e_r_155 : sl.r_155 (F := Ideal) c arg2 harg2 arg4 harg4 arg5 harg5 arg6 harg6 arg7 harg7 arg11 harg11 arg16 I.w0 I.w2 I.w3 I.w4 I.w5 I.w9 = v1385 I := by
  simp only [sl.r_155, e_r_123 I, e_v1241 I, rds]
  try simp only [rdu]
  try unfold v1385
  try dsimp only
  try rfl

/-- In the run, `r_157` is `v1393`. -/
theorem e_r_157 : sl.r_157 (F := Ideal) c arg2 harg2 arg4 harg4 arg5 harg5 arg6 harg6 arg7 harg7 arg11 harg11 arg16 I.w0 I.w2 I.w3 I.w4 I.w5 I.w9 = v1393 I := by
  simp only [sl.r_157, e_r_123 I, e_v1241 I, rds]
  try simp only [rdu]
  try unfold v1393
  try dsimp only
  try rfl

/-- In the run, `r_158` is `v1403`. -/
theorem e_r_158 : sl.r_158 (F := Ideal) c arg2 harg2 arg4 harg4 arg5 harg5 arg6 harg6 arg7 harg7 arg8 harg8 arg11 harg11 arg16 I.w0 I.w2 I.w3 I.w4 I.w5 I.w6 I.w9 = v1403 I := by
  simp only [sl.r_158, e_r_154 I, e_r_155 I, e_r_156 I, e_r_157 I, rds]
  try simp only [rdu]
  try unfold v1403
  try dsimp only
  try rfl

/-- The run's `H13_1`, as a term of the blocks. -/
theorem e_H13_1 : sl.H13_1 (F := Ideal) c arg12 harg12 I.w10 = I.L15 := by
  simp only [sl.H13_1, sl.v1742, sl.v1739, rds]
  try simp only [rdu]
  try unfold Inp.L15
  try dsimp only
  try rfl

/-- In the run, `v1484` is `v1484`. -/
theorem e_v1484 : sl.v1484 (F := Ideal) c arg12 harg12 arg15 I.w10 = v1484 I := by
  simp only [sl.v1484, e_H13_1 I, rds]
  try simp only [rdu]
  try unfold v1484
  try dsimp only
  try rfl

/-- In the run, `r_173` is `v1490`. -/
theorem e_r_173 : sl.r_173 (F := Ideal) c arg2 harg2 arg4 harg4 arg5 harg5 arg6 harg6 arg7 harg7 arg8 harg8 arg11 harg11 arg12 harg12 arg15 arg16 I.w0 I.w2 I.w3 I.w4 I.w5 I.w6 I.w9 I.w10 = v1490 I := by
  simp only [sl.r_173, e_r_147 I, e_r_153 I, e_r_158 I, e_v1484 I, rds]
  try simp only [rdu]
  try unfold v1490
  try dsimp only
  try rfl

/-- In the run, `r_160` is `v1407`. -/
theorem e_r_160 : sl.r_160 (F := Ideal) c arg2 harg2 arg5 harg5 arg6 harg6 arg11 harg11 arg16 I.w0 I.w3 I.w4 I.w9 = v1407 I := by
  simp only [sl.r_160, e_r_125 I, rds]
  try simp only [rdu]
  try unfold v1407
  try dsimp only
  try rfl

/-- In the run, `r_135` is `v1112`. -/
theorem e_r_135 : sl.r_135 (F := Ideal) c arg2 harg2 arg5 harg5 arg6 harg6 arg11 harg11 arg16 I.w0 I.w3 I.w4 I.w9 = v1112 I := by
  simp only [sl.r_135, e_r_124 I, e_r_125 I, rds]
  try simp only [rdu]
  try unfold v1112
  try dsimp only
  try rfl

/-- In the run, `r_161` is `v1429`. -/
theorem e_r_161 : sl.r_161 (F := Ideal) c arg2 harg2 arg4 harg4 arg5 harg5 arg6 harg6 arg7 harg7 arg8 harg8 arg11 harg11 arg16 I.w0 I.w2 I.w3 I.w4 I.w5 I.w6 I.w9 = v1429 I := by
  simp only [sl.r_161, e_r_135 I, e_r_145 I, e_r_150 I, rds]
  try simp only [rdu]
  try unfold v1429
  try dsimp only
  try rfl

/-- In the run, `r_146` is `v1345`. -/
theorem e_r_146 : sl.r_146 (F := Ideal) c arg4 harg4 arg7 harg7 arg8 harg8 I.w2 I.w5 I.w6 = v1345 I := by
  simp only [sl.r_146, e_r_133 I, e_v1242 I, e_v1251 I, e_v1260 I, e_v1269 I, e_v1278 I, e_v1287 I, e_v1296 I, e_v1299 I, rds]
  try simp only [rdu]
  try unfold v1345
  try dsimp only
  try rfl

/-- In the run, `r_149` is `v1350`. -/
theorem e_r_149 : sl.r_149 (F := Ideal) c arg4 harg4 arg7 harg7 arg8 harg8 I.w2 I.w5 I.w6 = v1350 I := by
  simp only [sl.r_149, e_r_146 I, rds]
  try simp only [rdu]
  try unfold v1350
  try dsimp only
  try rfl

/-- In the run, `r_144` is `v1315`. -/
theorem e_r_144 : sl.r_144 (F := Ideal) c arg4 harg4 arg7 harg7 arg8 harg8 I.w2 I.w5 I.w6 = v1315 I := by
  simp only [sl.r_144, e_r_133 I, e_v1242 I, e_v1251 I, e_v1260 I, e_v1269 I, e_v1278 I, e_v1287 I, e_v1296 I, e_v1299 I, rds]
  try simp only [rdu]
  try unfold v1315
  try dsimp only
  try rfl

/-- In the run, `r_148` is `v1347`. -/
theorem e_r_148 : sl.r_148 (F := Ideal) c arg4 harg4 arg7 harg7 arg8 harg8 I.w2 I.w5 I.w6 = v1347 I := by
  simp only [sl.r_148, e_r_133 I, e_v1242 I, e_v1251 I, e_v1260 I, e_v1269 I, e_v1278 I, e_v1287 I, e_v1296 I, e_v1299 I, rds]
  try simp only [rdu]
  try unfold v1347
  try dsimp only
  try rfl

/-- In the run, `r_151` is `v1354`. -/
theorem e_r_151 : sl.r_151 (F := Ideal) c arg2 harg2 arg4 harg4 arg5 harg5 arg6 harg6 arg7 harg7 arg8 harg8 arg11 harg11 arg16 I.w0 I.w2 I.w3 I.w4 I.w5 I.w6 I.w9 = v1354 I := by
  simp only [sl.r_151, e_r_123 I, e_v1241 I, e_r_144 I, e_r_148 I, rds]
  try simp only [rdu]
  try unfold v1354
  try dsimp only
  try rfl

/-- In the run, `r_152` is `v1380`. -/
theorem e_r_152 : sl.r_152 (F := Ideal) c arg2 harg2 arg5 harg5 arg6 harg6 arg11 harg11 arg16 I.w0 I.w3 I.w4 I.w9 = v1380 I := by
  simp only [sl.r_152, e_r_124 I, rds]
  try simp only [rdu]
  try unfold v1380
  try dsimp only
  try rfl

/-- In the run, `r_159` is `v1405`. -/
theorem e_r_159 : sl.r_159 (F := Ideal) c arg2 harg2 arg4 harg4 arg5 harg5 arg6 harg6 arg7 harg7 arg8 harg8 arg11 harg11 arg16 I.w0 I.w2 I.w3 I.w4 I.w5 I.w6 I.w9 = v1405 I := by
  simp only [sl.r_159, e_r_151 I, e_r_152 I, rds]
  try simp only [rdu]
  try unfold v1405
  try dsimp only
  try rfl

/-- In the run, `H13_2` is `L15_1`. -/
theorem e_H13_2 : sl.H13_2 (F := Ideal) c arg2 harg2 arg4 harg4 arg5 harg5 arg6 harg6 arg7 harg7 arg8 harg8 arg11 harg11 arg12 harg12 arg15 arg16 I.w0 I.w2 I.w3 I.w4 I.w5 I.w6 I.w9 I.w10 = L15_1 I := by
  simp only [sl.H13_2, e_r_149 I, e_r_159 I, e_v1484 I, e_H13_1 I, rds]
  try simp only [rdu]
  try unfold L15_1
  try dsimp only
  try rfl

/-- In the run, `v1498` is `v1498`. -/
theorem e_v1498 : sl.v1498 (F := Ideal) c arg2 harg2 arg4 harg4 arg5 harg5 arg6 harg6 arg7 harg7 arg8 harg8 arg11 harg11 arg12 harg12 arg15 arg16 I.w0 I.w2 I.w3 I.w4 I.w5 I.w6 I.w9 I.w10 = v1498 I := by
  simp only [sl.v1498, e_H13_2 I, rds]
  try simp only [rdu]
  try unfold v1498
  try dsimp only
  try rfl

/-- In the run, `r_174` is `v1504`. -/
theorem e_r_174 : sl.r_174 (F := Ideal) c arg2 harg2 arg4 harg4 arg5 harg5 arg6 harg6 arg7 harg7 arg8 harg8 arg11 harg11 arg12 harg12 arg15 arg16 I.w0 I.w2 I.w3 I.w4 I.w5 I.w6 I.w9 I.w10 = v1504 I := by
  simp only [sl.r_174, e_r_147 I, e_r_160 I, e_r_161 I, e_v1498 I, rds]
  try simp only [rdu]
  try unfold v1504
  try dsimp only
  try rfl

/-- In the run, `r_165` is `v1436`. -/
theorem e_r_165 : sl.r_165 (F := Ideal) c arg2 harg2 arg4 harg4 arg5 harg5 arg6 harg6 arg7 harg7 arg8 harg8 arg11 harg11 arg16 I.w0 I.w2 I.w3 I.w4 I.w5 I.w6 I.w9 = v1436 I := by
  simp only [sl.r_165, e_r_136 I, e_r_145 I, rds]
  try simp only [rdu]
  try unfold v1436
  try dsimp only
  try rfl

/-- In the run, `r_167` is `v1455`. -/
theorem e_r_167 : sl.r_167 (F := Ideal) c arg2 harg2 arg4 harg4 arg5 harg5 arg6 harg6 arg7 harg7 arg8 harg8 arg11 harg11 arg16 I.w0 I.w2 I.w3 I.w4 I.w5 I.w6 I.w9 = v1455 I := by
  simp only [sl.r_167, e_r_165 I, e_r_166 I, rds]
  try simp only [rdu]
  try unfold v1455
  try dsimp only
  try rfl

/-- In the run, `r_162` is `v1431`. -/
theorem e_r_162 : sl.r_162 (F := Ideal) c arg2 harg2 arg4 harg4 arg5 harg5 arg6 harg6 arg7 harg7 arg8 harg8 arg11 harg11 arg16 I.w0 I.w2 I.w3 I.w4 I.w5 I.w6 I.w9 = v1431 I := by
  simp only [sl.r_162, e_r_124 I, e_r_151 I, rds]
  try simp only [rdu]
  try unfold v1431
  try dsimp only
  try rfl

/-- In the run, `H13_3` is `L15_2`. -/
theorem e_H13_3 : sl.H13_3 (F := Ideal) c arg2 harg2 arg4 harg4 arg5 harg5 arg6 harg6 arg7 harg7 arg8 harg8 arg11 harg11 arg12 harg12 arg15 arg16 I.w0 I.w2 I.w3 I.w4 I.w5 I.w6 I.w9 I.w10 = L15_2 I := by
  simp only [sl.H13_3, e_r_149 I, e_r_162 I, e_v1498 I, e_H13_2 I, rds]
  try simp only [rdu]
  try unfold L15_2
  try dsimp only
  try rfl

/-- In the run, `v1512` is `v1512`. -/
theorem e_v1512 : sl.v1512 (F := Ideal) c arg2 harg2 arg4 harg4 arg5 harg5 arg6 harg6 arg7 harg7 arg8 harg8 arg11 harg11 arg12 harg12 arg15 arg16 I.w0 I.w2 I.w3 I.w4 I.w5 I.w6 I.w9 I.w10 = v1512 I := by
  simp only [sl.v1512, e_H13_3 I, rds]
  try simp only [rdu]
  try unfold v1512
  try dsimp only
  try rfl

/-- In the run, `r_176` is `v1518`. -/
theorem e_r_176 : sl.r_176 (F := Ideal) c arg2 harg2 arg4 harg4 arg5 harg5 arg6 harg6 arg7 harg7 arg8 harg8 arg11 harg11 arg12 harg12 arg15 arg16 I.w0 I.w2 I.w3 I.w4 I.w5 I.w6 I.w9 I.w10 = v1518 I := by
  simp only [sl.r_176, e_r_147 I, e_r_164 I, e_r_167 I, e_v1512 I, rds]
  try simp only [rdu]
  try unfold v1518
  try dsimp only
  try rfl

/-- In the run, `r_168` is `v1457`. -/
theorem e_r_168 : sl.r_168 (F := Ideal) c arg2 harg2 arg4 harg4 arg5 harg5 arg6 harg6 arg7 harg7 arg8 harg8 arg11 harg11 arg16 I.w0 I.w2 I.w3 I.w4 I.w5 I.w6 I.w9 = v1457 I := by
  simp only [sl.r_168, e_r_151 I, e_r_163 I, rds]
  try simp only [rdu]
  try unfold v1457
  try dsimp only
  try rfl

/-- In the run, `r_175` is `v1513`. -/
theorem e_r_175 : sl.r_175 (F := Ideal) c arg2 harg2 arg4 harg4 arg5 harg5 arg6 harg6 arg7 harg7 arg8 harg8 arg11 harg11 arg12 harg12 arg15 arg16 I.w0 I.w2 I.w3 I.w4 I.w5 I.w6 I.w9 I.w10 = v1513 I := by
  simp only [sl.r_175, e_v1512 I, rds]
  try simp only [rdu]
  try unfold v1513
  try dsimp only
  try rfl

/-- In the run, `r_177` is `v1520`. -/
theorem e_r_177 : sl.r_177 (F := Ideal) c arg4 harg4 arg7 harg7 arg8 harg8 I.w2 I.w5 I.w6 = v1520 I := by
  simp only [sl.r_177, e_r_149 I, rds]
  try simp only [rdu]
  try unfold v1520
  try dsimp only
  try rfl

/-- In the run, `H13_4` is `L15_3`. -/
theorem e_H13_4 : sl.H13_4 (F := Ideal) c arg2 harg2 arg4 harg4 arg5 harg5 arg6 harg6 arg7 harg7 arg8 harg8 arg11 harg11 arg12 harg12 arg15 arg16 I.w0 I.w2 I.w3 I.w4 I.w5 I.w6 I.w9 I.w10 = L15_3 I := by
  simp only [sl.H13_4, e_r_168 I, e_r_175 I, e_r_177 I, e_H13_3 I, rds]
  try simp only [rdu]
  try unfold L15_3
  try dsimp only
  try rfl

/-- In the run, `v1526` is `v1526`. -/
theorem e_v1526 : sl.v1526 (F := Ideal) c arg2 harg2 arg4 harg4 arg5 harg5 arg6 harg6 arg7 harg7 arg8 harg8 arg11 harg11 arg12 harg12 arg15 arg16 I.w0 I.w2 I.w3 I.w4 I.w5 I.w6 I.w9 I.w10 = v1526 I := by
  simp only [sl.v1526, e_H13_4 I, rds]
  try simp only [rdu]
  try unfold v1526
  try dsimp only
  try rfl

/-- In the run, `r_178` is `v1556`. -/
theorem e_r_178 : sl.r_178 (F := Ideal) c arg2 harg2 arg3 harg3 arg4 harg4 arg5 harg5 arg6 harg6 arg7 harg7 arg8 harg8 arg9 harg9 arg10 harg10 arg11 harg11 arg12 harg12 arg15 arg16 arg17 I.w0 I.w1 I.w2 I.w3 I.w4 I.w5 I.w6 I.w7 I.w8 I.w9 I.w10 = v1556 I := by
  simp only [sl.r_178, e_r_138 I, e_r_139 I, e_r_147 I, e_r_170 I, e_r_171 I, e_r_173 I, e_r_174 I, e_r_176 I, e_v1526 I, rds]
  try simp only [rdu]
  try unfold v1556
  try dsimp only
  try rfl

/-- In the run, `r_169` is `v1458`. -/
theorem e_r_169 : sl.r_169 (F := Ideal) c arg2 harg2 arg5 harg5 arg6 harg6 arg11 harg11 arg16 I.w0 I.w3 I.w4 I.w9 = v1458 I := by
  simp only [sl.r_169, e_r_124 I, rds]
  try simp only [rdu]
  try unfold v1458
  try dsimp only
  try rfl

/-- In the run, `r_172` is `v1483`. -/
theorem e_r_172 : sl.r_172 (F := Ideal) c arg2 harg2 arg4 harg4 arg5 harg5 arg6 harg6 arg7 harg7 arg8 harg8 arg11 harg11 arg16 I.w0 I.w2 I.w3 I.w4 I.w5 I.w6 I.w9 = v1483 I := by
  simp only [sl.r_172, e_r_151 I, e_r_169 I, rds]
  try simp only [rdu]
  try unfold v1483
  try dsimp only
  try rfl

/-- In the run, `v1592` is `v1592`. -/
theorem e_v1592 : sl.v1592 (F := Ideal) c arg2 harg2 arg11 harg11 arg16 I.w0 I.w9 = v1592 I := by
  simp only [sl.v1592, e_HS0_35 I, rds]
  try simp only [rdu]
  try unfold v1592
  try dsimp only
  try rfl

/-- In the run, `v1557` is `v1557`. -/
theorem e_v1557 : sl.v1557  = v1557 I := by
  simp only [sl.v1557, rds]
  try simp only [rdu]
  try unfold v1557
  try dsimp only
  try rfl

/-- In the run, `v1718` is `v1718`. -/
theorem e_v1718 : sl.v1718 (F := Ideal) c arg2 harg2 arg11 harg11 arg16 I.w0 I.w9 = v1718 I := by
  simp only [sl.v1718, e_HS0_48 I, rds]
  try simp only [rdu]
  try unfold v1718
  try dsimp only
  try rfl

/-- In the run, `v1612` is `v1612`. -/
theorem e_v1612 : sl.v1612 (F := Ideal) c arg2 harg2 arg11 harg11 arg16 I.w0 I.w9 = v1612 I := by
  simp only [sl.v1612, e_HS0_39 I, rds]
  try simp only [rdu]
  try unfold v1612
  try dsimp only
  try rfl

/-- In the run, `v1678` is `v1678`. -/
theorem e_v1678 : sl.v1678 (F := Ideal) c arg2 harg2 arg11 harg11 arg16 I.w0 I.w9 = v1678 I := by
  simp only [sl.v1678, e_HS0_48 I, rds]
  try simp only [rdu]
  try unfold v1678
  try dsimp only
  try rfl

/-- In the run, `v1693` is `v1693`. -/
theorem e_v1693 : sl.v1693 (F := Ideal) c arg2 harg2 arg11 harg11 arg16 I.w0 I.w9 = v1693 I := by
  simp only [sl.v1693, e_HS0_48 I, rds]
  try simp only [rdu]
  try unfold v1693
  try dsimp only
  try rfl

/-- In the run, `v1698` is `v1698`. -/
theorem e_v1698 : sl.v1698 (F := Ideal) c arg2 harg2 arg11 harg11 arg16 I.w0 I.w9 = v1698 I := by
  simp only [sl.v1698, e_HS0_48 I, rds]
  try simp only [rdu]
  try unfold v1698
  try dsimp only
  try rfl

/-- In the run, `v1637` is `v1637`. -/
theorem e_v1637 : sl.v1637 (F := Ideal) c arg2 harg2 arg11 harg11 arg16 I.w0 I.w9 = v1637 I := by
  simp only [sl.v1637, e_HS0_44 I, rds]
  try simp only [rdu]
  try unfold v1637
  try dsimp only
  try rfl

/-- In the run, `v1663` is `v1663`. -/
theorem e_v1663 : sl.v1663 (F := Ideal) c arg2 harg2 arg11 harg11 arg16 I.w0 I.w9 = v1663 I := by
  simp only [sl.v1663, e_HS0_48 I, rds]
  try simp only [rdu]
  try unfold v1663
  try dsimp only
  try rfl

/-- In the run, `v1617` is `v1617`. -/
theorem e_v1617 : sl.v1617 (F := Ideal) c arg2 harg2 arg11 harg11 arg16 I.w0 I.w9 = v1617 I := by
  simp only [sl.v1617, e_HS0_40 I, rds]
  try simp only [rdu]
  try unfold v1617
  try dsimp only
  try rfl

/-- In the run, `v1658` is `v1658`. -/
theorem e_v1658 : sl.v1658 (F := Ideal) c arg2 harg2 arg11 harg11 arg16 I.w0 I.w9 = v1658 I := by
  simp only [sl.v1658, e_HS0_48 I, rds]
  try simp only [rdu]
  try unfold v1658
  try dsimp only
  try rfl

/-- In the run, `v1627` is `v1627`. -/
theorem e_v1627 : sl.v1627 (F := Ideal) c arg2 harg2 arg11 harg11 arg16 I.w0 I.w9 = v1627 I := by
  simp only [sl.v1627, e_HS0_42 I, rds]
  try simp only [rdu]
  try unfold v1627
  try dsimp only
  try rfl

/-- In the run, `v1688` is `v1688`. -/
theorem e_v1688 : sl.v1688 (F := Ideal) c arg2 harg2 arg11 harg11 arg16 I.w0 I.w9 = v1688 I := by
  simp only [sl.v1688, e_HS0_48 I, rds]
  try simp only [rdu]
  try unfold v1688
  try dsimp only
  try rfl

/-- In the run, `v1708` is `v1708`. -/
theorem e_v1708 : sl.v1708 (F := Ideal) c arg2 harg2 arg11 harg11 arg16 I.w0 I.w9 = v1708 I := by
  simp only [sl.v1708, e_HS0_48 I, rds]
  try simp only [rdu]
  try unfold v1708
  try dsimp only
  try rfl

/-- In the run, `v1673` is `v1673`. -/
theorem e_v1673 : sl.v1673 (F := Ideal) c arg2 harg2 arg11 harg11 arg16 I.w0 I.w9 = v1673 I := by
  simp only [sl.v1673, e_HS0_48 I, rds]
  try simp only [rdu]
  try unfold v1673
  try dsimp only
  try rfl

/-- In the run, `v1728` is `v1728`. -/
theorem e_v1728 : sl.v1728 (F := Ideal) c arg2 harg2 arg11 harg11 arg16 I.w0 I.w9 = v1728 I := by
  simp only [sl.v1728, e_HS0_48 I, rds]
  try simp only [rdu]
  try unfold v1728
  try dsimp only
  try rfl

/-- In the run, `v1703` is `v1703`. -/
theorem e_v1703 : sl.v1703 (F := Ideal) c arg2 harg2 arg11 harg11 arg16 I.w0 I.w9 = v1703 I := by
  simp only [sl.v1703, e_HS0_48 I, rds]
  try simp only [rdu]
  try unfold v1703
  try dsimp only
  try rfl

/-- In the run, `v1632` is `v1632`. -/
theorem e_v1632 : sl.v1632 (F := Ideal) c arg2 harg2 arg11 harg11 arg16 I.w0 I.w9 = v1632 I := by
  simp only [sl.v1632, e_HS0_43 I, rds]
  try simp only [rdu]
  try unfold v1632
  try dsimp only
  try rfl

/-- In the run, `v1723` is `v1723`. -/
theorem e_v1723 : sl.v1723 (F := Ideal) c arg2 harg2 arg11 harg11 arg16 I.w0 I.w9 = v1723 I := by
  simp only [sl.v1723, e_HS0_48 I, rds]
  try simp only [rdu]
  try unfold v1723
  try dsimp only
  try rfl

/-- In the run, `v1668` is `v1668`. -/
theorem e_v1668 : sl.v1668 (F := Ideal) c arg2 harg2 arg11 harg11 arg16 I.w0 I.w9 = v1668 I := by
  simp only [sl.v1668, e_HS0_48 I, rds]
  try simp only [rdu]
  try unfold v1668
  try dsimp only
  try rfl

/-- In the run, `v1622` is `v1622`. -/
theorem e_v1622 : sl.v1622 (F := Ideal) c arg2 harg2 arg11 harg11 arg16 I.w0 I.w9 = v1622 I := by
  simp only [sl.v1622, e_HS0_41 I, rds]
  try simp only [rdu]
  try unfold v1622
  try dsimp only
  try rfl

/-- In the run, `v1597` is `v1597`. -/
theorem e_v1597 : sl.v1597 (F := Ideal) c arg2 harg2 arg11 harg11 arg16 I.w0 I.w9 = v1597 I := by
  simp only [sl.v1597, e_HS0_36 I, rds]
  try simp only [rdu]
  try unfold v1597
  try dsimp only
  try rfl

end Cert.Ssd
end
-- ==== Proof.SsdOut.lean ====
module
public import proofs.«01_k».proof.Proof.SsdRun
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WholeRead
@[expose] public section
set_option maxRecDepth 16384
noncomputable section
open Idealize.ShloMosaic Idealize.ShloMosaic.TcCoe Idealize.SL.Sem
namespace Cert.Ssd
open Cert.KernelIdeal Cert.KernelIdeal.Gen

variable (m : (ℓ : Loc nD τ sig) → Buf (Elt Ideal) ℓ)

/-- The blocks of one batch. -/
abbrev inp (c : Dev nD) (t : Fin cfg0.N) : Inp :=
  ⟨X0_0 m c t, X0_1 m c t, iblk m c 2 t, iblk m c 3 t, iblk m c 4 t, iblk m c 5 t, iblk m c 6 t, iblk m c 7 t,
    iblk m c 8 t, iblk m c 9 t, iblk m c 10 t⟩

/-- What one batch leaves in the new state of the scan. -/
theorem state_eq (c : Dev nD) (t : Fin cfg0.N) : (outsAt0 m c t).2.2 = View.canon (L15_4 (inp m c t)) := by
  unfold outsAt0 out0_A_13 kernelRun0_A
  dsimp only
  rw [View.read_writes_junk_eq_canon]
  rw [e_r_149 (inp m c t), e_r_172 (inp m c t), e_v1526 (inp m c t), e_H13_4 (inp m c t)]
  rfl
/-- What one batch leaves in the new state of the scan. -/
theorem conv_eq (c : Dev nD) (t : Fin cfg0.N) : (outsAt0 m c t).2.1 = View.canon (LC (inp m c t)) := by
  unfold outsAt0 out0_A_12 kernelRun0_A
  dsimp only
  rw [View.read_writes_junk_eq_canon]
  rw [e_v1733 (inp m c t), e_v1728 (inp m c t), e_v1723 (inp m c t), e_v1718 (inp m c t), e_v1713 (inp m c t), e_v1708 (inp m c t), e_v1703 (inp m c t), e_v1698 (inp m c t), e_v1693 (inp m c t), e_v1688 (inp m c t), e_v1683 (inp m c t), e_v1678 (inp m c t), e_v1673 (inp m c t), e_v1668 (inp m c t), e_v1663 (inp m c t), e_v1658 (inp m c t)]
  rfl
/-- What one batch leaves in the new state of the scan. -/
theorem y_eq (c : Dev nD) (t : Fin cfg0.N) : (outsAt0 m c t).1 = yOut (inp m c t) := by
  unfold outsAt0 out0_A_11 kernelRun0_A
  dsimp only
  rw [View.read_writes_junk_eq_canon]
  rw [e_r_178 (inp m c t), e_v1557 (inp m c t)]
  exact View.canon_cons_unit_lit _ _ _ (by decide)

end Cert.Ssd
end
-- ==== Proof.SsdLoad.lean ====
module
public import proofs.«01_k».proof.Proof.SsdTerm
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

/-- Row `r` of the three carried rows followed by the block's rows, at channel `c` (zero past the end). -/
def xrow (I : Inp) (r c : ℕ) : EReal :=
  if h : r < 3 ∧ c < 2048 then I.w9 (ix3 0 ⟨r, h.1⟩ ⟨c, h.2⟩)
  else if h : r - 3 < 64 ∧ c < 2048 then I.w0 (ix3 0 ⟨r - 3, h.1⟩ ⟨c, h.2⟩) else 0

/-- Row `r` of the gate's argument, at channel `c` (zero past the end). -/
def zrow (I : Inp) (r c : ℕ) : EReal :=
  if h : r < 64 ∧ c < 1024 then I.w1 (ix3 0 ⟨r, h.1⟩ ⟨c, h.2⟩) else 0

/-- A row past the carried ones is a row of the block. -/
theorem xrow_hi (I : Inp) (r : Fin 64) (c : Fin 2048) : xrow I (r + 3) c = I.w0 (ix3 0 r c) := by
  unfold xrow
  rw [dif_neg (by omega), dif_pos ⟨by omega, c.2⟩]
  rfl

/-- A carried row. -/
theorem xrow_lo (I : Inp) (r : Fin 3) (c : Fin 2048) : xrow I r c = I.w9 (ix3 0 r c) := by
  unfold xrow
  rw [dif_pos ⟨r.2, c.2⟩]

/-- A row of the gate's argument. -/
theorem zrow_at (I : Inp) (r : Fin 64) (c : Fin 1024) : zrow I r c = I.w1 (ix3 0 r c) := by
  unfold zrow
  rw [dif_pos ⟨r.2, c.2⟩]

/-- Every row of the padded columns from the fifth on lies in one of the stores. -/
theorem mem_pad (I : Inp) (y : S16x72x128.Idx) (h : 5 ≤ (y 1).val) : ∃ p ∈ I.L16, y ∈ p.1.set := by
  obtain ⟨s, r, l, rfl⟩ : ∃ a r l, y = ix3 a r l := ⟨_, _, _, eq_ix3 y⟩
  have h : 5 ≤ r.val := h
  rcases (by omega : r.val < 8 ∨ 8 ≤ r.val) with hr | hr

  · match s with
    | ⟨0, _⟩ =>
      refine ⟨_, List.getElem_mem (l := I.L16) (n := 31) (show 31 < 32 by decide), ?_⟩
      refine (Rect.mem_set_unit (inb := inb_S16x72x128_S1x3x128_0_5_0)).mpr fun a => ?_
      match a with | 0 => exact ⟨show 0 ≤ 0 by omega, show 0 < 0 + 1 by omega⟩ | 1 => exact ⟨show 5 ≤ r.val by omega, show r.val < 5 + 3 by omega⟩ | 2 => exact ⟨show 0 ≤ l.val by omega, show l.val < 0 + 128 by omega⟩
    | ⟨1, _⟩ =>
      refine ⟨_, List.getElem_mem (l := I.L16) (n := 30) (show 30 < 32 by decide), ?_⟩
      refine (Rect.mem_set_unit (inb := inb_S16x72x128_S1x3x128_1_5_0)).mpr fun a => ?_
      match a with | 0 => exact ⟨show 1 ≤ 1 by omega, show 1 < 1 + 1 by omega⟩ | 1 => exact ⟨show 5 ≤ r.val by omega, show r.val < 5 + 3 by omega⟩ | 2 => exact ⟨show 0 ≤ l.val by omega, show l.val < 0 + 128 by omega⟩
    | ⟨2, _⟩ =>
      refine ⟨_, List.getElem_mem (l := I.L16) (n := 29) (show 29 < 32 by decide), ?_⟩
      refine (Rect.mem_set_unit (inb := inb_S16x72x128_S1x3x128_2_5_0)).mpr fun a => ?_
      match a with | 0 => exact ⟨show 2 ≤ 2 by omega, show 2 < 2 + 1 by omega⟩ | 1 => exact ⟨show 5 ≤ r.val by omega, show r.val < 5 + 3 by omega⟩ | 2 => exact ⟨show 0 ≤ l.val by omega, show l.val < 0 + 128 by omega⟩
    | ⟨3, _⟩ =>
      refine ⟨_, List.getElem_mem (l := I.L16) (n := 28) (show 28 < 32 by decide), ?_⟩
      refine (Rect.mem_set_unit (inb := inb_S16x72x128_S1x3x128_3_5_0)).mpr fun a => ?_
      match a with | 0 => exact ⟨show 3 ≤ 3 by omega, show 3 < 3 + 1 by omega⟩ | 1 => exact ⟨show 5 ≤ r.val by omega, show r.val < 5 + 3 by omega⟩ | 2 => exact ⟨show 0 ≤ l.val by omega, show l.val < 0 + 128 by omega⟩
    | ⟨4, _⟩ =>
      refine ⟨_, List.getElem_mem (l := I.L16) (n := 27) (show 27 < 32 by decide), ?_⟩
      refine (Rect.mem_set_unit (inb := inb_S16x72x128_S1x3x128_4_5_0)).mpr fun a => ?_
      match a with | 0 => exact ⟨show 4 ≤ 4 by omega, show 4 < 4 + 1 by omega⟩ | 1 => exact ⟨show 5 ≤ r.val by omega, show r.val < 5 + 3 by omega⟩ | 2 => exact ⟨show 0 ≤ l.val by omega, show l.val < 0 + 128 by omega⟩
    | ⟨5, _⟩ =>
      refine ⟨_, List.getElem_mem (l := I.L16) (n := 26) (show 26 < 32 by decide), ?_⟩
      refine (Rect.mem_set_unit (inb := inb_S16x72x128_S1x3x128_5_5_0)).mpr fun a => ?_
      match a with | 0 => exact ⟨show 5 ≤ 5 by omega, show 5 < 5 + 1 by omega⟩ | 1 => exact ⟨show 5 ≤ r.val by omega, show r.val < 5 + 3 by omega⟩ | 2 => exact ⟨show 0 ≤ l.val by omega, show l.val < 0 + 128 by omega⟩
    | ⟨6, _⟩ =>
      refine ⟨_, List.getElem_mem (l := I.L16) (n := 25) (show 25 < 32 by decide), ?_⟩
      refine (Rect.mem_set_unit (inb := inb_S16x72x128_S1x3x128_6_5_0)).mpr fun a => ?_
      match a with | 0 => exact ⟨show 6 ≤ 6 by omega, show 6 < 6 + 1 by omega⟩ | 1 => exact ⟨show 5 ≤ r.val by omega, show r.val < 5 + 3 by omega⟩ | 2 => exact ⟨show 0 ≤ l.val by omega, show l.val < 0 + 128 by omega⟩
    | ⟨7, _⟩ =>
      refine ⟨_, List.getElem_mem (l := I.L16) (n := 24) (show 24 < 32 by decide), ?_⟩
      refine (Rect.mem_set_unit (inb := inb_S16x72x128_S1x3x128_7_5_0)).mpr fun a => ?_
      match a with | 0 => exact ⟨show 7 ≤ 7 by omega, show 7 < 7 + 1 by omega⟩ | 1 => exact ⟨show 5 ≤ r.val by omega, show r.val < 5 + 3 by omega⟩ | 2 => exact ⟨show 0 ≤ l.val by omega, show l.val < 0 + 128 by omega⟩
    | ⟨8, _⟩ =>
      refine ⟨_, List.getElem_mem (l := I.L16) (n := 23) (show 23 < 32 by decide), ?_⟩
      refine (Rect.mem_set_unit (inb := inb_S16x72x128_S1x3x128_8_5_0)).mpr fun a => ?_
      match a with | 0 => exact ⟨show 8 ≤ 8 by omega, show 8 < 8 + 1 by omega⟩ | 1 => exact ⟨show 5 ≤ r.val by omega, show r.val < 5 + 3 by omega⟩ | 2 => exact ⟨show 0 ≤ l.val by omega, show l.val < 0 + 128 by omega⟩
    | ⟨9, _⟩ =>
      refine ⟨_, List.getElem_mem (l := I.L16) (n := 22) (show 22 < 32 by decide), ?_⟩
      refine (Rect.mem_set_unit (inb := inb_S16x72x128_S1x3x128_9_5_0)).mpr fun a => ?_
      match a with | 0 => exact ⟨show 9 ≤ 9 by omega, show 9 < 9 + 1 by omega⟩ | 1 => exact ⟨show 5 ≤ r.val by omega, show r.val < 5 + 3 by omega⟩ | 2 => exact ⟨show 0 ≤ l.val by omega, show l.val < 0 + 128 by omega⟩
    | ⟨10, _⟩ =>
      refine ⟨_, List.getElem_mem (l := I.L16) (n := 21) (show 21 < 32 by decide), ?_⟩
      refine (Rect.mem_set_unit (inb := inb_S16x72x128_S1x3x128_10_5_0)).mpr fun a => ?_
      match a with | 0 => exact ⟨show 10 ≤ 10 by omega, show 10 < 10 + 1 by omega⟩ | 1 => exact ⟨show 5 ≤ r.val by omega, show r.val < 5 + 3 by omega⟩ | 2 => exact ⟨show 0 ≤ l.val by omega, show l.val < 0 + 128 by omega⟩
    | ⟨11, _⟩ =>
      refine ⟨_, List.getElem_mem (l := I.L16) (n := 20) (show 20 < 32 by decide), ?_⟩
      refine (Rect.mem_set_unit (inb := inb_S16x72x128_S1x3x128_11_5_0)).mpr fun a => ?_
      match a with | 0 => exact ⟨show 11 ≤ 11 by omega, show 11 < 11 + 1 by omega⟩ | 1 => exact ⟨show 5 ≤ r.val by omega, show r.val < 5 + 3 by omega⟩ | 2 => exact ⟨show 0 ≤ l.val by omega, show l.val < 0 + 128 by omega⟩
    | ⟨12, _⟩ =>
      refine ⟨_, List.getElem_mem (l := I.L16) (n := 19) (show 19 < 32 by decide), ?_⟩
      refine (Rect.mem_set_unit (inb := inb_S16x72x128_S1x3x128_12_5_0)).mpr fun a => ?_
      match a with | 0 => exact ⟨show 12 ≤ 12 by omega, show 12 < 12 + 1 by omega⟩ | 1 => exact ⟨show 5 ≤ r.val by omega, show r.val < 5 + 3 by omega⟩ | 2 => exact ⟨show 0 ≤ l.val by omega, show l.val < 0 + 128 by omega⟩
    | ⟨13, _⟩ =>
      refine ⟨_, List.getElem_mem (l := I.L16) (n := 18) (show 18 < 32 by decide), ?_⟩
      refine (Rect.mem_set_unit (inb := inb_S16x72x128_S1x3x128_13_5_0)).mpr fun a => ?_
      match a with | 0 => exact ⟨show 13 ≤ 13 by omega, show 13 < 13 + 1 by omega⟩ | 1 => exact ⟨show 5 ≤ r.val by omega, show r.val < 5 + 3 by omega⟩ | 2 => exact ⟨show 0 ≤ l.val by omega, show l.val < 0 + 128 by omega⟩
    | ⟨14, _⟩ =>
      refine ⟨_, List.getElem_mem (l := I.L16) (n := 17) (show 17 < 32 by decide), ?_⟩
      refine (Rect.mem_set_unit (inb := inb_S16x72x128_S1x3x128_14_5_0)).mpr fun a => ?_
      match a with | 0 => exact ⟨show 14 ≤ 14 by omega, show 14 < 14 + 1 by omega⟩ | 1 => exact ⟨show 5 ≤ r.val by omega, show r.val < 5 + 3 by omega⟩ | 2 => exact ⟨show 0 ≤ l.val by omega, show l.val < 0 + 128 by omega⟩
    | ⟨15, _⟩ =>
      refine ⟨_, List.getElem_mem (l := I.L16) (n := 16) (show 16 < 32 by decide), ?_⟩
      refine (Rect.mem_set_unit (inb := inb_S16x72x128_S1x3x128_15_5_0)).mpr fun a => ?_
      match a with | 0 => exact ⟨show 15 ≤ 15 by omega, show 15 < 15 + 1 by omega⟩ | 1 => exact ⟨show 5 ≤ r.val by omega, show r.val < 5 + 3 by omega⟩ | 2 => exact ⟨show 0 ≤ l.val by omega, show l.val < 0 + 128 by omega⟩
    | ⟨n + 16, hn⟩ => exact absurd hn (by omega)
  · match s with
    | ⟨0, _⟩ =>
      refine ⟨_, List.getElem_mem (l := I.L16) (n := 15) (show 15 < 32 by decide), ?_⟩
      refine (Rect.mem_set_unit (inb := inb_S16x72x128_S1x64x128_0_8_0)).mpr fun a => ?_
      match a with | 0 => exact ⟨show 0 ≤ 0 by omega, show 0 < 0 + 1 by omega⟩ | 1 => exact ⟨show 8 ≤ r.val by omega, show r.val < 8 + 64 by omega⟩ | 2 => exact ⟨show 0 ≤ l.val by omega, show l.val < 0 + 128 by omega⟩
    | ⟨1, _⟩ =>
      refine ⟨_, List.getElem_mem (l := I.L16) (n := 14) (show 14 < 32 by decide), ?_⟩
      refine (Rect.mem_set_unit (inb := inb_S16x72x128_S1x64x128_1_8_0)).mpr fun a => ?_
      match a with | 0 => exact ⟨show 1 ≤ 1 by omega, show 1 < 1 + 1 by omega⟩ | 1 => exact ⟨show 8 ≤ r.val by omega, show r.val < 8 + 64 by omega⟩ | 2 => exact ⟨show 0 ≤ l.val by omega, show l.val < 0 + 128 by omega⟩
    | ⟨2, _⟩ =>
      refine ⟨_, List.getElem_mem (l := I.L16) (n := 13) (show 13 < 32 by decide), ?_⟩
      refine (Rect.mem_set_unit (inb := inb_S16x72x128_S1x64x128_2_8_0)).mpr fun a => ?_
      match a with | 0 => exact ⟨show 2 ≤ 2 by omega, show 2 < 2 + 1 by omega⟩ | 1 => exact ⟨show 8 ≤ r.val by omega, show r.val < 8 + 64 by omega⟩ | 2 => exact ⟨show 0 ≤ l.val by omega, show l.val < 0 + 128 by omega⟩
    | ⟨3, _⟩ =>
      refine ⟨_, List.getElem_mem (l := I.L16) (n := 12) (show 12 < 32 by decide), ?_⟩
      refine (Rect.mem_set_unit (inb := inb_S16x72x128_S1x64x128_3_8_0)).mpr fun a => ?_
      match a with | 0 => exact ⟨show 3 ≤ 3 by omega, show 3 < 3 + 1 by omega⟩ | 1 => exact ⟨show 8 ≤ r.val by omega, show r.val < 8 + 64 by omega⟩ | 2 => exact ⟨show 0 ≤ l.val by omega, show l.val < 0 + 128 by omega⟩
    | ⟨4, _⟩ =>
      refine ⟨_, List.getElem_mem (l := I.L16) (n := 11) (show 11 < 32 by decide), ?_⟩
      refine (Rect.mem_set_unit (inb := inb_S16x72x128_S1x64x128_4_8_0)).mpr fun a => ?_
      match a with | 0 => exact ⟨show 4 ≤ 4 by omega, show 4 < 4 + 1 by omega⟩ | 1 => exact ⟨show 8 ≤ r.val by omega, show r.val < 8 + 64 by omega⟩ | 2 => exact ⟨show 0 ≤ l.val by omega, show l.val < 0 + 128 by omega⟩
    | ⟨5, _⟩ =>
      refine ⟨_, List.getElem_mem (l := I.L16) (n := 10) (show 10 < 32 by decide), ?_⟩
      refine (Rect.mem_set_unit (inb := inb_S16x72x128_S1x64x128_5_8_0)).mpr fun a => ?_
      match a with | 0 => exact ⟨show 5 ≤ 5 by omega, show 5 < 5 + 1 by omega⟩ | 1 => exact ⟨show 8 ≤ r.val by omega, show r.val < 8 + 64 by omega⟩ | 2 => exact ⟨show 0 ≤ l.val by omega, show l.val < 0 + 128 by omega⟩
    | ⟨6, _⟩ =>
      refine ⟨_, List.getElem_mem (l := I.L16) (n := 9) (show 9 < 32 by decide), ?_⟩
      refine (Rect.mem_set_unit (inb := inb_S16x72x128_S1x64x128_6_8_0)).mpr fun a => ?_
      match a with | 0 => exact ⟨show 6 ≤ 6 by omega, show 6 < 6 + 1 by omega⟩ | 1 => exact ⟨show 8 ≤ r.val by omega, show r.val < 8 + 64 by omega⟩ | 2 => exact ⟨show 0 ≤ l.val by omega, show l.val < 0 + 128 by omega⟩
    | ⟨7, _⟩ =>
      refine ⟨_, List.getElem_mem (l := I.L16) (n := 8) (show 8 < 32 by decide), ?_⟩
      refine (Rect.mem_set_unit (inb := inb_S16x72x128_S1x64x128_7_8_0)).mpr fun a => ?_
      match a with | 0 => exact ⟨show 7 ≤ 7 by omega, show 7 < 7 + 1 by omega⟩ | 1 => exact ⟨show 8 ≤ r.val by omega, show r.val < 8 + 64 by omega⟩ | 2 => exact ⟨show 0 ≤ l.val by omega, show l.val < 0 + 128 by omega⟩
    | ⟨8, _⟩ =>
      refine ⟨_, List.getElem_mem (l := I.L16) (n := 7) (show 7 < 32 by decide), ?_⟩
      refine (Rect.mem_set_unit (inb := inb_S16x72x128_S1x64x128_8_8_0)).mpr fun a => ?_
      match a with | 0 => exact ⟨show 8 ≤ 8 by omega, show 8 < 8 + 1 by omega⟩ | 1 => exact ⟨show 8 ≤ r.val by omega, show r.val < 8 + 64 by omega⟩ | 2 => exact ⟨show 0 ≤ l.val by omega, show l.val < 0 + 128 by omega⟩
    | ⟨9, _⟩ =>
      refine ⟨_, List.getElem_mem (l := I.L16) (n := 6) (show 6 < 32 by decide), ?_⟩
      refine (Rect.mem_set_unit (inb := inb_S16x72x128_S1x64x128_9_8_0)).mpr fun a => ?_
      match a with | 0 => exact ⟨show 9 ≤ 9 by omega, show 9 < 9 + 1 by omega⟩ | 1 => exact ⟨show 8 ≤ r.val by omega, show r.val < 8 + 64 by omega⟩ | 2 => exact ⟨show 0 ≤ l.val by omega, show l.val < 0 + 128 by omega⟩
    | ⟨10, _⟩ =>
      refine ⟨_, List.getElem_mem (l := I.L16) (n := 5) (show 5 < 32 by decide), ?_⟩
      refine (Rect.mem_set_unit (inb := inb_S16x72x128_S1x64x128_10_8_0)).mpr fun a => ?_
      match a with | 0 => exact ⟨show 10 ≤ 10 by omega, show 10 < 10 + 1 by omega⟩ | 1 => exact ⟨show 8 ≤ r.val by omega, show r.val < 8 + 64 by omega⟩ | 2 => exact ⟨show 0 ≤ l.val by omega, show l.val < 0 + 128 by omega⟩
    | ⟨11, _⟩ =>
      refine ⟨_, List.getElem_mem (l := I.L16) (n := 4) (show 4 < 32 by decide), ?_⟩
      refine (Rect.mem_set_unit (inb := inb_S16x72x128_S1x64x128_11_8_0)).mpr fun a => ?_
      match a with | 0 => exact ⟨show 11 ≤ 11 by omega, show 11 < 11 + 1 by omega⟩ | 1 => exact ⟨show 8 ≤ r.val by omega, show r.val < 8 + 64 by omega⟩ | 2 => exact ⟨show 0 ≤ l.val by omega, show l.val < 0 + 128 by omega⟩
    | ⟨12, _⟩ =>
      refine ⟨_, List.getElem_mem (l := I.L16) (n := 3) (show 3 < 32 by decide), ?_⟩
      refine (Rect.mem_set_unit (inb := inb_S16x72x128_S1x64x128_12_8_0)).mpr fun a => ?_
      match a with | 0 => exact ⟨show 12 ≤ 12 by omega, show 12 < 12 + 1 by omega⟩ | 1 => exact ⟨show 8 ≤ r.val by omega, show r.val < 8 + 64 by omega⟩ | 2 => exact ⟨show 0 ≤ l.val by omega, show l.val < 0 + 128 by omega⟩
    | ⟨13, _⟩ =>
      refine ⟨_, List.getElem_mem (l := I.L16) (n := 2) (show 2 < 32 by decide), ?_⟩
      refine (Rect.mem_set_unit (inb := inb_S16x72x128_S1x64x128_13_8_0)).mpr fun a => ?_
      match a with | 0 => exact ⟨show 13 ≤ 13 by omega, show 13 < 13 + 1 by omega⟩ | 1 => exact ⟨show 8 ≤ r.val by omega, show r.val < 8 + 64 by omega⟩ | 2 => exact ⟨show 0 ≤ l.val by omega, show l.val < 0 + 128 by omega⟩
    | ⟨14, _⟩ =>
      refine ⟨_, List.getElem_mem (l := I.L16) (n := 1) (show 1 < 32 by decide), ?_⟩
      refine (Rect.mem_set_unit (inb := inb_S16x72x128_S1x64x128_14_8_0)).mpr fun a => ?_
      match a with | 0 => exact ⟨show 14 ≤ 14 by omega, show 14 < 14 + 1 by omega⟩ | 1 => exact ⟨show 8 ≤ r.val by omega, show r.val < 8 + 64 by omega⟩ | 2 => exact ⟨show 0 ≤ l.val by omega, show l.val < 0 + 128 by omega⟩
    | ⟨15, _⟩ =>
      refine ⟨_, List.getElem_mem (l := I.L16) (n := 0) (show 0 < 32 by decide), ?_⟩
      refine (Rect.mem_set_unit (inb := inb_S16x72x128_S1x64x128_15_8_0)).mpr fun a => ?_
      match a with | 0 => exact ⟨show 15 ≤ 15 by omega, show 15 < 15 + 1 by omega⟩ | 1 => exact ⟨show 8 ≤ r.val by omega, show r.val < 8 + 64 by omega⟩ | 2 => exact ⟨show 0 ≤ l.val by omega, show l.val < 0 + 128 by omega⟩
    | ⟨n + 16, hn⟩ => exact absurd hn (by omega)

/-- Splitting off the unit axis and putting it back changes nothing. -/
theorem cast64 (f : FVec Ideal S1x64x128 .f32) :
    shapeCast S1x64x128 (shapeCast S64x128 f shapeCasts_S1x64x128_S64x128) shapeCasts_S64x128_S1x64x128 = f := by
  funext j
  obtain ⟨a, r, l, rfl⟩ : ∃ a r l, j = ix3 a r l := ⟨_, _, _, eq_ix3 j⟩
  pointwise []

/-- The same for three rows. -/
theorem cast3 (f : FVec Ideal S1x3x128 .f32) :
    shapeCast S1x3x128 (shapeCast S3x128 f shapeCasts_S1x3x128_S3x128) shapeCasts_S3x128_S1x3x128 = f := by
  funext j
  obtain ⟨a, r, l, rfl⟩ : ∃ a r l, j = ix3 a r l := ⟨_, _, _, eq_ix3 j⟩
  pointwise []

/-- A column block of the block's rows, read where the padded columns hold it. -/
theorem pad_b (I : Inp) (s o : ℕ) (inb) (y : S16x72x128.Idx) (x : S1x64x128.Idx)
    (h0 : (y 0).val = s + (x 0).val) (h1 : (y 1).val = 8 + (x 1).val) (h2 : (y 2).val = 0 + (x 2).val) (hs : s < 16) (ho : o = 128 * s) :
    I.w0 ((Rect.unit (s := S1x64x2048) ![0, 0, o] S1x64x128.size inb).idx x) = xrow I ((y 1).val - 5) (128 * (y 0).val + (y 2).val) := by
  obtain ⟨a, r, l, rfl⟩ : ∃ a r l, x = ix3 a r l := ⟨_, _, _, eq_ix3 x⟩
  have h0 : (y 0).val = s + a.val := h0
  have h1 : (y 1).val = 8 + r.val := h1
  have h2 : (y 2).val = 0 + l.val := h2
  rw [show (y 1).val - 5 = r.val + 3 by omega, show 128 * (y 0).val + (y 2).val = (⟨128 * s + l.val, by omega⟩ : Fin 2048).val by dsimp only; omega, xrow_hi]
  congr 1
  funext b
  refine Fin.ext ?_
  match b with
  | 0 => show 0 + 1 * _ = 0; omega
  | 1 => show 0 + 1 * r.val = r.val; omega
  | 2 => show o + 1 * l.val = 128 * s + l.val; omega

/-- A column block of the carried rows, read where the padded columns hold it. -/
theorem pad_t (I : Inp) (s o : ℕ) (inb) (y : S16x72x128.Idx) (x : S1x3x128.Idx)
    (h0 : (y 0).val = s + (x 0).val) (h1 : (y 1).val = 5 + (x 1).val) (h2 : (y 2).val = 0 + (x 2).val) (hs : s < 16) (ho : o = 128 * s) :
    I.w9 ((Rect.unit (s := S1x3x2048) ![0, 0, o] S1x3x128.size inb).idx x) = xrow I ((y 1).val - 5) (128 * (y 0).val + (y 2).val) := by
  obtain ⟨a, r, l, rfl⟩ : ∃ a r l, x = ix3 a r l := ⟨_, _, _, eq_ix3 x⟩
  have h0 : (y 0).val = s + a.val := h0
  have h1 : (y 1).val = 5 + r.val := h1
  have h2 : (y 2).val = 0 + l.val := h2
  rw [show (y 1).val - 5 = r.val by omega, show 128 * (y 0).val + (y 2).val = (⟨128 * s + l.val, by omega⟩ : Fin 2048).val by dsimp only; omega, xrow_lo]
  congr 1
  funext b
  refine Fin.ext ?_
  match b with
  | 0 => show 0 + 1 * _ = 0; omega
  | 1 => show 0 + 1 * r.val = r.val; omega
  | 2 => show o + 1 * l.val = 128 * s + l.val; omega

/-- A column block of the gate's argument, read where the column store holds it. -/
theorem zs_b (I : Inp) (s o : ℕ) (inb) (y : S8x64x128.Idx) (x : S1x64x128.Idx)
    (h0 : (y 0).val = s + (x 0).val) (h1 : (y 1).val = 0 + (x 1).val) (h2 : (y 2).val = 0 + (x 2).val) (hs : s < 8) (ho : o = 128 * s) :
    I.w1 ((Rect.unit (s := S1x64x1024) ![0, 0, o] S1x64x128.size inb).idx x) = zrow I (y 1).val (128 * (y 0).val + (y 2).val) := by
  obtain ⟨a, r, l, rfl⟩ : ∃ a r l, x = ix3 a r l := ⟨_, _, _, eq_ix3 x⟩
  have h0 : (y 0).val = s + a.val := h0
  have h1 : (y 1).val = 0 + r.val := h1
  have h2 : (y 2).val = 0 + l.val := h2
  rw [show (y 1).val = r.val by omega, show 128 * (y 0).val + (y 2).val = (⟨128 * s + l.val, by omega⟩ : Fin 1024).val by dsimp only; omega, zrow_at]
  congr 1
  funext b
  refine Fin.ext ?_
  match b with
  | 0 => show 0 + 1 * _ = 0; omega
  | 1 => show 0 + 1 * r.val = r.val; omega
  | 2 => show o + 1 * l.val = 128 * s + l.val; omega

/-- The stored value is the loaded one. -/
theorem pid58 (f : Vec Ideal S1x64x128 .f32) : k0_pay58 (F := Ideal) f = f := cast64 f

/-- The stored value is the loaded one. -/
theorem pid57 (f : Vec Ideal S1x64x128 .f32) : k0_pay57 (F := Ideal) f = f := cast64 f

/-- The stored value is the loaded one. -/
theorem pid56 (f : Vec Ideal S1x64x128 .f32) : k0_pay56 (F := Ideal) f = f := cast64 f

/-- The stored value is the loaded one. -/
theorem pid55 (f : Vec Ideal S1x64x128 .f32) : k0_pay55 (F := Ideal) f = f := cast64 f

/-- The stored value is the loaded one. -/
theorem pid54 (f : Vec Ideal S1x64x128 .f32) : k0_pay54 (F := Ideal) f = f := cast64 f

/-- The stored value is the loaded one. -/
theorem pid53 (f : Vec Ideal S1x64x128 .f32) : k0_pay53 (F := Ideal) f = f := cast64 f

/-- The stored value is the loaded one. -/
theorem pid52 (f : Vec Ideal S1x64x128 .f32) : k0_pay52 (F := Ideal) f = f := cast64 f

/-- The stored value is the loaded one. -/
theorem pid51 (f : Vec Ideal S1x64x128 .f32) : k0_pay51 (F := Ideal) f = f := cast64 f

/-- The stored value is the loaded one. -/
theorem pid50 (f : Vec Ideal S1x64x128 .f32) : k0_pay50 (F := Ideal) f = f := cast64 f

/-- The stored value is the loaded one. -/
theorem pid49 (f : Vec Ideal S1x64x128 .f32) : k0_pay49 (F := Ideal) f = f := cast64 f

/-- The stored value is the loaded one. -/
theorem pid48 (f : Vec Ideal S1x64x128 .f32) : k0_pay48 (F := Ideal) f = f := cast64 f

/-- The stored value is the loaded one. -/
theorem pid47 (f : Vec Ideal S1x64x128 .f32) : k0_pay47 (F := Ideal) f = f := cast64 f

/-- The stored value is the loaded one. -/
theorem pid46 (f : Vec Ideal S1x64x128 .f32) : k0_pay46 (F := Ideal) f = f := cast64 f

/-- The stored value is the loaded one. -/
theorem pid45 (f : Vec Ideal S1x64x128 .f32) : k0_pay45 (F := Ideal) f = f := cast64 f

/-- The stored value is the loaded one. -/
theorem pid44 (f : Vec Ideal S1x64x128 .f32) : k0_pay44 (F := Ideal) f = f := cast64 f

/-- The stored value is the loaded one. -/
theorem pid43 (f : Vec Ideal S1x64x128 .f32) : k0_pay43 (F := Ideal) f = f := cast64 f

/-- The stored value is the loaded one. -/
theorem pid42 (f : Vec Ideal S1x64x128 .f32) : k0_pay42 (F := Ideal) f = f := cast64 f

/-- The stored value is the loaded one. -/
theorem pid41 (f : Vec Ideal S1x64x128 .f32) : k0_pay41 (F := Ideal) f = f := cast64 f

/-- The stored value is the loaded one. -/
theorem pid40 (f : Vec Ideal S1x64x128 .f32) : k0_pay40 (F := Ideal) f = f := cast64 f

/-- The stored value is the loaded one. -/
theorem pid39 (f : Vec Ideal S1x64x128 .f32) : k0_pay39 (F := Ideal) f = f := cast64 f

/-- The stored value is the loaded one. -/
theorem pid38 (f : Vec Ideal S1x64x128 .f32) : k0_pay38 (F := Ideal) f = f := cast64 f

/-- The stored value is the loaded one. -/
theorem pid37 (f : Vec Ideal S1x64x128 .f32) : k0_pay37 (F := Ideal) f = f := cast64 f

/-- The stored value is the loaded one. -/
theorem pid36 (f : Vec Ideal S1x64x128 .f32) : k0_pay36 (F := Ideal) f = f := cast64 f

/-- The stored value is the loaded one. -/
theorem pid35 (f : Vec Ideal S1x64x128 .f32) : k0_pay35 (F := Ideal) f = f := cast64 f

/-- The stored value is the loaded one. -/
theorem pid33 (f : Vec Ideal S1x3x128 .f32) : k0_pay33 (F := Ideal) f = f := cast3 f

/-- The stored value is the loaded one. -/
theorem pid17 (f : Vec Ideal S1x3x128 .f32) : k0_pay17 (F := Ideal) f = f := cast3 f

/-- The stored value is the loaded one. -/
theorem pid16 (f : Vec Ideal S1x3x128 .f32) : k0_pay16 (F := Ideal) f = f := cast3 f

/-- The stored value is the loaded one. -/
theorem pid15 (f : Vec Ideal S1x3x128 .f32) : k0_pay15 (F := Ideal) f = f := cast3 f

/-- The stored value is the loaded one. -/
theorem pid14 (f : Vec Ideal S1x3x128 .f32) : k0_pay14 (F := Ideal) f = f := cast3 f

/-- The stored value is the loaded one. -/
theorem pid13 (f : Vec Ideal S1x3x128 .f32) : k0_pay13 (F := Ideal) f = f := cast3 f

/-- The stored value is the loaded one. -/
theorem pid12 (f : Vec Ideal S1x3x128 .f32) : k0_pay12 (F := Ideal) f = f := cast3 f

/-- The stored value is the loaded one. -/
theorem pid11 (f : Vec Ideal S1x3x128 .f32) : k0_pay11 (F := Ideal) f = f := cast3 f

/-- The stored value is the loaded one. -/
theorem pid10 (f : Vec Ideal S1x3x128 .f32) : k0_pay10 (F := Ideal) f = f := cast3 f

/-- The stored value is the loaded one. -/
theorem pid9 (f : Vec Ideal S1x3x128 .f32) : k0_pay9 (F := Ideal) f = f := cast3 f

/-- The stored value is the loaded one. -/
theorem pid8 (f : Vec Ideal S1x3x128 .f32) : k0_pay8 (F := Ideal) f = f := cast3 f

/-- The stored value is the loaded one. -/
theorem pid7 (f : Vec Ideal S1x3x128 .f32) : k0_pay7 (F := Ideal) f = f := cast3 f

/-- The stored value is the loaded one. -/
theorem pid6 (f : Vec Ideal S1x3x128 .f32) : k0_pay6 (F := Ideal) f = f := cast3 f

/-- The stored value is the loaded one. -/
theorem pid5 (f : Vec Ideal S1x3x128 .f32) : k0_pay5 (F := Ideal) f = f := cast3 f

/-- The stored value is the loaded one. -/
theorem pid4 (f : Vec Ideal S1x3x128 .f32) : k0_pay4 (F := Ideal) f = f := cast3 f

/-- The stored value is the loaded one. -/
theorem pid3 (f : Vec Ideal S1x3x128 .f32) : k0_pay3 (F := Ideal) f = f := cast3 f

/-- The padded columns, read back: the column block `s`, lane `l` is channel `128 s + l`. -/
theorem canon_pad (I : Inp) (y : S16x72x128.Idx) (h : 5 ≤ (y 1).val) :
    View.canon I.L16 y = xrow I ((y 1).val - 5) (128 * (y 0).val + (y 2).val) := by
  refine View.canon_eq_of_allAt _ y _ (mem_pad I y h) ?_
  unfold Inp.L16
  refine View.allAt_cons_unit _ _ _ _ _ (fun x hx => ?_) ?_
  · exact (congrFun (pid50 _) x).trans (pad_b I 15 1920 _ y x (hx 0) (hx 1) (hx 2) (by decide) rfl)
  refine View.allAt_cons_unit _ _ _ _ _ (fun x hx => ?_) ?_
  · exact (congrFun (pid49 _) x).trans (pad_b I 14 1792 _ y x (hx 0) (hx 1) (hx 2) (by decide) rfl)
  refine View.allAt_cons_unit _ _ _ _ _ (fun x hx => ?_) ?_
  · exact (congrFun (pid48 _) x).trans (pad_b I 13 1664 _ y x (hx 0) (hx 1) (hx 2) (by decide) rfl)
  refine View.allAt_cons_unit _ _ _ _ _ (fun x hx => ?_) ?_
  · exact (congrFun (pid47 _) x).trans (pad_b I 12 1536 _ y x (hx 0) (hx 1) (hx 2) (by decide) rfl)
  refine View.allAt_cons_unit _ _ _ _ _ (fun x hx => ?_) ?_
  · exact (congrFun (pid46 _) x).trans (pad_b I 11 1408 _ y x (hx 0) (hx 1) (hx 2) (by decide) rfl)
  refine View.allAt_cons_unit _ _ _ _ _ (fun x hx => ?_) ?_
  · exact (congrFun (pid45 _) x).trans (pad_b I 10 1280 _ y x (hx 0) (hx 1) (hx 2) (by decide) rfl)
  refine View.allAt_cons_unit _ _ _ _ _ (fun x hx => ?_) ?_
  · exact (congrFun (pid44 _) x).trans (pad_b I 9 1152 _ y x (hx 0) (hx 1) (hx 2) (by decide) rfl)
  refine View.allAt_cons_unit _ _ _ _ _ (fun x hx => ?_) ?_
  · exact (congrFun (pid43 _) x).trans (pad_b I 8 1024 _ y x (hx 0) (hx 1) (hx 2) (by decide) rfl)
  refine View.allAt_cons_unit _ _ _ _ _ (fun x hx => ?_) ?_
  · exact (congrFun (pid42 _) x).trans (pad_b I 7 896 _ y x (hx 0) (hx 1) (hx 2) (by decide) rfl)
  refine View.allAt_cons_unit _ _ _ _ _ (fun x hx => ?_) ?_
  · exact (congrFun (pid41 _) x).trans (pad_b I 6 768 _ y x (hx 0) (hx 1) (hx 2) (by decide) rfl)
  refine View.allAt_cons_unit _ _ _ _ _ (fun x hx => ?_) ?_
  · exact (congrFun (pid40 _) x).trans (pad_b I 5 640 _ y x (hx 0) (hx 1) (hx 2) (by decide) rfl)
  refine View.allAt_cons_unit _ _ _ _ _ (fun x hx => ?_) ?_
  · exact (congrFun (pid39 _) x).trans (pad_b I 4 512 _ y x (hx 0) (hx 1) (hx 2) (by decide) rfl)
  refine View.allAt_cons_unit _ _ _ _ _ (fun x hx => ?_) ?_
  · exact (congrFun (pid38 _) x).trans (pad_b I 3 384 _ y x (hx 0) (hx 1) (hx 2) (by decide) rfl)
  refine View.allAt_cons_unit _ _ _ _ _ (fun x hx => ?_) ?_
  · exact (congrFun (pid37 _) x).trans (pad_b I 2 256 _ y x (hx 0) (hx 1) (hx 2) (by decide) rfl)
  refine View.allAt_cons_unit _ _ _ _ _ (fun x hx => ?_) ?_
  · exact (congrFun (pid36 _) x).trans (pad_b I 1 128 _ y x (hx 0) (hx 1) (hx 2) (by decide) rfl)
  refine View.allAt_cons_unit _ _ _ _ _ (fun x hx => ?_) ?_
  · exact (congrFun (pid35 _) x).trans (pad_b I 0 0 _ y x (hx 0) (hx 1) (hx 2) (by decide) rfl)
  refine View.allAt_cons_unit _ _ _ _ _ (fun x hx => ?_) ?_
  · exact (congrFun (pid33 _) x).trans (pad_t I 15 1920 _ y x (hx 0) (hx 1) (hx 2) (by decide) rfl)
  refine View.allAt_cons_unit _ _ _ _ _ (fun x hx => ?_) ?_
  · exact (congrFun (pid17 _) x).trans (pad_t I 14 1792 _ y x (hx 0) (hx 1) (hx 2) (by decide) rfl)
  refine View.allAt_cons_unit _ _ _ _ _ (fun x hx => ?_) ?_
  · exact (congrFun (pid16 _) x).trans (pad_t I 13 1664 _ y x (hx 0) (hx 1) (hx 2) (by decide) rfl)
  refine View.allAt_cons_unit _ _ _ _ _ (fun x hx => ?_) ?_
  · exact (congrFun (pid15 _) x).trans (pad_t I 12 1536 _ y x (hx 0) (hx 1) (hx 2) (by decide) rfl)
  refine View.allAt_cons_unit _ _ _ _ _ (fun x hx => ?_) ?_
  · exact (congrFun (pid14 _) x).trans (pad_t I 11 1408 _ y x (hx 0) (hx 1) (hx 2) (by decide) rfl)
  refine View.allAt_cons_unit _ _ _ _ _ (fun x hx => ?_) ?_
  · exact (congrFun (pid13 _) x).trans (pad_t I 10 1280 _ y x (hx 0) (hx 1) (hx 2) (by decide) rfl)
  refine View.allAt_cons_unit _ _ _ _ _ (fun x hx => ?_) ?_
  · exact (congrFun (pid12 _) x).trans (pad_t I 9 1152 _ y x (hx 0) (hx 1) (hx 2) (by decide) rfl)
  refine View.allAt_cons_unit _ _ _ _ _ (fun x hx => ?_) ?_
  · exact (congrFun (pid11 _) x).trans (pad_t I 8 1024 _ y x (hx 0) (hx 1) (hx 2) (by decide) rfl)
  refine View.allAt_cons_unit _ _ _ _ _ (fun x hx => ?_) ?_
  · exact (congrFun (pid10 _) x).trans (pad_t I 7 896 _ y x (hx 0) (hx 1) (hx 2) (by decide) rfl)
  refine View.allAt_cons_unit _ _ _ _ _ (fun x hx => ?_) ?_
  · exact (congrFun (pid9 _) x).trans (pad_t I 6 768 _ y x (hx 0) (hx 1) (hx 2) (by decide) rfl)
  refine View.allAt_cons_unit _ _ _ _ _ (fun x hx => ?_) ?_
  · exact (congrFun (pid8 _) x).trans (pad_t I 5 640 _ y x (hx 0) (hx 1) (hx 2) (by decide) rfl)
  refine View.allAt_cons_unit _ _ _ _ _ (fun x hx => ?_) ?_
  · exact (congrFun (pid7 _) x).trans (pad_t I 4 512 _ y x (hx 0) (hx 1) (hx 2) (by decide) rfl)
  refine View.allAt_cons_unit _ _ _ _ _ (fun x hx => ?_) ?_
  · exact (congrFun (pid6 _) x).trans (pad_t I 3 384 _ y x (hx 0) (hx 1) (hx 2) (by decide) rfl)
  refine View.allAt_cons_unit _ _ _ _ _ (fun x hx => ?_) ?_
  · exact (congrFun (pid5 _) x).trans (pad_t I 2 256 _ y x (hx 0) (hx 1) (hx 2) (by decide) rfl)
  refine View.allAt_cons_unit _ _ _ _ _ (fun x hx => ?_) ?_
  · exact (congrFun (pid4 _) x).trans (pad_t I 1 128 _ y x (hx 0) (hx 1) (hx 2) (by decide) rfl)
  refine View.allAt_cons_unit _ _ _ _ _ (fun x hx => ?_) ?_
  · exact (congrFun (pid3 _) x).trans (pad_t I 0 0 _ y x (hx 0) (hx 1) (hx 2) (by decide) rfl)
  exact View.allAt_nil _ _

/-- The stored gate argument, read back: the column block `s`, lane `l` is channel `128 s + l`. -/
theorem canon_zs (I : Inp) (y : S8x64x128.Idx) :
    View.canon I.L17 y = zrow I (y 1).val (128 * (y 0).val + (y 2).val) := by
  refine View.canon_eq_of_allAt _ y _ (View.cover_of_tiled_head _ _ _ rfl y) ?_
  unfold Inp.L17
  refine View.allAt_cons_unit _ _ _ _ _ (fun x hx => ?_) ?_
  · exact (congrFun (pid58 _) x).trans (zs_b I 7 896 _ y x (hx 0) (hx 1) (hx 2) (by decide) rfl)
  refine View.allAt_cons_unit _ _ _ _ _ (fun x hx => ?_) ?_
  · exact (congrFun (pid57 _) x).trans (zs_b I 6 768 _ y x (hx 0) (hx 1) (hx 2) (by decide) rfl)
  refine View.allAt_cons_unit _ _ _ _ _ (fun x hx => ?_) ?_
  · exact (congrFun (pid56 _) x).trans (zs_b I 5 640 _ y x (hx 0) (hx 1) (hx 2) (by decide) rfl)
  refine View.allAt_cons_unit _ _ _ _ _ (fun x hx => ?_) ?_
  · exact (congrFun (pid55 _) x).trans (zs_b I 4 512 _ y x (hx 0) (hx 1) (hx 2) (by decide) rfl)
  refine View.allAt_cons_unit _ _ _ _ _ (fun x hx => ?_) ?_
  · exact (congrFun (pid54 _) x).trans (zs_b I 3 384 _ y x (hx 0) (hx 1) (hx 2) (by decide) rfl)
  refine View.allAt_cons_unit _ _ _ _ _ (fun x hx => ?_) ?_
  · exact (congrFun (pid53 _) x).trans (zs_b I 2 256 _ y x (hx 0) (hx 1) (hx 2) (by decide) rfl)
  refine View.allAt_cons_unit _ _ _ _ _ (fun x hx => ?_) ?_
  · exact (congrFun (pid52 _) x).trans (zs_b I 1 128 _ y x (hx 0) (hx 1) (hx 2) (by decide) rfl)
  refine View.allAt_cons_unit _ _ _ _ _ (fun x hx => ?_) ?_
  · exact (congrFun (pid51 _) x).trans (zs_b I 0 0 _ y x (hx 0) (hx 1) (hx 2) (by decide) rfl)
  exact View.allAt_nil _ _
end Cert.Ssd
-- ==== Proof.SsdConv.lean ====
module
public import proofs.«01_k».proof.Proof.SsdLoad
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

/-- The convolution weight of tap `k` at channel `c` (zero past the end). -/
def cw (I : Inp) (k c : ℕ) : EReal := if h : k < 4 ∧ c < 2048 then I.w3 (ix2 ⟨k, h.1⟩ ⟨c, h.2⟩) else 0

/-- The convolution bias at channel `c` (zero past the end). -/
def cb (I : Inp) (c : ℕ) : EReal := if h : c < 2048 then I.w4 (ix2 0 ⟨c, h⟩) else 0

/-- The weight at an index. -/
theorem cw_at (I : Inp) (k : Fin 4) (c : Fin 2048) : I.w3 (ix2 k c) = cw I k c := by
  unfold cw; rw [dif_pos ⟨k.2, c.2⟩]

/-- The bias at an index. -/
theorem cb_at (I : Inp) (k : Fin 1) (c : Fin 2048) : I.w4 (ix2 k c) = cb I c := by
  unfold cb; rw [dif_pos c.2, Fin.fin_one_eq_zero k]

/-- The causal convolution at time `t` and channel `c`. -/
def cv (I : Inp) (t c : ℕ) : EReal :=
  (((cb I c + xrow I t c * cw I 0 c) + xrow I (t + 1) c * cw I 1 c) + xrow I (t + 2) c * cw I 2 c) + xrow I (t + 3) c * cw I 3 c

/-- The time a row stands for: the even times first, then the odd ones. -/
def tm (r : ℕ) : ℕ := if r < 32 then 2 * r else 2 * (r - 32) + 1

/-- A strided load of one column block of the padded columns. -/
theorem ldpad (I : Inp) (s o : ℕ) (inb) (ho : 5 ≤ o) (a : Fin 1) (r : Fin 32) (l : Fin 128) :
    View.canon I.L16 ((⟨![s, o, 0], S1x32x128.size, ![1, 2, 1], inb⟩ : LoadRect S16x72x128).idx (ix3 a r l))
      = xrow I (o - 5 + 2 * r.val) (128 * s + l.val) := by
  rw [canon_pad _ _ (show 5 ≤ o + 2 * r.val by omega)]
  congr 1
  · show o + 2 * r.val - 5 = _; omega
  · show 128 * (s + 1 * a.val) + (0 + 1 * l.val) = _; omega

/-- A load of the padded columns. -/
theorem a_v126 (I : Inp) (a : Fin 1) (r : Fin 32) (l : Fin 128) : v126 I (ix3 a r l) = xrow I (2 * r.val) (l.val) :=
  (ldpad I 0 5 _ (by decide) a r l).trans (by congr 1 <;> omega)

/-- A load of the padded columns. -/
theorem a_v128 (I : Inp) (a : Fin 1) (r : Fin 32) (l : Fin 128) : v128 I (ix3 a r l) = xrow I (2 * r.val + 1) (l.val) :=
  (ldpad I 0 6 _ (by decide) a r l).trans (by congr 1 <;> omega)

/-- A load of the padded columns. -/
theorem a_v130 (I : Inp) (a : Fin 1) (r : Fin 32) (l : Fin 128) : v130 I (ix3 a r l) = xrow I (2 * r.val + 1) (l.val) :=
  (ldpad I 0 6 _ (by decide) a r l).trans (by congr 1 <;> omega)

/-- A load of the padded columns. -/
theorem a_v132 (I : Inp) (a : Fin 1) (r : Fin 32) (l : Fin 128) : v132 I (ix3 a r l) = xrow I (2 * r.val + 2) (l.val) :=
  (ldpad I 0 7 _ (by decide) a r l).trans (by congr 1 <;> omega)

/-- A load of the padded columns. -/
theorem a_v134 (I : Inp) (a : Fin 1) (r : Fin 32) (l : Fin 128) : v134 I (ix3 a r l) = xrow I (2 * r.val + 2) (l.val) :=
  (ldpad I 0 7 _ (by decide) a r l).trans (by congr 1 <;> omega)

/-- A load of the padded columns. -/
theorem a_v136 (I : Inp) (a : Fin 1) (r : Fin 32) (l : Fin 128) : v136 I (ix3 a r l) = xrow I (2 * r.val + 3) (l.val) :=
  (ldpad I 0 8 _ (by decide) a r l).trans (by congr 1 <;> omega)

/-- A load of the padded columns. -/
theorem a_v138 (I : Inp) (a : Fin 1) (r : Fin 32) (l : Fin 128) : v138 I (ix3 a r l) = xrow I (2 * r.val + 3) (l.val) :=
  (ldpad I 0 8 _ (by decide) a r l).trans (by congr 1 <;> omega)

/-- A load of the padded columns. -/
theorem a_v140 (I : Inp) (a : Fin 1) (r : Fin 32) (l : Fin 128) : v140 I (ix3 a r l) = xrow I (2 * r.val + 4) (l.val) :=
  (ldpad I 0 9 _ (by decide) a r l).trans (by congr 1 <;> omega)

/-- A load of the padded columns. -/
theorem a_v179 (I : Inp) (a : Fin 1) (r : Fin 32) (l : Fin 128) : v179 I (ix3 a r l) = xrow I (2 * r.val) (128 + l.val) :=
  (ldpad I 1 5 _ (by decide) a r l).trans (by congr 1 <;> omega)

/-- A load of the padded columns. -/
theorem a_v181 (I : Inp) (a : Fin 1) (r : Fin 32) (l : Fin 128) : v181 I (ix3 a r l) = xrow I (2 * r.val + 1) (128 + l.val) :=
  (ldpad I 1 6 _ (by decide) a r l).trans (by congr 1 <;> omega)

/-- A load of the padded columns. -/
theorem a_v183 (I : Inp) (a : Fin 1) (r : Fin 32) (l : Fin 128) : v183 I (ix3 a r l) = xrow I (2 * r.val + 1) (128 + l.val) :=
  (ldpad I 1 6 _ (by decide) a r l).trans (by congr 1 <;> omega)

/-- A load of the padded columns. -/
theorem a_v185 (I : Inp) (a : Fin 1) (r : Fin 32) (l : Fin 128) : v185 I (ix3 a r l) = xrow I (2 * r.val + 2) (128 + l.val) :=
  (ldpad I 1 7 _ (by decide) a r l).trans (by congr 1 <;> omega)

/-- A load of the padded columns. -/
theorem a_v187 (I : Inp) (a : Fin 1) (r : Fin 32) (l : Fin 128) : v187 I (ix3 a r l) = xrow I (2 * r.val + 2) (128 + l.val) :=
  (ldpad I 1 7 _ (by decide) a r l).trans (by congr 1 <;> omega)

/-- A load of the padded columns. -/
theorem a_v189 (I : Inp) (a : Fin 1) (r : Fin 32) (l : Fin 128) : v189 I (ix3 a r l) = xrow I (2 * r.val + 3) (128 + l.val) :=
  (ldpad I 1 8 _ (by decide) a r l).trans (by congr 1 <;> omega)

/-- A load of the padded columns. -/
theorem a_v191 (I : Inp) (a : Fin 1) (r : Fin 32) (l : Fin 128) : v191 I (ix3 a r l) = xrow I (2 * r.val + 3) (128 + l.val) :=
  (ldpad I 1 8 _ (by decide) a r l).trans (by congr 1 <;> omega)

/-- A load of the padded columns. -/
theorem a_v193 (I : Inp) (a : Fin 1) (r : Fin 32) (l : Fin 128) : v193 I (ix3 a r l) = xrow I (2 * r.val + 4) (128 + l.val) :=
  (ldpad I 1 9 _ (by decide) a r l).trans (by congr 1 <;> omega)

/-- A load of the padded columns. -/
theorem a_v232 (I : Inp) (a : Fin 1) (r : Fin 32) (l : Fin 128) : v232 I (ix3 a r l) = xrow I (2 * r.val) (256 + l.val) :=
  (ldpad I 2 5 _ (by decide) a r l).trans (by congr 1 <;> omega)

/-- A load of the padded columns. -/
theorem a_v234 (I : Inp) (a : Fin 1) (r : Fin 32) (l : Fin 128) : v234 I (ix3 a r l) = xrow I (2 * r.val + 1) (256 + l.val) :=
  (ldpad I 2 6 _ (by decide) a r l).trans (by congr 1 <;> omega)

/-- A load of the padded columns. -/
theorem a_v236 (I : Inp) (a : Fin 1) (r : Fin 32) (l : Fin 128) : v236 I (ix3 a r l) = xrow I (2 * r.val + 1) (256 + l.val) :=
  (ldpad I 2 6 _ (by decide) a r l).trans (by congr 1 <;> omega)

/-- A load of the padded columns. -/
theorem a_v238 (I : Inp) (a : Fin 1) (r : Fin 32) (l : Fin 128) : v238 I (ix3 a r l) = xrow I (2 * r.val + 2) (256 + l.val) :=
  (ldpad I 2 7 _ (by decide) a r l).trans (by congr 1 <;> omega)

/-- A load of the padded columns. -/
theorem a_v240 (I : Inp) (a : Fin 1) (r : Fin 32) (l : Fin 128) : v240 I (ix3 a r l) = xrow I (2 * r.val + 2) (256 + l.val) :=
  (ldpad I 2 7 _ (by decide) a r l).trans (by congr 1 <;> omega)

/-- A load of the padded columns. -/
theorem a_v242 (I : Inp) (a : Fin 1) (r : Fin 32) (l : Fin 128) : v242 I (ix3 a r l) = xrow I (2 * r.val + 3) (256 + l.val) :=
  (ldpad I 2 8 _ (by decide) a r l).trans (by congr 1 <;> omega)

/-- A load of the padded columns. -/
theorem a_v244 (I : Inp) (a : Fin 1) (r : Fin 32) (l : Fin 128) : v244 I (ix3 a r l) = xrow I (2 * r.val + 3) (256 + l.val) :=
  (ldpad I 2 8 _ (by decide) a r l).trans (by congr 1 <;> omega)

/-- A load of the padded columns. -/
theorem a_v246 (I : Inp) (a : Fin 1) (r : Fin 32) (l : Fin 128) : v246 I (ix3 a r l) = xrow I (2 * r.val + 4) (256 + l.val) :=
  (ldpad I 2 9 _ (by decide) a r l).trans (by congr 1 <;> omega)

/-- A load of the padded columns. -/
theorem a_v285 (I : Inp) (a : Fin 1) (r : Fin 32) (l : Fin 128) : v285 I (ix3 a r l) = xrow I (2 * r.val) (384 + l.val) :=
  (ldpad I 3 5 _ (by decide) a r l).trans (by congr 1 <;> omega)

/-- A load of the padded columns. -/
theorem a_v287 (I : Inp) (a : Fin 1) (r : Fin 32) (l : Fin 128) : v287 I (ix3 a r l) = xrow I (2 * r.val + 1) (384 + l.val) :=
  (ldpad I 3 6 _ (by decide) a r l).trans (by congr 1 <;> omega)

/-- A load of the padded columns. -/
theorem a_v289 (I : Inp) (a : Fin 1) (r : Fin 32) (l : Fin 128) : v289 I (ix3 a r l) = xrow I (2 * r.val + 1) (384 + l.val) :=
  (ldpad I 3 6 _ (by decide) a r l).trans (by congr 1 <;> omega)

/-- A load of the padded columns. -/
theorem a_v291 (I : Inp) (a : Fin 1) (r : Fin 32) (l : Fin 128) : v291 I (ix3 a r l) = xrow I (2 * r.val + 2) (384 + l.val) :=
  (ldpad I 3 7 _ (by decide) a r l).trans (by congr 1 <;> omega)

/-- A load of the padded columns. -/
theorem a_v293 (I : Inp) (a : Fin 1) (r : Fin 32) (l : Fin 128) : v293 I (ix3 a r l) = xrow I (2 * r.val + 2) (384 + l.val) :=
  (ldpad I 3 7 _ (by decide) a r l).trans (by congr 1 <;> omega)

/-- A load of the padded columns. -/
theorem a_v295 (I : Inp) (a : Fin 1) (r : Fin 32) (l : Fin 128) : v295 I (ix3 a r l) = xrow I (2 * r.val + 3) (384 + l.val) :=
  (ldpad I 3 8 _ (by decide) a r l).trans (by congr 1 <;> omega)

/-- A load of the padded columns. -/
theorem a_v297 (I : Inp) (a : Fin 1) (r : Fin 32) (l : Fin 128) : v297 I (ix3 a r l) = xrow I (2 * r.val + 3) (384 + l.val) :=
  (ldpad I 3 8 _ (by decide) a r l).trans (by congr 1 <;> omega)

/-- A load of the padded columns. -/
theorem a_v299 (I : Inp) (a : Fin 1) (r : Fin 32) (l : Fin 128) : v299 I (ix3 a r l) = xrow I (2 * r.val + 4) (384 + l.val) :=
  (ldpad I 3 9 _ (by decide) a r l).trans (by congr 1 <;> omega)

/-- A load of the padded columns. -/
theorem a_v338 (I : Inp) (a : Fin 1) (r : Fin 32) (l : Fin 128) : v338 I (ix3 a r l) = xrow I (2 * r.val) (512 + l.val) :=
  (ldpad I 4 5 _ (by decide) a r l).trans (by congr 1 <;> omega)

/-- A load of the padded columns. -/
theorem a_v340 (I : Inp) (a : Fin 1) (r : Fin 32) (l : Fin 128) : v340 I (ix3 a r l) = xrow I (2 * r.val + 1) (512 + l.val) :=
  (ldpad I 4 6 _ (by decide) a r l).trans (by congr 1 <;> omega)

/-- A load of the padded columns. -/
theorem a_v342 (I : Inp) (a : Fin 1) (r : Fin 32) (l : Fin 128) : v342 I (ix3 a r l) = xrow I (2 * r.val + 1) (512 + l.val) :=
  (ldpad I 4 6 _ (by decide) a r l).trans (by congr 1 <;> omega)

/-- A load of the padded columns. -/
theorem a_v344 (I : Inp) (a : Fin 1) (r : Fin 32) (l : Fin 128) : v344 I (ix3 a r l) = xrow I (2 * r.val + 2) (512 + l.val) :=
  (ldpad I 4 7 _ (by decide) a r l).trans (by congr 1 <;> omega)

/-- A load of the padded columns. -/
theorem a_v346 (I : Inp) (a : Fin 1) (r : Fin 32) (l : Fin 128) : v346 I (ix3 a r l) = xrow I (2 * r.val + 2) (512 + l.val) :=
  (ldpad I 4 7 _ (by decide) a r l).trans (by congr 1 <;> omega)

/-- A load of the padded columns. -/
theorem a_v348 (I : Inp) (a : Fin 1) (r : Fin 32) (l : Fin 128) : v348 I (ix3 a r l) = xrow I (2 * r.val + 3) (512 + l.val) :=
  (ldpad I 4 8 _ (by decide) a r l).trans (by congr 1 <;> omega)

/-- A load of the padded columns. -/
theorem a_v350 (I : Inp) (a : Fin 1) (r : Fin 32) (l : Fin 128) : v350 I (ix3 a r l) = xrow I (2 * r.val + 3) (512 + l.val) :=
  (ldpad I 4 8 _ (by decide) a r l).trans (by congr 1 <;> omega)

/-- A load of the padded columns. -/
theorem a_v352 (I : Inp) (a : Fin 1) (r : Fin 32) (l : Fin 128) : v352 I (ix3 a r l) = xrow I (2 * r.val + 4) (512 + l.val) :=
  (ldpad I 4 9 _ (by decide) a r l).trans (by congr 1 <;> omega)

/-- A load of the padded columns. -/
theorem a_v391 (I : Inp) (a : Fin 1) (r : Fin 32) (l : Fin 128) : v391 I (ix3 a r l) = xrow I (2 * r.val) (640 + l.val) :=
  (ldpad I 5 5 _ (by decide) a r l).trans (by congr 1 <;> omega)

/-- A load of the padded columns. -/
theorem a_v393 (I : Inp) (a : Fin 1) (r : Fin 32) (l : Fin 128) : v393 I (ix3 a r l) = xrow I (2 * r.val + 1) (640 + l.val) :=
  (ldpad I 5 6 _ (by decide) a r l).trans (by congr 1 <;> omega)

/-- A load of the padded columns. -/
theorem a_v395 (I : Inp) (a : Fin 1) (r : Fin 32) (l : Fin 128) : v395 I (ix3 a r l) = xrow I (2 * r.val + 1) (640 + l.val) :=
  (ldpad I 5 6 _ (by decide) a r l).trans (by congr 1 <;> omega)

/-- A load of the padded columns. -/
theorem a_v397 (I : Inp) (a : Fin 1) (r : Fin 32) (l : Fin 128) : v397 I (ix3 a r l) = xrow I (2 * r.val + 2) (640 + l.val) :=
  (ldpad I 5 7 _ (by decide) a r l).trans (by congr 1 <;> omega)

/-- A load of the padded columns. -/
theorem a_v399 (I : Inp) (a : Fin 1) (r : Fin 32) (l : Fin 128) : v399 I (ix3 a r l) = xrow I (2 * r.val + 2) (640 + l.val) :=
  (ldpad I 5 7 _ (by decide) a r l).trans (by congr 1 <;> omega)

/-- A load of the padded columns. -/
theorem a_v401 (I : Inp) (a : Fin 1) (r : Fin 32) (l : Fin 128) : v401 I (ix3 a r l) = xrow I (2 * r.val + 3) (640 + l.val) :=
  (ldpad I 5 8 _ (by decide) a r l).trans (by congr 1 <;> omega)

/-- A load of the padded columns. -/
theorem a_v403 (I : Inp) (a : Fin 1) (r : Fin 32) (l : Fin 128) : v403 I (ix3 a r l) = xrow I (2 * r.val + 3) (640 + l.val) :=
  (ldpad I 5 8 _ (by decide) a r l).trans (by congr 1 <;> omega)

/-- A load of the padded columns. -/
theorem a_v405 (I : Inp) (a : Fin 1) (r : Fin 32) (l : Fin 128) : v405 I (ix3 a r l) = xrow I (2 * r.val + 4) (640 + l.val) :=
  (ldpad I 5 9 _ (by decide) a r l).trans (by congr 1 <;> omega)

/-- A load of the padded columns. -/
theorem a_v444 (I : Inp) (a : Fin 1) (r : Fin 32) (l : Fin 128) : v444 I (ix3 a r l) = xrow I (2 * r.val) (768 + l.val) :=
  (ldpad I 6 5 _ (by decide) a r l).trans (by congr 1 <;> omega)

/-- A load of the padded columns. -/
theorem a_v446 (I : Inp) (a : Fin 1) (r : Fin 32) (l : Fin 128) : v446 I (ix3 a r l) = xrow I (2 * r.val + 1) (768 + l.val) :=
  (ldpad I 6 6 _ (by decide) a r l).trans (by congr 1 <;> omega)

/-- A load of the padded columns. -/
theorem a_v448 (I : Inp) (a : Fin 1) (r : Fin 32) (l : Fin 128) : v448 I (ix3 a r l) = xrow I (2 * r.val + 1) (768 + l.val) :=
  (ldpad I 6 6 _ (by decide) a r l).trans (by congr 1 <;> omega)

/-- A load of the padded columns. -/
theorem a_v450 (I : Inp) (a : Fin 1) (r : Fin 32) (l : Fin 128) : v450 I (ix3 a r l) = xrow I (2 * r.val + 2) (768 + l.val) :=
  (ldpad I 6 7 _ (by decide) a r l).trans (by congr 1 <;> omega)

/-- A load of the padded columns. -/
theorem a_v452 (I : Inp) (a : Fin 1) (r : Fin 32) (l : Fin 128) : v452 I (ix3 a r l) = xrow I (2 * r.val + 2) (768 + l.val) :=
  (ldpad I 6 7 _ (by decide) a r l).trans (by congr 1 <;> omega)

/-- A load of the padded columns. -/
theorem a_v454 (I : Inp) (a : Fin 1) (r : Fin 32) (l : Fin 128) : v454 I (ix3 a r l) = xrow I (2 * r.val + 3) (768 + l.val) :=
  (ldpad I 6 8 _ (by decide) a r l).trans (by congr 1 <;> omega)

/-- A load of the padded columns. -/
theorem a_v456 (I : Inp) (a : Fin 1) (r : Fin 32) (l : Fin 128) : v456 I (ix3 a r l) = xrow I (2 * r.val + 3) (768 + l.val) :=
  (ldpad I 6 8 _ (by decide) a r l).trans (by congr 1 <;> omega)

/-- A load of the padded columns. -/
theorem a_v458 (I : Inp) (a : Fin 1) (r : Fin 32) (l : Fin 128) : v458 I (ix3 a r l) = xrow I (2 * r.val + 4) (768 + l.val) :=
  (ldpad I 6 9 _ (by decide) a r l).trans (by congr 1 <;> omega)

/-- A load of the padded columns. -/
theorem a_v497 (I : Inp) (a : Fin 1) (r : Fin 32) (l : Fin 128) : v497 I (ix3 a r l) = xrow I (2 * r.val) (896 + l.val) :=
  (ldpad I 7 5 _ (by decide) a r l).trans (by congr 1 <;> omega)

/-- A load of the padded columns. -/
theorem a_v499 (I : Inp) (a : Fin 1) (r : Fin 32) (l : Fin 128) : v499 I (ix3 a r l) = xrow I (2 * r.val + 1) (896 + l.val) :=
  (ldpad I 7 6 _ (by decide) a r l).trans (by congr 1 <;> omega)

/-- A load of the padded columns. -/
theorem a_v501 (I : Inp) (a : Fin 1) (r : Fin 32) (l : Fin 128) : v501 I (ix3 a r l) = xrow I (2 * r.val + 1) (896 + l.val) :=
  (ldpad I 7 6 _ (by decide) a r l).trans (by congr 1 <;> omega)

/-- A load of the padded columns. -/
theorem a_v503 (I : Inp) (a : Fin 1) (r : Fin 32) (l : Fin 128) : v503 I (ix3 a r l) = xrow I (2 * r.val + 2) (896 + l.val) :=
  (ldpad I 7 7 _ (by decide) a r l).trans (by congr 1 <;> omega)

/-- A load of the padded columns. -/
theorem a_v505 (I : Inp) (a : Fin 1) (r : Fin 32) (l : Fin 128) : v505 I (ix3 a r l) = xrow I (2 * r.val + 2) (896 + l.val) :=
  (ldpad I 7 7 _ (by decide) a r l).trans (by congr 1 <;> omega)

/-- A load of the padded columns. -/
theorem a_v507 (I : Inp) (a : Fin 1) (r : Fin 32) (l : Fin 128) : v507 I (ix3 a r l) = xrow I (2 * r.val + 3) (896 + l.val) :=
  (ldpad I 7 8 _ (by decide) a r l).trans (by congr 1 <;> omega)

/-- A load of the padded columns. -/
theorem a_v509 (I : Inp) (a : Fin 1) (r : Fin 32) (l : Fin 128) : v509 I (ix3 a r l) = xrow I (2 * r.val + 3) (896 + l.val) :=
  (ldpad I 7 8 _ (by decide) a r l).trans (by congr 1 <;> omega)

/-- A load of the padded columns. -/
theorem a_v511 (I : Inp) (a : Fin 1) (r : Fin 32) (l : Fin 128) : v511 I (ix3 a r l) = xrow I (2 * r.val + 4) (896 + l.val) :=
  (ldpad I 7 9 _ (by decide) a r l).trans (by congr 1 <;> omega)

/-- A load of the padded columns. -/
theorem a_v550 (I : Inp) (a : Fin 1) (r : Fin 32) (l : Fin 128) : v550 I (ix3 a r l) = xrow I (2 * r.val) (1024 + l.val) :=
  (ldpad I 8 5 _ (by decide) a r l).trans (by congr 1 <;> omega)

/-- A load of the padded columns. -/
theorem a_v552 (I : Inp) (a : Fin 1) (r : Fin 32) (l : Fin 128) : v552 I (ix3 a r l) = xrow I (2 * r.val + 1) (1024 + l.val) :=
  (ldpad I 8 6 _ (by decide) a r l).trans (by congr 1 <;> omega)

/-- A load of the padded columns. -/
theorem a_v554 (I : Inp) (a : Fin 1) (r : Fin 32) (l : Fin 128) : v554 I (ix3 a r l) = xrow I (2 * r.val + 1) (1024 + l.val) :=
  (ldpad I 8 6 _ (by decide) a r l).trans (by congr 1 <;> omega)

/-- A load of the padded columns. -/
theorem a_v556 (I : Inp) (a : Fin 1) (r : Fin 32) (l : Fin 128) : v556 I (ix3 a r l) = xrow I (2 * r.val + 2) (1024 + l.val) :=
  (ldpad I 8 7 _ (by decide) a r l).trans (by congr 1 <;> omega)

/-- A load of the padded columns. -/
theorem a_v558 (I : Inp) (a : Fin 1) (r : Fin 32) (l : Fin 128) : v558 I (ix3 a r l) = xrow I (2 * r.val + 2) (1024 + l.val) :=
  (ldpad I 8 7 _ (by decide) a r l).trans (by congr 1 <;> omega)

/-- A load of the padded columns. -/
theorem a_v560 (I : Inp) (a : Fin 1) (r : Fin 32) (l : Fin 128) : v560 I (ix3 a r l) = xrow I (2 * r.val + 3) (1024 + l.val) :=
  (ldpad I 8 8 _ (by decide) a r l).trans (by congr 1 <;> omega)

/-- A load of the padded columns. -/
theorem a_v562 (I : Inp) (a : Fin 1) (r : Fin 32) (l : Fin 128) : v562 I (ix3 a r l) = xrow I (2 * r.val + 3) (1024 + l.val) :=
  (ldpad I 8 8 _ (by decide) a r l).trans (by congr 1 <;> omega)

/-- A load of the padded columns. -/
theorem a_v564 (I : Inp) (a : Fin 1) (r : Fin 32) (l : Fin 128) : v564 I (ix3 a r l) = xrow I (2 * r.val + 4) (1024 + l.val) :=
  (ldpad I 8 9 _ (by decide) a r l).trans (by congr 1 <;> omega)

/-- A load of the padded columns. -/
theorem a_v603 (I : Inp) (a : Fin 1) (r : Fin 32) (l : Fin 128) : v603 I (ix3 a r l) = xrow I (2 * r.val) (1152 + l.val) :=
  (ldpad I 9 5 _ (by decide) a r l).trans (by congr 1 <;> omega)

/-- A load of the padded columns. -/
theorem a_v605 (I : Inp) (a : Fin 1) (r : Fin 32) (l : Fin 128) : v605 I (ix3 a r l) = xrow I (2 * r.val + 1) (1152 + l.val) :=
  (ldpad I 9 6 _ (by decide) a r l).trans (by congr 1 <;> omega)

/-- A load of the padded columns. -/
theorem a_v607 (I : Inp) (a : Fin 1) (r : Fin 32) (l : Fin 128) : v607 I (ix3 a r l) = xrow I (2 * r.val + 1) (1152 + l.val) :=
  (ldpad I 9 6 _ (by decide) a r l).trans (by congr 1 <;> omega)

/-- A load of the padded columns. -/
theorem a_v609 (I : Inp) (a : Fin 1) (r : Fin 32) (l : Fin 128) : v609 I (ix3 a r l) = xrow I (2 * r.val + 2) (1152 + l.val) :=
  (ldpad I 9 7 _ (by decide) a r l).trans (by congr 1 <;> omega)

/-- A load of the padded columns. -/
theorem a_v611 (I : Inp) (a : Fin 1) (r : Fin 32) (l : Fin 128) : v611 I (ix3 a r l) = xrow I (2 * r.val + 2) (1152 + l.val) :=
  (ldpad I 9 7 _ (by decide) a r l).trans (by congr 1 <;> omega)

/-- A load of the padded columns. -/
theorem a_v613 (I : Inp) (a : Fin 1) (r : Fin 32) (l : Fin 128) : v613 I (ix3 a r l) = xrow I (2 * r.val + 3) (1152 + l.val) :=
  (ldpad I 9 8 _ (by decide) a r l).trans (by congr 1 <;> omega)

/-- A load of the padded columns. -/
theorem a_v615 (I : Inp) (a : Fin 1) (r : Fin 32) (l : Fin 128) : v615 I (ix3 a r l) = xrow I (2 * r.val + 3) (1152 + l.val) :=
  (ldpad I 9 8 _ (by decide) a r l).trans (by congr 1 <;> omega)

/-- A load of the padded columns. -/
theorem a_v617 (I : Inp) (a : Fin 1) (r : Fin 32) (l : Fin 128) : v617 I (ix3 a r l) = xrow I (2 * r.val + 4) (1152 + l.val) :=
  (ldpad I 9 9 _ (by decide) a r l).trans (by congr 1 <;> omega)

/-- A load of the padded columns. -/
theorem a_v656 (I : Inp) (a : Fin 1) (r : Fin 32) (l : Fin 128) : v656 I (ix3 a r l) = xrow I (2 * r.val) (1280 + l.val) :=
  (ldpad I 10 5 _ (by decide) a r l).trans (by congr 1 <;> omega)

/-- A load of the padded columns. -/
theorem a_v658 (I : Inp) (a : Fin 1) (r : Fin 32) (l : Fin 128) : v658 I (ix3 a r l) = xrow I (2 * r.val + 1) (1280 + l.val) :=
  (ldpad I 10 6 _ (by decide) a r l).trans (by congr 1 <;> omega)

/-- A load of the padded columns. -/
theorem a_v660 (I : Inp) (a : Fin 1) (r : Fin 32) (l : Fin 128) : v660 I (ix3 a r l) = xrow I (2 * r.val + 1) (1280 + l.val) :=
  (ldpad I 10 6 _ (by decide) a r l).trans (by congr 1 <;> omega)

/-- A load of the padded columns. -/
theorem a_v662 (I : Inp) (a : Fin 1) (r : Fin 32) (l : Fin 128) : v662 I (ix3 a r l) = xrow I (2 * r.val + 2) (1280 + l.val) :=
  (ldpad I 10 7 _ (by decide) a r l).trans (by congr 1 <;> omega)

/-- A load of the padded columns. -/
theorem a_v664 (I : Inp) (a : Fin 1) (r : Fin 32) (l : Fin 128) : v664 I (ix3 a r l) = xrow I (2 * r.val + 2) (1280 + l.val) :=
  (ldpad I 10 7 _ (by decide) a r l).trans (by congr 1 <;> omega)

/-- A load of the padded columns. -/
theorem a_v666 (I : Inp) (a : Fin 1) (r : Fin 32) (l : Fin 128) : v666 I (ix3 a r l) = xrow I (2 * r.val + 3) (1280 + l.val) :=
  (ldpad I 10 8 _ (by decide) a r l).trans (by congr 1 <;> omega)

/-- A load of the padded columns. -/
theorem a_v668 (I : Inp) (a : Fin 1) (r : Fin 32) (l : Fin 128) : v668 I (ix3 a r l) = xrow I (2 * r.val + 3) (1280 + l.val) :=
  (ldpad I 10 8 _ (by decide) a r l).trans (by congr 1 <;> omega)

/-- A load of the padded columns. -/
theorem a_v670 (I : Inp) (a : Fin 1) (r : Fin 32) (l : Fin 128) : v670 I (ix3 a r l) = xrow I (2 * r.val + 4) (1280 + l.val) :=
  (ldpad I 10 9 _ (by decide) a r l).trans (by congr 1 <;> omega)

/-- A load of the padded columns. -/
theorem a_v709 (I : Inp) (a : Fin 1) (r : Fin 32) (l : Fin 128) : v709 I (ix3 a r l) = xrow I (2 * r.val) (1408 + l.val) :=
  (ldpad I 11 5 _ (by decide) a r l).trans (by congr 1 <;> omega)

/-- A load of the padded columns. -/
theorem a_v711 (I : Inp) (a : Fin 1) (r : Fin 32) (l : Fin 128) : v711 I (ix3 a r l) = xrow I (2 * r.val + 1) (1408 + l.val) :=
  (ldpad I 11 6 _ (by decide) a r l).trans (by congr 1 <;> omega)

/-- A load of the padded columns. -/
theorem a_v713 (I : Inp) (a : Fin 1) (r : Fin 32) (l : Fin 128) : v713 I (ix3 a r l) = xrow I (2 * r.val + 1) (1408 + l.val) :=
  (ldpad I 11 6 _ (by decide) a r l).trans (by congr 1 <;> omega)

/-- A load of the padded columns. -/
theorem a_v715 (I : Inp) (a : Fin 1) (r : Fin 32) (l : Fin 128) : v715 I (ix3 a r l) = xrow I (2 * r.val + 2) (1408 + l.val) :=
  (ldpad I 11 7 _ (by decide) a r l).trans (by congr 1 <;> omega)

/-- A load of the padded columns. -/
theorem a_v717 (I : Inp) (a : Fin 1) (r : Fin 32) (l : Fin 128) : v717 I (ix3 a r l) = xrow I (2 * r.val + 2) (1408 + l.val) :=
  (ldpad I 11 7 _ (by decide) a r l).trans (by congr 1 <;> omega)

/-- A load of the padded columns. -/
theorem a_v719 (I : Inp) (a : Fin 1) (r : Fin 32) (l : Fin 128) : v719 I (ix3 a r l) = xrow I (2 * r.val + 3) (1408 + l.val) :=
  (ldpad I 11 8 _ (by decide) a r l).trans (by congr 1 <;> omega)

/-- A load of the padded columns. -/
theorem a_v721 (I : Inp) (a : Fin 1) (r : Fin 32) (l : Fin 128) : v721 I (ix3 a r l) = xrow I (2 * r.val + 3) (1408 + l.val) :=
  (ldpad I 11 8 _ (by decide) a r l).trans (by congr 1 <;> omega)

/-- A load of the padded columns. -/
theorem a_v723 (I : Inp) (a : Fin 1) (r : Fin 32) (l : Fin 128) : v723 I (ix3 a r l) = xrow I (2 * r.val + 4) (1408 + l.val) :=
  (ldpad I 11 9 _ (by decide) a r l).trans (by congr 1 <;> omega)

/-- A load of the padded columns. -/
theorem a_v762 (I : Inp) (a : Fin 1) (r : Fin 32) (l : Fin 128) : v762 I (ix3 a r l) = xrow I (2 * r.val) (1536 + l.val) :=
  (ldpad I 12 5 _ (by decide) a r l).trans (by congr 1 <;> omega)

/-- A load of the padded columns. -/
theorem a_v764 (I : Inp) (a : Fin 1) (r : Fin 32) (l : Fin 128) : v764 I (ix3 a r l) = xrow I (2 * r.val + 1) (1536 + l.val) :=
  (ldpad I 12 6 _ (by decide) a r l).trans (by congr 1 <;> omega)

/-- A load of the padded columns. -/
theorem a_v766 (I : Inp) (a : Fin 1) (r : Fin 32) (l : Fin 128) : v766 I (ix3 a r l) = xrow I (2 * r.val + 1) (1536 + l.val) :=
  (ldpad I 12 6 _ (by decide) a r l).trans (by congr 1 <;> omega)

/-- A load of the padded columns. -/
theorem a_v768 (I : Inp) (a : Fin 1) (r : Fin 32) (l : Fin 128) : v768 I (ix3 a r l) = xrow I (2 * r.val + 2) (1536 + l.val) :=
  (ldpad I 12 7 _ (by decide) a r l).trans (by congr 1 <;> omega)

/-- A load of the padded columns. -/
theorem a_v770 (I : Inp) (a : Fin 1) (r : Fin 32) (l : Fin 128) : v770 I (ix3 a r l) = xrow I (2 * r.val + 2) (1536 + l.val) :=
  (ldpad I 12 7 _ (by decide) a r l).trans (by congr 1 <;> omega)

/-- A load of the padded columns. -/
theorem a_v772 (I : Inp) (a : Fin 1) (r : Fin 32) (l : Fin 128) : v772 I (ix3 a r l) = xrow I (2 * r.val + 3) (1536 + l.val) :=
  (ldpad I 12 8 _ (by decide) a r l).trans (by congr 1 <;> omega)

/-- A load of the padded columns. -/
theorem a_v774 (I : Inp) (a : Fin 1) (r : Fin 32) (l : Fin 128) : v774 I (ix3 a r l) = xrow I (2 * r.val + 3) (1536 + l.val) :=
  (ldpad I 12 8 _ (by decide) a r l).trans (by congr 1 <;> omega)

/-- A load of the padded columns. -/
theorem a_v776 (I : Inp) (a : Fin 1) (r : Fin 32) (l : Fin 128) : v776 I (ix3 a r l) = xrow I (2 * r.val + 4) (1536 + l.val) :=
  (ldpad I 12 9 _ (by decide) a r l).trans (by congr 1 <;> omega)

/-- A load of the padded columns. -/
theorem a_v815 (I : Inp) (a : Fin 1) (r : Fin 32) (l : Fin 128) : v815 I (ix3 a r l) = xrow I (2 * r.val) (1664 + l.val) :=
  (ldpad I 13 5 _ (by decide) a r l).trans (by congr 1 <;> omega)

/-- A load of the padded columns. -/
theorem a_v817 (I : Inp) (a : Fin 1) (r : Fin 32) (l : Fin 128) : v817 I (ix3 a r l) = xrow I (2 * r.val + 1) (1664 + l.val) :=
  (ldpad I 13 6 _ (by decide) a r l).trans (by congr 1 <;> omega)

/-- A load of the padded columns. -/
theorem a_v819 (I : Inp) (a : Fin 1) (r : Fin 32) (l : Fin 128) : v819 I (ix3 a r l) = xrow I (2 * r.val + 1) (1664 + l.val) :=
  (ldpad I 13 6 _ (by decide) a r l).trans (by congr 1 <;> omega)

/-- A load of the padded columns. -/
theorem a_v821 (I : Inp) (a : Fin 1) (r : Fin 32) (l : Fin 128) : v821 I (ix3 a r l) = xrow I (2 * r.val + 2) (1664 + l.val) :=
  (ldpad I 13 7 _ (by decide) a r l).trans (by congr 1 <;> omega)

/-- A load of the padded columns. -/
theorem a_v823 (I : Inp) (a : Fin 1) (r : Fin 32) (l : Fin 128) : v823 I (ix3 a r l) = xrow I (2 * r.val + 2) (1664 + l.val) :=
  (ldpad I 13 7 _ (by decide) a r l).trans (by congr 1 <;> omega)

/-- A load of the padded columns. -/
theorem a_v825 (I : Inp) (a : Fin 1) (r : Fin 32) (l : Fin 128) : v825 I (ix3 a r l) = xrow I (2 * r.val + 3) (1664 + l.val) :=
  (ldpad I 13 8 _ (by decide) a r l).trans (by congr 1 <;> omega)

/-- A load of the padded columns. -/
theorem a_v827 (I : Inp) (a : Fin 1) (r : Fin 32) (l : Fin 128) : v827 I (ix3 a r l) = xrow I (2 * r.val + 3) (1664 + l.val) :=
  (ldpad I 13 8 _ (by decide) a r l).trans (by congr 1 <;> omega)

/-- A load of the padded columns. -/
theorem a_v829 (I : Inp) (a : Fin 1) (r : Fin 32) (l : Fin 128) : v829 I (ix3 a r l) = xrow I (2 * r.val + 4) (1664 + l.val) :=
  (ldpad I 13 9 _ (by decide) a r l).trans (by congr 1 <;> omega)

/-- A load of the padded columns. -/
theorem a_v868 (I : Inp) (a : Fin 1) (r : Fin 32) (l : Fin 128) : v868 I (ix3 a r l) = xrow I (2 * r.val) (1792 + l.val) :=
  (ldpad I 14 5 _ (by decide) a r l).trans (by congr 1 <;> omega)

/-- A load of the padded columns. -/
theorem a_v870 (I : Inp) (a : Fin 1) (r : Fin 32) (l : Fin 128) : v870 I (ix3 a r l) = xrow I (2 * r.val + 1) (1792 + l.val) :=
  (ldpad I 14 6 _ (by decide) a r l).trans (by congr 1 <;> omega)

/-- A load of the padded columns. -/
theorem a_v872 (I : Inp) (a : Fin 1) (r : Fin 32) (l : Fin 128) : v872 I (ix3 a r l) = xrow I (2 * r.val + 1) (1792 + l.val) :=
  (ldpad I 14 6 _ (by decide) a r l).trans (by congr 1 <;> omega)

/-- A load of the padded columns. -/
theorem a_v874 (I : Inp) (a : Fin 1) (r : Fin 32) (l : Fin 128) : v874 I (ix3 a r l) = xrow I (2 * r.val + 2) (1792 + l.val) :=
  (ldpad I 14 7 _ (by decide) a r l).trans (by congr 1 <;> omega)

/-- A load of the padded columns. -/
theorem a_v876 (I : Inp) (a : Fin 1) (r : Fin 32) (l : Fin 128) : v876 I (ix3 a r l) = xrow I (2 * r.val + 2) (1792 + l.val) :=
  (ldpad I 14 7 _ (by decide) a r l).trans (by congr 1 <;> omega)

/-- A load of the padded columns. -/
theorem a_v878 (I : Inp) (a : Fin 1) (r : Fin 32) (l : Fin 128) : v878 I (ix3 a r l) = xrow I (2 * r.val + 3) (1792 + l.val) :=
  (ldpad I 14 8 _ (by decide) a r l).trans (by congr 1 <;> omega)

/-- A load of the padded columns. -/
theorem a_v880 (I : Inp) (a : Fin 1) (r : Fin 32) (l : Fin 128) : v880 I (ix3 a r l) = xrow I (2 * r.val + 3) (1792 + l.val) :=
  (ldpad I 14 8 _ (by decide) a r l).trans (by congr 1 <;> omega)

/-- A load of the padded columns. -/
theorem a_v882 (I : Inp) (a : Fin 1) (r : Fin 32) (l : Fin 128) : v882 I (ix3 a r l) = xrow I (2 * r.val + 4) (1792 + l.val) :=
  (ldpad I 14 9 _ (by decide) a r l).trans (by congr 1 <;> omega)

/-- A load of the padded columns. -/
theorem a_v921 (I : Inp) (a : Fin 1) (r : Fin 32) (l : Fin 128) : v921 I (ix3 a r l) = xrow I (2 * r.val) (1920 + l.val) :=
  (ldpad I 15 5 _ (by decide) a r l).trans (by congr 1 <;> omega)

/-- A load of the padded columns. -/
theorem a_v923 (I : Inp) (a : Fin 1) (r : Fin 32) (l : Fin 128) : v923 I (ix3 a r l) = xrow I (2 * r.val + 1) (1920 + l.val) :=
  (ldpad I 15 6 _ (by decide) a r l).trans (by congr 1 <;> omega)

/-- A load of the padded columns. -/
theorem a_v925 (I : Inp) (a : Fin 1) (r : Fin 32) (l : Fin 128) : v925 I (ix3 a r l) = xrow I (2 * r.val + 1) (1920 + l.val) :=
  (ldpad I 15 6 _ (by decide) a r l).trans (by congr 1 <;> omega)

/-- A load of the padded columns. -/
theorem a_v927 (I : Inp) (a : Fin 1) (r : Fin 32) (l : Fin 128) : v927 I (ix3 a r l) = xrow I (2 * r.val + 2) (1920 + l.val) :=
  (ldpad I 15 7 _ (by decide) a r l).trans (by congr 1 <;> omega)

/-- A load of the padded columns. -/
theorem a_v929 (I : Inp) (a : Fin 1) (r : Fin 32) (l : Fin 128) : v929 I (ix3 a r l) = xrow I (2 * r.val + 2) (1920 + l.val) :=
  (ldpad I 15 7 _ (by decide) a r l).trans (by congr 1 <;> omega)

/-- A load of the padded columns. -/
theorem a_v931 (I : Inp) (a : Fin 1) (r : Fin 32) (l : Fin 128) : v931 I (ix3 a r l) = xrow I (2 * r.val + 3) (1920 + l.val) :=
  (ldpad I 15 8 _ (by decide) a r l).trans (by congr 1 <;> omega)

/-- A load of the padded columns. -/
theorem a_v933 (I : Inp) (a : Fin 1) (r : Fin 32) (l : Fin 128) : v933 I (ix3 a r l) = xrow I (2 * r.val + 3) (1920 + l.val) :=
  (ldpad I 15 8 _ (by decide) a r l).trans (by congr 1 <;> omega)

/-- A load of the padded columns. -/
theorem a_v935 (I : Inp) (a : Fin 1) (r : Fin 32) (l : Fin 128) : v935 I (ix3 a r l) = xrow I (2 * r.val + 4) (1920 + l.val) :=
  (ldpad I 15 9 _ (by decide) a r l).trans (by congr 1 <;> omega)

/-- Column block 0 of the convolution. -/
theorem a_v178 (I : Inp) (r : Fin 64) (l : Fin 128) : v178 I (ix2 r l) = cv I (tm r) (128 * 0 + l.val) := by
  unfold tm cv
  pointwise [v178, v158, v124, v155, v141, v137, v133, v129, k0_pay66, k0_pay65, k0_pay59, k0_pay64, k0_pay63, k0_pay62, k0_pay61, k0_pay60, v125]
  split
  · next h => simp only [cw_at, cb_at, a_v126, a_v128, a_v130, a_v132, a_v134, a_v136, a_v138, a_v140, if_pos h]; rfl
  · next h => simp only [cw_at, cb_at, a_v126, a_v128, a_v130, a_v132, a_v134, a_v136, a_v138, a_v140, if_neg h]; rfl

/-- Column block 1 of the convolution. -/
theorem a_v231 (I : Inp) (r : Fin 64) (l : Fin 128) : v231 I (ix2 r l) = cv I (tm r) (128 * 1 + l.val) := by
  unfold tm cv
  pointwise [v231, v194, v192, v190, v188, v186, v184, v182, v180, v124, k0_pay75, k0_pay74, k0_pay73, k0_pay72, k0_pay71, k0_pay70, k0_pay69, k0_pay68, k0_pay67, k0_pay59, v125]
  split
  · next h => simp only [cw_at, cb_at, a_v179, a_v181, a_v183, a_v185, a_v187, a_v189, a_v191, a_v193, if_pos h]; rfl
  · next h => simp only [cw_at, cb_at, a_v179, a_v181, a_v183, a_v185, a_v187, a_v189, a_v191, a_v193, if_neg h]; rfl

/-- Column block 2 of the convolution. -/
theorem a_v284 (I : Inp) (r : Fin 64) (l : Fin 128) : v284 I (ix2 r l) = cv I (tm r) (128 * 2 + l.val) := by
  unfold tm cv
  pointwise [v284, v239, v237, v235, v233, v124, k0_pay80, k0_pay79, k0_pay78, k0_pay77, k0_pay76, k0_pay59, v125]
  split
  · next h => simp only [cw_at, cb_at, a_v232, a_v234, a_v236, a_v238, a_v240, a_v242, a_v244, a_v246, if_pos h]; rfl
  · next h => simp only [cw_at, cb_at, a_v232, a_v234, a_v236, a_v238, a_v240, a_v242, a_v244, a_v246, if_neg h]; rfl

/-- Column block 3 of the convolution. -/
theorem a_v337 (I : Inp) (r : Fin 64) (l : Fin 128) : v337 I (ix2 r l) = cv I (tm r) (128 * 3 + l.val) := by
  unfold tm cv
  pointwise [v337, v326, v124, v324, v318, v286, v300, v296, v292, k0_pay88, k0_pay87, k0_pay59, k0_pay86, k0_pay85, k0_pay81, k0_pay84, k0_pay83, k0_pay82, v125]
  split
  · next h => simp only [cw_at, cb_at, a_v285, a_v287, a_v289, a_v291, a_v293, a_v295, a_v297, a_v299, if_pos h]; rfl
  · next h => simp only [cw_at, cb_at, a_v285, a_v287, a_v289, a_v291, a_v293, a_v295, a_v297, a_v299, if_neg h]; rfl

/-- Column block 4 of the convolution. -/
theorem a_v390 (I : Inp) (r : Fin 64) (l : Fin 128) : v390 I (ix2 r l) = cv I (tm r) (128 * 4 + l.val) := by
  unfold tm cv
  pointwise [v390, v362, v124, v359, v353, v351, v349, v347, v345, v341, k0_pay97, k0_pay96, k0_pay59, k0_pay95, k0_pay94, k0_pay93, k0_pay92, k0_pay91, k0_pay90, k0_pay89, v125]
  split
  · next h => simp only [cw_at, cb_at, a_v338, a_v340, a_v342, a_v344, a_v346, a_v348, a_v350, a_v352, if_pos h]; rfl
  · next h => simp only [cw_at, cb_at, a_v338, a_v340, a_v342, a_v344, a_v346, a_v348, a_v350, a_v352, if_neg h]; rfl

/-- Column block 5 of the convolution. -/
theorem a_v443 (I : Inp) (r : Fin 64) (l : Fin 128) : v443 I (ix2 r l) = cv I (tm r) (128 * 5 + l.val) := by
  unfold tm cv
  pointwise [v443, v402, v400, v398, v396, v394, v392, v124, k0_pay104, k0_pay103, k0_pay102, k0_pay101, k0_pay100, k0_pay99, k0_pay98, k0_pay59, v125]
  split
  · next h => simp only [cw_at, cb_at, a_v391, a_v393, a_v395, a_v397, a_v399, a_v401, a_v403, a_v405, if_pos h]; rfl
  · next h => simp only [cw_at, cb_at, a_v391, a_v393, a_v395, a_v397, a_v399, a_v401, a_v403, a_v405, if_neg h]; rfl

/-- Column block 6 of the convolution. -/
theorem a_v496 (I : Inp) (r : Fin 64) (l : Fin 128) : v496 I (ix2 r l) = cv I (tm r) (128 * 6 + l.val) := by
  unfold tm cv
  pointwise [v496, v494, v124, v491, v447, v477, v449, v445, k0_pay111, k0_pay110, k0_pay59, k0_pay109, k0_pay106, k0_pay108, k0_pay107, k0_pay105, v125]
  split
  · next h => simp only [cw_at, cb_at, a_v444, a_v446, a_v448, a_v450, a_v452, a_v454, a_v456, a_v458, if_pos h]; rfl
  · next h => simp only [cw_at, cb_at, a_v444, a_v446, a_v448, a_v450, a_v452, a_v454, a_v456, a_v458, if_neg h]; rfl

/-- Column block 7 of the convolution. -/
theorem a_v549 (I : Inp) (r : Fin 64) (l : Fin 128) : v549 I (ix2 r l) = cv I (tm r) (128 * 7 + l.val) := by
  unfold tm cv
  pointwise [v549, v530, v124, v512, v508, v504, v500, k0_pay117, k0_pay116, k0_pay59, k0_pay115, k0_pay114, k0_pay113, k0_pay112, v125]
  split
  · next h => simp only [cw_at, cb_at, a_v497, a_v499, a_v501, a_v503, a_v505, a_v507, a_v509, a_v511, if_pos h]; rfl
  · next h => simp only [cw_at, cb_at, a_v497, a_v499, a_v501, a_v503, a_v505, a_v507, a_v509, a_v511, if_neg h]; rfl

/-- Column block 8 of the convolution. -/
theorem a_v602 (I : Inp) (r : Fin 64) (l : Fin 128) : v602 I (ix2 r l) = cv I (tm r) (128 * 8 + l.val) := by
  unfold tm cv
  pointwise [v602, v566, v565, v563, v561, v559, v557, v555, v553, v551, v124, k0_pay127, k0_pay126, k0_pay125, k0_pay124, k0_pay123, k0_pay122, k0_pay121, k0_pay120, k0_pay119, k0_pay118, k0_pay59, v125]
  split
  · next h => simp only [cw_at, cb_at, a_v550, a_v552, a_v554, a_v556, a_v558, a_v560, a_v562, a_v564, if_pos h]; rfl
  · next h => simp only [cw_at, cb_at, a_v550, a_v552, a_v554, a_v556, a_v558, a_v560, a_v562, a_v564, if_neg h]; rfl

/-- Column block 9 of the convolution. -/
theorem a_v655 (I : Inp) (r : Fin 64) (l : Fin 128) : v655 I (ix2 r l) = cv I (tm r) (128 * 9 + l.val) := by
  unfold tm cv
  pointwise [v655, v610, v608, v606, v604, v124, k0_pay132, k0_pay131, k0_pay130, k0_pay129, k0_pay128, k0_pay59, v125]
  split
  · next h => simp only [cw_at, cb_at, a_v603, a_v605, a_v607, a_v609, a_v611, a_v613, a_v615, a_v617, if_pos h]; rfl
  · next h => simp only [cw_at, cb_at, a_v603, a_v605, a_v607, a_v609, a_v611, a_v613, a_v615, a_v617, if_neg h]; rfl

/-- Column block 10 of the convolution. -/
theorem a_v708 (I : Inp) (r : Fin 64) (l : Fin 128) : v708 I (ix2 r l) = cv I (tm r) (128 * 10 + l.val) := by
  unfold tm cv
  pointwise [v708, v698, v124, v695, v689, v657, v671, v667, k0_pay139, k0_pay138, k0_pay59, k0_pay137, k0_pay136, k0_pay133, k0_pay135, k0_pay134, v125]
  split
  · next h => simp only [cw_at, cb_at, a_v656, a_v658, a_v660, a_v662, a_v664, a_v666, a_v668, a_v670, if_pos h]; rfl
  · next h => simp only [cw_at, cb_at, a_v656, a_v658, a_v660, a_v662, a_v664, a_v666, a_v668, a_v670, if_neg h]; rfl

/-- Column block 11 of the convolution. -/
theorem a_v761 (I : Inp) (r : Fin 64) (l : Fin 128) : v761 I (ix2 r l) = cv I (tm r) (128 * 11 + l.val) := by
  unfold tm cv
  pointwise [v761, v734, v124, v724, v722, v720, v718, v716, v712, k0_pay147, k0_pay146, k0_pay59, k0_pay145, k0_pay144, k0_pay143, k0_pay142, k0_pay141, k0_pay140, v125]
  split
  · next h => simp only [cw_at, cb_at, a_v709, a_v711, a_v713, a_v715, a_v717, a_v719, a_v721, a_v723, if_pos h]; rfl
  · next h => simp only [cw_at, cb_at, a_v709, a_v711, a_v713, a_v715, a_v717, a_v719, a_v721, a_v723, if_neg h]; rfl

/-- Column block 12 of the convolution. -/
theorem a_v814 (I : Inp) (r : Fin 64) (l : Fin 128) : v814 I (ix2 r l) = cv I (tm r) (128 * 12 + l.val) := by
  unfold tm cv
  pointwise [v814, v773, v771, v769, v767, v765, v763, v124, k0_pay154, k0_pay153, k0_pay152, k0_pay151, k0_pay150, k0_pay149, k0_pay148, k0_pay59, v125]
  split
  · next h => simp only [cw_at, cb_at, a_v762, a_v764, a_v766, a_v768, a_v770, a_v772, a_v774, a_v776, if_pos h]; rfl
  · next h => simp only [cw_at, cb_at, a_v762, a_v764, a_v766, a_v768, a_v770, a_v772, a_v774, a_v776, if_neg h]; rfl

/-- Column block 13 of the convolution. -/
theorem a_v867 (I : Inp) (r : Fin 64) (l : Fin 128) : v867 I (ix2 r l) = cv I (tm r) (128 * 13 + l.val) := by
  unfold tm cv
  pointwise [v867, v866, v818, v124, v848, v820, v816, k0_pay160, k0_pay159, k0_pay156, k0_pay59, k0_pay158, k0_pay157, k0_pay155, v125]
  split
  · next h => simp only [cw_at, cb_at, a_v815, a_v817, a_v819, a_v821, a_v823, a_v825, a_v827, a_v829, if_pos h]; rfl
  · next h => simp only [cw_at, cb_at, a_v815, a_v817, a_v819, a_v821, a_v823, a_v825, a_v827, a_v829, if_neg h]; rfl

/-- Column block 14 of the convolution. -/
theorem a_v920 (I : Inp) (r : Fin 64) (l : Fin 128) : v920 I (ix2 r l) = cv I (tm r) (128 * 14 + l.val) := by
  unfold tm cv
  pointwise [v920, v902, v901, v124, v883, v879, v875, v871, k0_pay167, k0_pay166, k0_pay165, k0_pay59, k0_pay164, k0_pay163, k0_pay162, k0_pay161, v125]
  split
  · next h => simp only [cw_at, cb_at, a_v868, a_v870, a_v872, a_v874, a_v876, a_v878, a_v880, a_v882, if_pos h]; rfl
  · next h => simp only [cw_at, cb_at, a_v868, a_v870, a_v872, a_v874, a_v876, a_v878, a_v880, a_v882, if_neg h]; rfl

end Cert.Ssd
-- ==== Proof.SsdAct.lean ====
module
public import proofs.«01_k».proof.Proof.SsdConv
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

/-- 16 column blocks side by side, read at a column. -/
theorem cat16 (f0 f1 f2 f3 f4 f5 f6 f7 f8 f9 f10 f11 f12 f13 f14 f15 : S64x128.Idx → EReal) (F : ℕ → ℕ → EReal) (h) (h0 : ∀ r l, f0 (ix2 r l) = F r.val (128 * 0 + l.val)) (h1 : ∀ r l, f1 (ix2 r l) = F r.val (128 * 1 + l.val)) (h2 : ∀ r l, f2 (ix2 r l) = F r.val (128 * 2 + l.val)) (h3 : ∀ r l, f3 (ix2 r l) = F r.val (128 * 3 + l.val)) (h4 : ∀ r l, f4 (ix2 r l) = F r.val (128 * 4 + l.val)) (h5 : ∀ r l, f5 (ix2 r l) = F r.val (128 * 5 + l.val)) (h6 : ∀ r l, f6 (ix2 r l) = F r.val (128 * 6 + l.val)) (h7 : ∀ r l, f7 (ix2 r l) = F r.val (128 * 7 + l.val)) (h8 : ∀ r l, f8 (ix2 r l) = F r.val (128 * 8 + l.val)) (h9 : ∀ r l, f9 (ix2 r l) = F r.val (128 * 9 + l.val)) (h10 : ∀ r l, f10 (ix2 r l) = F r.val (128 * 10 + l.val)) (h11 : ∀ r l, f11 (ix2 r l) = F r.val (128 * 11 + l.val)) (h12 : ∀ r l, f12 (ix2 r l) = F r.val (128 * 12 + l.val)) (h13 : ∀ r l, f13 (ix2 r l) = F r.val (128 * 13 + l.val)) (h14 : ∀ r l, f14 (ix2 r l) = F r.val (128 * 14 + l.val)) (h15 : ∀ r l, f15 (ix2 r l) = F r.val (128 * 15 + l.val)) (r : Fin 64) (c : Fin 2048) :
    concatenate S64x2048 1 [⟨S64x128, f0⟩, ⟨S64x128, f1⟩, ⟨S64x128, f2⟩, ⟨S64x128, f3⟩, ⟨S64x128, f4⟩, ⟨S64x128, f5⟩, ⟨S64x128, f6⟩, ⟨S64x128, f7⟩, ⟨S64x128, f8⟩, ⟨S64x128, f9⟩, ⟨S64x128, f10⟩, ⟨S64x128, f11⟩, ⟨S64x128, f12⟩, ⟨S64x128, f13⟩, ⟨S64x128, f14⟩, ⟨S64x128, f15⟩] h (ix2 r c) = F r.val c.val := by
  have hc := c.isLt
  have hall : ∀ (n : Fin 16) (l : Fin 128), (![f0, f1, f2, f3, f4, f5, f6, f7, f8, f9, f10, f11, f12, f13, f14, f15] : Fin 16 → (S64x128.Idx → EReal)) n (ix2 r l) = F r.val (128 * n.val + l.val) := by
    intro n l
    match n with
    | ⟨0, _⟩ => exact h0 r l
    | ⟨1, _⟩ => exact h1 r l
    | ⟨2, _⟩ => exact h2 r l
    | ⟨3, _⟩ => exact h3 r l
    | ⟨4, _⟩ => exact h4 r l
    | ⟨5, _⟩ => exact h5 r l
    | ⟨6, _⟩ => exact h6 r l
    | ⟨7, _⟩ => exact h7 r l
    | ⟨8, _⟩ => exact h8 r l
    | ⟨9, _⟩ => exact h9 r l
    | ⟨10, _⟩ => exact h10 r l
    | ⟨11, _⟩ => exact h11 r l
    | ⟨12, _⟩ => exact h12 r l
    | ⟨13, _⟩ => exact h13 r l
    | ⟨14, _⟩ => exact h14 r l
    | ⟨15, _⟩ => exact h15 r l
    | ⟨n + 16, hn⟩ => exact absurd hn (by omega)
  refine (concatenate_ofFn_apply (t := S64x2048) (s₁ := S64x128) 1 (![f0, f1, f2, f3, f4, f5, f6, f7, f8, f9, f10, f11, f12, f13, f14, f15] : Fin 16 → (S64x128.Idx → EReal)) h rfl 128 rfl (ix2 r c)
    ⟨c.val / 128, by omega⟩ rfl (ix2 r ⟨c.val % 128, by omega⟩) rfl ?_).trans ((hall _ _).trans ?_)
  · intro b hb
    match b with
    | 0 => rfl
    | 1 => exact absurd rfl hb
  · congr 1
    show 128 * (c.val / 128) + c.val % 128 = c.val
    omega

/-- 8 column blocks side by side, read at a column. -/
theorem cat8 (f0 f1 f2 f3 f4 f5 f6 f7 : S64x128.Idx → EReal) (F : ℕ → ℕ → EReal) (h) (h0 : ∀ r l, f0 (ix2 r l) = F r.val (128 * 0 + l.val)) (h1 : ∀ r l, f1 (ix2 r l) = F r.val (128 * 1 + l.val)) (h2 : ∀ r l, f2 (ix2 r l) = F r.val (128 * 2 + l.val)) (h3 : ∀ r l, f3 (ix2 r l) = F r.val (128 * 3 + l.val)) (h4 : ∀ r l, f4 (ix2 r l) = F r.val (128 * 4 + l.val)) (h5 : ∀ r l, f5 (ix2 r l) = F r.val (128 * 5 + l.val)) (h6 : ∀ r l, f6 (ix2 r l) = F r.val (128 * 6 + l.val)) (h7 : ∀ r l, f7 (ix2 r l) = F r.val (128 * 7 + l.val)) (r : Fin 64) (c : Fin 1024) :
    concatenate S64x1024 1 [⟨S64x128, f0⟩, ⟨S64x128, f1⟩, ⟨S64x128, f2⟩, ⟨S64x128, f3⟩, ⟨S64x128, f4⟩, ⟨S64x128, f5⟩, ⟨S64x128, f6⟩, ⟨S64x128, f7⟩] h (ix2 r c) = F r.val c.val := by
  have hc := c.isLt
  have hall : ∀ (n : Fin 8) (l : Fin 128), (![f0, f1, f2, f3, f4, f5, f6, f7] : Fin 8 → (S64x128.Idx → EReal)) n (ix2 r l) = F r.val (128 * n.val + l.val) := by
    intro n l
    match n with
    | ⟨0, _⟩ => exact h0 r l
    | ⟨1, _⟩ => exact h1 r l
    | ⟨2, _⟩ => exact h2 r l
    | ⟨3, _⟩ => exact h3 r l
    | ⟨4, _⟩ => exact h4 r l
    | ⟨5, _⟩ => exact h5 r l
    | ⟨6, _⟩ => exact h6 r l
    | ⟨7, _⟩ => exact h7 r l
    | ⟨n + 8, hn⟩ => exact absurd hn (by omega)
  refine (concatenate_ofFn_apply (t := S64x1024) (s₁ := S64x128) 1 (![f0, f1, f2, f3, f4, f5, f6, f7] : Fin 8 → (S64x128.Idx → EReal)) h rfl 128 rfl (ix2 r c)
    ⟨c.val / 128, by omega⟩ rfl (ix2 r ⟨c.val % 128, by omega⟩) rfl ?_).trans ((hall _ _).trans ?_)
  · intro b hb
    match b with
    | 0 => rfl
    | 1 => exact absurd rfl hb
  · congr 1
    show 128 * (c.val / 128) + c.val % 128 = c.val
    omega

/-- The activated convolution at time `t` and channel `c`. -/
def act (I : Inp) (t c : ℕ) : EReal := cv I t c * Ideal.logistic (cv I t c)

/-- The kernel's activation is the activated convolution of the time the row stands for. -/
theorem a_act (I : Inp) (r : Fin 64) (c : Fin 2048) :
    k0_pay178 (v124 I) (v125 I) (v178 I) (v231 I) (v284 I) (v337 I) (v390 I) (v443 I) (v496 I) (v549 I) (v602 I) (v655 I) (v708 I) (v761 I) (v814 I) (v867 I) (v920 I) (v922 I) (v924 I) (v926 I) (v928 I) (v930 I) (v932 I) (v934 I) (v936 I) (v937 I) (v938 I) (ix2 r c) = act I (tm r) c := by
  unfold act k0_pay178
  rw [mulf_apply, logistic_apply]
  rw [cat16 _ _ _ _ _ _ _ _ _ _ _ _ _ _ _ _ (fun r c => cv I (tm r) c) _ (a_v178 I) (a_v231 I) (a_v284 I) (a_v337 I) (a_v390 I) (a_v443 I) (a_v496 I) (a_v549 I) (a_v602 I) (a_v655 I) (a_v708 I) (a_v761 I) (a_v814 I) (a_v867 I) (a_v920 I) ?_ r c]
  · rfl
  · intro r l
    unfold tm cv
    pointwise [v922, v924, v926, v928, v930, v932, v934, v936, v937, v938, v124, v125, k0_pay168, k0_pay169, k0_pay170, k0_pay171, k0_pay172, k0_pay173, k0_pay174, k0_pay175, k0_pay176, k0_pay177, k0_pay59]
    split
    · next h => simp only [cw_at, cb_at, a_v921, a_v923, a_v925, a_v927, a_v929, a_v931, a_v933, a_v935, if_pos h]; rfl
    · next h => simp only [cw_at, cb_at, a_v921, a_v923, a_v925, a_v927, a_v929, a_v931, a_v933, a_v935, if_neg h]; rfl

/-- The activated columns from 0 on. -/
theorem a_v977 (I : Inp) (r : Fin 64) (c : Fin 1024) : v977 I (ix2 r c) = act I (tm r) (c.val) := by
  pointwise [v977, k0_pay179]
  exact a_act I r ⟨c.val, by omega⟩

/-- The activated columns from 1024 on. -/
theorem a_v979 (I : Inp) (r : Fin 64) (c : Fin 512) : v979 I (ix2 r c) = act I (tm r) (1024 + c.val) := by
  pointwise [v979, k0_pay180]
  exact a_act I r ⟨1024 + c.val, by omega⟩

/-- The activated columns from 1536 on. -/
theorem a_v981 (I : Inp) (r : Fin 64) (c : Fin 512) : v981 I (ix2 r c) = act I (tm r) (1536 + c.val) := by
  pointwise [v981, k0_pay181]
  exact a_act I r ⟨1536 + c.val, by omega⟩

/-- The step size before the softplus at time `t` and head `h` (zero past the end). -/
def dtr (I : Inp) (t h : ℕ) : EReal :=
  if k : t < 64 ∧ h < 128 then I.w2 (ix3 0 ⟨t, k.1⟩ ⟨h, k.2⟩) + I.w5 (ix2 0 ⟨h, k.2⟩) else 0

/-- The softplus of one number, as the kernel writes it. -/
def spl (x : EReal) : EReal :=
  max x 0 + Ideal.log1p (Ideal.exp (0 - FloatOps.absf (F := Ideal) (φ := .f32) x))

/-- The step size at time `t`: zero from the sixteenth on. -/
def dtc (I : Inp) (t h : ℕ) : EReal := if t < 16 then spl (dtr I t h) else 0

/-- The logarithm of the decay in one step. -/
def da (I : Inp) (t h : ℕ) : EReal := dtc I t h * (if k : h < 128 then 0 - Ideal.exp (I.w6 (ix2 0 ⟨h, k⟩)) else 0)

/-- The row's time, read off its bits, is compared with sixteen. -/
theorem tm_lt (r : Fin 64) : IntOp.cmpi CmpIPredicate.slt
      (IntOp.ori (IntOp.shli ArithUnit.vector (IntOp.andi (BitVec.ofNat 32 r.val) 31#32) 1#32) (IntOp.shrsi ArithUnit.vector (BitVec.ofNat 32 r.val) 5#32))
      16#32 = if tm r.val < 16 then 1#1 else 0#1 := by
  revert r; decide

/-- The step size before the softplus. -/
theorem a_v990 (I : Inp) (r : Fin 64) (h : Fin 128) : v990 I (ix2 r h) = dtr I (tm r) h := by
  unfold dtr tm
  pointwise [v990, k0_pay182, v982, v984, v987]
  rw [dif_pos (show (if r.val < 32 then 2 * r.val else 2 * (r.val - 32) + 1) < 64 by split <;> omega)]
  congr 1
  split
  · rfl
  · exact congrArg (fun n => I.w2 (ix3 0 n h)) (Fin.ext (Nat.add_comm _ _))

/-- The step size. -/
theorem a_v1016 (I : Inp) (r : Fin 64) (h : Fin 128) : v1016 I (ix2 r h) = dtc I (tm r) h := by
  unfold dtc spl
  pointwise [v1016, k0_pay183]
  rw [tm_lt, a_v990, if_neg (fun h => h rfl : ¬ (dtr I (tm r.val) h.val ≠ dtr I (tm r.val) h.val))]
  by_cases k : tm r.val < 16
  · rw [if_pos k, if_pos k]; rfl
  · rw [if_neg k, if_neg k]; rfl

/-- The logarithm of the decay. -/
theorem a_v1023 (I : Inp) (r : Fin 64) (h : Fin 128) : v1023 I (ix2 r h) = da I (tm r) h := by
  unfold da
  pointwise [v1023, k0_pay184, v1017]
  rw [show k0_pay183 (v990 I) (ix2 r h) = dtc I (tm r) h from a_v1016 I r h]

/-- One step of the running sum: add the rows `k` up, where there are any. -/
def shf (x : FVec Ideal S32x128 .f32) (k : BitVec 32) : FVec Ideal S32x128 .f32 :=
  addf x (select (cmpi .sge (iota .tc S32x128 32 [0] iota_S32x128_d0_w32) (broadcast S32x128 k))
    (dynamicRotate 0 k none x rotates_S32x128_d0) (broadcast S32x128 (Scalar.ofBits .f32 0x00000000#32)))

/-- The rows 1 up, read at an index. -/
theorem shf1 (x : FVec Ideal S32x128 .f32) (F : ℕ → ℕ → EReal) (hx : ∀ (i : Fin 32) (h : Fin 128), x (ix2 i h) = F i h) (i : Fin 32) (h : Fin 128) :
    shf x 1#32 (ix2 i h) = F i h + if 1 ≤ i.val then F (i.val - 1) h else 0 := by
  have hw : IntOp.cmpi CmpIPredicate.sge (BitVec.ofNat 32 i.val) 1#32 = if 1 ≤ i.val then 1#1 else 0#1 := by revert i; decide
  pointwise [shf]
  rw [hw, hx, hx]
  congr 1
  split
  · next k => exact congrArg (fun n => F n h) (show (i.val + 32 - 1) % 32 = i.val - 1 by omega)
  · rfl

/-- The rows 2 up, read at an index. -/
theorem shf2 (x : FVec Ideal S32x128 .f32) (F : ℕ → ℕ → EReal) (hx : ∀ (i : Fin 32) (h : Fin 128), x (ix2 i h) = F i h) (i : Fin 32) (h : Fin 128) :
    shf x 2#32 (ix2 i h) = F i h + if 2 ≤ i.val then F (i.val - 2) h else 0 := by
  have hw : IntOp.cmpi CmpIPredicate.sge (BitVec.ofNat 32 i.val) 2#32 = if 2 ≤ i.val then 1#1 else 0#1 := by revert i; decide
  pointwise [shf]
  rw [hw, hx, hx]
  congr 1
  split
  · next k => exact congrArg (fun n => F n h) (show (i.val + 32 - 2) % 32 = i.val - 2 by omega)
  · rfl

/-- The rows 4 up, read at an index. -/
theorem shf4 (x : FVec Ideal S32x128 .f32) (F : ℕ → ℕ → EReal) (hx : ∀ (i : Fin 32) (h : Fin 128), x (ix2 i h) = F i h) (i : Fin 32) (h : Fin 128) :
    shf x 4#32 (ix2 i h) = F i h + if 4 ≤ i.val then F (i.val - 4) h else 0 := by
  have hw : IntOp.cmpi CmpIPredicate.sge (BitVec.ofNat 32 i.val) 4#32 = if 4 ≤ i.val then 1#1 else 0#1 := by revert i; decide
  pointwise [shf]
  rw [hw, hx, hx]
  congr 1
  split
  · next k => exact congrArg (fun n => F n h) (show (i.val + 32 - 4) % 32 = i.val - 4 by omega)
  · rfl

/-- The rows 8 up, read at an index. -/
theorem shf8 (x : FVec Ideal S32x128 .f32) (F : ℕ → ℕ → EReal) (hx : ∀ (i : Fin 32) (h : Fin 128), x (ix2 i h) = F i h) (i : Fin 32) (h : Fin 128) :
    shf x 8#32 (ix2 i h) = F i h + if 8 ≤ i.val then F (i.val - 8) h else 0 := by
  have hw : IntOp.cmpi CmpIPredicate.sge (BitVec.ofNat 32 i.val) 8#32 = if 8 ≤ i.val then 1#1 else 0#1 := by revert i; decide
  pointwise [shf]
  rw [hw, hx, hx]
  congr 1
  split
  · next k => exact congrArg (fun n => F n h) (show (i.val + 32 - 8) % 32 = i.val - 8 by omega)
  · rfl

/-- The rows 16 up, read at an index. -/
theorem shf16 (x : FVec Ideal S32x128 .f32) (F : ℕ → ℕ → EReal) (hx : ∀ (i : Fin 32) (h : Fin 128), x (ix2 i h) = F i h) (i : Fin 32) (h : Fin 128) :
    shf x 16#32 (ix2 i h) = F i h + if 16 ≤ i.val then F (i.val - 16) h else 0 := by
  have hw : IntOp.cmpi CmpIPredicate.sge (BitVec.ofNat 32 i.val) 16#32 = if 16 ≤ i.val then 1#1 else 0#1 := by revert i; decide
  pointwise [shf]
  rw [hw, hx, hx]
  congr 1
  split
  · next k => exact congrArg (fun n => F n h) (show (i.val + 32 - 16) % 32 = i.val - 16 by omega)
  · rfl

/-- The last `m` of the terms up to `i`. -/
def pre (f : ℕ → EReal) (m i : ℕ) : EReal := ∑ d ∈ Finset.range m, if d ≤ i then f (i - d) else 0

/-- Twice as many terms. -/
theorem pre_double (f : ℕ → EReal) (m i : ℕ) : pre f m i + (if m ≤ i then pre f m (i - m) else 0) = pre f (m + m) i := by
  unfold pre
  rw [Finset.sum_range_add]
  congr 1
  split
  · next h =>
    refine Finset.sum_congr rfl fun d _ => ?_
    by_cases k : d ≤ i - m
    · rw [if_pos k, if_pos (by omega), show i - m - d = i - (m + d) by omega]
    · rw [if_neg k, if_neg (by omega)]
  · next h => exact (Finset.sum_eq_zero fun d _ => if_neg (by omega)).symm

/-- All the terms. -/
theorem pre_all (f : ℕ → EReal) (m i : ℕ) (h : i < m) : pre f m i = ∑ k ∈ Finset.range (i + 1), f k := by
  unfold pre
  rw [← Finset.sum_subset (Finset.range_mono (show i + 1 ≤ m by omega)), ← Finset.sum_range_reflect f]
  · refine Finset.sum_congr rfl fun d hd => ?_
    have := Finset.mem_range.mp hd
    rw [if_pos (by omega)]
    congr 1
  · intro d _ hd
    exact if_neg (fun h => hd (Finset.mem_range.mpr (by omega)))

/-- Five steps add up all the rows before. -/
theorem scan (x : FVec Ideal S32x128 .f32) (F : ℕ → ℕ → EReal) (hx : ∀ (i : Fin 32) (h : Fin 128), x (ix2 i h) = F i h) (i : Fin 32) (h : Fin 128) :
    shf (shf (shf (shf (shf x 1#32) 2#32) 4#32) 8#32) 16#32 (ix2 i h) = ∑ k ∈ Finset.range (i + 1), F k h := by
  have h0 : ∀ i h, F i h = pre (fun k => F k h) 1 i := fun i h => by simp [pre]
  have h1 := fun i h => (shf1 x F hx i h).trans (show _ = pre (fun k => F k h) 2 i by rw [h0, h0 (i - 1)]; exact pre_double _ 1 _)
  have h2 := fun i h => (shf2 _ (fun i h => pre (fun k => F k h) 2 i) h1 i h).trans (pre_double _ 2 _)
  have h3 := fun i h => (shf4 _ (fun i h => pre (fun k => F k h) 4 i) h2 i h).trans (pre_double _ 4 _)
  have h4 := fun i h => (shf8 _ (fun i h => pre (fun k => F k h) 8 i) h3 i h).trans (pre_double _ 8 _)
  have h5 := fun i h => (shf16 _ (fun i h => pre (fun k => F k h) 16 i) h4 i h).trans (pre_double _ 16 _)
  exact (h5 i h).trans (pre_all _ 32 _ i.2)

/-- The even rows' running sum. -/
theorem a_v1059 (I : Inp) (i : Fin 32) (h : Fin 128) : v1059 I (ix2 i h) = ∑ k ∈ Finset.range (i + 1), da I (2 * k) h := by
  refine Eq.trans ?_ (scan (extractStridedSlice S32x128 ![0, 0] (v1023 I) slices_S64x128_o0_0_S32x128) (fun k h => da I (2 * k) h) (fun i h => ?_) i h)
  · rfl
  · pointwise []
    rw [a_v1023]
    congr 1
    exact if_pos i.2

/-- The odd rows' running sum. -/
def odd (I : Inp) : FVec Ideal S32x128 .f32 :=
  shf (shf (shf (shf (shf (extractStridedSlice S32x128 ![32, 0] (v1023 I) slices_S64x128_o32_0_S32x128) 1#32) 2#32) 4#32) 8#32) 16#32

/-- The odd rows' running sum at a row. -/
theorem a_odd (I : Inp) (i : Fin 32) (h : Fin 128) : odd I (ix2 i h) = ∑ k ∈ Finset.range (i + 1), da I (2 * k + 1) h := by
  refine scan (extractStridedSlice S32x128 ![32, 0] (v1023 I) slices_S64x128_o32_0_S32x128) (fun k h => da I (2 * k + 1) h) (fun i h => ?_) i h
  pointwise []
  rw [a_v1023]
  congr 1
  show (if 32 + i.val < 32 then 2 * (32 + i.val) else 2 * (32 + i.val - 32) + 1) = 2 * i.val + 1
  rw [if_neg (by omega)]
  omega

/-- The rows' sums, put together. -/
theorem v1104_eq (I : Inp) : v1104 I = concatenate S64x128 0
    [⟨S32x128, addf (v1059 I) (select (cmpi .sge (iota .tc S32x128 32 [0] iota_S32x128_d0_w32) (broadcast S32x128 1#32))
      (dynamicRotate 0 1#32 none (odd I) rotates_S32x128_d0) (broadcast S32x128 (Scalar.ofBits .f32 0x00000000#32)))⟩,
     ⟨S32x128, addf (v1059 I) (odd I)⟩] concatenates_S32x128_S32x128_S64x128_d0 := rfl

/-- The sum of the logarithms up to a time. -/
def acs (I : Inp) (t h : ℕ) : EReal := ∑ k ∈ Finset.range (t + 1), da I k h

/-- Even and odd terms. -/
theorem sum_even_odd (f : ℕ → EReal) (i : ℕ) :
    ∑ k ∈ Finset.range (i + i), f k = (∑ k ∈ Finset.range i, f (2 * k)) + ∑ k ∈ Finset.range i, f (2 * k + 1) := by
  induction i with
  | zero => simp
  | succ n ih =>
    rw [show n + 1 + (n + 1) = n + n + 1 + 1 by omega, Finset.sum_range_succ, Finset.sum_range_succ, ih, Finset.sum_range_succ, Finset.sum_range_succ,
      show n + n = 2 * n by omega]
    abel

/-- Each row holds the sum up to its time. -/
theorem a_v1104 (I : Inp) (r : Fin 64) (h : Fin 128) : v1104 I (ix2 r h) = acs I (tm r) h := by
  rw [v1104_eq]
  unfold acs tm
  pointwise []
  split
  · next k =>
    rw [a_v1059, a_odd]
    have hw : ∀ r : Fin 32, IntOp.cmpi CmpIPredicate.sge (BitVec.ofNat 32 r.val) 1#32 = if 1 ≤ r.val then 1#1 else 0#1 := by decide
    rw [hw ⟨r.val, k⟩]
    have e : ∑ x ∈ Finset.range (2 * r.val + 1), da I x h
        = (∑ k ∈ Finset.range (r.val + 1), da I (2 * k) h) + ∑ k ∈ Finset.range r.val, da I (2 * k + 1) h := by
      rw [Finset.sum_range_succ, show 2 * r.val = r.val + r.val by omega, sum_even_odd, Finset.sum_range_succ _ r.val,
        show r.val + r.val = 2 * r.val by omega, add_right_comm]
    rw [e]
    refine congrArg _ ?_
    show Scalar.select (if 1 ≤ r.val then 1#1 else 0#1) _ _ = _
    split
    · next k1 =>
      show ∑ k ∈ Finset.range ((r.val + 32 - 1) % 32 + 1), _ = _
      rw [show (r.val + 32 - 1) % 32 + 1 = r.val by omega]
    · next k1 =>
      show (0 : EReal) = _
      rw [show r.val = 0 by omega]
      rfl
  · next k =>
    rw [a_v1059, a_odd]
    show (∑ k ∈ Finset.range (r.val - 32 + 1), _) + (∑ k ∈ Finset.range (r.val - 32 + 1), _) = _
    rw [show 2 * (r.val - 32) + 1 + 1 = (r.val - 32 + 1) + (r.val - 32 + 1) by omega, sum_even_odd]

end Cert.Ssd
-- ==== Proof.SsdHead.lean ====
module
public import proofs.«01_k».proof.Proof.SsdAct
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

/-- A strided load of one column block of the gate's argument. -/
theorem ldz (I : Inp) (s o : ℕ) (inb) (a : Fin 1) (r : Fin 32) (l : Fin 128) :
    View.canon I.L17 ((⟨![s, o, 0], S1x32x128.size, ![1, 2, 1], inb⟩ : LoadRect S8x64x128).idx (ix3 a r l))
      = zrow I (o + 2 * r.val) (128 * s + l.val) := by
  rw [canon_zs]
  congr 1
  show 128 * (s + 1 * a.val) + (0 + 1 * l.val) = _
  omega

/-- A load of the gate's argument. -/
theorem a_v1121 (I : Inp) (a : Fin 1) (r : Fin 32) (l : Fin 128) : v1121 I (ix3 a r l) = zrow I (tm (r.val)) (l.val) :=
  (ldz I 0 0 _ a r l).trans (congrArg₂ (zrow I) (by unfold tm; rw [if_pos r.2]; omega) (by omega))

/-- A load of the gate's argument. -/
theorem a_v1123 (I : Inp) (a : Fin 1) (r : Fin 32) (l : Fin 128) : v1123 I (ix3 a r l) = zrow I (tm (32 + r.val)) (l.val) :=
  (ldz I 0 1 _ a r l).trans (congrArg₂ (zrow I) (by unfold tm; rw [if_neg (by omega)]; omega) (by omega))

/-- A load of the gate's argument. -/
theorem a_v1126 (I : Inp) (a : Fin 1) (r : Fin 32) (l : Fin 128) : v1126 I (ix3 a r l) = zrow I (tm (r.val)) (128 * 1 + l.val) :=
  (ldz I 1 0 _ a r l).trans (congrArg₂ (zrow I) (by unfold tm; rw [if_pos r.2]; omega) (by omega))

/-- A load of the gate's argument. -/
theorem a_v1128 (I : Inp) (a : Fin 1) (r : Fin 32) (l : Fin 128) : v1128 I (ix3 a r l) = zrow I (tm (32 + r.val)) (128 * 1 + l.val) :=
  (ldz I 1 1 _ a r l).trans (congrArg₂ (zrow I) (by unfold tm; rw [if_neg (by omega)]; omega) (by omega))

/-- A load of the gate's argument. -/
theorem a_v1131 (I : Inp) (a : Fin 1) (r : Fin 32) (l : Fin 128) : v1131 I (ix3 a r l) = zrow I (tm (r.val)) (128 * 2 + l.val) :=
  (ldz I 2 0 _ a r l).trans (congrArg₂ (zrow I) (by unfold tm; rw [if_pos r.2]; omega) (by omega))

/-- A load of the gate's argument. -/
theorem a_v1133 (I : Inp) (a : Fin 1) (r : Fin 32) (l : Fin 128) : v1133 I (ix3 a r l) = zrow I (tm (32 + r.val)) (128 * 2 + l.val) :=
  (ldz I 2 1 _ a r l).trans (congrArg₂ (zrow I) (by unfold tm; rw [if_neg (by omega)]; omega) (by omega))

/-- A load of the gate's argument. -/
theorem a_v1136 (I : Inp) (a : Fin 1) (r : Fin 32) (l : Fin 128) : v1136 I (ix3 a r l) = zrow I (tm (r.val)) (128 * 3 + l.val) :=
  (ldz I 3 0 _ a r l).trans (congrArg₂ (zrow I) (by unfold tm; rw [if_pos r.2]; omega) (by omega))

/-- A load of the gate's argument. -/
theorem a_v1138 (I : Inp) (a : Fin 1) (r : Fin 32) (l : Fin 128) : v1138 I (ix3 a r l) = zrow I (tm (32 + r.val)) (128 * 3 + l.val) :=
  (ldz I 3 1 _ a r l).trans (congrArg₂ (zrow I) (by unfold tm; rw [if_neg (by omega)]; omega) (by omega))

/-- A load of the gate's argument. -/
theorem a_v1141 (I : Inp) (a : Fin 1) (r : Fin 32) (l : Fin 128) : v1141 I (ix3 a r l) = zrow I (tm (r.val)) (128 * 4 + l.val) :=
  (ldz I 4 0 _ a r l).trans (congrArg₂ (zrow I) (by unfold tm; rw [if_pos r.2]; omega) (by omega))

/-- A load of the gate's argument. -/
theorem a_v1143 (I : Inp) (a : Fin 1) (r : Fin 32) (l : Fin 128) : v1143 I (ix3 a r l) = zrow I (tm (32 + r.val)) (128 * 4 + l.val) :=
  (ldz I 4 1 _ a r l).trans (congrArg₂ (zrow I) (by unfold tm; rw [if_neg (by omega)]; omega) (by omega))

/-- A load of the gate's argument. -/
theorem a_v1146 (I : Inp) (a : Fin 1) (r : Fin 32) (l : Fin 128) : v1146 I (ix3 a r l) = zrow I (tm (r.val)) (128 * 5 + l.val) :=
  (ldz I 5 0 _ a r l).trans (congrArg₂ (zrow I) (by unfold tm; rw [if_pos r.2]; omega) (by omega))

/-- A load of the gate's argument. -/
theorem a_v1148 (I : Inp) (a : Fin 1) (r : Fin 32) (l : Fin 128) : v1148 I (ix3 a r l) = zrow I (tm (32 + r.val)) (128 * 5 + l.val) :=
  (ldz I 5 1 _ a r l).trans (congrArg₂ (zrow I) (by unfold tm; rw [if_neg (by omega)]; omega) (by omega))

/-- A load of the gate's argument. -/
theorem a_v1151 (I : Inp) (a : Fin 1) (r : Fin 32) (l : Fin 128) : v1151 I (ix3 a r l) = zrow I (tm (r.val)) (128 * 6 + l.val) :=
  (ldz I 6 0 _ a r l).trans (congrArg₂ (zrow I) (by unfold tm; rw [if_pos r.2]; omega) (by omega))

/-- A load of the gate's argument. -/
theorem a_v1153 (I : Inp) (a : Fin 1) (r : Fin 32) (l : Fin 128) : v1153 I (ix3 a r l) = zrow I (tm (32 + r.val)) (128 * 6 + l.val) :=
  (ldz I 6 1 _ a r l).trans (congrArg₂ (zrow I) (by unfold tm; rw [if_neg (by omega)]; omega) (by omega))

/-- A load of the gate's argument. -/
theorem a_v1156 (I : Inp) (a : Fin 1) (r : Fin 32) (l : Fin 128) : v1156 I (ix3 a r l) = zrow I (tm (r.val)) (128 * 7 + l.val) :=
  (ldz I 7 0 _ a r l).trans (congrArg₂ (zrow I) (by unfold tm; rw [if_pos r.2]; omega) (by omega))

/-- A load of the gate's argument. -/
theorem a_v1158 (I : Inp) (a : Fin 1) (r : Fin 32) (l : Fin 128) : v1158 I (ix3 a r l) = zrow I (tm (32 + r.val)) (128 * 7 + l.val) :=
  (ldz I 7 1 _ a r l).trans (congrArg₂ (zrow I) (by unfold tm; rw [if_neg (by omega)]; omega) (by omega))

/-- The gate at time `t` and channel `c`. -/
def gate (I : Inp) (t c : ℕ) : EReal := zrow I t c * Ideal.logistic (zrow I t c)

/-- Two halves of rows, each a run of times. -/
theorem halves (I : Inp) (a b : EReal) (r : Fin 64) (c : ℕ) (ha : ∀ h : r.val < 32, a = zrow I (tm r) c) (hb : ∀ h : ¬ r.val < 32, b = zrow I (tm r) c) :
    (if h : r.val < 32 then a else b) = zrow I (tm r) c := by
  split
  · next h => exact ha h
  · next h => exact hb h

/-- Column block 0 of the gate's argument. -/
theorem a_v1125 (I : Inp) (r : Fin 64) (l : Fin 128) : v1125 I (ix2 r l) = zrow I (tm r) (128 * 0 + l.val) := by
  rw [show 128 * 0 + l.val = l.val by omega]
  pointwise [v1125, k0_pay196]
  split
  · exact a_v1121 I 0 _ l
  · next h => exact (a_v1123 I 0 _ l).trans (congrArg (fun n => zrow I (tm n) (l.val)) (show 32 + (r.val - 32) = r.val by omega))

/-- Column block 1 of the gate's argument. -/
theorem a_v1130 (I : Inp) (r : Fin 64) (l : Fin 128) : v1130 I (ix2 r l) = zrow I (tm r) (128 * 1 + l.val) := by
  pointwise [v1130, k0_pay197]
  split
  · exact a_v1126 I 0 _ l
  · next h => exact (a_v1128 I 0 _ l).trans (congrArg (fun n => zrow I (tm n) (128 * 1 + l.val)) (show 32 + (r.val - 32) = r.val by omega))

/-- Column block 2 of the gate's argument. -/
theorem a_v1135 (I : Inp) (r : Fin 64) (l : Fin 128) : v1135 I (ix2 r l) = zrow I (tm r) (128 * 2 + l.val) := by
  pointwise [v1135, k0_pay198]
  split
  · exact a_v1131 I 0 _ l
  · next h => exact (a_v1133 I 0 _ l).trans (congrArg (fun n => zrow I (tm n) (128 * 2 + l.val)) (show 32 + (r.val - 32) = r.val by omega))

/-- Column block 3 of the gate's argument. -/
theorem a_v1140 (I : Inp) (r : Fin 64) (l : Fin 128) : v1140 I (ix2 r l) = zrow I (tm r) (128 * 3 + l.val) := by
  pointwise [v1140, k0_pay199]
  split
  · exact a_v1136 I 0 _ l
  · next h => exact (a_v1138 I 0 _ l).trans (congrArg (fun n => zrow I (tm n) (128 * 3 + l.val)) (show 32 + (r.val - 32) = r.val by omega))

/-- Column block 4 of the gate's argument. -/
theorem a_v1145 (I : Inp) (r : Fin 64) (l : Fin 128) : v1145 I (ix2 r l) = zrow I (tm r) (128 * 4 + l.val) := by
  pointwise [v1145, k0_pay200]
  split
  · exact a_v1141 I 0 _ l
  · next h => exact (a_v1143 I 0 _ l).trans (congrArg (fun n => zrow I (tm n) (128 * 4 + l.val)) (show 32 + (r.val - 32) = r.val by omega))

/-- The gate. -/
theorem a_v1163 (I : Inp) (r : Fin 64) (c : Fin 1024) : v1163 I (ix2 r c) = gate I (tm r) c := by
  unfold v1163 k0_pay202 gate
  rw [mulf_apply, logistic_apply]
  rw [cat8 _ _ _ _ _ _ _ _ (fun r c => zrow I (tm r) c) _ (a_v1125 I) (a_v1130 I) (a_v1135 I) (a_v1140 I) (a_v1145 I) ?_ ?_ ?_ r c]
  · rfl
  · intro r l
    pointwise [v1147, k0_pay201]
    split
    · exact a_v1146 I 0 _ l
    · next h => exact (a_v1148 I 0 _ l).trans (congrArg (fun n => zrow I (tm n) (128 * 5 + l.val)) (show 32 + (r.val - 32) = r.val by omega))
  · intro r l
    pointwise []
    split
    · exact a_v1151 I 0 _ l
    · next h => exact (a_v1153 I 0 _ l).trans (congrArg (fun n => zrow I (tm n) (128 * 6 + l.val)) (show 32 + (r.val - 32) = r.val by omega))
  · intro r l
    pointwise []
    split
    · exact a_v1156 I 0 _ l
    · next h => exact (a_v1158 I 0 _ l).trans (congrArg (fun n => zrow I (tm n) (128 * 7 + l.val)) (show 32 + (r.val - 32) = r.val by omega))

/-- The skip term. -/
theorem a_v1167 (I : Inp) (r : Fin 64) (c : Fin 1024) : v1167 I (ix2 r c) = I.w7 (ix2 0 c) * act I (tm r) c := by
  pointwise [v1167, k0_pay203, v1164]
  rw [a_v977]

/-- The lane is compared with the half. -/
theorem half (l : Fin 128) : IntOp.cmpi CmpIPredicate.slt (BitVec.ofNat 32 l.val) 64#32 = if l.val < 64 then 1#1 else 0#1 := by
  revert l; decide

/-- Two heads on the two halves of the lanes. -/
theorem two (f : ℕ → EReal) (k : ℕ) (l : Fin 128) (a b : EReal) (ha : a = f (2 * k)) (hb : b = f (2 * k + 1)) :
    Scalar.select (IntOp.cmpi CmpIPredicate.slt (BitVec.ofNat 32 l.val) 64#32) a b = f ((128 * k + l.val) / 64) := by
  rw [half]
  split
  · rw [show (128 * k + l.val) / 64 = 2 * k by omega]; exact ha
  · rw [show (128 * k + l.val) / 64 = 2 * k + 1 by omega]; exact hb

/-- The step size on every lane of its head. -/
theorem a_v1241 (I : Inp) (r : Fin 64) (c : Fin 1024) : v1241 I (ix2 r c) = dtc I (tm r) (c.val / 64) := by
  unfold v1241 k0_pay208
  refine cat8 _ _ _ _ _ _ _ _ (fun r c => dtc I (tm r) (c / 64)) _ ?_ ?_ ?_ ?_ ?_ ?_ ?_ ?_ r c
  · intro r l
    pointwise [v1168, v1177, k0_pay204]
    refine Eq.trans ?_ (congrArg (fun n => dtc I (tm r) (n / 64)) (Nat.zero_add l.val))
    exact two (fun h => dtc I (tm r) h) 0 l _ _ (a_v1016 I r ⟨0, by decide⟩) (a_v1016 I r ⟨1, by decide⟩)
  · intro r l
    pointwise [v1168, v1186, k0_pay205]
    exact two (fun h => dtc I (tm r) h) 1 l _ _ (a_v1016 I r ⟨2, by decide⟩) (a_v1016 I r ⟨3, by decide⟩)
  · intro r l
    pointwise [v1168, v1189, k0_pay206, v1191, k0_pay207]
    exact two (fun h => dtc I (tm r) h) 2 l _ _ (a_v1016 I r ⟨4, by decide⟩) (a_v1016 I r ⟨5, by decide⟩)
  · intro r l
    pointwise [v1168]
    exact two (fun h => dtc I (tm r) h) 3 l _ _ (a_v1016 I r ⟨6, by decide⟩) (a_v1016 I r ⟨7, by decide⟩)
  · intro r l
    pointwise [v1168]
    exact two (fun h => dtc I (tm r) h) 4 l _ _ (a_v1016 I r ⟨8, by decide⟩) (a_v1016 I r ⟨9, by decide⟩)
  · intro r l
    pointwise [v1168]
    exact two (fun h => dtc I (tm r) h) 5 l _ _ (a_v1016 I r ⟨10, by decide⟩) (a_v1016 I r ⟨11, by decide⟩)
  · intro r l
    pointwise [v1168]
    exact two (fun h => dtc I (tm r) h) 6 l _ _ (a_v1016 I r ⟨12, by decide⟩) (a_v1016 I r ⟨13, by decide⟩)
  · intro r l
    pointwise [v1168]
    exact two (fun h => dtc I (tm r) h) 7 l _ _ (a_v1016 I r ⟨14, by decide⟩) (a_v1016 I r ⟨15, by decide⟩)

/-- The sum of logarithms on every lane of its head. -/
theorem a_v1315 (I : Inp) (r : Fin 64) (c : Fin 1024) : v1315 I (ix2 r c) = acs I (tm r) (c.val / 64) := by
  unfold v1315 k0_pay217
  refine cat8 _ _ _ _ _ _ _ _ (fun r c => acs I (tm r) (c / 64)) _ ?_ ?_ ?_ ?_ ?_ ?_ ?_ ?_ r c
  · intro r l
    pointwise [v1242, v1251, k0_pay210, v1245, k0_pay209]
    refine Eq.trans ?_ (congrArg (fun n => acs I (tm r) (n / 64)) (Nat.zero_add l.val))
    exact two (fun h => acs I (tm r) h) 0 l _ _ (a_v1104 I r ⟨0, by decide⟩) (a_v1104 I r ⟨1, by decide⟩)
  · intro r l
    pointwise [v1242, v1260, k0_pay211]
    exact two (fun h => acs I (tm r) h) 1 l _ _ (a_v1104 I r ⟨2, by decide⟩) (a_v1104 I r ⟨3, by decide⟩)
  · intro r l
    pointwise [v1242, v1269, k0_pay212]
    exact two (fun h => acs I (tm r) h) 2 l _ _ (a_v1104 I r ⟨4, by decide⟩) (a_v1104 I r ⟨5, by decide⟩)
  · intro r l
    pointwise [v1242, v1278, k0_pay213]
    exact two (fun h => acs I (tm r) h) 3 l _ _ (a_v1104 I r ⟨6, by decide⟩) (a_v1104 I r ⟨7, by decide⟩)
  · intro r l
    pointwise [v1242, v1287, k0_pay214]
    exact two (fun h => acs I (tm r) h) 4 l _ _ (a_v1104 I r ⟨8, by decide⟩) (a_v1104 I r ⟨9, by decide⟩)
  · intro r l
    pointwise [v1242, v1296, k0_pay215]
    exact two (fun h => acs I (tm r) h) 5 l _ _ (a_v1104 I r ⟨10, by decide⟩) (a_v1104 I r ⟨11, by decide⟩)
  · intro r l
    pointwise [v1242, v1299, k0_pay216]
    exact two (fun h => acs I (tm r) h) 6 l _ _ (a_v1104 I r ⟨12, by decide⟩) (a_v1104 I r ⟨13, by decide⟩)
  · intro r l
    pointwise [v1242]
    exact two (fun h => acs I (tm r) h) 7 l _ _ (a_v1104 I r ⟨14, by decide⟩) (a_v1104 I r ⟨15, by decide⟩)

end Cert.Ssd
-- ==== Proof.SsdDec.lean ====
module
public import proofs.«01_k».proof.Proof.SsdHead
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

/-- The sums on the lanes, written out. -/
theorem p217 (I : Inp) (r : Fin 64) (c : Fin 1024) :
    k0_pay217 (v1104 I) (v1242 I) (v1251 I) (v1260 I) (v1269 I) (v1278 I) (v1287 I) (v1296 I) (v1299 I) (ix2 r c) = acs I (tm r) (c.val / 64) := a_v1315 I r c

/-- The last row's sum. -/
theorem p219 (I : Inp) (z : Fin 1) (c : Fin 1024) :
    k0_pay219 (v1104 I) (v1242 I) (v1251 I) (v1260 I) (v1269 I) (v1278 I) (v1287 I) (v1296 I) (v1299 I) (ix2 z c) = acs I 63 (c.val / 64) := by
  pointwise [k0_pay219]
  rw [p217]
  rfl

/-- The last row's sum. -/
theorem a_v1345 (I : Inp) (z : Fin 1) (c : Fin 1024) : v1345 I (ix2 z c) = acs I 63 (c.val / 64) := p219 I z c

/-- The row a lane stands for. -/
theorem lane_row (c : Fin 1024) : IntOp.andi (BitVec.ofNat 32 c.val) 63#32 = BitVec.ofNat 32 (c.val % 64) := by
  revert c; decide +kernel

/-- The time of a row, read off its bits. -/
theorem tm_word (r : Fin 64) : IntOp.ori (IntOp.shli ArithUnit.vector (IntOp.andi (BitVec.ofNat 32 r.val) 31#32) 1#32)
    (IntOp.shrsi ArithUnit.vector (BitVec.ofNat 32 r.val) 5#32) = BitVec.ofNat 32 (tm r.val) := by
  revert r; decide +kernel

/-- A time is below sixty-four. -/
theorem tm_lt64 (r : Fin 64) : tm r.val < 64 := by unfold tm; split <;> omega

/-- Two times compared. -/
theorem le_word (a b : Fin 64) : IntOp.cmpi CmpIPredicate.sle (BitVec.ofNat 32 a.val) (BitVec.ofNat 32 b.val) = if a.val ≤ b.val then 1#1 else 0#1 := by
  revert a b; decide +kernel

/-- Two rows compared. -/
theorem eq_word (a b : Fin 64) : IntOp.cmpi CmpIPredicate.eq (BitVec.ofNat 32 a.val) (BitVec.ofNat 32 b.val) = if a.val = b.val then 1#1 else 0#1 := by
  revert a b; decide +kernel

/-- A sum with one term. -/
theorem one_hot (f : Fin 64 → EReal) (a : Fin 64) :
    ∑ x, Scalar.select (IntOp.cmpi CmpIPredicate.eq (BitVec.ofNat 32 a.val) (BitVec.ofNat 32 x.val)) (f x) 0 = f a := by
  rw [Finset.sum_eq_single a]
  · rw [eq_word, if_pos rfl]; rfl
  · intro b _ hb
    rw [eq_word, if_neg (fun h => hb (Fin.ext h.symm))]
    rfl
  · exact fun h => absurd (Finset.mem_univ a) h

/-- The word that stands for minus infinity. -/
def neg : EReal := Ideal.ofBits FTy.f32 0xFF800000#32

/-- The decay between two times of a head, zero where the first comes after the second. -/
theorem a_v1344 (I : Inp) (r : Fin 64) (c : Fin 1024) :
    v1344 I (ix2 r c) = Ideal.exp (if tm (c.val % 64) ≤ tm r.val then acs I (tm r) (c.val / 64) - acs I (tm (c.val % 64)) (c.val / 64) else neg) := by
  pointwise [v1344, k0_pay218]
  have hc : c.val % 64 < 64 := Nat.mod_lt _ (by decide)
  simp only [p217]
  rw [lane_row, tm_word r, show BitVec.ofNat 32 (c.val % 64) = BitVec.ofNat 32 (⟨c.val % 64, hc⟩ : Fin 64).val from rfl, tm_word ⟨c.val % 64, hc⟩,
    one_hot (fun x => acs I (tm x) (c.val / 64)) ⟨c.val % 64, hc⟩, le_word ⟨_, tm_lt64 ⟨c.val % 64, hc⟩⟩ ⟨_, tm_lt64 r⟩]
  refine congrArg Ideal.exp ?_
  show Scalar.select (if tm (c.val % 64) ≤ tm r.val then 1#1 else 0#1) _ _ = _
  split
  · rfl
  · rfl

/-- The decay from the start. -/
theorem a_v1346 (I : Inp) (r : Fin 64) (c : Fin 1024) : v1346 I (ix2 r c) = Ideal.exp (acs I (tm r) (c.val / 64)) := by
  pointwise [v1346, k0_pay220]
  rw [p217]

/-- The last row's sum, on every row. -/
theorem a_v1347 (I : Inp) (r : Fin 64) (c : Fin 1024) : v1347 I (ix2 r c) = acs I 63 (c.val / 64) := by
  pointwise [v1347, k0_pay221]
  rw [p219]

/-- The decay over the whole block. -/
theorem a_v1350 (I : Inp) (z : Fin 1) (c : Fin 1024) : v1350 I (ix2 z c) = Ideal.exp (acs I 63 (c.val / 64)) := by
  pointwise [v1350, k0_pay222]
  rw [a_v1345]

/-- The scaled input at time `t` and channel `c`. -/
def xdt (I : Inp) (t c : ℕ) : EReal := act I t c * dtc I t (c / 64)

/-- The scaled input. -/
theorem a_v1352 (I : Inp) (r : Fin 64) (c : Fin 1024) : v1352 I (ix2 r c) = xdt I (tm r) c := by
  pointwise [v1352, k0_pay224, k0_pay223]
  rw [a_v977, a_v1241]
  rfl

/-- The scaled input, decayed to the end. -/
theorem a_v1354 (I : Inp) (r : Fin 64) (c : Fin 1024) :
    v1354 I (ix2 r c) = xdt I (tm r) c * Ideal.exp (acs I 63 (c.val / 64) - acs I (tm r) (c.val / 64)) := by
  pointwise [v1354, k0_pay225, k0_pay223]
  rw [a_v977, a_v1241, a_v1347, a_v1315]
  rfl

end Cert.Ssd
-- ==== Proof.SsdGrp.lean ====
module
public import proofs.«01_k».proof.Proof.SsdDec
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

/-- Four row blocks of 128 columns one below the other, read at a row. -/
theorem rows128 (f0 f1 f2 f3 : S64x128.Idx → EReal) (F : ℕ → ℕ → EReal) (h) (h0 : ∀ (r : Fin 64) (l : Fin 128), f0 (ix2 r l) = F (64 * 0 + r.val) l.val) (h1 : ∀ (r : Fin 64) (l : Fin 128), f1 (ix2 r l) = F (64 * 1 + r.val) l.val) (h2 : ∀ (r : Fin 64) (l : Fin 128), f2 (ix2 r l) = F (64 * 2 + r.val) l.val) (h3 : ∀ (r : Fin 64) (l : Fin 128), f3 (ix2 r l) = F (64 * 3 + r.val) l.val) (r : Fin 256) (c : Fin 128) :
    concatenate S256x128 0 [⟨S64x128, f0⟩, ⟨S64x128, f1⟩, ⟨S64x128, f2⟩, ⟨S64x128, f3⟩] h (ix2 r c) = F r.val c.val := by
  have hr := r.isLt
  have hall : ∀ (n : Fin 4) (r : Fin 64), (![f0, f1, f2, f3] : Fin 4 → (S64x128.Idx → EReal)) n (ix2 r c) = F (64 * n.val + r.val) c.val := by
    intro n r
    match n with
    | ⟨0, _⟩ => exact h0 r c
    | ⟨1, _⟩ => exact h1 r c
    | ⟨2, _⟩ => exact h2 r c
    | ⟨3, _⟩ => exact h3 r c
    | ⟨n + 4, hn⟩ => exact absurd hn (by omega)
  refine (concatenate_ofFn_apply (t := S256x128) (s₁ := S64x128) 0 (![f0, f1, f2, f3] : Fin 4 → (S64x128.Idx → EReal)) h rfl 64 rfl (ix2 r c)
    ⟨r.val / 64, by omega⟩ rfl (ix2 ⟨r.val % 64, by omega⟩ c) rfl ?_).trans ((hall _ _).trans ?_)
  · intro b hb
    match b with
    | 0 => exact absurd rfl hb
    | 1 => rfl
  · congr 1
    show 64 * (r.val / 64) + r.val % 64 = r.val
    omega

/-- Four row blocks of 256 columns one below the other, read at a row. -/
theorem rows256 (f0 f1 f2 f3 : S64x256.Idx → EReal) (F : ℕ → ℕ → EReal) (h) (h0 : ∀ (r : Fin 64) (l : Fin 256), f0 (ix2 r l) = F (64 * 0 + r.val) l.val) (h1 : ∀ (r : Fin 64) (l : Fin 256), f1 (ix2 r l) = F (64 * 1 + r.val) l.val) (h2 : ∀ (r : Fin 64) (l : Fin 256), f2 (ix2 r l) = F (64 * 2 + r.val) l.val) (h3 : ∀ (r : Fin 64) (l : Fin 256), f3 (ix2 r l) = F (64 * 3 + r.val) l.val) (r : Fin 256) (c : Fin 256) :
    concatenate S256x256 0 [⟨S64x256, f0⟩, ⟨S64x256, f1⟩, ⟨S64x256, f2⟩, ⟨S64x256, f3⟩] h (ix2 r c) = F r.val c.val := by
  have hr := r.isLt
  have hall : ∀ (n : Fin 4) (r : Fin 64), (![f0, f1, f2, f3] : Fin 4 → (S64x256.Idx → EReal)) n (ix2 r c) = F (64 * n.val + r.val) c.val := by
    intro n r
    match n with
    | ⟨0, _⟩ => exact h0 r c
    | ⟨1, _⟩ => exact h1 r c
    | ⟨2, _⟩ => exact h2 r c
    | ⟨3, _⟩ => exact h3 r c
    | ⟨n + 4, hn⟩ => exact absurd hn (by omega)
  refine (concatenate_ofFn_apply (t := S256x256) (s₁ := S64x256) 0 (![f0, f1, f2, f3] : Fin 4 → (S64x256.Idx → EReal)) h rfl 64 rfl (ix2 r c)
    ⟨r.val / 64, by omega⟩ rfl (ix2 ⟨r.val % 64, by omega⟩ c) rfl ?_).trans ((hall _ _).trans ?_)
  · intro b hb
    match b with
    | 0 => exact absurd rfl hb
    | 1 => rfl
  · congr 1
    show 64 * (r.val / 64) + r.val % 64 = r.val
    omega

/-- Four column blocks side by side, read at a column. -/
theorem groups (f0 f1 f2 f3 : S64x256.Idx → EReal) (F : ℕ → ℕ → EReal) (h) (h0 : ∀ (r : Fin 64) (l : Fin 256), f0 (ix2 r l) = F r.val (256 * 0 + l.val)) (h1 : ∀ (r : Fin 64) (l : Fin 256), f1 (ix2 r l) = F r.val (256 * 1 + l.val)) (h2 : ∀ (r : Fin 64) (l : Fin 256), f2 (ix2 r l) = F r.val (256 * 2 + l.val)) (h3 : ∀ (r : Fin 64) (l : Fin 256), f3 (ix2 r l) = F r.val (256 * 3 + l.val)) (r : Fin 64) (c : Fin 1024) :
    concatenate S64x1024 1 [⟨S64x256, f0⟩, ⟨S64x256, f1⟩, ⟨S64x256, f2⟩, ⟨S64x256, f3⟩] h (ix2 r c) = F r.val c.val := by
  have hc := c.isLt
  have hall : ∀ (n : Fin 4) (l : Fin 256), (![f0, f1, f2, f3] : Fin 4 → (S64x256.Idx → EReal)) n (ix2 r l) = F r.val (256 * n.val + l.val) := by
    intro n l
    match n with
    | ⟨0, _⟩ => exact h0 r l
    | ⟨1, _⟩ => exact h1 r l
    | ⟨2, _⟩ => exact h2 r l
    | ⟨3, _⟩ => exact h3 r l
    | ⟨n + 4, hn⟩ => exact absurd hn (by omega)
  refine (concatenate_ofFn_apply (t := S64x1024) (s₁ := S64x256) 1 (![f0, f1, f2, f3] : Fin 4 → (S64x256.Idx → EReal)) h rfl 256 rfl (ix2 r c)
    ⟨c.val / 256, by omega⟩ rfl (ix2 r ⟨c.val % 256, by omega⟩) rfl ?_).trans ((hall _ _).trans ?_)
  · intro b hb
    match b with
    | 0 => rfl
    | 1 => exact absurd rfl hb
  · congr 1
    show 256 * (c.val / 256) + c.val % 256 = c.val
    omega

/-- Rows against rows: the sum over the columns. -/
theorem mm_rr (a : FVec Ideal S64x128 .bf16) (b : FVec Ideal S256x128 .bf16) (r : Fin 64) (c : Fin 256) :
    matmul dot_S64x128_S256x128_S64x256_1_1_0_0_n_n none a b (constant S64x256 .f32 0x00000000#32) (ix2 r c) = ∑ k : Fin 128, a (ix2 r k) * b (ix2 c k) := by
  pointwise []

/-- Rows against columns: the sum over 256. -/
theorem mm_rc (a : FVec Ideal S64x256 .bf16) (b : FVec Ideal S256x256 .bf16) (r : Fin 64) (c : Fin 256) :
    matmul dot_S64x256_S256x256_S64x256_1_0_0_1_n_n none a b (constant S64x256 .f32 0x00000000#32) (ix2 r c) = ∑ k : Fin 256, a (ix2 r k) * b (ix2 k c) := by
  pointwise []

/-- Columns against columns: the sum over the rows. -/
theorem mm_cc (a : FVec Ideal S64x128 .bf16) (b : FVec Ideal S64x256 .bf16) (n : Fin 128) (c : Fin 256) :
    matmul dot_S64x128_S64x256_S128x256_0_0_1_1_n_n none a b (constant S128x256 .f32 0x00000000#32) (ix2 n c) = ∑ k : Fin 64, a (ix2 k n) * b (ix2 k c) := by
  pointwise []

/-- Rows against the state's columns: the sum over the state. -/
theorem mm_rs (a : FVec Ideal S64x128 .bf16) (b : FVec Ideal S128x256 .bf16) (r : Fin 64) (c : Fin 256) :
    matmul dot_S64x128_S128x256_S64x256_1_0_0_1_n_n none a b (constant S64x256 .f32 0x00000000#32) (ix2 r c) = ∑ k : Fin 128, a (ix2 r k) * b (ix2 k c) := by
  pointwise []

/-- The time's row against another time's, in one group. -/
def cbs (I : Inp) (g t u : ℕ) : EReal := ∑ k : Fin 128, act I t (1536 + (128 * g + k)) * act I u (1024 + (128 * g + k))

/-- The state's lane a lane of a group stands for. -/
theorem group_word (r : Fin 64) (c : Fin 256) : (k0_pay226 : IVec S64x256 32) (ix2 r c) = BitVec.ofNat 32 (c.val / 64) := by
  pointwise [k0_pay226]
  revert c; decide +kernel

/-- The rows' products of group 0, once for every head. -/
theorem a_v1108 (I : Inp) (r : Fin 64) (c : Fin 256) : v1108 I (ix2 r c) = cbs I 0 (tm r) (tm (c.val % 64)) := by
  unfold v1108 k0_pay192 cbs
  rw [mm_rr]
  refine Finset.sum_congr rfl fun k _ => ?_
  rw [rows128 _ _ _ _ (fun j l => act I (tm (j % 64)) (1024 + (128 * 0 + l))) _ ?_ ?_ ?_ ?_ c k]
  · pointwise []
    rw [a_v981]
    all_goals (congr 3 <;> omega)
  · intro r l
    pointwise []
    rw [a_v979]
    all_goals (congr 3 <;> omega)
  · intro r l
    pointwise []
    rw [a_v979]
    all_goals (congr 3 <;> omega)
  · intro r l
    pointwise []
    rw [a_v979]
    all_goals (congr 3 <;> omega)
  · intro r l
    pointwise []
    rw [a_v979]
    all_goals (congr 3 <;> omega)

/-- The rows' products of group 1, once for every head. -/
theorem a_v1112 (I : Inp) (r : Fin 64) (c : Fin 256) : v1112 I (ix2 r c) = cbs I 1 (tm r) (tm (c.val % 64)) := by
  unfold v1112 k0_pay193 cbs
  rw [mm_rr]
  refine Finset.sum_congr rfl fun k _ => ?_
  rw [rows128 _ _ _ _ (fun j l => act I (tm (j % 64)) (1024 + (128 * 1 + l))) _ ?_ ?_ ?_ ?_ c k]
  · pointwise []
    rw [a_v981]
    all_goals (congr 3 <;> omega)
  · intro r l
    pointwise []
    rw [a_v979]
    all_goals (congr 3 <;> omega)
  · intro r l
    pointwise []
    rw [a_v979]
    all_goals (congr 3 <;> omega)
  · intro r l
    pointwise []
    rw [a_v979]
    all_goals (congr 3 <;> omega)
  · intro r l
    pointwise []
    rw [a_v979]
    all_goals (congr 3 <;> omega)

/-- The rows' products of group 2, once for every head. -/
theorem a_v1116 (I : Inp) (r : Fin 64) (c : Fin 256) : v1116 I (ix2 r c) = cbs I 2 (tm r) (tm (c.val % 64)) := by
  unfold v1116 k0_pay194 cbs
  rw [mm_rr]
  refine Finset.sum_congr rfl fun k _ => ?_
  rw [rows128 _ _ _ _ (fun j l => act I (tm (j % 64)) (1024 + (128 * 2 + l))) _ ?_ ?_ ?_ ?_ c k]
  · pointwise []
    rw [a_v981]
    all_goals (congr 3 <;> omega)
  · intro r l
    pointwise []
    rw [a_v979]
    all_goals (congr 3 <;> omega)
  · intro r l
    pointwise []
    rw [a_v979]
    all_goals (congr 3 <;> omega)
  · intro r l
    pointwise []
    rw [a_v979]
    all_goals (congr 3 <;> omega)
  · intro r l
    pointwise []
    rw [a_v979]
    all_goals (congr 3 <;> omega)

/-- The rows' products of group 3, once for every head. -/
theorem a_v1120 (I : Inp) (r : Fin 64) (c : Fin 256) : v1120 I (ix2 r c) = cbs I 3 (tm r) (tm (c.val % 64)) := by
  unfold v1120 k0_pay195 cbs
  rw [mm_rr]
  refine Finset.sum_congr rfl fun k _ => ?_
  rw [rows128 _ _ _ _ (fun j l => act I (tm (j % 64)) (1024 + (128 * 3 + l))) _ ?_ ?_ ?_ ?_ c k]
  · pointwise []
    rw [a_v981]
    all_goals (congr 3 <;> omega)
  · intro r l
    pointwise []
    rw [a_v979]
    all_goals (congr 3 <;> omega)
  · intro r l
    pointwise []
    rw [a_v979]
    all_goals (congr 3 <;> omega)
  · intro r l
    pointwise []
    rw [a_v979]
    all_goals (congr 3 <;> omega)
  · intro r l
    pointwise []
    rw [a_v979]
    all_goals (congr 3 <;> omega)

/-- After the last time a step adds nothing. -/
theorem xdt_late (I : Inp) {t : ℕ} (ht : 16 ≤ t) (c : ℕ) : xdt I t c = 0 := by
  unfold xdt dtc
  rw [if_neg (by omega), mul_zero]

/-- The rows run through all the times. -/
theorem rows_perm (f : ℕ → EReal) : ∑ j : Fin 64, f (tm j.val) = ∑ j : Fin 64, f j.val := by
  have hb : Function.Bijective (fun j : Fin 64 => (⟨tm j.val, tm_lt64 j⟩ : Fin 64)) := by
    refine (Fintype.bijective_iff_injective_and_card _).mpr ⟨?_, rfl⟩
    intro a b h
    have h' : tm a.val = tm b.val := congrArg Fin.val h
    have ha := a.isLt
    have hb := b.isLt
    unfold tm at h'
    apply Fin.ext
    split at h' <;> split at h' <;> omega
  exact hb.sum_comp (fun j : Fin 64 => f j.val)

/-- The rows of the first times, taken in any order. -/
theorem rows_sum (f : ℕ → EReal) (hf : ∀ t, 16 ≤ t → f t = 0) : ∑ j : Fin 64, f (tm j.val) = ∑ u : Fin 16, f u.val := by
  rw [rows_perm, Fin.sum_univ_eq_sum_range f 64, Fin.sum_univ_eq_sum_range f 16]
  symm
  refine Finset.sum_subset (Finset.range_subset_range.mpr (by omega)) ?_
  intro t _ ht
  exact hf t (by rw [Finset.mem_range] at ht; omega)

/-- A sum over four blocks in which one block counts. -/
theorem diag_sum (G : ℕ → ℕ → EReal) (f : ℕ → EReal) (b : ℕ) (hb : b < 4) :
    ∑ k : Fin 256, G (k.val % 64) (k.val / 64) * (if b = k.val / 64 then f (k.val % 64) else 0) = ∑ j : Fin 64, G j.val b * f j.val := by
  rw [← (finProdFinEquiv (m := 4) (n := 64)).sum_comp, Fintype.sum_prod_type, Finset.sum_eq_single (⟨b, hb⟩ : Fin 4)]
  · refine Finset.sum_congr rfl fun j _ => ?_
    have hv : (finProdFinEquiv ((⟨b, hb⟩ : Fin 4), j)).val = j.val + 64 * b := rfl
    have h1 : (j.val + 64 * b) / 64 = b := by have := j.isLt; omega
    have h2 : (j.val + 64 * b) % 64 = j.val := by have := j.isLt; omega
    rw [hv, h1, h2, if_pos rfl]
  · intro a _ ha
    refine Finset.sum_eq_zero fun j _ => ?_
    have hv : (finProdFinEquiv (a, j)).val = j.val + 64 * a.val := rfl
    have h1 : (j.val + 64 * a.val) / 64 = a.val := by have := j.isLt; omega
    rw [hv, h1, if_neg (fun h => ha (Fin.ext h.symm)), mul_zero]
  · exact fun h => absurd (Finset.mem_univ _) h

/-- The decay from one time to another. -/
def lm (I : Inp) (t u h : ℕ) : EReal := Ideal.exp (if u ≤ t then acs I t h - acs I u h else neg)

/-- What the chunk's own times give to a time. -/
def ydg (I : Inp) (g t c : ℕ) : EReal := ∑ u : Fin 16, cbs I g t u * lm I t u (c / 64) * xdt I u c

/-- What the chunk's times leave in the state. -/
def stt (I : Inp) (g n c : ℕ) : EReal :=
  ∑ u : Fin 16, act I u (1024 + (128 * g + n)) * (xdt I u c * Ideal.exp (acs I 63 (c / 64) - acs I u (c / 64)))

/-- The products of a group of heads summed over the rows. -/
theorem ydg_sum (I : Inp) (g : ℕ) (r : Fin 64) (l : Fin 256) (a b : Fin 256 → EReal)
    (ha : ∀ k : Fin 256, a k = cbs I g (tm r) (tm (k.val % 64)) * lm I (tm r) (tm (k.val % 64)) ((256 * g + k.val) / 64))
    (hb : ∀ k : Fin 256, b k = if l.val / 64 = k.val / 64 then xdt I (tm (k.val % 64)) (256 * g + l.val) else 0) :
    ∑ k : Fin 256, a k * b k = ydg I g (tm r) (256 * g + l.val) := by
  have hl := l.isLt
  have hk : ∀ k : Fin 256, (256 * g + k.val) / 64 = 4 * g + k.val / 64 := fun k => by omega
  have h1 : ∀ k : Fin 256, a k * b k = (fun j h => cbs I g (tm r) (tm j) * lm I (tm r) (tm j) (4 * g + h)) (k.val % 64) (k.val / 64)
      * (if l.val / 64 = k.val / 64 then (fun j => xdt I (tm j) (256 * g + l.val)) (k.val % 64) else 0) := fun k => by
    rw [ha, hb, hk]
  refine (Finset.sum_congr rfl fun k _ => h1 k).trans ((diag_sum (fun j h => cbs I g (tm r) (tm j) * lm I (tm r) (tm j) (4 * g + h))
    (fun j => xdt I (tm j) (256 * g + l.val)) _ (by omega)).trans ?_)
  unfold ydg
  have h2 : (256 * g + l.val) / 64 = 4 * g + l.val / 64 := by omega
  rw [h2]
  exact rows_sum (fun u => cbs I g (tm r) u * lm I (tm r) u (4 * g + l.val / 64) * xdt I u (256 * g + l.val))
    fun t ht => by rw [xdt_late I ht, mul_zero]

/-- Head 0 of a group keeps its lanes. -/
theorem band0 (I : Inp) (g : ℕ) (x : FVec Ideal S64x256 .bf16) (hx : ∀ (r : Fin 64) (l : Fin 256), x (ix2 r l) = xdt I (tm r) (256 * g + l.val))
    (r : Fin 64) (l : Fin 256) :
    select (cmpi .eq k0_pay226 (broadcast S64x256 0#32)) x (broadcast S64x256 (Scalar.ofBits (F := Ideal) .bf16 0x0000#16)) (ix2 r l)
      = if l.val / 64 = (64 * 0 + r.val) / 64 then xdt I (tm ((64 * 0 + r.val) % 64)) (256 * g + l.val) else 0 := by
  have hr := r.isLt
  have hl := l.isLt
  have e : (64 * 0 + r.val) / 64 = 0 := by omega
  have e' : (64 * 0 + r.val) % 64 = r.val := by omega
  have hw := eq_word ⟨l.val / 64, by omega⟩ ⟨0, by omega⟩
  rw [e, e']
  pointwise []
  rw [group_word, hx]
  refine (congrArg (fun w => Scalar.select w _ _) hw).trans ?_
  by_cases h : l.val / 64 = 0
  · rw [if_pos h, if_pos h]; rfl
  · rw [if_neg h, if_neg h]; rfl

/-- Head 1 of a group keeps its lanes. -/
theorem band1 (I : Inp) (g : ℕ) (x : FVec Ideal S64x256 .bf16) (hx : ∀ (r : Fin 64) (l : Fin 256), x (ix2 r l) = xdt I (tm r) (256 * g + l.val))
    (r : Fin 64) (l : Fin 256) :
    select (cmpi .eq k0_pay226 (broadcast S64x256 1#32)) x (broadcast S64x256 (Scalar.ofBits (F := Ideal) .bf16 0x0000#16)) (ix2 r l)
      = if l.val / 64 = (64 * 1 + r.val) / 64 then xdt I (tm ((64 * 1 + r.val) % 64)) (256 * g + l.val) else 0 := by
  have hr := r.isLt
  have hl := l.isLt
  have e : (64 * 1 + r.val) / 64 = 1 := by omega
  have e' : (64 * 1 + r.val) % 64 = r.val := by omega
  have hw := eq_word ⟨l.val / 64, by omega⟩ ⟨1, by omega⟩
  rw [e, e']
  pointwise []
  rw [group_word, hx]
  refine (congrArg (fun w => Scalar.select w _ _) hw).trans ?_
  by_cases h : l.val / 64 = 1
  · rw [if_pos h, if_pos h]; rfl
  · rw [if_neg h, if_neg h]; rfl

/-- Head 2 of a group keeps its lanes. -/
theorem band2 (I : Inp) (g : ℕ) (x : FVec Ideal S64x256 .bf16) (hx : ∀ (r : Fin 64) (l : Fin 256), x (ix2 r l) = xdt I (tm r) (256 * g + l.val))
    (r : Fin 64) (l : Fin 256) :
    select (cmpi .eq k0_pay226 (broadcast S64x256 2#32)) x (broadcast S64x256 (Scalar.ofBits (F := Ideal) .bf16 0x0000#16)) (ix2 r l)
      = if l.val / 64 = (64 * 2 + r.val) / 64 then xdt I (tm ((64 * 2 + r.val) % 64)) (256 * g + l.val) else 0 := by
  have hr := r.isLt
  have hl := l.isLt
  have e : (64 * 2 + r.val) / 64 = 2 := by omega
  have e' : (64 * 2 + r.val) % 64 = r.val := by omega
  have hw := eq_word ⟨l.val / 64, by omega⟩ ⟨2, by omega⟩
  rw [e, e']
  pointwise []
  rw [group_word, hx]
  refine (congrArg (fun w => Scalar.select w _ _) hw).trans ?_
  by_cases h : l.val / 64 = 2
  · rw [if_pos h, if_pos h]; rfl
  · rw [if_neg h, if_neg h]; rfl

/-- Head 3 of a group keeps its lanes. -/
theorem band3 (I : Inp) (g : ℕ) (x : FVec Ideal S64x256 .bf16) (hx : ∀ (r : Fin 64) (l : Fin 256), x (ix2 r l) = xdt I (tm r) (256 * g + l.val))
    (r : Fin 64) (l : Fin 256) :
    select (cmpi .eq k0_pay226 (broadcast S64x256 3#32)) x (broadcast S64x256 (Scalar.ofBits (F := Ideal) .bf16 0x0000#16)) (ix2 r l)
      = if l.val / 64 = (64 * 3 + r.val) / 64 then xdt I (tm ((64 * 3 + r.val) % 64)) (256 * g + l.val) else 0 := by
  have hr := r.isLt
  have hl := l.isLt
  have e : (64 * 3 + r.val) / 64 = 3 := by omega
  have e' : (64 * 3 + r.val) % 64 = r.val := by omega
  have hw := eq_word ⟨l.val / 64, by omega⟩ ⟨3, by omega⟩
  rw [e, e']
  pointwise []
  rw [group_word, hx]
  refine (congrArg (fun w => Scalar.select w _ _) hw).trans ?_
  by_cases h : l.val / 64 = 3
  · rw [if_pos h, if_pos h]; rfl
  · rw [if_neg h, if_neg h]; rfl

/-- What the chunk's own times give to the rows of group 0. -/
theorem a_v1403 (I : Inp) (r : Fin 64) (l : Fin 256) : v1403 I (ix2 r l) = ydg I 0 (tm r) (256 * 0 + l.val) := by
  have hx : ∀ (r : Fin 64) (l : Fin 256), extractStridedSlice S64x256 ![0, 0] (v1352 I) slices_S64x1024_o0_0_S64x256 (ix2 r l) = xdt I (tm r) (256 * 0 + l.val) := by
    intro r l
    pointwise []
    rw [a_v1352]
    all_goals (congr 1 <;> omega)
  unfold v1403 v1384 v1385 v1389 v1393 v1395 v1379 k0_pay234 k0_pay229 k0_pay231 k0_pay232 k0_pay233 k0_pay230
  rw [mm_rc]
  refine ydg_sum I 0 r l _ _ (fun k => ?_) (fun k => ?_)
  · pointwise []
    rw [a_v1108, a_v1344]
    have e1 : (0 + k.val) % 64 = k.val % 64 := by omega
    unfold lm

    rfl
  · exact rows256 _ _ _ _ (fun j l => if l / 64 = j / 64 then xdt I (tm (j % 64)) (256 * 0 + l) else 0) _
      (band0 I 0 _ hx) (band1 I 0 _ hx) (band2 I 0 _ hx) (band3 I 0 _ hx) k l

/-- What the chunk's own times give to the rows of group 1. -/
theorem a_v1429 (I : Inp) (r : Fin 64) (l : Fin 256) : v1429 I (ix2 r l) = ydg I 1 (tm r) (256 * 1 + l.val) := by
  have hx : ∀ (r : Fin 64) (l : Fin 256), extractStridedSlice S64x256 ![0, 256] (v1352 I) slices_S64x1024_o0_256_S64x256 (ix2 r l) = xdt I (tm r) (256 * 1 + l.val) := by
    intro r l
    pointwise []
    rw [a_v1352]
    all_goals (congr 1 <;> omega)
  unfold v1429 v1379 k0_pay237
  rw [mm_rc]
  refine ydg_sum I 1 r l _ _ (fun k => ?_) (fun k => ?_)
  · pointwise []
    rw [a_v1112, a_v1344]
    have e1 : (256 + k.val) % 64 = k.val % 64 := by omega
    unfold lm
    show _ * Ideal.exp (if tm ((256 + k.val) % 64) ≤ _ then _ - acs I (tm ((256 + k.val) % 64)) _ else _) = _
    rw [e1]
  · exact rows256 _ _ _ _ (fun j l => if l / 64 = j / 64 then xdt I (tm (j % 64)) (256 * 1 + l) else 0) _
      (band0 I 1 _ hx) (band1 I 1 _ hx) (band2 I 1 _ hx) (band3 I 1 _ hx) k l

/-- What the chunk's own times give to the rows of group 2. -/
theorem a_v1455 (I : Inp) (r : Fin 64) (l : Fin 256) : v1455 I (ix2 r l) = ydg I 2 (tm r) (256 * 2 + l.val) := by
  have hx : ∀ (r : Fin 64) (l : Fin 256), extractStridedSlice S64x256 ![0, 512] (v1352 I) slices_S64x1024_o0_512_S64x256 (ix2 r l) = xdt I (tm r) (256 * 2 + l.val) := by
    intro r l
    pointwise []
    rw [a_v1352]
    all_goals (congr 1 <;> omega)
  unfold v1455 v1379 v1436 v1437 v1439 k0_pay244 k0_pay241 k0_pay242 k0_pay243
  rw [mm_rc]
  refine ydg_sum I 2 r l _ _ (fun k => ?_) (fun k => ?_)
  · pointwise []
    rw [a_v1116, a_v1344]
    have e1 : (512 + k.val) % 64 = k.val % 64 := by omega
    unfold lm
    show _ * Ideal.exp (if tm ((512 + k.val) % 64) ≤ _ then _ - acs I (tm ((512 + k.val) % 64)) _ else _) = _
    rw [e1]
  · exact rows256 _ _ _ _ (fun j l => if l / 64 = j / 64 then xdt I (tm (j % 64)) (256 * 2 + l) else 0) _
      (band0 I 2 _ hx) (band1 I 2 _ hx) (band2 I 2 _ hx) (band3 I 2 _ hx) k l

/-- What the chunk's own times give to the rows of group 3. -/
theorem a_v1481 (I : Inp) (r : Fin 64) (l : Fin 256) : v1481 I (ix2 r l) = ydg I 3 (tm r) (256 * 3 + l.val) := by
  have hx : ∀ (r : Fin 64) (l : Fin 256), extractStridedSlice S64x256 ![0, 768] (v1352 I) slices_S64x1024_o0_768_S64x256 (ix2 r l) = xdt I (tm r) (256 * 3 + l.val) := by
    intro r l
    pointwise []
    rw [a_v1352]
    all_goals (congr 1 <;> omega)
  unfold v1481 v1379 k0_pay248
  rw [mm_rc]
  refine ydg_sum I 3 r l _ _ (fun k => ?_) (fun k => ?_)
  · pointwise []
    rw [a_v1120, a_v1344]
    have e1 : (768 + k.val) % 64 = k.val % 64 := by omega
    unfold lm
    show _ * Ideal.exp (if tm ((768 + k.val) % 64) ≤ _ then _ - acs I (tm ((768 + k.val) % 64)) _ else _) = _
    rw [e1]
  · exact rows256 _ _ _ _ (fun j l => if l / 64 = j / 64 then xdt I (tm (j % 64)) (256 * 3 + l) else 0) _
      (band0 I 3 _ hx) (band1 I 3 _ hx) (band2 I 3 _ hx) (band3 I 3 _ hx) k l

/-- What the chunk's times leave in the state of group 0. -/
theorem a_v1405 (I : Inp) (n : Fin 128) (l : Fin 256) : v1405 I (ix2 n l) = stt I 0 n.val (256 * 0 + l.val) := by
  unfold v1405 v1380 k0_pay235 k0_pay227
  rw [mm_cc]
  refine Eq.trans ?_ (rows_sum (fun u => act I u (1024 + (128 * 0 + n.val)) * (xdt I u (256 * 0 + l.val) * Ideal.exp (acs I 63 ((256 * 0 + l.val) / 64) - acs I u ((256 * 0 + l.val) / 64))))
    fun t ht => by rw [xdt_late I ht, zero_mul, mul_zero])
  refine Finset.sum_congr rfl fun k _ => ?_
  pointwise []
  rw [a_v979, a_v1354]
  all_goals (congr 3 <;> omega)

/-- What the chunk's times leave in the state of group 1. -/
theorem a_v1431 (I : Inp) (n : Fin 128) (l : Fin 256) : v1431 I (ix2 n l) = stt I 1 n.val (256 * 1 + l.val) := by
  unfold v1431 k0_pay238
  rw [mm_cc]
  refine Eq.trans ?_ (rows_sum (fun u => act I u (1024 + (128 * 1 + n.val)) * (xdt I u (256 * 1 + l.val) * Ideal.exp (acs I 63 ((256 * 1 + l.val) / 64) - acs I u ((256 * 1 + l.val) / 64))))
    fun t ht => by rw [xdt_late I ht, zero_mul, mul_zero])
  refine Finset.sum_congr rfl fun k _ => ?_
  pointwise []
  rw [a_v979, a_v1354]
  all_goals (congr 3 <;> omega)

/-- What the chunk's times leave in the state of group 2. -/
theorem a_v1457 (I : Inp) (n : Fin 128) (l : Fin 256) : v1457 I (ix2 n l) = stt I 2 n.val (256 * 2 + l.val) := by
  unfold v1457 v1432 k0_pay245 k0_pay239
  rw [mm_cc]
  refine Eq.trans ?_ (rows_sum (fun u => act I u (1024 + (128 * 2 + n.val)) * (xdt I u (256 * 2 + l.val) * Ideal.exp (acs I 63 ((256 * 2 + l.val) / 64) - acs I u ((256 * 2 + l.val) / 64))))
    fun t ht => by rw [xdt_late I ht, zero_mul, mul_zero])
  refine Finset.sum_congr rfl fun k _ => ?_
  pointwise []
  rw [a_v979, a_v1354]
  all_goals (congr 3 <;> omega)

/-- What the chunk's times leave in the state of group 3. -/
theorem a_v1483 (I : Inp) (n : Fin 128) (l : Fin 256) : v1483 I (ix2 n l) = stt I 3 n.val (256 * 3 + l.val) := by
  unfold v1483 v1458 k0_pay249 k0_pay246
  rw [mm_cc]
  refine Eq.trans ?_ (rows_sum (fun u => act I u (1024 + (128 * 3 + n.val)) * (xdt I u (256 * 3 + l.val) * Ideal.exp (acs I 63 ((256 * 3 + l.val) / 64) - acs I u ((256 * 3 + l.val) / 64))))
    fun t ht => by rw [xdt_late I ht, zero_mul, mul_zero])
  refine Finset.sum_congr rfl fun k _ => ?_
  pointwise []
  rw [a_v979, a_v1354]
  all_goals (congr 3 <;> omega)

end Cert.Ssd
-- ==== Proof.SsdState.lean ====
module
public import proofs.«01_k».proof.Proof.SsdGrp
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

/-- The state before the chunk. -/
def h0r (I : Inp) (n c : ℕ) : EReal := if h : n < 128 ∧ c < 1024 then I.w10 (ix3 0 ⟨n, h.1⟩ ⟨c, h.2⟩) else 0

/-- The state before the chunk, at one of its places. -/
theorem h0r_at (I : Inp) (z : Fin 1) (n : Fin 128) (c : Fin 1024) : I.w10 (ix3 z n c) = h0r I n.val c.val := by
  obtain rfl : z = 0 := Subsingleton.elim _ _
  unfold h0r
  rw [dif_pos ⟨n.isLt, c.isLt⟩]

/-- The state after the chunk, in one group. -/
def hnew (I : Inp) (g n c : ℕ) : EReal := Ideal.exp (acs I 63 (c / 64)) * h0r I n c + stt I g n c

/-- A stored column block, read inside. -/
theorem hit (o : ℕ) (inb) (w : S1x128x256.Idx → EReal) (L : List (View.Piece (Elt Ideal) S1x128x1024 .f32)) (z : Fin 1) (n : Fin 128) (c : Fin 1024) (l : Fin 256)
    (hc : c.val = o + l.val) :
    View.canon (Val := Elt Ideal) (⟨Rect.unit (s := S1x128x1024) ![0, 0, o] S1x128x256.size inb, w⟩ :: L) (ix3 z n c) = w (ix3 z n l) := by
  have e : ix3 z n c = (Rect.unit (s := S1x128x1024) ![0, 0, o] S1x128x256.size inb).emb (ix3 z n l) := by
    funext a
    match a with
    | 0 => exact Fin.ext (show z.val = 0 + 1 * z.val by omega)
    | 1 => exact Fin.ext (show n.val = 0 + 1 * n.val by omega)
    | 2 => exact Fin.ext (show c.val = o + 1 * l.val by omega)
  rw [e]
  exact View.canon_cons_emb _ _ _ _

/-- A stored column block, read outside. -/
theorem miss (o : ℕ) (inb) (w : S1x128x256.Idx → EReal) (L : List (View.Piece (Elt Ideal) S1x128x1024 .f32)) (z : Fin 1) (n : Fin 128) (c : Fin 1024)
    (hc : c.val < o ∨ o + 256 ≤ c.val) :
    View.canon (Val := Elt Ideal) (⟨Rect.unit (s := S1x128x1024) ![0, 0, o] S1x128x256.size inb, w⟩ :: L) (ix3 z n c) = View.canon L (ix3 z n c) := by
  refine View.canon_cons_of_not_mem _ _ fun h => ?_
  have h2 := (Rect.mem_set_unit (inb := inb)).mp h 2
  have h3 : o ≤ c.val ∧ c.val < o + 256 := h2
  omega

/-- The state as first stored. -/
theorem canon_h0 (I : Inp) (z : Fin 1) (n : Fin 128) (c : Fin 1024) : View.canon I.L15 (ix3 z n c) = h0r I n.val c.val := by
  rw [← h0r_at I z n c]
  unfold Inp.L15
  have e : ix3 z n c = (Rect.unit (s := S1x128x1024) ![0, 0, 0] S1x128x1024.size inb_S1x128x1024_S1x128x1024_0_0_0).emb (ix3 z n c) := by
    funext a
    match a with
    | 0 => exact Fin.ext (show z.val = 0 + 1 * z.val by omega)
    | 1 => exact Fin.ext (show n.val = 0 + 1 * n.val by omega)
    | 2 => exact Fin.ext (show c.val = 0 + 1 * c.val by omega)
  refine (congrArg _ e).trans ((View.canon_cons_emb _ _ _ _).trans ?_)
  pointwise [k0_pay34]

/-- The place of a load in the state. -/
theorem st_idx (o : ℕ) (inb) (z : Fin 1) (n : Fin 128) (l : Fin 256) (h : o + l.val < 1024) :
    (Rect.unit (s := S1x128x1024) ![0, 0, o] S1x128x256.size inb).idx (ix3 z n l) = ix3 z n ⟨o + l.val, h⟩ := by
  funext a
  match a with
  | 0 => exact Fin.ext (show 0 + 1 * z.val = z.val by omega)
  | 1 => exact Fin.ext (show 0 + 1 * n.val = n.val by omega)
  | 2 => exact Fin.ext (show o + 1 * l.val = o + l.val by omega)

/-- The load of group 0's columns of the state. -/
theorem a_v1484 (I : Inp) (z : Fin 1) (n : Fin 128) (l : Fin 256) : v1484 I (ix3 z n l) = h0r I n.val (256 * 0 + l.val) := by
  have hl := l.isLt
  show View.canon (I.L15) _ = _
  refine (congrArg _ (st_idx 0 _ z n l (by omega))).trans ?_
  exact canon_h0 I z n _

/-- The stored columns of group 0. -/
theorem a_st0 (I : Inp) (z : Fin 1) (n : Fin 128) (l : Fin 256) : (k0_pay252 (v1350 I) (v1405 I) (v1484 I)) (ix3 z n l) = hnew I 0 n.val (256 * 0 + l.val) := by
  pointwise [k0_pay252, k0_pay250]
  unfold hnew
  refine congrArg₂ (· + ·) (congrArg₂ (· * ·) ?_ ?_) ((a_v1405 I n l).trans (by rw [Nat.mul_zero, Nat.zero_add]))
  · rw [a_v1350]
    all_goals (congr 3 <;> omega)
  · exact (a_v1484 I _ n l).trans (by rw [Nat.mul_zero, Nat.zero_add])

/-- The load of group 1's columns of the state. -/
theorem a_v1498 (I : Inp) (z : Fin 1) (n : Fin 128) (l : Fin 256) : v1498 I (ix3 z n l) = h0r I n.val (256 * 1 + l.val) := by
  have hl := l.isLt
  show View.canon (L15_1 I) _ = _
  refine (congrArg _ (st_idx 256 _ z n l (by omega))).trans ?_
  unfold L15_1
  refine (miss _ _ _ _ _ _ _ (Or.inr (show 0 + 256 ≤ 256 + l.val by omega))).trans ?_
  exact canon_h0 I z n _

/-- The stored columns of group 1. -/
theorem a_st1 (I : Inp) (z : Fin 1) (n : Fin 128) (l : Fin 256) : (k0_pay255 (v1350 I) (v1431 I) (v1498 I)) (ix3 z n l) = hnew I 1 n.val (256 * 1 + l.val) := by
  pointwise [k0_pay255, k0_pay253]
  unfold hnew
  refine congrArg₂ (· + ·) (congrArg₂ (· * ·) ?_ ?_) (a_v1431 I n l)
  · rw [a_v1350]
    all_goals (congr 3 <;> omega)
  · exact a_v1498 I _ n l

/-- The load of group 2's columns of the state. -/
theorem a_v1512 (I : Inp) (z : Fin 1) (n : Fin 128) (l : Fin 256) : v1512 I (ix3 z n l) = h0r I n.val (256 * 2 + l.val) := by
  have hl := l.isLt
  show View.canon (L15_2 I) _ = _
  refine (congrArg _ (st_idx 512 _ z n l (by omega))).trans ?_
  unfold L15_2 L15_1
  refine (miss _ _ _ _ _ _ _ (Or.inr (show 256 + 256 ≤ 512 + l.val by omega))).trans ?_
  refine (miss _ _ _ _ _ _ _ (Or.inr (show 0 + 256 ≤ 512 + l.val by omega))).trans ?_
  exact canon_h0 I z n _

/-- The stored columns of group 2. -/
theorem a_st2 (I : Inp) (z : Fin 1) (n : Fin 128) (l : Fin 256) : (k0_pay259 (v1457 I) (v1513 I) (v1520 I)) (ix3 z n l) = hnew I 2 n.val (256 * 2 + l.val) := by
  pointwise [k0_pay259, v1513, v1520, k0_pay256, k0_pay258]
  unfold hnew
  refine congrArg₂ (· + ·) (congrArg₂ (· * ·) ?_ ?_) (a_v1457 I n l)
  · rw [a_v1350]
    all_goals (congr 3 <;> omega)
  · exact a_v1512 I _ n l

/-- The load of group 3's columns of the state. -/
theorem a_v1526 (I : Inp) (z : Fin 1) (n : Fin 128) (l : Fin 256) : v1526 I (ix3 z n l) = h0r I n.val (256 * 3 + l.val) := by
  have hl := l.isLt
  show View.canon (L15_3 I) _ = _
  refine (congrArg _ (st_idx 768 _ z n l (by omega))).trans ?_
  unfold L15_3 L15_2 L15_1
  refine (miss _ _ _ _ _ _ _ (Or.inr (show 512 + 256 ≤ 768 + l.val by omega))).trans ?_
  refine (miss _ _ _ _ _ _ _ (Or.inr (show 256 + 256 ≤ 768 + l.val by omega))).trans ?_
  refine (miss _ _ _ _ _ _ _ (Or.inr (show 0 + 256 ≤ 768 + l.val by omega))).trans ?_
  exact canon_h0 I z n _

/-- The stored columns of group 3. -/
theorem a_st3 (I : Inp) (z : Fin 1) (n : Fin 128) (l : Fin 256) : (k0_pay261 (v1350 I) (v1483 I) (v1526 I)) (ix3 z n l) = hnew I 3 n.val (256 * 3 + l.val) := by
  pointwise [k0_pay261, k0_pay260]
  unfold hnew
  refine congrArg₂ (· + ·) (congrArg₂ (· * ·) ?_ ?_) (a_v1483 I n l)
  · rw [a_v1350]
    all_goals (congr 3 <;> omega)
  · exact a_v1526 I _ n l

/-- The state stored at the end. -/
theorem state_at (I : Inp) (z : Fin 1) (n : Fin 128) (c : Fin 1024) : View.canon (L15_4 I) (ix3 z n c) = hnew I (c.val / 256) n.val c.val := by
  have hc := c.isLt
  unfold L15_4 L15_3 L15_2 L15_1
  rcases (by omega : c.val / 256 = 3 ∨ c.val / 256 = 2 ∨ c.val / 256 = 1 ∨ c.val / 256 = 0) with h | h | h | h <;> rw [h]

  · refine (hit _ _ _ _ z n c ⟨c.val - 768, by omega⟩ (show c.val = 768 + (c.val - 768) by omega)).trans ((a_st3 I z n _).trans ?_)
    congr 1
    show 256 * 3 + (c.val - 768) = c.val
    omega

  · refine (miss _ _ _ _ _ _ _ (Or.inl (show c.val < 768 by omega))).trans ?_
    refine (hit _ _ _ _ z n c ⟨c.val - 512, by omega⟩ (show c.val = 512 + (c.val - 512) by omega)).trans ((a_st2 I z n _).trans ?_)
    congr 1
    show 256 * 2 + (c.val - 512) = c.val
    omega

  · refine (miss _ _ _ _ _ _ _ (Or.inl (show c.val < 768 by omega))).trans ?_
    refine (miss _ _ _ _ _ _ _ (Or.inl (show c.val < 512 by omega))).trans ?_
    refine (hit _ _ _ _ z n c ⟨c.val - 256, by omega⟩ (show c.val = 256 + (c.val - 256) by omega)).trans ((a_st1 I z n _).trans ?_)
    congr 1
    show 256 * 1 + (c.val - 256) = c.val
    omega

  · refine (miss _ _ _ _ _ _ _ (Or.inl (show c.val < 768 by omega))).trans ?_
    refine (miss _ _ _ _ _ _ _ (Or.inl (show c.val < 512 by omega))).trans ?_
    refine (miss _ _ _ _ _ _ _ (Or.inl (show c.val < 256 by omega))).trans ?_
    refine (hit _ _ _ _ z n c ⟨c.val - 0, by omega⟩ (show c.val = 0 + (c.val - 0) by omega)).trans ((a_st0 I z n _).trans ?_)
    congr 1
    show 256 * 0 + (c.val - 0) = c.val
    omega

/-- A time's output in one group, before skip and gate. -/
def yg (I : Inp) (g t c : ℕ) : EReal :=
  ydg I g t c + Ideal.exp (acs I t (c / 64)) * ∑ k : Fin 128, act I t (1536 + (128 * g + k)) * h0r I k c

/-- The rows of group 0. -/
theorem a_yg0 (I : Inp) (r : Fin 64) (l : Fin 256) : v1490 I (ix2 r l) = yg I 0 (tm r) (256 * 0 + l.val) := by
  unfold v1490 k0_pay251 k0_pay250
  unfold yg
  refine congrArg₂ (· + ·) (a_v1403 I r l) (congrArg₂ (· * ·) ?_ ((mm_rs _ _ r l).trans (Finset.sum_congr rfl fun k _ => congrArg₂ (· * ·) ?_ ?_)))
  · pointwise []
    rw [a_v1346]
    all_goals (congr 3 <;> omega)
  · pointwise [v1381, k0_pay228]
    rw [a_v981]
    all_goals (congr 1 <;> omega)
  · pointwise []
    exact (a_v1484 I _ k l).trans (by rw [Nat.mul_zero, Nat.zero_add])

/-- The rows of group 1. -/
theorem a_yg1 (I : Inp) (r : Fin 64) (l : Fin 256) : v1504 I (ix2 r l) = yg I 1 (tm r) (256 * 1 + l.val) := by
  unfold v1504 k0_pay254 k0_pay253
  unfold yg
  refine congrArg₂ (· + ·) (a_v1429 I r l) (congrArg₂ (· * ·) ?_ ((mm_rs _ _ r l).trans (Finset.sum_congr rfl fun k _ => congrArg₂ (· * ·) ?_ ?_)))
  · pointwise []
    rw [a_v1346]
    all_goals (congr 3 <;> omega)
  · pointwise [v1407, k0_pay236]
    rw [a_v981]
    all_goals (congr 1 <;> omega)
  · pointwise []
    exact a_v1498 I _ k l

/-- The rows of group 2. -/
theorem a_yg2 (I : Inp) (r : Fin 64) (l : Fin 256) : v1518 I (ix2 r l) = yg I 2 (tm r) (256 * 2 + l.val) := by
  unfold v1518 k0_pay257 k0_pay256
  unfold yg
  refine congrArg₂ (· + ·) (a_v1455 I r l) (congrArg₂ (· * ·) ?_ ((mm_rs _ _ r l).trans (Finset.sum_congr rfl fun k _ => congrArg₂ (· * ·) ?_ ?_)))
  · pointwise []
    rw [a_v1346]
    all_goals (congr 3 <;> omega)
  · pointwise [v1433, k0_pay240]
    rw [a_v981]
    all_goals (congr 1 <;> omega)
  · pointwise []
    exact a_v1512 I _ k l

/-- The rows of group 3. -/
theorem a_yg3 (I : Inp) (r : Fin 64) (l : Fin 256) : addf (v1481 I) (mulf (extractStridedSlice S64x256 ![0, 768] (v1346 I) slices_S64x1024_o0_768_S64x256) (matmul dot_S64x128_S128x256_S64x256_1_0_0_1_n_n none (v1459 I) (truncf .bf16 (k0_pay260 (v1526 I)) bitsLt_bf16_f32) (constant S64x256 .f32 0x00000000#32))) (ix2 r l) = yg I 3 (tm r) (256 * 3 + l.val) := by
  unfold k0_pay260
  unfold yg
  refine congrArg₂ (· + ·) (a_v1481 I r l) (congrArg₂ (· * ·) ?_ ((mm_rs _ _ r l).trans (Finset.sum_congr rfl fun k _ => congrArg₂ (· * ·) ?_ ?_)))
  · pointwise []
    rw [a_v1346]
    all_goals (congr 3 <;> omega)
  · pointwise [v1459, k0_pay247]
    rw [a_v981]
    all_goals (congr 1 <;> omega)
  · pointwise []
    exact a_v1526 I _ k l

/-- A time's gated output. -/
def y2 (I : Inp) (t : ℕ) (c : Fin 1024) : EReal := (yg I (c.val / 256) t c + I.w7 (ix2 0 c) * act I t c) * gate I t c

/-- A time's gated and normalized output. -/
def yn (I : Inp) (t : ℕ) (c : Fin 1024) : EReal :=
  y2 I t c * Ideal.rsqrt (Ideal.div (∑ k : Fin 1024, y2 I t k * y2 I t k) (Ideal.ofBits .f32 0x44800000#32) + Ideal.ofBits .f32 0x358637BD#32) * I.w8 (ix2 0 c)

/-- Skip, gate and norm of a row. -/
theorem norm_at (Y S G : FVec Ideal S64x1024 .f32) (w : Vec Ideal S1x1024 .f32) (r : Fin 64) (c : Fin 1024) :
    (truncf .bf16 (mulf (mulf (mulf (addf Y S) G) (broadcastTo S64x1024 (rsqrt (addf (divf (shapeCast S64x1 (multiReduction .add [1] S64
      (mulf (mulf (addf Y S) G) (mulf (addf Y S) G)) 0x00000000#32 reduces_S64x1024_S64 (.inl rfl) rfl) shapeCasts_S64_S64x1)
      (broadcast S64x1 (Scalar.ofBits .f32 0x44800000#32))) (broadcast S64x1 (Scalar.ofBits .f32 0x358637BD#32)))) broadcasts_S64x1_S64x1024))
      (broadcastTo S64x1024 w broadcasts_S1x1024_S64x1024)) bitsLt_bf16_f32) (ix2 r c)
    = ((Y (ix2 r c) + S (ix2 r c)) * G (ix2 r c)) * Ideal.rsqrt (Ideal.div (∑ k : Fin 1024, ((Y (ix2 r k) + S (ix2 r k)) * G (ix2 r k)) * ((Y (ix2 r k) + S (ix2 r k)) * G (ix2 r k)))
        (Ideal.ofBits .f32 0x44800000#32) + Ideal.ofBits .f32 0x358637BD#32) * w (ix2 0 c) := by
  pointwise []

/-- The gated and normalized rows. -/
theorem a_v1556 (I : Inp) (r : Fin 64) (c : Fin 1024) : v1556 I (ix2 r c) = yn I (tm r) c := by
  unfold v1556 k0_pay262
  refine (norm_at _ _ _ _ r c).trans ?_
  have hY : ∀ c : Fin 1024, concatenate S64x1024 1 [⟨S64x256, v1490 I⟩, ⟨S64x256, v1504 I⟩, ⟨S64x256, v1518 I⟩, ⟨S64x256, addf (v1481 I) (mulf (extractStridedSlice S64x256 ![0, 768] (v1346 I) slices_S64x1024_o0_768_S64x256) (matmul dot_S64x128_S128x256_S64x256_1_0_0_1_n_n none (v1459 I) (truncf .bf16 (k0_pay260 (v1526 I)) bitsLt_bf16_f32) (constant S64x256 .f32 0x00000000#32)))⟩] concatenates_S64x256_S64x256_S64x256_S64x256_S64x1024_d1 (ix2 r c)
      = yg I (c.val / 256) (tm r) c := fun c =>
    groups _ _ _ _ (fun j c => yg I (c / 256) (tm j) c) _
      (fun r l => (a_yg0 I r l).trans (by rw [show (256 * 0 + l.val) / 256 = 0 by omega]))
      (fun r l => (a_yg1 I r l).trans (by rw [show (256 * 1 + l.val) / 256 = 1 by omega]))
      (fun r l => (a_yg2 I r l).trans (by rw [show (256 * 2 + l.val) / 256 = 2 by omega]))
      (fun r l => (a_yg3 I r l).trans (by rw [show (256 * 3 + l.val) / 256 = 3 by omega])) r c
  have h2 : ∀ c : Fin 1024, (concatenate S64x1024 1 [⟨S64x256, v1490 I⟩, ⟨S64x256, v1504 I⟩, ⟨S64x256, v1518 I⟩, ⟨S64x256, addf (v1481 I) (mulf (extractStridedSlice S64x256 ![0, 768] (v1346 I) slices_S64x1024_o0_768_S64x256) (matmul dot_S64x128_S128x256_S64x256_1_0_0_1_n_n none (v1459 I) (truncf .bf16 (k0_pay260 (v1526 I)) bitsLt_bf16_f32) (constant S64x256 .f32 0x00000000#32)))⟩] concatenates_S64x256_S64x256_S64x256_S64x256_S64x1024_d1 (ix2 r c)
      + v1167 I (ix2 r c)) * v1163 I (ix2 r c) = y2 I (tm r) c := fun c => by
    unfold y2
    refine congrArg₂ (· * ·) (congrArg₂ (· + ·) (hY c) (a_v1167 I r c)) (a_v1163 I r c)
  unfold yn
  refine congrArg₂ (· * ·) (congrArg₂ (· * ·) (h2 c) ?_) rfl
  refine congrArg (fun s => Ideal.rsqrt (Ideal.div s _ + _)) ?_
  exact Finset.sum_congr rfl fun k _ => congrArg₂ (· * ·) (h2 k) (h2 k)

/-- One where two times agree, zero elsewhere. -/
theorem hot (a b : Fin 64) : FloatOps.sitofp (F := Ideal) FTy.f32 (BitVec.setWidth 32 (IntOp.cmpi CmpIPredicate.eq (BitVec.ofNat 32 a.val) (BitVec.ofNat 32 b.val)))
    = if a.val = b.val then 1 else 0 := by
  rw [eq_word]
  by_cases h : a.val = b.val
  · rw [if_pos h, if_pos h]
    show ((((BitVec.setWidth 32 1#1).toInt : ℤ) : ℝ) : EReal) = 1
    rw [show (BitVec.setWidth 32 1#1).toInt = 1 from by decide]
    simp
  · rw [if_neg h, if_neg h]
    show ((((BitVec.setWidth 32 0#1).toInt : ℤ) : ℝ) : EReal) = 0
    rw [show (BitVec.setWidth 32 0#1).toInt = 0 from by decide]
    simp

/-- The rows put back into the order of the times. -/
theorem y_at (I : Inp) (z : Fin 1) (t : Fin 64) (c : Fin 1024) : yOut I (ix3 z t c) = yn I t.val c := by
  unfold yOut v1557 v1561
  pointwise [k0_pay264, k0_pay263]
  have h1 : ∀ x : Fin 64, FloatOps.sitofp (F := Ideal) FTy.f32 (BitVec.setWidth 32 (IntOp.cmpi CmpIPredicate.eq
      (IntOp.ori (IntOp.shli ArithUnit.vector (IntOp.andi (BitVec.ofNat 32 x.val) 31#32) 1#32) (IntOp.shrsi ArithUnit.vector (BitVec.ofNat 32 x.val) 5#32))
      (BitVec.ofNat 32 t.val))) * v1556 I (ix2 x c) = (fun u => (if u = t.val then 1 else 0) * yn I u c) (tm x) := fun x => by
    rw [tm_word, hot ⟨tm x, tm_lt64 x⟩ t, a_v1556]
  refine (Finset.sum_congr rfl fun x _ => h1 x).trans ((rows_perm (fun u => (if u = t.val then 1 else 0) * yn I u c)).trans ?_)
  rw [Finset.sum_eq_single t]
  · show (if t.val = t.val then 1 else 0) * yn I t.val c = _
    rw [if_pos rfl, one_mul]
  · intro b _ hb
    show (if b.val = t.val then 1 else 0) * yn I b.val c = _
    rw [if_neg (fun h => hb (Fin.ext h)), zero_mul]
  · exact fun h => absurd (Finset.mem_univ t) h

end Cert.Ssd
-- ==== Proof.SsdTail.lean ====
module
public import proofs.«01_k».proof.Proof.SsdGrp
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

/-- The padded columns once the first `k` blocks hold their new tail. -/
def Tail (I : Inp) (k : ℕ) (L : List (View.Piece (Elt Ideal) S16x72x128 .f32)) : Prop :=
  ∀ (s : Fin 16) (r : Fin 72) (l : Fin 128), 5 ≤ r.val → View.canon L (ix3 s r l)
    = if s.val < k ∧ r.val < 8 then xrow I (r.val + 11) (128 * s.val + l.val) else xrow I (r.val - 5) (128 * s.val + l.val)

/-- The place of a short load in the padded columns. -/
theorem pad_idx (k o : ℕ) (inb) (z : Fin 1) (r : Fin 3) (l : Fin 128) (hk : k < 16) (h : o + r.val < 72) :
    (Rect.unit (s := S16x72x128) ![k, o, 0] S1x3x128.size inb).idx (ix3 z r l) = ix3 ⟨k, hk⟩ ⟨o + r.val, h⟩ l := by
  have hz := z.isLt
  funext a
  match a with
  | 0 => exact Fin.ext (show k + 1 * z.val = k by omega)
  | 1 => exact Fin.ext (show o + 1 * r.val = o + r.val by omega)
  | 2 => exact Fin.ext (show 0 + 1 * l.val = l.val by omega)

/-- One block more gets its new tail. -/
theorem tail_step (I : Inp) (k : ℕ) (hk : k < 16) (L : List (View.Piece (Elt Ideal) S16x72x128 .f32)) (inb inb') (w : S1x3x128.Idx → EReal)
    (hL : Tail I k L) (hw : ∀ j, w j = View.canon L ((Rect.unit (s := S16x72x128) ![k, 21, 0] S1x3x128.size inb').idx j)) :
    Tail I (k + 1) (⟨Rect.unit (s := S16x72x128) ![k, 5, 0] S1x3x128.size inb, w⟩ :: L) := by
  intro s r l hr
  have hl := l.isLt
  by_cases h : s.val = k ∧ r.val < 8
  · have e : ix3 s r l = (Rect.unit (s := S16x72x128) ![k, 5, 0] S1x3x128.size inb).emb (ix3 (0 : Fin 1) (⟨r.val - 5, by omega⟩ : Fin 3) l) := by
      funext a
      match a with
      | 0 => exact Fin.ext (show s.val = k + 1 * 0 by omega)
      | 1 => exact Fin.ext (show r.val = 5 + 1 * (r.val - 5) by omega)
      | 2 => exact Fin.ext (show l.val = 0 + 1 * l.val by omega)
    rw [if_pos ⟨by omega, h.2⟩]
    refine (congrArg _ e).trans ((View.canon_cons_emb _ _ _ _).trans ((hw _).trans ?_))
    refine (congrArg _ (pad_idx k 21 _ _ _ l hk (show 21 + (r.val - 5) < 72 by omega))).trans ((hL _ _ _ (show 5 ≤ 21 + (r.val - 5) by omega)).trans ?_)
    refine (if_neg (show ¬ (k < k ∧ 21 + (r.val - 5) < 8) by omega)).trans ?_
    show xrow I (21 + (r.val - 5) - 5) (128 * k + l.val) = _
    rw [h.1]
    congr 1
    omega
  · refine (View.canon_cons_of_not_mem _ _ fun hm => ?_).trans ((hL s r l hr).trans ?_)
    · have h0 : k ≤ s.val ∧ s.val < k + 1 := (Rect.mem_set_unit (inb := inb)).mp hm 0
      have h1 : 5 ≤ r.val ∧ r.val < 5 + 3 := (Rect.mem_set_unit (inb := inb)).mp hm 1
      omega
    · by_cases h' : s.val < k ∧ r.val < 8
      · rw [if_pos h', if_pos ⟨by omega, h'.2⟩]
      · rw [if_neg h', if_neg (by omega)]

/-- Before any block has its new tail. -/
theorem tail_0 (I : Inp) : Tail I 0 I.L16 := by
  intro s r l hr
  rw [if_neg (by omega)]
  exact canon_pad I (ix3 s r l) hr

/-- 1 blocks have their new tail. -/
theorem tail_1 (I : Inp) : Tail I 1 (L16_1 I) :=
  tail_step I 0 (by omega) _ _ inb_S16x72x128_S1x3x128_0_21_0 _ (tail_0 I) fun j => by
    unfold k0_pay265
    exact congrFun (cast3 _) j

/-- 2 blocks have their new tail. -/
theorem tail_2 (I : Inp) : Tail I 2 (L16_2 I) :=
  tail_step I 1 (by omega) _ _ inb_S16x72x128_S1x3x128_1_21_0 _ (tail_1 I) fun j => by
    unfold k0_pay266
    exact congrFun (cast3 _) j

/-- 3 blocks have their new tail. -/
theorem tail_3 (I : Inp) : Tail I 3 (L16_3 I) :=
  tail_step I 2 (by omega) _ _ inb_S16x72x128_S1x3x128_2_21_0 _ (tail_2 I) fun j => by
    unfold k0_pay267
    exact congrFun (cast3 _) j

/-- 4 blocks have their new tail. -/
theorem tail_4 (I : Inp) : Tail I 4 (L16_4 I) :=
  tail_step I 3 (by omega) _ _ inb_S16x72x128_S1x3x128_3_21_0 _ (tail_3 I) fun j => by
    show k0_pay269 (k0_pay268 (v1590 I)) j = _
    unfold k0_pay269 k0_pay268
    exact congrFun (cast3 _) j

/-- 5 blocks have their new tail. -/
theorem tail_5 (I : Inp) : Tail I 5 (L16_5 I) :=
  tail_step I 4 (by omega) _ _ inb_S16x72x128_S1x3x128_4_21_0 _ (tail_4 I) fun j => by
    unfold k0_pay270
    exact congrFun (cast3 _) j

/-- 6 blocks have their new tail. -/
theorem tail_6 (I : Inp) : Tail I 6 (L16_6 I) :=
  tail_step I 5 (by omega) _ _ inb_S16x72x128_S1x3x128_5_21_0 _ (tail_5 I) fun j => by
    unfold k0_pay271
    exact congrFun (cast3 _) j

/-- 7 blocks have their new tail. -/
theorem tail_7 (I : Inp) : Tail I 7 (L16_7 I) :=
  tail_step I 6 (by omega) _ _ inb_S16x72x128_S1x3x128_6_21_0 _ (tail_6 I) fun j => by
    unfold k0_pay272
    exact congrFun (cast3 _) j

/-- 8 blocks have their new tail. -/
theorem tail_8 (I : Inp) : Tail I 8 (L16_8 I) :=
  tail_step I 7 (by omega) _ _ inb_S16x72x128_S1x3x128_7_21_0 _ (tail_7 I) fun j => by
    unfold k0_pay273
    exact congrFun (cast3 _) j

/-- 9 blocks have their new tail. -/
theorem tail_9 (I : Inp) : Tail I 9 (L16_9 I) :=
  tail_step I 8 (by omega) _ _ inb_S16x72x128_S1x3x128_8_21_0 _ (tail_8 I) fun j => by
    show k0_pay275 (k0_pay274 (v1615 I)) j = _
    unfold k0_pay275 k0_pay274
    exact congrFun (cast3 _) j

/-- 10 blocks have their new tail. -/
theorem tail_10 (I : Inp) : Tail I 10 (L16_10 I) :=
  tail_step I 9 (by omega) _ _ inb_S16x72x128_S1x3x128_9_21_0 _ (tail_9 I) fun j => by
    unfold k0_pay276
    exact congrFun (cast3 _) j

/-- 11 blocks have their new tail. -/
theorem tail_11 (I : Inp) : Tail I 11 (L16_11 I) :=
  tail_step I 10 (by omega) _ _ inb_S16x72x128_S1x3x128_10_21_0 _ (tail_10 I) fun j => by
    unfold k0_pay277
    exact congrFun (cast3 _) j

/-- 12 blocks have their new tail. -/
theorem tail_12 (I : Inp) : Tail I 12 (L16_12 I) :=
  tail_step I 11 (by omega) _ _ inb_S16x72x128_S1x3x128_11_21_0 _ (tail_11 I) fun j => by
    unfold k0_pay278
    exact congrFun (cast3 _) j

/-- 13 blocks have their new tail. -/
theorem tail_13 (I : Inp) : Tail I 13 (L16_13 I) :=
  tail_step I 12 (by omega) _ _ inb_S16x72x128_S1x3x128_12_21_0 _ (tail_12 I) fun j => by
    unfold k0_pay279
    exact congrFun (cast3 _) j

/-- 14 blocks have their new tail. -/
theorem tail_14 (I : Inp) : Tail I 14 (L16_14 I) :=
  tail_step I 13 (by omega) _ _ inb_S16x72x128_S1x3x128_13_21_0 _ (tail_13 I) fun j => by
    show k0_pay281 (k0_pay280 (v1640 I)) j = _
    unfold k0_pay281 k0_pay280
    exact congrFun (cast3 _) j

/-- 15 blocks have their new tail. -/
theorem tail_15 (I : Inp) : Tail I 15 (L16_15 I) :=
  tail_step I 14 (by omega) _ _ inb_S16x72x128_S1x3x128_14_21_0 _ (tail_14 I) fun j => by
    show k0_pay282 (v1645 I) j = _
    unfold k0_pay282
    exact congrFun (cast3 _) j

/-- 16 blocks have their new tail. -/
theorem tail_16 (I : Inp) : Tail I 16 (L16_16 I) :=
  tail_step I 15 (by omega) _ _ inb_S16x72x128_S1x3x128_15_21_0 _ (tail_15 I) fun j => by
    unfold k0_pay1
    exact congrFun (cast3 _) j

/-- The tail stored for block 0. -/
theorem a_v1658 (I : Inp) (z : Fin 1) (r : Fin 3) (l : Fin 128) : k0_pay18 (v1658 I) (ix3 z r l) = xrow I (16 + r.val) (128 * 0 + l.val) := by
  unfold k0_pay18
  refine (congrFun (cast3 _) _).trans ?_
  show View.canon (L16_16 I) _ = _
  have hr := r.isLt
  refine (congrArg _ (pad_idx 0 5 _ z r l (by omega) (by omega))).trans ((tail_16 I _ _ _ (show 5 ≤ 5 + r.val by omega)).trans ?_)
  refine (if_pos (show 0 < 16 ∧ 5 + r.val < 8 by omega)).trans ?_
  show xrow I (5 + r.val + 11) (128 * 0 + l.val) = _
  congr 1
  omega

/-- The tail stored for block 1. -/
theorem a_v1663 (I : Inp) (z : Fin 1) (r : Fin 3) (l : Fin 128) : k0_pay19 (v1663 I) (ix3 z r l) = xrow I (16 + r.val) (128 * 1 + l.val) := by
  unfold k0_pay19
  refine (congrFun (cast3 _) _).trans ?_
  show View.canon (L16_16 I) _ = _
  have hr := r.isLt
  refine (congrArg _ (pad_idx 1 5 _ z r l (by omega) (by omega))).trans ((tail_16 I _ _ _ (show 5 ≤ 5 + r.val by omega)).trans ?_)
  refine (if_pos (show 1 < 16 ∧ 5 + r.val < 8 by omega)).trans ?_
  show xrow I (5 + r.val + 11) (128 * 1 + l.val) = _
  congr 1
  omega

/-- The tail stored for block 2. -/
theorem a_v1668 (I : Inp) (z : Fin 1) (r : Fin 3) (l : Fin 128) : k0_pay20 (v1668 I) (ix3 z r l) = xrow I (16 + r.val) (128 * 2 + l.val) := by
  unfold k0_pay20
  refine (congrFun (cast3 _) _).trans ?_
  show View.canon (L16_16 I) _ = _
  have hr := r.isLt
  refine (congrArg _ (pad_idx 2 5 _ z r l (by omega) (by omega))).trans ((tail_16 I _ _ _ (show 5 ≤ 5 + r.val by omega)).trans ?_)
  refine (if_pos (show 2 < 16 ∧ 5 + r.val < 8 by omega)).trans ?_
  show xrow I (5 + r.val + 11) (128 * 2 + l.val) = _
  congr 1
  omega

/-- The tail stored for block 3. -/
theorem a_v1673 (I : Inp) (z : Fin 1) (r : Fin 3) (l : Fin 128) : k0_pay21 (v1673 I) (ix3 z r l) = xrow I (16 + r.val) (128 * 3 + l.val) := by
  unfold k0_pay21
  refine (congrFun (cast3 _) _).trans ?_
  show View.canon (L16_16 I) _ = _
  have hr := r.isLt
  refine (congrArg _ (pad_idx 3 5 _ z r l (by omega) (by omega))).trans ((tail_16 I _ _ _ (show 5 ≤ 5 + r.val by omega)).trans ?_)
  refine (if_pos (show 3 < 16 ∧ 5 + r.val < 8 by omega)).trans ?_
  show xrow I (5 + r.val + 11) (128 * 3 + l.val) = _
  congr 1
  omega

/-- The tail stored for block 4. -/
theorem a_v1678 (I : Inp) (z : Fin 1) (r : Fin 3) (l : Fin 128) : k0_pay22 (v1678 I) (ix3 z r l) = xrow I (16 + r.val) (128 * 4 + l.val) := by
  unfold k0_pay22
  refine (congrFun (cast3 _) _).trans ?_
  show View.canon (L16_16 I) _ = _
  have hr := r.isLt
  refine (congrArg _ (pad_idx 4 5 _ z r l (by omega) (by omega))).trans ((tail_16 I _ _ _ (show 5 ≤ 5 + r.val by omega)).trans ?_)
  refine (if_pos (show 4 < 16 ∧ 5 + r.val < 8 by omega)).trans ?_
  show xrow I (5 + r.val + 11) (128 * 4 + l.val) = _
  congr 1
  omega

/-- The tail stored for block 5. -/
theorem a_v1683 (I : Inp) (z : Fin 1) (r : Fin 3) (l : Fin 128) : k0_pay23 (v1683 I) (ix3 z r l) = xrow I (16 + r.val) (128 * 5 + l.val) := by
  unfold k0_pay23
  refine (congrFun (cast3 _) _).trans ?_
  show View.canon (L16_16 I) _ = _
  have hr := r.isLt
  refine (congrArg _ (pad_idx 5 5 _ z r l (by omega) (by omega))).trans ((tail_16 I _ _ _ (show 5 ≤ 5 + r.val by omega)).trans ?_)
  refine (if_pos (show 5 < 16 ∧ 5 + r.val < 8 by omega)).trans ?_
  show xrow I (5 + r.val + 11) (128 * 5 + l.val) = _
  congr 1
  omega

/-- The tail stored for block 6. -/
theorem a_v1688 (I : Inp) (z : Fin 1) (r : Fin 3) (l : Fin 128) : k0_pay24 (v1688 I) (ix3 z r l) = xrow I (16 + r.val) (128 * 6 + l.val) := by
  unfold k0_pay24
  refine (congrFun (cast3 _) _).trans ?_
  show View.canon (L16_16 I) _ = _
  have hr := r.isLt
  refine (congrArg _ (pad_idx 6 5 _ z r l (by omega) (by omega))).trans ((tail_16 I _ _ _ (show 5 ≤ 5 + r.val by omega)).trans ?_)
  refine (if_pos (show 6 < 16 ∧ 5 + r.val < 8 by omega)).trans ?_
  show xrow I (5 + r.val + 11) (128 * 6 + l.val) = _
  congr 1
  omega

/-- The tail stored for block 7. -/
theorem a_v1693 (I : Inp) (z : Fin 1) (r : Fin 3) (l : Fin 128) : k0_pay25 (v1693 I) (ix3 z r l) = xrow I (16 + r.val) (128 * 7 + l.val) := by
  unfold k0_pay25
  refine (congrFun (cast3 _) _).trans ?_
  show View.canon (L16_16 I) _ = _
  have hr := r.isLt
  refine (congrArg _ (pad_idx 7 5 _ z r l (by omega) (by omega))).trans ((tail_16 I _ _ _ (show 5 ≤ 5 + r.val by omega)).trans ?_)
  refine (if_pos (show 7 < 16 ∧ 5 + r.val < 8 by omega)).trans ?_
  show xrow I (5 + r.val + 11) (128 * 7 + l.val) = _
  congr 1
  omega

/-- The tail stored for block 8. -/
theorem a_v1698 (I : Inp) (z : Fin 1) (r : Fin 3) (l : Fin 128) : k0_pay26 (v1698 I) (ix3 z r l) = xrow I (16 + r.val) (128 * 8 + l.val) := by
  unfold k0_pay26
  refine (congrFun (cast3 _) _).trans ?_
  show View.canon (L16_16 I) _ = _
  have hr := r.isLt
  refine (congrArg _ (pad_idx 8 5 _ z r l (by omega) (by omega))).trans ((tail_16 I _ _ _ (show 5 ≤ 5 + r.val by omega)).trans ?_)
  refine (if_pos (show 8 < 16 ∧ 5 + r.val < 8 by omega)).trans ?_
  show xrow I (5 + r.val + 11) (128 * 8 + l.val) = _
  congr 1
  omega

/-- The tail stored for block 9. -/
theorem a_v1703 (I : Inp) (z : Fin 1) (r : Fin 3) (l : Fin 128) : k0_pay27 (v1703 I) (ix3 z r l) = xrow I (16 + r.val) (128 * 9 + l.val) := by
  unfold k0_pay27
  refine (congrFun (cast3 _) _).trans ?_
  show View.canon (L16_16 I) _ = _
  have hr := r.isLt
  refine (congrArg _ (pad_idx 9 5 _ z r l (by omega) (by omega))).trans ((tail_16 I _ _ _ (show 5 ≤ 5 + r.val by omega)).trans ?_)
  refine (if_pos (show 9 < 16 ∧ 5 + r.val < 8 by omega)).trans ?_
  show xrow I (5 + r.val + 11) (128 * 9 + l.val) = _
  congr 1
  omega

/-- The tail stored for block 10. -/
theorem a_v1708 (I : Inp) (z : Fin 1) (r : Fin 3) (l : Fin 128) : k0_pay28 (v1708 I) (ix3 z r l) = xrow I (16 + r.val) (128 * 10 + l.val) := by
  unfold k0_pay28
  refine (congrFun (cast3 _) _).trans ?_
  show View.canon (L16_16 I) _ = _
  have hr := r.isLt
  refine (congrArg _ (pad_idx 10 5 _ z r l (by omega) (by omega))).trans ((tail_16 I _ _ _ (show 5 ≤ 5 + r.val by omega)).trans ?_)
  refine (if_pos (show 10 < 16 ∧ 5 + r.val < 8 by omega)).trans ?_
  show xrow I (5 + r.val + 11) (128 * 10 + l.val) = _
  congr 1
  omega

/-- The tail stored for block 11. -/
theorem a_v1713 (I : Inp) (z : Fin 1) (r : Fin 3) (l : Fin 128) : k0_pay29 (v1713 I) (ix3 z r l) = xrow I (16 + r.val) (128 * 11 + l.val) := by
  unfold k0_pay29
  refine (congrFun (cast3 _) _).trans ?_
  show View.canon (L16_16 I) _ = _
  have hr := r.isLt
  refine (congrArg _ (pad_idx 11 5 _ z r l (by omega) (by omega))).trans ((tail_16 I _ _ _ (show 5 ≤ 5 + r.val by omega)).trans ?_)
  refine (if_pos (show 11 < 16 ∧ 5 + r.val < 8 by omega)).trans ?_
  show xrow I (5 + r.val + 11) (128 * 11 + l.val) = _
  congr 1
  omega

/-- The tail stored for block 12. -/
theorem a_v1718 (I : Inp) (z : Fin 1) (r : Fin 3) (l : Fin 128) : k0_pay30 (v1718 I) (ix3 z r l) = xrow I (16 + r.val) (128 * 12 + l.val) := by
  unfold k0_pay30
  refine (congrFun (cast3 _) _).trans ?_
  show View.canon (L16_16 I) _ = _
  have hr := r.isLt
  refine (congrArg _ (pad_idx 12 5 _ z r l (by omega) (by omega))).trans ((tail_16 I _ _ _ (show 5 ≤ 5 + r.val by omega)).trans ?_)
  refine (if_pos (show 12 < 16 ∧ 5 + r.val < 8 by omega)).trans ?_
  show xrow I (5 + r.val + 11) (128 * 12 + l.val) = _
  congr 1
  omega

/-- The tail stored for block 13. -/
theorem a_v1723 (I : Inp) (z : Fin 1) (r : Fin 3) (l : Fin 128) : k0_pay31 (v1723 I) (ix3 z r l) = xrow I (16 + r.val) (128 * 13 + l.val) := by
  unfold k0_pay31
  refine (congrFun (cast3 _) _).trans ?_
  show View.canon (L16_16 I) _ = _
  have hr := r.isLt
  refine (congrArg _ (pad_idx 13 5 _ z r l (by omega) (by omega))).trans ((tail_16 I _ _ _ (show 5 ≤ 5 + r.val by omega)).trans ?_)
  refine (if_pos (show 13 < 16 ∧ 5 + r.val < 8 by omega)).trans ?_
  show xrow I (5 + r.val + 11) (128 * 13 + l.val) = _
  congr 1
  omega

/-- The tail stored for block 14. -/
theorem a_v1728 (I : Inp) (z : Fin 1) (r : Fin 3) (l : Fin 128) : k0_pay32 (v1728 I) (ix3 z r l) = xrow I (16 + r.val) (128 * 14 + l.val) := by
  unfold k0_pay32
  refine (congrFun (cast3 _) _).trans ?_
  show View.canon (L16_16 I) _ = _
  have hr := r.isLt
  refine (congrArg _ (pad_idx 14 5 _ z r l (by omega) (by omega))).trans ((tail_16 I _ _ _ (show 5 ≤ 5 + r.val by omega)).trans ?_)
  refine (if_pos (show 14 < 16 ∧ 5 + r.val < 8 by omega)).trans ?_
  show xrow I (5 + r.val + 11) (128 * 14 + l.val) = _
  congr 1
  omega

/-- The tail stored for block 15. -/
theorem a_v1733 (I : Inp) (z : Fin 1) (r : Fin 3) (l : Fin 128) : k0_pay2 (v1733 I) (ix3 z r l) = xrow I (16 + r.val) (128 * 15 + l.val) := by
  unfold k0_pay2
  refine (congrFun (cast3 _) _).trans ?_
  show View.canon (L16_16 I) _ = _
  have hr := r.isLt
  refine (congrArg _ (pad_idx 15 5 _ z r l (by omega) (by omega))).trans ((tail_16 I _ _ _ (show 5 ≤ 5 + r.val by omega)).trans ?_)
  refine (if_pos (show 15 < 16 ∧ 5 + r.val < 8 by omega)).trans ?_
  show xrow I (5 + r.val + 11) (128 * 15 + l.val) = _
  congr 1
  omega

/-- A stored tail, read at a place of the whole. -/
theorem tail_part (I : Inp) (s o : ℕ) (w : S1x3x128.Idx → EReal) (hw : ∀ (z : Fin 1) (r : Fin 3) (l : Fin 128), w (ix3 z r l) = xrow I (16 + r.val) (128 * s + l.val))
    (y : S1x3x2048.Idx) (x : S1x3x128.Idx) (h1 : (y 1).val = 0 + (x 1).val) (h2 : (y 2).val = o + (x 2).val) (ho : o = 128 * s) :
    w x = xrow I (16 + (y 1).val) (y 2).val := by
  obtain ⟨a, r, l, rfl⟩ : ∃ a r l, x = ix3 a r l := ⟨_, _, _, eq_ix3 x⟩
  have h1' : (y 1).val = 0 + r.val := h1
  have h2' : (y 2).val = o + l.val := h2
  rw [hw, h1', h2', ho, Nat.zero_add]

/-- Every place of the new tail is stored. -/
theorem mem_tail (I : Inp) (y : S1x3x2048.Idx) : ∃ p ∈ LC I, y ∈ p.1.set := by
  obtain ⟨z, r, c, rfl⟩ : ∃ a r l, y = ix3 a r l := ⟨_, _, _, eq_ix3 y⟩
  have hc := c.isLt
  have hr := r.isLt
  have hz := z.isLt
  obtain ⟨s, hs⟩ : ∃ s : Fin 16, s.val = c.val / 128 := ⟨⟨c.val / 128, by omega⟩, rfl⟩
  match s, hs with

  | ⟨0, _⟩, hs =>
    have hs : 0 = c.val / 128 := hs
    refine ⟨_, List.getElem_mem (l := LC I) (n := 15) (show 15 < 16 by decide), ?_⟩
    refine (Rect.mem_set_unit (inb := inb_S1x3x2048_S1x3x128_0_0_0)).mpr fun a => ?_
    match a with | 0 => exact ⟨show 0 ≤ z.val by omega, show z.val < 0 + 1 by omega⟩ | 1 => exact ⟨show 0 ≤ r.val by omega, show r.val < 0 + 3 by omega⟩ | 2 => exact ⟨show 0 ≤ c.val by omega, show c.val < 0 + 128 by omega⟩
  | ⟨1, _⟩, hs =>
    have hs : 1 = c.val / 128 := hs
    refine ⟨_, List.getElem_mem (l := LC I) (n := 14) (show 14 < 16 by decide), ?_⟩
    refine (Rect.mem_set_unit (inb := inb_S1x3x2048_S1x3x128_0_0_128)).mpr fun a => ?_
    match a with | 0 => exact ⟨show 0 ≤ z.val by omega, show z.val < 0 + 1 by omega⟩ | 1 => exact ⟨show 0 ≤ r.val by omega, show r.val < 0 + 3 by omega⟩ | 2 => exact ⟨show 128 ≤ c.val by omega, show c.val < 128 + 128 by omega⟩
  | ⟨2, _⟩, hs =>
    have hs : 2 = c.val / 128 := hs
    refine ⟨_, List.getElem_mem (l := LC I) (n := 13) (show 13 < 16 by decide), ?_⟩
    refine (Rect.mem_set_unit (inb := inb_S1x3x2048_S1x3x128_0_0_256)).mpr fun a => ?_
    match a with | 0 => exact ⟨show 0 ≤ z.val by omega, show z.val < 0 + 1 by omega⟩ | 1 => exact ⟨show 0 ≤ r.val by omega, show r.val < 0 + 3 by omega⟩ | 2 => exact ⟨show 256 ≤ c.val by omega, show c.val < 256 + 128 by omega⟩
  | ⟨3, _⟩, hs =>
    have hs : 3 = c.val / 128 := hs
    refine ⟨_, List.getElem_mem (l := LC I) (n := 12) (show 12 < 16 by decide), ?_⟩
    refine (Rect.mem_set_unit (inb := inb_S1x3x2048_S1x3x128_0_0_384)).mpr fun a => ?_
    match a with | 0 => exact ⟨show 0 ≤ z.val by omega, show z.val < 0 + 1 by omega⟩ | 1 => exact ⟨show 0 ≤ r.val by omega, show r.val < 0 + 3 by omega⟩ | 2 => exact ⟨show 384 ≤ c.val by omega, show c.val < 384 + 128 by omega⟩
  | ⟨4, _⟩, hs =>
    have hs : 4 = c.val / 128 := hs
    refine ⟨_, List.getElem_mem (l := LC I) (n := 11) (show 11 < 16 by decide), ?_⟩
    refine (Rect.mem_set_unit (inb := inb_S1x3x2048_S1x3x128_0_0_512)).mpr fun a => ?_
    match a with | 0 => exact ⟨show 0 ≤ z.val by omega, show z.val < 0 + 1 by omega⟩ | 1 => exact ⟨show 0 ≤ r.val by omega, show r.val < 0 + 3 by omega⟩ | 2 => exact ⟨show 512 ≤ c.val by omega, show c.val < 512 + 128 by omega⟩
  | ⟨5, _⟩, hs =>
    have hs : 5 = c.val / 128 := hs
    refine ⟨_, List.getElem_mem (l := LC I) (n := 10) (show 10 < 16 by decide), ?_⟩
    refine (Rect.mem_set_unit (inb := inb_S1x3x2048_S1x3x128_0_0_640)).mpr fun a => ?_
    match a with | 0 => exact ⟨show 0 ≤ z.val by omega, show z.val < 0 + 1 by omega⟩ | 1 => exact ⟨show 0 ≤ r.val by omega, show r.val < 0 + 3 by omega⟩ | 2 => exact ⟨show 640 ≤ c.val by omega, show c.val < 640 + 128 by omega⟩
  | ⟨6, _⟩, hs =>
    have hs : 6 = c.val / 128 := hs
    refine ⟨_, List.getElem_mem (l := LC I) (n := 9) (show 9 < 16 by decide), ?_⟩
    refine (Rect.mem_set_unit (inb := inb_S1x3x2048_S1x3x128_0_0_768)).mpr fun a => ?_
    match a with | 0 => exact ⟨show 0 ≤ z.val by omega, show z.val < 0 + 1 by omega⟩ | 1 => exact ⟨show 0 ≤ r.val by omega, show r.val < 0 + 3 by omega⟩ | 2 => exact ⟨show 768 ≤ c.val by omega, show c.val < 768 + 128 by omega⟩
  | ⟨7, _⟩, hs =>
    have hs : 7 = c.val / 128 := hs
    refine ⟨_, List.getElem_mem (l := LC I) (n := 8) (show 8 < 16 by decide), ?_⟩
    refine (Rect.mem_set_unit (inb := inb_S1x3x2048_S1x3x128_0_0_896)).mpr fun a => ?_
    match a with | 0 => exact ⟨show 0 ≤ z.val by omega, show z.val < 0 + 1 by omega⟩ | 1 => exact ⟨show 0 ≤ r.val by omega, show r.val < 0 + 3 by omega⟩ | 2 => exact ⟨show 896 ≤ c.val by omega, show c.val < 896 + 128 by omega⟩
  | ⟨8, _⟩, hs =>
    have hs : 8 = c.val / 128 := hs
    refine ⟨_, List.getElem_mem (l := LC I) (n := 7) (show 7 < 16 by decide), ?_⟩
    refine (Rect.mem_set_unit (inb := inb_S1x3x2048_S1x3x128_0_0_1024)).mpr fun a => ?_
    match a with | 0 => exact ⟨show 0 ≤ z.val by omega, show z.val < 0 + 1 by omega⟩ | 1 => exact ⟨show 0 ≤ r.val by omega, show r.val < 0 + 3 by omega⟩ | 2 => exact ⟨show 1024 ≤ c.val by omega, show c.val < 1024 + 128 by omega⟩
  | ⟨9, _⟩, hs =>
    have hs : 9 = c.val / 128 := hs
    refine ⟨_, List.getElem_mem (l := LC I) (n := 6) (show 6 < 16 by decide), ?_⟩
    refine (Rect.mem_set_unit (inb := inb_S1x3x2048_S1x3x128_0_0_1152)).mpr fun a => ?_
    match a with | 0 => exact ⟨show 0 ≤ z.val by omega, show z.val < 0 + 1 by omega⟩ | 1 => exact ⟨show 0 ≤ r.val by omega, show r.val < 0 + 3 by omega⟩ | 2 => exact ⟨show 1152 ≤ c.val by omega, show c.val < 1152 + 128 by omega⟩
  | ⟨10, _⟩, hs =>
    have hs : 10 = c.val / 128 := hs
    refine ⟨_, List.getElem_mem (l := LC I) (n := 5) (show 5 < 16 by decide), ?_⟩
    refine (Rect.mem_set_unit (inb := inb_S1x3x2048_S1x3x128_0_0_1280)).mpr fun a => ?_
    match a with | 0 => exact ⟨show 0 ≤ z.val by omega, show z.val < 0 + 1 by omega⟩ | 1 => exact ⟨show 0 ≤ r.val by omega, show r.val < 0 + 3 by omega⟩ | 2 => exact ⟨show 1280 ≤ c.val by omega, show c.val < 1280 + 128 by omega⟩
  | ⟨11, _⟩, hs =>
    have hs : 11 = c.val / 128 := hs
    refine ⟨_, List.getElem_mem (l := LC I) (n := 4) (show 4 < 16 by decide), ?_⟩
    refine (Rect.mem_set_unit (inb := inb_S1x3x2048_S1x3x128_0_0_1408)).mpr fun a => ?_
    match a with | 0 => exact ⟨show 0 ≤ z.val by omega, show z.val < 0 + 1 by omega⟩ | 1 => exact ⟨show 0 ≤ r.val by omega, show r.val < 0 + 3 by omega⟩ | 2 => exact ⟨show 1408 ≤ c.val by omega, show c.val < 1408 + 128 by omega⟩
  | ⟨12, _⟩, hs =>
    have hs : 12 = c.val / 128 := hs
    refine ⟨_, List.getElem_mem (l := LC I) (n := 3) (show 3 < 16 by decide), ?_⟩
    refine (Rect.mem_set_unit (inb := inb_S1x3x2048_S1x3x128_0_0_1536)).mpr fun a => ?_
    match a with | 0 => exact ⟨show 0 ≤ z.val by omega, show z.val < 0 + 1 by omega⟩ | 1 => exact ⟨show 0 ≤ r.val by omega, show r.val < 0 + 3 by omega⟩ | 2 => exact ⟨show 1536 ≤ c.val by omega, show c.val < 1536 + 128 by omega⟩
  | ⟨13, _⟩, hs =>
    have hs : 13 = c.val / 128 := hs
    refine ⟨_, List.getElem_mem (l := LC I) (n := 2) (show 2 < 16 by decide), ?_⟩
    refine (Rect.mem_set_unit (inb := inb_S1x3x2048_S1x3x128_0_0_1664)).mpr fun a => ?_
    match a with | 0 => exact ⟨show 0 ≤ z.val by omega, show z.val < 0 + 1 by omega⟩ | 1 => exact ⟨show 0 ≤ r.val by omega, show r.val < 0 + 3 by omega⟩ | 2 => exact ⟨show 1664 ≤ c.val by omega, show c.val < 1664 + 128 by omega⟩
  | ⟨14, _⟩, hs =>
    have hs : 14 = c.val / 128 := hs
    refine ⟨_, List.getElem_mem (l := LC I) (n := 1) (show 1 < 16 by decide), ?_⟩
    refine (Rect.mem_set_unit (inb := inb_S1x3x2048_S1x3x128_0_0_1792)).mpr fun a => ?_
    match a with | 0 => exact ⟨show 0 ≤ z.val by omega, show z.val < 0 + 1 by omega⟩ | 1 => exact ⟨show 0 ≤ r.val by omega, show r.val < 0 + 3 by omega⟩ | 2 => exact ⟨show 1792 ≤ c.val by omega, show c.val < 1792 + 128 by omega⟩
  | ⟨15, _⟩, hs =>
    have hs : 15 = c.val / 128 := hs
    refine ⟨_, List.getElem_mem (l := LC I) (n := 0) (show 0 < 16 by decide), ?_⟩
    refine (Rect.mem_set_unit (inb := inb_S1x3x2048_S1x3x128_0_0_1920)).mpr fun a => ?_
    match a with | 0 => exact ⟨show 0 ≤ z.val by omega, show z.val < 0 + 1 by omega⟩ | 1 => exact ⟨show 0 ≤ r.val by omega, show r.val < 0 + 3 by omega⟩ | 2 => exact ⟨show 1920 ≤ c.val by omega, show c.val < 1920 + 128 by omega⟩
  | ⟨n + 16, hn⟩, _ => exact absurd hn (by omega)

/-- The new tail stored at the end. -/
theorem conv_at (I : Inp) (y : S1x3x2048.Idx) : View.canon (LC I) y = xrow I (16 + (y 1).val) (y 2).val := by
  refine View.canon_eq_of_allAt _ y _ (mem_tail I y) ?_
  unfold LC
  refine View.allAt_cons_unit _ _ _ _ _ (fun x hx => ?_) ?_
  · exact tail_part I 15 1920 _ (a_v1733 I) y x (hx 1) (hx 2) rfl
  refine View.allAt_cons_unit _ _ _ _ _ (fun x hx => ?_) ?_
  · exact tail_part I 14 1792 _ (a_v1728 I) y x (hx 1) (hx 2) rfl
  refine View.allAt_cons_unit _ _ _ _ _ (fun x hx => ?_) ?_
  · exact tail_part I 13 1664 _ (a_v1723 I) y x (hx 1) (hx 2) rfl
  refine View.allAt_cons_unit _ _ _ _ _ (fun x hx => ?_) ?_
  · exact tail_part I 12 1536 _ (a_v1718 I) y x (hx 1) (hx 2) rfl
  refine View.allAt_cons_unit _ _ _ _ _ (fun x hx => ?_) ?_
  · exact tail_part I 11 1408 _ (a_v1713 I) y x (hx 1) (hx 2) rfl
  refine View.allAt_cons_unit _ _ _ _ _ (fun x hx => ?_) ?_
  · exact tail_part I 10 1280 _ (a_v1708 I) y x (hx 1) (hx 2) rfl
  refine View.allAt_cons_unit _ _ _ _ _ (fun x hx => ?_) ?_
  · exact tail_part I 9 1152 _ (a_v1703 I) y x (hx 1) (hx 2) rfl
  refine View.allAt_cons_unit _ _ _ _ _ (fun x hx => ?_) ?_
  · exact tail_part I 8 1024 _ (a_v1698 I) y x (hx 1) (hx 2) rfl
  refine View.allAt_cons_unit _ _ _ _ _ (fun x hx => ?_) ?_
  · exact tail_part I 7 896 _ (a_v1693 I) y x (hx 1) (hx 2) rfl
  refine View.allAt_cons_unit _ _ _ _ _ (fun x hx => ?_) ?_
  · exact tail_part I 6 768 _ (a_v1688 I) y x (hx 1) (hx 2) rfl
  refine View.allAt_cons_unit _ _ _ _ _ (fun x hx => ?_) ?_
  · exact tail_part I 5 640 _ (a_v1683 I) y x (hx 1) (hx 2) rfl
  refine View.allAt_cons_unit _ _ _ _ _ (fun x hx => ?_) ?_
  · exact tail_part I 4 512 _ (a_v1678 I) y x (hx 1) (hx 2) rfl
  refine View.allAt_cons_unit _ _ _ _ _ (fun x hx => ?_) ?_
  · exact tail_part I 3 384 _ (a_v1673 I) y x (hx 1) (hx 2) rfl
  refine View.allAt_cons_unit _ _ _ _ _ (fun x hx => ?_) ?_
  · exact tail_part I 2 256 _ (a_v1668 I) y x (hx 1) (hx 2) rfl
  refine View.allAt_cons_unit _ _ _ _ _ (fun x hx => ?_) ?_
  · exact tail_part I 1 128 _ (a_v1663 I) y x (hx 1) (hx 2) rfl
  refine View.allAt_cons_unit _ _ _ _ _ (fun x hx => ?_) ?_
  · exact tail_part I 0 0 _ (a_v1658 I) y x (hx 1) (hx 2) rfl
  exact View.allAt_nil _ _

end Cert.Ssd
-- ==== Proof.SsdRef.lean ====
module
public import proofs.«01_k».proof.Proof.SsdState
public import proofs.«01_k».proof.Proof.Gen.ReferenceIdeal.Run
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.SsdRef
open Cert.ReferenceIdeal Cert.ReferenceIdeal.Gen

open Cert.Ssd (Inp xrow zrow cw cb cv act dtr spl dtc da acs gate xdt lm cbs ydg stt h0r hnew yg y2 yn neg)
open Cert.ReferenceIdeal.Value

/-- A left fold that adds is the sum. -/
theorem foldl_sum {N : ℕ} (F : EReal → Fin N → EReal) (f : ℕ → EReal) (hF : ∀ r n, F r n = r + f n.val) (v : EReal) (hv : v = 0) :
    (List.finRange N).foldl F v = ∑ k ∈ Finset.range N, f k := by
  subst hv
  have e : F = fun r n => r + f n.val := funext fun r => funext fun n => hF r n
  rw [e, ← Fin.sum_univ_eq_sum_range, Fin.sum_univ_def, List.sum_eq_foldl, List.foldl_map]

/-- A window's position, as an index. -/
theorem win_idx (n : Fin (⟨4, ![1, 16, 1, 1]⟩ : Shape).numel) :
    ((⟨4, ![1, 16, 1, 1]⟩ : Shape).rowMajor.symm n 0).val = 0 ∧ ((⟨4, ![1, 16, 1, 1]⟩ : Shape).rowMajor.symm n 1).val = n.val
      ∧ ((⟨4, ![1, 16, 1, 1]⟩ : Shape).rowMajor.symm n 2).val = 0 ∧ ((⟨4, ![1, 16, 1, 1]⟩ : Shape).rowMajor.symm n 3).val = 0 := by
  revert n; decide +kernel

/-- Window sums with padding before: the sum of a column's entries so far. -/
theorem cumsum_at (x : FVec Ideal S16x16x4x4 .f32) (v : FVec Ideal S_ .f32) (hv : ∀ i, v i = 0) (b t : Fin 16) (g h : Fin 4) (hh) (hu) (f : ℕ → EReal)
    (hf : ∀ k : Fin 16, x (ix4 b k g h) = f k) :
    Host.reduceWindowAdd (s := S16x16x4x4) (t := S16x16x4x4) (u := S_) ![1, 16, 1, 1] ![1, 1, 1, 1] ![0, 15, 0, 0] ![0, 0, 0, 0] x v hh hu (ix4 b t g h) = ∑ k ∈ Finset.range (t.val + 1), f k := by
  have hb := b.isLt
  have ht := t.isLt
  have hg := g.isLt
  have hh' := h.isLt
  have hN : (⟨4, ![1, 16, 1, 1]⟩ : Shape).numel = 16 := by decide
  refine (foldl_sum _ (fun n => if 15 ≤ t.val + n then f (t.val + n - 15) else 0) (fun r n => congrArg (r + ·) ?_) _ (hv _)).trans ?_
  · have hn : n.val < 16 := lt_of_lt_of_eq n.isLt hN
    obtain ⟨w0, w1, w2, w3⟩ := win_idx n
    by_cases h15 : 15 ≤ t.val + n.val
    · refine Eq.trans (dif_pos fun a => ?_) (Eq.trans ?_ (if_pos h15).symm)
      · match a with
        | 0 =>
          show 0 ≤ b.val * 1 + ((⟨4, ![1, 16, 1, 1]⟩ : Shape).rowMajor.symm n 0).val ∧ b.val * 1 + ((⟨4, ![1, 16, 1, 1]⟩ : Shape).rowMajor.symm n 0).val - 0 < 16
          rw [w0]; omega
        | 1 =>
          show 15 ≤ t.val * 1 + ((⟨4, ![1, 16, 1, 1]⟩ : Shape).rowMajor.symm n 1).val ∧ t.val * 1 + ((⟨4, ![1, 16, 1, 1]⟩ : Shape).rowMajor.symm n 1).val - 15 < 16
          rw [w1]; omega
        | 2 =>
          show 0 ≤ g.val * 1 + ((⟨4, ![1, 16, 1, 1]⟩ : Shape).rowMajor.symm n 2).val ∧ g.val * 1 + ((⟨4, ![1, 16, 1, 1]⟩ : Shape).rowMajor.symm n 2).val - 0 < 4
          rw [w2]; omega
        | 3 =>
          show 0 ≤ h.val * 1 + ((⟨4, ![1, 16, 1, 1]⟩ : Shape).rowMajor.symm n 3).val ∧ h.val * 1 + ((⟨4, ![1, 16, 1, 1]⟩ : Shape).rowMajor.symm n 3).val - 0 < 4
          rw [w3]; omega
      · refine (congrArg x (funext fun a => Fin.ext ?_)).trans (hf ⟨t.val + n.val - 15, by omega⟩)
        match a with
        | 0 => show b.val * 1 + ((⟨4, ![1, 16, 1, 1]⟩ : Shape).rowMajor.symm n 0).val - 0 = b.val; rw [w0]; omega
        | 1 => show t.val * 1 + ((⟨4, ![1, 16, 1, 1]⟩ : Shape).rowMajor.symm n 1).val - 15 = t.val + n.val - 15; rw [w1]; omega
        | 2 => show g.val * 1 + ((⟨4, ![1, 16, 1, 1]⟩ : Shape).rowMajor.symm n 2).val - 0 = g.val; rw [w2]; omega
        | 3 => show h.val * 1 + ((⟨4, ![1, 16, 1, 1]⟩ : Shape).rowMajor.symm n 3).val - 0 = h.val; rw [w3]; omega
    · refine Eq.trans (dif_neg fun hin => ?_) ((hv _).trans (if_neg h15).symm)
      have h1 : 15 ≤ t.val * 1 + ((⟨4, ![1, 16, 1, 1]⟩ : Shape).rowMajor.symm n 1).val := (hin 1).1
      rw [w1] at h1
      omega
  · refine (congrArg (fun N => ∑ n ∈ Finset.range N, if 15 ≤ t.val + n then f (t.val + n - 15) else 0) (hN.trans (show 16 = (15 - t.val) + (t.val + 1) by omega))).trans ?_
    refine (Finset.sum_range_add _ _ _).trans ?_
    rw [Finset.sum_eq_zero (fun n hn => if_neg (by rw [Finset.mem_range] at hn; omega)), zero_add]
    refine Finset.sum_congr rfl fun n hn => ?_
    rw [if_pos (by omega)]
    congr 1
    omega

/-- One batch of the reference's arguments and the values the kernel's program takes for it. -/
structure Agrees (V : Valuation τ sig (Elt Ideal)) (b : Fin 16) (I : Inp) : Prop where
  x : ∀ (r : Fin 16) (c : Fin 2048), xrow I (r + 3) c = (show FVec Ideal S16x16x4112 .f32 from V (Proc.devRef .tc main_arg0)) (ix3 b r ⟨1024 + c, by omega⟩)
  x0 : ∀ (r : Fin 3) (c : Fin 2048), xrow I r c = (show FVec Ideal S1x16x3x2048 .f32 from V (Proc.devRef .tc main_arg1)) (ix4 0 b r c)
  z : ∀ (r : Fin 16) (c : Fin 1024), zrow I r c = (show FVec Ideal S16x16x4112 .f32 from V (Proc.devRef .tc main_arg0)) (ix3 b r ⟨c, by omega⟩)
  dt : ∀ (r : Fin 16) (h : Fin 16), dtr I r h = (show FVec Ideal S16x16x4112 .f32 from V (Proc.devRef .tc main_arg0)) (ix3 b r ⟨3072 + h, by omega⟩)
      + (show FVec Ideal S1x16 .f32 from V (Proc.devRef .tc main_arg5)) (ix2 0 h)
  al : ∀ h : Fin 16, I.w6 (ix2 0 ⟨h, by omega⟩) = (show FVec Ideal S1x16 .f32 from V (Proc.devRef .tc main_arg6)) (ix2 0 h)
  cw : ∀ (k : Fin 4) (c : Fin 2048), cw I k c = (show FVec Ideal S1x4x2048 .f32 from V (Proc.devRef .tc main_arg3)) (ix3 0 k c)
  cb : ∀ c : Fin 2048, cb I c = (show FVec Ideal S1x2048 .f32 from V (Proc.devRef .tc main_arg4)) (ix2 0 c)
  d : ∀ c : Fin 1024, I.w7 (ix2 0 c) = (show FVec Ideal S1x16 .f32 from V (Proc.devRef .tc main_arg7)) (ix2 0 ⟨c / 64, by omega⟩)
  nr : ∀ c : Fin 1024, I.w8 (ix2 0 c) = (show FVec Ideal S1x1024 .f32 from V (Proc.devRef .tc main_arg8)) (ix2 0 c)
  h0 : ∀ (n : Fin 128) (c : Fin 1024), h0r I n c = (show FVec Ideal S1x16x16x64x128 .f32 from V (Proc.devRef .tc main_arg2)) (ix5 0 b ⟨c / 64, by omega⟩ ⟨c % 64, by omega⟩ n)

variable {V : Valuation τ sig (Elt Ideal)} {b : Fin 16} {I : Inp} (H : Agrees V b I)
include H

/-- The padded rows. -/
theorem v6_at (r : Fin 19) (c : Fin 2048) : (show FVec Ideal S16x19x2048 .f32 from res_main_v6 V) (ix3 b r c) = xrow I r c := by
  unfold res_main_v6
  pointwise []
  split
  · next h => exact (H.x0 ⟨r.val, h⟩ c).symm
  · next h =>
    refine (H.x ⟨r.val - 3, by omega⟩ c).symm.trans ?_
    congr 1
    show r.val - 3 + 3 = r.val
    omega

/-- The convolution. -/
theorem v37_at (t : Fin 16) (c : Fin 2048) : (show FVec Ideal S16x16x2048 .f32 from res_main_v37 V) (ix3 b t c) = cv I t c := by
  unfold res_main_v37
  pointwise [res_main_v4]
  unfold cv
  refine congrArg₂ (· + ·) (congrArg₂ (· + ·) (congrArg₂ (· + ·) (congrArg₂ (· + ·) (H.cb c).symm (congrArg₂ (· * ·) (v6_at H _ c) (H.cw 0 c).symm))
    (congrArg₂ (· * ·) ?_ (H.cw 1 c).symm)) (congrArg₂ (· * ·) ?_ (H.cw 2 c).symm)) (congrArg₂ (· * ·) ?_ (H.cw 3 c).symm)
  · exact (v6_at H _ c).trans (congrArg (fun r => xrow I r c) (Nat.add_comm _ _))
  · exact (v6_at H _ c).trans (congrArg (fun r => xrow I r c) (Nat.add_comm _ _))
  · exact (v6_at H _ c).trans (congrArg (fun r => xrow I r c) (Nat.add_comm _ _))

/-- The activation. -/
theorem v45_at (t : Fin 16) (c : Fin 2048) : (show FVec Ideal S16x16x2048 .f32 from res_main_v45 V) (ix3 b t c) = act I t c := by
  unfold res_main_v45
  pointwise []
  have e := v37_at H t c
  refine (congrArg (fun y : EReal => y * Ideal.div 1 (1 + Ideal.exp (-y))) e).trans ?_
  rfl

/-- The step sizes. -/
theorem v57_at (t : Fin 16) (g h : Fin 4) : (show FVec Ideal S16x16x4x4 .f32 from res_main_v57 V) (ix4 b t g h) = dtc I t (4 * g + h) := by
  unfold res_main_v57
  pointwise [res_main_call0_v3, res_main_v55, res_main_call0_cst]
  have hg := g.isLt
  have hh := h.isLt
  have e := H.dt t ⟨g.val * 4 + h.val, by omega⟩
  refine (if_neg (fun h => h rfl)).trans ?_
  unfold dtc spl
  rw [if_pos t.isLt, zero_sub, show 4 * g.val + h.val = g.val * 4 + h.val by omega]
  exact congrArg (fun y : EReal => max y 0 + Ideal.log1p (Ideal.exp (-FloatOps.absf (F := Ideal) (φ := .f32) y))) e.symm

/-- The sums of the decays. -/
theorem v65_at (t : Fin 16) (g h : Fin 4) : (show FVec Ideal S16x16x4x4 .f32 from res_main_v65 V) (ix4 b t g h) = acs I t (4 * g + h) := by
  unfold res_main_v65
  refine cumsum_at _ _ (fun i => ?_) b t g h _ _ (fun k => da I k (4 * g + h)) fun k => ?_
  · pointwise []
  · have hg := g.isLt
    have hh := h.isLt
    pointwise []
    unfold da
    rw [dif_pos (show 4 * g.val + h.val < 128 by omega), zero_sub]
    refine congrArg₂ (· * ·) (v57_at H k g h) (congrArg (fun y => -Ideal.exp y) ((H.al ⟨g.val * 4 + h.val, by omega⟩).symm.trans ?_))
    exact congrArg (fun k => I.w6 (ix2 0 k)) (Fin.ext (show g.val * 4 + h.val = 4 * g.val + h.val by omega))

/-- The scaled inputs. -/
theorem v79_at (t : Fin 16) (g h : Fin 4) (p : Fin 64) : (show FVec Ideal S16x16x4x4x64 .f32 from res_main_v79 V) (ix5 b t g h p) = xdt I t (64 * (4 * g + h) + p) := by
  unfold res_main_v79
  pointwise [res_main_v46]
  have hg := g.isLt
  have hh := h.isLt
  have hp := p.isLt
  refine congrArg₂ (· * ·) ((v45_at H t ⟨g.val * 256 + h.val * 64 + p.val, by omega⟩).trans (congrArg (act I t.val) ?_)) ((v57_at H t g h).trans (congrArg (dtc I t.val) ?_))
  · show g.val * 256 + h.val * 64 + p.val = 64 * (4 * g.val + h.val) + p.val
    omega
  · omega

/-- The state before. -/
theorem v96_at (g h : Fin 4) (p : Fin 64) (n : Fin 128) : (show FVec Ideal S16x4x4x64x128 .f32 from res_main_v96 V) (ix5 b g h p n) = h0r I n (64 * (4 * g + h) + p) := by
  unfold res_main_v96
  pointwise []
  have hg := g.isLt
  have hh := h.isLt
  have hp := p.isLt
  refine (congrArg (V (Proc.devRef .tc main_arg2) : FVec Ideal S1x16x16x64x128 .f32) ?_).trans (H.h0 n ⟨64 * (4 * g.val + h.val) + p.val, by omega⟩).symm
  funext a
  match a with
  | 0 => rfl
  | 1 => rfl
  | 2 => exact Fin.ext (show g.val * 4 + h.val = (64 * (4 * g.val + h.val) + p.val) / 64 by omega)
  | 3 => exact Fin.ext (show p.val = (64 * (4 * g.val + h.val) + p.val) % 64 by omega)
  | 4 => rfl

/-- The columns of the input matrix. -/
theorem v50_at (t : Fin 16) (g : Fin 4) (n : Fin 128) : (show FVec Ideal S16x16x4x128 .f32 from res_main_v50 V) (ix4 b t g n) = act I t (1024 + (128 * g + n)) := by
  unfold res_main_v50
  pointwise []
  have hg := g.isLt
  have hn := n.isLt
  refine (v45_at H t ⟨1024 + (g.val * 128 + n.val), by omega⟩).trans (congrArg (act I t.val) ?_)
  show 1024 + (g.val * 128 + n.val) = 1024 + (128 * g.val + n.val)
  omega

/-- The columns of the output matrix. -/
theorem v51_at (t : Fin 16) (g : Fin 4) (n : Fin 128) : (show FVec Ideal S16x16x4x128 .f32 from res_main_v51 V) (ix4 b t g n) = act I t (1536 + (128 * g + n)) := by
  unfold res_main_v51
  pointwise []
  have hg := g.isLt
  have hn := n.isLt
  refine (v45_at H t ⟨1536 + (g.val * 128 + n.val), by omega⟩).trans (congrArg (act I t.val) ?_)
  show 1536 + (g.val * 128 + n.val) = 1536 + (128 * g.val + n.val)
  omega

omit H in
/-- A choice by the order of two times. -/
theorem sel_le (u t : Fin 16) (x y : EReal) : Scalar.select (IntOp.cmpi CmpIPredicate.sle (BitVec.ofNat 32 u.val) (BitVec.ofNat 32 t.val)) x y = if u.val ≤ t.val then x else y := by
  have e : IntOp.cmpi CmpIPredicate.sle (BitVec.ofNat 32 u.val) (BitVec.ofNat 32 t.val) = if u.val ≤ t.val then 1#1 else 0#1 := by
    revert u t
    decide +kernel
  rw [e]
  split
  · rfl
  · rfl

/-- The running sum for a column's head. -/
theorem v65_col (t : Fin 16) (c : Fin 1024) (g h : Fin 4) (e : 4 * g.val + h.val = c.val / 64) : (show FVec Ideal S16x16x4x4 .f32 from res_main_v65 V) (ix4 b t g h) = acs I t (c.val / 64) :=
  (v65_at H t _ _).trans (congrArg (acs I t.val) e)

/-- The scaled inputs of a column. -/
theorem v79_col (t : Fin 16) (c : Fin 1024) (g h : Fin 4) (p : Fin 64) (e : 64 * (4 * g.val + h.val) + p.val = c.val) : (show FVec Ideal S16x16x4x4x64 .f32 from res_main_v79 V) (ix5 b t g h p) = xdt I t c :=
  (v79_at H t _ _ _).trans (congrArg (xdt I t.val) e)

/-- The state before of a column. -/
theorem v96_col (c : Fin 1024) (n : Fin 128) (g h : Fin 4) (p : Fin 64) (e : 64 * (4 * g.val + h.val) + p.val = c.val) : (show FVec Ideal S16x4x4x64x128 .f32 from res_main_v96 V) (ix5 b g h p n) = h0r I n c :=
  (v96_at H _ _ _ n).trans (congrArg (h0r I n.val) e)

/-- The columns of the input matrix, by a column of the output. -/
theorem v50_col (t : Fin 16) (c : Fin 1024) (n : Fin 128) (g : Fin 4) (e : g.val = c.val / 256) : (show FVec Ideal S16x16x4x128 .f32 from res_main_v50 V) (ix4 b t g n) = act I t (1024 + (128 * (c.val / 256) + n)) :=
  (v50_at H t _ n).trans (congrArg (fun x => act I t.val (1024 + (128 * x + n.val))) e)

/-- The columns of the output matrix, by a column of the output. -/
theorem v51_col (t : Fin 16) (c : Fin 1024) (n : Fin 128) (g : Fin 4) (e : g.val = c.val / 256) : (show FVec Ideal S16x16x4x128 .f32 from res_main_v51 V) (ix4 b t g n) = act I t (1536 + (128 * (c.val / 256) + n)) :=
  (v51_at H t _ n).trans (congrArg (fun x => act I t.val (1536 + (128 * x + n.val))) e)

omit H in
/-- The running sum stops at the last token: the later times add nothing. -/
theorem acs_last (h : ℕ) : acs I 63 h = acs I 15 h := by
  unfold acs
  refine (Finset.sum_range_add (fun k => da I k h) 16 48).trans ?_
  refine (congrArg (_ + ·) (Finset.sum_eq_zero fun k _ => ?_)).trans (add_zero _)
  unfold da dtc
  rw [if_neg (by omega), zero_mul]

/-- The rows before the norm. -/
theorem v127_at (t : Fin 16) (c : Fin 1024) : (show FVec Ideal S16x16x1024 .f32 from res_main_v127 V) (ix3 b t c) = y2 I t c := by
  unfold res_main_v127
  pointwise [res_main_v46, res_main_v0]
  unfold y2 yg ydg gate
  refine congrArg₂ (· * ·) (congrArg₂ (· + ·) (congrArg₂ (· + ·) (Finset.sum_congr rfl fun u _ => ?_) ?_) (congrArg₂ (· * ·) (H.d c).symm (v45_at H t ⟨c.val, by omega⟩))) ?_
  · refine (mul_comm _ _).trans (congrArg₂ (· * ·) (congrArg₂ (· * ·) (Finset.sum_congr rfl fun k _ => ?_) ?_) (v79_col H u c _ _ _ (by dsimp only; omega)))
    · exact (mul_comm _ _).trans (congrArg₂ (· * ·) (v51_col H t c k _ (by dsimp only; omega)) (v50_col H u c k _ (by dsimp only; omega)))
    · refine congrArg Ideal.exp ((sel_le u t _ _).trans ?_)
      exact congrArg (fun y : EReal => if u.val ≤ t.val then y else neg) (congrArg₂ (· - ·) (v65_col H t c _ _ (by dsimp only; omega)) (v65_col H u c _ _ (by dsimp only; omega)))
  · refine (mul_comm _ _).trans (congrArg₂ (· * ·) (congrArg Ideal.exp (v65_col H t c _ _ (by dsimp only; omega))) (Finset.sum_congr rfl fun k _ => ?_))
    exact (mul_comm _ _).trans (congrArg₂ (· * ·) (v51_col H t c k _ (by dsimp only; omega)) (v96_col H c k _ _ _ (by dsimp only; omega)))
  · have e := H.z t c
    refine (congrArg (fun y : EReal => y * Ideal.div 1 (1 + Ideal.exp (-y))) e.symm).trans ?_
    rfl

/-- The first result's term. -/
def yRef (V : Valuation τ sig (Elt Ideal)) : FVec Ideal S16x64x1024 .bf16 := truncf .bf16 (pad S16x64x1024 ![0, 0, 0] ![0, 48, 0] ![0, 0, 0] (mulf (mulf (res_main_v127 V) (broadcastInDim S16x16x1024 ![0, 1, 2] bcast_S16x16x1_S16x16x1024_0_1_2 (Host.rsqrt (addf (Host.divf (broadcastInDim S16x16x1 ![0, 1] bcast_S16x16_S16x16x1_0_1 (Host.reduceAdd (mulf (res_main_v127 V) (res_main_v127 V)) (constant S_ .f32 0x00000000#32) reducesTo_S16x16x1024_S16x16_d2 h_S_)) (broadcastInDim S16x16x1 ![] bcast_S_S16x16x1 (constant S_ .f32 0x44800000#32))) (broadcastInDim S16x16x1 ![] bcast_S_S16x16x1 (constant S_ .f32 0x358637BD#32)))))) (broadcastInDim S16x16x1024 ![0, 1, 2] bcast_S1x1x1024_S16x16x1024_0_1_2 (broadcastInDim S1x1x1024 ![2] bcast_S1024_S1x1x1024_2 (shapeCast _ (V (Proc.devRef .tc main_arg8)) shapeCasts_S1x1024_S1024)))) (sitofp .f32 (constantI S_ 32 0#32)) pads_S16x16x1024_S16x64x1024_000_0480_000 h_S_) bitsLt_bf16_f32

/-- The second result's term. -/
def convRef (V : Valuation τ sig (Elt Ideal)) : FVec Ideal S16x3x2048 .f32 := extractStridedSlice S16x3x2048 ![0, 16, 0] (res_main_v6 V) slices_S16x19x2048_S16x3x2048_0_16_0

/-- The third result's term. -/
def stateRef (V : Valuation τ sig (Elt Ideal)) : FVec Ideal S16x128x1024 .f32 := transpose S16x128x1024 [0, 2, 1] (shapeCast _ (addf (φ := .f32) (mulf (φ := .f32) (broadcastInDim S16x4x4x64x128 ![0, 1, 2, 3, 4] bcast_S16x4x4x1x1_S16x4x4x64x128_0_1_2_3_4 (broadcastInDim S16x4x4x1x1 ![0, 1, 2] bcast_S16x4x4_S16x4x4x1x1_0_1_2 (Host.exp (φ := .f32) (shapeCast _ (extractStridedSlice S16x1x4x4 ![0, 15, 0, 0] (res_main_v65 V) slices_S16x16x4x4_S16x1x4x4_0_15_0_0) shapeCasts_S16x1x4x4_S16x4x4)))) (res_main_v96 V)) (Host.dotGeneral (φ₂ := .f32) dot_S16x16x4x4x64_S16x16x4x128_S16x4x4x64x128_1_1_34_3_02_02 none (mulf (φ := .f32) (broadcastInDim S16x16x4x4x64 ![0, 1, 2, 3, 4] bcast_S16x16x4x4x1_S16x16x4x4x64_0_1_2_3_4 (broadcastInDim S16x16x4x4x1 ![0, 1, 2, 3] bcast_S16x16x4x4_S16x16x4x4x1_0_1_2_3 (Host.exp (φ := .f32) (subf (φ := .f32) (broadcastInDim S16x16x4x4 ![0, 1, 2, 3] bcast_S16x1x4x4_S16x16x4x4_0_1_2_3 (extractStridedSlice S16x1x4x4 ![0, 15, 0, 0] (res_main_v65 V) slices_S16x16x4x4_S16x1x4x4_0_15_0_0)) (res_main_v65 V))))) (res_main_v79 V)) (res_main_v50 V))) shapeCasts_S16x4x4x64x128_S16x1024x128) transposes_S16x1024x128_S16x128x1024_0_2_1

/-- The first result on the sixteen tokens' rows. -/
theorem yRef_at (t : Fin 64) (ht : t.val < 16) (c : Fin 1024) : yRef V (ix3 b t c) = yn I t.val c := by
  unfold yRef
  pointwise []
  refine (dif_pos fun a => ?_).trans ?_
  · have hb := b.isLt
    have hc := c.isLt
    match a with
    | 0 => exact ⟨Nat.zero_le _, Nat.mod_one _, (show (b.val - 0) / (0 + 1) < 16 by omega)⟩
    | 1 => exact ⟨Nat.zero_le _, Nat.mod_one _, (show (t.val - 0) / (0 + 1) < 16 by omega)⟩
    | 2 => exact ⟨Nat.zero_le _, Nat.mod_one _, (show (c.val - 0) / (0 + 1) < 1024 by omega)⟩
  · unfold yn
    refine congrArg₂ (· * ·) (congrArg₂ (· * ·) (v127_at H ⟨t.val, ht⟩ c) (congrArg (fun y => Ideal.rsqrt (Ideal.div y (Ideal.ofBits .f32 0x44800000#32) + Ideal.ofBits .f32 0x358637BD#32)) (Finset.sum_congr rfl fun k _ => ?_))) (H.nr c).symm
    exact congrArg₂ (· * ·) (v127_at H ⟨t.val, ht⟩ k) (v127_at H ⟨t.val, ht⟩ k)

/-- The second result. -/
theorem convRef_at (r : Fin 3) (c : Fin 2048) : convRef V (ix3 b r c) = xrow I (16 + r.val) c := by
  unfold convRef
  pointwise []
  exact v6_at H ⟨16 + r.val, by omega⟩ c

set_option maxHeartbeats 2000000 in
/-- The third result. -/
theorem stateRef_at (n : Fin 128) (c : Fin 1024) : stateRef V (ix3 b n c) = hnew I (c.val / 256) n c := by
  unfold stateRef
  pointwise []
  have hc := c.isLt
  have e15 : (show FVec Ideal S16x16x4x4 .f32 from res_main_v65 V) (ix4 b 15 ⟨c.val / 256, by omega⟩ ⟨c.val / 64 % 4, by omega⟩) = acs I 15 (c.val / 64) :=
    v65_col H 15 c ⟨c.val / 256, by omega⟩ ⟨c.val / 64 % 4, by omega⟩ (by dsimp only; omega)
  have eu := fun u : Fin 16 => v65_col H u c ⟨c.val / 256, by omega⟩ ⟨c.val / 64 % 4, by omega⟩ (by dsimp only; omega)
  have e96 := v96_col H c n ⟨c.val / 256, by omega⟩ ⟨c.val / 64 % 4, by omega⟩ ⟨c.val % 64, by omega⟩ (by dsimp only; omega)
  have e79 := fun u : Fin 16 => v79_col H u c ⟨c.val / 256, by omega⟩ ⟨c.val / 64 % 4, by omega⟩ ⟨c.val % 64, by omega⟩ (by dsimp only; omega)
  have e50 := fun u : Fin 16 => v50_col H u c n ⟨c.val / 256, by omega⟩ (by dsimp only)
  unfold hnew stt
  rw [acs_last]
  refine congrArg₂ (· + ·) (congrArg₂ (· * ·) (congrArg Ideal.exp e15) e96) (Finset.sum_congr rfl fun u _ => ?_)
  refine Eq.trans (congrArg₂ (· * ·) (congrArg₂ (· * ·) (congrArg Ideal.exp (congrArg₂ (· - ·) e15 (eu u))) (e79 u)) (e50 u)) ?_
  rw [mul_comm (Ideal.exp _), mul_comm]

end Cert.SsdRef
-- ==== Proof.SsdHost.lean ====
module
public import proofs.«01_k».proof.Proof.SsdOut
public import proofs.«01_k».proof.Proof.SsdState
public import proofs.«01_k».proof.Proof.SsdTail
public import proofs.«01_k».proof.Proof.SsdRef
public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

variable (m : (ℓ : Loc nD τ sig) → Buf (Elt Ideal) ℓ)

/-- The projected rows: the argument's columns regrouped, padded to 64 rows. -/
abbrev PJ (c : Dev nD) : FVec Ideal S16x64x4224 .f32 := V m c main_v6
/-- The bias of the step sizes, padded to 128 heads. -/
abbrev DTB (c : Dev nD) : FVec Ideal S1x128 .f32 := V m c main_v7
/-- The logarithms of the decays, padded to 128 heads. -/
abbrev ALOG (c : Dev nD) : FVec Ideal S1x128 .f32 := V m c main_v8
/-- The skip gains, one for each column. -/
abbrev DE (c : Dev nD) : FVec Ideal S1x1024 .f32 := V m c main_v12
/-- The state before, one column for each channel. -/
abbrev HT (c : Dev nD) : FVec Ideal S16x128x1024 .f32 := V m c main_v15
/-- The taps of the convolution. -/
abbrev CW (c : Dev nD) : FVec Ideal S4x2048 .f32 := V m c main_v16
/-- The rows before the first. -/
abbrev CV (c : Dev nD) : FVec Ideal S16x3x2048 .f32 := V m c main_v17

/-- The projected rows, as a term of the argument. -/
theorem PJ_eq (c : Dev nD) : PJ m c = pad S16x64x4224 ![0, 0, 0] ![0, 48, 0] ![0, 0, 0]
    (concatenate S16x16x4224 2 [⟨S16x16x2048, extractStridedSlice S16x16x2048 ![0, 0, 1024] (show FVec Ideal S16x16x4112 .f32 from m ((c : Thread nD τ).loc main_arg0)) slices_S16x16x4112_S16x16x2048_0_0_1024⟩,
      ⟨S16x16x1024, extractStridedSlice S16x16x1024 ![0, 0, 0] (show FVec Ideal S16x16x4112 .f32 from m ((c : Thread nD τ).loc main_arg0)) slices_S16x16x4112_S16x16x1024_0_0_0⟩,
      ⟨S16x16x1024, extractStridedSlice S16x16x1024 ![0, 0, 3088] (show FVec Ideal S16x16x4112 .f32 from m ((c : Thread nD τ).loc main_arg0)) slices_S16x16x4112_S16x16x1024_0_0_3088⟩,
      ⟨S16x16x128, pad S16x16x128 ![0, 0, 0] ![0, 0, 112] ![0, 0, 0] (extractStridedSlice S16x16x16 ![0, 0, 3072] (show FVec Ideal S16x16x4112 .f32 from m ((c : Thread nD τ).loc main_arg0)) slices_S16x16x4112_S16x16x16_0_0_3072) (sitofp (F := Ideal) .f32 (constantI S_ 32 0#32)) pads_S16x16x16_S16x16x128_000_000_01120 h_S_⟩]
      concatenates_S16x16x2048_S16x16x1024_S16x16x1024_S16x16x128_S16x16x4224_d2)
    (sitofp (F := Ideal) .f32 (constantI S_ 32 0#32)) pads_S16x16x4224_S16x64x4224_000_0480_000 h_S_ := by
  unfold PJ V
  simp only [List.flatten_cons, List.flatten_nil, List.append_nil, List.cons_append, List.nil_append]
  after_results
  rfl

/-- The padded row, as a term of the argument. -/
theorem DTB_eq (c : Dev nD) : DTB m c = pad S1x128 ![0, 0] ![0, 112] ![0, 0] (show FVec Ideal S1x16 .f32 from m ((c : Thread nD τ).loc main_arg5)) (sitofp (F := Ideal) .f32 (constantI S_ 32 0#32)) pads_S1x16_S1x128_000_01120 h_S_ := by
  unfold DTB V
  simp only [List.flatten_cons, List.flatten_nil, List.append_nil, List.cons_append, List.nil_append]
  after_results
  rfl

/-- The padded row, as a term of the argument. -/
theorem ALOG_eq (c : Dev nD) : ALOG m c = pad S1x128 ![0, 0] ![0, 112] ![0, 0] (show FVec Ideal S1x16 .f32 from m ((c : Thread nD τ).loc main_arg6)) (sitofp (F := Ideal) .f32 (constantI S_ 32 0#32)) pads_S1x16_S1x128_000_01120 h_S_ := by
  unfold ALOG V
  simp only [List.flatten_cons, List.flatten_nil, List.append_nil, List.cons_append, List.nil_append]
  after_results
  rfl

/-- The skip gains, as a term of the argument. -/
theorem DE_eq (c : Dev nD) : DE m c = broadcastInDim S1x1024 ![1] bcast_S1024_S1x1024_1 (shapeCast S1024 (broadcastInDim S16x64 ![0] bcast_S16_S16x64_0 (shapeCast S16 (show FVec Ideal S1x16 .f32 from m ((c : Thread nD τ).loc main_arg7)) shapeCasts_S1x16_S16)) shapeCasts_S16x64_S1024) := by
  unfold DE V
  simp only [List.flatten_cons, List.flatten_nil, List.append_nil, List.cons_append, List.nil_append]
  after_results
  rfl

/-- The state before, as a term of the argument. -/
theorem HT_eq (c : Dev nD) : HT m c = transpose S16x128x1024 [0, 2, 1] (shapeCast S16x1024x128 (shapeCast S16x16x64x128 (show FVec Ideal S1x16x16x64x128 .f32 from m ((c : Thread nD τ).loc main_arg2)) shapeCasts_S1x16x16x64x128_S16x16x64x128) shapeCasts_S16x16x64x128_S16x1024x128) transposes_S16x1024x128_S16x128x1024_0_2_1 := by
  unfold HT V
  simp only [List.flatten_cons, List.flatten_nil, List.append_nil, List.cons_append, List.nil_append]
  after_results
  rfl

/-- The taps, as a term of the argument. -/
theorem CW_eq (c : Dev nD) : CW m c = shapeCast S4x2048 (show FVec Ideal S1x4x2048 .f32 from m ((c : Thread nD τ).loc main_arg3)) shapeCasts_S1x4x2048_S4x2048 := by
  unfold CW V
  simp only [List.flatten_cons, List.flatten_nil, List.append_nil, List.cons_append, List.nil_append]
  after_results
  rfl

/-- The rows before the first, as a term of the argument. -/
theorem CV_eq (c : Dev nD) : CV m c = shapeCast S16x3x2048 (show FVec Ideal S1x16x3x2048 .f32 from m ((c : Thread nD τ).loc main_arg1)) shapeCasts_S1x16x3x2048_S16x3x2048 := by
  unfold CV V
  simp only [List.flatten_cons, List.flatten_nil, List.append_nil, List.cons_append, List.nil_append]
  after_results
  rfl

/-- The columns of the convolution. -/
theorem PJ_x (c : Dev nD) (b r : Fin 16) (k : Fin 2048) : PJ m c (ix3 b ⟨r.val, by omega⟩ ⟨k.val, by omega⟩) = (show FVec Ideal S16x16x4112 .f32 from m ((c : Thread nD τ).loc main_arg0)) (ix3 b r ⟨1024 + k.val, by omega⟩) := by
  rw [PJ_eq]
  pointwise
  exact dif_pos (by omega)
/-- The columns of the gate. -/
theorem PJ_z (c : Dev nD) (b r : Fin 16) (k : Fin 1024) : PJ m c (ix3 b ⟨r.val, by omega⟩ ⟨2048 + k.val, by omega⟩) = (show FVec Ideal S16x16x4112 .f32 from m ((c : Thread nD τ).loc main_arg0)) (ix3 b r ⟨k.val, by omega⟩) := by
  rw [PJ_eq]
  pointwise
  exact dif_pos (by omega)
/-- The columns of the step sizes. -/
theorem PJ_dt (c : Dev nD) (b r : Fin 16) (k : Fin 16) : PJ m c (ix3 b ⟨r.val, by omega⟩ ⟨4096 + k.val, by omega⟩) = (show FVec Ideal S16x16x4112 .f32 from m ((c : Thread nD τ).loc main_arg0)) (ix3 b r ⟨3072 + k.val, by omega⟩) := by
  rw [PJ_eq]
  pointwise
  rw [dif_pos (show 4096 + k.val < 4224 by omega), dif_neg (show ¬4096 + k.val < 2048 by omega), dif_neg (show ¬4096 + k.val - 2048 < 1024 by omega),
    dif_neg (show ¬4096 + k.val - 2048 - 1024 < 1024 by omega), dif_pos (show 4096 + k.val - 2048 - 1024 - 1024 < 16 by omega)]
  have e : (⟨3072 + (4096 + k.val - 2048 - 1024 - 1024), by omega⟩ : Fin 4112) = ⟨3072 + k.val, by omega⟩ := Fin.ext (show 3072 + (4096 + k.val - 2048 - 1024 - 1024) = 3072 + k.val by omega)
  exact congrArg (fun y : Fin 4112 => (show FVec Ideal S16x16x4112 .f32 from m ((c : Thread nD τ).loc main_arg0)) (ix3 b r y)) e
/-- The bias of a head. -/
theorem DTB_at (c : Dev nD) (k : Fin 16) : DTB m c (ix2 0 ⟨k.val, by omega⟩) = (show FVec Ideal S1x16 .f32 from m ((c : Thread nD τ).loc main_arg5)) (ix2 0 k) := by
  rw [DTB_eq]
  pointwise

/-- The decay of a head. -/
theorem ALOG_at (c : Dev nD) (k : Fin 16) : ALOG m c (ix2 0 ⟨k.val, by omega⟩) = (show FVec Ideal S1x16 .f32 from m ((c : Thread nD τ).loc main_arg6)) (ix2 0 k) := by
  rw [ALOG_eq]
  pointwise

/-- The gain of a column. -/
theorem DE_at (c : Dev nD) (k : Fin 1024) : DE m c (ix2 0 k) = (show FVec Ideal S1x16 .f32 from m ((c : Thread nD τ).loc main_arg7)) (ix2 0 ⟨k.val / 64, by omega⟩) := by
  rw [DE_eq]
  pointwise

/-- The state of a channel. -/
theorem HT_at (c : Dev nD) (b : Fin 16) (n : Fin 128) (k : Fin 1024) : HT m c (ix3 b n k) = (show FVec Ideal S1x16x16x64x128 .f32 from m ((c : Thread nD τ).loc main_arg2)) (ix5 0 b ⟨k.val / 64, by omega⟩ ⟨k.val % 64, by omega⟩ n) := by
  rw [HT_eq]
  pointwise

/-- A tap. -/
theorem CW_at (c : Dev nD) (j : Fin 4) (k : Fin 2048) : CW m c (ix2 j k) = (show FVec Ideal S1x4x2048 .f32 from m ((c : Thread nD τ).loc main_arg3)) (ix3 0 j k) := by
  rw [CW_eq]
  pointwise

/-- A row before the first. -/
theorem CV_at (c : Dev nD) (b : Fin 16) (j : Fin 3) (k : Fin 2048) : CV m c (ix3 b j k) = (show FVec Ideal S1x16x3x2048 .f32 from m ((c : Thread nD τ).loc main_arg1)) (ix4 0 b j k) := by
  rw [CV_eq]
  pointwise

/-- The block index of every window at grid point `t`. -/
theorem idxs : ∀ t : Fin cfg0.N, win0_0.index t = ![t.val, 0, 0] ∧ win0_1.index t = ![t.val, 0, 2] ∧ win0_2.index t = ![t.val, 0, 32]
    ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![t.val, 0, 0] ∧ win0_10.index t = ![t.val, 0, 0] ∧ win0_11.index t = ![t.val, 0, 0] ∧ win0_12.index t = ![t.val, 0, 0] ∧ win0_13.index t = ![t.val, 0, 0] ∧ t.val < 16 :=
  (by decide +kernel : ∀ t : Fin grid0.N, _)

/-- The batch of a grid point. -/
theorem lt16 (t : Fin cfg0.N) : t.val < 16 := (idxs t).2.2.2.2.2.2.2.2.2.2.2.2.2.2

/-- The block of the convolution. -/
theorem w0_at (c : Dev nD) (t : Fin cfg0.N) (r : Fin 64) (k : Fin 2048) : (inp m c t).w0 (ix3 0 r k) = PJ m c (ix3 ⟨t.val, lt16 t⟩ r ⟨k.val, by omega⟩) := by
  have ht := lt16 t
  show X0_0 m c t _ = _
  unfold X0_0 Pipeline.Window.fill
  rw [dif_pos (moved0_0 t _)]
  blk_point [iblk, idxs t]

/-- The block of the gate. -/
theorem w1_at (c : Dev nD) (t : Fin cfg0.N) (r : Fin 64) (k : Fin 1024) : (inp m c t).w1 (ix3 0 r k) = PJ m c (ix3 ⟨t.val, lt16 t⟩ r ⟨2048 + k.val, by omega⟩) := by
  have ht := lt16 t
  show X0_1 m c t _ = _
  unfold X0_1 Pipeline.Window.fill
  rw [dif_pos (moved0_1 t _)]
  blk_point [iblk, idxs t]

/-- The block of the step sizes. -/
theorem w2_at (c : Dev nD) (t : Fin cfg0.N) (r : Fin 64) (k : Fin 128) : (inp m c t).w2 (ix3 0 r k) = PJ m c (ix3 ⟨t.val, lt16 t⟩ r ⟨4096 + k.val, by omega⟩) := by
  have ht := lt16 t
  show iblk m c 2 t _ = _
  blk_point [iblk, idxs t]

/-- The taps. -/
theorem w3_at (c : Dev nD) (t : Fin cfg0.N) (j : Fin 4) (k : Fin 2048) : (inp m c t).w3 (ix2 j k) = CW m c (ix2 j k) := by
  have ht := lt16 t
  show iblk m c 3 t _ = _
  blk_point [iblk, idxs t]

/-- The bias of the convolution. -/
theorem w4_at (c : Dev nD) (t : Fin cfg0.N) (k : Fin 2048) : (inp m c t).w4 (ix2 0 k) = (show FVec Ideal S1x2048 .f32 from V m c main_arg4) (ix2 0 k) := by
  have ht := lt16 t
  show iblk m c 4 t _ = _
  blk_point [iblk, idxs t]

/-- The bias of the step sizes. -/
theorem w5_at (c : Dev nD) (t : Fin cfg0.N) (k : Fin 128) : (inp m c t).w5 (ix2 0 k) = DTB m c (ix2 0 k) := by
  have ht := lt16 t
  show iblk m c 5 t _ = _
  blk_point [iblk, idxs t]

/-- The decays. -/
theorem w6_at (c : Dev nD) (t : Fin cfg0.N) (k : Fin 128) : (inp m c t).w6 (ix2 0 k) = ALOG m c (ix2 0 k) := by
  have ht := lt16 t
  show iblk m c 6 t _ = _
  blk_point [iblk, idxs t]

/-- The gains. -/
theorem w7_at (c : Dev nD) (t : Fin cfg0.N) (k : Fin 1024) : (inp m c t).w7 (ix2 0 k) = DE m c (ix2 0 k) := by
  have ht := lt16 t
  show iblk m c 7 t _ = _
  blk_point [iblk, idxs t]

/-- The gains of the norm. -/
theorem w8_at (c : Dev nD) (t : Fin cfg0.N) (k : Fin 1024) : (inp m c t).w8 (ix2 0 k) = (show FVec Ideal S1x1024 .f32 from V m c main_arg8) (ix2 0 k) := by
  have ht := lt16 t
  show iblk m c 8 t _ = _
  blk_point [iblk, idxs t]

/-- The rows before. -/
theorem w9_at (c : Dev nD) (t : Fin cfg0.N) (j : Fin 3) (k : Fin 2048) : (inp m c t).w9 (ix3 0 j k) = CV m c (ix3 ⟨t.val, lt16 t⟩ j k) := by
  have ht := lt16 t
  show iblk m c 9 t _ = _
  blk_point [iblk, idxs t]

/-- The state before. -/
theorem w10_at (c : Dev nD) (t : Fin cfg0.N) (n : Fin 128) (k : Fin 1024) : (inp m c t).w10 (ix3 0 n k) = HT m c (ix3 ⟨t.val, lt16 t⟩ n k) := by
  have ht := lt16 t
  show iblk m c 10 t _ = _
  blk_point [iblk, idxs t]

end Cert.Ssd

end
-- ==== Proof.SsdAlg.lean ====
module
public import proofs.«01_k».proof.Proof.SsdHost
public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ssd
open Cert.KernelIdeal Cert.KernelIdeal.Gen

variable (m : (ℓ : Loc nD τ sig) → Buf (Elt Ideal) ℓ)

/-- The grid point of a batch. -/
def pt (b : Fin 16) : Fin cfg0.N := ⟨b.val, lt_of_lt_of_eq b.isLt (by decide +kernel)⟩

/-- The normalised rows of every batch. -/
def yArr (c : Dev nD) : FVec Ideal S16x64x1024 .bf16 := fun i : S16x64x1024.Idx => yn (inp m c (pt (i 0))) (i 1).val (i 2)

/-- The first result's array: the normalised rows of every batch. -/
theorem final11 (c : Dev nD) : (dats m 0 c).arrAt 11 (cfgs 0).N = yArr m c := by
  refine (dats m 0 c).arrAt_eq_of_covers 11 _ (by decide +kernel) fun t hf y => ?_
  blk_simp
  rw [after0_11]
  obtain ⟨a, r, o, rfl⟩ : ∃ (a : Fin 1) (r : Fin 64) (o : Fin 1024), y = ix3 a r o := ⟨_, _, _, eq_ix3 y⟩
  have ht := lt16 t
  have e : ((cfg0.win 11).blk t).view.emb (ix3 a r o) = ix3 (⟨t.val, ht⟩ : Fin 16) r o := by
    blk_ext [idxs t]
  rw [e]
  refine (congrFun (y_eq m c t) _).trans ((y_at _ a r o).trans ?_)
  rfl

/-- The last rows before the convolution of every batch. -/
def cArr (c : Dev nD) : FVec Ideal S16x3x2048 .f32 := fun i : S16x3x2048.Idx => xrow (inp m c (pt (i 0))) (16 + (i 1).val) (i 2).val

/-- The second result's array: the last rows before the convolution. -/
theorem final12 (c : Dev nD) : (dats m 0 c).arrAt 12 (cfgs 0).N = cArr m c := by
  refine (dats m 0 c).arrAt_eq_of_covers 12 _ (by decide +kernel) fun t hf y => ?_
  blk_simp
  rw [after0_12]
  obtain ⟨a, r, o, rfl⟩ : ∃ (a : Fin 1) (r : Fin 3) (o : Fin 2048), y = ix3 a r o := ⟨_, _, _, eq_ix3 y⟩
  have ht := lt16 t
  have e : ((cfg0.win 12).blk t).view.emb (ix3 a r o) = ix3 (⟨t.val, ht⟩ : Fin 16) r o := by
    blk_ext [idxs t]
  rw [e]
  refine (congrFun (conv_eq m c t) _).trans ((conv_at _ _).trans ?_)
  rfl

/-- The states of every batch after the last token. -/
def sArr (c : Dev nD) : FVec Ideal S16x128x1024 .f32 := fun i : S16x128x1024.Idx => hnew (inp m c (pt (i 0))) ((i 2).val / 256) (i 1).val (i 2).val

/-- The third result's array: the states after the last token. -/
theorem final13 (c : Dev nD) : (dats m 0 c).arrAt 13 (cfgs 0).N = sArr m c := by
  refine (dats m 0 c).arrAt_eq_of_covers 13 _ (by decide +kernel) fun t hf y => ?_
  blk_simp
  rw [after0_13]
  obtain ⟨a, r, o, rfl⟩ : ∃ (a : Fin 1) (r : Fin 128) (o : Fin 1024), y = ix3 a r o := ⟨_, _, _, eq_ix3 y⟩
  have ht := lt16 t
  have e : ((cfg0.win 13).blk t).view.emb (ix3 a r o) = ix3 (⟨t.val, ht⟩ : Fin 16) r o := by
    blk_ext [idxs t]
  rw [e]
  refine (congrFun (state_eq m c t) _).trans ((state_at _ a r o).trans ?_)
  rfl

/-- A batch's blocks hold the reference's arguments. -/
theorem agrees (m' : (ℓ : Loc Cert.ReferenceIdeal.nD Cert.ReferenceIdeal.τ Cert.ReferenceIdeal.sig) → Buf (Elt Ideal) ℓ) (c : Dev nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (t : Fin cfg0.N) : Cert.SsdRef.Agrees (StableHlo.launchContents m' c) ⟨t.val, lt16 t⟩ (inp m c t) where
  x r k := (xrow_hi _ ⟨r.val, by omega⟩ k).trans ((w0_at m c t ⟨r.val, by omega⟩ k).trans ((PJ_x m c ⟨t.val, lt16 t⟩ r k).trans (congrFun a0.symm _)))
  x0 r k := (xrow_lo _ r k).trans ((w9_at m c t r k).trans ((CV_at m c ⟨t.val, lt16 t⟩ r k).trans (congrFun a1.symm _)))
  z r k := (zrow_at _ ⟨r.val, by omega⟩ k).trans ((w1_at m c t ⟨r.val, by omega⟩ k).trans ((PJ_z m c ⟨t.val, lt16 t⟩ r k).trans (congrFun a0.symm _)))
  dt r h := (dif_pos (show r.val < 64 ∧ h.val < 128 by omega)).trans (congrArg₂ (· + ·)
    ((w2_at m c t ⟨r.val, by omega⟩ ⟨h.val, by omega⟩).trans ((PJ_dt m c ⟨t.val, lt16 t⟩ r h).trans (congrFun a0.symm _)))
    ((w5_at m c t ⟨h.val, by omega⟩).trans ((DTB_at m c h).trans (congrFun a5.symm _))))
  al h := (w6_at m c t ⟨h.val, by omega⟩).trans ((ALOG_at m c h).trans (congrFun a6.symm _))
  cw k l := (cw_at _ k l).symm.trans ((w3_at m c t k l).trans ((CW_at m c k l).trans (congrFun a3.symm _)))
  cb k := (cb_at _ 0 k).symm.trans ((w4_at m c t k).trans ((congrFun (V_main_arg4 m c) _).trans (congrFun a4.symm _)))
  d k := (w7_at m c t k).trans ((DE_at m c k).trans (congrFun a7.symm _))
  nr k := (w8_at m c t k).trans ((congrFun (V_main_arg8 m c) _).trans (congrFun a8.symm _))
  h0 n k := (h0r_at _ 0 n k).symm.trans ((w10_at m c t n k).trans ((HT_at m c ⟨t.val, lt16 t⟩ n k).trans (congrFun a2.symm _)))

end Cert.Ssd

end
-- ==== Proof.OutRef.lean ====
module

public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Out

/-- The Gaussian error linear unit of a number, in its exact form. -/
def gel (y : EReal) : EReal :=
  Ideal.ofBits .f32 0x3F000000#32 * y * (1 + Ideal.erf (y * Ideal.ofBits .f32 0x3F3504F3#32))

/-- The gated row: entry `k` of the activated row `y`, times the gate computed from the row. -/
def glu (y : Fin 1024 → EReal) (w : Fin 1024 → Fin 1024 → EReal) (b : Fin 1024 → EReal) (k : Fin 1024) : EReal :=
  gel (y k) * Ideal.logistic ((∑ i : Fin 1024, gel (y i) * w i k) + b k)

/-- Entry `o` of the row `f`, normalised by its root mean square, with gain `g`. -/
def nrm (f g : Fin 1024 → EReal) (o : Fin 1024) : EReal :=
  f o * Ideal.rsqrt (Ideal.div (∑ i : Fin 1024, f i * f i) (Ideal.ofBits .f32 0x44800000#32) + Ideal.ofBits .f32 0x358637BD#32) * g o

/-- An entry of the layer: the input `x`, the first half `ya` and the gated second half `y`, each through its half of the projection. -/
def proj (x : EReal) (ya y : Fin 1024 → EReal) (w : Fin 1024 → Fin 1024 → EReal) (b g w0 w1 : Fin 1024 → EReal) : EReal :=
  x + ((∑ i : Fin 1024, ya i * w0 i) + ∑ i : Fin 1024, nrm (glu y w b) g i * w1 i)

/-- Equal parts make equal entries. -/
theorem proj_congr {x x' : EReal} {ya ya' y y' : Fin 1024 → EReal} {w w' : Fin 1024 → Fin 1024 → EReal} {b b' g g' w0 w0' w1 w1' : Fin 1024 → EReal}
    (hx : x = x') (hya : ∀ i, ya i = ya' i) (hy : ∀ i, y i = y' i) (hw : ∀ i k, w i k = w' i k) (hb : ∀ i, b i = b' i) (hg : ∀ i, g i = g' i)
    (h0 : ∀ i, w0 i = w0' i) (h1 : ∀ i, w1 i = w1' i) : proj x ya y w b g w0 w1 = proj x' ya' y' w' b' g' w0' w1' := by
  obtain rfl := hx
  obtain rfl : ya = ya' := funext hya
  obtain rfl : y = y' := funext hy
  obtain rfl : w = w' := funext fun i => funext fun k => hw i k
  obtain rfl : b = b' := funext hb
  obtain rfl : g = g' := funext hg
  obtain rfl : w0 = w0' := funext h0
  obtain rfl : w1 = w1' := funext h1
  rfl

open Cert.Reference3Ideal Cert.Reference3Ideal.Gen

/-- The reference's result as a term of its seven arguments. -/
def REF (x : FVec Ideal S32768x2048 .f32) (ya : FVec Ideal S32768x1024 .bf16) (y : FVec Ideal S16x2048x1024 .f32)
    (w : FVec Ideal S1x1024x1024 .f32) (b g : FVec Ideal S1x1024 .f32) (wo : FVec Ideal S1x2048x2048 .f32) : FVec Ideal S32768x2048 .f32 :=
  addf x (Host.dotGeneral dot_S32768x2048_S2048x2048_S32768x2048_1_0_0_1_n_n none (concatenate S32768x2048 1 [⟨S32768x1024, (extf .f32 ya bitsLt_bf16_f32)⟩, ⟨S32768x1024, (shapeCast _ (mulf (mulf (mulf (mulf (mulf (broadcastInDim S16x2048x1024 ![] bcast_S_S16x2048x1024 (constant S_ .f32 0x3F000000#32)) y) (addf (broadcastInDim S16x2048x1024 ![] bcast_S_S16x2048x1024 (constant S_ .f32 0x3F800000#32)) (Host.erf (mulf y (broadcastInDim S16x2048x1024 ![] bcast_S_S16x2048x1024 (constant S_ .f32 0x3F3504F3#32)))))) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (addf (Host.dotGeneral dot_S16x2048x1024_S1024x1024_S16x2048x1024_2_0_01_1_n_n none (mulf (mulf (broadcastInDim S16x2048x1024 ![] bcast_S_S16x2048x1024 (constant S_ .f32 0x3F000000#32)) y) (addf (broadcastInDim S16x2048x1024 ![] bcast_S_S16x2048x1024 (constant S_ .f32 0x3F800000#32)) (Host.erf (mulf y (broadcastInDim S16x2048x1024 ![] bcast_S_S16x2048x1024 (constant S_ .f32 0x3F3504F3#32)))))) (shapeCast _ w shapeCasts_S1x1024x1024_S1024x1024)) (broadcastInDim S16x2048x1024 ![0, 1, 2] bcast_S1x1x1024_S16x2048x1024_0_1_2 (broadcastInDim S1x1x1024 ![2] bcast_S1024_S1x1x1024_2 (shapeCast _ b shapeCasts_S1x1024_S1024))))))))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (mulf (mulf (mulf (broadcastInDim S16x2048x1024 ![] bcast_S_S16x2048x1024 (constant S_ .f32 0x3F000000#32)) y) (addf (broadcastInDim S16x2048x1024 ![] bcast_S_S16x2048x1024 (constant S_ .f32 0x3F800000#32)) (Host.erf (mulf y (broadcastInDim S16x2048x1024 ![] bcast_S_S16x2048x1024 (constant S_ .f32 0x3F3504F3#32)))))) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (addf (Host.dotGeneral dot_S16x2048x1024_S1024x1024_S16x2048x1024_2_0_01_1_n_n none (mulf (mulf (broadcastInDim S16x2048x1024 ![] bcast_S_S16x2048x1024 (constant S_ .f32 0x3F000000#32)) y) (addf (broadcastInDim S16x2048x1024 ![] bcast_S_S16x2048x1024 (constant S_ .f32 0x3F800000#32)) (Host.erf (mulf y (broadcastInDim S16x2048x1024 ![] bcast_S_S16x2048x1024 (constant S_ .f32 0x3F3504F3#32)))))) (shapeCast _ w shapeCasts_S1x1024x1024_S1024x1024)) (broadcastInDim S16x2048x1024 ![0, 1, 2] bcast_S1x1x1024_S16x2048x1024_0_1_2 (broadcastInDim S1x1x1024 ![2] bcast_S1024_S1x1x1024_2 (shapeCast _ b shapeCasts_S1x1024_S1024))))))))) (mulf (mulf (mulf (broadcastInDim S16x2048x1024 ![] bcast_S_S16x2048x1024 (constant S_ .f32 0x3F000000#32)) y) (addf (broadcastInDim S16x2048x1024 ![] bcast_S_S16x2048x1024 (constant S_ .f32 0x3F800000#32)) (Host.erf (mulf y (broadcastInDim S16x2048x1024 ![] bcast_S_S16x2048x1024 (constant S_ .f32 0x3F3504F3#32)))))) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (addf (Host.dotGeneral dot_S16x2048x1024_S1024x1024_S16x2048x1024_2_0_01_1_n_n none (mulf (mulf (broadcastInDim S16x2048x1024 ![] bcast_S_S16x2048x1024 (constant S_ .f32 0x3F000000#32)) y) (addf (broadcastInDim S16x2048x1024 ![] bcast_S_S16x2048x1024 (constant S_ .f32 0x3F800000#32)) (Host.erf (mulf y (broadcastInDim S16x2048x1024 ![] bcast_S_S16x2048x1024 (constant S_ .f32 0x3F3504F3#32)))))) (shapeCast _ w shapeCasts_S1x1024x1024_S1024x1024)) (broadcastInDim S16x2048x1024 ![0, 1, 2] bcast_S1x1x1024_S16x2048x1024_0_1_2 (broadcastInDim S1x1x1024 ![2] bcast_S1024_S1x1x1024_2 (shapeCast _ b shapeCasts_S1x1024_S1024)))))))))) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ g shapeCasts_S1x1024_S1024)))) shapeCasts_S16x2048x1024_S32768x1024)⟩] concatenates_S32768x1024_S32768x1024_S32768x2048_d1) (shapeCast _ wo shapeCasts_S1x2048x2048_S2048x2048))

/-- The reference's run leaves that term of its arguments. -/
theorem ref_eq (m : (ℓ : Loc nD τ sig) → Buf (Elt Ideal) ℓ) (c : Dev nD) : Cert.Reference3Ideal.Value.res_main_v40 m c
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Cert.Reference3Ideal.Value.res_main_v40 REF
  rfl

/-- The reference's result, entry by entry. -/
theorem ref_at (x : FVec Ideal S32768x2048 .f32) (ya : FVec Ideal S32768x1024 .bf16) (y : FVec Ideal S16x2048x1024 .f32)
    (w : FVec Ideal S1x1024x1024 .f32) (b g : FVec Ideal S1x1024 .f32) (wo : FVec Ideal S1x2048x2048 .f32) (R : Fin 32768) (o : Fin 2048) :
    REF x ya y w b g wo (ix2 R o) = proj (x (ix2 R o)) (fun i => ya (ix2 R i)) (fun i => y (ix3 ⟨R / 2048, by omega⟩ ⟨R % 2048, by omega⟩ i))
      (fun i k => w (ix3 0 i k)) (fun k => b (ix2 0 k)) (fun i => g (ix2 0 i))
      (fun i => wo (ix3 0 ⟨i, by omega⟩ o)) (fun i => wo (ix3 0 ⟨1024 + i, by omega⟩ o)) := by
  pointwise [REF, proj, nrm, glu, gel]
  rfl

end Cert.Out

end
-- ==== Proof.Out.lean ====
module

public import proofs.«01_k».proof.Proof.Gen.Kernel3Ideal.Frame
public import proofs.«01_k».proof.Proof.OutRef
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Out

open Cert.Kernel3Ideal Cert.Kernel3Ideal.Gen

/-- What a grid point writes: the input rows, plus the two halves of the projection. -/
theorem pay_at (x : FVec Ideal S512x2048 .f32) (ya : FVec Ideal S512x1024 .bf16) (y : FVec Ideal S512x1024 .f32)
    (w : FVec Ideal S1024x1024 .bf16) (b g : FVec Ideal S1x1024 .f32) (w0 w1 : FVec Ideal S1024x2048 .bf16) (r : Fin 512) (o : Fin 2048) :
    k0_pay1 (F := Ideal) (k0_pay2 y w b g) x ya (k0_pay3 w0) (constant S512x2048 .f32 0x00000000#32) w1 (ix2 r o)
      = proj (x (ix2 r o)) (fun i => ya (ix2 r i)) (fun i => y (ix2 r i)) (fun i k => w (ix2 i k)) (fun k => b (ix2 0 k)) (fun i => g (ix2 0 i))
          (fun i => w0 (ix2 i o)) (fun i => w1 (ix2 i o)) := by
  pointwise [k0_pay1, k0_pay2, k0_pay3, proj, nrm, glu, gel]
  rw [add_assoc]
  rfl

variable (m : (ℓ : Loc nD τ sig) → Buf (Elt Ideal) ℓ)

/-- The block index of every window at grid point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ t.val < 64 :=
  (by decide +kernel : ∀ t : Fin grid0.N, _)

/-- The rows that the second half of the layer reads, in one array. -/
abbrev Y (c : Dev nD) : FVec Ideal S32768x1024 .f32 := V m c main_v0
/-- The gate's weights. -/
abbrev W (c : Dev nD) : FVec Ideal S1024x1024 .bf16 := V m c main_v2
/-- The projection's weights. -/
abbrev WO (c : Dev nD) : FVec Ideal S2048x2048 .bf16 := V m c main_v4
/-- The rows the layer adds to. -/
abbrev X (c : Dev nD) : FVec Ideal S32768x2048 .f32 := V m c main_arg0
/-- The rows of the first half. -/
abbrev YA (c : Dev nD) : FVec Ideal S32768x1024 .bf16 := V m c main_arg1
/-- The gate's bias. -/
abbrev B (c : Dev nD) : FVec Ideal S1x1024 .f32 := V m c main_arg4
/-- The gain. -/
abbrev G (c : Dev nD) : FVec Ideal S1x1024 .f32 := V m c main_arg5

/-- The second half's rows are the third argument, reshaped. -/
theorem Y_eq (c : Dev nD) : Y m c = shapeCast S32768x1024 (show FVec Ideal S16x2048x1024 .f32 from m ((c : Thread nD τ).loc main_arg2)) shapeCasts_S16x2048x1024_S32768x1024 := by
  unfold Y V
  simp only [List.flatten_cons, List.flatten_nil, List.append_nil, List.cons_append, List.nil_append]
  after_results
  rfl

/-- The gate's weights are the fourth argument, without its unit axis. -/
theorem W_eq (c : Dev nD) : W m c = truncf (F := Ideal) .bf16 (shapeCast S1024x1024 (show FVec Ideal S1x1024x1024 .f32 from m ((c : Thread nD τ).loc main_arg3)) shapeCasts_S1x1024x1024_S1024x1024) bitsLt_bf16_f32 := by
  unfold W V
  simp only [List.flatten_cons, List.flatten_nil, List.append_nil, List.cons_append, List.nil_append]
  after_results
  rfl

/-- The projection's weights are the last argument, without its unit axis. -/
theorem WO_eq (c : Dev nD) : WO m c = truncf (F := Ideal) .bf16 (shapeCast S2048x2048 (show FVec Ideal S1x2048x2048 .f32 from m ((c : Thread nD τ).loc main_arg6)) shapeCasts_S1x2048x2048_S2048x2048) bitsLt_bf16_f32 := by
  unfold WO V
  simp only [List.flatten_cons, List.flatten_nil, List.append_nil, List.cons_append, List.nil_append]
  after_results
  rfl

/-- The second half's rows, read in the argument. -/
theorem Y_at (c : Dev nD) (R : Fin 32768) (i : Fin 1024) :
    Y m c (ix2 R i) = (show FVec Ideal S16x2048x1024 .f32 from m ((c : Thread nD τ).loc main_arg2)) (ix3 ⟨R / 2048, by omega⟩ ⟨R % 2048, by omega⟩ i) := by
  rw [Y_eq]
  pointwise

/-- The gate's weights, read in the argument. -/
theorem W_at (c : Dev nD) (i k : Fin 1024) :
    W m c (ix2 i k) = (show FVec Ideal S1x1024x1024 .f32 from m ((c : Thread nD τ).loc main_arg3)) (ix3 0 i k) := by
  rw [W_eq]
  pointwise

/-- The projection's weights, read in the argument. -/
theorem WO_at (c : Dev nD) (i o : Fin 2048) :
    WO m c (ix2 i o) = (show FVec Ideal S1x2048x2048 .f32 from m ((c : Thread nD τ).loc main_arg6)) (ix3 0 i o) := by
  rw [WO_eq]
  pointwise

/-- What the kernel leaves at row `R`, column `o`, in terms of the arrays its windows read. -/
def cell (c : Dev nD) (R : Fin 32768) (o : Fin 2048) : EReal :=
  proj (X m c (ix2 R o)) (fun i => YA m c (ix2 R i)) (fun i => Y m c (ix2 R i)) (fun i k => W m c (ix2 i k)) (fun k => B m c (ix2 0 k))
    (fun i => G m c (ix2 0 i)) (fun i => WO m c (ix2 ⟨i, by omega⟩ o)) (fun i => WO m c (ix2 ⟨1024 + i, by omega⟩ o))

/-- What a grid point leaves in its block. -/
theorem out_at (c : Dev nD) (t : Fin cfg0.N) (r : Fin 512) (o : Fin 2048) (R : Fin 32768) (hR : (R : ℕ) = t.val * 512 + r) :
    (out0_7 (iblk m c 0 t) (iblk m c 1 t) (iblk m c 2 t) (iblk m c 3 t) (iblk m c 4 t) (iblk m c 5 t) (iblk m c 6 t)) (ix2 r o) = cell m c R o := by
  unfold out0_7
  frame_out
  refine (pay_at _ _ _ _ _ _ _ _ r o).trans ?_
  unfold cell
  refine proj_congr ?_ (fun i => ?_) (fun i => ?_) (fun i k => ?_) (fun i => ?_) (fun i => ?_) (fun i => ?_) (fun i => ?_)
  · blk_point [iblk, idx t]
  · blk_point [iblk, idx t]
  · blk_point [iblk, idx t]
  · blk_point [iblk, idx t]
  · blk_point [iblk, idx t]
  · blk_point [iblk, idx t]
  · unfold r0_4
    pointwise
    blk_point [iblk, idx t]
  · unfold r0_5
    pointwise
    blk_point [iblk, idx t]

/-- A cell is the reference's entry. -/
theorem cell_eq (c : Dev nD) (R : Fin 32768) (o : Fin 2048) : cell m c R o
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R o) := by
  refine Eq.trans ?_ (ref_at _ _ _ _ _ _ _ R o).symm
  exact proj_congr (congrFun (V_main_arg0 m c) _) (fun i => congrFun (V_main_arg1 m c) _) (fun i => Y_at m c R i) (fun i k => W_at m c i k)
    (fun i => congrFun (V_main_arg4 m c) _) (fun i => congrFun (V_main_arg5 m c) _) (fun i => WO_at m c _ o) (fun i => WO_at m c _ o)

/-- The result array after the run is the reference's term of the arguments. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  obtain ⟨r, o, rfl⟩ : ∃ (r : Fin 512) (o : Fin 2048), y = ix2 r o := ⟨y 0, y 1, eq_ix2 y⟩
  have h2 : t.val < 64 := (idx t).2.2.2.2.2.2.2.2
  have e : ((cfg0.win 7).blk t).view.emb (ix2 r o) = ix2 (⟨t.val * 512 + r, by omega⟩ : Fin 32768) o := by
    blk_ext [idx t]
  rw [e]
  exact (out_at m c t r o ⟨t.val * 512 + r, by omega⟩ rfl).trans (cell_eq m c _ o)

end Cert.Out

end
-- ==== Proof.Proj.lean ====
module

public import proofs.«01_k».proof.Proof.Gen.Kernel4Ideal.Frame
public import proofs.«01_k».proof.Proof.ProjRef
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Proj

open Cert.Kernel4Ideal Cert.Kernel4Ideal.Gen

/-- What the grid point writes: the normalised rows through the regrouped weights. -/
theorem pay_at (x : FVec Ideal S256x2048 .f32) (g : FVec Ideal S1x2048 .f32) (w : FVec Ideal S2048x4224 .bf16) (r : Fin 256) (j : Fin 4224) :
    k0_pay1 (F := Ideal) x g w (ix2 r j) = ∑ i : Fin 2048, nrm (fun i => x (ix2 r i)) (fun i => g (ix2 0 i)) i * w (ix2 i j) := by
  pointwise [k0_pay1, nrm]

variable (m : (ℓ : Loc nD τ sig) → Buf (Elt Ideal) ℓ)

/-- The block index of every window: there is one grid point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The rows of the input. -/
abbrev X (c : Dev nD) : FVec Ideal S256x2048 .f32 := V m c main_arg0
/-- The gain. -/
abbrev G (c : Dev nD) : FVec Ideal S1x2048 .f32 := V m c main_arg1
/-- The regrouped weights. -/
abbrev W (c : Dev nD) : FVec Ideal S2048x4224 .bf16 := V m c main_v7

/-- The weights of the layer as a matrix. -/
abbrev W0 (c : Dev nD) : FVec Ideal S2048x4112 .f32 :=
  shapeCast S2048x4112 (show FVec Ideal S1x2048x4112 .f32 from m ((c : Thread nD τ).loc main_arg2)) shapeCasts_S1x2048x4112_S2048x4112

/-- The regrouped weights are slices of the weights, side by side, the step sizes' padded by zeros. -/
theorem W_eq (c : Dev nD) : W m c = truncf (F := Ideal) .bf16 (concatenate S2048x4224 1
    [⟨S2048x2048, (extractStridedSlice S2048x2048 ![0, 1024] (W0 m c) slices_S2048x4112_S2048x2048_0_1024 : FVec Ideal S2048x2048 .f32)⟩,
      ⟨S2048x1024, (extractStridedSlice S2048x1024 ![0, 0] (W0 m c) slices_S2048x4112_S2048x1024_0_0 : FVec Ideal S2048x1024 .f32)⟩,
      ⟨S2048x1024, (extractStridedSlice S2048x1024 ![0, 3088] (W0 m c) slices_S2048x4112_S2048x1024_0_3088 : FVec Ideal S2048x1024 .f32)⟩,
      ⟨S2048x128, (pad S2048x128 ![0, 0] ![0, 112] ![0, 0] (extractStridedSlice S2048x16 ![0, 3072] (W0 m c) slices_S2048x4112_S2048x16_0_3072)
        (sitofp (F := Ideal) .f32 (constantI S_ 32 0#32)) pads_S2048x16_S2048x128_000_01120 h_S_ : FVec Ideal S2048x128 .f32)⟩]
    concatenates_S2048x2048_S2048x1024_S2048x1024_S2048x128_S2048x4224_d1 : FVec Ideal S2048x4224 .f32) bitsLt_bf16_f32 := by
  unfold W V
  simp only [List.flatten_cons, List.flatten_nil, List.append_nil, List.cons_append, List.nil_append]
  after_results
  rfl

/-- The regrouped weights, read in the argument. -/
theorem W_at (c : Dev nD) (i : Fin 2048) (j : Fin 4224) :
    W m c (ix2 i j) = col (fun k => (show FVec Ideal S1x2048x4112 .f32 from m ((c : Thread nD τ).loc main_arg2)) (ix3 0 i k)) j := by
  rw [W_eq]
  pointwise [col]
  by_cases h1 : (j : ℕ) < 2048
  · simp only [dif_pos h1]
  by_cases h2 : (j : ℕ) - 2048 < 1024
  · simp only [dif_neg h1, dif_pos h2]
  by_cases h3 : (j : ℕ) - 2048 - 1024 < 1024
  · simp only [dif_neg h1, dif_neg h2, dif_pos h3]
  by_cases h4 : (j : ℕ) - 2048 - 1024 - 1024 < 16
  · simp only [dif_neg h1, dif_neg h2, dif_neg h3, dif_pos h4]
  · simp only [dif_neg h1, dif_neg h2, dif_neg h3, dif_neg h4]
    exact fill

/-- What the grid point leaves in its block is the reference's entry. -/
theorem out_at (c : Dev nD) (t : Fin cfg0.N) (r : Fin 256) (j : Fin 4224) :
    (out0_3 (iblk m c 0 t) (iblk m c 1 t) (iblk m c 2 t)) (ix2 r j)
      = REF (m ((c : Thread nD τ).loc main_arg0)) (m ((c : Thread nD τ).loc main_arg1)) (m ((c : Thread nD τ).loc main_arg2)) (ix2 r j) := by
  unfold out0_3
  frame_out
  refine (pay_at _ _ _ r j).trans (Eq.trans ?_ (ref_at _ _ _ r j).symm)
  refine Finset.sum_congr rfl fun i _ => congrArg₂ (· * ·) (congrArg₂ (fun f g => nrm f g i) (funext fun i => ?_) (funext fun i => ?_)) ?_
  · refine Eq.trans (b := X m c (ix2 r i)) ?_ (congrFun (V_main_arg0 m c) _)
    blk_point [iblk, idx t]
  · refine Eq.trans (b := G m c (ix2 0 i)) ?_ (congrFun (V_main_arg1 m c) _)
    blk_point [iblk, idx t]
  · refine Eq.trans (b := W m c (ix2 i j)) ?_ (W_at m c i j)
    blk_point [iblk, idx t]

/-- The result array after the run is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, o, rfl⟩ : ∃ (r : Fin 256) (o : Fin 4224), y = ix2 r o := ⟨y 0, y 1, eq_ix2 y⟩
  have e : ((cfg0.win 3).blk t).view.emb (ix2 r o) = ix2 r o := by
    blk_ext [idx t]
  rw [e]
  exact out_at m c t r o

end Cert.Proj

end
-- ==== Proof.Scan.lean ====
/- The recurrence's run, slab by slab: the kernel's two state buffers after the four slabs of a block of lanes are the ones of
   a scan that is written once. -/
module

public import proofs.«01_k».proof.Proof.Gen.Kernel7Ideal.Frame

@[expose] public section

set_option maxRecDepth 65536
set_option maxHeartbeats 0

noncomputable section

namespace Cert.Scan

open Cert.Kernel7Ideal Cert.Kernel7Ideal.Gen Cert.Kernel7Ideal.Gen.kernelRun0_A.sl
open Idealize.ShloMosaic Idealize.ShloMosaic.TcCoe

variable {F : FTy → Type} [FloatOps F]

/-- Row `t` of every stream of slab `k` lies in the buffer. -/
theorem inbS (k t : ℕ) (hk : k < 4) (ht : t < 16) : ∀ a : Fin S1x8x128.rank, S1x8x128.size a = 0 ∨ ![k, t, 0] a + ![1, 20, 1] a * (S1x8x128.size a - 1) < S4x160x128.size a := by
  intro a
  refine Or.inr ?_
  match a with
  | ⟨0, _⟩ => show k + 1 * 0 < 4; omega
  | ⟨1, _⟩ => show t + 20 * 7 < 160; omega
  | ⟨2, _⟩ => show 0 + 1 * 127 < 128; omega

/-- The eight rows of time `t` of slab `k`, one of each stream. -/
def rb (k t : ℕ) (hk : k < 4) (ht : t < 16) : Rect S4x160x128 :=
  ⟨⟨![k, t, 0], S1x8x128.size, ![1, 20, 1], inbS k t hk ht⟩, spos_1_20_1⟩

/-- A slab's buffers and its state while it is scanned. -/
structure St (F : FTy → Type) where
  /-- The stores into the real buffer, the last first. -/
  LR : List (View.Piece (Elt F) S4x160x128 .f32)
  /-- The stores into the imaginary buffer, the last first. -/
  LI : List (View.Piece (Elt F) S4x160x128 .f32)
  /-- The state's real part. -/
  hr : FVec F S8x128 .f32
  /-- The state's imaginary part. -/
  hi : FVec F S8x128 .f32

/-- The next state's real part. -/
def nr (lr li hr hi : FVec F S8x128 .f32) (u : Vec F S1x8x128 .f32) : FVec F S8x128 .f32 :=
  addf (subf (mulf lr hr) (mulf li hi)) (shapeCast S8x128 u shapeCasts_S1x8x128_S8x128)

/-- The next state's imaginary part. -/
def ni (lr li hr hi : FVec F S8x128 .f32) (u : Vec F S1x8x128 .f32) : FVec F S8x128 .f32 :=
  addf (addf (mulf lr hi) (mulf li hr)) (shapeCast S8x128 u shapeCasts_S1x8x128_S8x128)

/-- One step of the scan: the inputs are read, the states stored over them. -/
def stp (vr vi : View sig .tc .vmem S4x160x128 .f32) (lr li : FVec F S8x128 .f32) (k : ℕ) (hk : k < 4) (t : ℕ) (ht : t < 16)
    (s : St F) : St F where
  LR := ⟨rb k t hk ht, shapeCast S1x8x128 (nr lr li s.hr s.hi (vr.readCov s.LR (rb k t hk ht).toLoadRect)) shapeCasts_S8x128_S1x8x128⟩ :: s.LR
  LI := ⟨rb k t hk ht, shapeCast S1x8x128 (ni lr li s.hr s.hi (vi.readCov s.LI (rb k t hk ht).toLoadRect)) shapeCasts_S8x128_S1x8x128⟩ :: s.LI
  hr := nr lr li s.hr s.hi (vr.readCov s.LR (rb k t hk ht).toLoadRect)
  hi := ni lr li s.hr s.hi (vi.readCov s.LI (rb k t hk ht).toLoadRect)

/-- The sixteen steps of a slab. -/
def slab (vr vi : View sig .tc .vmem S4x160x128 .f32) (lr li : FVec F S8x128 .f32) (k : ℕ) (hk : k < 4) (s : St F) : St F :=
  stp vr vi lr li k hk 15 (by omega) (stp vr vi lr li k hk 14 (by omega) (stp vr vi lr li k hk 13 (by omega) (stp vr vi lr li k hk 12 (by omega) (stp vr vi lr li k hk 11 (by omega) (stp vr vi lr li k hk 10 (by omega) (stp vr vi lr li k hk 9 (by omega) (stp vr vi lr li k hk 8 (by omega) (stp vr vi lr li k hk 7 (by omega) (stp vr vi lr li k hk 6 (by omega) (stp vr vi lr li k hk 5 (by omega) (stp vr vi lr li k hk 4 (by omega) (stp vr vi lr li k hk 3 (by omega) (stp vr vi lr li k hk 2 (by omega) (stp vr vi lr li k hk 1 (by omega) (stp vr vi lr li k hk 0 (by omega) s)))))))))))))))

/-- The stores into the two state buffers and into a block's two buffers, the last first. -/
structure Big (F : FTy → Type) where
  /-- The state's real part. -/
  HR : List (View.Piece (Elt F) S8x4096 .f32)
  /-- The state's imaginary part. -/
  HI : List (View.Piece (Elt F) S8x4096 .f32)
  /-- The block's real buffer. -/
  LR : List (View.Piece (Elt F) S4x160x128 .f32)
  /-- The block's imaginary buffer. -/
  LI : List (View.Piece (Elt F) S4x160x128 .f32)

/-- A slab's lanes lie in the states. -/
theorem inbH (o : ℕ) (ho : o + 128 ≤ 4096) : ∀ a : Fin (Nat.succ 1), ![0, o] a + S8x128.size a ≤ S8x4096.size a := by
  intro a
  match a with
  | ⟨0, _⟩ => show 0 + 8 ≤ 8; omega
  | ⟨1, _⟩ => show o + 128 ≤ 4096; omega

/-- A slab's lanes lie in the row of the transition. -/
theorem inbL (o : ℕ) (ho : o + 128 ≤ 4096) : ∀ a : Fin (Nat.succ 1), ![0, o] a + S1x128.size a ≤ S1x4096.size a := by
  intro a
  match a with
  | ⟨0, _⟩ => show 0 + 1 ≤ 1; omega
  | ⟨1, _⟩ => show o + 128 ≤ 4096; omega

/-- A slab's state before the scan. -/
def hd (v : View sig .tc .vmem S8x4096 .f32) (L : List (View.Piece (Elt F) S8x4096 .f32)) (o : ℕ) (ho : o + 128 ≤ 4096) : FVec F S8x128 .f32 :=
  shapeCast S8x128 (v.readCov L (Rect.unit (s := S8x4096) ![0, o] S8x128.size (inbH o ho)).toLoadRect) shapeCasts_S8x128_S8x128

/-- A slab's transition, on every stream. -/
def lam (arg : Memref sig .tc .vmem S1x4096 .f32) (harg : arg.IsWhole) (x : Vec F S1x4096 .f32) (o : ℕ) (ho : o + 128 ≤ 4096) : FVec F S8x128 .f32 :=
  broadcastTo S8x128 (shapeCast S1x128 (shapeCast S1x128 (View.readAt (Elt F) arg.view (Rect.unit (s := S1x4096) ![0, o] S1x128.size (inbL o ho)).toLoadRect
    (harg.unread x)) shapeCasts_S1x128_S1x128) shapeCasts_S1x128_S1x128) broadcasts_S1x128_S8x128

/-- A slab: its state is read, scanned and stored. -/
def sb (v13 v14 : View sig .tc .vmem S8x4096 .f32) (vr vi : View sig .tc .vmem S4x160x128 .f32)
    (lr li : (o : ℕ) → o + 128 ≤ 4096 → FVec F S8x128 .f32) (o : ℕ) (ho : o + 128 ≤ 4096) (k : ℕ) (hk : k < 4) (B : Big F) : Big F :=
  let s := slab vr vi (lr o ho) (li o ho) k hk ⟨B.LR, B.LI, hd v13 B.HR o ho, hd v14 B.HI o ho⟩
  ⟨⟨Rect.unit ![0, o] S8x128.size (inbH o ho), s.hr⟩ :: B.HR, ⟨Rect.unit ![0, o] S8x128.size (inbH o ho), s.hi⟩ :: B.HI, s.LR, s.LI⟩

/-- The four slabs of a block. -/
def quad (v13 v14 : View sig .tc .vmem S8x4096 .f32) (vr vi : View sig .tc .vmem S4x160x128 .f32)
    (lr li : (o : ℕ) → o + 128 ≤ 4096 → FVec F S8x128 .f32) (o0 o1 o2 o3 : ℕ) (h0 : o0 + 128 ≤ 4096) (h1 : o1 + 128 ≤ 4096)
    (h2 : o2 + 128 ≤ 4096) (h3 : o3 + 128 ≤ 4096) (B : Big F) : Big F :=
  sb v13 v14 vr vi lr li o3 h3 3 (by omega) (sb v13 v14 vr vi lr li o2 h2 2 (by omega)
    (sb v13 v14 vr vi lr li o1 h1 1 (by omega) (sb v13 v14 vr vi lr li o0 h0 0 (by omega) B)))

/-- A block's buffer as the products fill it: the four slabs' columns, one slab to a plane. -/
def base (X : FVec F S160x512 .f32) : List (View.Piece (Elt F) S4x160x128 .f32) :=
  [⟨Rect.unit ![3, 0, 0] S1x160x128.size inb_S4x160x128_S1x160x128_3_0_0, shapeCast S1x160x128 (extractStridedSlice S160x128 ![0, 384] X slices_S160x512_o0_384_S160x128) shapeCasts_S160x128_S1x160x128⟩,
   ⟨Rect.unit ![2, 0, 0] S1x160x128.size inb_S4x160x128_S1x160x128_2_0_0, shapeCast S1x160x128 (extractStridedSlice S160x128 ![0, 256] X slices_S160x512_o0_256_S160x128) shapeCasts_S160x128_S1x160x128⟩,
   ⟨Rect.unit ![1, 0, 0] S1x160x128.size inb_S4x160x128_S1x160x128_1_0_0, shapeCast S1x160x128 (extractStridedSlice S160x128 ![0, 128] X slices_S160x512_o0_128_S160x128) shapeCasts_S160x128_S1x160x128⟩,
   ⟨Rect.unit ![0, 0, 0] S1x160x128.size inb_S4x160x128_S1x160x128_0_0_0, shapeCast S1x160x128 (extractStridedSlice S160x128 ![0, 0] X slices_S160x512_o0_0_S160x128) shapeCasts_S160x128_S1x160x128⟩]

/-- A block's inputs times its part of the input matrix. -/
def mm (u : FVec F S160x128 .bf16) (w : Vec F S1x128x512 .bf16) : FVec F S160x512 .f32 :=
  matmul dot_S160x128_S128x512_S160x512_1_0_0_1_n_n none u (shapeCast S128x512 w shapeCasts_S1x128x512_S128x512) (constant S160x512 .f32 0x00000000#32)

/-- The rows' buffer: zeros, and the streams' steps from row 20 of each stream on. -/
def rowsL (p : (b : ℕ) → Vec F S1x16x1024 .f32) : List (View.Piece (Elt F) S160x1024 .f32) :=
  [⟨Rect.unit ![140, 0] S16x1024.size inb_S160x1024_S16x1024_140_0, shapeCast S16x1024 (shapeCast S16x1024 (p 7) shapeCasts_S1x16x1024_S16x1024) shapeCasts_S16x1024_S16x1024⟩,
   ⟨Rect.unit ![120, 0] S16x1024.size inb_S160x1024_S16x1024_120_0, shapeCast S16x1024 (shapeCast S16x1024 (p 6) shapeCasts_S1x16x1024_S16x1024) shapeCasts_S16x1024_S16x1024⟩,
   ⟨Rect.unit ![100, 0] S16x1024.size inb_S160x1024_S16x1024_100_0, shapeCast S16x1024 (shapeCast S16x1024 (p 5) shapeCasts_S1x16x1024_S16x1024) shapeCasts_S16x1024_S16x1024⟩,
   ⟨Rect.unit ![80, 0] S16x1024.size inb_S160x1024_S16x1024_80_0, shapeCast S16x1024 (shapeCast S16x1024 (p 4) shapeCasts_S1x16x1024_S16x1024) shapeCasts_S16x1024_S16x1024⟩,
   ⟨Rect.unit ![60, 0] S16x1024.size inb_S160x1024_S16x1024_60_0, shapeCast S16x1024 (shapeCast S16x1024 (p 3) shapeCasts_S1x16x1024_S16x1024) shapeCasts_S16x1024_S16x1024⟩,
   ⟨Rect.unit ![40, 0] S16x1024.size inb_S160x1024_S16x1024_40_0, shapeCast S16x1024 (shapeCast S16x1024 (p 2) shapeCasts_S1x16x1024_S16x1024) shapeCasts_S16x1024_S16x1024⟩,
   ⟨Rect.unit ![20, 0] S16x1024.size inb_S160x1024_S16x1024_20_0, shapeCast S16x1024 (shapeCast S16x1024 (p 1) shapeCasts_S1x16x1024_S16x1024) shapeCasts_S16x1024_S16x1024⟩,
   ⟨Rect.unit ![0, 0] S16x1024.size inb_S160x1024_S16x1024_0_0, shapeCast S16x1024 (shapeCast S16x1024 (p 0) shapeCasts_S1x16x1024_S16x1024) shapeCasts_S16x1024_S16x1024⟩,
   ⟨Rect.unit ![0, 0] S160x1024.size inb_S160x1024_S160x1024_0_0, shapeCast S160x1024 (broadcast S160x1024 (Scalar.ofBits .f32 0x00000000#32)) shapeCasts_S160x1024_S160x1024⟩]

/-- A stream's rows lie in its block. -/
theorem inbU (b : ℕ) (h : b < 8) : ∀ a : Fin (Nat.succ 2), ![b, 0, 0] a + S1x16x1024.size a ≤ S8x16x1024.size a := by
  intro a
  match a with
  | ⟨0, _⟩ => show b + 1 ≤ 8; omega
  | ⟨1, _⟩ => show 0 + 16 ≤ 16; omega
  | ⟨2, _⟩ => show 0 + 1024 ≤ 1024; omega

/-- A block of the input matrix lies in it. -/
theorem inbW (q : ℕ) (h : q < 8) : ∀ a : Fin (Nat.succ 2), ![q, 0, 0] a + S1x128x512.size a ≤ S8x128x512.size a := by
  intro a
  match a with
  | ⟨0, _⟩ => show q + 1 ≤ 8; omega
  | ⟨1, _⟩ => show 0 + 128 ≤ 128; omega
  | ⟨2, _⟩ => show 0 + 512 ≤ 512; omega

/-- A block's columns of the rows lie in them. -/
theorem slU (q : ℕ) (h : q < 8) : S160x1024.Slices ![0, 128 * q] S160x128 := by
  refine ⟨rfl, fun a => ?_⟩
  match a with
  | ⟨0, _⟩ => show 0 + 160 ≤ 160; omega
  | ⟨1, _⟩ => show 128 * q + 128 ≤ 1024; omega

/-- The rows as the kernel reads them. -/
def rows (arg2 : Memref sig .tc .vmem S8x16x1024 .f32) (harg2 : arg2.IsWhole) (arg15 : Memref sig .tc .vmem S160x1024 .f32) (x0 : Vec F S8x16x1024 .f32) : FVec F S160x1024 .f32 :=
  arg15.view.readCov (rowsL fun b => if h : b < 8 then View.readAt (Elt F) arg2.view
    (Rect.unit (s := S8x16x1024) ![b, 0, 0] S1x16x1024.size (inbU b h)).toLoadRect (harg2.unread x0) else fun _ => Scalar.ofBits .f32 0x00000000#32)
    (Rect.unit (s := S160x1024) ![0, 0] S160x1024.size inb_S160x1024_S160x1024_0_0).toLoadRect

/-- A block's products of the rows. -/
def prod (V : FVec F S160x1024 .f32) (arg3 : Memref sig .tc .vmem S8x128x512 .bf16) (harg3 : arg3.IsWhole) (x1 : Vec F S8x128x512 .bf16) (q : ℕ) (h : q < 8) : FVec F S160x512 .f32 :=
  mm (extractStridedSlice S160x128 ![0, 128 * q] (truncf .bf16 V bitsLt_bf16_f32) (slU q h))
    (View.readAt (Elt F) arg3.view (Rect.unit (s := S8x128x512) ![q, 0, 0] S1x128x512.size (inbW q h)).toLoadRect (harg3.unread x1))

/-- A state's buffer before the scan. -/
def init (arg10 : Memref sig .tc .vmem S8x4096 .f32) (harg10 : arg10.IsWhole) (x8 : Vec F S8x4096 .f32) : List (View.Piece (Elt F) S8x4096 .f32) :=
  [⟨Rect.unit ![0, 0] S8x4096.size inb_S8x4096_S8x4096_0_0, k0_pay3 (View.readAt (Elt F) arg10.view (Rect.unit (s := S8x4096) ![0, 0] S8x4096.size inb_S8x4096_S8x4096_0_0).toLoadRect (harg10.unread x8))⟩]

/-- A block's four slabs, from the block's products. -/
def blk (v13 v14 : View sig .tc .vmem S8x4096 .f32) (vr vi : View sig .tc .vmem S4x160x128 .f32)
    (lr li : (o : ℕ) → o + 128 ≤ 4096 → FVec F S8x128 .f32) (XR XI : (q : ℕ) → q < 8 → FVec F S160x512 .f32) (q : ℕ) (h : q < 8) (B : Big F) : Big F :=
  quad v13 v14 vr vi lr li (512 * q) (512 * q + 128) (512 * q + 256) (512 * q + 384) (by omega) (by omega) (by omega) (by omega)
    ⟨B.HR, B.HI, base (XR q h), base (XI q h)⟩

/-- The eight blocks. -/
def chain (v13 v14 : View sig .tc .vmem S8x4096 .f32) (w0 w1 w2 w3 w4 w5 w6 w7 z0 z1 z2 z3 z4 z5 z6 z7 : View sig .tc .vmem S4x160x128 .f32)
    (lr li : (o : ℕ) → o + 128 ≤ 4096 → FVec F S8x128 .f32) (XR XI : (q : ℕ) → q < 8 → FVec F S160x512 .f32) (B : Big F) : Big F :=
  blk v13 v14 w7 z7 lr li XR XI 7 (by omega) (blk v13 v14 w6 z6 lr li XR XI 6 (by omega) (blk v13 v14 w5 z5 lr li XR XI 5 (by omega)
    (blk v13 v14 w4 z4 lr li XR XI 4 (by omega) (blk v13 v14 w3 z3 lr li XR XI 3 (by omega) (blk v13 v14 w2 z2 lr li XR XI 2 (by omega)
      (blk v13 v14 w1 z1 lr li XR XI 1 (by omega) (blk v13 v14 w0 z0 lr li XR XI 0 (by omega) B)))))))

section

variable (c : Dev nD) (i : grid0.Coords) (arg2 : Memref sig .tc .vmem S8x16x1024 .f32) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x1024 .f32) (harg9 : arg9.IsWhole) (arg10 : Memref sig .tc .vmem S8x4096 .f32) (harg10 : arg10.IsWhole) (arg11 : Memref sig .tc .vmem S8x4096 .f32) (harg11 : arg11.IsWhole) (arg12 : Memref sig .tc .vmem S8x16x1024 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S160x1024 .f32) (harg15 : arg15.IsWhole) (arg16 : Memref sig .tc .vmem S160x1024 .f32) (harg16 : arg16.IsWhole) (arg17 : Memref sig .tc .vmem S4x160x128 .f32) (harg17 : arg17.IsWhole) (arg18 : Memref sig .tc .vmem S4x160x128 .f32) (harg18 : arg18.IsWhole) (arg19 : Memref sig .tc .vmem S4x160x128 .f32) (harg19 : arg19.IsWhole) (arg20 : Memref sig .tc .vmem S4x160x128 .f32) (harg20 : arg20.IsWhole) (arg21 : Memref sig .tc .vmem S4x160x128 .f32) (harg21 : arg21.IsWhole) (arg22 : Memref sig .tc .vmem S4x160x128 .f32) (harg22 : arg22.IsWhole) (arg23 : Memref sig .tc .vmem S4x160x128 .f32) (harg23 : arg23.IsWhole) (arg24 : Memref sig .tc .vmem S4x160x128 .f32) (harg24 : arg24.IsWhole) (arg25 : Memref sig .tc .vmem S4x160x128 .f32) (harg25 : arg25.IsWhole) (arg26 : Memref sig .tc .vmem S4x160x128 .f32) (harg26 : arg26.IsWhole) (arg27 : Memref sig .tc .vmem S4x160x128 .f32) (harg27 : arg27.IsWhole) (arg28 : Memref sig .tc .vmem S4x160x128 .f32) (harg28 : arg28.IsWhole) (arg29 : Memref sig .tc .vmem S4x160x128 .f32) (harg29 : arg29.IsWhole) (arg30 : Memref sig .tc .vmem S4x160x128 .f32) (harg30 : arg30.IsWhole) (arg31 : Memref sig .tc .vmem S4x160x128 .f32) (harg31 : arg31.IsWhole) (arg32 : Memref sig .tc .vmem S4x160x128 .f32) (harg32 : arg32.IsWhole) (hc0 : cond0_0 i)
  (x0 : Vec F S8x16x1024 .f32) (x1 x2 : Vec F S8x128x512 .bf16) (x3 x4 : Vec F S8x512x128 .bf16) (x5 x6 : Vec F S1x4096 .f32) (x7 : Vec F S1x1024 .f32) (x8 x9 : Vec F S8x4096 .f32)

/-- What a grid point leaves of the real states: the chain's stores. -/
theorem run_HR (y : S8x4096.Idx) : out0_A_11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 y = View.canon
    (chain arg13.view arg14.view arg17.view arg18.view arg19.view arg20.view arg21.view arg22.view arg23.view arg24.view arg25.view arg26.view arg27.view arg28.view arg29.view arg30.view arg31.view arg32.view
      (lam arg7 harg7 x5) (lam arg8 harg8 x6) (prod (rows arg2 harg2 arg15 x0) arg3 harg3 x1) (prod (rows arg2 harg2 arg15 x0) arg4 harg4 x2)
      ⟨init arg10 harg10 x8, init arg11 harg11 x9, [], []⟩).HR y := by
  unfold out0_A_11
  rw [View.read_writes_junk_eq_canon]
  refine congrFun (congrArg View.canon ?_) y
  sl_kernel_rfl

/-- What a grid point leaves of the imaginary states: the chain's stores. -/
theorem run_HI (y : S8x4096.Idx) : out0_A_12 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 x0 x1 x2 x3 x4 x5 x6 x7 x8 x9 y = View.canon
    (chain arg13.view arg14.view arg17.view arg18.view arg19.view arg20.view arg21.view arg22.view arg23.view arg24.view arg25.view arg26.view arg27.view arg28.view arg29.view arg30.view arg31.view arg32.view
      (lam arg7 harg7 x5) (lam arg8 harg8 x6) (prod (rows arg2 harg2 arg15 x0) arg3 harg3 x1) (prod (rows arg2 harg2 arg15 x0) arg4 harg4 x2)
      ⟨init arg10 harg10 x8, init arg11 harg11 x9, [], []⟩).HI y := by
  unfold out0_A_12
  rw [View.read_writes_junk_eq_canon]
  refine congrFun (congrArg View.canon ?_) y
  sl_kernel_rfl

end

end Cert.Scan

end
-- ==== Proof.ScanSem.lean ====
/- What the scan of a slab leaves, entry by entry: the sixteen steps of the recurrence. -/
module

public import proofs.«01_k».proof.Proof.Scan
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WholeRead

@[expose] public section

set_option maxHeartbeats 1600000
set_option maxRecDepth 16384

noncomputable section

namespace Cert.Scan

open Cert.Kernel7Ideal Cert.Kernel7Ideal.Gen
open Idealize.ShloMosaic Idealize.ShloMosaic.TcCoe Idealize.SL.Sem

/-- The recurrence: the state after `t` steps, real and imaginary part. -/
def sc (lr li : EReal) (ur ui : ℕ → EReal) (h : EReal × EReal) : ℕ → EReal × EReal
  | 0 => h
  | t + 1 => (lr * (sc lr li ur ui h t).1 - li * (sc lr li ur ui h t).2 + ur t,
      lr * (sc lr li ur ui h t).2 + li * (sc lr li ur ui h t).1 + ui t)

/-- The place of a row of time `t`. -/
theorem rb_idx (k t : ℕ) (hk : k < 4) (ht : t < 16) (z : Fin 1) (b : Fin 8) (l : Fin 128) :
    (rb k t hk ht).toLoadRect.idx (ix3 z b l) = ix3 (⟨k, hk⟩ : Fin 4) (⟨t + 20 * b.val, by omega⟩ : Fin 160) l := by
  have hz := z.isLt
  funext a
  match a with
  | 0 => exact Fin.ext (show k + 1 * z.val = k by omega)
  | 1 => exact Fin.ext (show t + 20 * b.val = t + 20 * b.val by omega)
  | 2 => exact Fin.ext (show 0 + 1 * l.val = l.val by omega)

/-- A row of time `t`, read back. -/
theorem rd (v : View sig .tc .vmem S4x160x128 .f32) (L : List (View.Piece (Elt Ideal) S4x160x128 .f32)) (k t : ℕ) (hk : k < 4)
    (ht : t < 16) (b : Fin 8) (l : Fin 128) : v.readCov L (rb k t hk ht).toLoadRect (ix3 0 b l)
      = View.canon L (ix3 (⟨k, hk⟩ : Fin 4) (⟨t + 20 * b.val, by omega⟩ : Fin 160) l) := by
  rw [View.readCov_eq_canon']
  exact congrArg _ (rb_idx k t hk ht 0 b l)

/-- A store of other rows leaves a row. -/
theorem skip (L : List (View.Piece (Elt Ideal) S4x160x128 .f32)) (k t : ℕ) (hk : k < 4) (ht : t < 16) (w) (k' : Fin 4) (r : Fin 160)
    (l : Fin 128) (h : k'.val ≠ k ∨ t + 1 ≤ r.val % 20) :
    View.canon ((⟨rb k t hk ht, w⟩ : View.Piece (Elt Ideal) S4x160x128 .f32) :: L) (ix3 k' r l) = View.canon L (ix3 k' r l) := by
  refine View.canon_cons_of_not_mem _ _ fun hm => ?_
  obtain ⟨x, hx⟩ := (rb k t hk ht).exists_idx_of_mem hm
  obtain ⟨z, b, l', rfl⟩ : ∃ (z : Fin 1) (b : Fin 8) (l' : Fin 128), x = ix3 z b l' := ⟨x 0, x 1, x 2, eq_ix3 x⟩
  have e := (rb_idx k t hk ht z b l').symm.trans hx
  have h0 : k = k'.val := congrArg (fun i => (i 0).val) e
  have h1 : t + 20 * b.val = r.val := congrArg (fun i => (i 1).val) e
  omega

/-- The inputs of a slab: a stream's and a lane's, time by time. -/
def U (L : List (View.Piece (Elt Ideal) S4x160x128 .f32)) (k : ℕ) (b : Fin 8) (l : Fin 128) (t : ℕ) : EReal :=
  if h : k < 4 ∧ t < 16 then View.canon L (ix3 (⟨k, h.1⟩ : Fin 4) (⟨t + 20 * b.val, by omega⟩ : Fin 160) l) else 0

/-- After `t` steps: the rows to come are as they were, and the state is the recurrence's. -/
structure Inv (k t : ℕ) (lr li : FVec Ideal S8x128 .f32) (s0 s : St Ideal) : Prop where
  /-- The real buffer's rows. -/
  LR : ∀ (k' : Fin 4) (r : Fin 160) (l : Fin 128), (k'.val ≠ k ∨ t ≤ r.val % 20) → View.canon s.LR (ix3 k' r l) = View.canon s0.LR (ix3 k' r l)
  /-- The imaginary buffer's rows. -/
  LI : ∀ (k' : Fin 4) (r : Fin 160) (l : Fin 128), (k'.val ≠ k ∨ t ≤ r.val % 20) → View.canon s.LI (ix3 k' r l) = View.canon s0.LI (ix3 k' r l)
  /-- The state. -/
  h : ∀ (b : Fin 8) (l : Fin 128), ((s.hr (ix2 b l), s.hi (ix2 b l)) : EReal × EReal)
    = sc (lr (ix2 b l)) (li (ix2 b l)) (U s0.LR k b l) (U s0.LI k b l) (s0.hr (ix2 b l), s0.hi (ix2 b l)) t

/-- The next state's real part at an entry. -/
theorem nr_at (lr li hr hi : FVec Ideal S8x128 .f32) (u : Vec Ideal S1x8x128 .f32) (b : Fin 8) (l : Fin 128) :
    nr lr li hr hi u (ix2 b l) = lr (ix2 b l) * hr (ix2 b l) - li (ix2 b l) * hi (ix2 b l) + u (ix3 0 b l) := by
  pointwise [nr]

/-- The next state's imaginary part at an entry. -/
theorem ni_at (lr li hr hi : FVec Ideal S8x128 .f32) (u : Vec Ideal S1x8x128 .f32) (b : Fin 8) (l : Fin 128) :
    ni lr li hr hi u (ix2 b l) = lr (ix2 b l) * hi (ix2 b l) + li (ix2 b l) * hr (ix2 b l) + u (ix3 0 b l) := by
  pointwise [ni]

/-- A step keeps it. -/
theorem inv_step (vr vi : View sig .tc .vmem S4x160x128 .f32) (lr li : FVec Ideal S8x128 .f32) (k : ℕ) (hk : k < 4) (t : ℕ) (ht : t < 16)
    (s0 s : St Ideal) (I : Inv k t lr li s0 s) : Inv k (t + 1) lr li s0 (stp vr vi lr li k hk t ht s) where
  LR k' r l h := (skip _ _ _ _ _ _ k' r l (by omega)).trans (I.LR k' r l (by omega))
  LI k' r l h := (skip _ _ _ _ _ _ k' r l (by omega)).trans (I.LI k' r l (by omega))
  h b l := by
    have e := I.h b l
    have e1 := congrArg Prod.fst e
    have e2 := congrArg Prod.snd e
    have ur : U s0.LR k b l t = vr.readCov s.LR (rb k t hk ht).toLoadRect (ix3 0 b l) := by
      rw [rd, I.LR _ _ _ (Or.inr (show t ≤ (t + 20 * b.val) % 20 by omega)), U, dif_pos ⟨hk, ht⟩]
    have ui : U s0.LI k b l t = vi.readCov s.LI (rb k t hk ht).toLoadRect (ix3 0 b l) := by
      rw [rd, I.LI _ _ _ (Or.inr (show t ≤ (t + 20 * b.val) % 20 by omega)), U, dif_pos ⟨hk, ht⟩]
    refine Prod.ext ?_ ?_
    · refine (nr_at _ _ _ _ _ b l).trans ?_
      rw [← ur]
      simp only [sc, ← e1, ← e2]
    · refine (ni_at _ _ _ _ _ b l).trans ?_
      rw [← ui]
      simp only [sc, ← e1, ← e2]

/-- The sixteen steps of a slab. -/
theorem inv_slab (vr vi : View sig .tc .vmem S4x160x128 .f32) (lr li : FVec Ideal S8x128 .f32) (k : ℕ) (hk : k < 4)
    (s : St Ideal) : Inv k 16 lr li s (slab vr vi lr li k hk s) := by
  have I0 : Inv k 0 lr li s s := ⟨fun _ _ _ _ => rfl, fun _ _ _ _ => rfl, fun _ _ => rfl⟩
  unfold slab
  iterate 16 refine inv_step _ _ _ _ _ _ _ _ _ _ ?_
  exact I0

attribute [local irreducible] slab

/-- A slab's transition at an entry. -/
theorem lam_at (arg : Memref sig .tc .vmem S1x4096 .f32) (harg : arg.IsWhole) (x : Vec Ideal S1x4096 .f32) (o : ℕ) (ho : o + 128 ≤ 4096)
    (b : Fin 8) (l : Fin 128) : lam arg harg x o ho (ix2 b l) = x (ix2 0 ⟨o + l.val, by omega⟩) := by
  pointwise [lam]
  refine (Memref.IsWhole.readAt_unread harg x _ _).trans (congrArg x ?_)
  funext a
  match a with
  | 0 => exact Fin.ext (show 0 + 1 * 0 = 0 by omega)
  | 1 => exact Fin.ext (show o + 1 * l.val = o + l.val by omega)

/-- A slab's state before the scan at an entry. -/
theorem hd_at (v : View sig .tc .vmem S8x4096 .f32) (L : List (View.Piece (Elt Ideal) S8x4096 .f32)) (o : ℕ) (ho : o + 128 ≤ 4096)
    (b : Fin 8) (l : Fin 128) : hd v L o ho (ix2 b l) = View.canon L (ix2 b ⟨o + l.val, by omega⟩) := by
  pointwise [hd]
  rw [View.readCov_eq_canon']
  refine congrArg _ ?_
  funext a
  match a with
  | 0 => exact Fin.ext (show 0 + 1 * b.val = b.val by omega)
  | 1 => exact Fin.ext (show o + 1 * l.val = o + l.val by omega)

/-- The states once the lanes below `n` are scanned: the recurrence's there, the first ones' elsewhere. -/
def Done (n : ℕ) (V : Fin 8 → Fin 4096 → EReal × EReal) (W : Fin 8 → Fin 4096 → EReal × EReal)
    (HR HI : List (View.Piece (Elt Ideal) S8x4096 .f32)) : Prop :=
  ∀ (b : Fin 8) (j : Fin 4096), ((View.canon HR (ix2 b j), View.canon HI (ix2 b j)) : EReal × EReal) = if j.val < n then V b j else W b j

/-- A state's lanes, stored: those lanes are the store's, the others as they were. -/
theorem put (L : List (View.Piece (Elt Ideal) S8x4096 .f32)) (o : ℕ) (ho : o + 128 ≤ 4096) (w : FVec Ideal S8x128 .f32) (b : Fin 8) (j : Fin 4096) :
    View.canon ((⟨Rect.unit (s := S8x4096) ![0, o] S8x128.size (inbH o ho), w⟩ : View.Piece (Elt Ideal) S8x4096 .f32) :: L) (ix2 b j)
      = if h : o ≤ j.val ∧ j.val < o + 128 then w (ix2 b ⟨j.val - o, by omega⟩) else View.canon L (ix2 b j) := by
  by_cases h : o ≤ j.val ∧ j.val < o + 128
  · rw [dif_pos h]
    have e : ix2 b j = (Rect.unit (s := S8x4096) ![0, o] S8x128.size (inbH o ho)).emb (ix2 b (⟨j.val - o, by omega⟩ : Fin 128)) := by
      funext a
      match a with
      | 0 => exact Fin.ext (show b.val = 0 + 1 * b.val by omega)
      | 1 => exact Fin.ext (show j.val = o + 1 * (j.val - o) by omega)
    exact (congrArg _ e).trans (View.canon_cons_emb _ _ _ _)
  · rw [dif_neg h]
    refine View.canon_cons_of_not_mem _ _ fun hm => h ?_
    have h1 : o ≤ j.val ∧ j.val < o + 128 := (Rect.mem_set_unit (inb := inbH o ho)).mp hm 1
    exact h1

/-- The recurrence at a lane of a block, from the block's products. -/
def val (x5 x6 : Vec Ideal S1x4096 .f32) (W : Fin 8 → Fin 4096 → EReal × EReal) (XR XI : ℕ → FVec Ideal S160x512 .f32) (b : Fin 8) (j : Fin 4096) :
    EReal × EReal :=
  sc (x5 (ix2 0 j)) (x6 (ix2 0 j))
    (fun t => if h : t < 16 then XR (j.val / 512) (ix2 (⟨t + 20 * b.val, by omega⟩ : Fin 160) (⟨j.val % 512, by omega⟩ : Fin 512)) else 0)
    (fun t => if h : t < 16 then XI (j.val / 512) (ix2 (⟨t + 20 * b.val, by omega⟩ : Fin 160) (⟨j.val % 512, by omega⟩ : Fin 512)) else 0)
    (W b j) 16

/-- A block's buffer from slab `k` on holds the block's products. -/
def Base (k : ℕ) (X : FVec Ideal S160x512 .f32) (L : List (View.Piece (Elt Ideal) S4x160x128 .f32)) : Prop :=
  ∀ (k' : Fin 4) (r : Fin 160) (l : Fin 128), k ≤ k'.val → View.canon L (ix3 k' r l) = X (ix2 r ⟨128 * k'.val + l.val, by omega⟩)

section

variable (v13 v14 : View sig .tc .vmem S8x4096 .f32) (vr vi : View sig .tc .vmem S4x160x128 .f32)
  (arg7 : Memref sig .tc .vmem S1x4096 .f32) (harg7 : arg7.IsWhole) (arg8 : Memref sig .tc .vmem S1x4096 .f32) (harg8 : arg8.IsWhole)
  (x5 x6 : Vec Ideal S1x4096 .f32) (W : Fin 8 → Fin 4096 → EReal × EReal) (XR XI : ℕ → FVec Ideal S160x512 .f32)

/-- A slab more is scanned, whatever the scan's states are as long as they are the recurrence's. -/
theorem slab_done (q k o : ℕ) (hq : q < 8) (hk : k < 4) (e : o = 512 * q + 128 * k) (ho : o + 128 ≤ 4096) (B : Big Ideal)
    (D : Done o (val x5 x6 W XR XI) W B.HR B.HI) (R : Base k (XR q) B.LR) (I : Base k (XI q) B.LI) (s : St Ideal)
    (J : Inv k 16 (lam arg7 harg7 x5 o ho) (lam arg8 harg8 x6 o ho) ⟨B.LR, B.LI, hd v13 B.HR o ho, hd v14 B.HI o ho⟩ s) :
    Done (o + 128) (val x5 x6 W XR XI) W
      ((⟨Rect.unit (s := S8x4096) ![0, o] S8x128.size (inbH o ho), s.hr⟩ : View.Piece (Elt Ideal) S8x4096 .f32) :: B.HR)
      ((⟨Rect.unit (s := S8x4096) ![0, o] S8x128.size (inbH o ho), s.hi⟩ : View.Piece (Elt Ideal) S8x4096 .f32) :: B.HI)
      ∧ Base (k + 1) (XR q) s.LR ∧ Base (k + 1) (XI q) s.LI := by
  have r1 : Base (k + 1) (XR q) s.LR := by
    intro k' r l h
    rw [← R k' r l (by omega)]
    exact J.LR k' r l (Or.inl (by omega))
  have r2 : Base (k + 1) (XI q) s.LI := by
    intro k' r l h
    rw [← I k' r l (by omega)]
    exact J.LI k' r l (Or.inl (by omega))
  refine ⟨?_, r1, r2⟩
  intro b j
  have p1 := put B.HR o ho s.hr b j
  have p2 := put B.HI o ho s.hi b j
  rw [p1, p2]
  by_cases h : o ≤ j.val ∧ j.val < o + 128
  · rw [dif_pos h, dif_pos h, if_pos (by omega)]
    refine (J.h b _).trans ?_
    have d := D b j
    rw [if_neg (by omega)] at d
    have ej : (⟨o + (j.val - o), by omega⟩ : Fin 4096) = j := Fin.ext (show o + (j.val - o) = j.val by omega)
    have ek : k < 4 := hk
    unfold val
    rw [lam_at, lam_at]
    dsimp only
    rw [hd_at, hd_at, ej, d]
    congr 1
    · funext t
      unfold U
      by_cases ht : t < 16
      · rw [dif_pos ⟨hk, ht⟩, dif_pos ht, R _ _ _ (le_refl k)]
        rw [show j.val / 512 = q by omega]
        refine congrArg _ (congrArg _ (Fin.ext ?_))
        show 128 * k + (j.val - o) = j.val % 512
        omega
      · rw [dif_neg (fun h => ht h.2), dif_neg ht]
    · funext t
      unfold U
      by_cases ht : t < 16
      · rw [dif_pos ⟨hk, ht⟩, dif_pos ht, I _ _ _ (le_refl k)]
        rw [show j.val / 512 = q by omega]
        refine congrArg _ (congrArg _ (Fin.ext ?_))
        show 128 * k + (j.val - o) = j.val % 512
        omega
      · rw [dif_neg (fun h => ht h.2), dif_neg ht]
  · rw [dif_neg h, dif_neg h]
    refine (D b j).trans ?_
    by_cases h' : j.val < o
    · rw [if_pos h', if_pos (by omega)]
    · rw [if_neg h', if_neg (by omega)]

/-- A slab more is scanned. -/
theorem sb_done (q k o : ℕ) (hq : q < 8) (hk : k < 4) (e : o = 512 * q + 128 * k) (ho : o + 128 ≤ 4096) (B : Big Ideal)
    (D : Done o (val x5 x6 W XR XI) W B.HR B.HI) (R : Base k (XR q) B.LR) (I : Base k (XI q) B.LI) :
    Done (o + 128) (val x5 x6 W XR XI) W (sb v13 v14 vr vi (lam arg7 harg7 x5) (lam arg8 harg8 x6) o ho k hk B).HR
      (sb v13 v14 vr vi (lam arg7 harg7 x5) (lam arg8 harg8 x6) o ho k hk B).HI
      ∧ Base (k + 1) (XR q) (sb v13 v14 vr vi (lam arg7 harg7 x5) (lam arg8 harg8 x6) o ho k hk B).LR
      ∧ Base (k + 1) (XI q) (sb v13 v14 vr vi (lam arg7 harg7 x5) (lam arg8 harg8 x6) o ho k hk B).LI :=
  slab_done v13 v14 arg7 harg7 arg8 harg8 x5 x6 W XR XI q k o hq hk e ho B D R I _ (inv_slab vr vi _ _ k hk _)

/-- A block more is scanned. -/
theorem quad_done (q o0 o1 o2 o3 : ℕ) (hq : q < 8) (e0 : o0 = 512 * q) (e1 : o1 = o0 + 128) (e2 : o2 = o1 + 128) (e3 : o3 = o2 + 128)
    (h0 : o0 + 128 ≤ 4096) (h1 : o1 + 128 ≤ 4096) (h2 : o2 + 128 ≤ 4096) (h3 : o3 + 128 ≤ 4096) (B : Big Ideal)
    (D : Done o0 (val x5 x6 W XR XI) W B.HR B.HI) (R : Base 0 (XR q) B.LR) (I : Base 0 (XI q) B.LI) :
    Done (o3 + 128) (val x5 x6 W XR XI) W
      (quad v13 v14 vr vi (lam arg7 harg7 x5) (lam arg8 harg8 x6) o0 o1 o2 o3 h0 h1 h2 h3 B).HR
      (quad v13 v14 vr vi (lam arg7 harg7 x5) (lam arg8 harg8 x6) o0 o1 o2 o3 h0 h1 h2 h3 B).HI := by
  subst e3 e2 e1
  obtain ⟨D1, R1, I1⟩ := sb_done v13 v14 vr vi arg7 harg7 arg8 harg8 x5 x6 W XR XI q 0 _ hq (by omega) (by omega) h0 B D R I
  obtain ⟨D2, R2, I2⟩ := sb_done v13 v14 vr vi arg7 harg7 arg8 harg8 x5 x6 W XR XI q 1 _ hq (by omega) (by omega) h1 _ D1 R1 I1
  obtain ⟨D3, R3, I3⟩ := sb_done v13 v14 vr vi arg7 harg7 arg8 harg8 x5 x6 W XR XI q 2 _ hq (by omega) (by omega) h2 _ D2 R2 I2
  exact (sb_done v13 v14 vr vi arg7 harg7 arg8 harg8 x5 x6 W XR XI q 3 _ hq (by omega) (by omega) h3 _ D3 R3 I3).1

end

end Cert.Scan

end
-- ==== Proof.ScanVal.lean ====
module

public import proofs.«01_k».proof.Proof.ScanSem
public import Idealize.ShloMosaic.Lib.Pipeline.ValueKit
public import Idealize.ShloMosaic.Lib.Pointwise
public import Idealize.ShloMosaic.Lib.Claim
public import Idealize.ShloMosaic.Lib.WholeRead
public import Idealize.ShloMosaic.Lib.Pipeline.ReadBack

@[expose] public section

set_option maxRecDepth 16384
set_option maxHeartbeats 1600000

noncomputable section

namespace Cert.Scan

open Cert.Kernel7Ideal Cert.Kernel7Ideal.Gen
open Idealize.ShloMosaic Idealize.ShloMosaic.TcCoe

/-- A slab's store into a block's buffer: its plane is the slab's columns, the others as they were. -/
theorem put3 (X : FVec Ideal S160x512 .f32) (L : List (View.Piece (Elt Ideal) S4x160x128 .f32)) (n : ℕ) (inb) (w : FVec Ideal S1x160x128 .f32)
    (hw : ∀ r l (h : 128 * n + l.val < 512), w (ix3 0 r l) = X (ix2 r ⟨128 * n + l.val, h⟩))
    (hL : ∀ (k : Fin 4) (r : Fin 160) (l : Fin 128), k.val < n → View.canon L (ix3 k r l) = X (ix2 r ⟨128 * k.val + l.val, by omega⟩))
    (k : Fin 4) (r : Fin 160) (l : Fin 128) (hk : k.val < n + 1) :
    View.canon ((⟨Rect.unit (s := S4x160x128) ![n, 0, 0] S1x160x128.size inb, w⟩ : View.Piece (Elt Ideal) S4x160x128 .f32) :: L) (ix3 k r l)
      = X (ix2 r ⟨128 * k.val + l.val, by omega⟩) := by
  by_cases h : k.val = n
  · subst h
    have e : ix3 k r l = (Rect.unit (s := S4x160x128) ![k.val, 0, 0] S1x160x128.size inb).emb (ix3 (0 : Fin 1) r l) := by
      funext a
      match a with
      | 0 => exact Fin.ext (show k.val = k.val + 1 * 0 by omega)
      | 1 => exact Fin.ext (show r.val = 0 + 1 * r.val by omega)
      | 2 => exact Fin.ext (show l.val = 0 + 1 * l.val by omega)
    exact ((congrArg _ e).trans (View.canon_cons_emb _ _ _ _)).trans (hw r l _)
  · refine (View.canon_cons_of_not_mem _ _ fun hm => h ?_).trans (hL k r l (by omega))
    have h1 : n ≤ k.val ∧ k.val < n + 1 := (Rect.mem_set_unit (inb := inb)).mp hm 0
    omega

/-- A block's buffer holds the block's products. -/
theorem base_at (X : FVec Ideal S160x512 .f32) : Base 0 X (base X) := by
  intro k r l _
  refine put3 X _ 3 _ _ (fun r l h => ?_) (fun k r l => put3 X _ 2 _ _ (fun r l h => ?_) (fun k r l => put3 X _ 1 _ _ (fun r l h => ?_)
    (fun k r l => put3 X _ 0 _ _ (fun r l h => ?_) (fun k r l h => absurd h (Nat.not_lt_zero _)) k r l) k r l) k r l) k r l k.isLt
  all_goals
    pointwise
    first | rfl | (refine congrArg X (congrArg _ (Fin.ext ?_)); simp; omega) | skip

/-- A state's buffer before the scan is the argument's block. -/
theorem init_at (arg : Memref sig .tc .vmem S8x4096 .f32) (harg : arg.IsWhole) (x : Vec Ideal S8x4096 .f32) (b : Fin 8) (j : Fin 4096) :
    View.canon (init arg harg x) (ix2 b j) = x (ix2 b j) := by
  have e : ix2 b j = (Rect.unit (s := S8x4096) ![0, 0] S8x4096.size inb_S8x4096_S8x4096_0_0).emb (ix2 b j) := by
    funext a
    match a with
    | 0 => exact Fin.ext (show b.val = 0 + 1 * b.val by omega)
    | 1 => exact Fin.ext (show j.val = 0 + 1 * j.val by omega)
  refine ((congrArg _ e).trans (View.canon_cons_emb _ _ _ _)).trans ?_
  pointwise [k0_pay3]
  exact (Memref.IsWhole.readAt_unread harg x _ _).trans (congrArg x e.symm)

section

variable (v13 v14 : View sig .tc .vmem S8x4096 .f32) (vr vi : View sig .tc .vmem S4x160x128 .f32)
  (arg7 : Memref sig .tc .vmem S1x4096 .f32) (harg7 : arg7.IsWhole) (arg8 : Memref sig .tc .vmem S1x4096 .f32) (harg8 : arg8.IsWhole)
  (x5 x6 : Vec Ideal S1x4096 .f32) (W : Fin 8 → Fin 4096 → EReal × EReal) (XR XI : (q : ℕ) → q < 8 → FVec Ideal S160x512 .f32)

/-- The blocks' products, one for every number. -/
def ext (X : (q : ℕ) → q < 8 → FVec Ideal S160x512 .f32) (q : ℕ) : FVec Ideal S160x512 .f32 := if h : q < 8 then X q h else fun _ => 0

/-- A block more is scanned. -/
theorem blk_done (q : ℕ) (hq : q < 8) (B : Big Ideal) (D : Done (512 * q) (val x5 x6 W (ext XR) (ext XI)) W B.HR B.HI) :
    Done (512 * (q + 1)) (val x5 x6 W (ext XR) (ext XI)) W (blk v13 v14 vr vi (lam arg7 harg7 x5) (lam arg8 harg8 x6) XR XI q hq B).HR
      (blk v13 v14 vr vi (lam arg7 harg7 x5) (lam arg8 harg8 x6) XR XI q hq B).HI := by
  have eR : ext XR q = XR q hq := dif_pos hq
  have eI : ext XI q = XI q hq := dif_pos hq
  have Q := quad_done v13 v14 vr vi arg7 harg7 arg8 harg8 x5 x6 W (ext XR) (ext XI) q (512 * q) (512 * q + 128) (512 * q + 256) (512 * q + 384)
    hq rfl rfl rfl rfl (by omega) (by omega) (by omega) (by omega) ⟨B.HR, B.HI, base (XR q hq), base (XI q hq)⟩ D
    (eR ▸ base_at (XR q hq)) (eI ▸ base_at (XI q hq))
  exact Q

end

/-- The eight blocks leave the recurrence's states. -/
theorem chain_done (v13 v14 : View sig .tc .vmem S8x4096 .f32) (w0 w1 w2 w3 w4 w5 w6 w7 z0 z1 z2 z3 z4 z5 z6 z7 : View sig .tc .vmem S4x160x128 .f32)
    (arg7 : Memref sig .tc .vmem S1x4096 .f32) (harg7 : arg7.IsWhole) (arg8 : Memref sig .tc .vmem S1x4096 .f32) (harg8 : arg8.IsWhole)
    (x5 x6 : Vec Ideal S1x4096 .f32) (W : Fin 8 → Fin 4096 → EReal × EReal) (XR XI : (q : ℕ) → q < 8 → FVec Ideal S160x512 .f32) (B : Big Ideal)
    (D : Done 0 (val x5 x6 W (ext XR) (ext XI)) W B.HR B.HI) :
    Done 4096 (val x5 x6 W (ext XR) (ext XI)) W
      (chain v13 v14 w0 w1 w2 w3 w4 w5 w6 w7 z0 z1 z2 z3 z4 z5 z6 z7 (lam arg7 harg7 x5) (lam arg8 harg8 x6) XR XI B).HR
      (chain v13 v14 w0 w1 w2 w3 w4 w5 w6 w7 z0 z1 z2 z3 z4 z5 z6 z7 (lam arg7 harg7 x5) (lam arg8 harg8 x6) XR XI B).HI := by
  unfold chain
  iterate 8 refine blk_done _ _ _ _ arg7 harg7 arg8 harg8 x5 x6 W XR XI _ _ _ ?_
  exact D

/-- A stream's store into the rows: its rows are the stream's, the others as they were. -/
theorem put2 (L : List (View.Piece (Elt Ideal) S160x1024 .f32)) (o : ℕ) (inb) (w : FVec Ideal S16x1024 .f32) (r : Fin 160) (j : Fin 1024) :
    View.canon ((⟨Rect.unit (s := S160x1024) ![o, 0] S16x1024.size inb, w⟩ : View.Piece (Elt Ideal) S160x1024 .f32) :: L) (ix2 r j)
      = if h : o ≤ r.val ∧ r.val < o + 16 then w (ix2 ⟨r.val - o, by omega⟩ j) else View.canon L (ix2 r j) := by
  by_cases h : o ≤ r.val ∧ r.val < o + 16
  · rw [dif_pos h]
    have e : ix2 r j = (Rect.unit (s := S160x1024) ![o, 0] S16x1024.size inb).emb (ix2 (⟨r.val - o, by omega⟩ : Fin 16) j) := by
      funext a
      match a with
      | 0 => exact Fin.ext (show r.val = o + 1 * (r.val - o) by omega)
      | 1 => exact Fin.ext (show j.val = 0 + 1 * j.val by omega)
    exact (congrArg _ e).trans (View.canon_cons_emb _ _ _ _)
  · rw [dif_neg h]
    refine View.canon_cons_of_not_mem _ _ fun hm => h ?_
    have h1 : o ≤ r.val ∧ r.val < o + 16 := (Rect.mem_set_unit (inb := inb)).mp hm 0
    exact h1

/-- A block's products, entry by entry. -/
theorem prod_at (V : FVec Ideal S160x1024 .f32) (arg3 : Memref sig .tc .vmem S8x128x512 .bf16) (harg3 : arg3.IsWhole) (x1 : Vec Ideal S8x128x512 .bf16)
    (q : ℕ) (h : q < 8) (r : Fin 160) (j : Fin 512) :
    prod V arg3 harg3 x1 q h (ix2 r j) = ∑ i : Fin 128, V (ix2 r ⟨128 * q + i.val, by omega⟩) * x1 (ix3 ⟨q, h⟩ i j) := by
  pointwise [prod, mm]
  refine Finset.sum_congr rfl fun i _ => congrArg₂ (· * ·) rfl ?_
  refine (Memref.IsWhole.readAt_unread harg3 x1 _ _).trans (congrArg x1 ?_)
  funext a
  match a with
  | 0 => exact Fin.ext (show q + 1 * 0 = q by omega)
  | 1 => exact Fin.ext (show 0 + 1 * i.val = i.val by omega)
  | 2 => exact Fin.ext (show 0 + 1 * j.val = j.val by omega)

end Cert.Scan

end
-- ==== Proof.ScanRows.lean ====
module

public import proofs.«01_k».proof.Proof.ScanVal
public import Idealize.ShloMosaic.Lib.Pipeline.ValueKit
public import Idealize.ShloMosaic.Lib.Pointwise
public import Idealize.ShloMosaic.Lib.Claim
public import Idealize.ShloMosaic.Lib.WholeRead
public import Idealize.ShloMosaic.Lib.Pipeline.ReadBack

@[expose] public section

set_option maxRecDepth 16384
set_option maxHeartbeats 1600000

noncomputable section

namespace Cert.Scan

open Cert.Kernel7Ideal Cert.Kernel7Ideal.Gen
open Idealize.ShloMosaic Idealize.ShloMosaic.TcCoe

/-- The rows, entry by entry: a stream's step. -/
theorem rows_at (arg2 : Memref sig .tc .vmem S8x16x1024 .f32) (harg2 : arg2.IsWhole) (arg15 : Memref sig .tc .vmem S160x1024 .f32)
    (x0 : Vec Ideal S8x16x1024 .f32) (b : Fin 8) (t : Fin 16) (j : Fin 1024) :
    rows arg2 harg2 arg15 x0 (ix2 ⟨t.val + 20 * b.val, by omega⟩ j) = x0 (ix3 b t j) := by
  have p : ∀ (n : ℕ) (hn : n < 8), View.readAt (Elt Ideal) arg2.view (Rect.unit (s := S8x16x1024) ![n, 0, 0] S1x16x1024.size (inbU n hn)).toLoadRect (harg2.unread x0)
      (ix3 0 t j) = x0 (ix3 ⟨n, hn⟩ t j) := by
    intro n hn
    refine (Memref.IsWhole.readAt_unread harg2 x0 _ _).trans (congrArg x0 ?_)
    funext a
    match a with
    | 0 => exact Fin.ext (show n + 1 * 0 = n by omega)
    | 1 => exact Fin.ext (show 0 + 1 * t.val = t.val by omega)
    | 2 => exact Fin.ext (show 0 + 1 * j.val = j.val by omega)
  unfold rows
  rw [View.readCov_eq_canon']
  refine Eq.trans (congrArg (View.canon _) (a₂ := ix2 (⟨t.val + 20 * b.val, by omega⟩ : Fin 160) j) ?_) ?_
  · funext a
    match a with
    | 0 => exact Fin.ext (show 0 + 1 * (t.val + 20 * b.val) = t.val + 20 * b.val by omega)
    | 1 => exact Fin.ext (show 0 + 1 * j.val = j.val by omega)
  unfold rowsL
  rw [put2, put2, put2, put2, put2, put2, put2, put2]
  match b with
  | ⟨0, _⟩ | ⟨1, _⟩ | ⟨2, _⟩ | ⟨3, _⟩ | ⟨4, _⟩ | ⟨5, _⟩ | ⟨6, _⟩ | ⟨7, _⟩ =>
    iterate 8 (try rw [dif_neg (by dsimp only; omega)])
    rw [dif_pos (by dsimp only; omega)]
    pointwise
    refine Eq.trans ?_ (p _ _)
    refine congrArg _ (congrArg (fun u => ix3 0 u j) (Fin.ext ?_))
    dsimp only
    try omega

end Cert.Scan

end
-- ==== Proof.ScanRef.lean ====
module

public import proofs.«01_k».proof.Proof.ScanSem
public import proofs.«01_k».proof.Proof.Gen.Reference7Ideal.Run
public import Idealize.ShloMosaic.Lib.Pipeline.ValueKit
public import Idealize.ShloMosaic.Lib.Pointwise
public import Idealize.ShloMosaic.Lib.Claim
public import Idealize.ShloMosaic.Lib.WholeRead
public import Idealize.ShloMosaic.Lib.Pipeline.ReadBack

@[expose] public section

set_option maxRecDepth 16384
set_option maxHeartbeats 1600000

noncomputable section

namespace Cert.ScanRef

open Cert.Reference7Ideal Cert.Reference7Ideal.Gen Cert.Reference7Ideal.Value
open Idealize.ShloMosaic Idealize.ShloMosaic.TcCoe Idealize.SL.Sem Idealize.ShloMosaic.StableHlo

/-- The inputs of every step: the input matrix times the rows, the streams and steps leading. -/
def DOT (b : FVec Ideal S64x64x16 .f32) (a0 : FVec Ideal S16x16x1024 .f32) : FVec Ideal S16x16x64x64 .f32 :=
  transpose S16x16x64x64 [2, 3, 0, 1] (Host.dotGeneral dot_S64x64x16_S16x16x64x16_S64x64x16x16_2_3_1_01_0_2 none b (shapeCast S16x16x64x16 a0 shapeCasts_S16x16x1024_S16x16x64x16)) transposes_S64x64x16x16_S16x16x64x64_2_3_0_1

/-- A transition for every stream. -/
def BC (a : FVec Ideal S64x64 .f32) : FVec Ideal S16x64x64 .f32 :=
  broadcastInDim S16x64x64 ![0, 1, 2] bcast_S1x64x64_S16x64x64_0_1_2 (broadcastInDim S1x64x64 ![1, 2] bcast_S64x64_S1x64x64_1_2 a)

/-- A step's inputs lie in those of every step. -/
theorem slT (t : ℕ) (h : t < 16) : S16x16x64x64.Slices ![0, t, 0, 0] S16x1x64x64 := by
  refine ⟨rfl, fun a => ?_⟩
  match a with
  | ⟨0, _⟩ => show 0 + 16 ≤ 16; omega
  | ⟨1, _⟩ => show t + 1 ≤ 16; omega
  | ⟨2, _⟩ => show 0 + 64 ≤ 64; omega
  | ⟨3, _⟩ => show 0 + 64 ≤ 64; omega

/-- A step's inputs. -/
def SL (v : FVec Ideal S16x16x64x64 .f32) (t : ℕ) (h : t < 16) : FVec Ideal S16x64x64 .f32 :=
  shapeCast S16x64x64 (extractStridedSlice S16x1x64x64 ![0, t, 0, 0] v (slT t h)) shapeCasts_S16x1x64x64_S16x64x64

/-- The states after `t` steps. -/
def RS (a1 a2 : FVec Ideal S1x16x64x64 .f32) (l r : FVec Ideal S64x64 .f32) (u v : FVec Ideal S16x16x64x64 .f32) :
    (t : ℕ) → t ≤ 16 → FVec Ideal S16x64x64 .f32 × FVec Ideal S16x64x64 .f32
  | 0, _ => (shapeCast S16x64x64 a1 shapeCasts_S1x16x64x64_S16x64x64, shapeCast S16x64x64 a2 shapeCasts_S1x16x64x64_S16x64x64)
  | t + 1, h => (addf (subf (mulf (BC l) (RS a1 a2 l r u v t (by omega)).1) (mulf (BC r) (RS a1 a2 l r u v t (by omega)).2)) (SL u t h),
      addf (addf (mulf (BC l) (RS a1 a2 l r u v t (by omega)).2) (mulf (BC r) (RS a1 a2 l r u v t (by omega)).1)) (SL v t h))

/-- The real part of the states after the sixteen steps. -/
def RE (a0 : FVec Ideal S16x16x1024 .f32) (a1 a2 : FVec Ideal S1x16x64x64 .f32) (a3 a4 : FVec Ideal S64x64 .f32) (a5 a6 : FVec Ideal S64x64x16 .f32) : FVec Ideal S16x4096 .f32 :=
  shapeCast S16x4096 (RS a1 a2 a3 a4 (DOT a5 a0) (DOT a6 a0) 16 (le_refl 16)).1 shapeCasts_S16x64x64_S16x4096

/-- Their imaginary part. -/
def IM (a0 : FVec Ideal S16x16x1024 .f32) (a1 a2 : FVec Ideal S1x16x64x64 .f32) (a3 a4 : FVec Ideal S64x64 .f32) (a5 a6 : FVec Ideal S64x64x16 .f32) : FVec Ideal S16x4096 .f32 :=
  shapeCast S16x4096 (RS a1 a2 a3 a4 (DOT a5 a0) (DOT a6 a0) 16 (le_refl 16)).2 shapeCasts_S16x64x64_S16x4096

/-- A step's input at an entry. -/
def ent (b : FVec Ideal S64x64x16 .f32) (a0 : FVec Ideal S16x16x1024 .f32) (n : Fin 16) (g s : Fin 64) (t : ℕ) : EReal :=
  if h : t < 16 then ∑ k : Fin 16, b (ix3 g s k) * a0 (ix3 n ⟨t, h⟩ ⟨16 * g.val + k.val, by omega⟩) else 0

/-- The steps' inputs, entry by entry. -/
theorem DOT_at (b : FVec Ideal S64x64x16 .f32) (a0 : FVec Ideal S16x16x1024 .f32) (n t : Fin 16) (g s : Fin 64) :
    DOT b a0 (ix4 n t g s) = ent b a0 n g s t.val := by
  unfold ent
  rw [dif_pos t.isLt]
  pointwise [DOT]
  refine Finset.sum_congr rfl fun k _ => congrArg₂ (· * ·) rfl (congrArg a0 ?_)
  funext a
  match a with
  | 0 => rfl
  | 1 => rfl
  | 2 => exact Fin.ext (by simp; omega)

/-- The states, entry by entry: the recurrence's. -/
theorem RS_at (a0 : FVec Ideal S16x16x1024 .f32) (a1 a2 : FVec Ideal S1x16x64x64 .f32) (a3 a4 : FVec Ideal S64x64 .f32) (a5 a6 : FVec Ideal S64x64x16 .f32)
    (n : Fin 16) (g s : Fin 64) (t : ℕ) (h : t ≤ 16) :
    (((RS a1 a2 a3 a4 (DOT a5 a0) (DOT a6 a0) t h).1 (ix3 n g s), (RS a1 a2 a3 a4 (DOT a5 a0) (DOT a6 a0) t h).2 (ix3 n g s)) : EReal × EReal)
      = Cert.Scan.sc (a3 (ix2 g s)) (a4 (ix2 g s)) (ent a5 a0 n g s) (ent a6 a0 n g s) (a1 (ix4 0 n g s), a2 (ix4 0 n g s)) t := by
  induction t with
  | zero =>
    unfold RS Cert.Scan.sc
    pointwise
  | succ t ih =>
    have e := ih (by omega)
    have e1 := congrArg Prod.fst e
    have e2 := congrArg Prod.snd e
    have d5 : SL (DOT a5 a0) t (by omega) (ix3 n g s) = ent a5 a0 n g s t := by
      rw [← DOT_at a5 a0 n ⟨t, by omega⟩ g s]
      pointwise [SL]
    have d6 : SL (DOT a6 a0) t (by omega) (ix3 n g s) = ent a6 a0 n g s t := by
      rw [← DOT_at a6 a0 n ⟨t, by omega⟩ g s]
      pointwise [SL]
    have b3 : BC a3 (ix3 n g s) = a3 (ix2 g s) := by pointwise [BC]
    have b4 : BC a4 (ix3 n g s) = a4 (ix2 g s) := by pointwise [BC]
    unfold RS Cert.Scan.sc
    rw [← e1, ← e2, ← d5, ← d6, ← b3, ← b4]
    rfl

/-- The real part, entry by entry. -/
theorem RE_at (a0 : FVec Ideal S16x16x1024 .f32) (a1 a2 : FVec Ideal S1x16x64x64 .f32) (a3 a4 : FVec Ideal S64x64 .f32) (a5 a6 : FVec Ideal S64x64x16 .f32)
    (n : Fin 16) (j : Fin 4096) : ((RE a0 a1 a2 a3 a4 a5 a6 (ix2 n j), IM a0 a1 a2 a3 a4 a5 a6 (ix2 n j)) : EReal × EReal)
      = Cert.Scan.sc (a3 (ix2 ⟨j.val / 64, by omega⟩ ⟨j.val % 64, by omega⟩)) (a4 (ix2 ⟨j.val / 64, by omega⟩ ⟨j.val % 64, by omega⟩))
          (ent a5 a0 n ⟨j.val / 64, by omega⟩ ⟨j.val % 64, by omega⟩) (ent a6 a0 n ⟨j.val / 64, by omega⟩ ⟨j.val % 64, by omega⟩)
          (a1 (ix4 0 n ⟨j.val / 64, by omega⟩ ⟨j.val % 64, by omega⟩), a2 (ix4 0 n ⟨j.val / 64, by omega⟩ ⟨j.val % 64, by omega⟩)) 16 := by
  rw [← RS_at a0 a1 a2 a3 a4 a5 a6 n _ _ 16 (le_refl 16)]
  pointwise [RE, IM]

variable (m : (ℓ : Loc nD τ sig) → Buf (Elt Ideal) ℓ)

/-- The reference's run leaves the real part. -/
theorem re_eq (c : Dev nD) : shapeCast S16x4096 (addf (subf (mulf (broadcastInDim S16x64x64 ![0, 1, 2] bcast_S1x64x64_S16x64x64_0_1_2 (broadcastInDim S1x64x64 ![1, 2] bcast_S64x64_S1x64x64_1_2 ((launchContents m c) (Proc.devRef .tc main_arg3)))) (res_main_v296 (launchContents m c))) (mulf (broadcastInDim S16x64x64 ![0, 1, 2] bcast_S1x64x64_S16x64x64_0_1_2 (broadcastInDim S1x64x64 ![1, 2] bcast_S64x64_S1x64x64_1_2 ((launchContents m c) (Proc.devRef .tc main_arg4)))) (res_main_v306 (launchContents m c)))) (shapeCast _ (extractStridedSlice S16x1x64x64 ![0, 15, 0, 0] (res_main_v2 (launchContents m c)) slices_S16x16x64x64_S16x1x64x64_0_15_0_0) shapeCasts_S16x1x64x64_S16x64x64)) shapeCasts_S16x64x64_S16x4096
    = RE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  sl_kernel_rfl

/-- The reference's run leaves the imaginary part. -/
theorem im_eq (c : Dev nD) : shapeCast S16x4096 (addf (addf (mulf (broadcastInDim S16x64x64 ![0, 1, 2] bcast_S1x64x64_S16x64x64_0_1_2 (broadcastInDim S1x64x64 ![1, 2] bcast_S64x64_S1x64x64_1_2 ((launchContents m c) (Proc.devRef .tc main_arg3)))) (res_main_v306 (launchContents m c))) (mulf (broadcastInDim S16x64x64 ![0, 1, 2] bcast_S1x64x64_S16x64x64_0_1_2 (broadcastInDim S1x64x64 ![1, 2] bcast_S64x64_S1x64x64_1_2 ((launchContents m c) (Proc.devRef .tc main_arg4)))) (res_main_v296 (launchContents m c)))) (shapeCast _ (extractStridedSlice S16x1x64x64 ![0, 15, 0, 0] (res_main_v4 (launchContents m c)) slices_S16x16x64x64_S16x1x64x64_0_15_0_0) shapeCasts_S16x1x64x64_S16x64x64)) shapeCasts_S16x64x64_S16x4096
    = IM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  sl_kernel_rfl

end Cert.ScanRef

end
-- ==== Proof.ScanHost.lean ====
module

public import proofs.«01_k».proof.Proof.ScanRows
public import proofs.«01_k».proof.Proof.ScanRef
public import proofs.«01_k».proof.Proof.Gen.Kernel7Ideal.Frame
public import Idealize.ShloMosaic.Lib.Pipeline.ValueKit
public import Idealize.ShloMosaic.Lib.Pointwise
public import Idealize.ShloMosaic.Lib.Claim
public import Idealize.ShloMosaic.Lib.WholeRead
public import Idealize.ShloMosaic.Lib.Pipeline.ReadBack

@[expose] public section

set_option maxRecDepth 16384
set_option maxHeartbeats 1600000

noncomputable section

namespace Cert.Scan

open Cert.Kernel7Ideal Cert.Kernel7Ideal.Gen
open Idealize.ShloMosaic Idealize.ShloMosaic.TcCoe Idealize.SL.Sem

/-- The unit matrix as the host computes it. -/
def EYE : FVec Ideal S8x8 .f32 :=
  uitofp .f32 (cmpi .eq (addi (iotaInDim S8x8 32 0) (broadcastInDim S8x8 ![] bcast_S_S8x8 (constantI S_ 32 0))) (iotaInDim S8x8 32 1))

/-- It is one on the diagonal and zero off it. -/
theorem EYE_at (g h : Fin 8) : EYE (ix2 g h) = if g = h then 1 else 0 := by
  have k : (cmpi .eq (addi (iotaInDim S8x8 32 0) (broadcastInDim S8x8 ![] bcast_S_S8x8 (constantI S_ 32 0))) (iotaInDim S8x8 32 1)) (ix2 g h)
      = if g = h then 1#1 else 0#1 := by
    revert g h
    decide +kernel
  show FloatOps.uitofp (F := Ideal) .f32 ((cmpi .eq (addi (iotaInDim S8x8 32 0) (broadcastInDim S8x8 ![] bcast_S_S8x8 (constantI S_ 32 0))) (iotaInDim S8x8 32 1)) (ix2 g h)) = _
  rw [k]
  split
  · show (((1#1 : BitVec 1).toNat : ℝ) : EReal) = 1
    simp
  · show (((0#1 : BitVec 1).toNat : ℝ) : EReal) = 0
    simp

/-- The input matrix in blocks: eight channels to a block, a channel's part on the block's diagonal. -/
def BD (b : FVec Ideal S64x64x16 .f32) : FVec Ideal S8x128x512 .bf16 :=
  truncf .bf16 (shapeCast S8x128x512 (mulf
    (broadcastInDim S8x8x16x8x64 ![0, 1, 2, 3, 4] bcast_S8x8x16x1x64_S8x8x16x8x64_0_1_2_3_4 (broadcastInDim S8x8x16x1x64 ![0, 1, 2, 4] bcast_S8x8x16x64_S8x8x16x1x64_0_1_2_4
      (transpose S8x8x16x64 [0, 1, 3, 2] (shapeCast S8x8x64x16 b shapeCasts_S64x64x16_S8x8x64x16) transposes_S8x8x64x16_S8x8x16x64_0_1_3_2)))
    (broadcastInDim S8x8x16x8x64 ![0, 1, 2, 3, 4] bcast_S1x8x1x8x1_S8x8x16x8x64_0_1_2_3_4 (broadcastInDim S1x8x1x8x1 ![1, 3] bcast_S8x8_S1x8x1x8x1_1_3 EYE)))
    shapeCasts_S8x8x16x8x64_S8x128x512) bitsLt_bf16_f32

/-- The blocks, entry by entry. -/
theorem BD_at (b : FVec Ideal S64x64x16 .f32) (q : Fin 8) (i : Fin 128) (j : Fin 512) :
    BD b (ix3 q i j) = b (ix3 ⟨q.val * 8 + i.val / 16, by omega⟩ ⟨j.val % 64, by omega⟩ ⟨i.val % 16, by omega⟩) * (if i.val / 16 = j.val / 64 then 1 else 0) := by
  have e := EYE_at ⟨i.val / 16, by omega⟩ ⟨j.val / 64, by omega⟩
  simp only [Fin.mk.injEq] at e
  rw [← e]
  pointwise [BD]

/-- A sum over a block's lanes is the sum over its channel's. -/
theorem sum_bd (f d : Fin 128 → EReal) (p : ℕ) (hp : p < 8) :
    ∑ i : Fin 128, f i * (d i * (if i.val / 16 = p then 1 else 0))
      = ∑ k : Fin 16, d ⟨16 * p + k.val, by omega⟩ * f ⟨16 * p + k.val, by omega⟩ := by
  rw [← (finProdFinEquiv (m := 8) (n := 16)).sum_comp (fun i : Fin 128 => f i * (d i * (if i.val / 16 = p then 1 else 0))), Fintype.sum_prod_type]
  rw [Finset.sum_eq_single (⟨p, hp⟩ : Fin 8)]
  · refine Finset.sum_congr rfl fun k _ => ?_
    have e : (finProdFinEquiv ((⟨p, hp⟩ : Fin 8), k) : Fin 128) = ⟨16 * p + k.val, by omega⟩ := Fin.ext (show k.val + 16 * p = 16 * p + k.val by omega)
    rw [e, if_pos (show (16 * p + k.val) / 16 = p by omega), mul_one, mul_comm]
  · intro x _ hx
    refine Finset.sum_eq_zero fun k _ => ?_
    have e : ¬ ((finProdFinEquiv (x, k) : Fin 128).val / 16 = p) := by
      show ¬ ((k.val + 16 * x.val) / 16 = p)
      intro h
      exact hx (Fin.ext (show x.val = p by omega))
    rw [if_neg e, mul_zero, mul_zero]
  · intro h
    exact absurd (Finset.mem_univ _) h

end Cert.Scan

end
-- ==== Proof.ScanFin.lean ====
module

public import proofs.«01_k».proof.Proof.ScanHost
public import proofs.«01_k».proof.Proof.ScanRef
public import proofs.«01_k».proof.Proof.Gen.Kernel7Ideal.Frame
public import Idealize.ShloMosaic.Lib.Pipeline.ValueKit
public import Idealize.ShloMosaic.Lib.Pointwise
public import Idealize.ShloMosaic.Lib.Claim
public import Idealize.ShloMosaic.Lib.WholeRead
public import Idealize.ShloMosaic.Lib.Pipeline.ReadBack

@[expose] public section

set_option maxRecDepth 16384
set_option maxHeartbeats 1600000

noncomputable section

namespace Cert.Scan

open Cert.Kernel7Ideal Cert.Kernel7Ideal.Gen
open Idealize.ShloMosaic Idealize.ShloMosaic.TcCoe Idealize.SL.Sem

variable (m : (ℓ : Loc nD τ sig) → Buf (Elt Ideal) ℓ)

/-- The block index of the windows at every grid point. -/
theorem idx : ∀ t : Fin cfg0.N, win0_0.index t = ![t.val, 0, 0] ∧ win0_1.index t = ![0, 0, 0] ∧ win0_2.index t = ![0, 0, 0]
    ∧ win0_5.index t = ![0, 0] ∧ win0_6.index t = ![0, 0] ∧ win0_8.index t = ![t.val, 0] ∧ win0_9.index t = ![t.val, 0]
    ∧ win0_11.index t = ![t.val, 0] ∧ win0_12.index t = ![t.val, 0] ∧ t.val < 2 :=
  (by decide +kernel : ∀ t : Fin grid0.N, _)

/-- The inputs of the sixteen streams. -/
abbrev A0 (c : Dev nD) : FVec Ideal S16x16x1024 .f32 := m ((c : Thread nD τ).loc main_arg0)
/-- The first states' real part. -/
abbrev A1 (c : Dev nD) : FVec Ideal S1x16x64x64 .f32 := m ((c : Thread nD τ).loc main_arg1)
/-- Their imaginary part. -/
abbrev A2 (c : Dev nD) : FVec Ideal S1x16x64x64 .f32 := m ((c : Thread nD τ).loc main_arg2)
/-- The transition's real part. -/
abbrev A3 (c : Dev nD) : FVec Ideal S64x64 .f32 := m ((c : Thread nD τ).loc main_arg3)
/-- Its imaginary part. -/
abbrev A4 (c : Dev nD) : FVec Ideal S64x64 .f32 := m ((c : Thread nD τ).loc main_arg4)
/-- The input matrix's real part. -/
abbrev A5 (c : Dev nD) : FVec Ideal S64x64x16 .f32 := m ((c : Thread nD τ).loc main_arg5)
/-- Its imaginary part. -/
abbrev A6 (c : Dev nD) : FVec Ideal S64x64x16 .f32 := m ((c : Thread nD τ).loc main_arg6)

/-- What the call is given: the input matrix's real part in blocks. -/
abbrev X1 (c : Dev nD) : FVec Ideal S8x128x512 .bf16 := V m c main_v14
/-- It is that of the arguments. -/
theorem X1_eq (c : Dev nD) : X1 m c = BD (A5 m c) := by
  unfold X1 V
  after_results
  rfl

/-- What the call is given: its imaginary part in blocks. -/
abbrev X2 (c : Dev nD) : FVec Ideal S8x128x512 .bf16 := V m c main_v23
/-- It is that of the arguments. -/
theorem X2_eq (c : Dev nD) : X2 m c = BD (A6 m c) := by
  unfold X2 V
  after_results
  rfl

/-- What the call is given: the transition's real part. -/
abbrev X5 (c : Dev nD) : FVec Ideal S1x4096 .f32 := V m c main_v44
/-- It is that of the arguments. -/
theorem X5_eq (c : Dev nD) : X5 m c = shapeCast S1x4096 (A3 m c) shapeCasts_S64x64_S1x4096 := by
  unfold X5 V
  after_results
  rfl

/-- What the call is given: its imaginary part. -/
abbrev X6 (c : Dev nD) : FVec Ideal S1x4096 .f32 := V m c main_v45
/-- It is that of the arguments. -/
theorem X6_eq (c : Dev nD) : X6 m c = shapeCast S1x4096 (A4 m c) shapeCasts_S64x64_S1x4096 := by
  unfold X6 V
  after_results
  rfl

/-- What the call is given: the first states' real part. -/
abbrev X8 (c : Dev nD) : FVec Ideal S16x4096 .f32 := V m c main_v48
/-- It is that of the arguments. -/
theorem X8_eq (c : Dev nD) : X8 m c = shapeCast S16x4096 (A1 m c) shapeCasts_S1x16x64x64_S16x4096 := by
  unfold X8 V
  after_results
  rfl

/-- What the call is given: their imaginary part. -/
abbrev X9 (c : Dev nD) : FVec Ideal S16x4096 .f32 := V m c main_v49
/-- It is that of the arguments. -/
theorem X9_eq (c : Dev nD) : X9 m c = shapeCast S16x4096 (A2 m c) shapeCasts_S1x16x64x64_S16x4096 := by
  unfold X9 V
  after_results
  rfl

variable (c : Dev nD) (t : Fin cfg0.N)

/-- A grid point's inputs: eight streams'. -/
theorem b0_at (b : Fin 8) (s : Fin 16) (j : Fin 1024) : (iblk m c 0 t : Vec Ideal S8x16x1024 .f32) (ix3 b s j)
    = A0 m c (ix3 ⟨t.val * 8 + b.val, by have := (idx t).2.2.2.2.2.2.2.2.2; omega⟩ s j) := by
  refine Eq.trans ?_ (congrFun (V_main_arg0 m c) _)
  blk_point [iblk, idx t]

/-- A grid point's input matrix: the whole. -/
theorem b1_at (q : Fin 8) (i : Fin 128) (j : Fin 512) : (iblk m c 1 t : Vec Ideal S8x128x512 .bf16) (ix3 q i j) = BD (A5 m c) (ix3 q i j) := by
  refine Eq.trans (b := X1 m c (ix3 q i j)) ?_ (congrFun (X1_eq m c) _)
  blk_point [iblk, idx t]

/-- A grid point's input matrix: the whole. -/
theorem b2_at (q : Fin 8) (i : Fin 128) (j : Fin 512) : (iblk m c 2 t : Vec Ideal S8x128x512 .bf16) (ix3 q i j) = BD (A6 m c) (ix3 q i j) := by
  refine Eq.trans (b := X2 m c (ix3 q i j)) ?_ (congrFun (X2_eq m c) _)
  blk_point [iblk, idx t]

/-- A grid point's transition: the whole. -/
theorem b5_at (j : Fin 4096) : (iblk m c 5 t : Vec Ideal S1x4096 .f32) (ix2 0 j) = A3 m c (ix2 ⟨j.val / 64, by omega⟩ ⟨j.val % 64, by omega⟩) := by
  refine Eq.trans (b := X5 m c (ix2 0 j)) ?_ ?_
  · blk_point [iblk, idx t]
  · rw [X5_eq]
    pointwise

/-- A grid point's transition: the whole. -/
theorem b6_at (j : Fin 4096) : (iblk m c 6 t : Vec Ideal S1x4096 .f32) (ix2 0 j) = A4 m c (ix2 ⟨j.val / 64, by omega⟩ ⟨j.val % 64, by omega⟩) := by
  refine Eq.trans (b := X6 m c (ix2 0 j)) ?_ ?_
  · blk_point [iblk, idx t]
  · rw [X6_eq]
    pointwise

/-- A grid point's first states: eight streams'. -/
theorem b8_at (b : Fin 8) (j : Fin 4096) : (iblk m c 8 t : Vec Ideal S8x4096 .f32) (ix2 b j)
    = A1 m c (ix4 0 ⟨t.val * 8 + b.val, by have := (idx t).2.2.2.2.2.2.2.2.2; omega⟩ ⟨j.val / 64, by omega⟩ ⟨j.val % 64, by omega⟩) := by
  refine Eq.trans (b := X8 m c (ix2 ⟨t.val * 8 + b.val, by have := (idx t).2.2.2.2.2.2.2.2.2; omega⟩ j)) ?_ ?_
  · blk_point [iblk, idx t]
  · rw [X8_eq]
    pointwise

/-- A grid point's first states: eight streams'. -/
theorem b9_at (b : Fin 8) (j : Fin 4096) : (iblk m c 9 t : Vec Ideal S8x4096 .f32) (ix2 b j)
    = A2 m c (ix4 0 ⟨t.val * 8 + b.val, by have := (idx t).2.2.2.2.2.2.2.2.2; omega⟩ ⟨j.val / 64, by omega⟩ ⟨j.val % 64, by omega⟩) := by
  refine Eq.trans (b := X9 m c (ix2 ⟨t.val * 8 + b.val, by have := (idx t).2.2.2.2.2.2.2.2.2; omega⟩ j)) ?_ ?_
  · blk_point [iblk, idx t]
  · rw [X9_eq]
    pointwise

end Cert.Scan

end
-- ==== Proof.ScanOut.lean ====
module

public import proofs.«01_k».proof.Proof.ScanFin
public import proofs.«01_k».proof.Proof.ScanRef
public import proofs.«01_k».proof.Proof.Gen.Kernel7Ideal.Frame
public import Idealize.ShloMosaic.Lib.Pipeline.ValueKit
public import Idealize.ShloMosaic.Lib.Pointwise
public import Idealize.ShloMosaic.Lib.Claim
public import Idealize.ShloMosaic.Lib.WholeRead
public import Idealize.ShloMosaic.Lib.Pipeline.ReadBack

@[expose] public section

set_option maxRecDepth 16384
set_option maxHeartbeats 1600000

noncomputable section

namespace Cert.Scan

open Cert.Kernel7Ideal Cert.Kernel7Ideal.Gen
open Idealize.ShloMosaic Idealize.ShloMosaic.TcCoe Idealize.SL.Sem

/-- A step's input of a stream and a lane, through the blocks: the reference's. -/
theorem inp_at (arg2 : Memref sig .tc .vmem S8x16x1024 .f32) (harg2 : arg2.IsWhole) (arg15 : Memref sig .tc .vmem S160x1024 .f32)
    (arg3 : Memref sig .tc .vmem S8x128x512 .bf16) (harg3 : arg3.IsWhole) (x0 : Vec Ideal S8x16x1024 .f32) (x1 : Vec Ideal S8x128x512 .bf16)
    (a0 : FVec Ideal S16x16x1024 .f32) (a5 : FVec Ideal S64x64x16 .f32) (n : Fin 16) (b : Fin 8) (e0 : ∀ s j, x0 (ix3 b s j) = a0 (ix3 n s j))
    (e1 : ∀ q i j, x1 (ix3 q i j) = BD a5 (ix3 q i j)) (j : Fin 4096) (s : ℕ) :
    (if h : s < 16 then ext (prod (rows arg2 harg2 arg15 x0) arg3 harg3 x1) (j.val / 512) (ix2 (⟨s + 20 * b.val, by omega⟩ : Fin 160) (⟨j.val % 512, by omega⟩ : Fin 512)) else 0)
      = Cert.ScanRef.ent a5 a0 n ⟨j.val / 64, by omega⟩ ⟨j.val % 64, by omega⟩ s := by
  unfold Cert.ScanRef.ent
  by_cases h : s < 16
  · rw [dif_pos h, dif_pos h]
    have hq : j.val / 512 < 8 := by omega
    rw [show ext (prod (rows arg2 harg2 arg15 x0) arg3 harg3 x1) (j.val / 512) = prod (rows arg2 harg2 arg15 x0) arg3 harg3 x1 (j.val / 512) hq from dif_pos hq]
    rw [prod_at]
    refine Eq.trans (b := ∑ i : Fin 128, (fun i : Fin 128 => a0 (ix3 n ⟨s, h⟩ ⟨128 * (j.val / 512) + i.val, by omega⟩)) i
      * ((fun i : Fin 128 => a5 (ix3 ⟨j.val / 512 * 8 + i.val / 16, by omega⟩ ⟨j.val % 512 % 64, by omega⟩ ⟨i.val % 16, by omega⟩)) i * (if i.val / 16 = j.val % 512 / 64 then 1 else 0))) ?_ ?_
    · refine Finset.sum_congr rfl fun i _ => congrArg₂ (· * ·) ?_ ?_
      · exact (rows_at arg2 harg2 arg15 x0 b ⟨s, h⟩ _).trans (e0 _ _)
      · exact (e1 _ _ _).trans (BD_at a5 _ _ _)
    · rw [sum_bd _ _ _ (by omega)]
      refine Finset.sum_congr rfl fun k _ => congrArg₂ (· * ·) (congrArg a5 ?_) (congrArg a0 ?_)
      · funext a
        match a with
        | 0 => exact Fin.ext (show j.val / 512 * 8 + (16 * (j.val % 512 / 64) + k.val) / 16 = j.val / 64 by omega)
        | 1 => exact Fin.ext (show j.val % 512 % 64 = j.val % 64 by omega)
        | 2 => exact Fin.ext (show (16 * (j.val % 512 / 64) + k.val) % 16 = k.val by omega)
      · funext a
        match a with
        | 0 => rfl
        | 1 => rfl
        | 2 => exact Fin.ext (show 128 * (j.val / 512) + (16 * (j.val % 512 / 64) + k.val) = 16 * (j.val / 64) + k.val by omega)
  · rw [dif_neg h, dif_neg h]

variable (m : (ℓ : Loc nD τ sig) → Buf (Elt Ideal) ℓ) (c : Dev nD)

/-- What a grid point writes, entry by entry: the reference's states. -/
theorem out_at (t : Fin cfg0.N) (b : Fin 8) (j : Fin 4096) :
    (((outsAt0 m c t).2.1 (ix2 b j), (outsAt0 m c t).2.2 (ix2 b j)) : EReal × EReal)
      = (Cert.ScanRef.RE (A0 m c) (A1 m c) (A2 m c) (A3 m c) (A4 m c) (A5 m c) (A6 m c) (ix2 ⟨t.val * 8 + b.val, by have := (idx t).2.2.2.2.2.2.2.2.2; omega⟩ j),
        Cert.ScanRef.IM (A0 m c) (A1 m c) (A2 m c) (A3 m c) (A4 m c) (A5 m c) (A6 m c) (ix2 ⟨t.val * 8 + b.val, by have := (idx t).2.2.2.2.2.2.2.2.2; omega⟩ j)) := by
  rw [Cert.ScanRef.RE_at]
  unfold outsAt0
  dsimp only
  rw [run_HR, run_HI]
  refine (chain_done _ _ _ _ _ _ _ _ _ _ _ _ _ _ _ _ _ _ _ _ _ _ _ _
    (fun b j => ((iblk m c 8 t : Vec Ideal S8x4096 .f32) (ix2 b j), (iblk m c 9 t : Vec Ideal S8x4096 .f32) (ix2 b j))) _ _ _ (fun b j => ?_) b j).trans ((if_pos j.isLt).trans ?_)
  · rw [if_neg (Nat.not_lt_zero _), init_at, init_at]
  · unfold val
    rw [b5_at, b6_at]
    refine congrFun (congr (congr (congrArg _ (funext fun s => ?_)) (funext fun s => ?_)) ?_) _
    · exact inp_at _ _ _ _ _ _ _ _ _ _ b (fun s j => b0_at m c t b s j) (fun q i j => b1_at m c t q i j) j s
    · exact inp_at _ _ _ _ _ _ _ _ _ _ b (fun s j => b0_at m c t b s j) (fun q i j => b2_at m c t q i j) j s
    · exact Prod.ext (b8_at m c t b j) (b9_at m c t b j)

/-- The real part of the states: the array after the run is the reference's. -/
theorem final11 : (dats m 0 c).arrAt 11 (cfgs 0).N = Cert.ScanRef.RE (A0 m c) (A1 m c) (A2 m c) (A3 m c) (A4 m c) (A5 m c) (A6 m c) := by
  refine (dats m 0 c).arrAt_eq_of_covers 11 _ (by decide +kernel) fun t hf y => ?_
  blk_simp
  rw [after0_11]
  obtain ⟨b, j, rfl⟩ : ∃ (b : Fin 8) (j : Fin 4096), y = ix2 b j := ⟨y 0, y 1, eq_ix2 y⟩
  have ht : t.val < 2 := (idx t).2.2.2.2.2.2.2.2.2
  have e : ((cfg0.win 11).blk t).view.emb (ix2 b j) = ix2 (⟨t.val * 8 + b.val, by omega⟩ : Fin 16) (j : Fin 4096) := by
    blk_ext [idx t]
  rw [e]
  exact congrArg Prod.fst (out_at m c t b j)

/-- The imaginary part of the states: the array after the run is the reference's. -/
theorem final12 : (dats m 0 c).arrAt 12 (cfgs 0).N = Cert.ScanRef.IM (A0 m c) (A1 m c) (A2 m c) (A3 m c) (A4 m c) (A5 m c) (A6 m c) := by
  refine (dats m 0 c).arrAt_eq_of_covers 12 _ (by decide +kernel) fun t hf y => ?_
  blk_simp
  rw [after0_12]
  obtain ⟨b, j, rfl⟩ : ∃ (b : Fin 8) (j : Fin 4096), y = ix2 b j := ⟨y 0, y 1, eq_ix2 y⟩
  have ht : t.val < 2 := (idx t).2.2.2.2.2.2.2.2.2
  have e : ((cfg0.win 12).blk t).view.emb (ix2 b j) = ix2 (⟨t.val * 8 + b.val, by omega⟩ : Fin 16) (j : Fin 4096) := by
    blk_ext [idx t]
  rw [e]
  exact congrArg Prod.snd (out_at m c t b j)

end Cert.Scan

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Ffn
public import proofs.«01_k».proof.Proof.Disc
public import proofs.«01_k».proof.Proof.Cast
public import proofs.«01_k».proof.Proof.First
public import proofs.«01_k».proof.Proof.SsdAlg
public import proofs.«01_k».proof.Proof.Out
public import proofs.«01_k».proof.Proof.Proj
public import proofs.«01_k».proof.Proof.ScanOut
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
/-- The reference of the first kernel runs and leaves its arguments. -/
theorem frame_ref : Cert.quiescent_ReferenceIdeal := by
  intro m ρ _
  exact θ_run_mono (Cert.ReferenceIdeal.Value.run m ρ) fun r h =>
    ⟨fun c => (h c).2.2.2, sem_eq_zero_of_no_sems (by decide) r.2⟩

set_option maxHeartbeats 1600000 in
/-- The reference of the second kernel runs and leaves its arguments. -/
theorem frame_ref2 : Cert.quiescent_Reference2Ideal := by
  intro m ρ _
  exact θ_run_mono (Cert.Reference2Ideal.Value.run m ρ) fun r h =>
    ⟨fun c => (h c).2, sem_eq_zero_of_no_sems (by decide) r.2⟩

set_option maxHeartbeats 1600000 in
/-- The second kernel computes the feed-forward block its reference computes. -/
theorem algebraic2 : Cert.algebraic_Kernel2Ideal_Reference2Ideal := by
  pair_intro
  · run_from Cert.Kernel2Ideal.Value.run_blocks m g
  · run_from Cert.Reference2Ideal.Value.run m' g'
    obtain ⟨h0, h1, h2, h3, h4, h5⟩ := hagree c
    refine (Cert.Ffn.ref_eq m' c).trans (Eq.trans ?_ (Cert.Ffn.final m c).symm)
    rw [h0, h1, h2, h3, h4, h5]

/-- The output projection computes its reference. -/
theorem algebraic3 : Cert.algebraic_Kernel3Ideal_Reference3Ideal := by
  pair_intro
  · run_from Cert.Kernel3Ideal.Value.run_blocks m g
  · run_from Cert.Reference3Ideal.Value.run m' g'
    obtain ⟨h0, h1, h2, h3, h4, h5, h6⟩ := hagree c
    refine (Cert.Out.ref_eq m' c).trans (Eq.trans ?_ (Cert.Out.final m c).symm)
    rw [h0, h1, h2, h3, h4, h5, h6]

/-- The input projection computes its reference. -/
theorem algebraic4 : Cert.algebraic_Kernel4Ideal_Reference4Ideal := by
  pair_intro
  · run_from Cert.Kernel4Ideal.Value.run_blocks m g
  · run_from Cert.Reference4Ideal.Value.run m' g'
    obtain ⟨h0, h1, h2⟩ := hagree c
    refine (Cert.Proj.ref_eq m' c).trans (Eq.trans ?_ (Cert.Proj.final m c).symm)
    rw [h0, h1, h2]

set_option maxHeartbeats 1600000 in
/-- The reference of the output projection runs and leaves its arguments. -/
theorem frame_ref3 : Cert.quiescent_Reference3Ideal := by
  intro m ρ _
  exact θ_run_mono (Cert.Reference3Ideal.Value.run m ρ) fun r h =>
    ⟨fun c => (h c).2, sem_eq_zero_of_no_sems (by decide) r.2⟩

set_option maxHeartbeats 1600000 in
/-- The reference of the input projection runs and leaves its arguments. -/
theorem frame_ref4 : Cert.quiescent_Reference4Ideal := by
  intro m ρ _
  exact θ_run_mono (Cert.Reference4Ideal.Value.run m ρ) fun r h =>
    ⟨fun c => (h c).2, sem_eq_zero_of_no_sems (by decide) r.2⟩

set_option maxHeartbeats 1600000 in
/-- The reference of the first feed-forward call runs and leaves its arguments. -/
theorem frame_ref5 : Cert.quiescent_Reference5Ideal := by
  intro m ρ _
  exact θ_run_mono (Cert.Reference5Ideal.Value.run m ρ) fun r h =>
    ⟨fun c => (h c).2, sem_eq_zero_of_no_sems (by decide) r.2⟩

/-- The reference of the discretisation runs and leaves its arguments. -/
theorem frame_ref6 : Cert.quiescent_Reference6Ideal := by
  intro m ρ _
  exact θ_run_mono (Cert.Reference6Ideal.Value.run m ρ) fun r h =>
    ⟨fun c => (h c).2.2.2.2, sem_eq_zero_of_no_sems (by decide) r.2⟩

set_option maxHeartbeats 1600000 in
/-- The first feed-forward call computes its reference. -/
theorem algebraic5 : Cert.algebraic_Kernel5Ideal_Reference5Ideal := by
  pair_intro
  · run_from Cert.Kernel5Ideal.Value.run_blocks m g
  · run_from Cert.Reference5Ideal.Value.run m' g'
    obtain ⟨h0, h1, h2, h3, h4⟩ := hagree c
    refine Eq.trans ?_ (Cert.FfnFirst.final m c).symm
    rw [← h0, ← h1, ← h2, ← h3, ← h4]
    unfold Cert.FfnFirst.REF
    rfl

/-- The side conditions of the rows compared. -/
theorem positions_facts : Cert.On_positions.Facts where
  bcast_S_S16x64x1024 := by decide
  bcast_S_S16x3x2048 := by decide
  bcast_S_S16x128x1024 := by decide

/-- A row compared is one of the sixteen tokens'. -/
theorem row_lt (t : Fin 64) (h : IntOp.cmpi CmpIPredicate.slt (BitVec.ofNat 32 t.val) 16#32 = 1#1) : t.val < 16 := by
  revert t
  decide +kernel

set_option maxHeartbeats 1600000 in
/-- The first kernel computes the scan its reference computes: the sixteen tokens' rows, the convolution's last rows and
    the new state. -/
theorem algebraic1 [hOn : Cert.On_positions.Facts] : Cert.algebraic_KernelIdeal_ReferenceIdeal_on_positions := by
  intro m g m' g' _ hagree
  refine ⟨fun c => Cert.SsdRef.yRef (StableHlo.launchContents m' c), fun c => Cert.SsdRef.convRef (StableHlo.launchContents m' c),
    fun c => Cert.SsdRef.stateRef (StableHlo.launchContents m' c), θ_run_mono (Cert.KernelIdeal.Value.run_blocks m g) fun r h c => ?_,
    θ_run_mono (Cert.ReferenceIdeal.Value.run m' g') fun r h c => ?_⟩
  · obtain ⟨h11, h12, h13, hargs⟩ := h c
    obtain ⟨a0, a1, a2, a3, a4, a5, a6, a7, a8⟩ := hagree c
    have H := fun b : Fin 16 => Cert.Ssd.agrees m m' c a0 a1 a2 a3 a4 a5 a6 a7 a8 (Cert.Ssd.pt b)
    refine ⟨fun i hi => ?_, fun i _ => ?_, fun i _ => ?_, hargs⟩
    · refine (congrFun h11 i).trans ((congrFun (Cert.Ssd.final11 m c) i).trans ?_)
      obtain ⟨b, t, o, rfl⟩ : ∃ (b : Fin 16) (t : Fin 64) (o : Fin 1024), i = ix3 b t o := ⟨_, _, _, eq_ix3 i⟩
      have ht : t.val < 16 := row_lt t hi
      exact (Cert.SsdRef.yRef_at (H b) t ht o).symm
    · refine (congrFun h12 i).trans ((congrFun (Cert.Ssd.final12 m c) i).trans ?_)
      obtain ⟨b, t, o, rfl⟩ : ∃ (b : Fin 16) (t : Fin 3) (o : Fin 2048), i = ix3 b t o := ⟨_, _, _, eq_ix3 i⟩
      exact (Cert.SsdRef.convRef_at (H b) t o).symm
    · refine (congrFun h13 i).trans ((congrFun (Cert.Ssd.final13 m c) i).trans ?_)
      obtain ⟨b, t, o, rfl⟩ : ∃ (b : Fin 16) (t : Fin 128) (o : Fin 1024), i = ix3 b t o := ⟨_, _, _, eq_ix3 i⟩
      exact (Cert.SsdRef.stateRef_at (H b) t o).symm
  · obtain ⟨h0, h1, h2, hargs⟩ := h c
    exact ⟨fun i _ => congrFun h0 i, fun i _ => congrFun h1 i, fun i _ => congrFun h2 i, hargs⟩

set_option maxHeartbeats 1600000 in
/-- The discretisation of the second recurrence computes its reference: the transition and the input matrix, real and
    imaginary parts. -/
theorem algebraic6 : Cert.algebraic_Kernel6Ideal_Reference6Ideal := by
  intro m g m' g' _ hagree
  refine ⟨fun c => Cert.DiscRef.LRE (Cert.Disc.A m c) (Cert.Disc.B m c) (Cert.Disc.S m c),
    fun c => Cert.DiscRef.LIM (Cert.Disc.A m c) (Cert.Disc.B m c) (Cert.Disc.S m c),
    fun c => Cert.DiscRef.BRE (Cert.Disc.A m c) (Cert.Disc.B m c) (Cert.Disc.S m c) (Cert.Disc.P m c) (Cert.Disc.Q m c),
    fun c => Cert.DiscRef.BIM (Cert.Disc.A m c) (Cert.Disc.B m c) (Cert.Disc.S m c) (Cert.Disc.P m c) (Cert.Disc.Q m c),
    θ_run_mono (Cert.Kernel6Ideal.Value.run_blocks m g) fun r h c => ?_,
    θ_run_mono (Cert.Reference6Ideal.Value.run m' g') fun r h c => ?_⟩
  · obtain ⟨h5, h6, h7, h8, hargs⟩ := h c
    exact ⟨h5.trans (Cert.Disc.final5 m c), h6.trans (Cert.Disc.final6 m c), h7.trans (Cert.Disc.final7 m c),
      h8.trans (Cert.Disc.final8 m c), hargs⟩
  · obtain ⟨h0, h1, h2, h3, hargs⟩ := h c
    obtain ⟨a0, a1, a2, a3, a4⟩ := hagree c
    refine ⟨h0.trans ?_, h1.trans ?_, (h2.trans (Cert.DiscRef.res2_eq m' c)).trans ?_,
      (h3.trans (Cert.DiscRef.res3_eq m' c)).trans ?_, hargs⟩
    · rw [a0, a1, a2]; rfl
    · rw [a0, a1, a2]; rfl
    · rw [a0, a1, a2, a3, a4]
    · rw [a0, a1, a2, a3, a4]

set_option maxHeartbeats 1600000 in
/-- The reference of the second recurrence's scan runs and leaves its arguments. -/
theorem frame_ref7 : Cert.quiescent_Reference7Ideal := by
  intro m ρ _
  exact θ_run_mono (Cert.Reference7Ideal.Value.run m ρ) fun r h =>
    ⟨fun c => (h c).2.2, sem_eq_zero_of_no_sems (by decide) r.2⟩

set_option maxHeartbeats 1600000 in
/-- The reference of the columns' padding and cast runs and leaves its arguments. -/
theorem frame_ref8 : Cert.quiescent_Reference8Ideal := by
  intro m ρ _
  exact θ_run_mono (Cert.Reference8Ideal.Value.run m ρ) fun r h =>
    ⟨fun c => (h c).2, sem_eq_zero_of_no_sems (by decide) r.2⟩

set_option maxHeartbeats 1600000 in
/-- The reference of the rows' padding and cast runs and leaves its arguments. -/
theorem frame_ref9 : Cert.quiescent_Reference9Ideal := by
  intro m ρ _
  exact θ_run_mono (Cert.Reference9Ideal.Value.run m ρ) fun r h =>
    ⟨fun c => (h c).2, sem_eq_zero_of_no_sems (by decide) r.2⟩

set_option maxHeartbeats 1600000 in
/-- The reference of the input projection's regrouping and cast runs and leaves its arguments. -/
theorem frame_ref10 : Cert.quiescent_Reference10Ideal := by
  intro m ρ _
  exact θ_run_mono (Cert.Reference10Ideal.Value.run m ρ) fun r h =>
    ⟨fun c => (h c).2, sem_eq_zero_of_no_sems (by decide) r.2⟩

set_option maxHeartbeats 1600000 in
/-- The second recurrence's call leaves its reference's states. -/
theorem algebraic7 : Cert.algebraic_Kernel7Ideal_Reference7Ideal := by
  intro m g m' g' _ hagree
  refine ⟨fun c => Cert.ScanRef.RE (Cert.Scan.A0 m c) (Cert.Scan.A1 m c) (Cert.Scan.A2 m c) (Cert.Scan.A3 m c) (Cert.Scan.A4 m c) (Cert.Scan.A5 m c) (Cert.Scan.A6 m c),
    fun c => Cert.ScanRef.IM (Cert.Scan.A0 m c) (Cert.Scan.A1 m c) (Cert.Scan.A2 m c) (Cert.Scan.A3 m c) (Cert.Scan.A4 m c) (Cert.Scan.A5 m c) (Cert.Scan.A6 m c),
    θ_run_mono (Cert.Kernel7Ideal.Value.run_blocks m g) fun r h c => ?_,
    θ_run_mono (Cert.Reference7Ideal.Value.run m' g') fun r h c => ?_⟩
  · obtain ⟨h10, h11, h12, hargs⟩ := h c
    exact ⟨h11.trans (Cert.Scan.final11 m c), h12.trans (Cert.Scan.final12 m c), hargs⟩
  · obtain ⟨h0, h1, hargs⟩ := h c
    obtain ⟨a0, a1, a2, a3, a4, a5, a6, _⟩ := hagree c
    refine ⟨(h0.trans (Cert.ScanRef.re_eq m' c)).trans ?_, (h1.trans (Cert.ScanRef.im_eq m' c)).trans ?_, hargs⟩
    · rw [a0, a1, a2, a3, a4, a5, a6]
    · rw [a0, a1, a2, a3, a4, a5, a6]

/-- The call that pads a weight's columns and casts it computes its reference. -/
theorem algebraic8 : Cert.algebraic_Kernel8Ideal_Reference8Ideal := by
  pair_intro
  · run_from Cert.Kernel8Ideal.Value.run_blocks m g
  · run_from Cert.Reference8Ideal.Value.run m' g'
    refine Eq.trans ?_ (Cert.Cast8.final m c).symm
    rfl

/-- The call that pads a weight's rows and casts it computes its reference. -/
theorem algebraic9 : Cert.algebraic_Kernel9Ideal_Reference9Ideal := by
  pair_intro
  · run_from Cert.Kernel9Ideal.Value.run_blocks m g
  · run_from Cert.Reference9Ideal.Value.run m' g'
    refine Eq.trans ?_ (Cert.Cast9.final m c).symm
    rfl

/-- The call that regroups the input projection's columns and casts them computes its reference. -/
theorem algebraic10 : Cert.algebraic_Kernel10Ideal_Reference10Ideal := by
  pair_intro
  · run_from Cert.Kernel10Ideal.Value.run_blocks m g
  · run_from Cert.Reference10Ideal.Value.run m' g'
    refine Eq.trans ?_ (Cert.Cast10.final m c).symm
    rw [show Cert.Cast10.A m c = _ from (hagree c).symm]
    rfl

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, positions_facts,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  trivial, algebraic1 (hOn := positions_facts), trivial, algebraic2, trivial, algebraic3, trivial, algebraic4, trivial, algebraic5,
  trivial, algebraic6, trivial, algebraic7, trivial, algebraic8, trivial, algebraic9, trivial, algebraic10⟩

end Cert.Proof

end
